-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_Up1 (m : (ℓ : Loc Cert.Up1.nD Cert.Up1.τ Cert.Up1.sig) → Buf (Elt Bits) ℓ) : Prop :=
  True

def Pre_Up1Ideal (m : (ℓ : Loc Cert.Up1Ideal.nD Cert.Up1Ideal.τ Cert.Up1Ideal.sig) → Buf (Elt Ideal) ℓ) : Prop :=
  True

def Pre_Up1RefIdeal (m : (ℓ : Loc Cert.Up1RefIdeal.nD Cert.Up1RefIdeal.τ Cert.Up1RefIdeal.sig) → Buf (Elt Ideal) ℓ) : Prop :=
  True

def Pre_Down1 (m : (ℓ : Loc Cert.Down1.nD Cert.Down1.τ Cert.Down1.sig) → Buf (Elt Bits) ℓ) : Prop :=
  True

def Pre_Down1Ideal (m : (ℓ : Loc Cert.Down1Ideal.nD Cert.Down1Ideal.τ Cert.Down1Ideal.sig) → Buf (Elt Ideal) ℓ) : Prop :=
  True

def Pre_Down1RefIdeal (m : (ℓ : Loc Cert.Down1RefIdeal.nD Cert.Down1RefIdeal.τ Cert.Down1RefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Act1 (m : (ℓ : Loc Cert.Act1.nD Cert.Act1.τ Cert.Act1.sig) → Buf (Elt Bits) ℓ) : Prop :=
  True

def Pre_Act1Ideal (m : (ℓ : Loc Cert.Act1Ideal.nD Cert.Act1Ideal.τ Cert.Act1Ideal.sig) → Buf (Elt Ideal) ℓ) : Prop :=
  True

def Pre_Act1Ideal_finite3 [hPre_finite3 : Cert.Pre_finite3.Facts] (m : (ℓ : Loc Cert.Act1Ideal.nD Cert.Act1Ideal.τ Cert.Act1Ideal.sig) → Buf (Elt Ideal) ℓ) : Prop :=
  ∀ c : Dev Cert.Act1Ideal.nD,
    (Cert.Pre_finite3.fn (F := Ideal) (m ((c.tc : Thread Cert.Act1Ideal.nD Cert.Act1Ideal.τ).loc Cert.Act1Ideal.main_arg0)) (m ((c.tc : Thread Cert.Act1Ideal.nD Cert.Act1Ideal.τ).loc Cert.Act1Ideal.main_arg1)) (m ((c.tc : Thread Cert.Act1Ideal.nD Cert.Act1Ideal.τ).loc Cert.Act1Ideal.main_arg2))) = (fun _ => 1#1)

def Pre_Act1RefIdeal (m : (ℓ : Loc Cert.Act1RefIdeal.nD Cert.Act1RefIdeal.τ Cert.Act1RefIdeal.sig) → Buf (Elt Ideal) ℓ) : Prop :=
  True

def Pre_Act1RefIdeal_finite3 [hPre_finite3 : Cert.Pre_finite3.Facts] (m : (ℓ : Loc Cert.Act1RefIdeal.nD Cert.Act1RefIdeal.τ Cert.Act1RefIdeal.sig) → Buf (Elt Ideal) ℓ) : Prop :=
  ∀ c : Dev Cert.Act1RefIdeal.nD,
    (Cert.Pre_finite3.fn (F := Ideal) (m ((c.tc : Thread Cert.Act1RefIdeal.nD Cert.Act1RefIdeal.τ).loc Cert.Act1RefIdeal.main_arg0)) (m ((c.tc : Thread Cert.Act1RefIdeal.nD Cert.Act1RefIdeal.τ).loc Cert.Act1RefIdeal.main_arg1)) (m ((c.tc : Thread Cert.Act1RefIdeal.nD Cert.Act1RefIdeal.τ).loc Cert.Act1RefIdeal.main_arg2))) = (fun _ => 1#1)

def Pre_In1 (m : (ℓ : Loc Cert.In1.nD Cert.In1.τ Cert.In1.sig) → Buf (Elt Bits) ℓ) : Prop :=
  True

def Pre_In1Ideal (m : (ℓ : Loc Cert.In1Ideal.nD Cert.In1Ideal.τ Cert.In1Ideal.sig) → Buf (Elt Ideal) ℓ) : Prop :=
  True

def Pre_In1Ideal_finite5 [hPre_finite5 : Cert.Pre_finite5.Facts] (m : (ℓ : Loc Cert.In1Ideal.nD Cert.In1Ideal.τ Cert.In1Ideal.sig) → Buf (Elt Ideal) ℓ) : Prop :=
  ∀ c : Dev Cert.In1Ideal.nD,
    (Cert.Pre_finite5.fn (F := Ideal) (m ((c.tc : Thread Cert.In1Ideal.nD Cert.In1Ideal.τ).loc Cert.In1Ideal.main_arg0)) (m ((c.tc : Thread Cert.In1Ideal.nD Cert.In1Ideal.τ).loc Cert.In1Ideal.main_arg1)) (m ((c.tc : Thread Cert.In1Ideal.nD Cert.In1Ideal.τ).loc Cert.In1Ideal.main_arg2)) (m ((c.tc : Thread Cert.In1Ideal.nD Cert.In1Ideal.τ).loc Cert.In1Ideal.main_arg3)) (m ((c.tc : Thread Cert.In1Ideal.nD Cert.In1Ideal.τ).loc Cert.In1Ideal.main_arg4))) = (fun _ => 1#1)

def Pre_In1RefIdeal (m : (ℓ : Loc Cert.In1RefIdeal.nD Cert.In1RefIdeal.τ Cert.In1RefIdeal.sig) → Buf (Elt Ideal) ℓ) : Prop :=
  True

def Pre_In1RefIdeal_finite5 [hPre_finite5 : Cert.Pre_finite5.Facts] (m : (ℓ : Loc Cert.In1RefIdeal.nD Cert.In1RefIdeal.τ Cert.In1RefIdeal.sig) → Buf (Elt Ideal) ℓ) : Prop :=
  ∀ c : Dev Cert.In1RefIdeal.nD,
    (Cert.Pre_finite5.fn (F := Ideal) (m ((c.tc : Thread Cert.In1RefIdeal.nD Cert.In1RefIdeal.τ).loc Cert.In1RefIdeal.main_arg0)) (m ((c.tc : Thread Cert.In1RefIdeal.nD Cert.In1RefIdeal.τ).loc Cert.In1RefIdeal.main_arg1)) (m ((c.tc : Thread Cert.In1RefIdeal.nD Cert.In1RefIdeal.τ).loc Cert.In1RefIdeal.main_arg2)) (m ((c.tc : Thread Cert.In1RefIdeal.nD Cert.In1RefIdeal.τ).loc Cert.In1RefIdeal.main_arg3)) (m ((c.tc : Thread Cert.In1RefIdeal.nD Cert.In1RefIdeal.τ).loc Cert.In1RefIdeal.main_arg4))) = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastIdeal_finite6 [hPre_finite6 : Cert.Pre_finite6.Facts] (m : (ℓ : Loc Cert.LastIdeal.nD Cert.LastIdeal.τ Cert.LastIdeal.sig) → Buf (Elt Ideal) ℓ) : Prop :=
  ∀ c : Dev Cert.LastIdeal.nD,
    (Cert.Pre_finite6.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5))) = (fun _ => 1#1)

def Pre_LastRefIdeal (m : (ℓ : Loc Cert.LastRefIdeal.nD Cert.LastRefIdeal.τ Cert.LastRefIdeal.sig) → Buf (Elt Ideal) ℓ) : Prop :=
  True

def Pre_LastRefIdeal_finite6 [hPre_finite6 : Cert.Pre_finite6.Facts] (m : (ℓ : Loc Cert.LastRefIdeal.nD Cert.LastRefIdeal.τ Cert.LastRefIdeal.sig) → Buf (Elt Ideal) ℓ) : Prop :=
  ∀ c : Dev Cert.LastRefIdeal.nD,
    (Cert.Pre_finite6.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3))
      ∧ r.2.sem = fun _ => 0)

def quiescent_Up1 [hUp1 : Cert.Up1.Facts] : Prop :=
  ∀ (m : (ℓ : Loc Cert.Up1.nD Cert.Up1.τ Cert.Up1.sig) → Buf (Elt Bits) ℓ) (g : Dev Cert.Up1.nD → PrngReg), Pre_Up1 m →
    θ_run (Cert.Up1.defs (F := Bits)) (onTc (τ := Cert.Up1.τ) (Cert.Up1.main (F := Bits))) ⟨m, fun _ => 0, g⟩ (fun r => (∀ c : Dev Cert.Up1.nD,
      r.2.mem ((c.tc : Thread Cert.Up1.nD Cert.Up1.τ).loc Cert.Up1.main_arg0) = m ((c.tc : Thread Cert.Up1.nD Cert.Up1.τ).loc Cert.Up1.main_arg0)
      ∧ r.2.mem ((c.tc : Thread Cert.Up1.nD Cert.Up1.τ).loc Cert.Up1.main_arg1) = m ((c.tc : Thread Cert.Up1.nD Cert.Up1.τ).loc Cert.Up1.main_arg1))
      ∧ r.2.sem = fun _ => 0)

def quiescent_Up1Ideal [hUp1Ideal : Cert.Up1Ideal.Facts] : Prop :=
  ∀ (m : (ℓ : Loc Cert.Up1Ideal.nD Cert.Up1Ideal.τ Cert.Up1Ideal.sig) → Buf (Elt Ideal) ℓ) (g : Dev Cert.Up1Ideal.nD → PrngReg), Pre_Up1Ideal m →
    θ_run (Cert.Up1Ideal.defs (F := Ideal)) (onTc (τ := Cert.Up1Ideal.τ) (Cert.Up1Ideal.main (F := Ideal))) ⟨m, fun _ => 0, g⟩ (fun r => (∀ c : Dev Cert.Up1Ideal.nD,
      r.2.mem ((c.tc : Thread Cert.Up1Ideal.nD Cert.Up1Ideal.τ).loc Cert.Up1Ideal.main_arg0) = m ((c.tc : Thread Cert.Up1Ideal.nD Cert.Up1Ideal.τ).loc Cert.Up1Ideal.main_arg0)
      ∧ r.2.mem ((c.tc : Thread Cert.Up1Ideal.nD Cert.Up1Ideal.τ).loc Cert.Up1Ideal.main_arg1) = m ((c.tc : Thread Cert.Up1Ideal.nD Cert.Up1Ideal.τ).loc Cert.Up1Ideal.main_arg1))
      ∧ r.2.sem = fun _ => 0)

def quiescent_Up1RefIdeal [hUp1RefIdeal : Cert.Up1RefIdeal.Facts] : Prop :=
  ∀ (m : (ℓ : Loc Cert.Up1RefIdeal.nD Cert.Up1RefIdeal.τ Cert.Up1RefIdeal.sig) → Buf (Elt Ideal) ℓ) (g : Dev Cert.Up1RefIdeal.nD → PrngReg), Pre_Up1RefIdeal m →
    θ_run (Cert.Up1RefIdeal.defs (F := Ideal)) (onTc (τ := Cert.Up1RefIdeal.τ) (Cert.Up1RefIdeal.main (F := Ideal))) ⟨m, fun _ => 0, g⟩ (fun r => (∀ c : Dev Cert.Up1RefIdeal.nD,
      r.2.mem ((c.tc : Thread Cert.Up1RefIdeal.nD Cert.Up1RefIdeal.τ).loc Cert.Up1RefIdeal.main_arg0) = m ((c.tc : Thread Cert.Up1RefIdeal.nD Cert.Up1RefIdeal.τ).loc Cert.Up1RefIdeal.main_arg0)
      ∧ r.2.mem ((c.tc : Thread Cert.Up1RefIdeal.nD Cert.Up1RefIdeal.τ).loc Cert.Up1RefIdeal.main_arg1) = m ((c.tc : Thread Cert.Up1RefIdeal.nD Cert.Up1RefIdeal.τ).loc Cert.Up1RefIdeal.main_arg1))
      ∧ r.2.sem = fun _ => 0)

def quiescent_Down1 [hDown1 : Cert.Down1.Facts] : Prop :=
  ∀ (m : (ℓ : Loc Cert.Down1.nD Cert.Down1.τ Cert.Down1.sig) → Buf (Elt Bits) ℓ) (g : Dev Cert.Down1.nD → PrngReg), Pre_Down1 m →
    θ_run (Cert.Down1.defs (F := Bits)) (onTc (τ := Cert.Down1.τ) (Cert.Down1.main (F := Bits))) ⟨m, fun _ => 0, g⟩ (fun r => (∀ c : Dev Cert.Down1.nD,
      r.2.mem ((c.tc : Thread Cert.Down1.nD Cert.Down1.τ).loc Cert.Down1.main_arg0) = m ((c.tc : Thread Cert.Down1.nD Cert.Down1.τ).loc Cert.Down1.main_arg0)
      ∧ r.2.mem ((c.tc : Thread Cert.Down1.nD Cert.Down1.τ).loc Cert.Down1.main_arg1) = m ((c.tc : Thread Cert.Down1.nD Cert.Down1.τ).loc Cert.Down1.main_arg1))
      ∧ r.2.sem = fun _ => 0)

def quiescent_Down1Ideal [hDown1Ideal : Cert.Down1Ideal.Facts] : Prop :=
  ∀ (m : (ℓ : Loc Cert.Down1Ideal.nD Cert.Down1Ideal.τ Cert.Down1Ideal.sig) → Buf (Elt Ideal) ℓ) (g : Dev Cert.Down1Ideal.nD → PrngReg), Pre_Down1Ideal m →
    θ_run (Cert.Down1Ideal.defs (F := Ideal)) (onTc (τ := Cert.Down1Ideal.τ) (Cert.Down1Ideal.main (F := Ideal))) ⟨m, fun _ => 0, g⟩ (fun r => (∀ c : Dev Cert.Down1Ideal.nD,
      r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
      ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1))
      ∧ r.2.sem = fun _ => 0)

def quiescent_Down1RefIdeal [hDown1RefIdeal : Cert.Down1RefIdeal.Facts] : Prop :=
  ∀ (m : (ℓ : Loc Cert.Down1RefIdeal.nD Cert.Down1RefIdeal.τ Cert.Down1RefIdeal.sig) → Buf (Elt Ideal) ℓ) (g : Dev Cert.Down1RefIdeal.nD → PrngReg), Pre_Down1RefIdeal m →
    θ_run (Cert.Down1RefIdeal.defs (F := Ideal)) (onTc (τ := Cert.Down1RefIdeal.τ) (Cert.Down1RefIdeal.main (F := Ideal))) ⟨m, fun _ => 0, g⟩ (fun r => (∀ c : Dev Cert.Down1RefIdeal.nD,
      r.2.mem ((c.tc : Thread Cert.Down1RefIdeal.nD Cert.Down1RefIdeal.τ).loc Cert.Down1RefIdeal.main_arg0) = m ((c.tc : Thread Cert.Down1RefIdeal.nD Cert.Down1RefIdeal.τ).loc Cert.Down1RefIdeal.main_arg0)
      ∧ r.2.mem ((c.tc : Thread Cert.Down1RefIdeal.nD Cert.Down1RefIdeal.τ).loc Cert.Down1RefIdeal.main_arg1) = m ((c.tc : Thread Cert.Down1RefIdeal.nD Cert.Down1RefIdeal.τ).loc Cert.Down1RefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4)
      ∧ r.2.mem ((c.tc : Thread Cert.Branch.nD Cert.Branch.τ).loc Cert.Branch.main_arg5) = m ((c.tc : Thread Cert.Branch.nD Cert.Branch.τ).loc Cert.Branch.main_arg5)
      ∧ r.2.mem ((c.tc : Thread Cert.Branch.nD Cert.Branch.τ).loc Cert.Branch.main_arg6) = m ((c.tc : Thread Cert.Branch.nD Cert.Branch.τ).loc Cert.Branch.main_arg6)
      ∧ r.2.mem ((c.tc : Thread Cert.Branch.nD Cert.Branch.τ).loc Cert.Branch.main_arg7) = m ((c.tc : Thread Cert.Branch.nD Cert.Branch.τ).loc Cert.Branch.main_arg7))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
      ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6)
      ∧ r.2.mem ((c.tc : Thread Cert.BranchIdeal.nD Cert.BranchIdeal.τ).loc Cert.BranchIdeal.main_arg7) = m ((c.tc : Thread Cert.BranchIdeal.nD Cert.BranchIdeal.τ).loc Cert.BranchIdeal.main_arg7))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4)
      ∧ r.2.mem ((c.tc : Thread Cert.BranchRefIdeal.nD Cert.BranchRefIdeal.τ).loc Cert.BranchRefIdeal.main_arg5) = m ((c.tc : Thread Cert.BranchRefIdeal.nD Cert.BranchRefIdeal.τ).loc Cert.BranchRefIdeal.main_arg5)
      ∧ r.2.mem ((c.tc : Thread Cert.BranchRefIdeal.nD Cert.BranchRefIdeal.τ).loc Cert.BranchRefIdeal.main_arg6) = m ((c.tc : Thread Cert.BranchRefIdeal.nD Cert.BranchRefIdeal.τ).loc Cert.BranchRefIdeal.main_arg6)
      ∧ r.2.mem ((c.tc : Thread Cert.BranchRefIdeal.nD Cert.BranchRefIdeal.τ).loc Cert.BranchRefIdeal.main_arg7) = m ((c.tc : Thread Cert.BranchRefIdeal.nD Cert.BranchRefIdeal.τ).loc Cert.BranchRefIdeal.main_arg7))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3))
      ∧ r.2.sem = fun _ => 0)

def quiescent_Act1 [hAct1 : Cert.Act1.Facts] : Prop :=
  ∀ (m : (ℓ : Loc Cert.Act1.nD Cert.Act1.τ Cert.Act1.sig) → Buf (Elt Bits) ℓ) (g : Dev Cert.Act1.nD → PrngReg), Pre_Act1 m →
    θ_run (Cert.Act1.defs (F := Bits)) (onTc (τ := Cert.Act1.τ) (Cert.Act1.main (F := Bits))) ⟨m, fun _ => 0, g⟩ (fun r => (∀ c : Dev Cert.Act1.nD,
      r.2.mem ((c.tc : Thread Cert.Act1.nD Cert.Act1.τ).loc Cert.Act1.main_arg0) = m ((c.tc : Thread Cert.Act1.nD Cert.Act1.τ).loc Cert.Act1.main_arg0)
      ∧ r.2.mem ((c.tc : Thread Cert.Act1.nD Cert.Act1.τ).loc Cert.Act1.main_arg1) = m ((c.tc : Thread Cert.Act1.nD Cert.Act1.τ).loc Cert.Act1.main_arg1)
      ∧ r.2.mem ((c.tc : Thread Cert.Act1.nD Cert.Act1.τ).loc Cert.Act1.main_arg2) = m ((c.tc : Thread Cert.Act1.nD Cert.Act1.τ).loc Cert.Act1.main_arg2))
      ∧ r.2.sem = fun _ => 0)

def quiescent_Act1Ideal [hAct1Ideal : Cert.Act1Ideal.Facts] : Prop :=
  ∀ (m : (ℓ : Loc Cert.Act1Ideal.nD Cert.Act1Ideal.τ Cert.Act1Ideal.sig) → Buf (Elt Ideal) ℓ) (g : Dev Cert.Act1Ideal.nD → PrngReg), Pre_Act1Ideal m →
    θ_run (Cert.Act1Ideal.defs (F := Ideal)) (onTc (τ := Cert.Act1Ideal.τ) (Cert.Act1Ideal.main (F := Ideal))) ⟨m, fun _ => 0, g⟩ (fun r => (∀ c : Dev Cert.Act1Ideal.nD,
      r.2.mem ((c.tc : Thread Cert.Act1Ideal.nD Cert.Act1Ideal.τ).loc Cert.Act1Ideal.main_arg0) = m ((c.tc : Thread Cert.Act1Ideal.nD Cert.Act1Ideal.τ).loc Cert.Act1Ideal.main_arg0)
      ∧ r.2.mem ((c.tc : Thread Cert.Act1Ideal.nD Cert.Act1Ideal.τ).loc Cert.Act1Ideal.main_arg1) = m ((c.tc : Thread Cert.Act1Ideal.nD Cert.Act1Ideal.τ).loc Cert.Act1Ideal.main_arg1)
      ∧ r.2.mem ((c.tc : Thread Cert.Act1Ideal.nD Cert.Act1Ideal.τ).loc Cert.Act1Ideal.main_arg2) = m ((c.tc : Thread Cert.Act1Ideal.nD Cert.Act1Ideal.τ).loc Cert.Act1Ideal.main_arg2))
      ∧ r.2.sem = fun _ => 0)

def quiescent_Act1Ideal_pre_finite3 [hAct1Ideal : Cert.Act1Ideal.Facts] [hPre_finite3 : Cert.Pre_finite3.Facts] : Prop :=
  ∀ (m : (ℓ : Loc Cert.Act1Ideal.nD Cert.Act1Ideal.τ Cert.Act1Ideal.sig) → Buf (Elt Ideal) ℓ) (g : Dev Cert.Act1Ideal.nD → PrngReg), Pre_Act1Ideal_finite3 m →
    θ_run (Cert.Act1Ideal.defs (F := Ideal)) (onTc (τ := Cert.Act1Ideal.τ) (Cert.Act1Ideal.main (F := Ideal))) ⟨m, fun _ => 0, g⟩ (fun r => (∀ c : Dev Cert.Act1Ideal.nD,
      r.2.mem ((c.tc : Thread Cert.Act1Ideal.nD Cert.Act1Ideal.τ).loc Cert.Act1Ideal.main_arg0) = m ((c.tc : Thread Cert.Act1Ideal.nD Cert.Act1Ideal.τ).loc Cert.Act1Ideal.main_arg0)
      ∧ r.2.mem ((c.tc : Thread Cert.Act1Ideal.nD Cert.Act1Ideal.τ).loc Cert.Act1Ideal.main_arg1) = m ((c.tc : Thread Cert.Act1Ideal.nD Cert.Act1Ideal.τ).loc Cert.Act1Ideal.main_arg1)
      ∧ r.2.mem ((c.tc : Thread Cert.Act1Ideal.nD Cert.Act1Ideal.τ).loc Cert.Act1Ideal.main_arg2) = m ((c.tc : Thread Cert.Act1Ideal.nD Cert.Act1Ideal.τ).loc Cert.Act1Ideal.main_arg2))
      ∧ r.2.sem = fun _ => 0)

def quiescent_Act1RefIdeal [hAct1RefIdeal : Cert.Act1RefIdeal.Facts] : Prop :=
  ∀ (m : (ℓ : Loc Cert.Act1RefIdeal.nD Cert.Act1RefIdeal.τ Cert.Act1RefIdeal.sig) → Buf (Elt Ideal) ℓ) (g : Dev Cert.Act1RefIdeal.nD → PrngReg), Pre_Act1RefIdeal m →
    θ_run (Cert.Act1RefIdeal.defs (F := Ideal)) (onTc (τ := Cert.Act1RefIdeal.τ) (Cert.Act1RefIdeal.main (F := Ideal))) ⟨m, fun _ => 0, g⟩ (fun r => (∀ c : Dev Cert.Act1RefIdeal.nD,
      r.2.mem ((c.tc : Thread Cert.Act1RefIdeal.nD Cert.Act1RefIdeal.τ).loc Cert.Act1RefIdeal.main_arg0) = m ((c.tc : Thread Cert.Act1RefIdeal.nD Cert.Act1RefIdeal.τ).loc Cert.Act1RefIdeal.main_arg0)
      ∧ r.2.mem ((c.tc : Thread Cert.Act1RefIdeal.nD Cert.Act1RefIdeal.τ).loc Cert.Act1RefIdeal.main_arg1) = m ((c.tc : Thread Cert.Act1RefIdeal.nD Cert.Act1RefIdeal.τ).loc Cert.Act1RefIdeal.main_arg1)
      ∧ r.2.mem ((c.tc : Thread Cert.Act1RefIdeal.nD Cert.Act1RefIdeal.τ).loc Cert.Act1RefIdeal.main_arg2) = m ((c.tc : Thread Cert.Act1RefIdeal.nD Cert.Act1RefIdeal.τ).loc Cert.Act1RefIdeal.main_arg2))
      ∧ r.2.sem = fun _ => 0)

def quiescent_Act1RefIdeal_pre_finite3 [hAct1RefIdeal : Cert.Act1RefIdeal.Facts] [hPre_finite3 : Cert.Pre_finite3.Facts] : Prop :=
  ∀ (m : (ℓ : Loc Cert.Act1RefIdeal.nD Cert.Act1RefIdeal.τ Cert.Act1RefIdeal.sig) → Buf (Elt Ideal) ℓ) (g : Dev Cert.Act1RefIdeal.nD → PrngReg), Pre_Act1RefIdeal_finite3 m →
    θ_run (Cert.Act1RefIdeal.defs (F := Ideal)) (onTc (τ := Cert.Act1RefIdeal.τ) (Cert.Act1RefIdeal.main (F := Ideal))) ⟨m, fun _ => 0, g⟩ (fun r => (∀ c : Dev Cert.Act1RefIdeal.nD,
      r.2.mem ((c.tc : Thread Cert.Act1RefIdeal.nD Cert.Act1RefIdeal.τ).loc Cert.Act1RefIdeal.main_arg0) = m ((c.tc : Thread Cert.Act1RefIdeal.nD Cert.Act1RefIdeal.τ).loc Cert.Act1RefIdeal.main_arg0)
      ∧ r.2.mem ((c.tc : Thread Cert.Act1RefIdeal.nD Cert.Act1RefIdeal.τ).loc Cert.Act1RefIdeal.main_arg1) = m ((c.tc : Thread Cert.Act1RefIdeal.nD Cert.Act1RefIdeal.τ).loc Cert.Act1RefIdeal.main_arg1)
      ∧ r.2.mem ((c.tc : Thread Cert.Act1RefIdeal.nD Cert.Act1RefIdeal.τ).loc Cert.Act1RefIdeal.main_arg2) = m ((c.tc : Thread Cert.Act1RefIdeal.nD Cert.Act1RefIdeal.τ).loc Cert.Act1RefIdeal.main_arg2))
      ∧ r.2.sem = fun _ => 0)

def quiescent_In1 [hIn1 : Cert.In1.Facts] : Prop :=
  ∀ (m : (ℓ : Loc Cert.In1.nD Cert.In1.τ Cert.In1.sig) → Buf (Elt Bits) ℓ) (g : Dev Cert.In1.nD → PrngReg), Pre_In1 m →
    θ_run (Cert.In1.defs (F := Bits)) (onTc (τ := Cert.In1.τ) (Cert.In1.main (F := Bits))) ⟨m, fun _ => 0, g⟩ (fun r => (∀ c : Dev Cert.In1.nD,
      r.2.mem ((c.tc : Thread Cert.In1.nD Cert.In1.τ).loc Cert.In1.main_arg0) = m ((c.tc : Thread Cert.In1.nD Cert.In1.τ).loc Cert.In1.main_arg0)
      ∧ r.2.mem ((c.tc : Thread Cert.In1.nD Cert.In1.τ).loc Cert.In1.main_arg1) = m ((c.tc : Thread Cert.In1.nD Cert.In1.τ).loc Cert.In1.main_arg1)
      ∧ r.2.mem ((c.tc : Thread Cert.In1.nD Cert.In1.τ).loc Cert.In1.main_arg2) = m ((c.tc : Thread Cert.In1.nD Cert.In1.τ).loc Cert.In1.main_arg2)
      ∧ r.2.mem ((c.tc : Thread Cert.In1.nD Cert.In1.τ).loc Cert.In1.main_arg3) = m ((c.tc : Thread Cert.In1.nD Cert.In1.τ).loc Cert.In1.main_arg3)
      ∧ r.2.mem ((c.tc : Thread Cert.In1.nD Cert.In1.τ).loc Cert.In1.main_arg4) = m ((c.tc : Thread Cert.In1.nD Cert.In1.τ).loc Cert.In1.main_arg4))
      ∧ r.2.sem = fun _ => 0)

def quiescent_In1Ideal [hIn1Ideal : Cert.In1Ideal.Facts] : Prop :=
  ∀ (m : (ℓ : Loc Cert.In1Ideal.nD Cert.In1Ideal.τ Cert.In1Ideal.sig) → Buf (Elt Ideal) ℓ) (g : Dev Cert.In1Ideal.nD → PrngReg), Pre_In1Ideal m →
    θ_run (Cert.In1Ideal.defs (F := Ideal)) (onTc (τ := Cert.In1Ideal.τ) (Cert.In1Ideal.main (F := Ideal))) ⟨m, fun _ => 0, g⟩ (fun r => (∀ c : Dev Cert.In1Ideal.nD,
      r.2.mem ((c.tc : Thread Cert.In1Ideal.nD Cert.In1Ideal.τ).loc Cert.In1Ideal.main_arg0) = m ((c.tc : Thread Cert.In1Ideal.nD Cert.In1Ideal.τ).loc Cert.In1Ideal.main_arg0)
      ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
      ∧ r.2.mem ((c.tc : Thread Cert.In1Ideal.nD Cert.In1Ideal.τ).loc Cert.In1Ideal.main_arg2) = m ((c.tc : Thread Cert.In1Ideal.nD Cert.In1Ideal.τ).loc Cert.In1Ideal.main_arg2)
      ∧ r.2.mem ((c.tc : Thread Cert.In1Ideal.nD Cert.In1Ideal.τ).loc Cert.In1Ideal.main_arg3) = m ((c.tc : Thread Cert.In1Ideal.nD Cert.In1Ideal.τ).loc Cert.In1Ideal.main_arg3)
      ∧ r.2.mem ((c.tc : Thread Cert.In1Ideal.nD Cert.In1Ideal.τ).loc Cert.In1Ideal.main_arg4) = m ((c.tc : Thread Cert.In1Ideal.nD Cert.In1Ideal.τ).loc Cert.In1Ideal.main_arg4))
      ∧ r.2.sem = fun _ => 0)

def quiescent_In1Ideal_pre_finite5 [hIn1Ideal : Cert.In1Ideal.Facts] [hPre_finite5 : Cert.Pre_finite5.Facts] : Prop :=
  ∀ (m : (ℓ : Loc Cert.In1Ideal.nD Cert.In1Ideal.τ Cert.In1Ideal.sig) → Buf (Elt Ideal) ℓ) (g : Dev Cert.In1Ideal.nD → PrngReg), Pre_In1Ideal_finite5 m →
    θ_run (Cert.In1Ideal.defs (F := Ideal)) (onTc (τ := Cert.In1Ideal.τ) (Cert.In1Ideal.main (F := Ideal))) ⟨m, fun _ => 0, g⟩ (fun r => (∀ c : Dev Cert.In1Ideal.nD,
      r.2.mem ((c.tc : Thread Cert.In1Ideal.nD Cert.In1Ideal.τ).loc Cert.In1Ideal.main_arg0) = m ((c.tc : Thread Cert.In1Ideal.nD Cert.In1Ideal.τ).loc Cert.In1Ideal.main_arg0)
      ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
      ∧ r.2.mem ((c.tc : Thread Cert.In1Ideal.nD Cert.In1Ideal.τ).loc Cert.In1Ideal.main_arg2) = m ((c.tc : Thread Cert.In1Ideal.nD Cert.In1Ideal.τ).loc Cert.In1Ideal.main_arg2)
      ∧ r.2.mem ((c.tc : Thread Cert.In1Ideal.nD Cert.In1Ideal.τ).loc Cert.In1Ideal.main_arg3) = m ((c.tc : Thread Cert.In1Ideal.nD Cert.In1Ideal.τ).loc Cert.In1Ideal.main_arg3)
      ∧ r.2.mem ((c.tc : Thread Cert.In1Ideal.nD Cert.In1Ideal.τ).loc Cert.In1Ideal.main_arg4) = m ((c.tc : Thread Cert.In1Ideal.nD Cert.In1Ideal.τ).loc Cert.In1Ideal.main_arg4))
      ∧ r.2.sem = fun _ => 0)

def quiescent_In1RefIdeal [hIn1RefIdeal : Cert.In1RefIdeal.Facts] : Prop :=
  ∀ (m : (ℓ : Loc Cert.In1RefIdeal.nD Cert.In1RefIdeal.τ Cert.In1RefIdeal.sig) → Buf (Elt Ideal) ℓ) (g : Dev Cert.In1RefIdeal.nD → PrngReg), Pre_In1RefIdeal m →
    θ_run (Cert.In1RefIdeal.defs (F := Ideal)) (onTc (τ := Cert.In1RefIdeal.τ) (Cert.In1RefIdeal.main (F := Ideal))) ⟨m, fun _ => 0, g⟩ (fun r => (∀ c : Dev Cert.In1RefIdeal.nD,
      r.2.mem ((c.tc : Thread Cert.In1RefIdeal.nD Cert.In1RefIdeal.τ).loc Cert.In1RefIdeal.main_arg0) = m ((c.tc : Thread Cert.In1RefIdeal.nD Cert.In1RefIdeal.τ).loc Cert.In1RefIdeal.main_arg0)
      ∧ r.2.mem ((c.tc : Thread Cert.In1RefIdeal.nD Cert.In1RefIdeal.τ).loc Cert.In1RefIdeal.main_arg1) = m ((c.tc : Thread Cert.In1RefIdeal.nD Cert.In1RefIdeal.τ).loc Cert.In1RefIdeal.main_arg1)
      ∧ r.2.mem ((c.tc : Thread Cert.In1RefIdeal.nD Cert.In1RefIdeal.τ).loc Cert.In1RefIdeal.main_arg2) = m ((c.tc : Thread Cert.In1RefIdeal.nD Cert.In1RefIdeal.τ).loc Cert.In1RefIdeal.main_arg2)
      ∧ r.2.mem ((c.tc : Thread Cert.In1RefIdeal.nD Cert.In1RefIdeal.τ).loc Cert.In1RefIdeal.main_arg3) = m ((c.tc : Thread Cert.In1RefIdeal.nD Cert.In1RefIdeal.τ).loc Cert.In1RefIdeal.main_arg3)
      ∧ r.2.mem ((c.tc : Thread Cert.In1RefIdeal.nD Cert.In1RefIdeal.τ).loc Cert.In1RefIdeal.main_arg4) = m ((c.tc : Thread Cert.In1RefIdeal.nD Cert.In1RefIdeal.τ).loc Cert.In1RefIdeal.main_arg4))
      ∧ r.2.sem = fun _ => 0)

def quiescent_In1RefIdeal_pre_finite5 [hIn1RefIdeal : Cert.In1RefIdeal.Facts] [hPre_finite5 : Cert.Pre_finite5.Facts] : Prop :=
  ∀ (m : (ℓ : Loc Cert.In1RefIdeal.nD Cert.In1RefIdeal.τ Cert.In1RefIdeal.sig) → Buf (Elt Ideal) ℓ) (g : Dev Cert.In1RefIdeal.nD → PrngReg), Pre_In1RefIdeal_finite5 m →
    θ_run (Cert.In1RefIdeal.defs (F := Ideal)) (onTc (τ := Cert.In1RefIdeal.τ) (Cert.In1RefIdeal.main (F := Ideal))) ⟨m, fun _ => 0, g⟩ (fun r => (∀ c : Dev Cert.In1RefIdeal.nD,
      r.2.mem ((c.tc : Thread Cert.In1RefIdeal.nD Cert.In1RefIdeal.τ).loc Cert.In1RefIdeal.main_arg0) = m ((c.tc : Thread Cert.In1RefIdeal.nD Cert.In1RefIdeal.τ).loc Cert.In1RefIdeal.main_arg0)
      ∧ r.2.mem ((c.tc : Thread Cert.In1RefIdeal.nD Cert.In1RefIdeal.τ).loc Cert.In1RefIdeal.main_arg1) = m ((c.tc : Thread Cert.In1RefIdeal.nD Cert.In1RefIdeal.τ).loc Cert.In1RefIdeal.main_arg1)
      ∧ r.2.mem ((c.tc : Thread Cert.In1RefIdeal.nD Cert.In1RefIdeal.τ).loc Cert.In1RefIdeal.main_arg2) = m ((c.tc : Thread Cert.In1RefIdeal.nD Cert.In1RefIdeal.τ).loc Cert.In1RefIdeal.main_arg2)
      ∧ r.2.mem ((c.tc : Thread Cert.In1RefIdeal.nD Cert.In1RefIdeal.τ).loc Cert.In1RefIdeal.main_arg3) = m ((c.tc : Thread Cert.In1RefIdeal.nD Cert.In1RefIdeal.τ).loc Cert.In1RefIdeal.main_arg3)
      ∧ r.2.mem ((c.tc : Thread Cert.In1RefIdeal.nD Cert.In1RefIdeal.τ).loc Cert.In1RefIdeal.main_arg4) = m ((c.tc : Thread Cert.In1RefIdeal.nD Cert.In1RefIdeal.τ).loc Cert.In1RefIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastIdeal_pre_finite6 [hLastIdeal : Cert.LastIdeal.Facts] [hPre_finite6 : Cert.Pre_finite6.Facts] : Prop :=
  ∀ (m : (ℓ : Loc Cert.LastIdeal.nD Cert.LastIdeal.τ Cert.LastIdeal.sig) → Buf (Elt Ideal) ℓ) (g : Dev Cert.LastIdeal.nD → PrngReg), Pre_LastIdeal_finite6 m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_LastRefIdeal_pre_finite6 [hLastRefIdeal : Cert.LastRefIdeal.Facts] [hPre_finite6 : Cert.Pre_finite6.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal_finite6 m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)) →
    ∃ (v0 : (c : Dev Cert.Ffn2Ideal.nD) → Buf (Elt Ideal) ((c.tc : Thread Cert.Ffn2Ideal.nD Cert.Ffn2Ideal.τ).loc Cert.Ffn2Ideal.main_v6_0)) (v1 : (c : Dev Cert.Ffn2Ideal.nD) → Buf (Elt Ideal) ((c.tc : Thread Cert.Ffn2Ideal.nD Cert.Ffn2Ideal.τ).loc Cert.Ffn2Ideal.main_v6_1)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v6_0) = v0 c
          ∧ r.2.mem ((c.tc : Thread Cert.Ffn2Ideal.nD Cert.Ffn2Ideal.τ).loc Cert.Ffn2Ideal.main_v6_1) = v1 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v6) = v0 c
          ∧ r.2.mem ((c.tc : Thread Cert.Ffn2RefIdeal.nD Cert.Ffn2RefIdeal.τ).loc Cert.Ffn2RefIdeal.main_v15) = v1 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3))

def preserves_Up1_Up1Ideal : Prop :=
  True

def algebraic_Up1Ideal_Up1RefIdeal [hUp1Ideal : Cert.Up1Ideal.Facts] [hUp1RefIdeal : Cert.Up1RefIdeal.Facts] : Prop :=
  ∀ (m : (ℓ : Loc Cert.Up1Ideal.nD Cert.Up1Ideal.τ Cert.Up1Ideal.sig) → Buf (Elt Ideal) ℓ) (g : Dev Cert.Up1Ideal.nD → PrngReg)
    (m' : (ℓ : Loc Cert.Up1RefIdeal.nD Cert.Up1RefIdeal.τ Cert.Up1RefIdeal.sig) → Buf (Elt Ideal) ℓ) (g' : Dev Cert.Up1RefIdeal.nD → PrngReg), Pre_Up1Ideal m →
    (∀ c : Dev Cert.Up1Ideal.nD,
      m' ((c.tc : Thread Cert.Up1RefIdeal.nD Cert.Up1RefIdeal.τ).loc Cert.Up1RefIdeal.main_arg0) = m ((c.tc : Thread Cert.Up1Ideal.nD Cert.Up1Ideal.τ).loc Cert.Up1Ideal.main_arg0)
      ∧ m' ((c.tc : Thread Cert.Up1RefIdeal.nD Cert.Up1RefIdeal.τ).loc Cert.Up1RefIdeal.main_arg1) = m ((c.tc : Thread Cert.Up1Ideal.nD Cert.Up1Ideal.τ).loc Cert.Up1Ideal.main_arg1)) →
    ∃ (v0 : (c : Dev Cert.Up1Ideal.nD) → Buf (Elt Ideal) ((c.tc : Thread Cert.Up1Ideal.nD Cert.Up1Ideal.τ).loc Cert.Up1Ideal.main_v2)),
      θ_run (Cert.Up1Ideal.defs (F := Ideal)) (onTc (τ := Cert.Up1Ideal.τ) (Cert.Up1Ideal.main (F := Ideal))) ⟨m, fun _ => 0, g⟩ (fun r => ∀ c : Dev Cert.Up1Ideal.nD,
          r.2.mem ((c.tc : Thread Cert.Up1Ideal.nD Cert.Up1Ideal.τ).loc Cert.Up1Ideal.main_v2) = v0 c
          ∧ r.2.mem ((c.tc : Thread Cert.Up1Ideal.nD Cert.Up1Ideal.τ).loc Cert.Up1Ideal.main_arg0) = m ((c.tc : Thread Cert.Up1Ideal.nD Cert.Up1Ideal.τ).loc Cert.Up1Ideal.main_arg0)
          ∧ r.2.mem ((c.tc : Thread Cert.Up1Ideal.nD Cert.Up1Ideal.τ).loc Cert.Up1Ideal.main_arg1) = m ((c.tc : Thread Cert.Up1Ideal.nD Cert.Up1Ideal.τ).loc Cert.Up1Ideal.main_arg1))
      ∧ θ_run (Cert.Up1RefIdeal.defs (F := Ideal)) (onTc (τ := Cert.Up1RefIdeal.τ) (Cert.Up1RefIdeal.main (F := Ideal))) ⟨m', fun _ => 0, g'⟩ (fun r => ∀ c : Dev Cert.Up1RefIdeal.nD,
          r.2.mem ((c.tc : Thread Cert.Up1RefIdeal.nD Cert.Up1RefIdeal.τ).loc Cert.Up1RefIdeal.main_v6) = v0 c
          ∧ r.2.mem ((c.tc : Thread Cert.Up1RefIdeal.nD Cert.Up1RefIdeal.τ).loc Cert.Up1RefIdeal.main_arg0) = m' ((c.tc : Thread Cert.Up1RefIdeal.nD Cert.Up1RefIdeal.τ).loc Cert.Up1RefIdeal.main_arg0)
          ∧ r.2.mem ((c.tc : Thread Cert.Up1RefIdeal.nD Cert.Up1RefIdeal.τ).loc Cert.Up1RefIdeal.main_arg1) = m' ((c.tc : Thread Cert.Up1RefIdeal.nD Cert.Up1RefIdeal.τ).loc Cert.Up1RefIdeal.main_arg1))

def preserves_Down1_Down1Ideal : Prop :=
  True

def algebraic_Down1Ideal_Down1RefIdeal [hDown1Ideal : Cert.Down1Ideal.Facts] [hDown1RefIdeal : Cert.Down1RefIdeal.Facts] : Prop :=
  ∀ (m : (ℓ : Loc Cert.Down1Ideal.nD Cert.Down1Ideal.τ Cert.Down1Ideal.sig) → Buf (Elt Ideal) ℓ) (g : Dev Cert.Down1Ideal.nD → PrngReg)
    (m' : (ℓ : Loc Cert.Down1RefIdeal.nD Cert.Down1RefIdeal.τ Cert.Down1RefIdeal.sig) → Buf (Elt Ideal) ℓ) (g' : Dev Cert.Down1RefIdeal.nD → PrngReg), Pre_Down1Ideal m →
    (∀ c : Dev Cert.Down1Ideal.nD,
      m' ((c.tc : Thread Cert.Down1RefIdeal.nD Cert.Down1RefIdeal.τ).loc Cert.Down1RefIdeal.main_arg0) = m ((c.tc : Thread Cert.Down1Ideal.nD Cert.Down1Ideal.τ).loc Cert.Down1Ideal.main_arg0)
      ∧ m' ((c.tc : Thread Cert.Down1RefIdeal.nD Cert.Down1RefIdeal.τ).loc Cert.Down1RefIdeal.main_arg1) = m ((c.tc : Thread Cert.Down1Ideal.nD Cert.Down1Ideal.τ).loc Cert.Down1Ideal.main_arg1)) →
    ∃ (v0 : (c : Dev Cert.Down1Ideal.nD) → Buf (Elt Ideal) ((c.tc : Thread Cert.Down1Ideal.nD Cert.Down1Ideal.τ).loc Cert.Down1Ideal.main_v3)),
      θ_run (Cert.Down1Ideal.defs (F := Ideal)) (onTc (τ := Cert.Down1Ideal.τ) (Cert.Down1Ideal.main (F := Ideal))) ⟨m, fun _ => 0, g⟩ (fun r => ∀ c : Dev Cert.Down1Ideal.nD,
          r.2.mem ((c.tc : Thread Cert.Down1Ideal.nD Cert.Down1Ideal.τ).loc Cert.Down1Ideal.main_v3) = v0 c
          ∧ r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
          ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1))
      ∧ θ_run (Cert.Down1RefIdeal.defs (F := Ideal)) (onTc (τ := Cert.Down1RefIdeal.τ) (Cert.Down1RefIdeal.main (F := Ideal))) ⟨m', fun _ => 0, g'⟩ (fun r => ∀ c : Dev Cert.Down1RefIdeal.nD,
          r.2.mem ((c.tc : Thread Cert.Down1RefIdeal.nD Cert.Down1RefIdeal.τ).loc Cert.Down1RefIdeal.main_v9) = v0 c
          ∧ r.2.mem ((c.tc : Thread Cert.Down1RefIdeal.nD Cert.Down1RefIdeal.τ).loc Cert.Down1RefIdeal.main_arg0) = m' ((c.tc : Thread Cert.Down1RefIdeal.nD Cert.Down1RefIdeal.τ).loc Cert.Down1RefIdeal.main_arg0)
          ∧ r.2.mem ((c.tc : Thread Cert.Down1RefIdeal.nD Cert.Down1RefIdeal.τ).loc Cert.Down1RefIdeal.main_arg1) = m' ((c.tc : Thread Cert.Down1RefIdeal.nD Cert.Down1RefIdeal.τ).loc Cert.Down1RefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v7) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)
      ∧ m' ((c.tc : Thread Cert.BranchRefIdeal.nD Cert.BranchRefIdeal.τ).loc Cert.BranchRefIdeal.main_arg4) = m ((c.tc : Thread Cert.BranchIdeal.nD Cert.BranchIdeal.τ).loc Cert.BranchIdeal.main_arg4)
      ∧ m' ((c.tc : Thread Cert.BranchRefIdeal.nD Cert.BranchRefIdeal.τ).loc Cert.BranchRefIdeal.main_arg5) = m ((c.tc : Thread Cert.BranchIdeal.nD Cert.BranchIdeal.τ).loc Cert.BranchIdeal.main_arg5)
      ∧ m' ((c.tc : Thread Cert.BranchRefIdeal.nD Cert.BranchRefIdeal.τ).loc Cert.BranchRefIdeal.main_arg6) = m ((c.tc : Thread Cert.BranchIdeal.nD Cert.BranchIdeal.τ).loc Cert.BranchIdeal.main_arg6)
      ∧ m' ((c.tc : Thread Cert.BranchRefIdeal.nD Cert.BranchRefIdeal.τ).loc Cert.BranchRefIdeal.main_arg7) = m ((c.tc : Thread Cert.BranchIdeal.nD Cert.BranchIdeal.τ).loc Cert.BranchIdeal.main_arg7)) →
    ∃ (v0 : (c : Dev Cert.BranchIdeal.nD) → Buf (Elt Ideal) ((c.tc : Thread Cert.BranchIdeal.nD Cert.BranchIdeal.τ).loc Cert.BranchIdeal.main_v7_0)) (v1 : (c : Dev Cert.BranchIdeal.nD) → Buf (Elt Ideal) ((c.tc : Thread Cert.BranchIdeal.nD Cert.BranchIdeal.τ).loc Cert.BranchIdeal.main_v7_1)) (v2 : (c : Dev Cert.BranchIdeal.nD) → Buf (Elt Ideal) ((c.tc : Thread Cert.BranchIdeal.nD Cert.BranchIdeal.τ).loc Cert.BranchIdeal.main_v7_2)) (v3 : (c : Dev Cert.BranchIdeal.nD) → Buf (Elt Ideal) ((c.tc : Thread Cert.BranchIdeal.nD Cert.BranchIdeal.τ).loc Cert.BranchIdeal.main_v7_3)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v7_0) = v0 c
          ∧ r.2.mem ((c.tc : Thread Cert.BranchIdeal.nD Cert.BranchIdeal.τ).loc Cert.BranchIdeal.main_v7_1) = v1 c
          ∧ r.2.mem ((c.tc : Thread Cert.BranchIdeal.nD Cert.BranchIdeal.τ).loc Cert.BranchIdeal.main_v7_2) = v2 c
          ∧ r.2.mem ((c.tc : Thread Cert.BranchIdeal.nD Cert.BranchIdeal.τ).loc Cert.BranchIdeal.main_v7_3) = v3 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
          ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
          ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6)
          ∧ r.2.mem ((c.tc : Thread Cert.BranchIdeal.nD Cert.BranchIdeal.τ).loc Cert.BranchIdeal.main_arg7) = m ((c.tc : Thread Cert.BranchIdeal.nD Cert.BranchIdeal.τ).loc Cert.BranchIdeal.main_arg7))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v6) = v0 c
          ∧ r.2.mem ((c.tc : Thread Cert.BranchRefIdeal.nD Cert.BranchRefIdeal.τ).loc Cert.BranchRefIdeal.main_v13) = v1 c
          ∧ r.2.mem ((c.tc : Thread Cert.BranchRefIdeal.nD Cert.BranchRefIdeal.τ).loc Cert.BranchRefIdeal.main_v22) = v2 c
          ∧ r.2.mem ((c.tc : Thread Cert.BranchRefIdeal.nD Cert.BranchRefIdeal.τ).loc Cert.BranchRefIdeal.main_v27) = v3 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3)
          ∧ r.2.mem ((c.tc : Thread Cert.BranchRefIdeal.nD Cert.BranchRefIdeal.τ).loc Cert.BranchRefIdeal.main_arg4) = m' ((c.tc : Thread Cert.BranchRefIdeal.nD Cert.BranchRefIdeal.τ).loc Cert.BranchRefIdeal.main_arg4)
          ∧ r.2.mem ((c.tc : Thread Cert.BranchRefIdeal.nD Cert.BranchRefIdeal.τ).loc Cert.BranchRefIdeal.main_arg5) = m' ((c.tc : Thread Cert.BranchRefIdeal.nD Cert.BranchRefIdeal.τ).loc Cert.BranchRefIdeal.main_arg5)
          ∧ r.2.mem ((c.tc : Thread Cert.BranchRefIdeal.nD Cert.BranchRefIdeal.τ).loc Cert.BranchRefIdeal.main_arg6) = m' ((c.tc : Thread Cert.BranchRefIdeal.nD Cert.BranchRefIdeal.τ).loc Cert.BranchRefIdeal.main_arg6)
          ∧ r.2.mem ((c.tc : Thread Cert.BranchRefIdeal.nD Cert.BranchRefIdeal.τ).loc Cert.BranchRefIdeal.main_arg7) = m' ((c.tc : Thread Cert.BranchRefIdeal.nD Cert.BranchRefIdeal.τ).loc Cert.BranchRefIdeal.main_arg7))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)) →
    ∃ (v0 : (c : Dev Cert.Ffn1Ideal.nD) → Buf (Elt Ideal) ((c.tc : Thread Cert.Ffn1Ideal.nD Cert.Ffn1Ideal.τ).loc Cert.Ffn1Ideal.main_v4_0)) (v1 : (c : Dev Cert.Ffn1Ideal.nD) → Buf (Elt Ideal) ((c.tc : Thread Cert.Ffn1Ideal.nD Cert.Ffn1Ideal.τ).loc Cert.Ffn1Ideal.main_v4_1)) (v2 : (c : Dev Cert.Ffn1Ideal.nD) → Buf (Elt Ideal) ((c.tc : Thread Cert.Ffn1Ideal.nD Cert.Ffn1Ideal.τ).loc Cert.Ffn1Ideal.main_v4_2)) (v3 : (c : Dev Cert.Ffn1Ideal.nD) → Buf (Elt Ideal) ((c.tc : Thread Cert.Ffn1Ideal.nD Cert.Ffn1Ideal.τ).loc Cert.Ffn1Ideal.main_v4_3)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v4_0) = v0 c
          ∧ r.2.mem ((c.tc : Thread Cert.Ffn1Ideal.nD Cert.Ffn1Ideal.τ).loc Cert.Ffn1Ideal.main_v4_1) = v1 c
          ∧ r.2.mem ((c.tc : Thread Cert.Ffn1Ideal.nD Cert.Ffn1Ideal.τ).loc Cert.Ffn1Ideal.main_v4_2) = v2 c
          ∧ r.2.mem ((c.tc : Thread Cert.Ffn1Ideal.nD Cert.Ffn1Ideal.τ).loc Cert.Ffn1Ideal.main_v4_3) = v3 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v20) = v0 c
          ∧ r.2.mem ((c.tc : Thread Cert.Ffn1RefIdeal.nD Cert.Ffn1RefIdeal.τ).loc Cert.Ffn1RefIdeal.main_v21) = v1 c
          ∧ r.2.mem ((c.tc : Thread Cert.Ffn1RefIdeal.nD Cert.Ffn1RefIdeal.τ).loc Cert.Ffn1RefIdeal.main_v22) = v2 c
          ∧ r.2.mem ((c.tc : Thread Cert.Ffn1RefIdeal.nD Cert.Ffn1RefIdeal.τ).loc Cert.Ffn1RefIdeal.main_v25) = v3 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3))

def preserves_Act1_Act1Ideal : Prop :=
  True

def algebraic_Act1Ideal_Act1RefIdeal_pre_finite3 [hAct1Ideal : Cert.Act1Ideal.Facts] [hAct1RefIdeal : Cert.Act1RefIdeal.Facts] [hPre_finite3 : Cert.Pre_finite3.Facts] : Prop :=
  ∀ (m : (ℓ : Loc Cert.Act1Ideal.nD Cert.Act1Ideal.τ Cert.Act1Ideal.sig) → Buf (Elt Ideal) ℓ) (g : Dev Cert.Act1Ideal.nD → PrngReg)
    (m' : (ℓ : Loc Cert.Act1RefIdeal.nD Cert.Act1RefIdeal.τ Cert.Act1RefIdeal.sig) → Buf (Elt Ideal) ℓ) (g' : Dev Cert.Act1RefIdeal.nD → PrngReg), Pre_Act1Ideal_finite3 m →
    (∀ c : Dev Cert.Act1Ideal.nD,
      m' ((c.tc : Thread Cert.Act1RefIdeal.nD Cert.Act1RefIdeal.τ).loc Cert.Act1RefIdeal.main_arg0) = m ((c.tc : Thread Cert.Act1Ideal.nD Cert.Act1Ideal.τ).loc Cert.Act1Ideal.main_arg0)
      ∧ m' ((c.tc : Thread Cert.Act1RefIdeal.nD Cert.Act1RefIdeal.τ).loc Cert.Act1RefIdeal.main_arg1) = m ((c.tc : Thread Cert.Act1Ideal.nD Cert.Act1Ideal.τ).loc Cert.Act1Ideal.main_arg1)
      ∧ m' ((c.tc : Thread Cert.Act1RefIdeal.nD Cert.Act1RefIdeal.τ).loc Cert.Act1RefIdeal.main_arg2) = m ((c.tc : Thread Cert.Act1Ideal.nD Cert.Act1Ideal.τ).loc Cert.Act1Ideal.main_arg2)) →
    ∃ (v0 : (c : Dev Cert.Act1Ideal.nD) → Buf (Elt Ideal) ((c.tc : Thread Cert.Act1Ideal.nD Cert.Act1Ideal.τ).loc Cert.Act1Ideal.main_v2)),
      θ_run (Cert.Act1Ideal.defs (F := Ideal)) (onTc (τ := Cert.Act1Ideal.τ) (Cert.Act1Ideal.main (F := Ideal))) ⟨m, fun _ => 0, g⟩ (fun r => ∀ c : Dev Cert.Act1Ideal.nD,
          r.2.mem ((c.tc : Thread Cert.Act1Ideal.nD Cert.Act1Ideal.τ).loc Cert.Act1Ideal.main_v2) = v0 c
          ∧ r.2.mem ((c.tc : Thread Cert.Act1Ideal.nD Cert.Act1Ideal.τ).loc Cert.Act1Ideal.main_arg0) = m ((c.tc : Thread Cert.Act1Ideal.nD Cert.Act1Ideal.τ).loc Cert.Act1Ideal.main_arg0)
          ∧ r.2.mem ((c.tc : Thread Cert.Act1Ideal.nD Cert.Act1Ideal.τ).loc Cert.Act1Ideal.main_arg1) = m ((c.tc : Thread Cert.Act1Ideal.nD Cert.Act1Ideal.τ).loc Cert.Act1Ideal.main_arg1)
          ∧ r.2.mem ((c.tc : Thread Cert.Act1Ideal.nD Cert.Act1Ideal.τ).loc Cert.Act1Ideal.main_arg2) = m ((c.tc : Thread Cert.Act1Ideal.nD Cert.Act1Ideal.τ).loc Cert.Act1Ideal.main_arg2))
      ∧ θ_run (Cert.Act1RefIdeal.defs (F := Ideal)) (onTc (τ := Cert.Act1RefIdeal.τ) (Cert.Act1RefIdeal.main (F := Ideal))) ⟨m', fun _ => 0, g'⟩ (fun r => ∀ c : Dev Cert.Act1RefIdeal.nD,
          r.2.mem ((c.tc : Thread Cert.Act1RefIdeal.nD Cert.Act1RefIdeal.τ).loc Cert.Act1RefIdeal.main_v14) = v0 c
          ∧ r.2.mem ((c.tc : Thread Cert.Act1RefIdeal.nD Cert.Act1RefIdeal.τ).loc Cert.Act1RefIdeal.main_arg0) = m' ((c.tc : Thread Cert.Act1RefIdeal.nD Cert.Act1RefIdeal.τ).loc Cert.Act1RefIdeal.main_arg0)
          ∧ r.2.mem ((c.tc : Thread Cert.Act1RefIdeal.nD Cert.Act1RefIdeal.τ).loc Cert.Act1RefIdeal.main_arg1) = m' ((c.tc : Thread Cert.Act1RefIdeal.nD Cert.Act1RefIdeal.τ).loc Cert.Act1RefIdeal.main_arg1)
          ∧ r.2.mem ((c.tc : Thread Cert.Act1RefIdeal.nD Cert.Act1RefIdeal.τ).loc Cert.Act1RefIdeal.main_arg2) = m' ((c.tc : Thread Cert.Act1RefIdeal.nD Cert.Act1RefIdeal.τ).loc Cert.Act1RefIdeal.main_arg2))

def preserves_In1_In1Ideal : Prop :=
  True

def algebraic_In1Ideal_In1RefIdeal_pre_finite5 [hIn1Ideal : Cert.In1Ideal.Facts] [hIn1RefIdeal : Cert.In1RefIdeal.Facts] [hPre_finite5 : Cert.Pre_finite5.Facts] : Prop :=
  ∀ (m : (ℓ : Loc Cert.In1Ideal.nD Cert.In1Ideal.τ Cert.In1Ideal.sig) → Buf (Elt Ideal) ℓ) (g : Dev Cert.In1Ideal.nD → PrngReg)
    (m' : (ℓ : Loc Cert.In1RefIdeal.nD Cert.In1RefIdeal.τ Cert.In1RefIdeal.sig) → Buf (Elt Ideal) ℓ) (g' : Dev Cert.In1RefIdeal.nD → PrngReg), Pre_In1Ideal_finite5 m →
    (∀ c : Dev Cert.In1Ideal.nD,
      m' ((c.tc : Thread Cert.In1RefIdeal.nD Cert.In1RefIdeal.τ).loc Cert.In1RefIdeal.main_arg0) = m ((c.tc : Thread Cert.In1Ideal.nD Cert.In1Ideal.τ).loc Cert.In1Ideal.main_arg0)
      ∧ m' ((c.tc : Thread Cert.In1RefIdeal.nD Cert.In1RefIdeal.τ).loc Cert.In1RefIdeal.main_arg1) = m ((c.tc : Thread Cert.In1Ideal.nD Cert.In1Ideal.τ).loc Cert.In1Ideal.main_arg1)
      ∧ m' ((c.tc : Thread Cert.In1RefIdeal.nD Cert.In1RefIdeal.τ).loc Cert.In1RefIdeal.main_arg2) = m ((c.tc : Thread Cert.In1Ideal.nD Cert.In1Ideal.τ).loc Cert.In1Ideal.main_arg2)
      ∧ m' ((c.tc : Thread Cert.In1RefIdeal.nD Cert.In1RefIdeal.τ).loc Cert.In1RefIdeal.main_arg3) = m ((c.tc : Thread Cert.In1Ideal.nD Cert.In1Ideal.τ).loc Cert.In1Ideal.main_arg3)
      ∧ m' ((c.tc : Thread Cert.In1RefIdeal.nD Cert.In1RefIdeal.τ).loc Cert.In1RefIdeal.main_arg4) = m ((c.tc : Thread Cert.In1Ideal.nD Cert.In1Ideal.τ).loc Cert.In1Ideal.main_arg4)) →
    ∃ (v0 : (c : Dev Cert.In1Ideal.nD) → Buf (Elt Ideal) ((c.tc : Thread Cert.In1Ideal.nD Cert.In1Ideal.τ).loc Cert.In1Ideal.main_v4_0)) (v1 : (c : Dev Cert.In1Ideal.nD) → Buf (Elt Ideal) ((c.tc : Thread Cert.In1Ideal.nD Cert.In1Ideal.τ).loc Cert.In1Ideal.main_v4_1)),
      θ_run (Cert.In1Ideal.defs (F := Ideal)) (onTc (τ := Cert.In1Ideal.τ) (Cert.In1Ideal.main (F := Ideal))) ⟨m, fun _ => 0, g⟩ (fun r => ∀ c : Dev Cert.In1Ideal.nD,
          r.2.mem ((c.tc : Thread Cert.In1Ideal.nD Cert.In1Ideal.τ).loc Cert.In1Ideal.main_v4_0) = v0 c
          ∧ r.2.mem ((c.tc : Thread Cert.In1Ideal.nD Cert.In1Ideal.τ).loc Cert.In1Ideal.main_v4_1) = v1 c
          ∧ r.2.mem ((c.tc : Thread Cert.In1Ideal.nD Cert.In1Ideal.τ).loc Cert.In1Ideal.main_arg0) = m ((c.tc : Thread Cert.In1Ideal.nD Cert.In1Ideal.τ).loc Cert.In1Ideal.main_arg0)
          ∧ r.2.mem ((c.tc : Thread Cert.In1Ideal.nD Cert.In1Ideal.τ).loc Cert.In1Ideal.main_arg1) = m ((c.tc : Thread Cert.In1Ideal.nD Cert.In1Ideal.τ).loc Cert.In1Ideal.main_arg1)
          ∧ r.2.mem ((c.tc : Thread Cert.In1Ideal.nD Cert.In1Ideal.τ).loc Cert.In1Ideal.main_arg2) = m ((c.tc : Thread Cert.In1Ideal.nD Cert.In1Ideal.τ).loc Cert.In1Ideal.main_arg2)
          ∧ r.2.mem ((c.tc : Thread Cert.In1Ideal.nD Cert.In1Ideal.τ).loc Cert.In1Ideal.main_arg3) = m ((c.tc : Thread Cert.In1Ideal.nD Cert.In1Ideal.τ).loc Cert.In1Ideal.main_arg3)
          ∧ r.2.mem ((c.tc : Thread Cert.In1Ideal.nD Cert.In1Ideal.τ).loc Cert.In1Ideal.main_arg4) = m ((c.tc : Thread Cert.In1Ideal.nD Cert.In1Ideal.τ).loc Cert.In1Ideal.main_arg4))
      ∧ θ_run (Cert.In1RefIdeal.defs (F := Ideal)) (onTc (τ := Cert.In1RefIdeal.τ) (Cert.In1RefIdeal.main (F := Ideal))) ⟨m', fun _ => 0, g'⟩ (fun r => ∀ c : Dev Cert.In1RefIdeal.nD,
          r.2.mem ((c.tc : Thread Cert.In1RefIdeal.nD Cert.In1RefIdeal.τ).loc Cert.In1RefIdeal.main_v36) = v0 c
          ∧ r.2.mem ((c.tc : Thread Cert.In1RefIdeal.nD Cert.In1RefIdeal.τ).loc Cert.In1RefIdeal.main_v19) = v1 c
          ∧ r.2.mem ((c.tc : Thread Cert.In1RefIdeal.nD Cert.In1RefIdeal.τ).loc Cert.In1RefIdeal.main_arg0) = m' ((c.tc : Thread Cert.In1RefIdeal.nD Cert.In1RefIdeal.τ).loc Cert.In1RefIdeal.main_arg0)
          ∧ r.2.mem ((c.tc : Thread Cert.In1RefIdeal.nD Cert.In1RefIdeal.τ).loc Cert.In1RefIdeal.main_arg1) = m' ((c.tc : Thread Cert.In1RefIdeal.nD Cert.In1RefIdeal.τ).loc Cert.In1RefIdeal.main_arg1)
          ∧ r.2.mem ((c.tc : Thread Cert.In1RefIdeal.nD Cert.In1RefIdeal.τ).loc Cert.In1RefIdeal.main_arg2) = m' ((c.tc : Thread Cert.In1RefIdeal.nD Cert.In1RefIdeal.τ).loc Cert.In1RefIdeal.main_arg2)
          ∧ r.2.mem ((c.tc : Thread Cert.In1RefIdeal.nD Cert.In1RefIdeal.τ).loc Cert.In1RefIdeal.main_arg3) = m' ((c.tc : Thread Cert.In1RefIdeal.nD Cert.In1RefIdeal.τ).loc Cert.In1RefIdeal.main_arg3)
          ∧ r.2.mem ((c.tc : Thread Cert.In1RefIdeal.nD Cert.In1RefIdeal.τ).loc Cert.In1RefIdeal.main_arg4) = m' ((c.tc : Thread Cert.In1RefIdeal.nD Cert.In1RefIdeal.τ).loc Cert.In1RefIdeal.main_arg4))

def preserves_Last_LastIdeal : Prop :=
  True

def algebraic_LastIdeal_LastRefIdeal_pre_finite6 [hLastIdeal : Cert.LastIdeal.Facts] [hLastRefIdeal : Cert.LastRefIdeal.Facts] [hPre_finite6 : Cert.Pre_finite6.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal_finite6 m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v4_0)) (v1 : (c : Dev Cert.LastIdeal.nD) → Buf (Elt Ideal) ((c.tc : Thread Cert.LastIdeal.nD Cert.LastIdeal.τ).loc Cert.LastIdeal.main_v4_1)) (v2 : (c : Dev Cert.LastIdeal.nD) → Buf (Elt Ideal) ((c.tc : Thread Cert.LastIdeal.nD Cert.LastIdeal.τ).loc Cert.LastIdeal.main_v4_2)) (v3 : (c : Dev Cert.LastIdeal.nD) → Buf (Elt Ideal) ((c.tc : Thread Cert.LastIdeal.nD Cert.LastIdeal.τ).loc Cert.LastIdeal.main_v4_3)) (v4 : (c : Dev Cert.LastIdeal.nD) → Buf (Elt Ideal) ((c.tc : Thread Cert.LastIdeal.nD Cert.LastIdeal.τ).loc Cert.LastIdeal.main_v4_4)) (v5 : (c : Dev Cert.LastIdeal.nD) → Buf (Elt Ideal) ((c.tc : Thread Cert.LastIdeal.nD Cert.LastIdeal.τ).loc Cert.LastIdeal.main_v4_5)) (v6 : (c : Dev Cert.LastIdeal.nD) → Buf (Elt Ideal) ((c.tc : Thread Cert.LastIdeal.nD Cert.LastIdeal.τ).loc Cert.LastIdeal.main_v4_6)) (v7 : (c : Dev Cert.LastIdeal.nD) → Buf (Elt Ideal) ((c.tc : Thread Cert.LastIdeal.nD Cert.LastIdeal.τ).loc Cert.LastIdeal.main_v4_7)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v4_0) = v0 c
          ∧ r.2.mem ((c.tc : Thread Cert.LastIdeal.nD Cert.LastIdeal.τ).loc Cert.LastIdeal.main_v4_1) = v1 c
          ∧ r.2.mem ((c.tc : Thread Cert.LastIdeal.nD Cert.LastIdeal.τ).loc Cert.LastIdeal.main_v4_2) = v2 c
          ∧ r.2.mem ((c.tc : Thread Cert.LastIdeal.nD Cert.LastIdeal.τ).loc Cert.LastIdeal.main_v4_3) = v3 c
          ∧ r.2.mem ((c.tc : Thread Cert.LastIdeal.nD Cert.LastIdeal.τ).loc Cert.LastIdeal.main_v4_4) = v4 c
          ∧ r.2.mem ((c.tc : Thread Cert.LastIdeal.nD Cert.LastIdeal.τ).loc Cert.LastIdeal.main_v4_5) = v5 c
          ∧ r.2.mem ((c.tc : Thread Cert.LastIdeal.nD Cert.LastIdeal.τ).loc Cert.LastIdeal.main_v4_6) = v6 c
          ∧ r.2.mem ((c.tc : Thread Cert.LastIdeal.nD Cert.LastIdeal.τ).loc Cert.LastIdeal.main_v4_7) = v7 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v100) = v0 c
          ∧ r.2.mem ((c.tc : Thread Cert.LastRefIdeal.nD Cert.LastRefIdeal.τ).loc Cert.LastRefIdeal.main_v101) = v1 c
          ∧ r.2.mem ((c.tc : Thread Cert.LastRefIdeal.nD Cert.LastRefIdeal.τ).loc Cert.LastRefIdeal.main_v83) = v2 c
          ∧ r.2.mem ((c.tc : Thread Cert.LastRefIdeal.nD Cert.LastRefIdeal.τ).loc Cert.LastRefIdeal.main_v102) = v3 c
          ∧ r.2.mem ((c.tc : Thread Cert.LastRefIdeal.nD Cert.LastRefIdeal.τ).loc Cert.LastRefIdeal.main_v56) = v4 c
          ∧ r.2.mem ((c.tc : Thread Cert.LastRefIdeal.nD Cert.LastRefIdeal.τ).loc Cert.LastRefIdeal.main_v103) = v5 c
          ∧ r.2.mem ((c.tc : Thread Cert.LastRefIdeal.nD Cert.LastRefIdeal.τ).loc Cert.LastRefIdeal.main_v106) = v6 c
          ∧ r.2.mem ((c.tc : Thread Cert.LastRefIdeal.nD Cert.LastRefIdeal.τ).loc Cert.LastRefIdeal.main_v107) = v7 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def Claim : Prop :=
  ∃ (hKernel : Cert.Kernel.Facts) (hKernelIdeal : Cert.KernelIdeal.Facts) (hReferenceIdeal : Cert.ReferenceIdeal.Facts) (hFfn2 : Cert.Ffn2.Facts) (hFfn2Ideal : Cert.Ffn2Ideal.Facts) (hFfn2RefIdeal : Cert.Ffn2RefIdeal.Facts) (hUp1 : Cert.Up1.Facts) (hUp1Ideal : Cert.Up1Ideal.Facts) (hUp1RefIdeal : Cert.Up1RefIdeal.Facts) (hDown1 : Cert.Down1.Facts) (hDown1Ideal : Cert.Down1Ideal.Facts) (hDown1RefIdeal : Cert.Down1RefIdeal.Facts) (hProj : Cert.Proj.Facts) (hProjIdeal : Cert.ProjIdeal.Facts) (hProjRefIdeal : Cert.ProjRefIdeal.Facts) (hBranch : Cert.Branch.Facts) (hBranchIdeal : Cert.BranchIdeal.Facts) (hBranchRefIdeal : Cert.BranchRefIdeal.Facts) (hFfn1 : Cert.Ffn1.Facts) (hFfn1Ideal : Cert.Ffn1Ideal.Facts) (hFfn1RefIdeal : Cert.Ffn1RefIdeal.Facts) (hAct1 : Cert.Act1.Facts) (hAct1Ideal : Cert.Act1Ideal.Facts) (hAct1RefIdeal : Cert.Act1RefIdeal.Facts) (hIn1 : Cert.In1.Facts) (hIn1Ideal : Cert.In1Ideal.Facts) (hIn1RefIdeal : Cert.In1RefIdeal.Facts) (hLast : Cert.Last.Facts) (hLastIdeal : Cert.LastIdeal.Facts) (hLastRefIdeal : Cert.LastRefIdeal.Facts) (hPre_finite : Cert.Pre_finite.Facts) (hPre_finite3 : Cert.Pre_finite3.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_Up1 (hUp1 := hUp1)
    ∧ quiescent_Up1Ideal (hUp1Ideal := hUp1Ideal)
    ∧ quiescent_Up1RefIdeal (hUp1RefIdeal := hUp1RefIdeal)
    ∧ quiescent_Down1 (hDown1 := hDown1)
    ∧ quiescent_Down1Ideal (hDown1Ideal := hDown1Ideal)
    ∧ quiescent_Down1RefIdeal (hDown1RefIdeal := hDown1RefIdeal)
    ∧ quiescent_Proj (hProj := hProj)
    ∧ quiescent_ProjIdeal (hProjIdeal := hProjIdeal)
    ∧ quiescent_ProjRefIdeal (hProjRefIdeal := hProjRefIdeal)
    ∧ quiescent_Branch (hBranch := hBranch)
    ∧ quiescent_BranchIdeal (hBranchIdeal := hBranchIdeal)
    ∧ quiescent_BranchRefIdeal (hBranchRefIdeal := hBranchRefIdeal)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Act1 (hAct1 := hAct1)
    ∧ quiescent_Act1Ideal (hAct1Ideal := hAct1Ideal)
    ∧ quiescent_Act1Ideal_pre_finite3 (hAct1Ideal := hAct1Ideal) (hPre_finite3 := hPre_finite3)
    ∧ quiescent_Act1RefIdeal (hAct1RefIdeal := hAct1RefIdeal)
    ∧ quiescent_Act1RefIdeal_pre_finite3 (hAct1RefIdeal := hAct1RefIdeal) (hPre_finite3 := hPre_finite3)
    ∧ quiescent_In1 (hIn1 := hIn1)
    ∧ quiescent_In1Ideal (hIn1Ideal := hIn1Ideal)
    ∧ quiescent_In1Ideal_pre_finite5 (hIn1Ideal := hIn1Ideal) (hPre_finite5 := hPre_finite5)
    ∧ quiescent_In1RefIdeal (hIn1RefIdeal := hIn1RefIdeal)
    ∧ quiescent_In1RefIdeal_pre_finite5 (hIn1RefIdeal := hIn1RefIdeal) (hPre_finite5 := hPre_finite5)
    ∧ quiescent_Last (hLast := hLast)
    ∧ quiescent_LastIdeal (hLastIdeal := hLastIdeal)
    ∧ quiescent_LastIdeal_pre_finite6 (hLastIdeal := hLastIdeal) (hPre_finite6 := hPre_finite6)
    ∧ quiescent_LastRefIdeal (hLastRefIdeal := hLastRefIdeal)
    ∧ quiescent_LastRefIdeal_pre_finite6 (hLastRefIdeal := hLastRefIdeal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn2_Ffn2Ideal
    ∧ algebraic_Ffn2Ideal_Ffn2RefIdeal (hFfn2Ideal := hFfn2Ideal) (hFfn2RefIdeal := hFfn2RefIdeal)
    ∧ preserves_Up1_Up1Ideal
    ∧ algebraic_Up1Ideal_Up1RefIdeal (hUp1Ideal := hUp1Ideal) (hUp1RefIdeal := hUp1RefIdeal)
    ∧ preserves_Down1_Down1Ideal
    ∧ algebraic_Down1Ideal_Down1RefIdeal (hDown1Ideal := hDown1Ideal) (hDown1RefIdeal := hDown1RefIdeal)
    ∧ preserves_Proj_ProjIdeal
    ∧ algebraic_ProjIdeal_ProjRefIdeal (hProjIdeal := hProjIdeal) (hProjRefIdeal := hProjRefIdeal)
    ∧ preserves_Branch_BranchIdeal
    ∧ algebraic_BranchIdeal_BranchRefIdeal (hBranchIdeal := hBranchIdeal) (hBranchRefIdeal := hBranchRefIdeal)
    ∧ preserves_Ffn1_Ffn1Ideal
    ∧ algebraic_Ffn1Ideal_Ffn1RefIdeal (hFfn1Ideal := hFfn1Ideal) (hFfn1RefIdeal := hFfn1RefIdeal)
    ∧ preserves_Act1_Act1Ideal
    ∧ algebraic_Act1Ideal_Act1RefIdeal_pre_finite3 (hAct1Ideal := hAct1Ideal) (hAct1RefIdeal := hAct1RefIdeal) (hPre_finite3 := hPre_finite3)
    ∧ preserves_In1_In1Ideal
    ∧ algebraic_In1Ideal_In1RefIdeal_pre_finite5 (hIn1Ideal := hIn1Ideal) (hIn1RefIdeal := hIn1RefIdeal) (hPre_finite5 := hPre_finite5)
    ∧ preserves_Last_LastIdeal
    ∧ algebraic_LastIdeal_LastRefIdeal_pre_finite6 (hLastIdeal := hLastIdeal) (hLastRefIdeal := hLastRefIdeal) (hPre_finite6 := hPre_finite6)
-- ==== Pre_finite.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2048x512 .f32) (main_arg1 : FVec F S2048x512 .f32) (main_arg2 : FVec F S2048x512 .f32) (main_arg3 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : FVec F S2048x512 .f32 := Host.absf main_arg2
  let main_cst_2 : FVec F S_ .f32 := constant S_ .f32 0x7F800000#32
  let main_v9 : FVec F S2048x512 .f32 := broadcastInDim S2048x512 ![] bcast_S_S2048x512 main_cst_2
  let main_v10 : IVec S2048x512 1 := cmpf .olt main_v8 main_v9
  let main_c_3 : IVec S_ 1 := constantI S_ 1 1#1
  let main_v11 : IVec S_ 1 := (fun x v => Host.reduce IntOp.andi x v reducesTo_S2048x512_S_d0_1 h_S_) main_v10 main_c_3
  let main_v12 : FVec F S2048x512 .f32 := Host.absf main_arg3
  let main_cst_4 : FVec F S_ .f32 := constant S_ .f32 0x7F800000#32
  let main_v13 : FVec F S2048x512 .f32 := broadcastInDim S2048x512 ![] bcast_S_S2048x512 main_cst_4
  let main_v14 : IVec S2048x512 1 := cmpf .olt main_v12 main_v13
  let main_c_5 : IVec S_ 1 := constantI S_ 1 1#1
  let main_v15 : IVec S_ 1 := (fun x v => Host.reduce IntOp.andi x v reducesTo_S2048x512_S_d0_1 h_S_) main_v14 main_c_5
  fn_part1 (F := F) main_v3 main_v7 main_v11 main_v15
-- ==== Pre_finite3.lean ====
abbrev S2048x1024 : Shape := ⟨2, ![2048, 1024]⟩
abbrev S2048x5632 : Shape := ⟨2, ![2048, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S2048x1024 .f32) (main_arg1 : FVec F S2048x5632 .f32) (main_arg2 : FVec F S2816x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x5632 .f32 := Host.absf main_arg1
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : FVec F S2816x1024 .f32 := Host.absf main_arg2
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : IVec S_ 1 := andi main_v3 main_v7
  let main_v13 : IVec S_ 1 := andi main_v12 main_v11
  main_v13
-- ==== Pre_finite5.lean ====
abbrev S2048x1024 : Shape := ⟨2, ![2048, 1024]⟩
abbrev S1x1024 : Shape := ⟨2, ![1, 1024]⟩
abbrev S2048x5632 : Shape := ⟨2, ![2048, 5632]⟩
abbrev S1024x5632 : Shape := ⟨2, ![1024, 5632]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S2048x5632 : S_.BroadcastsInDim S2048x5632 (![] : Fin 0 → Fin S2048x5632.rank)
  reducesTo_S2048x5632_S_d0_1 : S2048x5632.ReducesTo [0, 1] S_
  bcast_S_S1024x5632 : S_.BroadcastsInDim S1024x5632 (![] : Fin 0 → Fin S1024x5632.rank)
  reducesTo_S1024x5632_S_d0_1 : S1024x5632.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2048x1024 .f32) (main_arg1 : FVec F S2048x1024 .f32) (main_arg2 : FVec F S1x1024 .f32) (main_arg3 : FVec F S2048x5632 .f32) (main_arg4 : FVec F S1024x5632 .f32) : IVec S_ 1 :=
  let main_v0 : FVec F S2048x1024 .f32 := Host.absf main_arg1
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S2048x5632 .f32 := Host.absf main_arg3
  let main_cst_2 : FVec F S_ .f32 := constant S_ .f32 0x7F800000#32
  let main_v9 : FVec F S2048x5632 .f32 := broadcastInDim S2048x5632 ![] bcast_S_S2048x5632 main_cst_2
  let main_v10 : IVec S2048x5632 1 := cmpf .olt main_v8 main_v9
  let main_c_3 : IVec S_ 1 := constantI S_ 1 1#1
  let main_v11 : IVec S_ 1 := (fun x v => Host.reduce IntOp.andi x v reducesTo_S2048x5632_S_d0_1 h_S_) main_v10 main_c_3
  let main_v12 : FVec F S1024x5632 .f32 := Host.absf main_arg4
  let main_cst_4 : FVec F S_ .f32 := constant S_ .f32 0x7F800000#32
  let main_v13 : FVec F S1024x5632 .f32 := broadcastInDim S1024x5632 ![] bcast_S_S1024x5632 main_cst_4
  let main_v14 : IVec S1024x5632 1 := cmpf .olt main_v12 main_v13
  let main_c_5 : IVec S_ 1 := constantI S_ 1 1#1
  let main_v15 : IVec S_ 1 := (fun x v => Host.reduce IntOp.andi x v reducesTo_S1024x5632_S_d0_1 h_S_) main_v14 main_c_5
  fn_part1 (F := F) main_v3 main_v7 main_v11 main_v15
-- ==== Pre_finite6.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2048x1024 .f32) (main_arg5 : FVec F S1x1024 .f32) (main_v3 : IVec S_ 1) (main_v7 : IVec S_ 1) (main_v11 : IVec S_ 1) (main_v15 : IVec S_ 1) : IVec S_ 1 :=
  let main_v16 : FVec F S2048x1024 .f32 := Host.absf main_arg4
  let main_cst_6 : FVec F S_ .f32 := constant S_ .f32 0x7F800000#32
  let main_v17 : FVec F S2048x1024 .f32 := broadcastInDim S2048x1024 ![] bcast_S_S2048x1024 main_cst_6
  let main_v18 : IVec S2048x1024 1 := cmpf .olt main_v16 main_v17
  let main_c_7 : IVec S_ 1 := constantI S_ 1 1#1
  let main_v19 : IVec S_ 1 := (fun x v => Host.reduce IntOp.andi x v reducesTo_S2048x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2048x1024 .f32) (main_arg1 : FVec F S1x1024 .f32) (main_arg2 : FVec F S1024x5632 .f32) (main_arg3 : FVec F S2816x1024 .f32) (main_arg4 : FVec F S2048x1024 .f32) (main_arg5 : FVec F S1x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x5632 .f32 := Host.absf main_arg2
  let main_cst_2 : FVec F S_ .f32 := constant S_ .f32 0x7F800000#32
  let main_v9 : FVec F S1024x5632 .f32 := broadcastInDim S1024x5632 ![] bcast_S_S1024x5632 main_cst_2
  let main_v10 : IVec S1024x5632 1 := cmpf .olt main_v8 main_v9
  let main_c_3 : IVec S_ 1 := constantI S_ 1 1#1
  let main_v11 : IVec S_ 1 := (fun x v => Host.reduce IntOp.andi x v reducesTo_S1024x5632_S_d0_1 h_S_) main_v10 main_c_3
  let main_v12 : FVec F S2816x1024 .f32 := Host.absf main_arg3
  let main_cst_4 : FVec F S_ .f32 := constant S_ .f32 0x7F800000#32
  let main_v13 : FVec F S2816x1024 .f32 := broadcastInDim S2816x1024 ![] bcast_S_S2816x1024 main_cst_4
  let main_v14 : IVec S2816x1024 1 := cmpf .olt main_v12 main_v13
  let main_c_5 : IVec S_ 1 := constantI S_ 1 1#1
  let main_v15 : IVec S_ 1 := (fun x v => Host.reduce IntOp.andi x v reducesTo_S2816x1024_S_d0_1 h_S_) main_v14 main_c_5
  fn_part1 (F := F) main_arg4 main_arg5 main_v3 main_v7 main_v11 main_v15
-- ==== Kernel.lean ====
abbrev S2048x512 : Shape := ⟨2, ![2048, 512]⟩
abbrev S2048x8x64 : Shape := ⟨3, ![2048, 8, 64]⟩
abbrev S8x2048x64 : Shape := ⟨3, ![8, 2048, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S2048x8 : Shape := ⟨2, ![2048, 8]⟩
abbrev S2048x8x1 : Shape := ⟨3, ![2048, 8, 1]⟩
abbrev S512x128 : Shape := ⟨2, ![512, 128]⟩
abbrev S2048x128 : Shape := ⟨2, ![2048, 128]⟩
abbrev S256x256 : Shape := ⟨2, ![256, 256]⟩
abbrev S1x128 : Shape := ⟨2, ![1, 128]⟩
abbrev S256x128 : Shape := ⟨2, ![256, 128]⟩
abbrev S256x1 : Shape := ⟨2, ![256, 1]⟩
abbrev S256 : Shape := ⟨1, ![256]⟩

abbrev nBuf : Space → Nat
  | .hbm => 59
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .bf16⟩
  | .hbm, ⟨5, _⟩ => ⟨S2048x512, .bf16⟩
  | .hbm, ⟨6, _⟩ => ⟨S2048x512, .bf16⟩
  | .hbm, ⟨7, _⟩ => ⟨S2048x512, .bf16⟩
  | .hbm, ⟨8, _⟩ => ⟨S2048x8x64, .f32⟩
  | .hbm, ⟨9, _⟩ => ⟨S8x2048x64, .f32⟩
  | .hbm, ⟨10, _⟩ => ⟨S2048x8x64, .f32⟩
  | .hbm, ⟨11, _⟩ => ⟨S8x2048x64, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S2048, .i32⟩
  | .hbm, ⟨17, _⟩ => ⟨S1x2048, .i32⟩
  | .hbm, ⟨18, _⟩ => ⟨S2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .i1⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S_, .f32⟩
  | .hbm, ⟨47, _⟩ => ⟨S8x2048x2048, .i1⟩
  | .hbm, ⟨48, _⟩ => ⟨S8x2048x2048, .f32⟩
  | .hbm, ⟨49, _⟩ => ⟨S8x2048x2048, .f32⟩
  | .hbm, ⟨50, _⟩ => ⟨S_, .f32⟩
  | .hbm, ⟨51, _⟩ => ⟨S8x2048, .f32⟩
  | .hbm, ⟨52, _⟩ => ⟨S2048x8, .f32⟩
  | .hbm, ⟨53, _⟩ => ⟨S2048x8x1, .f32⟩
  | .hbm, ⟨54, _⟩ => ⟨S2048x8x64, .f32⟩
  | .hbm, ⟨55, _⟩ => ⟨S2048x512, .f32⟩
  | .hbm, ⟨56, _⟩ => ⟨S2048x512, .bf16⟩
  | .hbm, ⟨57, _⟩ => ⟨S2048x512, .bf16⟩
  | .hbm, ⟨58, _⟩ => ⟨S2048x512, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .f32⟩
  | .local _ .vmem, ⟨17, _⟩ => ⟨S2048x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v19 : Ref sig .tc := ⟨.hbm, 39, rfl⟩
abbrev main_cst_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_1 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_cst_2 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30_0 : Ref sig .tc := ⟨.hbm, 56, rfl⟩
abbrev main_v30_1 : Ref sig .tc := ⟨.hbm, 57, rfl⟩
abbrev main_v30_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_31 : BitVec 32 := 0#32
  let c2_i32 : BitVec 32 := 2#32
  let arg1 : BitVec 32 := BitVec.ofNat 32 (i 1).val
  let v0 : BitVec 32 := Scalar.muli c2_i32 arg1
  let c0_i32_26 : BitVec 32 := 0#32
  let v72 : BitVec 1 := Scalar.cmpi .sgt v0 c0_i32_26
  let v73 : BitVec 32 := Scalar.extui v72
  let c0_i32_27 : BitVec 32 := 0#32
  let v74 : BitVec 1 := Scalar.cmpi .slt v0 c0_i32_27
  let v75 : BitVec 32 := Scalar.extui v74
  let v76 : BitVec 32 := Scalar.subi v73 v75
  let c2_i32_25 : BitVec 32 := 2#32
  let c0_i32_28 : BitVec 32 := 0#32
  let v77 : BitVec 1 := Scalar.cmpi .sgt c2_i32_25 c0_i32_28
  let v78 : BitVec 32 := Scalar.extui v77
  let c0_i32_29 : BitVec 32 := 0#32
  let v79 : BitVec 1 := Scalar.cmpi .slt c2_i32_25 c0_i32_29
  let v80 : BitVec 32 := Scalar.extui v79
  let v81 : BitVec 32 := Scalar.subi v78 v80
  let v82 : BitVec 1 := Scalar.cmpi .ne v76 v81
  let v83 : BitVec 32 := Scalar.remsi v0 c2_i32_25
  let c0_i32_30 : BitVec 32 := 0#32
  let v84 : BitVec 1 := Scalar.cmpi .ne v83 c0_i32_30
  let v85 : BitVec 1 := Scalar.andi v82 v84
  let v71 : BitVec 32 := Scalar.divsi v0 c2_i32_25
  let c1_i32 : BitVec 32 := 1#32
  let v86 : BitVec 32 := Scalar.subi v71 c1_i32
  let v87 : BitVec 32 := Scalar.select v85 v86 v71
  let v88 : BitVec 32 := Scalar.subi v87 c0_i32_31
  let c1_i32_32 : BitVec 32 := 1#32
  let v90 : BitVec 32 := Scalar.divsi v88 c1_i32_32
  let v91 : BitVec 32 := Scalar.muli v90 c1_i32_32
  let v92 : BitVec 32 := Scalar.addi c0_i32_31 v91
  let c1_i32_33 : BitVec 32 := 1#32
  ⟨c0_i32_31, v92, c1_i32_33⟩
def k0_mult1 (i : grid0.Coords) (k0_t1 : Fin (k0_t1_loop i).trips) : BitVec 32 :=
  let c2_i32_160 : BitVec 32 := 2#32
  let c0_i32_31 : BitVec 32 := 0#32
  let c1_i32_33 : BitVec 32 := 1#32
  let arg12 : BitVec 32 := Scf.iv c0_i32_31 c1_i32_33 k0_t1
  let v509 : BitVec 32 := Scalar.muli c2_i32_160 arg12
  let c256_i32_163 : BitVec 32 := 256#32
  let v512 : BitVec 32 := Scalar.muli v509 c256_i32_163
  v512
def k0_mult2 (i : grid0.Coords) (k0_t1 : Fin (k0_t1_loop i).trips) : BitVec 32 :=
  let c2_i32_161 : BitVec 32 := 2#32
  let c0_i32_31 : BitVec 32 := 0#32
  let c1_i32_33 : BitVec 32 := 1#32
  let arg12 : BitVec 32 := Scf.iv c0_i32_31 c1_i32_33 k0_t1
  let v510 : BitVec 32 := Scalar.muli c2_i32_161 arg12
  let c1_i32_162 : BitVec 32 := 1#32
  let v511 : BitVec 32 := Scalar.addi v510 c1_i32_162
  let c256_i32_164 : BitVec 32 := 256#32
  let v514 : BitVec 32 := Scalar.muli v511 c256_i32_164
  v514
def k0_off1 (i : grid0.Coords) (k0_t1 : Fin (k0_t1_loop i).trips) : Fin 2 → Nat :=
  let c2_i32_160 : BitVec 32 := 2#32
  let c0_i32_31 : BitVec 32 := 0#32
  let c1_i32_33 : BitVec 32 := 1#32
  let arg12 : BitVec 32 := Scf.iv c0_i32_31 c1_i32_33 k0_t1
  let v509 : BitVec 32 := Scalar.muli c2_i32_160 arg12
  let c256_i32_163 : BitVec 32 := 256#32
  let v512 : BitVec 32 := Scalar.muli v509 c256_i32_163
  let v513 : BitVec 32 := v512
  let v516 : Index := Scalar.indexCast v513
  let c0_165 : Index := 0#32
  ![v516.toNat, 0]
def k0_off2 (i : grid0.Coords) (k0_t1 : Fin (k0_t1_loop i).trips) : Fin 2 → Nat :=
  let c2_i32_161 : BitVec 32 := 2#32
  let c0_i32_31 : BitVec 32 := 0#32
  let c1_i32_33 : BitVec 32 := 1#32
  let arg12 : BitVec 32 := Scf.iv c0_i32_31 c1_i32_33 k0_t1
  let v510 : BitVec 32 := Scalar.muli c2_i32_161 arg12
  let c1_i32_162 : BitVec 32 := 1#32
  let v511 : BitVec 32 := Scalar.addi v510 c1_i32_162
  let c256_i32_164 : BitVec 32 := 256#32
  let v514 : BitVec 32 := Scalar.muli v511 c256_i32_164
  let v515 : BitVec 32 := v514
  let v519 : Index := Scalar.indexCast v515
  let c0_166 : Index := 0#32
  ![v519.toNat, 0]
@[reducible] def k0_t2_loop (i : grid0.Coords) : Scf.Loop 32 :=
  let c0_i32_31 : BitVec 32 := 0#32
  let c2_i32 : BitVec 32 := 2#32
  let arg1 : BitVec 32 := BitVec.ofNat 32 (i 1).val
  let v0 : BitVec 32 := Scalar.muli c2_i32 arg1
  let c0_i32_26 : BitVec 32 := 0#32
  let v72 : BitVec 1 := Scalar.cmpi .sgt v0 c0_i32_26
  let v73 : BitVec 32 := Scalar.extui v72
  let c0_i32_27 : BitVec 32 := 0#32
  let v74 : BitVec 1 := Scalar.cmpi .slt v0 c0_i32_27
  let v75 : BitVec 32 := Scalar.extui v74
  let v76 : BitVec 32 := Scalar.subi v73 v75
  let c2_i32_25 : BitVec 32 := 2#32
  let c0_i32_28 : BitVec 32 := 0#32
  let v77 : BitVec 1 := Scalar.cmpi .sgt c2_i32_25 c0_i32_28
  let v78 : BitVec 32 := Scalar.extui v77
  let c0_i32_29 : BitVec 32 := 0#32
  let v79 : BitVec 1 := Scalar.cmpi .slt c2_i32_25 c0_i32_29
  let v80 : BitVec 32 := Scalar.extui v79
  let v81 : BitVec 32 := Scalar.subi v78 v80
  let v82 : BitVec 1 := Scalar.cmpi .ne v76 v81
  let v83 : BitVec 32 := Scalar.remsi v0 c2_i32_25
  let c0_i32_30 : BitVec 32 := 0#32
  let v84 : BitVec 1 := Scalar.cmpi .ne v83 c0_i32_30
  let v85 : BitVec 1 := Scalar.andi v82 v84
  let v71 : BitVec 32 := Scalar.divsi v0 c2_i32_25
  let c1_i32 : BitVec 32 := 1#32
  let v86 : BitVec 32 := Scalar.subi v71 c1_i32
  let v87 : BitVec 32 := Scalar.select v85 v86 v71
  let v88 : BitVec 32 := Scalar.subi v87 c0_i32_31
  let c1_i32_32 : BitVec 32 := 1#32
  let v90 : BitVec 32 := Scalar.divsi v88 c1_i32_32
  let v91 : BitVec 32 := Scalar.muli v90 c1_i32_32
  let v92 : BitVec 32 := Scalar.addi c0_i32_31 v91
  let v89 : BitVec 32 := Scalar.addi c0_i32_31 v88
  let c1_i32_34 : BitVec 32 := 1#32
  ⟨v92, v89, c1_i32_34⟩
def k0_mult3 (i : grid0.Coords) (k0_t2 : Fin (k0_t2_loop i).trips) : BitVec 32 :=
  let c2_i32_160 : BitVec 32 := 2#32
  let c0_i32_31 : BitVec 32 := 0#32
  let c2_i32 : BitVec 32 := 2#32
  let arg1 : BitVec 32 := BitVec.ofNat 32 (i 1).val
  let v0 : BitVec 32 := Scalar.muli c2_i32 arg1
  let c0_i32_26 : BitVec 32 := 0#32
  let v72 : BitVec 1 := Scalar.cmpi .sgt v0 c0_i32_26
  let v73 : BitVec 32 := Scalar.extui v72
  let c0_i32_27 : BitVec 32 := 0#32
  let v74 : BitVec 1 := Scalar.cmpi .slt v0 c0_i32_27
  let v75 : BitVec 32 := Scalar.extui v74
  let v76 : BitVec 32 := Scalar.subi v73 v75
  let c2_i32_25 : BitVec 32 := 2#32
  let c0_i32_28 : BitVec 32 := 0#32
  let v77 : BitVec 1 := Scalar.cmpi .sgt c2_i32_25 c0_i32_28
  let v78 : BitVec 32 := Scalar.extui v77
  let c0_i32_29 : BitVec 32 := 0#32
  let v79 : BitVec 1 := Scalar.cmpi .slt c2_i32_25 c0_i32_29
  let v80 : BitVec 32 := Scalar.extui v79
  let v81 : BitVec 32 := Scalar.subi v78 v80
  let v82 : BitVec 1 := Scalar.cmpi .ne v76 v81
  let v83 : BitVec 32 := Scalar.remsi v0 c2_i32_25
  let c0_i32_30 : BitVec 32 := 0#32
  let v84 : BitVec 1 := Scalar.cmpi .ne v83 c0_i32_30
  let v85 : BitVec 1 := Scalar.andi v82 v84
  let v71 : BitVec 32 := Scalar.divsi v0 c2_i32_25
  let c1_i32 : BitVec 32 := 1#32
  let v86 : BitVec 32 := Scalar.subi v71 c1_i32
  let v87 : BitVec 32 := Scalar.select v85 v86 v71
  let v88 : BitVec 32 := Scalar.subi v87 c0_i32_31
  let c1_i32_32 : BitVec 32 := 1#32
  let v90 : BitVec 32 := Scalar.divsi v88 c1_i32_32
  let v91 : BitVec 32 := Scalar.muli v90 c1_i32_32
  let v92 : BitVec 32 := Scalar.addi c0_i32_31 v91
  let c1_i32_34 : BitVec 32 := 1#32
  let arg12 : BitVec 32 := Scf.iv v92 c1_i32_34 k0_t2
  let v509 : BitVec 32 := Scalar.muli c2_i32_160 arg12
  let c256_i32_163 : BitVec 32 := 256#32
  let v512 : BitVec 32 := Scalar.muli v509 c256_i32_163
  v512
def k0_mult4 (i : grid0.Coords) (k0_t2 : Fin (k0_t2_loop i).trips) : BitVec 32 :=
  let c2_i32_161 : BitVec 32 := 2#32
  let c0_i32_31 : BitVec 32 := 0#32
  let c2_i32 : BitVec 32 := 2#32
  let arg1 : BitVec 32 := BitVec.ofNat 32 (i 1).val
  let v0 : BitVec 32 := Scalar.muli c2_i32 arg1
  let c0_i32_26 : BitVec 32 := 0#32
  let v72 : BitVec 1 := Scalar.cmpi .sgt v0 c0_i32_26
  let v73 : BitVec 32 := Scalar.extui v72
  let c0_i32_27 : BitVec 32 := 0#32
  let v74 : BitVec 1 := Scalar.cmpi .slt v0 c0_i32_27
  let v75 : BitVec 32 := Scalar.extui v74
  let v76 : BitVec 32 := Scalar.subi v73 v75
  let c2_i32_25 : BitVec 32 := 2#32
  let c0_i32_28 : BitVec 32 := 0#32
  let v77 : BitVec 1 := Scalar.cmpi .sgt c2_i32_25 c0_i32_28
  let v78 : BitVec 32 := Scalar.extui v77
  let c0_i32_29 : BitVec 32 := 0#32
  let v79 : BitVec 1 := Scalar.cmpi .slt c2_i32_25 c0_i32_29
  let v80 : BitVec 32 := Scalar.extui v79
  let v81 : BitVec 32 := Scalar.subi v78 v80
  let v82 : BitVec 1 := Scalar.cmpi .ne v76 v81
  let v83 : BitVec 32 := Scalar.remsi v0 c2_i32_25
  let c0_i32_30 : BitVec 32 := 0#32
  let v84 : BitVec 1 := Scalar.cmpi .ne v83 c0_i32_30
  let v85 : BitVec 1 := Scalar.andi v82 v84
  let v71 : BitVec 32 := Scalar.divsi v0 c2_i32_25
  let c1_i32 : BitVec 32 := 1#32
  let v86 : BitVec 32 := Scalar.subi v71 c1_i32
  let v87 : BitVec 32 := Scalar.select v85 v86 v71
  let v88 : BitVec 32 := Scalar.subi v87 c0_i32_31
  let c1_i32_32 : BitVec 32 := 1#32
  let v90 : BitVec 32 := Scalar.divsi v88 c1_i32_32
  let v91 : BitVec 32 := Scalar.muli v90 c1_i32_32
  let v92 : BitVec 32 := Scalar.addi c0_i32_31 v91
  let c1_i32_34 : BitVec 32 := 1#32
  let arg12 : BitVec 32 := Scf.iv v92 c1_i32_34 k0_t2
  let v510 : BitVec 32 := Scalar.muli c2_i32_161 arg12
  let c1_i32_162 : BitVec 32 := 1#32
  let v511 : BitVec 32 := Scalar.addi v510 c1_i32_162
  let c256_i32_164 : BitVec 32 := 256#32
  let v514 : BitVec 32 := Scalar.muli v511 c256_i32_164
  v514
def k0_off3 (i : grid0.Coords) (k0_t2 : Fin (k0_t2_loop i).trips) : Fin 2 → Nat :=
  let c2_i32_160 : BitVec 32 := 2#32
  let c0_i32_31 : BitVec 32 := 0#32
  let c2_i32 : BitVec 32 := 2#32
  let arg1 : BitVec 32 := BitVec.ofNat 32 (i 1).val
  let v0 : BitVec 32 := Scalar.muli c2_i32 arg1
  let c0_i32_26 : BitVec 32 := 0#32
  let v72 : BitVec 1 := Scalar.cmpi .sgt v0 c0_i32_26
  let v73 : BitVec 32 := Scalar.extui v72
  let c0_i32_27 : BitVec 32 := 0#32
  let v74 : BitVec 1 := Scalar.cmpi .slt v0 c0_i32_27
  let v75 : BitVec 32 := Scalar.extui v74
  let v76 : BitVec 32 := Scalar.subi v73 v75
  let c2_i32_25 : BitVec 32 := 2#32
  let c0_i32_28 : BitVec 32 := 0#32
  let v77 : BitVec 1 := Scalar.cmpi .sgt c2_i32_25 c0_i32_28
  let v78 : BitVec 32 := Scalar.extui v77
  let c0_i32_29 : BitVec 32 := 0#32
  let v79 : BitVec 1 := Scalar.cmpi .slt c2_i32_25 c0_i32_29
  let v80 : BitVec 32 := Scalar.extui v79
  let v81 : BitVec 32 := Scalar.subi v78 v80
  let v82 : BitVec 1 := Scalar.cmpi .ne v76 v81
  let v83 : BitVec 32 := Scalar.remsi v0 c2_i32_25
  let c0_i32_30 : BitVec 32 := 0#32
  let v84 : BitVec 1 := Scalar.cmpi .ne v83 c0_i32_30
  let v85 : BitVec 1 := Scalar.andi v82 v84
  let v71 : BitVec 32 := Scalar.divsi v0 c2_i32_25
  let c1_i32 : BitVec 32 := 1#32
  let v86 : BitVec 32 := Scalar.subi v71 c1_i32
  let v87 : BitVec 32 := Scalar.select v85 v86 v71
  let v88 : BitVec 32 := Scalar.subi v87 c0_i32_31
  let c1_i32_32 : BitVec 32 := 1#32
  let v90 : BitVec 32 := Scalar.divsi v88 c1_i32_32
  let v91 : BitVec 32 := Scalar.muli v90 c1_i32_32
  let v92 : BitVec 32 := Scalar.addi c0_i32_31 v91
  let c1_i32_34 : BitVec 32 := 1#32
  let arg12 : BitVec 32 := Scf.iv v92 c1_i32_34 k0_t2
  let v509 : BitVec 32 := Scalar.muli c2_i32_160 arg12
  let c256_i32_163 : BitVec 32 := 256#32
  let v512 : BitVec 32 := Scalar.muli v509 c256_i32_163
  let v513 : BitVec 32 := v512
  let v516 : Index := Scalar.indexCast v513
  let c0_165 : Index := 0#32
  ![v516.toNat, 0]
def k0_off4 (i : grid0.Coords) (k0_t2 : Fin (k0_t2_loop i).trips) : Fin 2 → Nat :=
  let c2_i32_161 : BitVec 32 := 2#32
  let c0_i32_31 : BitVec 32 := 0#32
  let c2_i32 : BitVec 32 := 2#32
  let arg1 : BitVec 32 := BitVec.ofNat 32 (i 1).val
  let v0 : BitVec 32 := Scalar.muli c2_i32 arg1
  let c0_i32_26 : BitVec 32 := 0#32
  let v72 : BitVec 1 := Scalar.cmpi .sgt v0 c0_i32_26
  let v73 : BitVec 32 := Scalar.extui v72
  let c0_i32_27 : BitVec 32 := 0#32
  let v74 : BitVec 1 := Scalar.cmpi .slt v0 c0_i32_27
  let v75 : BitVec 32 := Scalar.extui v74
  let v76 : BitVec 32 := Scalar.subi v73 v75
  let c2_i32_25 : BitVec 32 := 2#32
  let c0_i32_28 : BitVec 32 := 0#32
  let v77 : BitVec 1 := Scalar.cmpi .sgt c2_i32_25 c0_i32_28
  let v78 : BitVec 32 := Scalar.extui v77
  let c0_i32_29 : BitVec 32 := 0#32
  let v79 : BitVec 1 := Scalar.cmpi .slt c2_i32_25 c0_i32_29
  let v80 : BitVec 32 := Scalar.extui v79
  let v81 : BitVec 32 := Scalar.subi v78 v80
  let v82 : BitVec 1 := Scalar.cmpi .ne v76 v81
  let v83 : BitVec 32 := Scalar.remsi v0 c2_i32_25
  let c0_i32_30 : BitVec 32 := 0#32
  let v84 : BitVec 1 := Scalar.cmpi .ne v83 c0_i32_30
  let v85 : BitVec 1 := Scalar.andi v82 v84
  let v71 : BitVec 32 := Scalar.divsi v0 c2_i32_25
  let c1_i32 : BitVec 32 := 1#32
  let v86 : BitVec 32 := Scalar.subi v71 c1_i32
  let v87 : BitVec 32 := Scalar.select v85 v86 v71
  let v88 : BitVec 32 := Scalar.subi v87 c0_i32_31
  let c1_i32_32 : BitVec 32 := 1#32
  let v90 : BitVec 32 := Scalar.divsi v88 c1_i32_32
  let v91 : BitVec 32 := Scalar.muli v90 c1_i32_32
  let v92 : BitVec 32 := Scalar.addi c0_i32_31 v91
  let c1_i32_34 : BitVec 32 := 1#32
  let arg12 : BitVec 32 := Scf.iv v92 c1_i32_34 k0_t2
  let v510 : BitVec 32 := Scalar.muli c2_i32_161 arg12
  let c1_i32_162 : BitVec 32 := 1#32
  let v511 : BitVec 32 := Scalar.addi v510 c1_i32_162
  let c256_i32_164 : BitVec 32 := 256#32
  let v514 : BitVec 32 := Scalar.muli v511 c256_i32_164
  let v515 : BitVec 32 := v514
  let v519 : Index := Scalar.indexCast v515
  let c0_166 : Index := 0#32
  ![v519.toNat, 0]
def k0_mult5 (i : grid0.Coords) : BitVec 32 :=
  let c2_i32 : BitVec 32 := 2#32
  let arg1 : BitVec 32 := BitVec.ofNat 32 (i 1).val
  let v0 : BitVec 32 := Scalar.muli c2_i32 arg1
  let c256_i32 : BitVec 32 := 256#32
  let v96 : BitVec 32 := Scalar.muli v0 c256_i32
  v96
def k0_mult6 (i : grid0.Coords) : BitVec 32 :=
  let c2_i32 : BitVec 32 := 2#32
  let arg1 : BitVec 32 := BitVec.ofNat 32 (i 1).val
  let v0 : BitVec 32 := Scalar.muli c2_i32 arg1
  let c1_i32_35 : BitVec 32 := 1#32
  let v95 : BitVec 32 := Scalar.addi v0 c1_i32_35
  let c256_i32_36 : BitVec 32 := 256#32
  let v98 : BitVec 32 := Scalar.muli v95 c256_i32_36
  v98
def k0_off5 (i : grid0.Coords) : Fin 2 → Nat :=
  let c2_i32 : BitVec 32 := 2#32
  let arg1 : BitVec 32 := BitVec.ofNat 32 (i 1).val
  let v0 : BitVec 32 := Scalar.muli c2_i32 arg1
  let c256_i32 : BitVec 32 := 256#32
  let v96 : BitVec 32 := Scalar.muli v0 c256_i32
  let v97 : BitVec 32 := v96
  let v100 : Index := Scalar.indexCast v97
  let c0_37 : Index := 0#32
  ![v100.toNat, 0]
def k0_off6 (i : grid0.Coords) : Fin 2 → Nat :=
  let c2_i32 : BitVec 32 := 2#32
  let arg1 : BitVec 32 := BitVec.ofNat 32 (i 1).val
  let v0 : BitVec 32 := Scalar.muli c2_i32 arg1
  let c1_i32_35 : BitVec 32 := 1#32
  let v95 : BitVec 32 := Scalar.addi v0 c1_i32_35
  let c256_i32_36 : BitVec 32 := 256#32
  let v98 : BitVec 32 := Scalar.muli v95 c256_i32_36
  let v99 : BitVec 32 := v98
  let v103 : Index := Scalar.indexCast v99
  let c0_38 : Index := 0#32
  ![v103.toNat, 0]
def k0_cond2 (i : grid0.Coords) : BitVec 1 :=
  let arg1 : BitVec 32 := BitVec.ofNat 32 (i 1).val
  let c3_i32 : BitVec 32 := 3#32
  let v506 : BitVec 1 := Scalar.cmpi .eq arg1 c3_i32
  let v507 : BitVec 32 := Scalar.extui v506
  let c0_i32_159 : BitVec 32 := 0#32
  let v508 : BitVec 1 := Scalar.cmpi .ne v507 c0_i32_159
  v508

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "log2e" => some (((Real.log 2)⁻¹ : ℝ) : EReal)
  | "scale_log2e" => some (((1 / 8) * (Real.log 2)⁻¹ : ℝ) : EReal)
  | _ => none
-- ==== ReferenceIdeal.lean ====
abbrev S2048x512 : Shape := ⟨2, ![2048, 512]⟩
abbrev S1x2048x8x64 : Shape := ⟨4, ![1, 2048, 8, 64]⟩
abbrev S1x8x2048x64 : Shape := ⟨4, ![1, 8, 2048, 64]⟩
abbrev S1x8x2048x2048 : Shape := ⟨4, ![1, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x8x64x2048 : Shape := ⟨4, ![1, 8, 64, 2048]⟩

abbrev nBuf : Space → Nat
  | .hbm => 180
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S1x2048x8x64, .f32⟩
  | 5 => ⟨S1x8x2048x64, .f32⟩
  | 6 => ⟨S1x2048x8x64, .f32⟩
  | 7 => ⟨S1x8x2048x64, .f32⟩
  | 8 => ⟨S1x2048x8x64, .f32⟩
  | 9 => ⟨S1x8x2048x64, .f32⟩
  | 10 => ⟨S1x8x2048x2048, .f32⟩
  | 11 => ⟨S_, .f32⟩
  | 12 => ⟨S1x8x2048x2048, .f32⟩
  | 13 => ⟨S1x8x2048x2048, .f32⟩
  | 14 => ⟨S2048, .i32⟩
  | 15 => ⟨S1x2048, .i32⟩
  | 16 => ⟨S2048, .i32⟩
  | 17 => ⟨S2048x1, .i32⟩
  | 18 => ⟨S2048x2048, .i32⟩
  | 19 => ⟨S2048x2048, .i32⟩
  | 20 => ⟨S2048x2048, .i1⟩
  | 21 => ⟨S1x8x2048x2048, .f32⟩
  | 22 => ⟨S_, .f32⟩
  | 23 => ⟨S1x8x2048x2048, .f32⟩
  | 24 => ⟨S1x8x2048x2048, .f32⟩
  | 25 => ⟨S1x8x2048x2048, .f32⟩
  | 26 => ⟨S1x8x2048x2048, .f32⟩
  | 27 => ⟨S1x8x2048x2048, .i1⟩
  | 28 => ⟨S1x8x2048x2048, .f32⟩
  | 29 => ⟨S1x8x2048x2048, .f32⟩
  | 30 => ⟨S1x8x2048x2048, .f32⟩
  | 31 => ⟨S1x8x2048x2048, .f32⟩
  | 32 => ⟨S1x8x2048x2048, .f32⟩
  | 33 => ⟨S1x8x2048x2048, .f32⟩
  | 34 => ⟨S1x8x2048x2048, .f32⟩
  | 35 => ⟨S1x8x2048x2048, .f32⟩
  | 36 => ⟨S_, .f32⟩
  | 37 => ⟨S1x8x2048x2048, .f32⟩
  | 38 => ⟨S1x8x2048x2048, .i1⟩
  | 39 => ⟨S_, .f32⟩
  | 40 => ⟨S1x8x2048x2048, .f32⟩
  | 41 => ⟨S1x8x2048x2048, .f32⟩
  | 42 => ⟨S_, .f32⟩
  | 43 => ⟨S1x8x2048x2048, .f32⟩
  | 44 => ⟨S1x8x2048x2048, .i1⟩
  | 45 => ⟨S_, .f32⟩
  | 46 => ⟨S1x8x2048x2048, .f32⟩
  | 47 => ⟨S1x8x2048x2048, .f32⟩
  | 48 => ⟨S1x8x2048x2048, .f32⟩
  | 49 => ⟨S1x8x2048x2048, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S1x8x2048x2048, .f32⟩
  | 58 => ⟨S1x8x2048x2048, .i1⟩
  | 59 => ⟨S_, .f32⟩
  | 60 => ⟨S1x8x2048x2048, .f32⟩
  | 61 => ⟨S1x8x2048x2048, .f32⟩
  | 62 => ⟨S1x8x2048x2048, .f32⟩
  | 63 => ⟨S1x8x2048x2048, .f32⟩
  | 64 => ⟨S1x8x2048x2048, .f32⟩
  | 65 => ⟨S_, .f32⟩
  | 66 => ⟨S1x8x2048x2048, .f32⟩
  | 67 => ⟨S1x8x2048x2048, .f32⟩
  | 68 => ⟨S1x8x2048x2048, .f32⟩
  | 69 => ⟨S1x8x2048x2048, .f32⟩
  | 70 => ⟨S1x8x2048x2048, .f32⟩
  | 71 => ⟨S_, .f32⟩
  | 72 => ⟨S1x8x2048x2048, .f32⟩
  | 73 => ⟨S1x8x2048x2048, .f32⟩
  | 74 => ⟨S1x8x2048x2048, .f32⟩
  | 75 => ⟨S1x8x2048x2048, .f32⟩
  | 76 => ⟨S1x8x2048x2048, .i1⟩
  | 77 => ⟨S1x8x2048x2048, .f32⟩
  | 78 => ⟨S1x8x2048x2048, .f32⟩
  | 79 => ⟨S1x8x2048x2048, .f32⟩
  | 80 => ⟨S1x8x2048x2048, .f32⟩
  | 81 => ⟨S1x8x2048x2048, .f32⟩
  | 82 => ⟨S1x8x2048x2048, .f32⟩
  | 83 => ⟨S1x8x2048x2048, .f32⟩
  | 84 => ⟨S1x8x2048x2048, .f32⟩
  | 85 => ⟨S_, .f32⟩
  | 86 => ⟨S1x8x2048x2048, .f32⟩
  | 87 => ⟨S1x8x2048x2048, .i1⟩
  | 88 => ⟨S_, .f32⟩
  | 89 => ⟨S1x8x2048x2048, .f32⟩
  | 90 => ⟨S1x8x2048x2048, .f32⟩
  | 91 => ⟨S_, .f32⟩
  | 92 => ⟨S1x8x2048x2048, .f32⟩
  | 93 => ⟨S1x8x2048x2048, .i1⟩
  | 94 => ⟨S_, .f32⟩
  | 95 => ⟨S1x8x2048x2048, .f32⟩
  | 96 => ⟨S1x8x2048x2048, .f32⟩
  | 97 => ⟨S1x8x2048x2048, .f32⟩
  | 98 => ⟨S1x8x2048x2048, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S1x8x2048x2048, .f32⟩
  | 107 => ⟨S1x8x2048x2048, .i1⟩
  | 108 => ⟨S_, .f32⟩
  | 109 => ⟨S1x8x2048x2048, .f32⟩
  | 110 => ⟨S1x8x2048x2048, .f32⟩
  | 111 => ⟨S1x8x2048x2048, .f32⟩
  | 112 => ⟨S1x8x2048x2048, .f32⟩
  | 113 => ⟨S1x8x2048x2048, .f32⟩
  | 114 => ⟨S_, .f32⟩
  | 115 => ⟨S1x8x2048x2048, .f32⟩
  | 116 => ⟨S1x8x2048x2048, .f32⟩
  | 117 => ⟨S1x8x2048x2048, .f32⟩
  | 118 => ⟨S_, .f32⟩
  | 119 => ⟨S_, .f32⟩
  | 120 => ⟨S1x8x2048x2048, .i1⟩
  | 121 => ⟨S1x8x2048x2048, .f32⟩
  | 122 => ⟨S1x8x2048x2048, .f32⟩
  | 123 => ⟨S_, .f32⟩
  | 124 => ⟨S1x8x2048x2048, .f32⟩
  | 125 => ⟨S_, .f32⟩
  | 126 => ⟨S_, .f32⟩
  | 127 => ⟨S1x8x2048x2048, .f32⟩
  | _ => ⟨S2048x512, .f32⟩

abbrev hbmTy0_1 (i : Nat) : BufTy := match i % 128 with
  | 0 => ⟨S1x8x2048x2048, .f32⟩
  | 1 => ⟨S1x8x2048x2048, .f32⟩
  | 2 => ⟨S1x8x2048x2048, .f32⟩
  | 3 => ⟨S_, .f32⟩
  | 4 => ⟨S_, .f32⟩
  | 5 => ⟨S1x8x2048x2048, .i1⟩
  | 6 => ⟨S1x8x2048x2048, .f32⟩
  | 7 => ⟨S1x8x2048x2048, .f32⟩
  | 8 => ⟨S_, .f32⟩
  | 9 => ⟨S1x8x2048x2048, .f32⟩
  | 10 => ⟨S1x8x2048x64, .f32⟩
  | 11 => ⟨S1x2048x8x64, .f32⟩
  | 12 => ⟨S2048x512, .f32⟩
  | 13 => ⟨S1x2048x8x64, .f32⟩
  | 14 => ⟨S1x8x2048x64, .f32⟩
  | 15 => ⟨S1x8x64x2048, .f32⟩
  | 16 => ⟨S1x8x2048x64, .f32⟩
  | 17 => ⟨S1x8x2048x2048, .f32⟩
  | 18 => ⟨S_, .f32⟩
  | 19 => ⟨S1x8x2048x2048, .f32⟩
  | 20 => ⟨S1x8x2048x2048, .f32⟩
  | 21 => ⟨S1x8x2048x2048, .f32⟩
  | 22 => ⟨S1x8x2048x2048, .f32⟩
  | 23 => ⟨S_, .f32⟩
  | 24 => ⟨S_, .f32⟩
  | 25 => ⟨S1x8x2048x2048, .f32⟩
  | 26 => ⟨S1x8x2048x2048, .f32⟩
  | 27 => ⟨S_, .f32⟩
  | 28 => ⟨S1x8x2048x2048, .f32⟩
  | 29 => ⟨S1x8x2048x2048, .f32⟩
  | 30 => ⟨S1x8x2048x2048, .f32⟩
  | 31 => ⟨S1x8x2048x2048, .f32⟩
  | 32 => ⟨S1x8x2048x2048, .f32⟩
  | 33 => ⟨S1x8x2048x2048, .f32⟩
  | 34 => ⟨S1x8x2048x2048, .f32⟩
  | 35 => ⟨S1x8x2048x2048, .f32⟩
  | 36 => ⟨S1x8x2048x2048, .f32⟩
  | 37 => ⟨S1x8x2048x2048, .f32⟩
  | 38 => ⟨S_, .f32⟩
  | 39 => ⟨S1x8x2048x2048, .f32⟩
  | 40 => ⟨S1x8x2048x2048, .f32⟩
  | 41 => ⟨S1x8x2048x64, .f32⟩
  | 42 => ⟨S1x8x2048x64, .f32⟩
  | 43 => ⟨S1x2048x8x64, .f32⟩
  | 44 => ⟨S2048x512, .f32⟩
  | 45 => ⟨S1x2048x8x64, .f32⟩
  | 46 => ⟨S2048x512, .f32⟩
  | 47 => ⟨S1x2048x8x64, .f32⟩
  | 48 => ⟨S2048x512, .f32⟩
  | 49 => ⟨S2048x512, .bf16⟩
  | 50 => ⟨S2048x512, .bf16⟩
  | 51 => ⟨S2048x512, .bf16⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v16_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v16_2 : Ref sig .tc := ⟨.hbm, 67, rfl⟩
abbrev main_v16_0 : Ref sig .tc := ⟨.hbm, 68, rfl⟩
abbrev main_v17 : Ref sig .tc := ⟨.hbm, 69, rfl⟩
abbrev main_call1_v0 : Ref sig .tc := ⟨.hbm, 70, rfl⟩
abbrev main_call1_call0_cst : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_call0_v9 : Ref sig .tc := ⟨.hbm, 81, rfl⟩
abbrev main_call1_call0_v10 : Ref sig .tc := ⟨.hbm, 82, rfl⟩
abbrev main_call1_call0_v11 : Ref sig .tc := ⟨.hbm, 83, rfl⟩
abbrev main_call1_v1_0 : Ref sig .tc := ⟨.hbm, 84, rfl⟩
abbrev main_call1_call0_cst_0 : Ref sig .tc := ⟨.hbm, 85, rfl⟩
abbrev main_call1_call0_v13 : Ref sig .tc := ⟨.hbm, 86, rfl⟩
abbrev main_call1_call0_v14 : Ref sig .tc := ⟨.hbm, 87, rfl⟩
abbrev main_call1_call0_cst_1 : Ref sig .tc := ⟨.hbm, 88, rfl⟩
abbrev main_call1_call0_v15 : Ref sig .tc := ⟨.hbm, 89, rfl⟩
abbrev main_call1_call0_v16 : Ref sig .tc := ⟨.hbm, 90, rfl⟩
abbrev main_call1_call0_cst_2 : Ref sig .tc := ⟨.hbm, 91, rfl⟩
abbrev main_call1_call0_v17 : Ref sig .tc := ⟨.hbm, 92, rfl⟩
abbrev main_call1_call0_v18 : Ref sig .tc := ⟨.hbm, 93, rfl⟩
abbrev main_call1_call0_cst_3 : Ref sig .tc := ⟨.hbm, 94, rfl⟩
abbrev main_call1_call0_v19 : Ref sig .tc := ⟨.hbm, 95, rfl⟩
abbrev main_call1_call0_v20 : Ref sig .tc := ⟨.hbm, 96, rfl⟩
abbrev main_call1_call0_v21 : Ref sig .tc := ⟨.hbm, 97, rfl⟩
abbrev main_v18_1 : Ref sig .tc := ⟨.hbm, 98, rfl⟩
abbrev main_call1_call0_cst_4 : Ref sig .tc := ⟨.hbm, 99, rfl⟩
abbrev main_call1_call0_cst_5 : Ref sig .tc := ⟨.hbm, 100, rfl⟩
abbrev main_call1_call0_v23 : Ref sig .tc := ⟨.hbm, 101, rfl⟩
abbrev main_call1_call0_cst_6 : Ref sig .tc := ⟨.hbm, 102, rfl⟩
abbrev main_call1_call0_cst_7 : Ref sig .tc := ⟨.hbm, 103, rfl⟩
abbrev main_call1_call0_v24 : Ref sig .tc := ⟨.hbm, 104, rfl⟩
abbrev main_call1_call0_cst_8 : Ref sig .tc := ⟨.hbm, 105, rfl⟩
abbrev main_call1_call0_v25 : Ref sig .tc := ⟨.hbm, 106, rfl⟩
abbrev main_call1_call0_v26 : Ref sig .tc := ⟨.hbm, 107, rfl⟩
abbrev main_call1_call0_cst_9 : Ref sig .tc := ⟨.hbm, 108, rfl⟩
abbrev main_call1_call0_v27 : Ref sig .tc := ⟨.hbm, 109, rfl⟩
abbrev main_call1_call0_v28 : Ref sig .tc := ⟨.hbm, 110, rfl⟩
abbrev main_call1_call0_v29 : Ref sig .tc := ⟨.hbm, 111, rfl⟩
abbrev main_call1_call0_v30 : Ref sig .tc := ⟨.hbm, 112, rfl⟩
abbrev main_call1_call0_v31 : Ref sig .tc := ⟨.hbm, 113, rfl⟩
abbrev main_call1_call0_cst_10 : Ref sig .tc := ⟨.hbm, 114, rfl⟩
abbrev main_call1_call0_v32 : Ref sig .tc := ⟨.hbm, 115, rfl⟩
abbrev main_v18_2 : Ref sig .tc := ⟨.hbm, 116, rfl⟩
abbrev main_v18_0 : Ref sig .tc := ⟨.hbm, 117, rfl⟩
abbrev main_cst_0 : Ref sig .tc := ⟨.hbm, 118, rfl⟩
abbrev main_call2_v0 : Ref sig .tc := ⟨.hbm, 119, rfl⟩
abbrev main_v19_1 : Ref sig .tc := ⟨.hbm, 120, rfl⟩
abbrev main_call2_v2 : Ref sig .tc := ⟨.hbm, 121, rfl⟩
abbrev main_v19_0 : Ref sig .tc := ⟨.hbm, 122, rfl⟩
abbrev main_call2_cst : Ref sig .tc := ⟨.hbm, 123, rfl⟩
abbrev main_v19_2 : Ref sig .tc := ⟨.hbm, 124, rfl⟩
abbrev main_call3_cst : Ref sig .tc := ⟨.hbm, 125, rfl⟩
abbrev main_call3_v0 : Ref sig .tc := ⟨.hbm, 126, rfl⟩
abbrev main_v20 : Ref sig .tc := ⟨.hbm, 127, rfl⟩
abbrev main_v21 : Ref sig .tc := ⟨.hbm, 128, rfl⟩
abbrev main_v22 : Ref sig .tc := ⟨.hbm, 129, rfl⟩
abbrev main_v23 : Ref sig .tc := ⟨.hbm, 130, rfl⟩
abbrev main_cst_1 : Ref sig .tc := ⟨.hbm, 131, rfl⟩
abbrev main_call4_v0 : Ref sig .tc := ⟨.hbm, 132, rfl⟩
abbrev main_v24_1 : Ref sig .tc := ⟨.hbm, 133, rfl⟩
abbrev main_call4_v2 : Ref sig .tc := ⟨.hbm, 134, rfl⟩
abbrev main_v24_0 : Ref sig .tc := ⟨.hbm, 135, rfl⟩
abbrev main_call4_cst : Ref sig .tc := ⟨.hbm, 136, rfl⟩
abbrev main_v24_2 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_call5_cst : Ref sig .tc := ⟨.hbm, 146, rfl⟩
abbrev main_call5_v0 : Ref sig .tc := ⟨.hbm, 147, rfl⟩
abbrev main_v33 : Ref sig .tc := ⟨.hbm, 148, rfl⟩
abbrev main_v34 : Ref sig .tc := ⟨.hbm, 149, rfl⟩
abbrev main_v35 : Ref sig .tc := ⟨.hbm, 150, rfl⟩
abbrev main_call6_cst : Ref sig .tc := ⟨.hbm, 151, rfl⟩
abbrev main_call6_v0 : Ref sig .tc := ⟨.hbm, 152, rfl⟩
abbrev main_v36 : Ref sig .tc := ⟨.hbm, 153, rfl⟩
abbrev main_v37 : Ref sig .tc := ⟨.hbm, 154, rfl⟩
abbrev main_call7_cst : Ref sig .tc := ⟨.hbm, 155, rfl⟩
abbrev main_call7_v0 : Ref sig .tc := ⟨.hbm, 156, rfl⟩
abbrev main_v38 : Ref sig .tc := ⟨.hbm, 157, rfl⟩
abbrev main_call8_v0 : Ref sig .tc := ⟨.hbm, 158, rfl⟩
abbrev main_call8_v1 : Ref sig .tc := ⟨.hbm, 159, rfl⟩
abbrev main_v39 : Ref sig .tc := ⟨.hbm, 160, rfl⟩
abbrev main_v40 : Ref sig .tc := ⟨.hbm, 161, rfl⟩
abbrev main_call9_v0 : Ref sig .tc := ⟨.hbm, 162, rfl⟩
abbrev main_call9_v1 : Ref sig .tc := ⟨.hbm, 163, rfl⟩
abbrev main_v41 : Ref sig .tc := ⟨.hbm, 164, rfl⟩
abbrev main_v42 : Ref sig .tc := ⟨.hbm, 165, rfl⟩
abbrev main_cst_2 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩

abbrev nD : Nat := 1
abbrev τ : Topo := Topo.v7x

variable {F : FTy → Type} [FloatOps F]
-- ==== Ffn2.lean ====
abbrev S2048x1024 : Shape := ⟨2, ![2048, 1024]⟩
abbrev S2048x5632 : Shape := ⟨2, ![2048, 5632]⟩
abbrev S2048x2816 : Shape := ⟨2, ![2048, 2816]⟩
abbrev S_ : Shape := ⟨0, ![]⟩
abbrev S4x1024x1408 : Shape := ⟨3, ![4, 1024, 1408]⟩
abbrev S2816x1024 : Shape := ⟨2, ![2816, 1024]⟩
abbrev S2048x512 : Shape := ⟨2, ![2048, 512]⟩
abbrev S2048x1408 : Shape := ⟨2, ![2048, 1408]⟩
abbrev S1x512x1408 : Shape := ⟨3, ![1, 512, 1408]⟩
abbrev S1408x1024 : Shape := ⟨2, ![1408, 1024]⟩
abbrev S512x1408 : Shape := ⟨2, ![512, 1408]⟩

abbrev nBuf : Space → Nat
  | .hbm => 13
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S2048x2816, .f32⟩
  | .hbm, ⟨3, _⟩ => ⟨S2048x1024, .f32⟩
  | .hbm, ⟨4, _⟩ => ⟨S2048x1024, .bf16⟩
  | .hbm, ⟨5, _⟩ => ⟨S2048x5632, .bf16⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S2048x2816, .bf16⟩
  | .hbm, ⟨10, _⟩ => ⟨S2048x1024, .bf16⟩
  | .hbm, ⟨11, _⟩ => ⟨S4x1024x1408, .bf16⟩
  | .hbm, ⟨12, _⟩ => ⟨S2816x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S2048x1024, .bf16⟩
  | .local _ .vmem, ⟨7, _⟩ => ⟨S1x512x1408, .bf16⟩
  | .local _ .vmem, ⟨8, _⟩ => ⟨S1x512x1408, .bf16⟩
  | .local _ .vmem, ⟨9, _⟩ => ⟨S1408x1024, .bf16⟩
  | .local _ .vmem, ⟨10, _⟩ => ⟨S1408x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c8_i32 : BitVec 32 := 8#32
  let v0 : BitVec 1 := Scalar.cmpi .slt arg0 c8_i32
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c1_i32_3 : BitVec 32 := 1#32
  let v11 : BitVec 32 := Scalar.select v0 v10 c1_i32_3
  let c0_i32_4 : BitVec 32 := 0#32
  let c0_i32_5 : BitVec 32 := 0#32
  ![c0_i32_4.toNat, v11.toNat]

def cc0_transform_1 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c0_i32_4 : BitVec 32 := 0#32
  let c0_i32_5 : BitVec 32 := 0#32
  ![c0_i32_4.toNat, v17.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c8_i32 : BitVec 32 := 8#32
  let v18 : BitVec 1 := Scalar.cmpi .slt arg0 c8_i32
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1_i32_10 : BitVec 32 := 1#32
  let v29 : BitVec 32 := Scalar.select v18 v28 c1_i32_10
  let c0_i32_11 : BitVec 32 := 0#32
  let c0_i32_12 : BitVec 32 := 0#32
  ![v17.toNat, v29.toNat, c0_i32_11.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ffn2RefIdeal.lean ====
abbrev S2048x1024 : Shape := ⟨2, ![2048, 1024]⟩
abbrev S2048x5632 : Shape := ⟨2, ![2048, 5632]⟩
abbrev S2048x2816 : Shape := ⟨2, ![2048, 2816]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩
abbrev S2816x1024 : Shape := ⟨2, ![2816, 1024]⟩
abbrev S1024x2816 : Shape := ⟨2, ![1024, 2816]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S2048x2816, .f32⟩
  | .hbm, ⟨3, _⟩ => ⟨S2048x1024, .f32⟩
  | .hbm, ⟨4, _⟩ => ⟨S_, .f32⟩
  | .hbm, ⟨5, _⟩ => ⟨S1024x5632, .f32⟩
  | .hbm, ⟨6, _⟩ => ⟨S2048x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | .hbm, ⟨12, _⟩ => ⟨S_, .f32⟩
  | .hbm, ⟨13, _⟩ => ⟨S2816x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S1024x2816, .f32⟩
  | .hbm, ⟨22, _⟩ => ⟨S2816x1024, .f32⟩
  | .hbm, ⟨23, _⟩ => ⟨S2816x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Up1.lean ====
abbrev S2048x1024 : Shape := ⟨2, ![2048, 1024]⟩
abbrev S2048x5632 : Shape := ⟨2, ![2048, 5632]⟩
abbrev S4x1024x1408 : Shape := ⟨3, ![4, 1024, 1408]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S2048x1024, .bf16⟩
  | .hbm, ⟨3, _⟩ => ⟨S2048x5632, .bf16⟩
  | .hbm, ⟨4, _⟩ => ⟨S4x1024x1408, .bf16⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1x1024x1408, .bf16⟩
  | .local _ .vmem, ⟨4, _⟩ => ⟨S1x1024x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Up1RefIdeal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S_, .f32⟩
  | .hbm, ⟨3, _⟩ => ⟨S1024x5632, .f32⟩
  | .hbm, ⟨4, _⟩ => ⟨S2048x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Down1.lean ====
abbrev S2048x2816 : Shape := ⟨2, ![2048, 2816]⟩
abbrev S2048x1024 : Shape := ⟨2, ![2048, 1024]⟩
abbrev S_ : Shape := ⟨0, ![]⟩
abbrev S1x2816x1024 : Shape := ⟨3, ![1, 2816, 1024]⟩
abbrev S2048x1408 : Shape := ⟨2, ![2048, 1408]⟩
abbrev S1x1408x1024 : Shape := ⟨3, ![1, 1408, 1024]⟩
abbrev S1408x1024 : Shape := ⟨2, ![1408, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2048x2816, .f32⟩
  | .hbm, ⟨4, _⟩ => ⟨S2048x2816, .f32⟩
  | .hbm, ⟨5, _⟩ => ⟨S2048x2816, .bf16⟩
  | .hbm, ⟨6, _⟩ => ⟨S1x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S1x1408x1024, .bf16⟩
  | .local _ .vmem, ⟨4, _⟩ => ⟨S1x1408x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Down1RefIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S1024x2816, .f32⟩
  | .hbm, ⟨12, _⟩ => ⟨S2816x1024, .f32⟩
  | .hbm, ⟨13, _⟩ => ⟨S1x2816x1024, .f32⟩
  | .hbm, ⟨14, _⟩ => ⟨S1x2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proj.lean ====
abbrev S2048x1024 : Shape := ⟨2, ![2048, 1024]⟩
abbrev S2048x512 : Shape := ⟨2, ![2048, 512]⟩
abbrev S2048x2048 : Shape := ⟨2, ![2048, 2048]⟩
abbrev S4x1024x1024 : Shape := ⟨3, ![4, 1024, 1024]⟩
abbrev S1x1024x1024 : Shape := ⟨3, ![1, 1024, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 13
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x2048, .f32⟩
  | .hbm, ⟨6, _⟩ => ⟨S2048x1024, .bf16⟩
  | .hbm, ⟨7, _⟩ => ⟨S2048x512, .bf16⟩
  | .hbm, ⟨8, _⟩ => ⟨S2048x512, .bf16⟩
  | .hbm, ⟨9, _⟩ => ⟨S2048x512, .bf16⟩
  | .hbm, ⟨10, _⟩ => ⟨S2048x512, .bf16⟩
  | .hbm, ⟨11, _⟩ => ⟨S2048x2048, .bf16⟩
  | .hbm, ⟨12, _⟩ => ⟨S4x1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x1024, .bf16⟩
  | .local _ .vmem, ⟨6, _⟩ => ⟨S2048x1024, .bf16⟩
  | .local _ .vmem, ⟨7, _⟩ => ⟨S1x1024x1024, .bf16⟩
  | .local _ .vmem, ⟨8, _⟩ => ⟨S1x1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def k0_cond2 (i : grid0.Coords) : BitVec 1 :=
  let arg0 : BitVec 32 := BitVec.ofNat 32 (i 0).val
  let c1_i32 : BitVec 32 := 1#32
  let v5 : BitVec 1 := Scalar.cmpi .eq arg0 c1_i32
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c2_i32 : BitVec 32 := 2#32
  let v8 : BitVec 1 := Scalar.cmpi .sge arg0 c2_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjRefIdeal.lean ====
abbrev S2048x1024 : Shape := ⟨2, ![2048, 1024]⟩
abbrev S2048x512 : Shape := ⟨2, ![2048, 512]⟩
abbrev S2048x2048 : Shape := ⟨2, ![2048, 2048]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x2048, .f32⟩
  | .hbm, ⟨6, _⟩ => ⟨S2048x4096, .f32⟩
  | .hbm, ⟨7, _⟩ => ⟨S_, .f32⟩
  | .hbm, ⟨8, _⟩ => ⟨S1024x4096, .f32⟩
  | .hbm, ⟨9, _⟩ => ⟨S2048x4096, .f32⟩
  | .hbm, ⟨10, _⟩ => ⟨S4096x1024, .f32⟩
  | .hbm, ⟨11, _⟩ => ⟨S1024x4096, .f32⟩
  | .hbm, ⟨12, _⟩ => ⟨S1024x4x1024, .f32⟩
  | .hbm, ⟨13, _⟩ => ⟨S4x1024x1024, .f32⟩
  | .hbm, ⟨14, _⟩ => ⟨S4x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Branch.lean ====
abbrev S2048x512 : Shape := ⟨2, ![2048, 512]⟩
abbrev S2048x1024 : Shape := ⟨2, ![2048, 1024]⟩
abbrev S4x512x256 : Shape := ⟨3, ![4, 512, 256]⟩
abbrev S4x128x128 : Shape := ⟨3, ![4, 128, 128]⟩
abbrev S1024x1024 : Shape := ⟨2, ![1024, 1024]⟩
abbrev S2048x256 : Shape := ⟨2, ![2048, 256]⟩
abbrev S2048x128 : Shape := ⟨2, ![2048, 128]⟩
abbrev S1x512x256 : Shape := ⟨3, ![1, 512, 256]⟩
abbrev S1x128x128 : Shape := ⟨3, ![1, 128, 128]⟩
abbrev S1024x256 : Shape := ⟨2, ![1024, 256]⟩
abbrev S512x256 : Shape := ⟨2, ![512, 256]⟩
abbrev S128x128 : Shape := ⟨2, ![128, 128]⟩

abbrev nBuf : Space → Nat
  | .hbm => 19
  | .vmem => 21
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S2048x512, .f32⟩
  | .hbm, ⟨3, _⟩ => ⟨S2048x1024, .f32⟩
  | .hbm, ⟨4, _⟩ => ⟨S2048x512, .f32⟩
  | .hbm, ⟨5, _⟩ => ⟨S2048x512, .f32⟩
  | .hbm, ⟨6, _⟩ => ⟨S2048x1024, .f32⟩
  | .hbm, ⟨7, _⟩ => ⟨S2048x1024, .f32⟩
  | .hbm, ⟨8, _⟩ => ⟨S2048x512, .bf16⟩
  | .hbm, ⟨9, _⟩ => ⟨S2048x1024, .bf16⟩
  | .hbm, ⟨10, _⟩ => ⟨S2048x512, .bf16⟩
  | .hbm, ⟨11, _⟩ => ⟨S2048x1024, .bf16⟩
  | .hbm, ⟨12, _⟩ => ⟨S2048x512, .bf16⟩
  | .hbm, ⟨13, _⟩ => ⟨S2048x512, .bf16⟩
  | .hbm, ⟨14, _⟩ => ⟨S2048x1024, .bf16⟩
  | .hbm, ⟨15, _⟩ => ⟨S4x512x256, .bf16⟩
  | .hbm, ⟨16, _⟩ => ⟨S4x512x256, .bf16⟩
  | .hbm, ⟨17, _⟩ => ⟨S4x128x128, .f32⟩
  | .hbm, ⟨18, _⟩ => ⟨S1024x1024, .bf16⟩
  | .local _ .vmem, ⟨0, _⟩ => ⟨S2048x512, .bf16⟩
  | .local _ .vmem, ⟨1, _⟩ => ⟨S2048x256, .bf16⟩
  | .local _ .vmem, ⟨2, _⟩ => ⟨S2048x256, .bf16⟩
  | .local _ .vmem, ⟨3, _⟩ => ⟨S2048x512, .bf16⟩
  | .local _ .vmem, ⟨4, _⟩ => ⟨S2048x256, .bf16⟩
  | .local _ .vmem, ⟨5, _⟩ => ⟨S2048x256, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x1024, .bf16⟩
  | .local _ .vmem, ⟨11, _⟩ => ⟨S2048x256, .f32⟩
  | .local _ .vmem, ⟨12, _⟩ => ⟨S2048x256, .f32⟩
  | .local _ .vmem, ⟨13, _⟩ => ⟨S1x512x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x256, .bf16⟩
  | .local _ .vmem, ⟨17, _⟩ => ⟨S1x128x128, .f32⟩
  | .local _ .vmem, ⟨18, _⟩ => ⟨S1x128x128, .f32⟩
  | .local _ .vmem, ⟨19, _⟩ => ⟨S1024x256, .bf16⟩
  | .local _ .vmem, ⟨20, _⟩ => ⟨S1024x256, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== BranchRefIdeal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩
abbrev S4x128x128 : Shape := ⟨3, ![4, 128, 128]⟩
abbrev S2048x4x128 : Shape := ⟨3, ![2048, 4, 128]⟩
abbrev S4x128x2048 : Shape := ⟨3, ![4, 128, 2048]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S2048x512, .f32⟩
  | .hbm, ⟨3, _⟩ => ⟨S2048x1024, .f32⟩
  | .hbm, ⟨4, _⟩ => ⟨S2048x512, .f32⟩
  | .hbm, ⟨5, _⟩ => ⟨S2048x512, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S512x1024, .f32⟩
  | .hbm, ⟨10, _⟩ => ⟨S2048x1024, .f32⟩
  | .hbm, ⟨11, _⟩ => ⟨S1024x512, .f32⟩
  | .hbm, ⟨12, _⟩ => ⟨S512x1024, .f32⟩
  | .hbm, ⟨13, _⟩ => ⟨S512x4x256, .f32⟩
  | .hbm, ⟨14, _⟩ => ⟨S4x512x256, .f32⟩
  | .hbm, ⟨15, _⟩ => ⟨S4x512x256, .bf16⟩
  | .hbm, ⟨16, _⟩ => ⟨S_, .f32⟩
  | .hbm, ⟨17, _⟩ => ⟨S512x1024, .f32⟩
  | .hbm, ⟨18, _⟩ => ⟨S2048x1024, .f32⟩
  | .hbm, ⟨19, _⟩ => ⟨S1024x512, .f32⟩
  | .hbm, ⟨20, _⟩ => ⟨S512x1024, .f32⟩
  | .hbm, ⟨21, _⟩ => ⟨S512x4x256, .f32⟩
  | .hbm, ⟨22, _⟩ => ⟨S4x512x256, .f32⟩
  | .hbm, ⟨23, _⟩ => ⟨S4x512x256, .bf16⟩
  | .hbm, ⟨24, _⟩ => ⟨S_, .f32⟩
  | .hbm, ⟨25, _⟩ => ⟨S4x128x128, .f32⟩
  | .hbm, ⟨26, _⟩ => ⟨S2048x4x128, .f32⟩
  | .hbm, ⟨27, _⟩ => ⟨S4x128x2048, .f32⟩
  | .hbm, ⟨28, _⟩ => ⟨S2048x4x128, .f32⟩
  | .hbm, ⟨29, _⟩ => ⟨S2048x512, .f32⟩
  | .hbm, ⟨30, _⟩ => ⟨S2048x4x128, .f32⟩
  | .hbm, ⟨31, _⟩ => ⟨S4x128x2048, .f32⟩
  | .hbm, ⟨32, _⟩ => ⟨S4x128x128, .f32⟩
  | .hbm, ⟨33, _⟩ => ⟨S4x128x128, .f32⟩
  | .hbm, ⟨34, _⟩ => ⟨S_, .f32⟩
  | .hbm, ⟨35, _⟩ => ⟨S1024x1024, .f32⟩
  | .hbm, ⟨36, _⟩ => ⟨S2048x1024, .f32⟩
  | .hbm, ⟨37, _⟩ => ⟨S1024x1024, .f32⟩
  | .hbm, ⟨38, _⟩ => ⟨S1024x1024, .f32⟩
  | .hbm, ⟨39, _⟩ => ⟨S1024x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Ffn1.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S2048x5632 : Shape := ⟨2, ![2048, 5632]⟩
abbrev S2048x2816 : Shape := ⟨2, ![2048, 2816]⟩
abbrev S256x1024 : Shape := ⟨2, ![256, 1024]⟩
abbrev S256x5632 : Shape := ⟨2, ![256, 5632]⟩
abbrev S256x2816 : Shape := ⟨2, ![256, 2816]⟩
abbrev S8 : Shape := ⟨1, ![8]⟩
abbrev S1 : Shape := ⟨1, ![1]⟩
abbrev S_ : Shape := ⟨0, ![]⟩
abbrev S1024x1408 : Shape := ⟨2, ![1024, 1408]⟩
abbrev S1x1024x1408 : Shape := ⟨3, ![1, 1024, 1408]⟩
abbrev S1024x128 : Shape := ⟨2, ![1024, 128]⟩
abbrev S1x1024x128 : Shape := ⟨3, ![1, 1024, 128]⟩
abbrev S1536x1024 : Shape := ⟨2, ![1536, 1024]⟩
abbrev S1024x1280 : Shape := ⟨2, ![1024, 1280]⟩
abbrev S1x1024x1280 : Shape := ⟨3, ![1, 1024, 1280]⟩
abbrev S1280x1024 : Shape := ⟨2, ![1280, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S256x1280 : Shape := ⟨2, ![256, 1280]⟩

abbrev nBuf : Space → Nat
  | .hbm => 12
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1024x4x1408, .f32⟩
  | .hbm, ⟨5, _⟩ => ⟨S4x1024x1408, .f32⟩
  | .hbm, ⟨6, _⟩ => ⟨S4x1024x1408, .bf16⟩
  | .hbm, ⟨7, _⟩ => ⟨S2816x1024, .bf16⟩
  | .hbm, ⟨8, _⟩ => ⟨S2048x1024, .f32⟩
  | .hbm, ⟨9, _⟩ => ⟨S2048x1024, .bf16⟩
  | .hbm, ⟨10, _⟩ => ⟨S2048x5632, .bf16⟩
  | .hbm, ⟨11, _⟩ => ⟨S2048x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S256x5632, .bf16⟩
  | .local _ .vmem, ⟨8, _⟩ => ⟨S256x5632, .bf16⟩
  | .local _ .vmem, ⟨9, _⟩ => ⟨S256x2816, .bf16⟩
  | .local _ .vmem, ⟨10, _⟩ => ⟨S256x2816, .bf16⟩
  | .local _ .vmem, ⟨11, _⟩ => ⟨S1024x5632, .bf16⟩
  | .local _ .vmem, ⟨12, _⟩ => ⟨S2816x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_3 : BitVec 32 := 0#32
  let v2 : BitVec 1 := Scalar.cmpi .ne v1 c0_i32_3
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_4 : BitVec 32 := 0#32
  let v5 : BitVec 1 := Scalar.cmpi .ne v4 c0_i32_4
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ffn1RefIdeal.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩

abbrev nBuf : Space → Nat
  | .hbm => 43
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x5632, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S_, .f32⟩
  | .hbm, ⟨25, _⟩ => ⟨S2048x2816, .f32⟩
  | .hbm, ⟨26, _⟩ => ⟨S2048x2816, .f32⟩
  | .hbm, ⟨27, _⟩ => ⟨S_, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .bf16⟩
  | .hbm, ⟨38, _⟩ => ⟨S2048x5632, .bf16⟩
  | .hbm, ⟨39, _⟩ => ⟨S_, .f32⟩
  | .hbm, ⟨40, _⟩ => ⟨S2048x2816, .f32⟩
  | .hbm, ⟨41, _⟩ => ⟨S2048x2816, .f32⟩
  | .hbm, ⟨42, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Act1.lean ====
abbrev S2048x1024 : Shape := ⟨2, ![2048, 1024]⟩
abbrev S2048x5632 : Shape := ⟨2, ![2048, 5632]⟩
abbrev S2816x1024 : Shape := ⟨2, ![2816, 1024]⟩
abbrev S512x1024 : Shape := ⟨2, ![512, 1024]⟩
abbrev S512x5632 : Shape := ⟨2, ![512, 5632]⟩
abbrev S2 : Shape := ⟨1, ![2]⟩
abbrev S1 : Shape := ⟨1, ![1]⟩
abbrev S_ : Shape := ⟨0, ![]⟩
abbrev S1536x1024 : Shape := ⟨2, ![1536, 1024]⟩
abbrev S1280x1024 : Shape := ⟨2, ![1280, 1024]⟩
abbrev S512x1536 : Shape := ⟨2, ![512, 1536]⟩
abbrev S512x1280 : Shape := ⟨2, ![512, 1280]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S2816x1024, .f32⟩
  | .hbm, ⟨3, _⟩ => ⟨S2048x5632, .bf16⟩
  | .hbm, ⟨4, _⟩ => ⟨S2816x1024, .bf16⟩
  | .hbm, ⟨5, _⟩ => ⟨S2048x5632, .bf16⟩
  | .local _ .vmem, ⟨0, _⟩ => ⟨S512x1024, .f32⟩
  | .local _ .vmem, ⟨1, _⟩ => ⟨S512x1024, .f32⟩
  | .local _ .vmem, ⟨2, _⟩ => ⟨S512x5632, .bf16⟩
  | .local _ .vmem, ⟨3, _⟩ => ⟨S512x5632, .bf16⟩
  | .local _ .vmem, ⟨4, _⟩ => ⟨S512x5632, .bf16⟩
  | .local _ .vmem, ⟨5, _⟩ => ⟨S512x5632, .bf16⟩
  | .local _ .vmem, ⟨6, _⟩ => ⟨S2816x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Act1RefIdeal.lean ====
abbrev S2048x1024 : Shape := ⟨2, ![2048, 1024]⟩
abbrev S2048x5632 : Shape := ⟨2, ![2048, 5632]⟩
abbrev S2816x1024 : Shape := ⟨2, ![2816, 1024]⟩
abbrev S2048x2816 : Shape := ⟨2, ![2048, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S2816x1024, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x5632, .f32⟩
  | .hbm, ⟨34, _⟩ => ⟨S2048x5632, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== In1.lean ====
abbrev S2048x1024 : Shape := ⟨2, ![2048, 1024]⟩
abbrev S1x1024 : Shape := ⟨2, ![1, 1024]⟩
abbrev S2048x5632 : Shape := ⟨2, ![2048, 5632]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S512x1024 : Shape := ⟨2, ![512, 1024]⟩
abbrev S512x5632 : Shape := ⟨2, ![512, 5632]⟩
abbrev S6 : Shape := ⟨1, ![6]⟩
abbrev S1 : Shape := ⟨1, ![1]⟩
abbrev S_ : Shape := ⟨0, ![]⟩
abbrev S1024x1408 : Shape := ⟨2, ![1024, 1408]⟩
abbrev S1x1024x1408 : Shape := ⟨3, ![1, 1024, 1408]⟩
abbrev S1024x128 : Shape := ⟨2, ![1024, 128]⟩
abbrev S1x1024x128 : Shape := ⟨3, ![1, 1024, 128]⟩
abbrev S1024x1280 : Shape := ⟨2, ![1024, 1280]⟩
abbrev S1x1024x1280 : Shape := ⟨3, ![1, 1024, 1280]⟩
abbrev S512x1536 : Shape := ⟨2, ![512, 1536]⟩
abbrev S1024x1536 : Shape := ⟨2, ![1024, 1536]⟩
abbrev S512x1280 : Shape := ⟨2, ![512, 1280]⟩
abbrev S512 : Shape := ⟨1, ![512]⟩
abbrev S512x1 : Shape := ⟨2, ![512, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x5632, .f32⟩
  | .hbm, ⟨4, _⟩ => ⟨S1024x5632, .f32⟩
  | .hbm, ⟨5, _⟩ => ⟨S2048x5632, .bf16⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S2048x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x5632, .bf16⟩
  | .local _ .vmem, ⟨6, _⟩ => ⟨S512x5632, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1024x5632, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_5 : BitVec 32 := 0#32
  let v5 : BitVec 1 := Scalar.cmpi .ne v4 c0_i32_5
  v5

def k0_cond3 (i : grid0.Coords) : BitVec 1 :=
  let arg0 : BitVec 32 := BitVec.ofNat 32 (i 0).val
  let c0_i32_1 : BitVec 32 := 0#32
  let v3 : BitVec 1 := Scalar.cmpi .eq arg0 c0_i32_1
  let v_true : BitVec 1 := 1#1
  let v6 : BitVec 1 := Scalar.xori v3 v_true
  let v7 : BitVec 32 := Scalar.extui v6
  let c0_i32_6 : BitVec 32 := 0#32
  let v8 : BitVec 1 := Scalar.cmpi .ne v7 c0_i32_6
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== In1RefIdeal.lean ====
abbrev S2048x1024 : Shape := ⟨2, ![2048, 1024]⟩
abbrev S1x1024 : Shape := ⟨2, ![1, 1024]⟩
abbrev S2048x5632 : Shape := ⟨2, ![2048, 5632]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x5632, .f32⟩
  | .hbm, ⟨4, _⟩ => ⟨S1024x5632, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x5632, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Last.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S2048x5632 : Shape := ⟨2, ![2048, 5632]⟩
abbrev S1x128 : Shape := ⟨2, ![1, 128]⟩
abbrev S2048x2816 : Shape := ⟨2, ![2048, 2816]⟩
abbrev S256x1024 : Shape := ⟨2, ![256, 1024]⟩
abbrev S256x5632 : Shape := ⟨2, ![256, 5632]⟩
abbrev S256x2816 : Shape := ⟨2, ![256, 2816]⟩
abbrev S8 : Shape := ⟨1, ![8]⟩
abbrev S1 : Shape := ⟨1, ![1]⟩
abbrev S_ : Shape := ⟨0, ![]⟩
abbrev S1024x1408 : Shape := ⟨2, ![1024, 1408]⟩
abbrev S1x1024x1408 : Shape := ⟨3, ![1, 1024, 1408]⟩
abbrev S704x1024 : Shape := ⟨2, ![704, 1024]⟩
abbrev S8x128 : Shape := ⟨2, ![8, 128]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩
abbrev S1024 : Shape := ⟨1, ![1024]⟩
abbrev S1x256x1024 : Shape := ⟨3, ![1, 256, 1024]⟩
abbrev S1x1x1 : Shape := ⟨3, ![1, 1, 1]⟩

abbrev nBuf : Space → Nat
  | .hbm => 18
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S2048x1024, .f32⟩
  | .hbm, ⟨5, _⟩ => ⟨S1x1024, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S2816x1024, .bf16⟩
  | .hbm, ⟨10, _⟩ => ⟨S2048x1024, .f32⟩
  | .hbm, ⟨11, _⟩ => ⟨S2048x5632, .bf16⟩
  | .hbm, ⟨12, _⟩ => ⟨S1x1024, .f32⟩
  | .hbm, ⟨13, _⟩ => ⟨S1x128, .f32⟩
  | .hbm, ⟨14, _⟩ => ⟨S1x1024, .f32⟩
  | .hbm, ⟨15, _⟩ => ⟨S2048x1024, .bf16⟩
  | .hbm, ⟨16, _⟩ => ⟨S2048x2816, .bf16⟩
  | .hbm, ⟨17, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x5632, .bf16⟩
  | .local _ .vmem, ⟨9, _⟩ => ⟨S256x5632, .bf16⟩
  | .local _ .vmem, ⟨10, _⟩ => ⟨S1x1024, .f32⟩
  | .local _ .vmem, ⟨11, _⟩ => ⟨S1x128, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | .local _ .vmem, ⟨19, _⟩ => ⟨S1024x5632, .bf16⟩
  | .local _ .vmem, ⟨20, _⟩ => ⟨S2816x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev main_v4_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== LastRefIdeal.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩
abbrev S1024 : Shape := ⟨1, ![1024]⟩
abbrev S1x128 : Shape := ⟨2, ![1, 128]⟩

abbrev nBuf : Space → Nat
  | .hbm => 156
  | .vmem => 0
  | .smem => 0
  | _ => 0

abbrev hbmTy0_0 (i : Nat) : BufTy := match i % 128 with
  | 0 => ⟨S2048x1024, .f32⟩
  | 1 => ⟨S1x1024, .f32⟩
  | 2 => ⟨S1024x5632, .f32⟩
  | 3 => ⟨S2816x1024, .f32⟩
  | 4 => ⟨S2048x1024, .f32⟩
  | 5 => ⟨S1x1024, .f32⟩
  | 6 => ⟨S2048x1024, .f32⟩
  | 7 => ⟨S_, .f32⟩
  | 8 => ⟨S2048, .f32⟩
  | 9 => ⟨S2048x1, .f32⟩
  | 10 => ⟨S_, .f32⟩
  | 11 => ⟨S2048x1, .f32⟩
  | 12 => ⟨S2048x1, .f32⟩
  | 13 => ⟨S_, .f32⟩
  | 14 => ⟨S2048x1, .f32⟩
  | 15 => ⟨S2048x1, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x1024, .f32⟩
  | 22 => ⟨S2048x1024, .f32⟩
  | 23 => ⟨S2048x1024, .f32⟩
  | 24 => ⟨S2048x1024, .f32⟩
  | 25 => ⟨S2048x5632, .f32⟩
  | 26 => ⟨S2048x2816, .f32⟩
  | 27 => ⟨S2048x2816, .f32⟩
  | 28 => ⟨S2048x2816, .f32⟩
  | 29 => ⟨S2048x2816, .f32⟩
  | 30 => ⟨S_, .f32⟩
  | 31 => ⟨S2048x2816, .f32⟩
  | 32 => ⟨S2048x2816, .f32⟩
  | 33 => ⟨S_, .f32⟩
  | 34 => ⟨S2048x2816, .f32⟩
  | 35 => ⟨S2048x2816, .f32⟩
  | 36 => ⟨S_, .f32⟩
  | 37 => ⟨S2048x2816, .f32⟩
  | 38 => ⟨S2048x2816, .f32⟩
  | 39 => ⟨S2048x2816, .f32⟩
  | 40 => ⟨S2048x2816, .f32⟩
  | 41 => ⟨S2048x2816, .f32⟩
  | 42 => ⟨S2048x1024, .f32⟩
  | 43 => ⟨S_, .f32⟩
  | 44 => ⟨S2048x1024, .f32⟩
  | 45 => ⟨S2048x1024, .f32⟩
  | 46 => ⟨S2048x1024, .f32⟩
  | 47 => ⟨S2048x1024, .f32⟩
  | 48 => ⟨S_, .f32⟩
  | 49 => ⟨S2048, .f32⟩
  | 50 => ⟨S2048x1, .f32⟩
  | 51 => ⟨S_, .f32⟩
  | 52 => ⟨S2048x1, .f32⟩
  | 53 => ⟨S2048x1, .f32⟩
  | 54 => ⟨S_, .f32⟩
  | 55 => ⟨S2048x1, .f32⟩
  | 56 => ⟨S2048x1, .f32⟩
  | 57 => ⟨S2048x1, .f32⟩
  | 58 => ⟨S2048x1, .f32⟩
  | 59 => ⟨S_, .f32⟩
  | 60 => ⟨S2048x1, .f32⟩
  | 61 => ⟨S2048x1, .f32⟩
  | 62 => ⟨S2048x1024, .f32⟩
  | 63 => ⟨S2048x1024, .f32⟩
  | 64 => ⟨S2048x1024, .f32⟩
  | 65 => ⟨S2048x1024, .f32⟩
  | 66 => ⟨S2048x1024, .f32⟩
  | 67 => ⟨S2048x1024, .f32⟩
  | 68 => ⟨S_, .f32⟩
  | 69 => ⟨S2048x1024, .f32⟩
  | 70 => ⟨S2048x1024, .f32⟩
  | 71 => ⟨S_, .f32⟩
  | 72 => ⟨S2048, .f32⟩
  | 73 => ⟨S_, .f32⟩
  | 74 => ⟨S2048, .f32⟩
  | 75 => ⟨S2048, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S2048, .f32⟩
  | 84 => ⟨S_, .f32⟩
  | 85 => ⟨S2048, .f32⟩
  | 86 => ⟨S2048, .f32⟩
  | 87 => ⟨S2048x1024, .f32⟩
  | 88 => ⟨S2048x1024, .f32⟩
  | 89 => ⟨S2048x1024, .f32⟩
  | 90 => ⟨S_, .f32⟩
  | 91 => ⟨S1024, .f32⟩
  | 92 => ⟨S1x1024, .f32⟩
  | 93 => ⟨S2048x1024, .f32⟩
  | 94 => ⟨S2048x1024, .f32⟩
  | 95 => ⟨S2048x1024, .f32⟩
  | 96 => ⟨S_, .f32⟩
  | 97 => ⟨S2048, .f32⟩
  | 98 => ⟨S2048x1, .f32⟩
  | 99 => ⟨S2048x1024, .f32⟩
  | 100 => ⟨S2048x1024, .f32⟩
  | 101 => ⟨S2048x1, .f32⟩
  | 102 => ⟨S_, .f32⟩
  | 103 => ⟨S2048x1, .f32⟩
  | 104 => ⟨S2048x1, .f32⟩
  | 105 => ⟨S_, .f32⟩
  | 106 => ⟨S2048, .f32⟩
  | 107 => ⟨S2048x1024, .f32⟩
  | 108 => ⟨S2048x1024, .f32⟩
  | 109 => ⟨S2048x1024, .f32⟩
  | 110 => ⟨S2048x1024, .f32⟩
  | 111 => ⟨S2048x1024, .f32⟩
  | 112 => ⟨S_, .f32⟩
  | 113 => ⟨S2048x1024, .f32⟩
  | 114 => ⟨S2048x1024, .f32⟩
  | 115 => ⟨S2048x2816, .f32⟩
  | 116 => ⟨S2048x2816, .f32⟩
  | 117 => ⟨S2048x2816, .f32⟩
  | 118 => ⟨S2048x2816, .f32⟩
  | 119 => ⟨S2048x2816, .f32⟩
  | 120 => ⟨S2048x2816, .f32⟩
  | 121 => ⟨S2048x2816, .f32⟩
  | 122 => ⟨S2048x5632, .f32⟩
  | 123 => ⟨S2048x1024, .f32⟩
  | 124 => ⟨S2048x1024, .f32⟩
  | 125 => ⟨S_, .f32⟩
  | 126 => ⟨S1024, .f32⟩
  | 127 => ⟨S1x1024, .f32⟩
  | _ => ⟨S2048x1024, .f32⟩

abbrev hbmTy0_1 (i : Nat) : BufTy := match i % 128 with
  | 0 => ⟨S2048x1024, .f32⟩
  | 1 => ⟨S2048x1024, .f32⟩
  | 2 => ⟨S2048x1024, .f32⟩
  | 3 => ⟨S_, .f32⟩
  | 4 => ⟨S2048, .f32⟩
  | 5 => ⟨S2048x1, .f32⟩
  | 6 => ⟨S2048x1024, .f32⟩
  | 7 => ⟨S2048x1024, .f32⟩
  | 8 => ⟨S2048x1, .f32⟩
  | 9 => ⟨S_, .f32⟩
  | 10 => ⟨S2048x1, .f32⟩
  | 11 => ⟨S2048x1, .f32⟩
  | 12 => ⟨S_, .f32⟩
  | 13 => ⟨S2048, .f32⟩
  | 14 => ⟨S2048x1024, .f32⟩
  | 15 => ⟨S2048x1024, .f32⟩
  | 16 => ⟨S2048x1024, .f32⟩
  | 17 => ⟨S2048x1024, .f32⟩
  | 18 => ⟨S2048x1024, .f32⟩
  | 19 => ⟨S2048x1024, .f32⟩
  | 20 => ⟨S2048x5632, .bf16⟩
  | 21 => ⟨S1x128, .f32⟩
  | 22 => ⟨S2048x1024, .bf16⟩
  | 23 => ⟨S_, .f32⟩
  | 24 => ⟨S2048x2816, .f32⟩
  | 25 => ⟨S2048x2816, .f32⟩
  | 26 => ⟨S2048x2816, .bf16⟩
  | 27 => ⟨S2048x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_cst_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_cst_10 : Ref sig .tc := ⟨.hbm, 73, rfl⟩
abbrev main_v44 : Ref sig .tc := ⟨.hbm, 74, rfl⟩
abbrev main_v45 : Ref sig .tc := ⟨.hbm, 75, rfl⟩
abbrev main_cst_11 : Ref sig .tc := ⟨.hbm, 76, rfl⟩
abbrev main_v46 : Ref sig .tc := ⟨.hbm, 77, rfl⟩
abbrev main_cst_12 : Ref sig .tc := ⟨.hbm, 78, rfl⟩
abbrev main_v47 : Ref sig .tc := ⟨.hbm, 79, rfl⟩
abbrev main_cst_13 : Ref sig .tc := ⟨.hbm, 80, rfl⟩
abbrev main_cst_14 : Ref sig .tc := ⟨.hbm, 81, rfl⟩
abbrev main_v48 : Ref sig .tc := ⟨.hbm, 82, rfl⟩
abbrev main_v49 : Ref sig .tc := ⟨.hbm, 83, rfl⟩
abbrev main_cst_15 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_16 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_17 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_18 : Ref sig .tc := ⟨.hbm, 102, rfl⟩
abbrev main_v65 : Ref sig .tc := ⟨.hbm, 103, rfl⟩
abbrev main_v66 : Ref sig .tc := ⟨.hbm, 104, rfl⟩
abbrev main_cst_19 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_20 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_21 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_22 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_23 : Ref sig .tc := ⟨.hbm, 137, rfl⟩
abbrev main_v92 : Ref sig .tc := ⟨.hbm, 138, rfl⟩
abbrev main_v93 : Ref sig .tc := ⟨.hbm, 139, rfl⟩
abbrev main_cst_24 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_25 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩

abbrev nD : Nat := 1
abbrev τ : Topo := Topo.v7x

variable {F : FTy → Type} [FloatOps F]
-- ==== Proof.RefFrame.lean ====
/-
  The reference's frame: from its generated run (`Cert.ReferenceIdeal.Value.run`), the four arguments end unchanged, and
  every semaphore counter reads zero because the program declares no semaphore.
-/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

open Idealize.ShloMosaic Idealize.SL.Sem

namespace Cert.Proof.RefFrame

/-- From every initial memory the reference ends with its arguments unchanged and every semaphore counter at zero. -/
theorem frame : Cert.quiescent_ReferenceIdeal (hReferenceIdeal := Cert.ReferenceIdeal.Gen.facts) := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

end Cert.Proof.RefFrame

end
-- ==== Proof.Unit.lean ====
/-
  What one trip of the kernel's loop over key blocks computes, as functions of blocks and of nothing else, over any float
  values. A UNIT is one query block (256 rows) of one head against one key block (256 rows): its scores, the two log terms
  of the scores, the weights `a`, the gradient of the log weights `dl` and the gradient of the scores `dz`. The kernel's own
  loop body is these functions of the blocks it loads: `Trip.lean` says so.
-/
module

public import proofs.«01_k».proof.Proof.Gen.KernelIdeal.Loops

@[expose] public section

noncomputable section

open Idealize.ShloMosaic Idealize.SL.Sem

namespace Cert.Proof.Attn

open Cert.KernelIdeal Cert.KernelIdeal.Gen

variable {F : FTy → Type} [FloatOps F] [Named F]

/-- A 256×256 array holding one number. -/
def splat (b : BitVec 32) : FVec F S256x256 .f32 := broadcast S256x256 (Scalar.ofBits .f32 b)

/-- Scores of a query block (masked to one head's lanes) against a key block: `x · yᵀ`. -/
def nt (x y : FVec F S256x128 .bf16) : FVec F S256x256 .f32 :=
  matmul dot_S256x128_S256x128_S256x256_1_1_0_0_n_n none x y (constant S256x256 .f32 0x00000000#32)

/-- `x · y` of a 256×256 block and a 256×128 block. -/
def nn (x : FVec F S256x256 .bf16) (y : FVec F S256x128 .bf16) : FVec F S256x128 .f32 :=
  matmul dot_S256x256_S256x128_S256x128_1_0_0_1_n_n none x y (constant S256x128 .f32 0x00000000#32)

/-- `xᵀ · y` of a 256×256 block and a 256×128 block. -/
def tn (x : FVec F S256x256 .bf16) (y : FVec F S256x128 .bf16) : FVec F S256x128 .f32 :=
  matmul dot_S256x256_S256x128_S256x128_0_0_1_1_n_n none x y (constant S256x128 .f32 0x00000000#32)

/-- Scores in units of log₂. -/
def z2 (x : FVec F S256x256 .f32) : FVec F S256x256 .f32 :=
  mulf x (broadcast S256x256 (Named.named κ "scale_log2e" 0x3E38AA3B#32))

/-- log₂ of the sigmoid of the scaled scores. -/
def lb (x : FVec F S256x256 .f32) : FVec F S256x256 .f32 :=
  subf (minimumf (z2 x) (splat 0x00000000#32))
    (mulf (log (addf (splat 0x3F800000#32) (exp2 (subf (splat 0x00000000#32) (absf (z2 x))))))
      (broadcast S256x256 (Named.named κ "log2e" 0x3FB8AA3B#32)))

/-- log₂ of one minus the sigmoid. -/
def l1m (x : FVec F S256x256 .f32) : FVec F S256x256 .f32 := subf (lb x) (z2 x)

/-- A product with a 0/1 triangle, the left side in two parts. -/
def hilo (x : FVec F S256x256 .f32) (tri : FVec F S256x256 .bf16) : FVec F S256x256 .f32 :=
  addf (matmul dot_S256x256_S256x256_S256x256_1_0_0_1_n_n none (truncf .bf16 x bitsLt_bf16_f32) tri
      (constant S256x256 .f32 0x00000000#32))
    (matmul dot_S256x256_S256x256_S256x256_1_0_0_1_n_n none
      (truncf .bf16 (subf x (extf .f32 (truncf .bf16 x bitsLt_bf16_f32) bitsLt_bf16_f32)) bitsLt_bf16_f32) tri
      (constant S256x256 .f32 0x00000000#32))

/-- The sum of each row, as a column. -/
def rowSum (x : FVec F S256x256 .f32) : FVec F S256x1 .f32 :=
  shapeCast S256x1 (multiReduction .add [1] S256 x 0x00000000#32 reduces_S256x256_S256 (.inl rfl) rfl)
    shapeCasts_S256_S256x1

/-- A column repeated along the rows. -/
def col (x : FVec F S256x1 .f32) : FVec F S256x256 .f32 := broadcastTo S256x256 x broadcasts_S256x1_S256x256

/-- Rounding to the narrow format the products take. -/
def half (x : FVec F S256x256 .f32) : FVec F S256x256 .bf16 := truncf .bf16 x bitsLt_bf16_f32

/-- The triangle of `row ≤ column`. -/
def upto : FVec F S256x256 .bf16 :=
  truncf .bf16 (sitofp .f32 (extui 32 (cmpi .sle (iota .tc S256x256 32 [0] iota_S256x256_d0_w32)
    (iota .tc S256x256 32 [1] iota_S256x256_d1_w32)) natLt_1_32)) bitsLt_bf16_f32

/-- The triangle of `row < column`. -/
def before : FVec F S256x256 .bf16 :=
  truncf .bf16 (sitofp .f32 (extui 32 (cmpi .slt (iota .tc S256x256 32 [0] iota_S256x256_d0_w32)
    (iota .tc S256x256 32 [1] iota_S256x256_d1_w32)) natLt_1_32)) bitsLt_bf16_f32

/-- On a diagonal block the elements left of the diagonal, zero elsewhere. -/
def caus (x : FVec F S256x256 .f32) : FVec F S256x256 .f32 :=
  select (cmpi .slt (iota .tc S256x256 32 [1] iota_S256x256_d1_w32) (iota .tc S256x256 32 [0] iota_S256x256_d0_w32))
    x (splat 0x00000000#32)

/-- Off the diagonal nothing is masked. -/
def whole (x : FVec F S256x256 .f32) : FVec F S256x256 .f32 := x

/-- Lanes of the pair's first head. -/
def lane0 : IVec S1x128 1 :=
  cmpi .slt (iota .tc S1x128 32 [1] iota_S1x128_d1_w32) (broadcast S1x128 64#32)

/-- Lanes of the pair's second head. -/
def lane1 : IVec S1x128 1 :=
  cmpi .sge (iota .tc S1x128 32 [1] iota_S1x128_d1_w32) (broadcast S1x128 64#32)

/-- A block with the lanes outside a mask set to zero. -/
def onLanes (l : IVec S1x128 1) (x : FVec F S256x128 .bf16) : FVec F S256x128 .bf16 :=
  select (broadcastTo S256x128 (shapeCast S1x128 l shapeCasts_S1x128_S1x128) broadcasts_S1x128_S256x128) x
    (broadcast S256x128 (Scalar.ofBits .bf16 0x0000#16))

variable (μ : FVec F S256x256 .f32 → FVec F S256x256 .f32) (up be : FVec F S256x256 .bf16)
  (q d k v : FVec F S256x128 .bf16) (ct cl cp : FVec F S256x1 .f32)

/-- The unit's masked log₂(1 − σ). -/
def ul : FVec F S256x256 .f32 := μ (l1m (nt q k))

/-- The unit's weights: 2 to (log₂σ + (total − sum of earlier blocks) − running sum in the block). -/
def ua : FVec F S256x256 .f32 :=
  μ (exp2 (subf (addf (lb (nt q k)) (col (subf ct cl))) (hilo (ul μ q k) up)))

/-- The unit's gradient of the log weights: (do · vᵀ) times the weights. -/
def udl : FVec F S256x256 .f32 := mulf (nt d v) (ua μ up q k ct cl)

/-- The running sum of `ul` after the unit. -/
def ucl : FVec F S256x1 .f32 := addf cl (rowSum (ul μ q k))

/-- The running sum of `udl` after the unit. -/
def ucp : FVec F S256x1 .f32 := addf cp (rowSum (udl μ up q d k v ct cl))

/-- The unit's gradient of the scaled scores. -/
def udz : FVec F S256x256 .f32 :=
  μ (subf (udl μ up q d k v ct cl) (mulf (exp2 (lb (nt q k)))
    (addf (addf (udl μ up q d k v ct cl) (hilo (udl μ up q d k v ct cl) be)) (col cp))))

end Cert.Proof.Attn

end
-- ==== Proof.Trip.lean ====
/-
  One trip of the kernel's loop over key blocks, as the run leaves it, is the unit functions of `Unit.lean` at the two key
  blocks the trip loads: what it carries on, and what it stores into the two accumulators.
-/
module

public import proofs.«01_k».proof.Proof.Unit

@[expose] public section

noncomputable section

open Idealize.ShloMosaic Idealize.SL.Sem

namespace Cert.Proof.Attn

open Cert.KernelIdeal Cert.KernelIdeal.Gen

variable {F : FTy → Type} [FloatOps F] [Named F]

/-- What the kernel keeps of one query block for one head: its queries and its output gradients on the head's lanes, and the
    rows' totals. -/
structure Head (F : FTy → Type) where
  /-- queries, zero outside the head's lanes -/
  q : FVec F S256x128 .bf16
  /-- gradients of the output, zero outside the head's lanes -/
  d : FVec F S256x128 .bf16
  /-- the rows' totals of log₂(1 − σ) -/
  ct : FVec F S256x1 .f32

/-- What the loop carries: for query block 0 then 1, head 0 then 1, the two running sums; then the query gradient of block 0
    and of block 1. -/
abbrev Carry (F : FTy → Type) :=
  FVec F S256x1 .f32 × FVec F S256x1 .f32 × FVec F S256x1 .f32 × FVec F S256x1 .f32 × FVec F S256x1 .f32 × FVec F S256x1 .f32
    × FVec F S256x1 .f32 × FVec F S256x1 .f32 × FVec F S256x128 .f32 × FVec F S256x128 .f32

/-- Rows `off 0 …` of a whole bf16 array in fast memory. -/
def rows (m : Memref sig .tc .vmem S2048x128 .bf16) (X : BufTy.Contents (Elt F) m.view.ty) (off : Fin 2 → ℕ)
    (h : ∀ a, off a + S256x128.size a ≤ S2048x128.size a) : FVec F S256x128 .bf16 :=
  shapeCast S256x128 (View.readAt (Elt F) m.view (Rect.unit (s := S2048x128) off S256x128.size h).toLoadRect X)
    shapeCasts_S256x128_S256x128

/-- Rows `off 0 …` of an accumulator. -/
def accRows (m : Memref sig .tc .vmem S2048x128 .f32) (X : BufTy.Contents (Elt F) m.view.ty) (off : Fin 2 → ℕ)
    (h : ∀ a, off a + S256x128.size a ≤ S2048x128.size a) : FVec F S256x128 .f32 :=
  View.readAt (Elt F) m.view (Rect.unit (s := S2048x128) off S256x128.size h).toLoadRect X

/-- What is stored back into an accumulator's rows: what stood there plus an addition. -/
def stored (x y : FVec F S256x128 .f32) : FVec F S256x128 .f32 := shapeCast S256x128 (addf x y) shapeCasts_S256x128_S256x128

section
variable (up be : FVec F S256x256 .bf16) (h : Head F) (k v k1 k2 v1 v2 : FVec F S256x128 .bf16) (cl cp : FVec F S256x1 .f32)

/-- Weights of a unit off the diagonal, rounded. -/
def wa : FVec F S256x256 .bf16 := half (ua whole up h.q k h.ct cl)

/-- Score gradient of a unit off the diagonal, rounded. -/
def wdz : FVec F S256x256 .bf16 := half (udz whole up be h.q h.d k v h.ct cl cp)

/-- The first running sum after one key block. -/
def wcl : FVec F S256x1 .f32 := ucl whole h.q k cl

/-- The second running sum after one key block. -/
def wcp : FVec F S256x1 .f32 := ucp whole up h.q h.d k v h.ct cl cp
end

section
variable (up be : FVec F S256x256 .bf16) (l0 l1 : IVec S1x128 1) (h00 h01 h10 h11 : Head F)
  (k1 k2 v1 v2 : FVec F S256x128 .bf16) (acc : Carry F)

/-- One query block's gradient after two key blocks of two heads. -/
def dq2 (g0 g1 : Head F) (cl0 cp0 cl1 cp1 : FVec F S256x1 .f32) (x : FVec F S256x128 .f32) : FVec F S256x128 .f32 :=
  addf (addf (addf (addf x (nn (wdz up be g0 k1 v1 cl0 cp0) (onLanes l0 k1)))
      (nn (wdz up be g1 k1 v1 cl1 cp1) (onLanes l1 k1)))
      (nn (wdz up be g0 k2 v2 (wcl g0 k1 cl0) (wcp up g0 k1 v1 cl0 cp0)) (onLanes l0 k2)))
    (nn (wdz up be g1 k2 v2 (wcl g1 k1 cl1) (wcp up g1 k1 v1 cl1 cp1)) (onLanes l1 k2))

/-- What one trip carries on. -/
def tripOut : Carry F :=
  (wcl h00 k2 (wcl h00 k1 acc.1), wcp up h00 k2 v2 (wcl h00 k1 acc.1) (wcp up h00 k1 v1 acc.1 acc.2.1),
   wcl h01 k2 (wcl h01 k1 acc.2.2.1), wcp up h01 k2 v2 (wcl h01 k1 acc.2.2.1) (wcp up h01 k1 v1 acc.2.2.1 acc.2.2.2.1),
   wcl h10 k2 (wcl h10 k1 acc.2.2.2.2.1),
   wcp up h10 k2 v2 (wcl h10 k1 acc.2.2.2.2.1) (wcp up h10 k1 v1 acc.2.2.2.2.1 acc.2.2.2.2.2.1),
   wcl h11 k2 (wcl h11 k1 acc.2.2.2.2.2.2.1),
   wcp up h11 k2 v2 (wcl h11 k1 acc.2.2.2.2.2.2.1) (wcp up h11 k1 v1 acc.2.2.2.2.2.2.1 acc.2.2.2.2.2.2.2.1),
   dq2 up be l0 l1 k1 k2 v1 v2 h00 h01 acc.1 acc.2.1 acc.2.2.1 acc.2.2.2.1 acc.2.2.2.2.2.2.2.2.1,
   dq2 up be l0 l1 k1 k2 v1 v2 h10 h11 acc.2.2.2.2.1 acc.2.2.2.2.2.1 acc.2.2.2.2.2.2.1 acc.2.2.2.2.2.2.2.1
     acc.2.2.2.2.2.2.2.2.2)

/-- The four units' parts of one key block's key gradient, at the four pairs of running sums. -/
def dkAdd (k v : FVec F S256x128 .bf16) (a b c d e f g j : FVec F S256x1 .f32) : FVec F S256x128 .f32 :=
  addf (addf (addf (tn (wdz up be h00 k v a b) h00.q) (tn (wdz up be h01 k v c d) h01.q))
    (tn (wdz up be h10 k v e f) h10.q)) (tn (wdz up be h11 k v g j) h11.q)

/-- The four units' parts of one key block's value gradient, at the four first running sums. -/
def dvAdd (k : FVec F S256x128 .bf16) (a c e g : FVec F S256x1 .f32) : FVec F S256x128 .f32 :=
  addf (addf (addf (tn (wa up h00 k a) h00.d) (tn (wa up h01 k c) h01.d)) (tn (wa up h10 k e) h10.d)) (tn (wa up h11 k g) h11.d)

/-- The trip's addition to the first key block's key gradient. -/
def dk1 : FVec F S256x128 .f32 :=
  dkAdd up be h00 h01 h10 h11 k1 v1 acc.1 acc.2.1 acc.2.2.1 acc.2.2.2.1 acc.2.2.2.2.1 acc.2.2.2.2.2.1 acc.2.2.2.2.2.2.1
    acc.2.2.2.2.2.2.2.1

/-- The trip's addition to the first key block's value gradient. -/
def dv1 : FVec F S256x128 .f32 :=
  dvAdd up h00 h01 h10 h11 k1 acc.1 acc.2.2.1 acc.2.2.2.2.1 acc.2.2.2.2.2.2.1

/-- The trip's addition to the second key block's key gradient. -/
def dk2 : FVec F S256x128 .f32 :=
  dkAdd up be h00 h01 h10 h11 k2 v2 (wcl h00 k1 acc.1) (wcp up h00 k1 v1 acc.1 acc.2.1) (wcl h01 k1 acc.2.2.1)
    (wcp up h01 k1 v1 acc.2.2.1 acc.2.2.2.1) (wcl h10 k1 acc.2.2.2.2.1) (wcp up h10 k1 v1 acc.2.2.2.2.1 acc.2.2.2.2.2.1)
    (wcl h11 k1 acc.2.2.2.2.2.2.1) (wcp up h11 k1 v1 acc.2.2.2.2.2.2.1 acc.2.2.2.2.2.2.2.1)

/-- The trip's addition to the second key block's value gradient. -/
def dv2 : FVec F S256x128 .f32 :=
  dvAdd up h00 h01 h10 h11 k2 (wcl h00 k1 acc.1) (wcl h01 k1 acc.2.2.1) (wcl h10 k1 acc.2.2.2.2.1)
    (wcl h11 k1 acc.2.2.2.2.2.2.1)
end

section
variable (𝒱 : Variants) (c : Dev nD) (bd : Option 𝒱.V) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (v0 : BitVec 32) (v9 : FVec F S256x256 .bf16) (v13 : FVec F S256x256 .bf16) (v17 : IVec S1x128 1) (v19 : IVec S1x128 1) (v27 : FVec F S256x128 .bf16) (v31 : FVec F S256x128 .bf16) (v33 : FVec F S256x1 .f32) (v37 : FVec F S256x128 .bf16) (v41 : FVec F S256x128 .bf16) (v43 : FVec F S256x1 .f32) (v51 : FVec F S256x128 .bf16) (v55 : FVec F S256x128 .bf16) (v57 : FVec F S256x1 .f32) (v61 : FVec F S256x128 .bf16) (v65 : FVec F S256x128 .bf16) (v67 : FVec F S256x1 .f32) (v68 : FVec F S256x1 .f32) (v69 : FVec F S256x128 .f32) (v70 : FVec F S256x128 .f32) (c2_i32_25 : BitVec 32) (v71 : BitVec 32) (v76 : BitVec 32) (v78 : BitVec 32) (v79 : BitVec 1) (X_arg3 : BufTy.Contents (Elt F) arg3.view.ty) (X_arg4 : BufTy.Contents (Elt F) arg4.view.ty) (k : Fin (k0_t1_loop i).trips)
  (acc : Carry F) (f_arg10 : BufTy.Contents (Elt F) arg10.view.ty) (f_arg11 : BufTy.Contents (Elt F) arg11.view.ty)

/-- What a trip carries on is `tripOut` of the blocks it loads. -/
theorem tripR_eq :
    tripR_k0_t1 (F := F) 𝒱 c bd i arg2 harg2 arg3 harg3 arg4 harg4 arg5 harg5 arg6 harg6 arg7 harg7 arg8 harg8 arg9 harg9 arg10 harg10 arg11 harg11 v0 v9 v13 v17 v19 v27 v31 v33 v37 v41 v43 v51 v55 v57 v61 v65 v67 v68 v69 v70 c2_i32_25 v71 v76 v78 v79 X_arg3 X_arg4 k acc f_arg10 f_arg11
      = tripOut v9 v13 v17 v19 ⟨v27, v31, v33⟩ ⟨v37, v41, v43⟩ ⟨v51, v55, v57⟩ ⟨v61, v65, v67⟩
          (rows arg3 X_arg3 (k0_off1 i k) (k0_off1_inb i k)) (rows arg3 X_arg3 (k0_off2 i k) (k0_off2_inb i k))
          (rows arg4 X_arg4 (k0_off1 i k) (k0_off1_inb i k)) (rows arg4 X_arg4 (k0_off2 i k) (k0_off2_inb i k)) acc := by
  unfold tripR_k0_t1 trip_k0_t1
  rfl

/-- A trip's stores: into each accumulator, at the first then (listed before it) the second key block, what stood there plus
    the trip's addition. -/
theorem tripL_eq :
    tripL_k0_t1 (F := F) 𝒱 c bd i arg2 harg2 arg3 harg3 arg4 harg4 arg5 harg5 arg6 harg6 arg7 harg7 arg8 harg8 arg9 harg9 arg10 harg10 arg11 harg11 v0 v9 v13 v17 v19 v27 v31 v33 v37 v41 v43 v51 v55 v57 v61 v65 v67 v68 v69 v70 c2_i32_25 v71 v76 v78 v79 X_arg3 X_arg4 k acc f_arg10 f_arg11
      = ([⟨Rect.unit (k0_off2 i k) ![256, 128] (k0_off2_inb i k),
            stored (accRows arg10 f_arg10 (k0_off2 i k) (k0_off2_inb i k)) (dk2 v9 v13 ⟨v27, v31, v33⟩ ⟨v37, v41, v43⟩ ⟨v51, v55, v57⟩ ⟨v61, v65, v67⟩
              (rows arg3 X_arg3 (k0_off1 i k) (k0_off1_inb i k)) (rows arg3 X_arg3 (k0_off2 i k) (k0_off2_inb i k))
              (rows arg4 X_arg4 (k0_off1 i k) (k0_off1_inb i k)) (rows arg4 X_arg4 (k0_off2 i k) (k0_off2_inb i k)) acc)⟩,
          ⟨Rect.unit (k0_off1 i k) ![256, 128] (k0_off1_inb i k),
            stored (accRows arg10 f_arg10 (k0_off1 i k) (k0_off1_inb i k)) (dk1 v9 v13 ⟨v27, v31, v33⟩ ⟨v37, v41, v43⟩ ⟨v51, v55, v57⟩ ⟨v61, v65, v67⟩
              (rows arg3 X_arg3 (k0_off1 i k) (k0_off1_inb i k)) (rows arg4 X_arg4 (k0_off1 i k) (k0_off1_inb i k)) acc)⟩],
         [⟨Rect.unit (k0_off2 i k) ![256, 128] (k0_off2_inb i k),
            stored (accRows arg11 f_arg11 (k0_off2 i k) (k0_off2_inb i k)) (dv2 v9 ⟨v27, v31, v33⟩ ⟨v37, v41, v43⟩ ⟨v51, v55, v57⟩ ⟨v61, v65, v67⟩
              (rows arg3 X_arg3 (k0_off1 i k) (k0_off1_inb i k)) (rows arg3 X_arg3 (k0_off2 i k) (k0_off2_inb i k)) acc)⟩,
          ⟨Rect.unit (k0_off1 i k) ![256, 128] (k0_off1_inb i k),
            stored (accRows arg11 f_arg11 (k0_off1 i k) (k0_off1_inb i k)) (dv1 v9 ⟨v27, v31, v33⟩ ⟨v37, v41, v43⟩ ⟨v51, v55, v57⟩ ⟨v61, v65, v67⟩ (rows arg3 X_arg3 (k0_off1 i k) (k0_off1_inb i k)) acc)⟩]) := by
  unfold tripL_k0_t1 trip_k0_t1
  rfl
end

end Cert.Proof.Attn

end
-- ==== Proof.Step.lean ====
/-
  One grid point of the kernel in the words of `Unit.lean` and `Trip.lean`: the four heads it works on (two query blocks of
  two heads), the loop over the key blocks before the diagonal, the two diagonal key blocks, and what it leaves in its
  accumulators and its outputs. Each equation reads the run's own terms.
-/
module

public import proofs.«01_k».proof.Proof.Trip
public import proofs.«01_k».proof.Proof.Gen.KernelIdeal.Frame

@[expose] public section

noncomputable section

open Idealize.ShloMosaic Idealize.SL.Sem

namespace Cert.Proof.Attn

open Cert.KernelIdeal Cert.KernelIdeal.Gen

variable {F : FTy → Type} [FloatOps F] [Named F]

section
variable (up be : FVec F S256x256 .bf16) (l0 l1 : IVec S1x128 1) (h00 h01 h10 h11 : Head F)
  (k1 k2 v1 v2 : FVec F S256x128 .bf16) (acc : Carry F)

/-- Rounded weights of a unit under mask `μ`. -/
def ma (μ : FVec F S256x256 .f32 → FVec F S256x256 .f32) (h : Head F) (k : FVec F S256x128 .bf16)
    (cl : FVec F S256x1 .f32) : FVec F S256x256 .bf16 := half (ua μ up h.q k h.ct cl)

/-- Rounded score gradient of a unit under mask `μ`. -/
def mdz (μ : FVec F S256x256 .f32 → FVec F S256x256 .f32) (h : Head F) (k v : FVec F S256x128 .bf16)
    (cl cp : FVec F S256x1 .f32) : FVec F S256x256 .bf16 := half (udz μ up be h.q h.d k v h.ct cl cp)

/-- The first query block's gradient at the end. -/
def dq0End : FVec F S256x128 .f32 :=
  addf (addf acc.2.2.2.2.2.2.2.2.1 (nn (mdz up be caus h00 k1 v1 acc.1 acc.2.1) (onLanes l0 k1)))
    (nn (mdz up be caus h01 k1 v1 acc.2.2.1 acc.2.2.2.1) (onLanes l1 k1))

/-- The second query block's gradient at the end. -/
def dq1End : FVec F S256x128 .f32 :=
  addf (addf (addf (addf acc.2.2.2.2.2.2.2.2.2 (nn (mdz up be whole h10 k1 v1 acc.2.2.2.2.1 acc.2.2.2.2.2.1) (onLanes l0 k1)))
      (nn (mdz up be whole h11 k1 v1 acc.2.2.2.2.2.2.1 acc.2.2.2.2.2.2.2.1) (onLanes l1 k1)))
      (nn (mdz up be caus h10 k2 v2 (wcl h10 k1 acc.2.2.2.2.1) (wcp up h10 k1 v1 acc.2.2.2.2.1 acc.2.2.2.2.2.1)) (onLanes l0 k2)))
    (nn (mdz up be caus h11 k2 v2 (wcl h11 k1 acc.2.2.2.2.2.2.1) (wcp up h11 k1 v1 acc.2.2.2.2.2.2.1 acc.2.2.2.2.2.2.2.1))
      (onLanes l1 k2))

/-- The diagonal's addition to the first key block's key gradient. -/
def dk1End : FVec F S256x128 .f32 :=
  addf (addf (addf (tn (mdz up be caus h00 k1 v1 acc.1 acc.2.1) h00.q) (tn (mdz up be caus h01 k1 v1 acc.2.2.1 acc.2.2.2.1) h01.q))
      (tn (mdz up be whole h10 k1 v1 acc.2.2.2.2.1 acc.2.2.2.2.2.1) h10.q))
    (tn (mdz up be whole h11 k1 v1 acc.2.2.2.2.2.2.1 acc.2.2.2.2.2.2.2.1) h11.q)

/-- The diagonal's addition to the first key block's value gradient. -/
def dv1End : FVec F S256x128 .f32 :=
  addf (addf (addf (tn (ma up caus h00 k1 acc.1) h00.d) (tn (ma up caus h01 k1 acc.2.2.1) h01.d))
    (tn (ma up whole h10 k1 acc.2.2.2.2.1) h10.d)) (tn (ma up whole h11 k1 acc.2.2.2.2.2.2.1) h11.d)

/-- The diagonal's addition to the second key block's key gradient. -/
def dk2End : FVec F S256x128 .f32 :=
  addf (tn (mdz up be caus h10 k2 v2 (wcl h10 k1 acc.2.2.2.2.1) (wcp up h10 k1 v1 acc.2.2.2.2.1 acc.2.2.2.2.2.1)) h10.q)
    (tn (mdz up be caus h11 k2 v2 (wcl h11 k1 acc.2.2.2.2.2.2.1) (wcp up h11 k1 v1 acc.2.2.2.2.2.2.1 acc.2.2.2.2.2.2.2.1)) h11.q)

/-- The diagonal's addition to the second key block's value gradient. -/
def dv2End : FVec F S256x128 .f32 :=
  addf (tn (ma up caus h10 k2 (wcl h10 k1 acc.2.2.2.2.1)) h10.d) (tn (ma up caus h11 k2 (wcl h11 k1 acc.2.2.2.2.2.2.1)) h11.d)

end

/-- What the loop starts from: zeros. -/
def init : Carry F :=
  (k0_pay283, k0_pay283, k0_pay283, k0_pay283, k0_pay283, k0_pay283, k0_pay283, k0_pay283, k0_pay284, k0_pay285)

/-- A query block's gradient scaled and rounded. -/
def scaled (x : FVec F S256x128 .f32) : FVec F S256x128 .bf16 :=
  shapeCast S256x128 (truncf .bf16 (mulf x (broadcast S256x128 (Scalar.ofBits .f32 0x3E000000#32))) bitsLt_bf16_f32)
    shapeCasts_S256x128_S256x128

/-- Rows `off` of a narrow 512-row block. -/
def half512 (m : Memref sig .tc .vmem S512x128 .bf16) (X : BufTy.Contents (Elt F) m.view.ty) (off : Fin 2 → ℕ)
    (h : ∀ a, off a + S256x128.size a ≤ S512x128.size a) : FVec F S256x128 .bf16 :=
  shapeCast S256x128 (View.readAt (Elt F) m.view (Rect.unit (s := S512x128) off S256x128.size h).toLoadRect X)
    shapeCasts_S256x128_S256x128

/-- One column of 256 totals. -/
def tots (m : Memref sig .tc .vmem S512x128 .f32) (X : BufTy.Contents (Elt F) m.view.ty) (off : Fin 2 → ℕ)
    (h : ∀ a, off a + S256x1.size a ≤ S512x128.size a) : FVec F S256x1 .f32 :=
  shapeCast S256x1 (View.readAt (Elt F) m.view (Rect.unit (s := S512x128) off S256x1.size h).toLoadRect X)
    shapeCasts_S256x1_S256x1

section
variable (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole)
  (x0 : Vec F S512x128 .bf16) (x1 : Vec F S2048x128 .bf16) (x2 : Vec F S2048x128 .bf16) (x3 : Vec F S512x128 .bf16) (x4 : Vec F S512x128 .f32)

/-- Query block 0, head 0. -/
def hd00 : Head F :=
  ⟨onLanes lane0 (half512 arg2 (harg2.unread x0) ![0, 0] inb_S512x128_S256x128_0_0),
   onLanes lane0 (half512 arg5 (harg5.unread x3) ![0, 0] inb_S512x128_S256x128_0_0),
   tots arg6 (harg6.unread x4) ![0, 0] inb_S512x128_S256x1_0_0⟩

/-- Query block 0, head 1. -/
def hd01 : Head F :=
  ⟨onLanes lane1 (half512 arg2 (harg2.unread x0) ![0, 0] inb_S512x128_S256x128_0_0),
   onLanes lane1 (half512 arg5 (harg5.unread x3) ![0, 0] inb_S512x128_S256x128_0_0),
   tots arg6 (harg6.unread x4) ![0, 64] inb_S512x128_S256x1_0_64⟩

/-- Query block 1, head 0. -/
def hd10 : Head F :=
  ⟨onLanes lane0 (half512 arg2 (harg2.unread x0) ![256, 0] inb_S512x128_S256x128_256_0),
   onLanes lane0 (half512 arg5 (harg5.unread x3) ![256, 0] inb_S512x128_S256x128_256_0),
   tots arg6 (harg6.unread x4) ![256, 0] inb_S512x128_S256x1_256_0⟩

/-- Query block 1, head 1. -/
def hd11 : Head F :=
  ⟨onLanes lane1 (half512 arg2 (harg2.unread x0) ![256, 0] inb_S512x128_S256x128_256_0),
   onLanes lane1 (half512 arg5 (harg5.unread x3) ![256, 0] inb_S512x128_S256x128_256_0),
   tots arg6 (harg6.unread x4) ![256, 64] inb_S512x128_S256x1_256_64⟩

variable (G10 : BufTy.Contents (Elt F) arg10.view.ty) (G11 : BufTy.Contents (Elt F) arg11.view.ty)

/-- The state after `n` trips of the loop over earlier key blocks: what it carries and what it has stored. -/
def S1 (n : ℕ) :=
  st_k0_t1 (F := F) Variants.none c none i arg2 harg2 arg3 harg3 arg4 harg4 arg5 harg5 arg6 harg6 arg7 harg7 arg8 harg8 arg9 harg9 arg10 harg10 arg11 harg11 (kernelRun0_B.sl.v0 i) upto before lane0 lane1 (hd00 arg2 harg2 arg5 harg5 arg6 harg6 x0 x3 x4).q (hd00 arg2 harg2 arg5 harg5 arg6 harg6 x0 x3 x4).d (hd00 arg2 harg2 arg5 harg5 arg6 harg6 x0 x3 x4).ct (hd01 arg2 harg2 arg5 harg5 arg6 harg6 x0 x3 x4).q (hd01 arg2 harg2 arg5 harg5 arg6 harg6 x0 x3 x4).d (hd01 arg2 harg2 arg5 harg5 arg6 harg6 x0 x3 x4).ct (hd10 arg2 harg2 arg5 harg5 arg6 harg6 x0 x3 x4).q (hd10 arg2 harg2 arg5 harg5 arg6 harg6 x0 x3 x4).d (hd10 arg2 harg2 arg5 harg5 arg6 harg6 x0 x3 x4).ct (hd11 arg2 harg2 arg5 harg5 arg6 harg6 x0 x3 x4).q (hd11 arg2 harg2 arg5 harg5 arg6 harg6 x0 x3 x4).d (hd11 arg2 harg2 arg5 harg5 arg6 harg6 x0 x3 x4).ct k0_pay283 k0_pay284 k0_pay285 (2#32) (kernelRun0_B.sl.v71 i) (kernelRun0_B.sl.v76 i) (1#32) (0#1) (harg3.unread x1) (harg4.unread x2) G10 G11 init n

/-- The remainder loop's state after `n` trips, from what is carried in. -/
def S2 (acc : Carry F) (n : ℕ) :=
  st_k0_t2 (F := F) Variants.none c none i arg2 harg2 arg3 harg3 arg4 harg4 arg5 harg5 arg6 harg6 arg7 harg7 arg8 harg8 arg9 harg9 arg10 harg10 arg11 harg11 (kernelRun0_B.sl.v0 i) upto before lane0 lane1 (hd00 arg2 harg2 arg5 harg5 arg6 harg6 x0 x3 x4).q (hd00 arg2 harg2 arg5 harg5 arg6 harg6 x0 x3 x4).d (hd00 arg2 harg2 arg5 harg5 arg6 harg6 x0 x3 x4).ct (hd01 arg2 harg2 arg5 harg5 arg6 harg6 x0 x3 x4).q (hd01 arg2 harg2 arg5 harg5 arg6 harg6 x0 x3 x4).d (hd01 arg2 harg2 arg5 harg5 arg6 harg6 x0 x3 x4).ct (hd10 arg2 harg2 arg5 harg5 arg6 harg6 x0 x3 x4).q (hd10 arg2 harg2 arg5 harg5 arg6 harg6 x0 x3 x4).d (hd10 arg2 harg2 arg5 harg5 arg6 harg6 x0 x3 x4).ct (hd11 arg2 harg2 arg5 harg5 arg6 harg6 x0 x3 x4).q (hd11 arg2 harg2 arg5 harg5 arg6 harg6 x0 x3 x4).d (hd11 arg2 harg2 arg5 harg5 arg6 harg6 x0 x3 x4).ct k0_pay283 k0_pay284 k0_pay285 (2#32) (kernelRun0_B.sl.v71 i) (kernelRun0_B.sl.v76 i) (1#32) (0#1) (kernelRun0_B.sl.v92 i) (harg3.unread x1) (harg4.unread x2) G10 G11
    (acc.1, acc.2.1, acc.2.2.1, acc.2.2.2.1, acc.2.2.2.2.1, acc.2.2.2.2.2.1, acc.2.2.2.2.2.2.1, acc.2.2.2.2.2.2.2.1,
      acc.2.2.2.2.2.2.2.2.1, acc.2.2.2.2.2.2.2.2.2) n

/-- Trips of the loop over earlier key blocks. -/
abbrev n1 : ℕ := Scf.trips (k0_t1_loop i).lb (k0_t1_loop i).ub (k0_t1_loop i).st

/-- Trips of the remainder loop. -/
abbrev n2 : ℕ := Scf.trips (k0_t2_loop i).lb (k0_t2_loop i).ub (k0_t2_loop i).st

/-- The remainder loop runs no trip. -/
theorem n2_eq (i : grid0.Coords) : n2 i = 0 := Nat.le_zero.1 (k0_t2_abs i).2.1

/-- The loop runs as many trips as the point's step. -/
theorem n1_eq : ∀ i : grid0.Coords, n1 i = (i 1).val := by decide +kernel

/-- With no trip the remainder loop leaves what was carried in and stores nothing. -/
theorem S2_eq (acc : Carry F) : S2 c i arg2 harg2 arg3 harg3 arg4 harg4 arg5 harg5 arg6 harg6 arg7 harg7 arg8 harg8 arg9 harg9 arg10 harg10 arg11 harg11 x0 x1 x2 x3 x4 G10 G11 acc (n2 i) = (acc, [], []) := by
  rw [n2_eq]; rfl

omit G10 G11

/-- The stores into an accumulator at the diagonal: the first key block's rows, then the second's. -/
def endL (m : Memref sig .tc .vmem S2048x128 .f32) (G : BufTy.Contents (Elt F) m.view.ty)
    (L : List (View.Piece (Elt F) S2048x128 .f32)) (a b : FVec F S256x128 .f32) : List (View.Piece (Elt F) S2048x128 .f32) :=
  ⟨Rect.unit (k0_off6 i) ![256, 128] (k0_off6_inb i),
      stored (accRows m (m.view.writes (Elt F) G (⟨Rect.unit (k0_off5 i) ![256, 128] (k0_off5_inb i),
        stored (accRows m (m.view.writes (Elt F) G L) (k0_off5 i) (k0_off5_inb i)) a⟩ :: L)) (k0_off6 i) (k0_off6_inb i)) b⟩
    :: ⟨Rect.unit (k0_off5 i) ![256, 128] (k0_off5_inb i),
      stored (accRows m (m.view.writes (Elt F) G L) (k0_off5 i) (k0_off5_inb i)) a⟩ :: L

section
variable (acc : Carry F)

/-- `dk1End` at this point's own heads and diagonal key blocks. -/
def dk1End' : FVec F S256x128 .f32 := (dk1End upto before (hd00 arg2 harg2 arg5 harg5 arg6 harg6 x0 x3 x4) (hd01 arg2 harg2 arg5 harg5 arg6 harg6 x0 x3 x4) (hd10 arg2 harg2 arg5 harg5 arg6 harg6 x0 x3 x4) (hd11 arg2 harg2 arg5 harg5 arg6 harg6 x0 x3 x4) (rows arg3 (harg3.unread x1) (k0_off5 i) (k0_off5_inb i)) (rows arg4 (harg4.unread x2) (k0_off5 i) (k0_off5_inb i)) acc)

/-- `dk2End` at this point's own heads and diagonal key blocks. -/
def dk2End' : FVec F S256x128 .f32 := (dk2End upto before (hd10 arg2 harg2 arg5 harg5 arg6 harg6 x0 x3 x4) (hd11 arg2 harg2 arg5 harg5 arg6 harg6 x0 x3 x4) (rows arg3 (harg3.unread x1) (k0_off5 i) (k0_off5_inb i)) (rows arg3 (harg3.unread x1) (k0_off6 i) (k0_off6_inb i)) (rows arg4 (harg4.unread x2) (k0_off5 i) (k0_off5_inb i)) (rows arg4 (harg4.unread x2) (k0_off6 i) (k0_off6_inb i)) acc)

/-- `dv1End` at this point's own heads and diagonal key blocks. -/
def dv1End' : FVec F S256x128 .f32 := (dv1End upto (hd00 arg2 harg2 arg5 harg5 arg6 harg6 x0 x3 x4) (hd01 arg2 harg2 arg5 harg5 arg6 harg6 x0 x3 x4) (hd10 arg2 harg2 arg5 harg5 arg6 harg6 x0 x3 x4) (hd11 arg2 harg2 arg5 harg5 arg6 harg6 x0 x3 x4) (rows arg3 (harg3.unread x1) (k0_off5 i) (k0_off5_inb i)) acc)

/-- `dv2End` at this point's own heads and diagonal key blocks. -/
def dv2End' : FVec F S256x128 .f32 := (dv2End upto (hd10 arg2 harg2 arg5 harg5 arg6 harg6 x0 x3 x4) (hd11 arg2 harg2 arg5 harg5 arg6 harg6 x0 x3 x4) (rows arg3 (harg3.unread x1) (k0_off5 i) (k0_off5_inb i)) (rows arg3 (harg3.unread x1) (k0_off6 i) (k0_off6_inb i)) acc)

/-- `dq0End` at this point's own heads and diagonal key blocks. -/
def dq0End' : FVec F S256x128 .f32 := (dq0End upto before lane0 lane1 (hd00 arg2 harg2 arg5 harg5 arg6 harg6 x0 x3 x4) (hd01 arg2 harg2 arg5 harg5 arg6 harg6 x0 x3 x4) (rows arg3 (harg3.unread x1) (k0_off5 i) (k0_off5_inb i)) (rows arg4 (harg4.unread x2) (k0_off5 i) (k0_off5_inb i)) acc)

/-- `dq1End` at this point's own heads and diagonal key blocks. -/
def dq1End' : FVec F S256x128 .f32 := (dq1End upto before lane0 lane1 (hd10 arg2 harg2 arg5 harg5 arg6 harg6 x0 x3 x4) (hd11 arg2 harg2 arg5 harg5 arg6 harg6 x0 x3 x4) (rows arg3 (harg3.unread x1) (k0_off5 i) (k0_off5_inb i)) (rows arg3 (harg3.unread x1) (k0_off6 i) (k0_off6_inb i)) (rows arg4 (harg4.unread x2) (k0_off5 i) (k0_off5_inb i)) (rows arg4 (harg4.unread x2) (k0_off6 i) (k0_off6_inb i)) acc)
end

/-- What case A stores in output 5. -/
theorem out0_A_5_eq (hc0 : cond0_0 i) (hc1 : ¬cond0_1 i) :
    out0_A_5 (F := F) c i arg2 harg2 arg3 harg3 arg4 harg4 arg5 harg5 arg6 harg6 arg7 harg7 arg8 harg8 arg9 harg9 arg10 harg10 arg11 harg11 hc0 hc1 x0 x1 x2 x3 x4
      = VO0_5.read (Elt F) (VO0_5.writes (Elt F) VO0_5.junk [⟨Rect.unit (s := S512x128) ![256, 0] ![256, 128] inb_S512x128_S256x128_256_0, scaled (dq1End' i arg2 harg2 arg3 harg3 arg4 harg4 arg5 harg5 arg6 harg6 x0 x1 x2 x3 x4 (S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).1)⟩, ⟨Rect.unit (s := S512x128) ![0, 0] ![256, 128] inb_S512x128_S256x128_0_0, scaled (dq0End' i arg2 harg2 arg3 harg3 arg4 harg4 arg5 harg5 arg6 harg6 x0 x1 x2 x3 x4 (S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).1)⟩]) := by
  refine Eq.trans (b := VO0_5.read (Elt F) (VO0_5.writes (Elt F) VO0_5.junk [⟨Rect.unit (s := S512x128) ![256, 0] ![256, 128] inb_S512x128_S256x128_256_0, scaled (dq1End' i arg2 harg2 arg3 harg3 arg4 harg4 arg5 harg5 arg6 harg6 x0 x1 x2 x3 x4 (S2 c i arg2 harg2 arg3 harg3 arg4 harg4 arg5 harg5 arg6 harg6 arg7 harg7 arg8 harg8 arg9 harg9 arg10 harg10 arg11 harg11 x0 x1 x2 x3 x4 (arg10.view.writes (Elt F) arg10.view.junk ((S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.1 ++ [⟨Rect.unit (s := S2048x128) ![0, 0] S2048x128.size inb_S2048x128_S2048x128_0_0, k0_pay260⟩])) (arg11.view.writes (Elt F) arg11.view.junk ((S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.2 ++ [⟨Rect.unit (s := S2048x128) ![0, 0] S2048x128.size inb_S2048x128_S2048x128_0_0, k0_pay261⟩])) (S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).1 (n2 i)).1)⟩, ⟨Rect.unit (s := S512x128) ![0, 0] ![256, 128] inb_S512x128_S256x128_0_0, scaled (dq0End' i arg2 harg2 arg3 harg3 arg4 harg4 arg5 harg5 arg6 harg6 x0 x1 x2 x3 x4 (S2 c i arg2 harg2 arg3 harg3 arg4 harg4 arg5 harg5 arg6 harg6 arg7 harg7 arg8 harg8 arg9 harg9 arg10 harg10 arg11 harg11 x0 x1 x2 x3 x4 (arg10.view.writes (Elt F) arg10.view.junk ((S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.1 ++ [⟨Rect.unit (s := S2048x128) ![0, 0] S2048x128.size inb_S2048x128_S2048x128_0_0, k0_pay260⟩])) (arg11.view.writes (Elt F) arg11.view.junk ((S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.2 ++ [⟨Rect.unit (s := S2048x128) ![0, 0] S2048x128.size inb_S2048x128_S2048x128_0_0, k0_pay261⟩])) (S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).1 (n2 i)).1)⟩])) ?_ ?_
  · unfold out0_A_5 kernelRun0_A
    sl_kernel_rfl
  · rw [S2_eq] <;> rfl

/-- What case A leaves in accumulator 0. -/
theorem sout0_A_0_eq (hc0 : cond0_0 i) (hc1 : ¬cond0_1 i) :
    sout0_A_0 (F := F) c i arg2 harg2 arg3 harg3 arg4 harg4 arg5 harg5 arg6 harg6 arg7 harg7 arg8 harg8 arg9 harg9 arg10 harg10 arg11 harg11 hc0 hc1 x0 x1 x2 x3 x4
      = arg10.view.read (Elt F) (arg10.view.writes (Elt F) (arg10.view.writes (Elt F) arg10.view.junk [⟨Rect.unit (s := S2048x128) ![0, 0] S2048x128.size inb_S2048x128_S2048x128_0_0, k0_pay260⟩]) (endL i arg10 (arg10.view.writes (Elt F) arg10.view.junk [⟨Rect.unit (s := S2048x128) ![0, 0] S2048x128.size inb_S2048x128_S2048x128_0_0, k0_pay260⟩]) (S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.1 (dk1End' i arg2 harg2 arg3 harg3 arg4 harg4 arg5 harg5 arg6 harg6 x0 x1 x2 x3 x4 (S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).1) (dk2End' i arg2 harg2 arg3 harg3 arg4 harg4 arg5 harg5 arg6 harg6 x0 x1 x2 x3 x4 (S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).1))) := by
  refine Eq.trans (b := VS0_0.read (Elt F) (VS0_0.writes (Elt F) VS0_0.junk (endL i arg10 arg10.view.junk ((S2 c i arg2 harg2 arg3 harg3 arg4 harg4 arg5 harg5 arg6 harg6 arg7 harg7 arg8 harg8 arg9 harg9 arg10 harg10 arg11 harg11 x0 x1 x2 x3 x4 (arg10.view.writes (Elt F) arg10.view.junk ((S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.1 ++ [⟨Rect.unit (s := S2048x128) ![0, 0] S2048x128.size inb_S2048x128_S2048x128_0_0, k0_pay260⟩])) (arg11.view.writes (Elt F) arg11.view.junk ((S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.2 ++ [⟨Rect.unit (s := S2048x128) ![0, 0] S2048x128.size inb_S2048x128_S2048x128_0_0, k0_pay261⟩])) (S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).1 (n2 i)).2.1 ++ ((S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.1 ++ [⟨Rect.unit (s := S2048x128) ![0, 0] S2048x128.size inb_S2048x128_S2048x128_0_0, k0_pay260⟩])) (dk1End' i arg2 harg2 arg3 harg3 arg4 harg4 arg5 harg5 arg6 harg6 x0 x1 x2 x3 x4 (S2 c i arg2 harg2 arg3 harg3 arg4 harg4 arg5 harg5 arg6 harg6 arg7 harg7 arg8 harg8 arg9 harg9 arg10 harg10 arg11 harg11 x0 x1 x2 x3 x4 (arg10.view.writes (Elt F) arg10.view.junk ((S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.1 ++ [⟨Rect.unit (s := S2048x128) ![0, 0] S2048x128.size inb_S2048x128_S2048x128_0_0, k0_pay260⟩])) (arg11.view.writes (Elt F) arg11.view.junk ((S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.2 ++ [⟨Rect.unit (s := S2048x128) ![0, 0] S2048x128.size inb_S2048x128_S2048x128_0_0, k0_pay261⟩])) (S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).1 (n2 i)).1) (dk2End' i arg2 harg2 arg3 harg3 arg4 harg4 arg5 harg5 arg6 harg6 x0 x1 x2 x3 x4 (S2 c i arg2 harg2 arg3 harg3 arg4 harg4 arg5 harg5 arg6 harg6 arg7 harg7 arg8 harg8 arg9 harg9 arg10 harg10 arg11 harg11 x0 x1 x2 x3 x4 (arg10.view.writes (Elt F) arg10.view.junk ((S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.1 ++ [⟨Rect.unit (s := S2048x128) ![0, 0] S2048x128.size inb_S2048x128_S2048x128_0_0, k0_pay260⟩])) (arg11.view.writes (Elt F) arg11.view.junk ((S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.2 ++ [⟨Rect.unit (s := S2048x128) ![0, 0] S2048x128.size inb_S2048x128_S2048x128_0_0, k0_pay261⟩])) (S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).1 (n2 i)).1)))) ?_ ?_
  · unfold sout0_A_0 kernelRun0_A
    sl_kernel_rfl
  · rw [S2_eq, Memref.IsWhole.read_writes_junk (Memref.isWhole_whole _) harg10]
    simp only [endL, List.nil_append, ← List.cons_append, View.writes_append]

/-- What case A leaves in accumulator 1. -/
theorem sout0_A_1_eq (hc0 : cond0_0 i) (hc1 : ¬cond0_1 i) :
    sout0_A_1 (F := F) c i arg2 harg2 arg3 harg3 arg4 harg4 arg5 harg5 arg6 harg6 arg7 harg7 arg8 harg8 arg9 harg9 arg10 harg10 arg11 harg11 hc0 hc1 x0 x1 x2 x3 x4
      = arg11.view.read (Elt F) (arg11.view.writes (Elt F) (arg11.view.writes (Elt F) arg11.view.junk [⟨Rect.unit (s := S2048x128) ![0, 0] S2048x128.size inb_S2048x128_S2048x128_0_0, k0_pay261⟩]) (endL i arg11 (arg11.view.writes (Elt F) arg11.view.junk [⟨Rect.unit (s := S2048x128) ![0, 0] S2048x128.size inb_S2048x128_S2048x128_0_0, k0_pay261⟩]) (S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.2 (dv1End' i arg2 harg2 arg3 harg3 arg5 harg5 arg6 harg6 x0 x1 x3 x4 (S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).1) (dv2End' i arg2 harg2 arg3 harg3 arg5 harg5 arg6 harg6 x0 x1 x3 x4 (S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).1))) := by
  refine Eq.trans (b := VS0_1.read (Elt F) (VS0_1.writes (Elt F) VS0_1.junk (endL i arg11 arg11.view.junk ((S2 c i arg2 harg2 arg3 harg3 arg4 harg4 arg5 harg5 arg6 harg6 arg7 harg7 arg8 harg8 arg9 harg9 arg10 harg10 arg11 harg11 x0 x1 x2 x3 x4 (arg10.view.writes (Elt F) arg10.view.junk ((S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.1 ++ [⟨Rect.unit (s := S2048x128) ![0, 0] S2048x128.size inb_S2048x128_S2048x128_0_0, k0_pay260⟩])) (arg11.view.writes (Elt F) arg11.view.junk ((S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.2 ++ [⟨Rect.unit (s := S2048x128) ![0, 0] S2048x128.size inb_S2048x128_S2048x128_0_0, k0_pay261⟩])) (S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).1 (n2 i)).2.2 ++ ((S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.2 ++ [⟨Rect.unit (s := S2048x128) ![0, 0] S2048x128.size inb_S2048x128_S2048x128_0_0, k0_pay261⟩])) (dv1End' i arg2 harg2 arg3 harg3 arg5 harg5 arg6 harg6 x0 x1 x3 x4 (S2 c i arg2 harg2 arg3 harg3 arg4 harg4 arg5 harg5 arg6 harg6 arg7 harg7 arg8 harg8 arg9 harg9 arg10 harg10 arg11 harg11 x0 x1 x2 x3 x4 (arg10.view.writes (Elt F) arg10.view.junk ((S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.1 ++ [⟨Rect.unit (s := S2048x128) ![0, 0] S2048x128.size inb_S2048x128_S2048x128_0_0, k0_pay260⟩])) (arg11.view.writes (Elt F) arg11.view.junk ((S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.2 ++ [⟨Rect.unit (s := S2048x128) ![0, 0] S2048x128.size inb_S2048x128_S2048x128_0_0, k0_pay261⟩])) (S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).1 (n2 i)).1) (dv2End' i arg2 harg2 arg3 harg3 arg5 harg5 arg6 harg6 x0 x1 x3 x4 (S2 c i arg2 harg2 arg3 harg3 arg4 harg4 arg5 harg5 arg6 harg6 arg7 harg7 arg8 harg8 arg9 harg9 arg10 harg10 arg11 harg11 x0 x1 x2 x3 x4 (arg10.view.writes (Elt F) arg10.view.junk ((S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.1 ++ [⟨Rect.unit (s := S2048x128) ![0, 0] S2048x128.size inb_S2048x128_S2048x128_0_0, k0_pay260⟩])) (arg11.view.writes (Elt F) arg11.view.junk ((S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).2.2 ++ [⟨Rect.unit (s := S2048x128) ![0, 0] S2048x128.size inb_S2048x128_S2048x128_0_0, k0_pay261⟩])) (S1 c i arg2 harg2 arg3 harg3 arg4 harg4 arg5 harg5 arg6 harg6 arg7 harg7 arg8 harg8 arg9 harg9 arg10 harg10 arg11 harg11 x0 x1 x2 x3 x4 (arg10.view.writes (Elt F) arg10.view.junk [⟨Rect.unit (s := S2048x128) ![0, 0] S2048x128.size inb_S2048x128_S2048x128_0_0, k0_pay260⟩]) (arg11.view.writes (Elt F) arg11.view.junk [⟨Rect.unit (s := S2048x128) ![0, 0] S2048x128.size inb_S2048x128_S2048x128_0_0, k0_pay261⟩]) (n1 i)).1 (n2 i)).1)))) ?_ ?_
  · unfold sout0_A_1 kernelRun0_A
    sl_kernel_rfl
  · rw [S2_eq, Memref.IsWhole.read_writes_junk (Memref.isWhole_whole _) harg11]
    simp only [endL, List.nil_append, ← List.cons_append, View.writes_append]

/-- What case B stores in output 5. -/
theorem out0_B_5_eq (hc0 : ¬cond0_0 i) (hc1 : ¬cond0_1 i) (xs0 : Vec F S2048x128 .f32) (xs1 : Vec F S2048x128 .f32) :
    out0_B_5 (F := F) c i arg2 harg2 arg3 harg3 arg4 harg4 arg5 harg5 arg6 harg6 arg7 harg7 arg8 harg8 arg9 harg9 arg10 harg10 arg11 harg11 hc0 hc1 x0 x1 x2 x3 x4 xs0 xs1
      = VO0_5.read (Elt F) (VO0_5.writes (Elt F) VO0_5.junk [⟨Rect.unit (s := S512x128) ![256, 0] ![256, 128] inb_S512x128_S256x128_256_0, scaled (dq1End' i arg2 harg2 arg3 harg3 arg4 harg4 arg5 harg5 arg6 harg6 x0 x1 x2 x3 x4 (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1)⟩, ⟨Rect.unit (s := S512x128) ![0, 0] ![256, 128] inb_S512x128_S256x128_0_0, scaled (dq0End' i arg2 harg2 arg3 harg3 arg4 harg4 arg5 harg5 arg6 harg6 x0 x1 x2 x3 x4 (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1)⟩]) := by
  refine Eq.trans (b := VO0_5.read (Elt F) (VO0_5.writes (Elt F) VO0_5.junk [⟨Rect.unit (s := S512x128) ![256, 0] ![256, 128] inb_S512x128_S256x128_256_0, scaled (dq1End' i arg2 harg2 arg3 harg3 arg4 harg4 arg5 harg5 arg6 harg6 x0 x1 x2 x3 x4 (S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).1)⟩, ⟨Rect.unit (s := S512x128) ![0, 0] ![256, 128] inb_S512x128_S256x128_0_0, scaled (dq0End' i arg2 harg2 arg3 harg3 arg4 harg4 arg5 harg5 arg6 harg6 x0 x1 x2 x3 x4 (S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).1)⟩])) ?_ ?_
  · unfold out0_B_5 kernelRun0_B
    sl_kernel_rfl
  · rw [S2_eq] <;> rfl

/-- What case B leaves in accumulator 0. -/
theorem sout0_B_0_eq (hc0 : ¬cond0_0 i) (hc1 : ¬cond0_1 i) (xs0 : Vec F S2048x128 .f32) (xs1 : Vec F S2048x128 .f32) :
    sout0_B_0 (F := F) c i arg2 harg2 arg3 harg3 arg4 harg4 arg5 harg5 arg6 harg6 arg7 harg7 arg8 harg8 arg9 harg9 arg10 harg10 arg11 harg11 hc0 hc1 x0 x1 x2 x3 x4 xs0 xs1
      = arg10.view.read (Elt F) (arg10.view.writes (Elt F) (harg10.unread xs0) (endL i arg10 (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1 (dk1End' i arg2 harg2 arg3 harg3 arg4 harg4 arg5 harg5 arg6 harg6 x0 x1 x2 x3 x4 (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1) (dk2End' i arg2 harg2 arg3 harg3 arg4 harg4 arg5 harg5 arg6 harg6 x0 x1 x2 x3 x4 (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1))) := by
  refine Eq.trans (b := arg10.view.read (Elt F) (arg10.view.writes (Elt F) (harg10.unread xs0) (endL i arg10 (harg10.unread xs0) ((S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).2.1 ++ (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (dk1End' i arg2 harg2 arg3 harg3 arg4 harg4 arg5 harg5 arg6 harg6 x0 x1 x2 x3 x4 (S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).1) (dk2End' i arg2 harg2 arg3 harg3 arg4 harg4 arg5 harg5 arg6 harg6 x0 x1 x2 x3 x4 (S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).1)))) ?_ ?_
  · unfold sout0_B_0 kernelRun0_B
    sl_kernel_rfl
  · rw [S2_eq] <;> rfl

/-- What case B leaves in accumulator 1. -/
theorem sout0_B_1_eq (hc0 : ¬cond0_0 i) (hc1 : ¬cond0_1 i) (xs0 : Vec F S2048x128 .f32) (xs1 : Vec F S2048x128 .f32) :
    sout0_B_1 (F := F) c i arg2 harg2 arg3 harg3 arg4 harg4 arg5 harg5 arg6 harg6 arg7 harg7 arg8 harg8 arg9 harg9 arg10 harg10 arg11 harg11 hc0 hc1 x0 x1 x2 x3 x4 xs0 xs1
      = arg11.view.read (Elt F) (arg11.view.writes (Elt F) (harg11.unread xs1) (endL i arg11 (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2 (dv1End' i arg2 harg2 arg3 harg3 arg5 harg5 arg6 harg6 x0 x1 x3 x4 (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1) (dv2End' i arg2 harg2 arg3 harg3 arg5 harg5 arg6 harg6 x0 x1 x3 x4 (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1))) := by
  refine Eq.trans (b := arg11.view.read (Elt F) (arg11.view.writes (Elt F) (harg11.unread xs1) (endL i arg11 (harg11.unread xs1) ((S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).2.2 ++ (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (dv1End' i arg2 harg2 arg3 harg3 arg5 harg5 arg6 harg6 x0 x1 x3 x4 (S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).1) (dv2End' i arg2 harg2 arg3 harg3 arg5 harg5 arg6 harg6 x0 x1 x3 x4 (S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).1)))) ?_ ?_
  · unfold sout0_B_1 kernelRun0_B
    sl_kernel_rfl
  · rw [S2_eq] <;> rfl

/-- What case C stores in output 5. -/
theorem out0_C_5_eq (hc0 : ¬cond0_0 i) (hc1 : cond0_1 i) (xs0 : Vec F S2048x128 .f32) (xs1 : Vec F S2048x128 .f32) :
    out0_C_5 (F := F) c i arg2 harg2 arg3 harg3 arg4 harg4 arg5 harg5 arg6 harg6 arg7 harg7 arg8 harg8 arg9 harg9 arg10 harg10 arg11 harg11 hc0 hc1 x0 x1 x2 x3 x4 xs0 xs1
      = VO0_5.read (Elt F) (VO0_5.writes (Elt F) VO0_5.junk [⟨Rect.unit (s := S512x128) ![256, 0] ![256, 128] inb_S512x128_S256x128_256_0, scaled (dq1End' i arg2 harg2 arg3 harg3 arg4 harg4 arg5 harg5 arg6 harg6 x0 x1 x2 x3 x4 (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1)⟩, ⟨Rect.unit (s := S512x128) ![0, 0] ![256, 128] inb_S512x128_S256x128_0_0, scaled (dq0End' i arg2 harg2 arg3 harg3 arg4 harg4 arg5 harg5 arg6 harg6 x0 x1 x2 x3 x4 (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1)⟩]) := by
  refine Eq.trans (b := VO0_5.read (Elt F) (VO0_5.writes (Elt F) VO0_5.junk [⟨Rect.unit (s := S512x128) ![256, 0] ![256, 128] inb_S512x128_S256x128_256_0, scaled (dq1End' i arg2 harg2 arg3 harg3 arg4 harg4 arg5 harg5 arg6 harg6 x0 x1 x2 x3 x4 (S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).1)⟩, ⟨Rect.unit (s := S512x128) ![0, 0] ![256, 128] inb_S512x128_S256x128_0_0, scaled (dq0End' i arg2 harg2 arg3 harg3 arg4 harg4 arg5 harg5 arg6 harg6 x0 x1 x2 x3 x4 (S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).1)⟩])) ?_ ?_
  · unfold out0_C_5 kernelRun0_C
    sl_kernel_rfl
  · rw [S2_eq] <;> rfl

/-- What case C leaves in accumulator 0. -/
theorem sout0_C_0_eq (hc0 : ¬cond0_0 i) (hc1 : cond0_1 i) (xs0 : Vec F S2048x128 .f32) (xs1 : Vec F S2048x128 .f32) :
    sout0_C_0 (F := F) c i arg2 harg2 arg3 harg3 arg4 harg4 arg5 harg5 arg6 harg6 arg7 harg7 arg8 harg8 arg9 harg9 arg10 harg10 arg11 harg11 hc0 hc1 x0 x1 x2 x3 x4 xs0 xs1
      = arg10.view.read (Elt F) (arg10.view.writes (Elt F) (harg10.unread xs0) (endL i arg10 (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1 (dk1End' i arg2 harg2 arg3 harg3 arg4 harg4 arg5 harg5 arg6 harg6 x0 x1 x2 x3 x4 (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1) (dk2End' i arg2 harg2 arg3 harg3 arg4 harg4 arg5 harg5 arg6 harg6 x0 x1 x2 x3 x4 (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1))) := by
  refine Eq.trans (b := arg10.view.read (Elt F) (arg10.view.writes (Elt F) (harg10.unread xs0) (endL i arg10 (harg10.unread xs0) ((S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).2.1 ++ (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (dk1End' i arg2 harg2 arg3 harg3 arg4 harg4 arg5 harg5 arg6 harg6 x0 x1 x2 x3 x4 (S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).1) (dk2End' i arg2 harg2 arg3 harg3 arg4 harg4 arg5 harg5 arg6 harg6 x0 x1 x2 x3 x4 (S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).1)))) ?_ ?_
  · unfold sout0_C_0 kernelRun0_C
    sl_kernel_rfl
  · rw [S2_eq] <;> rfl

/-- What case C leaves in accumulator 1. -/
theorem sout0_C_1_eq (hc0 : ¬cond0_0 i) (hc1 : cond0_1 i) (xs0 : Vec F S2048x128 .f32) (xs1 : Vec F S2048x128 .f32) :
    sout0_C_1 (F := F) c i arg2 harg2 arg3 harg3 arg4 harg4 arg5 harg5 arg6 harg6 arg7 harg7 arg8 harg8 arg9 harg9 arg10 harg10 arg11 harg11 hc0 hc1 x0 x1 x2 x3 x4 xs0 xs1
      = arg11.view.read (Elt F) (arg11.view.writes (Elt F) (harg11.unread xs1) (endL i arg11 (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2 (dv1End' i arg2 harg2 arg3 harg3 arg5 harg5 arg6 harg6 x0 x1 x3 x4 (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1) (dv2End' i arg2 harg2 arg3 harg3 arg5 harg5 arg6 harg6 x0 x1 x3 x4 (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1))) := by
  refine Eq.trans (b := arg11.view.read (Elt F) (arg11.view.writes (Elt F) (harg11.unread xs1) (endL i arg11 (harg11.unread xs1) ((S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).2.2 ++ (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (dv1End' i arg2 harg2 arg3 harg3 arg5 harg5 arg6 harg6 x0 x1 x3 x4 (S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).1) (dv2End' i arg2 harg2 arg3 harg3 arg5 harg5 arg6 harg6 x0 x1 x3 x4 (S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).1)))) ?_ ?_
  · unfold sout0_C_1 kernelRun0_C
    sl_kernel_rfl
  · rw [S2_eq] <;> rfl

/-- What case C leaves in accumulator 6. -/
theorem out0_C_6_eq (hc0 : ¬cond0_0 i) (hc1 : cond0_1 i) (xs0 : Vec F S2048x128 .f32) (xs1 : Vec F S2048x128 .f32) :
    out0_C_6 (F := F) c i arg2 harg2 arg3 harg3 arg4 harg4 arg5 harg5 arg6 harg6 arg7 harg7 arg8 harg8 arg9 harg9 arg10 harg10 arg11 harg11 hc0 hc1 x0 x1 x2 x3 x4 xs0 xs1
      = VO0_6.read (Elt F) (VO0_6.writes (Elt F) VO0_6.junk [⟨Rect.unit (s := S2048x128) ![0, 0] S2048x128.size inb_S2048x128_S2048x128_0_0, k0_pay4 (View.readAt (Elt F) arg10.view (Rect.unit (s := S2048x128) ![0, 0] S2048x128.size inb_S2048x128_S2048x128_0_0).toLoadRect (arg10.view.writes (Elt F) (harg10.unread xs0) (endL i arg10 (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1 (dk1End' i arg2 harg2 arg3 harg3 arg4 harg4 arg5 harg5 arg6 harg6 x0 x1 x2 x3 x4 (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1) (dk2End' i arg2 harg2 arg3 harg3 arg4 harg4 arg5 harg5 arg6 harg6 x0 x1 x2 x3 x4 (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1))))⟩]) := by
  refine Eq.trans (b := VO0_6.read (Elt F) (VO0_6.writes (Elt F) VO0_6.junk [⟨Rect.unit (s := S2048x128) ![0, 0] S2048x128.size inb_S2048x128_S2048x128_0_0, k0_pay4 (View.readAt (Elt F) arg10.view (Rect.unit (s := S2048x128) ![0, 0] S2048x128.size inb_S2048x128_S2048x128_0_0).toLoadRect (arg10.view.writes (Elt F) (harg10.unread xs0) (endL i arg10 (harg10.unread xs0) ((S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).2.1 ++ (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (dk1End' i arg2 harg2 arg3 harg3 arg4 harg4 arg5 harg5 arg6 harg6 x0 x1 x2 x3 x4 (S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).1) (dk2End' i arg2 harg2 arg3 harg3 arg4 harg4 arg5 harg5 arg6 harg6 x0 x1 x2 x3 x4 (S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).1))))⟩])) ?_ ?_
  · unfold out0_C_6 kernelRun0_C
    sl_kernel_rfl
  · rw [S2_eq] <;> rfl

/-- What case C leaves in accumulator 7. -/
theorem out0_C_7_eq (hc0 : ¬cond0_0 i) (hc1 : cond0_1 i) (xs0 : Vec F S2048x128 .f32) (xs1 : Vec F S2048x128 .f32) :
    out0_C_7 (F := F) c i arg2 harg2 arg3 harg3 arg4 harg4 arg5 harg5 arg6 harg6 arg7 harg7 arg8 harg8 arg9 harg9 arg10 harg10 arg11 harg11 hc0 hc1 x0 x1 x2 x3 x4 xs0 xs1
      = VO0_7.read (Elt F) (VO0_7.writes (Elt F) VO0_7.junk [⟨Rect.unit (s := S2048x128) ![0, 0] S2048x128.size inb_S2048x128_S2048x128_0_0, k0_pay5 (View.readAt (Elt F) arg11.view (Rect.unit (s := S2048x128) ![0, 0] S2048x128.size inb_S2048x128_S2048x128_0_0).toLoadRect (arg11.view.writes (Elt F) (harg11.unread xs1) (endL i arg11 (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2 (dv1End' i arg2 harg2 arg3 harg3 arg5 harg5 arg6 harg6 x0 x1 x3 x4 (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1) (dv2End' i arg2 harg2 arg3 harg3 arg5 harg5 arg6 harg6 x0 x1 x3 x4 (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1))))⟩]) := by
  refine Eq.trans (b := VO0_7.read (Elt F) (VO0_7.writes (Elt F) VO0_7.junk [⟨Rect.unit (s := S2048x128) ![0, 0] S2048x128.size inb_S2048x128_S2048x128_0_0, k0_pay5 (View.readAt (Elt F) arg11.view (Rect.unit (s := S2048x128) ![0, 0] S2048x128.size inb_S2048x128_S2048x128_0_0).toLoadRect (arg11.view.writes (Elt F) (harg11.unread xs1) (endL i arg11 (harg11.unread xs1) ((S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).2.2 ++ (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (dv1End' i arg2 harg2 arg3 harg3 arg5 harg5 arg6 harg6 x0 x1 x3 x4 (S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).1) (dv2End' i arg2 harg2 arg3 harg3 arg5 harg5 arg6 harg6 x0 x1 x3 x4 (S2 c i arg2 harg2 arg3 harg3 arg4 harg4 arg5 harg5 arg6 harg6 arg7 harg7 arg8 harg8 arg9 harg9 arg10 harg10 arg11 harg11 x0 x1 x2 x3 x4 (arg10.view.writes (Elt F) (harg10.unread xs0) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.1) (arg11.view.writes (Elt F) (harg11.unread xs1) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).2.2) (S1 c i arg2 harg2 arg3 harg3 arg4 harg4 arg5 harg5 arg6 harg6 arg7 harg7 arg8 harg8 arg9 harg9 arg10 harg10 arg11 harg11 x0 x1 x2 x3 x4 (harg10.unread xs0) (harg11.unread xs1) (n1 i)).1 (n2 i)).1))))⟩])) ?_ ?_
  · unfold out0_C_7 kernelRun0_C
    sl_kernel_rfl
  · rw [S2_eq] <;> rfl

end

end Cert.Proof.Attn

end
-- ==== Proof.Rep.lean ====
/-
  Arrays of finite extended reals, told by a function of the index: `Rep x f` says that the two-dimensional array `x` holds
  the real `f r c` at row `r`, column `c`. The unit functions of `Unit.lean` take such arrays to such arrays; each lemma says
  which function comes out.
-/
module

public import proofs.«01_k».proof.Proof.Step
public import Idealize.ShloMosaic.Lib.Pointwise
public import Idealize.ShloMosaic.Lib.Tactic.CleanTypes

@[expose] public section

noncomputable section

open Idealize.ShloMosaic Idealize.SL.Sem Finset

namespace Cert.Proof.Attn

open Cert.KernelIdeal Cert.KernelIdeal.Gen

/-- The array holds the real `f r c` at row `r`, column `c`. -/
def Rep {d : Fin 2 → ℕ} (x : (⟨2, d⟩ : Shape).Idx → EReal) (f : ℕ → ℕ → ℝ) : Prop :=
  ∀ j : (⟨2, d⟩ : Shape).Idx, x j = ((f (j 0).val (j 1).val : ℝ) : EReal)

/-- log₂σ of a scaled score. -/
def lbR (x : ℝ) : ℝ :=
  min (x * (1 / 8 * (Real.log 2)⁻¹)) 0 - Real.log (1 + 2 ^ (0 - |x * (1 / 8 * (Real.log 2)⁻¹)|)) * (Real.log 2)⁻¹

/-- log₂(1 − σ) of a scaled score. -/
def l1R (x : ℝ) : ℝ := lbR x - x * (1 / 8 * (Real.log 2)⁻¹)

theorem coe_sum {n : ℕ} (f : ℕ → ℝ) : ∑ k : Fin n, ((f k.val : ℝ) : EReal) = ((∑ k ∈ range n, f k : ℝ) : EReal) := by
  rw [Fin.sum_univ_eq_sum_range (fun k => ((f k : ℝ) : EReal))]
  exact (map_sum (⟨⟨Real.toEReal, EReal.coe_zero⟩, EReal.coe_add⟩ : ℝ →+ EReal) f (range n)).symm

theorem coe_abs (r : ℝ) : max (r : EReal) (-(r : EReal)) = ((|r| : ℝ) : EReal) := by
  rw [← EReal.coe_neg]; exact (EReal.coe_strictMono.monotone.map_max (a := r) (b := -r)).symm

theorem coe_min (a b : ℝ) : min (a : EReal) (b : EReal) = ((min a b : ℝ) : EReal) :=
  (EReal.coe_strictMono.monotone.map_min (a := a) (b := b)).symm

theorem absf_coe {φ : FTy} (r : ℝ) : (FloatOps.absf (F := Ideal) (φ := φ) (r : EReal) : EReal) = ((|r| : ℝ) : EReal) := coe_abs r

theorem exp2_coe {φ : FTy} (r : ℝ) : (FloatOps.exp2 (F := Ideal) (φ := φ) (r : EReal) : EReal) = (((2 : ℝ) ^ r : ℝ) : EReal) := rfl

theorem log_coe {r : ℝ} (h : 0 < r) : Ideal.log (r : EReal) = ((Real.log r : ℝ) : EReal) := by
  rw [Ideal.log_coe, if_neg (not_le.2 h)]

theorem named_scale : (Named.named (F := Ideal) κ "scale_log2e" (φ := .f32) 1043900987#32 : EReal)
    = (((1 / 8) * (Real.log 2)⁻¹ : ℝ) : EReal) :=
  IdealRules.named_const.ideal_named_scalar _ _ _ _ rfl

theorem named_log2e : (Named.named (F := Ideal) κ "log2e" (φ := .f32) 1069066811#32 : EReal)
    = (((Real.log 2)⁻¹ : ℝ) : EReal) :=
  IdealRules.named_const.ideal_named_scalar _ _ _ _ rfl

/-- A 0/1 triangle's element as a number. -/
theorem tri_val (p : Prop) [Decidable p] : (FloatOps.sitofp (F := Ideal) FTy.f32 (BitVec.setWidth 32 (BitVec.ofBool (decide p))) : EReal)
    = (((if p then 1 else 0 : ℝ)) : EReal) := by
  have h : ∀ b : BitVec 32, (FloatOps.sitofp (F := Ideal) FTy.f32 b : EReal) = ((b.toInt : ℝ) : EReal) := fun _ => rfl
  rw [h]
  by_cases hp : p <;> simp [hp]

section
variable {x y : FVec Ideal S256x128 .bf16} {z w : FVec Ideal S256x256 .f32} {a : FVec Ideal S256x256 .bf16}
  {b b' : FVec Ideal S256x128 .f32} {u u' : FVec Ideal S256x1 .f32} {f g : ℕ → ℕ → ℝ}

theorem Rep.congr {d : Fin 2 → ℕ} {x : (⟨2, d⟩ : Shape).Idx → EReal} (hx : Rep x f)
    (h : ∀ r c, r < d 0 → c < d 1 → f r c = g r c) : Rep x g := fun j => by
  rw [hx j, h _ _ (j 0).isLt (j 1).isLt]

theorem nt_rep (hx : Rep x f) (hy : Rep y g) : Rep (nt x y) fun r c => ∑ k ∈ range 128, f r k * g c k := by
  intro j
  rw [eq_ix2 j]
  pointwise [nt]
  rw [← coe_sum]
  exact Finset.sum_congr rfl fun k _ => by rw [hx, hy, ← EReal.coe_mul]; rfl

theorem nn_rep (hx : Rep a f) (hy : Rep y g) : Rep (nn a y) fun r c => ∑ k ∈ range 256, f r k * g k c := by
  intro j
  rw [eq_ix2 j]
  pointwise [nn]
  rw [← coe_sum]
  exact Finset.sum_congr rfl fun k _ => by rw [hx, hy, ← EReal.coe_mul]; rfl

theorem tn_rep (hx : Rep a f) (hy : Rep y g) : Rep (tn a y) fun r c => ∑ k ∈ range 256, f k r * g k c := by
  intro j
  rw [eq_ix2 j]
  pointwise [tn]
  rw [← coe_sum]
  exact Finset.sum_congr rfl fun k _ => by rw [hx, hy, ← EReal.coe_mul]; rfl

theorem lb_rep (hx : Rep z f) : Rep (lb z) fun r c => lbR (f r c) := by
  intro j
  rw [eq_ix2 j]
  pointwise [lb, z2, splat]
  have h0 : (0 : EReal) = ((0 : ℝ) : EReal) := rfl
  have h1 : (1 : EReal) = ((1 : ℝ) : EReal) := rfl
  rw [named_scale, named_log2e, hx, ← EReal.coe_mul, absf_coe, h0, h1, coe_min, ← EReal.coe_sub, exp2_coe, ← EReal.coe_add,
    log_coe (by positivity), ← EReal.coe_mul, ← EReal.coe_sub]
  rfl

theorem l1m_rep (hx : Rep z f) : Rep (l1m z) fun r c => l1R (f r c) := by
  intro j
  have h : l1m z j = lb z j - z j * Named.named (F := Ideal) κ "scale_log2e" (φ := .f32) 1043900987#32 := rfl
  rw [h, named_scale, lb_rep hx j, hx j, ← EReal.coe_mul, ← EReal.coe_sub]
  rfl

theorem coe_sub_self (r : ℝ) : (r : EReal) - (r : EReal) = 0 := by rw [← EReal.coe_sub, sub_self]; rfl

theorem tri_sum {n : ℕ} (f : ℕ → ℝ) (m : ℕ) (h : m ≤ n) :
    ∑ k ∈ range n, f k * (if k < m then 1 else 0) = ∑ k ∈ range m, f k := by
  have : ∀ k, f k * (if k < m then 1 else 0) = if k < m then f k else 0 := fun k => by split <;> simp
  simp only [this]
  rw [← Finset.sum_filter]
  congr 1; ext k; simp; omega

theorem upto_rep (hx : Rep z f) : Rep (hilo z upto) fun r c => ∑ k ∈ range (c + 1), f r k := by
  intro j
  rw [eq_ix2 j]
  pointwise [hilo, upto]
  have e : ∀ k : Fin 256, IntOp.cmpi CmpIPredicate.sle (BitVec.ofNat 32 k.val) (BitVec.ofNat 32 (j 1).val)
      = BitVec.ofBool (decide (k.val < (j 1).val + 1)) := fun k => by
    have h2 : (j 1).val < 256 := (j 1).isLt
    rw [WordCmp.cmpi_sle_ofNat (by have := k.isLt; omega) (by omega)]
    congr 1; simp [Nat.lt_succ_iff]
  have hz : ∀ k : Fin 256, z (ix2 (j 0) k) - z (ix2 (j 0) k) = 0 := fun k => by rw [hx]; exact coe_sub_self _
  simp only [e, tri_val, hz, zero_mul, Finset.sum_const_zero, add_zero]
  rw [← tri_sum (f (j 0).val) ((j 1).val + 1) (n := 256) (j 1).isLt, ← coe_sum]
  exact Finset.sum_congr rfl fun k _ => by rw [hx, ← EReal.coe_mul]; rfl

theorem before_rep (hx : Rep z f) : Rep (hilo z before) fun r c => ∑ k ∈ range c, f r k := by
  intro j
  rw [eq_ix2 j]
  pointwise [hilo, before]
  have e : ∀ k : Fin 256, IntOp.cmpi CmpIPredicate.slt (BitVec.ofNat 32 k.val) (BitVec.ofNat 32 (j 1).val)
      = BitVec.ofBool (decide (k.val < (j 1).val)) := fun k => by
    have h2 : (j 1).val < 256 := (j 1).isLt
    rw [WordCmp.cmpi_slt_ofNat (by have := k.isLt; omega) (by omega)]
  have hz : ∀ k : Fin 256, z (ix2 (j 0) k) - z (ix2 (j 0) k) = 0 := fun k => by rw [hx]; exact coe_sub_self _
  simp only [e, tri_val, hz, zero_mul, Finset.sum_const_zero, add_zero]
  rw [← tri_sum (f (j 0).val) (j 1).val (n := 256) (j 1).isLt.le, ← coe_sum]
  exact Finset.sum_congr rfl fun k _ => by rw [hx, ← EReal.coe_mul]; rfl

theorem rowSum_rep (hx : Rep z f) : Rep (rowSum z) fun r _ => ∑ k ∈ range 256, f r k := by
  intro j
  rw [eq_ix2 j]
  pointwise [rowSum]
  rw [← coe_sum]
  exact Finset.sum_congr rfl fun k _ => by rw [hx]; rfl

theorem col_rep (hx : Rep u f) : Rep (col u) fun r _ => f r 0 := by
  intro j
  rw [eq_ix2 j]
  pointwise [col]
  exact hx _

theorem caus_rep (hx : Rep z f) : Rep (caus z) fun r c => if c < r then f r c else 0 := by
  intro j
  have h0 : (j 0).val < 256 := (j 0).isLt
  have h1 : (j 1).val < 256 := (j 1).isLt
  have hj := hx j
  rw [eq_ix2 j] at hj ⊢
  pointwise [caus, splat]
  rw [WordCmp.cmpi_slt_ofNat (by omega) (by omega)]
  pointwise
  by_cases h : (j 1).val < (j 0).val
  · simp only [h, if_true]; exact hx j
  · simp only [h, if_false]; rfl

theorem lane0_rep (hx : Rep x f) : Rep (onLanes lane0 x) fun r c => if c < 64 then f r c else 0 := by
  intro j
  have h1 : (j 1).val < 128 := (j 1).isLt
  rw [eq_ix2 j]
  pointwise [onLanes, lane0]
  rw [WordCmp.cmpi_slt_ofNat (b := 64) (by omega) (by omega)]
  pointwise
  by_cases h : (j 1).val < 64
  · simp only [h, if_true]; exact hx j
  · simp only [h, if_false]; rfl

theorem lane1_rep (hx : Rep x f) : Rep (onLanes lane1 x) fun r c => if 64 ≤ c then f r c else 0 := by
  intro j
  have h1 : (j 1).val < 128 := (j 1).isLt
  rw [eq_ix2 j]
  pointwise [onLanes, lane1]
  rw [WordCmp.cmpi_sge_ofNat (b := 64) (by omega) (by omega)]
  pointwise
  by_cases h : 64 ≤ (j 1).val
  · simp only [h, if_true]; exact hx j
  · simp only [h, if_false]; rfl

theorem addf_rep {d : Fin 2 → ℕ} {x y : FVec Ideal ⟨2, d⟩ .f32} (hx : Rep x f) (hy : Rep y g) :
    Rep (addf x y) fun r c => f r c + g r c := fun j => by
  have h : addf x y j = x j + y j := rfl
  rw [h, hx j, hy j, ← EReal.coe_add]

theorem subf_rep {d : Fin 2 → ℕ} {x y : FVec Ideal ⟨2, d⟩ .f32} (hx : Rep x f) (hy : Rep y g) :
    Rep (subf x y) fun r c => f r c - g r c := fun j => by
  have h : subf x y j = x j - y j := rfl
  rw [h, hx j, hy j, ← EReal.coe_sub]

theorem mulf_rep {d : Fin 2 → ℕ} {x y : FVec Ideal ⟨2, d⟩ .f32} (hx : Rep x f) (hy : Rep y g) :
    Rep (mulf x y) fun r c => f r c * g r c := fun j => by
  have h : mulf x y j = x j * y j := rfl
  rw [h, hx j, hy j, ← EReal.coe_mul]

theorem exp2_rep {d : Fin 2 → ℕ} {x : FVec Ideal ⟨2, d⟩ .f32} (hx : Rep x f) :
    Rep (exp2 x) fun r c => (2 : ℝ) ^ f r c := fun j => by
  have h : exp2 x j = FloatOps.exp2 (x j) := rfl
  rw [h, hx j, exp2_coe]

theorem half_rep (hx : Rep z f) : Rep (half z) f := fun j => hx j

end
end Cert.Proof.Attn

end
-- ==== Proof.Spec.lean ====
/-
  The attention's gradient over the reals, for one head: scores, log terms, weights and their gradients as functions of the
  query row `i` and the key row `j`, and what a unit of the kernel (256 queries from `i0` against 256 keys from `j0`) makes of
  them: every block a unit computes holds these functions at `i0 + r`, `j0 + c`.
-/
module

public import proofs.«01_k».proof.Proof.Rep

@[expose] public section

noncomputable section

open Idealize.ShloMosaic Idealize.SL.Sem Finset

namespace Cert.Proof.Attn

open Cert.KernelIdeal Cert.KernelIdeal.Gen

/-- A head's queries and output gradients (zero outside its lanes), and each row's total. -/
structure HdR where
  /-- queries -/
  Q : ℕ → ℕ → ℝ
  /-- gradients of the output -/
  D : ℕ → ℕ → ℝ
  /-- totals of log₂(1 − σ) over the keys before a row -/
  tot : ℕ → ℝ

section
variable (K V : ℕ → ℕ → ℝ) (h : HdR)

/-- The scores before scaling. -/
def sX (i j : ℕ) : ℝ := ∑ d ∈ range 128, h.Q i d * K j d

/-- The gradient of the weights. -/
def sDA (i j : ℕ) : ℝ := ∑ d ∈ range 128, h.D i d * V j d

/-- log₂(1 − σ), zero from the diagonal on. -/
def sL (i j : ℕ) : ℝ := if j < i then l1R (sX K h i j) else 0

/-- The sum of `sL` over the first `n` keys. -/
def sP (i n : ℕ) : ℝ := ∑ j ∈ range n, sL K h i j

/-- The weights. -/
def sA (i j : ℕ) : ℝ := if j < i then (2 : ℝ) ^ (lbR (sX K h i j) + (h.tot i - sP K h i (j + 1))) else 0

/-- The gradient of the log weights. -/
def sDL (i j : ℕ) : ℝ := sDA V h i j * sA K h i j

/-- Its sum over the first `n` keys. -/
def sPD (i n : ℕ) : ℝ := ∑ j ∈ range n, sDL K V h i j

/-- The gradient of the scaled scores. -/
def sDZ (i j : ℕ) : ℝ := if j < i then sDL K V h i j - (2 : ℝ) ^ lbR (sX K h i j) * sPD K V h i (j + 1) else 0

/-- The gradient vanishes from the diagonal on. -/
theorem sDZ_zero {i j : ℕ} (hij : i ≤ j) : sDZ K V h i j = 0 := if_neg (not_lt.2 hij)

/-- The weights vanish from the diagonal on. -/
theorem sA_zero {i j : ℕ} (hij : i ≤ j) : sA K h i j = 0 := if_neg (not_lt.2 hij)

/-- A head's blocks from row `i0`. -/
structure RepHd (g : Head Ideal) (i0 : ℕ) : Prop where
  q : Rep g.q fun r c => h.Q (i0 + r) c
  d : Rep g.d fun r c => h.D (i0 + r) c
  ct : Rep g.ct fun r _ => h.tot (i0 + r)

/-- A mask that keeps the elements of keys before the query. -/
def Masks (μ : FVec Ideal S256x256 .f32 → FVec Ideal S256x256 .f32) (i0 j0 : ℕ) : Prop :=
  ∀ (y : FVec Ideal S256x256 .f32) (f : ℕ → ℕ → ℝ), Rep y f → Rep (μ y) fun r c => if j0 + c < i0 + r then f r c else 0

/-- The diagonal block's mask. -/
theorem masks_caus (i0 : ℕ) : Masks caus i0 i0 := fun y f hy => by
  refine (caus_rep hy).congr fun r c _ _ => ?_
  simp only [Nat.add_lt_add_iff_left]

/-- Nothing is masked where all keys come before all queries. -/
theorem masks_whole {i0 j0 : ℕ} (h : j0 + 256 ≤ i0) : Masks whole i0 j0 := fun y f hy => by
  refine Rep.congr (show Rep (whole y) f from hy) fun r c _ hc => ?_
  have hc : c < 256 := hc
  rw [if_pos (by omega)]

section
variable {K V h}
variable {μ : FVec Ideal S256x256 .f32 → FVec Ideal S256x256 .f32} {i0 j0 : ℕ} (hμ : Masks μ i0 j0)
  {g : Head Ideal} (hg : RepHd h g i0) {k v : FVec Ideal S256x128 .bf16}
  (hk : Rep k fun r c => K (j0 + r) c) (hv : Rep v fun r c => V (j0 + r) c) {cl cp : FVec Ideal S256x1 .f32}
  (hcl : Rep cl fun r _ => sP K h (i0 + r) j0) (hcp : Rep cp fun r _ => sPD K V h (i0 + r) j0)

include hg hk in
theorem x_rep : Rep (nt g.q k) fun r c => sX K h (i0 + r) (j0 + c) := nt_rep hg.q hk

include hg hv in
theorem da_rep : Rep (nt g.d v) fun r c => sDA V h (i0 + r) (j0 + c) := nt_rep hg.d hv

include hμ hg hk in
theorem ul_rep : Rep (ul μ g.q k) fun r c => sL K h (i0 + r) (j0 + c) := hμ _ _ (l1m_rep (x_rep hg hk))

/-- A sum from `j0` on closes the gap of two prefix sums. -/
theorem gap (f : ℕ → ℝ) (a b : ℕ) : ∑ j ∈ range (a + b), f j = ∑ j ∈ range a, f j + ∑ k ∈ range b, f (a + k) :=
  Finset.sum_range_add f a b

include hμ hg hk hcl in
theorem ua_rep : Rep (ua μ upto g.q k g.ct cl) fun r c => sA K h (i0 + r) (j0 + c) := by
  refine (hμ _ _ (exp2_rep (subf_rep (addf_rep (lb_rep (x_rep hg hk)) (col_rep (subf_rep hg.ct hcl)))
    (upto_rep (ul_rep hμ hg hk))))).congr fun r c _ _ => ?_
  unfold sA
  split
  · congr 1
    rw [sP, sP, Nat.add_assoc, gap _ j0 (c + 1)]
    ring
  · rfl

include hμ hg hk hv hcl in
theorem udl_rep : Rep (udl μ upto g.q g.d k v g.ct cl) fun r c => sDL K V h (i0 + r) (j0 + c) :=
  mulf_rep (da_rep hg hv) (ua_rep hμ hg hk hcl)

include hμ hg hk hcl in
theorem ucl_rep : Rep (ucl μ g.q k cl) fun r _ => sP K h (i0 + r) (j0 + 256) :=
  (addf_rep hcl (rowSum_rep (ul_rep hμ hg hk))).congr fun r c _ _ => by rw [sP, sP, gap]

include hμ hg hk hv hcl hcp in
theorem ucp_rep : Rep (ucp μ upto g.q g.d k v g.ct cl cp) fun r _ => sPD K V h (i0 + r) (j0 + 256) :=
  (addf_rep hcp (rowSum_rep (udl_rep hμ hg hk hv hcl))).congr fun r c _ _ => by rw [sPD, sPD, gap]

include hμ hg hk hv hcl hcp in
theorem udz_rep : Rep (udz μ upto before g.q g.d k v g.ct cl cp) fun r c => sDZ K V h (i0 + r) (j0 + c) := by
  have hdl := udl_rep hμ hg hk hv hcl
  refine (hμ _ _ (subf_rep hdl (mulf_rep (exp2_rep (lb_rep (x_rep hg hk))) (addf_rep (addf_rep hdl (before_rep hdl))
    (col_rep hcp))))).congr fun r c _ _ => ?_
  unfold sDZ
  split
  · congr 2
    rw [sPD, sPD, Nat.add_assoc, gap _ j0 (c + 1), Finset.sum_range_succ]
    ring
  · rfl

end
end
end Cert.Proof.Attn

end
-- ==== Proof.Carry.lean ====
/-
  What the loop carries and adds, over the reals. After the keys before row `n`, the carried columns hold the two prefix sums
  of every head and query block, and the carried blocks the query gradients' parts from those keys; one trip moves `n` on by
  512. What a trip (or the diagonal) adds to a key's rows of the accumulators is the sum over the point's 512 queries.
-/
module

public import proofs.«01_k».proof.Proof.Spec

@[expose] public section

noncomputable section

open Idealize.ShloMosaic Idealize.SL.Sem Finset

namespace Cert.Proof.Attn

open Cert.KernelIdeal Cert.KernelIdeal.Gen

section
variable (K V : ℕ → ℕ → ℝ) (h0 h1 : HdR)

/-- Key `j`'s part of query `i`'s gradient, lane `c`: the pair's two heads have their own lanes. -/
def partQ (i j c : ℕ) : ℝ :=
  sDZ K V h0 i j * (if c < 64 then K j c else 0) + sDZ K V h1 i j * (if 64 ≤ c then K j c else 0)

/-- Query `i`'s part of key `j`'s key gradient. -/
def partK (i j c : ℕ) : ℝ := sDZ K V h0 i j * h0.Q i c + sDZ K V h1 i j * h1.Q i c

/-- Query `i`'s part of key `j`'s value gradient. -/
def partV (i j c : ℕ) : ℝ := sA K h0 i j * h0.D i c + sA K h1 i j * h1.D i c

/-- What the loop carries after the keys before `n`, the point's queries starting at `i0`. -/
structure CarryRep (acc : Carry Ideal) (i0 n : ℕ) : Prop where
  cl00 : Rep acc.1 fun r _ => sP K h0 (i0 + r) n
  cp00 : Rep acc.2.1 fun r _ => sPD K V h0 (i0 + r) n
  cl01 : Rep acc.2.2.1 fun r _ => sP K h1 (i0 + r) n
  cp01 : Rep acc.2.2.2.1 fun r _ => sPD K V h1 (i0 + r) n
  cl10 : Rep acc.2.2.2.2.1 fun r _ => sP K h0 (i0 + 256 + r) n
  cp10 : Rep acc.2.2.2.2.2.1 fun r _ => sPD K V h0 (i0 + 256 + r) n
  cl11 : Rep acc.2.2.2.2.2.2.1 fun r _ => sP K h1 (i0 + 256 + r) n
  cp11 : Rep acc.2.2.2.2.2.2.2.1 fun r _ => sPD K V h1 (i0 + 256 + r) n
  dq0 : Rep acc.2.2.2.2.2.2.2.2.1 fun r c => ∑ j ∈ range n, partQ K V h0 h1 (i0 + r) j c
  dq1 : Rep acc.2.2.2.2.2.2.2.2.2 fun r c => ∑ j ∈ range n, partQ K V h0 h1 (i0 + 256 + r) j c

/-- The four heads of a point whose queries start at `i0`. -/
structure Heads (g00 g01 g10 g11 : Head Ideal) (i0 : ℕ) : Prop where
  h00 : RepHd h0 g00 i0
  h01 : RepHd h1 g01 i0
  h10 : RepHd h0 g10 (i0 + 256)
  h11 : RepHd h1 g11 (i0 + 256)

end

section
variable {K V : ℕ → ℕ → ℝ} {h0 h1 : HdR} {g00 g01 g10 g11 : Head Ideal} {i0 n : ℕ} {acc : Carry Ideal}
  (H : Heads h0 h1 g00 g01 g10 g11 i0) {k1 k2 v1 v2 : FVec Ideal S256x128 .bf16}
  (hk1 : Rep k1 fun r c => K (n + r) c) (hk2 : Rep k2 fun r c => K (n + 256 + r) c)
  (hv1 : Rep v1 fun r c => V (n + r) c) (hv2 : Rep v2 fun r c => V (n + 256 + r) c)
  (C : CarryRep K V h0 h1 acc i0 n)

/-- A sum over 512 more terms in two halves. -/
theorem gap2 (f : ℕ → ℝ) (a : ℕ) :
    ∑ j ∈ range (a + 512), f j = ∑ j ∈ range a, f j + ∑ k ∈ range 256, f (a + k) + ∑ k ∈ range 256, f (a + 256 + k) := by
  rw [show a + 512 = a + 256 + 256 from rfl, gap, gap]

/-- A query gradient after two key blocks off the diagonal. -/
theorem dq2_rep {g0 g1 : Head Ideal} {m : ℕ} (hm : n + 512 ≤ m) (G0 : RepHd h0 g0 m) (G1 : RepHd h1 g1 m)
    (hk1 : Rep k1 fun r c => K (n + r) c) (hk2 : Rep k2 fun r c => K (n + 256 + r) c)
    (hv1 : Rep v1 fun r c => V (n + r) c) (hv2 : Rep v2 fun r c => V (n + 256 + r) c)
    {cl0 cp0 cl1 cp1 : FVec Ideal S256x1 .f32} {x : FVec Ideal S256x128 .f32}
    (c0 : Rep cl0 fun r _ => sP K h0 (m + r) n) (p0 : Rep cp0 fun r _ => sPD K V h0 (m + r) n)
    (c1 : Rep cl1 fun r _ => sP K h1 (m + r) n) (p1 : Rep cp1 fun r _ => sPD K V h1 (m + r) n)
    (hx : Rep x fun r c => ∑ j ∈ range n, partQ K V h0 h1 (m + r) j c) :
    Rep (dq2 upto before lane0 lane1 k1 k2 v1 v2 g0 g1 cl0 cp0 cl1 cp1 x)
      fun r c => ∑ j ∈ range (n + 512), partQ K V h0 h1 (m + r) j c := by
  have M1 : Masks whole m n := masks_whole (by omega)
  have M2 : Masks whole m (n + 256) := masks_whole (by omega)
  have a1 := udz_rep M1 G0 hk1 hv1 c0 p0
  have a2 := udz_rep M1 G1 hk1 hv1 c1 p1
  have a3 := udz_rep M2 G0 hk2 hv2 (ucl_rep M1 G0 hk1 c0) (ucp_rep M1 G0 hk1 hv1 c0 p0)
  have a4 := udz_rep M2 G1 hk2 hv2 (ucl_rep M1 G1 hk1 c1) (ucp_rep M1 G1 hk1 hv1 c1 p1)
  refine (addf_rep (addf_rep (addf_rep (addf_rep hx (nn_rep (half_rep a1) (lane0_rep hk1)))
    (nn_rep (half_rep a2) (lane1_rep hk1))) (nn_rep (half_rep a3) (lane0_rep hk2)))
    (nn_rep (half_rep a4) (lane1_rep hk2))).congr fun r c _ _ => ?_
  rw [gap2]
  unfold partQ
  rw [Finset.sum_add_distrib (s := range 256), Finset.sum_add_distrib (s := range 256)]
  ring

include H hk1 hk2 hv1 hv2 C in
/-- One trip moves the carried values on by 512 keys. -/
theorem trip_rep (hn : n + 512 ≤ i0) :
    CarryRep K V h0 h1 (tripOut upto before lane0 lane1 g00 g01 g10 g11 k1 k2 v1 v2 acc) i0 (n + 512) := by
  have M1 : Masks whole i0 n := masks_whole (by omega)
  have M2 : Masks whole i0 (n + 256) := masks_whole (by omega)
  have N1 : Masks whole (i0 + 256) n := masks_whole (by omega)
  have N2 : Masks whole (i0 + 256) (n + 256) := masks_whole (by omega)
  exact
    { cl00 := ucl_rep M2 H.h00 hk2 (ucl_rep M1 H.h00 hk1 C.cl00)
      cp00 := ucp_rep M2 H.h00 hk2 hv2 (ucl_rep M1 H.h00 hk1 C.cl00) (ucp_rep M1 H.h00 hk1 hv1 C.cl00 C.cp00)
      cl01 := ucl_rep M2 H.h01 hk2 (ucl_rep M1 H.h01 hk1 C.cl01)
      cp01 := ucp_rep M2 H.h01 hk2 hv2 (ucl_rep M1 H.h01 hk1 C.cl01) (ucp_rep M1 H.h01 hk1 hv1 C.cl01 C.cp01)
      cl10 := ucl_rep N2 H.h10 hk2 (ucl_rep N1 H.h10 hk1 C.cl10)
      cp10 := ucp_rep N2 H.h10 hk2 hv2 (ucl_rep N1 H.h10 hk1 C.cl10) (ucp_rep N1 H.h10 hk1 hv1 C.cl10 C.cp10)
      cl11 := ucl_rep N2 H.h11 hk2 (ucl_rep N1 H.h11 hk1 C.cl11)
      cp11 := ucp_rep N2 H.h11 hk2 hv2 (ucl_rep N1 H.h11 hk1 C.cl11) (ucp_rep N1 H.h11 hk1 hv1 C.cl11 C.cp11)
      dq0 := dq2_rep (by omega) H.h00 H.h01 hk1 hk2 hv1 hv2 C.cl00 C.cp00 C.cl01 C.cp01 C.dq0
      dq1 := dq2_rep (by omega) H.h10 H.h11 hk1 hk2 hv1 hv2 C.cl10 C.cp10 C.cl11 C.cp11 C.dq1 }

/-- A sum over the point's queries by query block and head. -/
theorem sum512 (f g : ℕ → ℝ) (a : ℕ) :
    ∑ t ∈ range 512, (f (a + t) + g (a + t))
      = ∑ t ∈ range 256, f (a + t) + ∑ t ∈ range 256, g (a + t) + ∑ t ∈ range 256, f (a + 256 + t)
        + ∑ t ∈ range 256, g (a + 256 + t) := by
  rw [show 512 = 256 + 256 from rfl, gap, Finset.sum_add_distrib, Finset.sum_add_distrib]
  simp only [← Nat.add_assoc]
  ring

include H hk1 hv1 C in
/-- A trip's addition to the first key block's key gradient. -/
theorem dk1_rep (hn : n + 512 ≤ i0) : Rep (dk1 upto before g00 g01 g10 g11 k1 v1 acc)
    fun r c => ∑ t ∈ range 512, partK K V h0 h1 (i0 + t) (n + r) c := by
  have M1 : Masks whole i0 n := masks_whole (by omega)
  have N1 : Masks whole (i0 + 256) n := masks_whole (by omega)
  refine (addf_rep (addf_rep (addf_rep
    (tn_rep (half_rep (udz_rep M1 H.h00 hk1 hv1 C.cl00 C.cp00)) H.h00.q)
    (tn_rep (half_rep (udz_rep M1 H.h01 hk1 hv1 C.cl01 C.cp01)) H.h01.q))
    (tn_rep (half_rep (udz_rep N1 H.h10 hk1 hv1 C.cl10 C.cp10)) H.h10.q))
    (tn_rep (half_rep (udz_rep N1 H.h11 hk1 hv1 C.cl11 C.cp11)) H.h11.q)).congr fun r c _ _ => ?_
  exact (sum512 (fun i => sDZ K V h0 i (n + r) * h0.Q i c) (fun i => sDZ K V h1 i (n + r) * h1.Q i c) i0).symm

include H hk1 hk2 hv1 hv2 C in
/-- A trip's addition to the second key block's key gradient. -/
theorem dk2_rep (hn : n + 512 ≤ i0) : Rep (dk2 upto before g00 g01 g10 g11 k1 k2 v1 v2 acc)
    fun r c => ∑ t ∈ range 512, partK K V h0 h1 (i0 + t) (n + 256 + r) c := by
  have M1 : Masks whole i0 n := masks_whole (by omega)
  have M2 : Masks whole i0 (n + 256) := masks_whole (by omega)
  have N1 : Masks whole (i0 + 256) n := masks_whole (by omega)
  have N2 : Masks whole (i0 + 256) (n + 256) := masks_whole (by omega)
  refine (addf_rep (addf_rep (addf_rep
    (tn_rep (half_rep (udz_rep M2 H.h00 hk2 hv2 (ucl_rep M1 H.h00 hk1 C.cl00) (ucp_rep M1 H.h00 hk1 hv1 C.cl00 C.cp00))) H.h00.q)
    (tn_rep (half_rep (udz_rep M2 H.h01 hk2 hv2 (ucl_rep M1 H.h01 hk1 C.cl01) (ucp_rep M1 H.h01 hk1 hv1 C.cl01 C.cp01))) H.h01.q))
    (tn_rep (half_rep (udz_rep N2 H.h10 hk2 hv2 (ucl_rep N1 H.h10 hk1 C.cl10) (ucp_rep N1 H.h10 hk1 hv1 C.cl10 C.cp10))) H.h10.q))
    (tn_rep (half_rep (udz_rep N2 H.h11 hk2 hv2 (ucl_rep N1 H.h11 hk1 C.cl11) (ucp_rep N1 H.h11 hk1 hv1 C.cl11 C.cp11))) H.h11.q)).congr
    fun r c _ _ => ?_
  exact (sum512 (fun i => sDZ K V h0 i (n + 256 + r) * h0.Q i c) (fun i => sDZ K V h1 i (n + 256 + r) * h1.Q i c) i0).symm

include H hk1 C in
/-- A trip's addition to the first key block's value gradient. -/
theorem dv1_rep (hn : n + 512 ≤ i0) : Rep (dv1 upto g00 g01 g10 g11 k1 acc)
    fun r c => ∑ t ∈ range 512, partV K h0 h1 (i0 + t) (n + r) c := by
  have M1 : Masks whole i0 n := masks_whole (by omega)
  have N1 : Masks whole (i0 + 256) n := masks_whole (by omega)
  refine (addf_rep (addf_rep (addf_rep
    (tn_rep (half_rep (ua_rep M1 H.h00 hk1 C.cl00)) H.h00.d)
    (tn_rep (half_rep (ua_rep M1 H.h01 hk1 C.cl01)) H.h01.d))
    (tn_rep (half_rep (ua_rep N1 H.h10 hk1 C.cl10)) H.h10.d))
    (tn_rep (half_rep (ua_rep N1 H.h11 hk1 C.cl11)) H.h11.d)).congr fun r c _ _ => ?_
  exact (sum512 (fun i => sA K h0 i (n + r) * h0.D i c) (fun i => sA K h1 i (n + r) * h1.D i c) i0).symm

include H hk1 hk2 C in
/-- A trip's addition to the second key block's value gradient. -/
theorem dv2_rep (hn : n + 512 ≤ i0) : Rep (dv2 upto g00 g01 g10 g11 k1 k2 acc)
    fun r c => ∑ t ∈ range 512, partV K h0 h1 (i0 + t) (n + 256 + r) c := by
  have M1 : Masks whole i0 n := masks_whole (by omega)
  have M2 : Masks whole i0 (n + 256) := masks_whole (by omega)
  have N1 : Masks whole (i0 + 256) n := masks_whole (by omega)
  have N2 : Masks whole (i0 + 256) (n + 256) := masks_whole (by omega)
  refine (addf_rep (addf_rep (addf_rep
    (tn_rep (half_rep (ua_rep M2 H.h00 hk2 (ucl_rep M1 H.h00 hk1 C.cl00))) H.h00.d)
    (tn_rep (half_rep (ua_rep M2 H.h01 hk2 (ucl_rep M1 H.h01 hk1 C.cl01))) H.h01.d))
    (tn_rep (half_rep (ua_rep N2 H.h10 hk2 (ucl_rep N1 H.h10 hk1 C.cl10))) H.h10.d))
    (tn_rep (half_rep (ua_rep N2 H.h11 hk2 (ucl_rep N1 H.h11 hk1 C.cl11))) H.h11.d)).congr fun r c _ _ => ?_
  exact (sum512 (fun i => sA K h0 i (n + 256 + r) * h0.D i c) (fun i => sA K h1 i (n + 256 + r) * h1.D i c) i0).symm

end

/-! The diagonal: the keys from `i0` on, after the loop has taken those before. -/

section
variable {K V : ℕ → ℕ → ℝ} {h0 h1 : HdR} {g00 g01 g10 g11 : Head Ideal} {i0 : ℕ} {acc : Carry Ideal}
  (H : Heads h0 h1 g00 g01 g10 g11 i0) {k1 k2 v1 v2 : FVec Ideal S256x128 .bf16}
  (hk1 : Rep k1 fun r c => K (i0 + r) c) (hk2 : Rep k2 fun r c => K (i0 + 256 + r) c)
  (hv1 : Rep v1 fun r c => V (i0 + r) c) (hv2 : Rep v2 fun r c => V (i0 + 256 + r) c)
  (C : CarryRep K V h0 h1 acc i0 i0)

theorem partQ_zero {i j : ℕ} (h : i ≤ j) (c : ℕ) : partQ K V h0 h1 i j c = 0 := by
  rw [partQ, sDZ_zero _ _ _ h, sDZ_zero _ _ _ h]; ring

theorem partK_zero {i j : ℕ} (h : i ≤ j) (c : ℕ) : partK K V h0 h1 i j c = 0 := by
  rw [partK, sDZ_zero _ _ _ h, sDZ_zero _ _ _ h]; ring

theorem partV_zero {i j : ℕ} (h : i ≤ j) (c : ℕ) : partV K h0 h1 i j c = 0 := by
  rw [partV, sA_zero _ _ h, sA_zero _ _ h]; ring

/-- Keys past the query add nothing to its gradient. -/
theorem sum_cut (f : ℕ → ℝ) (a N : ℕ) (hN : a ≤ N) (h : ∀ j, a ≤ j → f j = 0) : ∑ j ∈ range N, f j = ∑ j ∈ range a, f j := by
  obtain ⟨m, rfl⟩ := Nat.exists_eq_add_of_le hN
  rw [gap, Finset.sum_eq_zero (s := range m) fun k _ => h _ (Nat.le_add_right a k), add_zero]

include H hk1 hv1 C in
/-- The first query block's gradient is complete. -/
theorem dq0End_rep : Rep (dq0End upto before lane0 lane1 g00 g01 k1 v1 acc)
    fun r c => ∑ j ∈ range (i0 + 512), partQ K V h0 h1 (i0 + r) j c := by
  have M := masks_caus i0
  refine (addf_rep (addf_rep C.dq0 (nn_rep (half_rep (udz_rep M H.h00 hk1 hv1 C.cl00 C.cp00)) (lane0_rep hk1)))
    (nn_rep (half_rep (udz_rep M H.h01 hk1 hv1 C.cl01 C.cp01)) (lane1_rep hk1))).congr fun r c hr _ => ?_
  have hr : r < 256 := hr
  rw [sum_cut _ (i0 + 256) (i0 + 512) (by omega) fun j hj => partQ_zero (by omega) c, gap]
  unfold partQ
  rw [Finset.sum_add_distrib (s := range 256)]
  ring

include H hk1 hk2 hv1 hv2 C in
/-- The second query block's gradient is complete. -/
theorem dq1End_rep : Rep (dq1End upto before lane0 lane1 g10 g11 k1 k2 v1 v2 acc)
    fun r c => ∑ j ∈ range (i0 + 512), partQ K V h0 h1 (i0 + 256 + r) j c := by
  have M := masks_caus (i0 + 256)
  have N : Masks whole (i0 + 256) i0 := masks_whole (by omega)
  have a1 := udz_rep N H.h10 hk1 hv1 C.cl10 C.cp10
  have a2 := udz_rep N H.h11 hk1 hv1 C.cl11 C.cp11
  have a3 := udz_rep M H.h10 hk2 hv2 (ucl_rep N H.h10 hk1 C.cl10) (ucp_rep N H.h10 hk1 hv1 C.cl10 C.cp10)
  have a4 := udz_rep M H.h11 hk2 hv2 (ucl_rep N H.h11 hk1 C.cl11) (ucp_rep N H.h11 hk1 hv1 C.cl11 C.cp11)
  refine (addf_rep (addf_rep (addf_rep (addf_rep C.dq1 (nn_rep (half_rep a1) (lane0_rep hk1)))
    (nn_rep (half_rep a2) (lane1_rep hk1))) (nn_rep (half_rep a3) (lane0_rep hk2)))
    (nn_rep (half_rep a4) (lane1_rep hk2))).congr fun r c _ _ => ?_
  rw [gap2]
  unfold partQ
  rw [Finset.sum_add_distrib (s := range 256), Finset.sum_add_distrib (s := range 256)]
  ring

include H hk1 hv1 C in
theorem dk1End_rep : Rep (dk1End upto before g00 g01 g10 g11 k1 v1 acc)
    fun r c => ∑ t ∈ range 512, partK K V h0 h1 (i0 + t) (i0 + r) c := by
  have M := masks_caus i0
  have N : Masks whole (i0 + 256) i0 := masks_whole (by omega)
  refine (addf_rep (addf_rep (addf_rep
    (tn_rep (half_rep (udz_rep M H.h00 hk1 hv1 C.cl00 C.cp00)) H.h00.q)
    (tn_rep (half_rep (udz_rep M H.h01 hk1 hv1 C.cl01 C.cp01)) H.h01.q))
    (tn_rep (half_rep (udz_rep N H.h10 hk1 hv1 C.cl10 C.cp10)) H.h10.q))
    (tn_rep (half_rep (udz_rep N H.h11 hk1 hv1 C.cl11 C.cp11)) H.h11.q)).congr fun r c _ _ => ?_
  exact (sum512 (fun i => sDZ K V h0 i (i0 + r) * h0.Q i c) (fun i => sDZ K V h1 i (i0 + r) * h1.Q i c) i0).symm

include H hk1 C in
theorem dv1End_rep : Rep (dv1End upto g00 g01 g10 g11 k1 acc)
    fun r c => ∑ t ∈ range 512, partV K h0 h1 (i0 + t) (i0 + r) c := by
  have M := masks_caus i0
  have N : Masks whole (i0 + 256) i0 := masks_whole (by omega)
  refine (addf_rep (addf_rep (addf_rep
    (tn_rep (half_rep (ua_rep M H.h00 hk1 C.cl00)) H.h00.d)
    (tn_rep (half_rep (ua_rep M H.h01 hk1 C.cl01)) H.h01.d))
    (tn_rep (half_rep (ua_rep N H.h10 hk1 C.cl10)) H.h10.d))
    (tn_rep (half_rep (ua_rep N H.h11 hk1 C.cl11)) H.h11.d)).congr fun r c _ _ => ?_
  exact (sum512 (fun i => sA K h0 i (i0 + r) * h0.D i c) (fun i => sA K h1 i (i0 + r) * h1.D i c) i0).symm

/-- Queries of the first block add nothing to keys of the second. -/
theorem sum512_late (f : ℕ → ℝ) (a : ℕ) (h : ∀ i, i < a + 256 → f i = 0) :
    ∑ t ∈ range 512, f (a + t) = ∑ t ∈ range 256, f (a + 256 + t) := by
  rw [show 512 = 256 + 256 from rfl, gap, Finset.sum_eq_zero (s := range 256) fun k hk => h _ (by
    have := Finset.mem_range.1 hk; omega), zero_add]
  simp only [← Nat.add_assoc]

include H hk1 hk2 hv1 hv2 C in
theorem dk2End_rep : Rep (dk2End upto before g10 g11 k1 k2 v1 v2 acc)
    fun r c => ∑ t ∈ range 512, partK K V h0 h1 (i0 + t) (i0 + 256 + r) c := by
  have M := masks_caus (i0 + 256)
  have N : Masks whole (i0 + 256) i0 := masks_whole (by omega)
  refine (addf_rep
    (tn_rep (half_rep (udz_rep M H.h10 hk2 hv2 (ucl_rep N H.h10 hk1 C.cl10) (ucp_rep N H.h10 hk1 hv1 C.cl10 C.cp10))) H.h10.q)
    (tn_rep (half_rep (udz_rep M H.h11 hk2 hv2 (ucl_rep N H.h11 hk1 C.cl11) (ucp_rep N H.h11 hk1 hv1 C.cl11 C.cp11))) H.h11.q)).congr
    fun r c _ _ => ?_
  rw [sum512_late (fun i => partK K V h0 h1 i (i0 + 256 + r) c) i0 fun i hi => partK_zero (by omega) c]
  exact Finset.sum_add_distrib.symm

include H hk1 hk2 C in
theorem dv2End_rep : Rep (dv2End upto g10 g11 k1 k2 acc)
    fun r c => ∑ t ∈ range 512, partV K h0 h1 (i0 + t) (i0 + 256 + r) c := by
  have M := masks_caus (i0 + 256)
  have N : Masks whole (i0 + 256) i0 := masks_whole (by omega)
  refine (addf_rep
    (tn_rep (half_rep (ua_rep M H.h10 hk2 (ucl_rep N H.h10 hk1 C.cl10))) H.h10.d)
    (tn_rep (half_rep (ua_rep M H.h11 hk2 (ucl_rep N H.h11 hk1 C.cl11))) H.h11.d)).congr fun r c _ _ => ?_
  rw [sum512_late (fun i => partV K h0 h1 i (i0 + 256 + r) c) i0 fun i hi => partV_zero (by omega) c]
  exact Finset.sum_add_distrib.symm

end

end Cert.Proof.Attn

end
-- ==== Proof.Succ.lean ====
/-
  One trip of the loop over earlier key blocks, on the loop's state: what it carries, and the pieces it adds to what has been
  stored into the two accumulators.
-/
module

public import proofs.«01_k».proof.Proof.Step

@[expose] public section

noncomputable section

open Idealize.ShloMosaic Idealize.SL.Sem

namespace Cert.Proof.Attn

open Cert.KernelIdeal Cert.KernelIdeal.Gen

variable {F : FTy → Type} [FloatOps F] [Named F]

section
variable (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole)
  (x0 : Vec F S512x128 .bf16) (x1 : Vec F S2048x128 .bf16) (x2 : Vec F S2048x128 .bf16) (x3 : Vec F S512x128 .bf16) (x4 : Vec F S512x128 .f32)
  (G10 : BufTy.Contents (Elt F) arg10.view.ty) (G11 : BufTy.Contents (Elt F) arg11.view.ty)

/-- Before any trip the loop carries zeros and has stored nothing. -/
theorem S1_zero : S1 c i arg2 harg2 arg3 harg3 arg4 harg4 arg5 harg5 arg6 harg6 arg7 harg7 arg8 harg8 arg9 harg9 arg10 harg10 arg11 harg11 x0 x1 x2 x3 x4 G10 G11 0 = (init, [], []) := rfl

variable (k : Fin (k0_t1_loop i).trips)

/-- What a trip makes of the state before it. -/
theorem S1_succ : S1 c i arg2 harg2 arg3 harg3 arg4 harg4 arg5 harg5 arg6 harg6 arg7 harg7 arg8 harg8 arg9 harg9 arg10 harg10 arg11 harg11 x0 x1 x2 x3 x4 G10 G11 (k.val + 1)
    = (tripOut upto before lane0 lane1 (hd00 arg2 harg2 arg5 harg5 arg6 harg6 x0 x3 x4) (hd01 arg2 harg2 arg5 harg5 arg6 harg6 x0 x3 x4) (hd10 arg2 harg2 arg5 harg5 arg6 harg6 x0 x3 x4) (hd11 arg2 harg2 arg5 harg5 arg6 harg6 x0 x3 x4) (rows arg3 (harg3.unread x1) (k0_off1 i k) (k0_off1_inb i k)) (rows arg3 (harg3.unread x1) (k0_off2 i k) (k0_off2_inb i k)) (rows arg4 (harg4.unread x2) (k0_off1 i k) (k0_off1_inb i k)) (rows arg4 (harg4.unread x2) (k0_off2 i k) (k0_off2_inb i k)) (S1 c i arg2 harg2 arg3 harg3 arg4 harg4 arg5 harg5 arg6 harg6 arg7 harg7 arg8 harg8 arg9 harg9 arg10 harg10 arg11 harg11 x0 x1 x2 x3 x4 G10 G11 k.val).1,
       ⟨Rect.unit (s := S2048x128) (k0_off2 i k) ![256, 128] (k0_off2_inb i k), stored (accRows arg10 (arg10.view.writes (Elt F) G10 (S1 c i arg2 harg2 arg3 harg3 arg4 harg4 arg5 harg5 arg6 harg6 arg7 harg7 arg8 harg8 arg9 harg9 arg10 harg10 arg11 harg11 x0 x1 x2 x3 x4 G10 G11 k.val).2.1) (k0_off2 i k) (k0_off2_inb i k)) (dk2 upto before (hd00 arg2 harg2 arg5 harg5 arg6 harg6 x0 x3 x4) (hd01 arg2 harg2 arg5 harg5 arg6 harg6 x0 x3 x4) (hd10 arg2 harg2 arg5 harg5 arg6 harg6 x0 x3 x4) (hd11 arg2 harg2 arg5 harg5 arg6 harg6 x0 x3 x4) (rows arg3 (harg3.unread x1) (k0_off1 i k) (k0_off1_inb i k)) (rows arg3 (harg3.unread x1) (k0_off2 i k) (k0_off2_inb i k)) (rows arg4 (harg4.unread x2) (k0_off1 i k) (k0_off1_inb i k)) (rows arg4 (harg4.unread x2) (k0_off2 i k) (k0_off2_inb i k)) (S1 c i arg2 harg2 arg3 harg3 arg4 harg4 arg5 harg5 arg6 harg6 arg7 harg7 arg8 harg8 arg9 harg9 arg10 harg10 arg11 harg11 x0 x1 x2 x3 x4 G10 G11 k.val).1)⟩
         :: ⟨Rect.unit (s := S2048x128) (k0_off1 i k) ![256, 128] (k0_off1_inb i k), stored (accRows arg10 (arg10.view.writes (Elt F) G10 (S1 c i arg2 harg2 arg3 harg3 arg4 harg4 arg5 harg5 arg6 harg6 arg7 harg7 arg8 harg8 arg9 harg9 arg10 harg10 arg11 harg11 x0 x1 x2 x3 x4 G10 G11 k.val).2.1) (k0_off1 i k) (k0_off1_inb i k)) (dk1 upto before (hd00 arg2 harg2 arg5 harg5 arg6 harg6 x0 x3 x4) (hd01 arg2 harg2 arg5 harg5 arg6 harg6 x0 x3 x4) (hd10 arg2 harg2 arg5 harg5 arg6 harg6 x0 x3 x4) (hd11 arg2 harg2 arg5 harg5 arg6 harg6 x0 x3 x4) (rows arg3 (harg3.unread x1) (k0_off1 i k) (k0_off1_inb i k)) (rows arg4 (harg4.unread x2) (k0_off1 i k) (k0_off1_inb i k)) (S1 c i arg2 harg2 arg3 harg3 arg4 harg4 arg5 harg5 arg6 harg6 arg7 harg7 arg8 harg8 arg9 harg9 arg10 harg10 arg11 harg11 x0 x1 x2 x3 x4 G10 G11 k.val).1)⟩
         :: (S1 c i arg2 harg2 arg3 harg3 arg4 harg4 arg5 harg5 arg6 harg6 arg7 harg7 arg8 harg8 arg9 harg9 arg10 harg10 arg11 harg11 x0 x1 x2 x3 x4 G10 G11 k.val).2.1,
       ⟨Rect.unit (s := S2048x128) (k0_off2 i k) ![256, 128] (k0_off2_inb i k), stored (accRows arg11 (arg11.view.writes (Elt F) G11 (S1 c i arg2 harg2 arg3 harg3 arg4 harg4 arg5 harg5 arg6 harg6 arg7 harg7 arg8 harg8 arg9 harg9 arg10 harg10 arg11 harg11 x0 x1 x2 x3 x4 G10 G11 k.val).2.2) (k0_off2 i k) (k0_off2_inb i k)) (dv2 upto (hd00 arg2 harg2 arg5 harg5 arg6 harg6 x0 x3 x4) (hd01 arg2 harg2 arg5 harg5 arg6 harg6 x0 x3 x4) (hd10 arg2 harg2 arg5 harg5 arg6 harg6 x0 x3 x4) (hd11 arg2 harg2 arg5 harg5 arg6 harg6 x0 x3 x4) (rows arg3 (harg3.unread x1) (k0_off1 i k) (k0_off1_inb i k)) (rows arg3 (harg3.unread x1) (k0_off2 i k) (k0_off2_inb i k)) (S1 c i arg2 harg2 arg3 harg3 arg4 harg4 arg5 harg5 arg6 harg6 arg7 harg7 arg8 harg8 arg9 harg9 arg10 harg10 arg11 harg11 x0 x1 x2 x3 x4 G10 G11 k.val).1)⟩
         :: ⟨Rect.unit (s := S2048x128) (k0_off1 i k) ![256, 128] (k0_off1_inb i k), stored (accRows arg11 (arg11.view.writes (Elt F) G11 (S1 c i arg2 harg2 arg3 harg3 arg4 harg4 arg5 harg5 arg6 harg6 arg7 harg7 arg8 harg8 arg9 harg9 arg10 harg10 arg11 harg11 x0 x1 x2 x3 x4 G10 G11 k.val).2.2) (k0_off1 i k) (k0_off1_inb i k)) (dv1 upto (hd00 arg2 harg2 arg5 harg5 arg6 harg6 x0 x3 x4) (hd01 arg2 harg2 arg5 harg5 arg6 harg6 x0 x3 x4) (hd10 arg2 harg2 arg5 harg5 arg6 harg6 x0 x3 x4) (hd11 arg2 harg2 arg5 harg5 arg6 harg6 x0 x3 x4) (rows arg3 (harg3.unread x1) (k0_off1 i k) (k0_off1_inb i k)) (S1 c i arg2 harg2 arg3 harg3 arg4 harg4 arg5 harg5 arg6 harg6 arg7 harg7 arg8 harg8 arg9 harg9 arg10 harg10 arg11 harg11 x0 x1 x2 x3 x4 G10 G11 k.val).1)⟩
         :: (S1 c i arg2 harg2 arg3 harg3 arg4 harg4 arg5 harg5 arg6 harg6 arg7 harg7 arg8 harg8 arg9 harg9 arg10 harg10 arg11 harg11 x0 x1 x2 x3 x4 G10 G11 k.val).2.2) := by
  unfold S1
  rw [st_k0_t1_succ, tripR_eq, tripL_eq]
  rfl
end

end Cert.Proof.Attn

end
-- ==== Proof.Loads.lean ====
/-
  Loads and stores of rows, over the reals: what a load of rows of an array that holds `f` holds, and what an accumulator
  holds after a block of rows is stored.
-/
module

public import proofs.«01_k».proof.Proof.Carry
public import proofs.«01_k».proof.Proof.Succ
public import Idealize.ShloMosaic.Lib.WritesUnit
public import Idealize.ShloMosaic.Lib.Pipeline.ValueKit.Tiles

@[expose] public section

noncomputable section

open Idealize.ShloMosaic Idealize.SL.Sem Finset

namespace Cert.Proof.Attn

open Cert.KernelIdeal Cert.KernelIdeal.Gen

section
variable {d size off : Fin 2 → ℕ} {f g A P : ℕ → ℕ → ℝ} {o p : ℕ}

/-- A load from row `o`, column `p` on, of a narrow array. -/
theorem load_rep16 (v : View sig .tc .vmem (⟨2, d⟩ : Shape) .bf16) (X : v.ty.Contents (Elt Ideal))
    (inb : ∀ a, off a + size a ≤ d a) (hX : Rep (v.read (Elt Ideal) X) f) (ho : off = ![o, p]) :
    Rep (d := size) (v.readAt (Elt Ideal) (Rect.unit (s := (⟨2, d⟩ : Shape)) off size inb).toLoadRect X)
      fun r c => f (o + r) (p + c) := by
  subst ho
  intro j
  rw [View.readAt_apply, hX]
  congr 2
  · exact Rect.idx_unit_val (s := (⟨2, d⟩ : Shape)) ![o, p] size inb j 0
  · exact Rect.idx_unit_val (s := (⟨2, d⟩ : Shape)) ![o, p] size inb j 1

/-- The same of a wide array. -/
theorem load_rep32 (v : View sig .tc .vmem (⟨2, d⟩ : Shape) .f32) (X : v.ty.Contents (Elt Ideal))
    (inb : ∀ a, off a + size a ≤ d a) (hX : Rep (v.read (Elt Ideal) X) f) (ho : off = ![o, p]) :
    Rep (d := size) (v.readAt (Elt Ideal) (Rect.unit (s := (⟨2, d⟩ : Shape)) off size inb).toLoadRect X)
      fun r c => f (o + r) (p + c) := by
  subst ho
  intro j
  rw [View.readAt_apply, hX]
  congr 2
  · exact Rect.idx_unit_val (s := (⟨2, d⟩ : Shape)) ![o, p] size inb j 0
  · exact Rect.idx_unit_val (s := (⟨2, d⟩ : Shape)) ![o, p] size inb j 1

/-- A block of 256 rows from row `o` on. -/
theorem rows_rep {m : Memref sig .tc .vmem S2048x128 .bf16} (hm : m.IsWhole) {x : Vec Ideal S2048x128 .bf16} (hx : Rep x f)
    (h : ∀ a, off a + S256x128.size a ≤ S2048x128.size a) (ho : off = ![o, 0]) :
    Rep (rows m (hm.unread x) off h) fun r c => f (o + r) c := by
  unfold rows
  erw [shapeCast_self]
  refine (load_rep16 m.view (hm.unread x) h (by rw [hm.read_unread]; exact hx) ho).congr fun r c _ _ => by rw [Nat.zero_add]

/-- The same of an accumulator. -/
theorem accRows_rep {m : Memref sig .tc .vmem S2048x128 .f32} {X : BufTy.Contents (Elt Ideal) m.view.ty}
    (hx : Rep (m.view.read (Elt Ideal) X) f)
    (h : ∀ a, off a + S256x128.size a ≤ S2048x128.size a) (ho : off = ![o, 0]) :
    Rep (accRows m X off h) fun r c => f (o + r) c :=
  (load_rep32 m.view X h hx ho).congr fun r c _ _ => by rw [Nat.zero_add]

/-- What is stored back. -/
theorem stored_rep {x y : FVec Ideal S256x128 .f32} (hx : Rep x f) (hy : Rep y g) :
    Rep (stored x y) fun r c => f r c + g r c := by
  unfold stored
  rw [shapeCast_self]
  exact addf_rep hx hy

/-- An accumulator after 256 rows from row `o` on are stored. -/
theorem store_rep {v : View sig .tc .vmem S2048x128 .f32} {G : v.ty.Contents (Elt Ideal)}
    {L : List (View.Piece (Elt Ideal) S2048x128 .f32)} (hA : Rep (v.read (Elt Ideal) (v.writes (Elt Ideal) G L)) A)
    (inb : ∀ a, off a + (![256, 128] : Fin 2 → ℕ) a ≤ S2048x128.size a) (ho : off = ![o, 0])
    {w : FVec Ideal S256x128 .f32} (hw : Rep w P) :
    Rep (v.read (Elt Ideal) (v.writes (Elt Ideal) G (⟨Rect.unit (s := S2048x128) off ![256, 128] inb, w⟩ :: L)))
      fun r c => if o ≤ r ∧ r < o + 256 then P (r - o) c else A r c := by
  intro y
  by_cases h : o ≤ (y 0).val ∧ (y 0).val < o + 256
  · have hx0 : (y 0).val = o + (ValueIdx.ix2 (⟨(y 0).val - o, by omega⟩ : Fin 256) (⟨(y 1).val, (y 1).isLt⟩ : Fin 128) 0).val := by
      show (y 0).val = o + ((y 0).val - o)
      omega
    erw [View.read_writes_cons_rows_of_mem v G inb w L y (ValueIdx.ix2 (⟨(y 0).val - o, by omega⟩ : Fin 256) (⟨(y 1).val, (y 1).isLt⟩ : Fin 128)) ho hx0 rfl, hw]
    show _ = (((if o ≤ (y 0).val ∧ (y 0).val < o + 256 then P ((y 0).val - o) (y 1).val else A (y 0).val (y 1).val) : ℝ) : EReal)
    rw [if_pos h]
  · rw [View.read_writes_cons_rows_of_not_mem v G inb w L y ho (W := 256) rfl (by omega), hA]
    show _ = (((if o ≤ (y 0).val ∧ (y 0).val < o + 256 then P ((y 0).val - o) (y 1).val else A (y 0).val (y 1).val) : ℝ) : EReal)
    rw [if_neg h]

/-- Two stores of neighbouring blocks, each of what stood there plus an addition. -/
theorem store2_rep {m : Memref sig .tc .vmem S2048x128 .f32} {G : BufTy.Contents (Elt Ideal) m.view.ty}
    {L : List (View.Piece (Elt Ideal) S2048x128 .f32)}
    (hA : Rep (m.view.read (Elt Ideal) (m.view.writes (Elt Ideal) G L)) A)
    {off off' : Fin 2 → ℕ} (inb : ∀ a, off a + (![256, 128] : Fin 2 → ℕ) a ≤ S2048x128.size a)
    (inb' : ∀ a, off' a + (![256, 128] : Fin 2 → ℕ) a ≤ S2048x128.size a) (ho : off = ![o, 0]) (ho' : off' = ![o + 256, 0])
    {w w' : FVec Ideal S256x128 .f32} (hw : Rep w fun r c => P (o + r) c) (hw' : Rep w' fun r c => P (o + 256 + r) c)
    {L' : List (View.Piece (Elt Ideal) S2048x128 .f32)}
    (hL' : ∃ B : ℕ → ℕ → ℝ, Rep (m.view.read (Elt Ideal) (m.view.writes (Elt Ideal) G L')) B ∧
      ∀ r c, o + 256 ≤ r → B r c = A r c) :
    Rep (m.view.read (Elt Ideal) (m.view.writes (Elt Ideal) G
      (⟨Rect.unit (s := S2048x128) off' ![256, 128] inb', stored (accRows m (m.view.writes (Elt Ideal) G L') off' inb') w'⟩
        :: ⟨Rect.unit (s := S2048x128) off ![256, 128] inb, stored (accRows m (m.view.writes (Elt Ideal) G L) off inb) w⟩ :: L)))
      fun r c => A r c + if o ≤ r ∧ r < o + 512 then P r c else 0 := by
  obtain ⟨B, hB, hBA⟩ := hL'
  refine (store_rep (store_rep hA inb ho (stored_rep (accRows_rep hA inb ho) hw)) inb' ho'
    (stored_rep (accRows_rep hB inb' ho') hw')).congr fun r c _ _ => ?_
  by_cases h2 : o + 256 ≤ r ∧ r < o + 256 + 256
  · rw [if_pos h2, if_pos (by omega), hBA _ _ (by omega), show o + 256 + (r - (o + 256)) = r by omega]
  · rw [if_neg h2]
    by_cases h1 : o ≤ r ∧ r < o + 256
    · rw [if_pos h1, if_pos (by omega), show o + (r - o) = r by omega]
    · rw [if_neg h1, if_neg (by omega), add_zero]

end

end Cert.Proof.Attn

end
-- ==== Proof.Loop.lean ====
/-
  One grid point over the reals: the loop over earlier key blocks by induction on its trips, the diagonal, and so what a grid
  point leaves in its two accumulators and in its block of query gradients.
-/
module

public import proofs.«01_k».proof.Proof.Loads

@[expose] public section

noncomputable section

open Idealize.ShloMosaic Idealize.SL.Sem Finset

namespace Cert.Proof.Attn

open Cert.KernelIdeal Cert.KernelIdeal.Gen

section
variable (Qa Da Ta : ℕ → ℕ → ℝ)

/-- The first head of a pair: its queries and output gradients stand in lanes 0 to 63, its totals in lane 0. -/
def hL : HdR := ⟨fun i c => if c < 64 then Qa i c else 0, fun i c => if c < 64 then Da i c else 0, fun i => Ta i 0⟩

/-- The second head of a pair: lanes 64 to 127, totals in lane 64. -/
def hH : HdR := ⟨fun i c => if 64 ≤ c then Qa i c else 0, fun i c => if 64 ≤ c then Da i c else 0, fun i => Ta i 64⟩

end

section
variable {f : ℕ → ℕ → ℝ} {off : Fin 2 → ℕ} {o p : ℕ}

theorem half512_rep {m : Memref sig .tc .vmem S512x128 .bf16} (hm : m.IsWhole) {x : Vec Ideal S512x128 .bf16} (hx : Rep x f)
    (h : ∀ a, off a + S256x128.size a ≤ S512x128.size a) (ho : off = ![o, 0]) :
    Rep (half512 m (hm.unread x) off h) fun r c => f (o + r) c := by
  unfold half512
  erw [shapeCast_self]
  refine (load_rep16 m.view (hm.unread x) h (by rw [hm.read_unread]; exact hx) ho).congr fun r c _ _ => by rw [Nat.zero_add]

theorem tots_rep {m : Memref sig .tc .vmem S512x128 .f32} (hm : m.IsWhole) {x : Vec Ideal S512x128 .f32} (hx : Rep x f)
    (h : ∀ a, off a + S256x1.size a ≤ S512x128.size a) (ho : off = ![o, p]) :
    Rep (tots m (hm.unread x) off h) fun r _ => f (o + r) p := by
  unfold tots
  erw [shapeCast_self]
  refine (load_rep32 m.view (hm.unread x) h (by rw [hm.read_unread]; exact hx) ho).congr fun r c _ hc => ?_
  rw [show c = 0 from Nat.lt_one_iff.1 hc, Nat.add_zero]

/-- One eighth. -/
theorem eighth : Scalar.ofBits (F := Ideal) .f32 0x3E000000#32 = ((1 / 8 : ℝ) : EReal) := by
  show Ideal.ofBits .f32 0x3E000000#32 = _
  simp [Ideal.ofBits, Ideal.ieee, -EReal.coe_mul]
  norm_num

theorem scaled_rep {x : FVec Ideal S256x128 .f32} (hx : Rep x f) : Rep (scaled x) fun r c => f r c * (1 / 8) := by
  unfold scaled
  rw [shapeCast_self]
  intro j
  show x j * Scalar.ofBits (F := Ideal) .f32 0x3E000000#32 = _
  rw [eighth, hx, ← EReal.coe_mul]

/-- A row inside the last stored rows reads what was stored. -/
theorem piece_hit (v : View sig .tc .vmem S512x128 .bf16) (G : v.ty.Contents (Elt Ideal))
    (L : List (View.Piece (Elt Ideal) S512x128 .bf16)) (inb : ∀ a, off a + (![256, 128] : Fin 2 → ℕ) a ≤ S512x128.size a)
    (ho : off = ![o, 0]) {w : FVec Ideal S256x128 .bf16} (hw : Rep w f) (y : S512x128.Idx)
    (h : o ≤ (y 0).val ∧ (y 0).val < o + 256) :
    v.read (Elt Ideal) (v.writes (Elt Ideal) G (⟨Rect.unit (s := S512x128) off ![256, 128] inb, w⟩ :: L)) y
      = ((f ((y 0).val - o) (y 1).val : ℝ) : EReal) := by
  have hx0 : (y 0).val = o + (ValueIdx.ix2 (⟨(y 0).val - o, by omega⟩ : Fin 256) (⟨(y 1).val, (y 1).isLt⟩ : Fin 128) 0).val := by
    show (y 0).val = o + ((y 0).val - o)
    omega
  erw [View.read_writes_cons_rows_of_mem v G inb w L y
    (ValueIdx.ix2 (⟨(y 0).val - o, by omega⟩ : Fin 256) (⟨(y 1).val, (y 1).isLt⟩ : Fin 128)) ho hx0 rfl, hw]

/-- A row outside reads what stood there. -/
theorem piece_miss (v : View sig .tc .vmem S512x128 .bf16) (G : v.ty.Contents (Elt Ideal))
    (L : List (View.Piece (Elt Ideal) S512x128 .bf16)) (inb : ∀ a, off a + (![256, 128] : Fin 2 → ℕ) a ≤ S512x128.size a)
    (ho : off = ![o, 0]) {w : FVec Ideal S256x128 .bf16} (y : S512x128.Idx) (h : ¬(o ≤ (y 0).val ∧ (y 0).val < o + 256)) :
    v.read (Elt Ideal) (v.writes (Elt Ideal) G (⟨Rect.unit (s := S512x128) off ![256, 128] inb, w⟩ :: L)) y
      = v.read (Elt Ideal) (v.writes (Elt Ideal) G L) y :=
  View.read_writes_cons_rows_of_not_mem v G inb w L y ho (W := 256) rfl (by omega)

/-- A block stored as its two halves. -/
theorem halves_rep (v : View sig .tc .vmem S512x128 .bf16) (G : v.ty.Contents (Elt Ideal)) {w w' : FVec Ideal S256x128 .bf16}
    (hw : Rep w f) (hw' : Rep w' fun r c => f (256 + r) c) :
    Rep (v.read (Elt Ideal) (v.writes (Elt Ideal) G
      [⟨Rect.unit (s := S512x128) ![256, 0] ![256, 128] inb_S512x128_S256x128_256_0, w'⟩,
       ⟨Rect.unit (s := S512x128) ![0, 0] ![256, 128] inb_S512x128_S256x128_0_0, w⟩])) f := by
  intro y
  by_cases h : (y 0).val < 256
  · exact (piece_miss v G _ inb_S512x128_S256x128_256_0 (o := 256) rfl y (by omega)).trans
      (piece_hit v G [] inb_S512x128_S256x128_0_0 (o := 0) rfl hw y (by omega))
  · have hb : (y 0).val < 512 := (y 0).isLt
    refine (piece_hit v G _ inb_S512x128_S256x128_256_0 (o := 256) rfl hw' y (by omega)).trans ?_
    show ((f (256 + ((y 0).val - 256)) (y 1).val : ℝ) : EReal) = _
    rw [show 256 + ((y 0).val - 256) = (y 0).val by omega]

/-- The zeros the loop starts from. -/
theorem init_rep (K V : ℕ → ℕ → ℝ) (h0 h1 : HdR) (i0 : ℕ) : CarryRep K V h0 h1 (init (F := Ideal)) i0 0 where
  cl00 := fun j => by simp only [sP, sum_range_zero]; exact Ideal.ofBits_zero_f32
  cp00 := fun j => by simp only [sPD, sum_range_zero]; exact Ideal.ofBits_zero_f32
  cl01 := fun j => by simp only [sP, sum_range_zero]; exact Ideal.ofBits_zero_f32
  cp01 := fun j => by simp only [sPD, sum_range_zero]; exact Ideal.ofBits_zero_f32
  cl10 := fun j => by simp only [sP, sum_range_zero]; exact Ideal.ofBits_zero_f32
  cp10 := fun j => by simp only [sPD, sum_range_zero]; exact Ideal.ofBits_zero_f32
  cl11 := fun j => by simp only [sP, sum_range_zero]; exact Ideal.ofBits_zero_f32
  cp11 := fun j => by simp only [sPD, sum_range_zero]; exact Ideal.ofBits_zero_f32
  dq0 := fun j => by simp only [sum_range_zero]; exact Ideal.ofBits_zero_f32
  dq1 := fun j => by simp only [sum_range_zero]; exact Ideal.ofBits_zero_f32

end

section
variable (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole)
  (x0 : Vec Ideal S512x128 .bf16) (x1 : Vec Ideal S2048x128 .bf16) (x2 : Vec Ideal S2048x128 .bf16) (x3 : Vec Ideal S512x128 .bf16) (x4 : Vec Ideal S512x128 .f32)
  {Qa Da Ta K V : ℕ → ℕ → ℝ}
  (hx0 : Rep x0 fun r c => Qa (512 * (i 1).val + r) c) (hx1 : Rep x1 K) (hx2 : Rep x2 V)
  (hx3 : Rep x3 fun r c => Da (512 * (i 1).val + r) c) (hx4 : Rep x4 fun r c => Ta (512 * (i 1).val + r) c)

include hx0 hx3 hx4 in
/-- The heads of this point. -/
theorem heads : Heads (hL Qa Da Ta) (hH Qa Da Ta) (hd00 arg2 harg2 arg5 harg5 arg6 harg6 x0 x3 x4) (hd01 arg2 harg2 arg5 harg5 arg6 harg6 x0 x3 x4) (hd10 arg2 harg2 arg5 harg5 arg6 harg6 x0 x3 x4) (hd11 arg2 harg2 arg5 harg5 arg6 harg6 x0 x3 x4) (512 * (i 1).val) where
  h00 := { q := lane0_rep ((half512_rep harg2 hx0 inb_S512x128_S256x128_0_0 rfl).congr fun r c _ _ => by rw [Nat.zero_add])
           d := lane0_rep ((half512_rep harg5 hx3 inb_S512x128_S256x128_0_0 rfl).congr fun r c _ _ => by rw [Nat.zero_add])
           ct := (tots_rep harg6 hx4 inb_S512x128_S256x1_0_0 rfl).congr fun r c _ _ => by rw [Nat.zero_add]; rfl }
  h01 := { q := lane1_rep ((half512_rep harg2 hx0 inb_S512x128_S256x128_0_0 rfl).congr fun r c _ _ => by rw [Nat.zero_add])
           d := lane1_rep ((half512_rep harg5 hx3 inb_S512x128_S256x128_0_0 rfl).congr fun r c _ _ => by rw [Nat.zero_add])
           ct := (tots_rep harg6 hx4 inb_S512x128_S256x1_0_64 rfl).congr fun r c _ _ => by rw [Nat.zero_add]; rfl }
  h10 := { q := lane0_rep ((half512_rep harg2 hx0 inb_S512x128_S256x128_256_0 rfl).congr fun r c _ _ => by rw [Nat.add_assoc])
           d := lane0_rep ((half512_rep harg5 hx3 inb_S512x128_S256x128_256_0 rfl).congr fun r c _ _ => by rw [Nat.add_assoc])
           ct := (tots_rep harg6 hx4 inb_S512x128_S256x1_256_0 rfl).congr fun r c _ _ => by rw [Nat.add_assoc]; rfl }
  h11 := { q := lane1_rep ((half512_rep harg2 hx0 inb_S512x128_S256x128_256_0 rfl).congr fun r c _ _ => by rw [Nat.add_assoc])
           d := lane1_rep ((half512_rep harg5 hx3 inb_S512x128_S256x128_256_0 rfl).congr fun r c _ _ => by rw [Nat.add_assoc])
           ct := (tots_rep harg6 hx4 inb_S512x128_S256x1_256_64 rfl).congr fun r c _ _ => by rw [Nat.add_assoc]; rfl }

variable (G10 : BufTy.Contents (Elt Ideal) arg10.view.ty) (G11 : BufTy.Contents (Elt Ideal) arg11.view.ty)
  {A10 A11 : ℕ → ℕ → ℝ} (hA10 : Rep (arg10.view.read (Elt Ideal) G10) A10) (hA11 : Rep (arg11.view.read (Elt Ideal) G11) A11)

include hx0 hx1 hx2 hx3 hx4 hA10 hA11 in
/-- After `n` trips: what is carried, and that the keys before row `512 n` have had this point's additions. -/
theorem loop_rep : ∀ n : ℕ, n ≤ (i 1).val →
    CarryRep K V (hL Qa Da Ta) (hH Qa Da Ta) (S1 c i arg2 harg2 arg3 harg3 arg4 harg4 arg5 harg5 arg6 harg6 arg7 harg7 arg8 harg8 arg9 harg9 arg10 harg10 arg11 harg11 x0 x1 x2 x3 x4 G10 G11 n).1 (512 * (i 1).val) (512 * n)
    ∧ Rep (arg10.view.read (Elt Ideal) (arg10.view.writes (Elt Ideal) G10 (S1 c i arg2 harg2 arg3 harg3 arg4 harg4 arg5 harg5 arg6 harg6 arg7 harg7 arg8 harg8 arg9 harg9 arg10 harg10 arg11 harg11 x0 x1 x2 x3 x4 G10 G11 n).2.1)) (fun r c => A10 r c + if r < 512 * n
        then ∑ t ∈ range 512, partK K V (hL Qa Da Ta) (hH Qa Da Ta) (512 * (i 1).val + t) r c else 0)
    ∧ Rep (arg11.view.read (Elt Ideal) (arg11.view.writes (Elt Ideal) G11 (S1 c i arg2 harg2 arg3 harg3 arg4 harg4 arg5 harg5 arg6 harg6 arg7 harg7 arg8 harg8 arg9 harg9 arg10 harg10 arg11 harg11 x0 x1 x2 x3 x4 G10 G11 n).2.2)) (fun r c => A11 r c + if r < 512 * n
        then ∑ t ∈ range 512, partV K (hL Qa Da Ta) (hH Qa Da Ta) (512 * (i 1).val + t) r c else 0)
  | 0, _ => by
    rw [S1_zero]
    exact ⟨init_rep K V _ _ _, hA10.congr fun r c _ _ => by rw [if_neg (by omega), add_zero],
      hA11.congr fun r c _ _ => by rw [if_neg (by omega), add_zero]⟩
  | n + 1, hn => by
    obtain ⟨C, B10, B11⟩ := loop_rep n (by omega)
    have H := heads i arg2 harg2 arg5 harg5 arg6 harg6 x0 x3 x4 hx0 hx3 hx4
    let k : Fin (k0_t1_loop i).trips := ⟨n, lt_of_lt_of_le (Nat.lt_of_succ_le hn) (n1_eq i).ge⟩
    have e := S1_succ c i arg2 harg2 arg3 harg3 arg4 harg4 arg5 harg5 arg6 harg6 arg7 harg7 arg8 harg8 arg9 harg9 arg10 harg10 arg11 harg11 x0 x1 x2 x3 x4 G10 G11 k
    have ho1 : k0_off1 i k = ![512 * n, 0] := k0_off1_eq i k
    have ho2 : k0_off2 i k = ![512 * n + 256, 0] := k0_off2_eq i k
    rw [show n + 1 = k.val + 1 from rfl, e]
    have hk1 := rows_rep harg3 hx1 (k0_off1_inb i k) ho1
    have hk2 := rows_rep harg3 hx1 (k0_off2_inb i k) ho2
    have hv1 := rows_rep harg4 hx2 (k0_off1_inb i k) ho1
    have hv2 := rows_rep harg4 hx2 (k0_off2_inb i k) ho2
    have hb : 512 * n + 512 ≤ 512 * (i 1).val := by omega
    refine ⟨trip_rep H hk1 hk2 hv1 hv2 C hb, ?_, ?_⟩
    · refine (store2_rep (P := fun r c => ∑ t ∈ range 512, partK K V (hL Qa Da Ta) (hH Qa Da Ta) (512 * (i 1).val + t) r c)
        B10 (k0_off1_inb i k) (k0_off2_inb i k) ho1 ho2 (dk1_rep H hk1 hv1 C hb) (dk2_rep H hk1 hk2 hv1 hv2 C hb)
        ⟨_, B10, fun _ _ _ => rfl⟩).congr fun r c _ _ => ?_
      show _ = A10 r c + if r < 512 * (n + 1) then _ else 0
      by_cases h1 : r < 512 * n
      · rw [if_pos h1, if_neg (by omega), if_pos (by omega), add_zero]
      · by_cases h2 : r < 512 * (n + 1)
        · rw [if_neg h1, if_pos (by omega), if_pos h2, add_zero]
        · rw [if_neg h1, if_neg (by omega), if_neg h2, add_zero]
    · refine (store2_rep (P := fun r c => ∑ t ∈ range 512, partV K (hL Qa Da Ta) (hH Qa Da Ta) (512 * (i 1).val + t) r c)
        B11 (k0_off1_inb i k) (k0_off2_inb i k) ho1 ho2 (dv1_rep H hk1 C hb) (dv2_rep H hk1 hk2 C hb)
        ⟨_, B11, fun _ _ _ => rfl⟩).congr fun r c _ _ => ?_
      show _ = A11 r c + if r < 512 * (n + 1) then _ else 0
      by_cases h1 : r < 512 * n
      · rw [if_pos h1, if_neg (by omega), if_pos (by omega), add_zero]
      · by_cases h2 : r < 512 * (n + 1)
        · rw [if_neg h1, if_pos (by omega), if_pos h2, add_zero]
        · rw [if_neg h1, if_neg (by omega), if_neg h2, add_zero]

include hx0 hx1 hx2 hx3 hx4 hA10 hA11

/-- What the point leaves in the first accumulator: every key's row has had this point's queries' parts of the key gradient. -/
theorem end10_rep : Rep (arg10.view.read (Elt Ideal) (arg10.view.writes (Elt Ideal) G10 (endL i arg10 G10 (S1 c i arg2 harg2 arg3 harg3 arg4 harg4 arg5 harg5 arg6 harg6 arg7 harg7 arg8 harg8 arg9 harg9 arg10 harg10 arg11 harg11 x0 x1 x2 x3 x4 G10 G11 (n1 i)).2.1 (dk1End' i arg2 harg2 arg3 harg3 arg4 harg4 arg5 harg5 arg6 harg6 x0 x1 x2 x3 x4 (S1 c i arg2 harg2 arg3 harg3 arg4 harg4 arg5 harg5 arg6 harg6 arg7 harg7 arg8 harg8 arg9 harg9 arg10 harg10 arg11 harg11 x0 x1 x2 x3 x4 G10 G11 (n1 i)).1) (dk2End' i arg2 harg2 arg3 harg3 arg4 harg4 arg5 harg5 arg6 harg6 x0 x1 x2 x3 x4 (S1 c i arg2 harg2 arg3 harg3 arg4 harg4 arg5 harg5 arg6 harg6 arg7 harg7 arg8 harg8 arg9 harg9 arg10 harg10 arg11 harg11 x0 x1 x2 x3 x4 G10 G11 (n1 i)).1))))
    fun r c => A10 r c + ∑ t ∈ range 512, partK K V (hL Qa Da Ta) (hH Qa Da Ta) (512 * (i 1).val + t) r c := by
  obtain ⟨C, B10, B11⟩ := loop_rep c i arg2 harg2 arg3 harg3 arg4 harg4 arg5 harg5 arg6 harg6 arg7 harg7 arg8 harg8 arg9 harg9 arg10 harg10 arg11 harg11 x0 x1 x2 x3 x4 hx0 hx1 hx2 hx3 hx4 G10 G11 hA10 hA11 (n1 i) (n1_eq i).le
  rw [n1_eq i] at C B10 B11
  have H := heads i arg2 harg2 arg5 harg5 arg6 harg6 x0 x3 x4 hx0 hx3 hx4
  have hk1 := rows_rep harg3 hx1 (k0_off5_inb i) (k0_off5_eq i)
  have hk2 := rows_rep harg3 hx1 (k0_off6_inb i) (k0_off6_eq i)
  have hv1 := rows_rep harg4 hx2 (k0_off5_inb i) (k0_off5_eq i)
  have hv2 := rows_rep harg4 hx2 (k0_off6_inb i) (k0_off6_eq i)
  rw [n1_eq i]
  have w1 := dk1End_rep H hk1 hv1 C
  have w2 := dk2End_rep H hk1 hk2 hv1 hv2 C
  refine (store2_rep (P := fun r c => ∑ t ∈ range 512, partK K V (hL Qa Da Ta) (hH Qa Da Ta) (512 * (i 1).val + t) r c)
    B10 (k0_off5_inb i) (k0_off6_inb i) (k0_off5_eq i) (k0_off6_eq i) w1 w2
    ⟨_, store_rep B10 (k0_off5_inb i) (k0_off5_eq i) (stored_rep (accRows_rep B10 (k0_off5_inb i) (k0_off5_eq i)) w1),
      fun r c h => if_neg (by omega)⟩).congr fun r c _ _ => ?_
  show A10 r c + (if r < 512 * (i 1).val then _ else 0) + _ = _
  by_cases h1 : r < 512 * (i 1).val
  · rw [if_pos h1, if_neg (by omega), add_zero]
  · rw [if_neg h1, add_zero]
    by_cases h2 : r < 512 * (i 1).val + 512
    · rw [if_pos (by omega)]
    · rw [if_neg (by omega), sum_eq_zero fun t ht => partK_zero (by have := mem_range.1 ht; omega) c]

/-- The same of the value gradient in the second accumulator. -/
theorem end11_rep : Rep (arg11.view.read (Elt Ideal) (arg11.view.writes (Elt Ideal) G11 (endL i arg11 G11 (S1 c i arg2 harg2 arg3 harg3 arg4 harg4 arg5 harg5 arg6 harg6 arg7 harg7 arg8 harg8 arg9 harg9 arg10 harg10 arg11 harg11 x0 x1 x2 x3 x4 G10 G11 (n1 i)).2.2 (dv1End' i arg2 harg2 arg3 harg3 arg5 harg5 arg6 harg6 x0 x1 x3 x4 (S1 c i arg2 harg2 arg3 harg3 arg4 harg4 arg5 harg5 arg6 harg6 arg7 harg7 arg8 harg8 arg9 harg9 arg10 harg10 arg11 harg11 x0 x1 x2 x3 x4 G10 G11 (n1 i)).1) (dv2End' i arg2 harg2 arg3 harg3 arg5 harg5 arg6 harg6 x0 x1 x3 x4 (S1 c i arg2 harg2 arg3 harg3 arg4 harg4 arg5 harg5 arg6 harg6 arg7 harg7 arg8 harg8 arg9 harg9 arg10 harg10 arg11 harg11 x0 x1 x2 x3 x4 G10 G11 (n1 i)).1))))
    fun r c => A11 r c + ∑ t ∈ range 512, partV K (hL Qa Da Ta) (hH Qa Da Ta) (512 * (i 1).val + t) r c := by
  obtain ⟨C, B10, B11⟩ := loop_rep c i arg2 harg2 arg3 harg3 arg4 harg4 arg5 harg5 arg6 harg6 arg7 harg7 arg8 harg8 arg9 harg9 arg10 harg10 arg11 harg11 x0 x1 x2 x3 x4 hx0 hx1 hx2 hx3 hx4 G10 G11 hA10 hA11 (n1 i) (n1_eq i).le
  rw [n1_eq i] at C B10 B11
  have H := heads i arg2 harg2 arg5 harg5 arg6 harg6 x0 x3 x4 hx0 hx3 hx4
  have hk1 := rows_rep harg3 hx1 (k0_off5_inb i) (k0_off5_eq i)
  have hk2 := rows_rep harg3 hx1 (k0_off6_inb i) (k0_off6_eq i)
  rw [n1_eq i]
  have w1 := dv1End_rep H hk1 C
  have w2 := dv2End_rep H hk1 hk2 C
  refine (store2_rep (P := fun r c => ∑ t ∈ range 512, partV K (hL Qa Da Ta) (hH Qa Da Ta) (512 * (i 1).val + t) r c)
    B11 (k0_off5_inb i) (k0_off6_inb i) (k0_off5_eq i) (k0_off6_eq i) w1 w2
    ⟨_, store_rep B11 (k0_off5_inb i) (k0_off5_eq i) (stored_rep (accRows_rep B11 (k0_off5_inb i) (k0_off5_eq i)) w1),
      fun r c h => if_neg (by omega)⟩).congr fun r c _ _ => ?_
  show A11 r c + (if r < 512 * (i 1).val then _ else 0) + _ = _
  by_cases h1 : r < 512 * (i 1).val
  · rw [if_pos h1, if_neg (by omega), add_zero]
  · rw [if_neg h1, add_zero]
    by_cases h2 : r < 512 * (i 1).val + 512
    · rw [if_pos (by omega)]
    · rw [if_neg (by omega), sum_eq_zero fun t ht => partV_zero (by have := mem_range.1 ht; omega) c]

/-- What the point stores as its 512 rows of query gradients. -/
theorem outQ_rep (v : View sig .tc .vmem S512x128 .bf16) : Rep (v.read (Elt Ideal) (v.writes (Elt Ideal) v.junk
      [⟨Rect.unit (s := S512x128) ![256, 0] ![256, 128] inb_S512x128_S256x128_256_0, scaled (dq1End' i arg2 harg2 arg3 harg3 arg4 harg4 arg5 harg5 arg6 harg6 x0 x1 x2 x3 x4 (S1 c i arg2 harg2 arg3 harg3 arg4 harg4 arg5 harg5 arg6 harg6 arg7 harg7 arg8 harg8 arg9 harg9 arg10 harg10 arg11 harg11 x0 x1 x2 x3 x4 G10 G11 (n1 i)).1)⟩,
       ⟨Rect.unit (s := S512x128) ![0, 0] ![256, 128] inb_S512x128_S256x128_0_0, scaled (dq0End' i arg2 harg2 arg3 harg3 arg4 harg4 arg5 harg5 arg6 harg6 x0 x1 x2 x3 x4 (S1 c i arg2 harg2 arg3 harg3 arg4 harg4 arg5 harg5 arg6 harg6 arg7 harg7 arg8 harg8 arg9 harg9 arg10 harg10 arg11 harg11 x0 x1 x2 x3 x4 G10 G11 (n1 i)).1)⟩]))
    fun r c => (∑ j ∈ range (512 * (i 1).val + 512), partQ K V (hL Qa Da Ta) (hH Qa Da Ta) (512 * (i 1).val + r) j c) * (1 / 8) := by
  obtain ⟨C, B10, B11⟩ := loop_rep c i arg2 harg2 arg3 harg3 arg4 harg4 arg5 harg5 arg6 harg6 arg7 harg7 arg8 harg8 arg9 harg9 arg10 harg10 arg11 harg11 x0 x1 x2 x3 x4 hx0 hx1 hx2 hx3 hx4 G10 G11 hA10 hA11 (n1 i) (n1_eq i).le
  rw [n1_eq i] at C
  have H := heads i arg2 harg2 arg5 harg5 arg6 harg6 x0 x3 x4 hx0 hx3 hx4
  have hk1 := rows_rep harg3 hx1 (k0_off5_inb i) (k0_off5_eq i)
  have hk2 := rows_rep harg3 hx1 (k0_off6_inb i) (k0_off6_eq i)
  have hv1 := rows_rep harg4 hx2 (k0_off5_inb i) (k0_off5_eq i)
  have hv2 := rows_rep harg4 hx2 (k0_off6_inb i) (k0_off6_eq i)
  rw [n1_eq i]
  exact halves_rep v v.junk (scaled_rep (dq0End_rep H hk1 hv1 C))
    ((scaled_rep (dq1End_rep H hk1 hk2 hv1 hv2 C)).congr fun r c _ _ => by rw [Nat.add_assoc])

end

end Cert.Proof.Attn

end
-- ==== Proof.Fold.lean ====
/-
  The grid over the reals: what the two accumulators hold after each of a head pair's four steps, and so the three arrays the
  kernel ends with, from the five arrays it reads.
-/
module

public import proofs.«01_k».proof.Proof.Loop
public import proofs.«01_k».proof.Proof.Gen.KernelIdeal.Value
public import Idealize.ShloMosaic.Lib.VecWindow

@[expose] public section

noncomputable section

open Idealize.ShloMosaic Idealize.SL.Sem Finset

namespace Cert.Proof.Attn

open Cert.KernelIdeal Cert.KernelIdeal.Gen

/-- A grid point's step. -/
theorem step_eq : ∀ t : Fin cfg0.N, ((grid0.coords t) 1).val = t.val % 4 := by decide +kernel

theorem index0 : ∀ t : Fin cfg0.N, win0_0.index t (0 : Fin 2) = t.val % 4 ∧ win0_0.index t (1 : Fin 2) = t.val / 4 := by decide +kernel
theorem index1 : ∀ t : Fin cfg0.N, win0_1.index t (0 : Fin 2) = 0 ∧ win0_1.index t (1 : Fin 2) = t.val / 4 := by decide +kernel
theorem index2 : ∀ t : Fin cfg0.N, win0_2.index t (0 : Fin 2) = 0 ∧ win0_2.index t (1 : Fin 2) = t.val / 4 := by decide +kernel
theorem index3 : ∀ t : Fin cfg0.N, win0_3.index t (0 : Fin 2) = t.val % 4 ∧ win0_3.index t (1 : Fin 2) = t.val / 4 := by decide +kernel
theorem index4 : ∀ t : Fin cfg0.N, win0_4.index t (0 : Fin 2) = t.val % 4 ∧ win0_4.index t (1 : Fin 2) = t.val / 4 := by decide +kernel

variable (m : (ℓ : Loc nD τ sig) → Buf (Elt Ideal) ℓ) (c : Dev nD) {Q K V D T : ℕ → ℕ → ℝ}

theorem blk0_row (t : Fin cfg0.N) (y : S512x128.Idx) : (((cfg0.win 0).blk t).view.emb y 0).val = 512 * (t.val % 4) + (y 0).val := by
  have hb : (((cfg0.win 0).blk t).view.emb y 0).val = win0_0.index t (0 : Fin 2) * 512 + 1 * (y 0).val := rfl
  rw [hb, (index0 t).1]
  ring

theorem blk0_col (t : Fin cfg0.N) (y : S512x128.Idx) : (((cfg0.win 0).blk t).view.emb y 1).val = 128 * (t.val / 4) + (y 1).val := by
  have hb : (((cfg0.win 0).blk t).view.emb y 1).val = win0_0.index t (1 : Fin 2) * 128 + 1 * (y 1).val := rfl
  rw [hb, (index0 t).2]
  ring

theorem blk0_read (X : Vec Ideal S2048x512 .bf16) (t : Fin cfg0.N) (y : S512x128.Idx) :
    (((cfg0.win 0).blk t).view.read (Elt Ideal) X : Vec Ideal S512x128 .bf16) y = X (((cfg0.win 0).blk t).view.emb y) := by
  rw [View.read_apply, cast_eq]

theorem blk0_rep (X : Vec Ideal S2048x512 .bf16) (h : Rep X Q) (t : Fin cfg0.N) :
    Rep (((cfg0.win 0).blk t).view.read (Elt Ideal) X : Vec Ideal S512x128 .bf16) fun r cc => Q (512 * (t.val % 4) + r) (128 * (t.val / 4) + cc) := by
  intro y
  rw [blk0_read, h, blk0_row, blk0_col]

/-- The block of input 0 at point `t`. -/
theorem iblk0_rep (h : Rep (Gen.V m c main_v0 : Vec Ideal S2048x512 .bf16) Q) (t : Fin cfg0.N) :
    Rep (iblk m c 0 t : Vec Ideal S512x128 .bf16) fun r cc => Q (512 * (t.val % 4) + r) (128 * (t.val / 4) + cc) :=
  blk0_rep (Gen.V m c main_v0) h t

theorem blk1_row (t : Fin cfg0.N) (y : S2048x128.Idx) : (((cfg0.win 1).blk t).view.emb y 0).val = (y 0).val := by
  have hb : (((cfg0.win 1).blk t).view.emb y 0).val = win0_1.index t (0 : Fin 2) * 2048 + 1 * (y 0).val := rfl
  rw [hb, (index1 t).1]
  ring

theorem blk1_col (t : Fin cfg0.N) (y : S2048x128.Idx) : (((cfg0.win 1).blk t).view.emb y 1).val = 128 * (t.val / 4) + (y 1).val := by
  have hb : (((cfg0.win 1).blk t).view.emb y 1).val = win0_1.index t (1 : Fin 2) * 128 + 1 * (y 1).val := rfl
  rw [hb, (index1 t).2]
  ring

theorem blk1_read (X : Vec Ideal S2048x512 .bf16) (t : Fin cfg0.N) (y : S2048x128.Idx) :
    (((cfg0.win 1).blk t).view.read (Elt Ideal) X : Vec Ideal S2048x128 .bf16) y = X (((cfg0.win 1).blk t).view.emb y) := by
  rw [View.read_apply, cast_eq]

theorem blk1_rep (X : Vec Ideal S2048x512 .bf16) (h : Rep X K) (t : Fin cfg0.N) :
    Rep (((cfg0.win 1).blk t).view.read (Elt Ideal) X : Vec Ideal S2048x128 .bf16) fun r cc => K (r) (128 * (t.val / 4) + cc) := by
  intro y
  rw [blk1_read, h, blk1_row, blk1_col]

/-- The block of input 1 at point `t`. -/
theorem iblk1_rep (h : Rep (Gen.V m c main_v1 : Vec Ideal S2048x512 .bf16) K) (t : Fin cfg0.N) :
    Rep (iblk m c 1 t : Vec Ideal S2048x128 .bf16) fun r cc => K (r) (128 * (t.val / 4) + cc) :=
  blk1_rep (Gen.V m c main_v1) h t

theorem blk2_row (t : Fin cfg0.N) (y : S2048x128.Idx) : (((cfg0.win 2).blk t).view.emb y 0).val = (y 0).val := by
  have hb : (((cfg0.win 2).blk t).view.emb y 0).val = win0_2.index t (0 : Fin 2) * 2048 + 1 * (y 0).val := rfl
  rw [hb, (index2 t).1]
  ring

theorem blk2_col (t : Fin cfg0.N) (y : S2048x128.Idx) : (((cfg0.win 2).blk t).view.emb y 1).val = 128 * (t.val / 4) + (y 1).val := by
  have hb : (((cfg0.win 2).blk t).view.emb y 1).val = win0_2.index t (1 : Fin 2) * 128 + 1 * (y 1).val := rfl
  rw [hb, (index2 t).2]
  ring

theorem blk2_read (X : Vec Ideal S2048x512 .bf16) (t : Fin cfg0.N) (y : S2048x128.Idx) :
    (((cfg0.win 2).blk t).view.read (Elt Ideal) X : Vec Ideal S2048x128 .bf16) y = X (((cfg0.win 2).blk t).view.emb y) := by
  rw [View.read_apply, cast_eq]

theorem blk2_rep (X : Vec Ideal S2048x512 .bf16) (h : Rep X V) (t : Fin cfg0.N) :
    Rep (((cfg0.win 2).blk t).view.read (Elt Ideal) X : Vec Ideal S2048x128 .bf16) fun r cc => V (r) (128 * (t.val / 4) + cc) := by
  intro y
  rw [blk2_read, h, blk2_row, blk2_col]

/-- The block of input 2 at point `t`. -/
theorem iblk2_rep (h : Rep (Gen.V m c main_v2 : Vec Ideal S2048x512 .bf16) V) (t : Fin cfg0.N) :
    Rep (iblk m c 2 t : Vec Ideal S2048x128 .bf16) fun r cc => V (r) (128 * (t.val / 4) + cc) :=
  blk2_rep (Gen.V m c main_v2) h t

theorem blk3_row (t : Fin cfg0.N) (y : S512x128.Idx) : (((cfg0.win 3).blk t).view.emb y 0).val = 512 * (t.val % 4) + (y 0).val := by
  have hb : (((cfg0.win 3).blk t).view.emb y 0).val = win0_3.index t (0 : Fin 2) * 512 + 1 * (y 0).val := rfl
  rw [hb, (index3 t).1]
  ring

theorem blk3_col (t : Fin cfg0.N) (y : S512x128.Idx) : (((cfg0.win 3).blk t).view.emb y 1).val = 128 * (t.val / 4) + (y 1).val := by
  have hb : (((cfg0.win 3).blk t).view.emb y 1).val = win0_3.index t (1 : Fin 2) * 128 + 1 * (y 1).val := rfl
  rw [hb, (index3 t).2]
  ring

theorem blk3_read (X : Vec Ideal S2048x512 .bf16) (t : Fin cfg0.N) (y : S512x128.Idx) :
    (((cfg0.win 3).blk t).view.read (Elt Ideal) X : Vec Ideal S512x128 .bf16) y = X (((cfg0.win 3).blk t).view.emb y) := by
  rw [View.read_apply, cast_eq]

theorem blk3_rep (X : Vec Ideal S2048x512 .bf16) (h : Rep X D) (t : Fin cfg0.N) :
    Rep (((cfg0.win 3).blk t).view.read (Elt Ideal) X : Vec Ideal S512x128 .bf16) fun r cc => D (512 * (t.val % 4) + r) (128 * (t.val / 4) + cc) := by
  intro y
  rw [blk3_read, h, blk3_row, blk3_col]

/-- The block of input 3 at point `t`. -/
theorem iblk3_rep (h : Rep (Gen.V m c main_v3 : Vec Ideal S2048x512 .bf16) D) (t : Fin cfg0.N) :
    Rep (iblk m c 3 t : Vec Ideal S512x128 .bf16) fun r cc => D (512 * (t.val % 4) + r) (128 * (t.val / 4) + cc) :=
  blk3_rep (Gen.V m c main_v3) h t

theorem blk4_row (t : Fin cfg0.N) (y : S512x128.Idx) : (((cfg0.win 4).blk t).view.emb y 0).val = 512 * (t.val % 4) + (y 0).val := by
  have hb : (((cfg0.win 4).blk t).view.emb y 0).val = win0_4.index t (0 : Fin 2) * 512 + 1 * (y 0).val := rfl
  rw [hb, (index4 t).1]
  ring

theorem blk4_col (t : Fin cfg0.N) (y : S512x128.Idx) : (((cfg0.win 4).blk t).view.emb y 1).val = 128 * (t.val / 4) + (y 1).val := by
  have hb : (((cfg0.win 4).blk t).view.emb y 1).val = win0_4.index t (1 : Fin 2) * 128 + 1 * (y 1).val := rfl
  rw [hb, (index4 t).2]
  ring

theorem blk4_read (X : Vec Ideal S2048x512 .f32) (t : Fin cfg0.N) (y : S512x128.Idx) :
    (((cfg0.win 4).blk t).view.read (Elt Ideal) X : Vec Ideal S512x128 .f32) y = X (((cfg0.win 4).blk t).view.emb y) := by
  rw [View.read_apply, cast_eq]

theorem blk4_rep (X : Vec Ideal S2048x512 .f32) (h : Rep X T) (t : Fin cfg0.N) :
    Rep (((cfg0.win 4).blk t).view.read (Elt Ideal) X : Vec Ideal S512x128 .f32) fun r cc => T (512 * (t.val % 4) + r) (128 * (t.val / 4) + cc) := by
  intro y
  rw [blk4_read, h, blk4_row, blk4_col]

/-- The block of input 4 at point `t`. -/
theorem iblk4_rep (h : Rep (Gen.V m c main_v29 : Vec Ideal S2048x512 .f32) T) (t : Fin cfg0.N) :
    Rep (iblk m c 4 t : Vec Ideal S512x128 .f32) fun r cc => T (512 * (t.val % 4) + r) (128 * (t.val / 4) + cc) :=
  blk4_rep (Gen.V m c main_v29) h t

/-- The five arrays the kernel reads hold these numbers. -/
structure Reads (Q K V D T : ℕ → ℕ → ℝ) : Prop where
  q : Rep (Gen.V m c main_v0 : Vec Ideal S2048x512 .bf16) Q
  k : Rep (Gen.V m c main_v1 : Vec Ideal S2048x512 .bf16) K
  v : Rep (Gen.V m c main_v2 : Vec Ideal S2048x512 .bf16) V
  d : Rep (Gen.V m c main_v3 : Vec Ideal S2048x512 .bf16) D
  t : Rep (Gen.V m c main_v29 : Vec Ideal S2048x512 .f32) T

/-- The columns of head pair `p`. -/
def cols (X : ℕ → ℕ → ℝ) (p : ℕ) : ℕ → ℕ → ℝ := fun r cc => X r (128 * p + cc)

variable (Q K V D T) in
/-- Query `i`'s part of key `j`'s key gradient in pair `p`. -/
def pK (p i j cc : ℕ) : ℝ := partK (cols K p) (cols V p) (hL (cols Q p) (cols D p) (cols T p)) (hH (cols Q p) (cols D p) (cols T p)) i j cc

variable (Q K D T) in
/-- Query `i`'s part of key `j`'s value gradient in pair `p`. -/
def pV (p i j cc : ℕ) : ℝ := partV (cols K p) (hL (cols Q p) (cols D p) (cols T p)) (hH (cols Q p) (cols D p) (cols T p)) i j cc

variable (Q K V D T) in
/-- Key `j`'s part of query `i`'s gradient in pair `p`. -/
def pQ (p i j cc : ℕ) : ℝ := partQ (cols K p) (cols V p) (hL (cols Q p) (cols D p) (cols T p)) (hH (cols Q p) (cols D p) (cols T p)) i j cc

/-- An accumulator set to zero. -/
theorem zeroed (v : View sig .tc .vmem S2048x128 .f32) (w : FVec Ideal S2048x128 .f32) (hw : ∀ j, w j = 0) :
    Rep (v.read (Elt Ideal) (v.writes (Elt Ideal) v.junk
      [⟨Rect.unit (s := S2048x128) ![0, 0] S2048x128.size inb_S2048x128_S2048x128_0_0, w⟩])) fun _ _ => 0 := by
  intro j
  rw [View.read_writes_full]
  exact hw j

/-- A whole load of an accumulator. -/
theorem whole_rep (v : View sig .tc .vmem S2048x128 .f32) {X : v.ty.Contents (Elt Ideal)} {f : ℕ → ℕ → ℝ}
    (h : Rep (v.read (Elt Ideal) X) f) :
    Rep (v.readAt (Elt Ideal) (Rect.unit (s := S2048x128) ![0, 0] S2048x128.size inb_S2048x128_S2048x128_0_0).toLoadRect X) f :=
  (load_rep32 v X inb_S2048x128_S2048x128_0_0 h rfl).congr fun r cc _ _ => by rw [Nat.zero_add, Nat.zero_add]

theorem lastK_rep {x : FVec Ideal S2048x128 .f32} {f : ℕ → ℕ → ℝ} (h : Rep x f) : Rep (k0_pay4 (F := Ideal) x : Vec Ideal S2048x128 .bf16) fun r cc => f r cc * (1 / 8) := by
  unfold k0_pay4
  intro j
  dsimp only
  rw [shapeCast_self]
  show x j * Scalar.ofBits (F := Ideal) .f32 0x3E000000#32 = _
  rw [eighth, h, ← EReal.coe_mul]

theorem lastV_rep {x : FVec Ideal S2048x128 .f32} {f : ℕ → ℕ → ℝ} (h : Rep x f) : Rep (k0_pay5 (F := Ideal) x : Vec Ideal S2048x128 .bf16) f := by
  unfold k0_pay5
  intro j
  dsimp only
  rw [shapeCast_self]
  exact h j

/-- More terms of a sum over queries. -/
theorem more (f : ℕ → ℝ) (s : ℕ) : ∑ i ∈ range (512 * s), f i + ∑ t ∈ range 512, f (512 * s + t) = ∑ i ∈ range (512 * (s + 1)), f i := by
  rw [Nat.mul_succ, sum_range_add]

variable {m c} (R : Reads m c Q K V D T)

include R

/-- The accumulators after point `t`: every query up to the point's own rows has added its part. -/
theorem scr_rep : ∀ (n : ℕ) (t : Fin cfg0.N), t.val % 4 = n →
    Rep (outsAt0 m c t.val t.isLt).2.2.2.1 (fun r cc => ∑ i ∈ range (512 * (t.val % 4 + 1)), pK Q K V D T (t.val / 4) i r cc)
    ∧ Rep (outsAt0 m c t.val t.isLt).2.2.2.2 (fun r cc => ∑ i ∈ range (512 * (t.val % 4 + 1)), pV Q K D T (t.val / 4) i r cc) := by
  intro n
  induction n with
  | zero =>
    intro t h0
    have hs : ((grid0.coords t) 1).val = t.val % 4 := step_eq t
    have hz10 := zeroed scM0_0.view k0_pay260 (fun _ => Ideal.ofBits_zero_f32)
    have hz11 := zeroed scM0_1.view k0_pay261 (fun _ => Ideal.ofBits_zero_f32)
    have x0 := (iblk0_rep m c R.q t); rw [← hs] at x0
    have x3 := (iblk3_rep m c R.d t); rw [← hs] at x3
    have x4 := (iblk4_rep m c R.t t); rw [← hs] at x4
    rw [outsAt0_A m c t h0 (by omega)]
    dsimp only
    constructor
    · rw [sout0_A_0_eq]
      refine (end10_rep (Qa := cols Q (t.val / 4)) (Da := cols D (t.val / 4)) (Ta := cols T (t.val / 4)) (K := cols K (t.val / 4)) (V := cols V (t.val / 4)) _ _ _ _ _ _ _ _ _ _ _ _ _ _ _ _ _ _ _ _ _ _ _ _ _ _ _ x0 (iblk1_rep m c R.k t) (iblk2_rep m c R.v t) x3 x4 _ _ hz10 hz11).congr fun r cc _ _ => ?_
      rw [hs, ← more, h0, zero_add]
      simp only [Nat.mul_zero, range_zero, sum_empty, zero_add]
      rfl
    · rw [sout0_A_1_eq]
      refine (end11_rep (Qa := cols Q (t.val / 4)) (Da := cols D (t.val / 4)) (Ta := cols T (t.val / 4)) (K := cols K (t.val / 4)) (V := cols V (t.val / 4)) _ _ _ _ _ _ _ _ _ _ _ _ _ _ _ _ _ _ _ _ _ _ _ _ _ _ _ x0 (iblk1_rep m c R.k t) (iblk2_rep m c R.v t) x3 x4 _ _ hz10 hz11).congr fun r cc _ _ => ?_
      rw [hs, ← more, h0, zero_add]
      simp only [Nat.mul_zero, range_zero, sum_empty, zero_add]
      rfl
  | succ n ih =>
    intro t h0
    obtain ⟨i10, i11⟩ := ih ⟨t.val - 1, Nat.lt_of_le_of_lt (Nat.sub_le _ _) t.isLt⟩ (by show (t.val - 1) % 4 = n; omega)
    dsimp only at i10 i11
    rw [show (t.val - 1) / 4 = t.val / 4 by omega, show (t.val - 1) % 4 + 1 = t.val % 4 by omega] at i10 i11
    have hs : ((grid0.coords t) 1).val = t.val % 4 := step_eq t
    have x0 := (iblk0_rep m c R.q t); rw [← hs] at x0
    have x3 := (iblk3_rep m c R.d t); rw [← hs] at x3
    have x4 := (iblk4_rep m c R.t t); rw [← hs] at x4
    have hz10 : Rep (scM0_0.view.read (Elt Ideal) ((Memref.isWhole_whole cc0_scratch0).unread (outsAt0 m c (t.val - 1) (Nat.lt_of_le_of_lt (Nat.sub_le _ _) t.isLt)).2.2.2.1))
        (fun r cc => ∑ i ∈ range (512 * (t.val % 4)), pK Q K V D T (t.val / 4) i r cc) := by
      rw [Memref.IsWhole.read_unread]; exact i10
    have hz11 : Rep (scM0_1.view.read (Elt Ideal) ((Memref.isWhole_whole cc0_scratch1).unread (outsAt0 m c (t.val - 1) (Nat.lt_of_le_of_lt (Nat.sub_le _ _) t.isLt)).2.2.2.2))
        (fun r cc => ∑ i ∈ range (512 * (t.val % 4)), pV Q K D T (t.val / 4) i r cc) := by
      rw [Memref.IsWhole.read_unread]; exact i11
    by_cases h1 : t.val % 4 = 3
    · rw [outsAt0_C m c t (by omega) h1]
      dsimp only
      constructor
      · rw [sout0_C_0_eq]
        refine (end10_rep (Qa := cols Q (t.val / 4)) (Da := cols D (t.val / 4)) (Ta := cols T (t.val / 4)) (K := cols K (t.val / 4)) (V := cols V (t.val / 4)) _ _ _ _ _ _ _ _ _ _ _ _ _ _ _ _ _ _ _ _ _ _ _ _ _ _ _ x0 (iblk1_rep m c R.k t) (iblk2_rep m c R.v t) x3 x4 _ _ hz10 hz11).congr fun r cc _ _ => ?_
        rw [hs, ← more]
        rfl
      · rw [sout0_C_1_eq]
        refine (end11_rep (Qa := cols Q (t.val / 4)) (Da := cols D (t.val / 4)) (Ta := cols T (t.val / 4)) (K := cols K (t.val / 4)) (V := cols V (t.val / 4)) _ _ _ _ _ _ _ _ _ _ _ _ _ _ _ _ _ _ _ _ _ _ _ _ _ _ _ x0 (iblk1_rep m c R.k t) (iblk2_rep m c R.v t) x3 x4 _ _ hz10 hz11).congr fun r cc _ _ => ?_
        rw [hs, ← more]
        rfl
    · rw [outsAt0_B m c t (by omega) h1]
      dsimp only
      constructor
      · rw [sout0_B_0_eq]
        refine (end10_rep (Qa := cols Q (t.val / 4)) (Da := cols D (t.val / 4)) (Ta := cols T (t.val / 4)) (K := cols K (t.val / 4)) (V := cols V (t.val / 4)) _ _ _ _ _ _ _ _ _ _ _ _ _ _ _ _ _ _ _ _ _ _ _ _ _ _ _ x0 (iblk1_rep m c R.k t) (iblk2_rep m c R.v t) x3 x4 _ _ hz10 hz11).congr fun r cc _ _ => ?_
        rw [hs, ← more]
        rfl
      · rw [sout0_B_1_eq]
        refine (end11_rep (Qa := cols Q (t.val / 4)) (Da := cols D (t.val / 4)) (Ta := cols T (t.val / 4)) (K := cols K (t.val / 4)) (V := cols V (t.val / 4)) _ _ _ _ _ _ _ _ _ _ _ _ _ _ _ _ _ _ _ _ _ _ _ _ _ _ _ x0 (iblk1_rep m c R.k t) (iblk2_rep m c R.v t) x3 x4 _ _ hz10 hz11).congr fun r cc _ _ => ?_
        rw [hs, ← more]
        rfl

/-- The block of query gradients point `t` stores. -/
theorem blkQ_rep (t : Fin cfg0.N) : Rep (outsAt0 m c t.val t.isLt).1 (fun r cc =>
    (∑ j ∈ range (512 * (t.val % 4) + 512), pQ Q K V D T (t.val / 4) (512 * (t.val % 4) + r) j cc) * (1 / 8)) := by
  have hs : ((grid0.coords t) 1).val = t.val % 4 := step_eq t
  have x0 := (iblk0_rep m c R.q t); rw [← hs] at x0
  have x3 := (iblk3_rep m c R.d t); rw [← hs] at x3
  have x4 := (iblk4_rep m c R.t t); rw [← hs] at x4
  obtain ⟨i10, i11⟩ := scr_rep R _ ⟨t.val - 1, Nat.lt_of_le_of_lt (Nat.sub_le _ _) t.isLt⟩ rfl
  have hz10 : Rep (scM0_0.view.read (Elt Ideal) ((Memref.isWhole_whole cc0_scratch0).unread (outsAt0 m c (t.val - 1) (Nat.lt_of_le_of_lt (Nat.sub_le _ _) t.isLt)).2.2.2.1)) (fun r cc => ∑ i ∈ range (512 * ((t.val - 1) % 4 + 1)), pK Q K V D T ((t.val - 1) / 4) i r cc) := by
    rw [Memref.IsWhole.read_unread]; exact i10
  have hz11 : Rep (scM0_1.view.read (Elt Ideal) ((Memref.isWhole_whole cc0_scratch1).unread (outsAt0 m c (t.val - 1) (Nat.lt_of_le_of_lt (Nat.sub_le _ _) t.isLt)).2.2.2.2)) (fun r cc => ∑ i ∈ range (512 * ((t.val - 1) % 4 + 1)), pV Q K D T ((t.val - 1) / 4) i r cc) := by
    rw [Memref.IsWhole.read_unread]; exact i11
  by_cases h0 : t.val % 4 = 0
  · rw [outsAt0_A m c t h0 (by omega)]
    dsimp only
    rw [out0_A_5_eq]
    refine (outQ_rep (Qa := cols Q (t.val / 4)) (Da := cols D (t.val / 4)) (Ta := cols T (t.val / 4)) (K := cols K (t.val / 4)) (V := cols V (t.val / 4)) _ _ _ _ _ _ _ _ _ _ _ _ _ _ _ _ _ _ _ _ _ _ _ _ _ _ _ x0 (iblk1_rep m c R.k t) (iblk2_rep m c R.v t) x3 x4 _ _ (zeroed scM0_0.view k0_pay260 (fun _ => Ideal.ofBits_zero_f32)) (zeroed scM0_1.view k0_pay261 (fun _ => Ideal.ofBits_zero_f32)) VO0_5).congr fun r cc _ _ => ?_
    rw [hs]
    rfl
  by_cases h1 : t.val % 4 = 3
  · rw [outsAt0_C m c t h0 h1]
    dsimp only
    rw [out0_C_5_eq]
    refine (outQ_rep (Qa := cols Q (t.val / 4)) (Da := cols D (t.val / 4)) (Ta := cols T (t.val / 4)) (K := cols K (t.val / 4)) (V := cols V (t.val / 4)) _ _ _ _ _ _ _ _ _ _ _ _ _ _ _ _ _ _ _ _ _ _ _ _ _ _ _ x0 (iblk1_rep m c R.k t) (iblk2_rep m c R.v t) x3 x4 _ _ hz10 hz11 VO0_5).congr fun r cc _ _ => ?_
    rw [hs]
    rfl
  · rw [outsAt0_B m c t h0 h1]
    dsimp only
    rw [out0_B_5_eq]
    refine (outQ_rep (Qa := cols Q (t.val / 4)) (Da := cols D (t.val / 4)) (Ta := cols T (t.val / 4)) (K := cols K (t.val / 4)) (V := cols V (t.val / 4)) _ _ _ _ _ _ _ _ _ _ _ _ _ _ _ _ _ _ _ _ _ _ _ _ _ _ _ x0 (iblk1_rep m c R.k t) (iblk2_rep m c R.v t) x3 x4 _ _ hz10 hz11 VO0_5).congr fun r cc _ _ => ?_
    rw [hs]
    rfl

/-- The block of key gradients a head pair's last point stores. -/
theorem blkK_rep (t : Fin cfg0.N) (h1 : t.val % 4 = 3) : Rep (outsAt0 m c t.val t.isLt).2.1 (fun r cc =>
    (∑ i ∈ range 2048, pK Q K V D T (t.val / 4) i r cc) * (1 / 8)) := by
  have h := (scr_rep R _ t rfl).1
  rw [outsAt0_C m c t (by omega) h1] at h ⊢
  dsimp only at h ⊢
  rw [sout0_C_0_eq] at h
  rw [out0_C_6_eq]
  erw [View.read_writes_full]
  rw [h1] at h
  exact lastK_rep (whole_rep _ h)

/-- The block of value gradients a head pair's last point stores. -/
theorem blkV_rep (t : Fin cfg0.N) (h1 : t.val % 4 = 3) : Rep (outsAt0 m c t.val t.isLt).2.2.1 (fun r cc =>
    ∑ i ∈ range 2048, pV Q K D T (t.val / 4) i r cc) := by
  have h := (scr_rep R _ t rfl).2
  rw [outsAt0_C m c t (by omega) h1] at h ⊢
  dsimp only at h ⊢
  rw [sout0_C_1_eq] at h
  rw [out0_C_7_eq]
  erw [View.read_writes_full]
  rw [h1] at h
  exact lastV_rep (whole_rep _ h)

/-- THE FIRST RESULT: the query gradients. -/
theorem G5_rep : Rep (Value.G5 m c : Vec Ideal S2048x512 .bf16) (fun r C =>
    (∑ j ∈ range 2048, pQ Q K V D T (C / 128) r j (C % 128)) * (1 / 8)) := by
  intro y
  have hy0 : (y 0).val < 2048 := (y 0).isLt
  have hy1 : (y 1).val < 512 := (y 1).isLt
  have hb : Value.pt5Of y < cfg0.N := by rw [show cfg0.N = 16 from N_0]; dsimp only [Value.pt5Of, Value.run5Of]; omega
  have e : Value.G5 m c y = (outsAt0 m c (Value.pt5Of y) hb).1 (Value.loc5Of y) := by
    unfold Value.G5
    rw [dif_pos hb, Value.outsAt0_sweep]
  have q1 : Value.pt5Of y / 4 = (y 1).val / 128 := by dsimp only [Value.pt5Of, Value.run5Of]; omega
  have q2 : 512 * (Value.pt5Of y % 4) = 512 * ((y 0).val / 512) := by dsimp only [Value.pt5Of, Value.run5Of]; omega
  refine e.trans ((blkQ_rep R ⟨Value.pt5Of y, hb⟩ (Value.loc5Of y)).trans ?_)
  show (((∑ j ∈ range (512 * (Value.pt5Of y % 4) + 512), pQ Q K V D T (Value.pt5Of y / 4) (512 * (Value.pt5Of y % 4) + (y 0).val % 512) j ((y 1).val % 128)) * (1 / 8) : ℝ) : EReal) = _
  rw [q1, q2, show 512 * ((y 0).val / 512) + (y 0).val % 512 = (y 0).val by omega]
  congr 2
  exact (sum_cut _ _ 2048 (by omega) fun j hj => partQ_zero (by omega) _).symm

/-- THE SECOND RESULT: the key gradients. -/
theorem G6_rep : Rep (Value.G6 m c : Vec Ideal S2048x512 .bf16) (fun r C =>
    (∑ i ∈ range 2048, pK Q K V D T (C / 128) i r (C % 128)) * (1 / 8)) := by
  intro y
  have hy0 : (y 0).val < 2048 := (y 0).isLt
  have hy1 : (y 1).val < 512 := (y 1).isLt
  have hb : Value.pt6Of y < cfg0.N := by rw [show cfg0.N = 16 from N_0]; dsimp only [Value.pt6Of, Value.run6Of]; omega
  have e : Value.G6 m c y = (outsAt0 m c (Value.pt6Of y) hb).2.1 (Value.loc6Of y) := by
    unfold Value.G6
    rw [dif_pos hb, Value.outsAt0_sweep]
  have q1 : Value.pt6Of y / 4 = (y 1).val / 128 := by dsimp only [Value.pt6Of, Value.run6Of]; omega
  refine e.trans ((blkK_rep R ⟨Value.pt6Of y, hb⟩ (by dsimp only [Value.pt6Of, Value.run6Of]; omega) (Value.loc6Of y)).trans ?_)
  show (((∑ i ∈ range 2048, pK Q K V D T (Value.pt6Of y / 4) i ((y 0).val % 2048) ((y 1).val % 128)) * (1 / 8) : ℝ) : EReal) = _
  rw [q1, show (y 0).val % 2048 = (y 0).val by omega]

/-- THE THIRD RESULT: the value gradients. -/
theorem G7_rep : Rep (Value.G7 m c : Vec Ideal S2048x512 .bf16) (fun r C =>
    ∑ i ∈ range 2048, pV Q K D T (C / 128) i r (C % 128)) := by
  intro y
  have hy0 : (y 0).val < 2048 := (y 0).isLt
  have hy1 : (y 1).val < 512 := (y 1).isLt
  have hb : Value.pt7Of y < cfg0.N := by rw [show cfg0.N = 16 from N_0]; dsimp only [Value.pt7Of, Value.run7Of]; omega
  have e : Value.G7 m c y = (outsAt0 m c (Value.pt7Of y) hb).2.2.1 (Value.loc7Of y) := by
    unfold Value.G7
    rw [dif_pos hb, Value.outsAt0_sweep]
  have q1 : Value.pt7Of y / 4 = (y 1).val / 128 := by dsimp only [Value.pt7Of, Value.run7Of]; omega
  refine e.trans ((blkV_rep R ⟨Value.pt7Of y, hb⟩ (by dsimp only [Value.pt7Of, Value.run7Of]; omega) (Value.loc7Of y)).trans ?_)
  show (((∑ i ∈ range 2048, pV Q K D T (Value.pt7Of y / 4) i ((y 0).val % 2048) ((y 1).val % 128)) : ℝ) : EReal) = _
  rw [q1, show (y 0).val % 2048 = (y 0).val by omega]

end Cert.Proof.Attn

end
-- ==== Proof.Real.lean ====
/-
  The attention's gradient over the reals as the reference writes it, and why a head of the kernel computes the same: the
  kernel's powers of two are exponentials, its lanes outside a head hold zero, and the sum of the log terms after a key is the
  row's total less the sum up to the key.
-/
module

public import proofs.«01_k».proof.Proof.Fold

@[expose] public section

noncomputable section

open Idealize.ShloMosaic Idealize.SL.Sem Finset

namespace Cert.Proof.Attn

/-- log(1 + eˣ), in the form that does not overflow. -/
def sp (x : ℝ) : ℝ := max x 0 + Real.log (1 + Real.exp (-|x|))

theorem sp_neg (x : ℝ) : x - sp x = -sp (-x) := by
  unfold sp
  rw [abs_neg]
  rcases le_total 0 x with h | h
  · rw [max_eq_left h, max_eq_right (by linarith : -x ≤ 0)]; ring
  · rw [max_eq_right h, max_eq_left (by linarith : 0 ≤ -x)]; ring

theorem sp_eq (x : ℝ) : sp x = Real.log (1 + Real.exp x) := by
  unfold sp
  rcases le_total 0 x with h | h
  · have e : 1 + Real.exp x = Real.exp x * (1 + Real.exp (-x)) := by rw [mul_add, ← Real.exp_add]; simp [add_comm]
    rw [max_eq_left h, abs_of_nonneg h, e, Real.log_mul (Real.exp_ne_zero _) (by positivity), Real.log_exp]
  · rw [max_eq_right h, abs_of_nonpos h, neg_neg, zero_add]

/-- σ(−x) = 1 − σ(x). -/
theorem exp_sp (x : ℝ) : Real.exp (-sp x) = 1 - Real.exp (-sp (-x)) := by
  rw [sp_eq, sp_eq, Real.exp_neg, Real.exp_neg, Real.exp_log (by positivity), Real.exp_log (by positivity), Real.exp_neg]
  have := Real.exp_pos x
  field_simp
  ring

theorem two_rpow (x : ℝ) : (2 : ℝ) ^ (x * (Real.log 2)⁻¹) = Real.exp x := by
  rw [Real.rpow_def_of_pos (by norm_num)]
  congr 1
  have : Real.log 2 ≠ 0 := (Real.log_pos (by norm_num)).ne'
  field_simp

theorem lbR_eq (x : ℝ) : lbR x = -sp (-(x * (1 / 8))) * (Real.log 2)⁻¹ := by
  have hl : 0 < (Real.log 2)⁻¹ := inv_pos.2 (Real.log_pos (by norm_num))
  unfold lbR sp
  rw [← mul_assoc]
  generalize x * (1 / 8) = z
  rw [abs_mul, abs_of_pos hl, zero_sub, ← neg_mul, two_rpow, abs_neg]
  have e : min (z * (Real.log 2)⁻¹) 0 = -max (-z) 0 * (Real.log 2)⁻¹ := by
    rcases le_total 0 z with h | h
    · rw [min_eq_right (by positivity), max_eq_right (by linarith)]; ring
    · rw [min_eq_left (mul_nonpos_of_nonpos_of_nonneg h hl.le), max_eq_left (by linarith)]; ring
  rw [e]; ring

theorem l1R_eq (x : ℝ) : l1R x = -sp (x * (1 / 8)) * (Real.log 2)⁻¹ := by
  have h := sp_neg (x * (1 / 8))
  unfold l1R
  rw [lbR_eq, ← h]; ring

section
variable (Q K V D : ℕ → ℕ → ℝ) (h : ℕ)

/-- The scores of head `h`. -/
def rZ (i j : ℕ) : ℝ := (∑ d ∈ range 64, Q i (64 * h + d) * K j (64 * h + d)) * (1 / 8)

/-- log(1 − σ), zero from the diagonal on. -/
def rL (i j : ℕ) : ℝ := if j < i then -sp (rZ Q K h i j) else 0

/-- The exponential of the log weights, before the mask. -/
def rE (i j : ℕ) : ℝ :=
  Real.exp (-sp (-rZ Q K h i j) + (∑ t ∈ range 2048, if j ≤ t then rL Q K h i t else 0) - rL Q K h i j)

/-- The weights. -/
def rA (i j : ℕ) : ℝ := if j < i then rE Q K h i j else 0

/-- The gradient of the weights. -/
def rDA (i j : ℕ) : ℝ := ∑ d ∈ range 64, D i (64 * h + d) * V j (64 * h + d)

/-- The gradient of the log weights. -/
def rDL (i j : ℕ) : ℝ := (if j < i then rDA V D h i j else 0) * rE Q K h i j

/-- The gradient of the scores: through log(1 − σ) of the keys before, and through log σ. -/
def rDZ (i j : ℕ) : ℝ :=
  -(if j < i then -rDL Q K V D h i j + ∑ t ∈ range (j + 1), rDL Q K V D h i t else 0) * Real.exp (rZ Q K h i j - sp (rZ Q K h i j))
    + -(-rDL Q K V D h i j * Real.exp (-rZ Q K h i j - sp (-rZ Q K h i j)))

/-- The gradient of the queries. -/
def rdQ (r c : ℕ) : ℝ := ∑ j ∈ range 2048, rDZ Q K V D (c / 64) r j * (1 / 8) * K j c

/-- The gradient of the keys. -/
def rdK (r c : ℕ) : ℝ := ∑ i ∈ range 2048, rDZ Q K V D (c / 64) i r * (1 / 8) * Q i c

/-- The gradient of the values. -/
def rdV (r c : ℕ) : ℝ := ∑ i ∈ range 2048, D i c * rA Q K (c / 64) i r

/-- The row totals the kernel takes, in base two. -/
def rT (r c : ℕ) : ℝ := ∑ t ∈ range 2048, if t < r then -sp (rZ Q K (c / 64) r t) / Real.log 2 else 0

/-! ## A head of the kernel -/

variable {Q K V D h} {Ka Va : ℕ → ℕ → ℝ} {s : HdR}

theorem split_at {f : ℕ → ℝ} {j : ℕ} (hj : j < 2048) :
    (∑ t ∈ range 2048, if j ≤ t then f t else 0) - f j = (∑ t ∈ range 2048, f t) - ∑ t ∈ range (j + 1), f t := by
  have e : ∑ t ∈ range 2048, f t = (∑ t ∈ range 2048, if j ≤ t then f t else 0) + ∑ t ∈ range j, f t := by
    rw [← Finset.sum_filter, ← Finset.sum_filter_add_sum_filter_not (range 2048) (fun t => j ≤ t)]
    congr 2
    ext t; simp; omega
  rw [Finset.sum_range_succ f j, e]; ring

variable (hx : ∀ i j, sX Ka s i j * (1 / 8) = rZ Q K h i j) (hd : ∀ i j, sDA Va s i j = rDA V D h i j)
  (ht : ∀ i, s.tot i = (∑ t ∈ range 2048, rL Q K h i t) * (Real.log 2)⁻¹)
include hx

theorem sL_eq (i j : ℕ) : sL Ka s i j = rL Q K h i j * (Real.log 2)⁻¹ := by
  unfold sL rL
  rw [l1R_eq, hx]
  split <;> ring

theorem sigma_eq (i j : ℕ) : (2 : ℝ) ^ lbR (sX Ka s i j) = Real.exp (-sp (-rZ Q K h i j)) := by
  rw [lbR_eq, hx, two_rpow]

include ht

theorem sA_eq (i : ℕ) {j : ℕ} (hj : j < 2048) : sA Ka s i j = rA Q K h i j := by
  unfold sA rA rE sP
  split
  · rw [← two_rpow, lbR_eq, hx, ht, Finset.sum_congr rfl fun t _ => sL_eq hx i t, ← Finset.sum_mul, add_sub_assoc, split_at hj]
    congr 1
    ring
  · rfl

include hd

theorem sDL_eq (i : ℕ) {j : ℕ} (hj : j < 2048) : sDL Ka Va s i j = rDL Q K V D h i j := by
  unfold sDL rDL
  rw [sA_eq hx ht i hj, hd]
  unfold rA
  split <;> ring

theorem sDZ_eq (i : ℕ) {j : ℕ} (hj : j < 2048) : sDZ Ka Va s i j = rDZ Q K V D h i j := by
  unfold sDZ rDZ sPD
  rw [sigma_eq hx, sDL_eq hx hd ht i hj, Finset.sum_congr rfl fun t ht' => sDL_eq hx hd ht i (j := t) (by simp at ht'; omega), sp_neg,
    sp_neg (-rZ Q K h i j), neg_neg, exp_sp (rZ Q K h i j)]
  split
  · ring
  · next hn =>
    have e : rDL Q K V D h i j = 0 := by unfold rDL; rw [if_neg hn, zero_mul]
    rw [e]; ring

end

/-! ## The two heads of a pair -/

section
variable {Q K V D : ℕ → ℕ → ℝ} {p : ℕ}

theorem lanes_lo (f : ℕ → ℝ) : (∑ d ∈ range 128, if d < 64 then f d else 0) = ∑ d ∈ range 64, f d := by
  rw [← Finset.sum_filter]
  exact Finset.sum_congr (by ext t; simp only [mem_filter, mem_range]; omega) fun _ _ => rfl

theorem lanes_hi (f : ℕ → ℝ) : (∑ d ∈ range 128, if 64 ≤ d then f d else 0) = ∑ d ∈ range 64, f (64 + d) := by
  rw [show (128 : ℕ) = 64 + 64 from rfl, Finset.sum_range_add,
    Finset.sum_eq_zero fun d h => if_neg (by simp at h; omega), zero_add]
  exact Finset.sum_congr rfl fun d _ => if_pos (by omega)

theorem rT_eq (Q K : ℕ → ℕ → ℝ) (r c : ℕ) : rT Q K r c = (∑ t ∈ range 2048, rL Q K (c / 64) r t) * (Real.log 2)⁻¹ := by
  unfold rT
  rw [Finset.sum_mul]
  refine Finset.sum_congr rfl fun t _ => ?_
  unfold rL
  split
  · rw [div_eq_mul_inv]
  · rw [zero_mul]

theorem lo_dot (X Y : ℕ → ℕ → ℝ) (i j : ℕ) : (∑ d ∈ range 128, (if d < 64 then cols X p i d else 0) * cols Y p j d)
    = ∑ d ∈ range 64, X i (64 * (2 * p) + d) * Y j (64 * (2 * p) + d) := by
  rw [show (64 * (2 * p)) = 128 * p by omega, ← lanes_lo]
  exact Finset.sum_congr rfl fun d _ => by split <;> simp [cols]

theorem hi_dot (X Y : ℕ → ℕ → ℝ) (i j : ℕ) : (∑ d ∈ range 128, (if 64 ≤ d then cols X p i d else 0) * cols Y p j d)
    = ∑ d ∈ range 64, X i (64 * (2 * p + 1) + d) * Y j (64 * (2 * p + 1) + d) := by
  have e : ∀ d, 64 * (2 * p + 1) + d = 128 * p + (64 + d) := fun d => by omega
  simp only [e]
  rw [← lanes_hi fun d => X i (128 * p + d) * Y j (128 * p + d)]
  exact Finset.sum_congr rfl fun d _ => by split <;> simp [cols]

variable (Q K V D p)

/-- The pair's lower head. -/
abbrev loH : HdR := hL (cols Q p) (cols D p) (cols (rT Q K) p)
/-- The pair's upper head. -/
abbrev hiH : HdR := hH (cols Q p) (cols D p) (cols (rT Q K) p)

theorem lo_x (i j : ℕ) : sX (cols K p) (loH Q K D p) i j * (1 / 8) = rZ Q K (2 * p) i j := congrArg (· * (1 / 8)) (lo_dot Q K i j)
theorem hi_x (i j : ℕ) : sX (cols K p) (hiH Q K D p) i j * (1 / 8) = rZ Q K (2 * p + 1) i j := congrArg (· * (1 / 8)) (hi_dot Q K i j)
theorem lo_d (i j : ℕ) : sDA (cols V p) (loH Q K D p) i j = rDA V D (2 * p) i j := lo_dot D V i j
theorem hi_d (i j : ℕ) : sDA (cols V p) (hiH Q K D p) i j = rDA V D (2 * p + 1) i j := hi_dot D V i j
theorem lo_t (i : ℕ) : (loH Q K D p).tot i = (∑ t ∈ range 2048, rL Q K (2 * p) i t) * (Real.log 2)⁻¹ := by
  refine (rT_eq Q K i (128 * p + 0)).trans ?_
  rw [show (128 * p + 0) / 64 = 2 * p by omega]
theorem hi_t (i : ℕ) : (hiH Q K D p).tot i = (∑ t ∈ range 2048, rL Q K (2 * p + 1) i t) * (Real.log 2)⁻¹ := by
  refine (rT_eq Q K i (128 * p + 64)).trans ?_
  rw [show (128 * p + 64) / 64 = 2 * p + 1 by omega]

variable {p} {i j C : ℕ} (hj : j < 2048)
include hj

theorem pQ_eq : pQ Q K V D (rT Q K) (C / 128) i j (C % 128) = rDZ Q K V D (C / 64) i j * K j C := by
  unfold pQ partQ
  rw [sDZ_eq (lo_x Q K D _) (lo_d Q K V D _) (lo_t Q K D _) i hj, sDZ_eq (hi_x Q K D _) (hi_d Q K V D _) (hi_t Q K D _) i hj]
  have e : cols K (C / 128) j (C % 128) = K j C := congrArg (K j) (by omega)
  rw [e]
  by_cases hc : C % 128 < 64
  · rw [if_pos hc, if_neg (by omega), show C / 64 = 2 * (C / 128) by omega]; ring
  · rw [if_neg hc, if_pos (by omega), show C / 64 = 2 * (C / 128) + 1 by omega]; ring

theorem pK_eq : pK Q K V D (rT Q K) (C / 128) i j (C % 128) = rDZ Q K V D (C / 64) i j * Q i C := by
  unfold pK partK
  rw [sDZ_eq (lo_x Q K D _) (lo_d Q K V D _) (lo_t Q K D _) i hj, sDZ_eq (hi_x Q K D _) (hi_d Q K V D _) (hi_t Q K D _) i hj]
  have e : cols Q (C / 128) i (C % 128) = Q i C := congrArg (Q i) (by omega)
  unfold hL hH
  dsimp only
  rw [e]
  by_cases hc : C % 128 < 64
  · rw [if_pos hc, if_neg (by omega), show C / 64 = 2 * (C / 128) by omega]; ring
  · rw [if_neg hc, if_pos (by omega), show C / 64 = 2 * (C / 128) + 1 by omega]; ring

theorem pV_eq : pV Q K D (rT Q K) (C / 128) i j (C % 128) = D i C * rA Q K (C / 64) i j := by
  unfold pV partV
  rw [sA_eq (lo_x Q K D _) (lo_t Q K D _) i hj, sA_eq (hi_x Q K D _) (hi_t Q K D _) i hj]
  have e : cols D (C / 128) i (C % 128) = D i C := congrArg (D i) (by omega)
  unfold hL hH
  dsimp only
  rw [e]
  by_cases hc : C % 128 < 64
  · rw [if_pos hc, if_neg (by omega), show C / 64 = 2 * (C / 128) by omega]; ring
  · rw [if_neg hc, if_pos (by omega), show C / 64 = 2 * (C / 128) + 1 by omega]; ring

end

/-! ## The kernel's results -/

section
variable {m : (ℓ : Loc Cert.KernelIdeal.nD Cert.KernelIdeal.τ Cert.KernelIdeal.sig) → Buf (Elt Ideal) ℓ} {c : Dev Cert.KernelIdeal.nD}
  {Q K V D : ℕ → ℕ → ℝ} (R : Reads m c Q K V D (rT Q K))
include R

/-- The query gradient the kernel leaves is the reference's. -/
theorem kernel_dq : Rep (Cert.KernelIdeal.Value.G5 m c : Vec Ideal Cert.KernelIdeal.S2048x512 .bf16) (rdQ Q K V D) :=
  (G5_rep R).congr fun r C _ _ => by
    unfold rdQ
    rw [Finset.sum_mul]
    exact Finset.sum_congr rfl fun j hj => by rw [pQ_eq Q K V D (by simpa using hj)]; ring

/-- The key gradient the kernel leaves is the reference's. -/
theorem kernel_dk : Rep (Cert.KernelIdeal.Value.G6 m c : Vec Ideal Cert.KernelIdeal.S2048x512 .bf16) (rdK Q K V D) :=
  (G6_rep R).congr fun r C hr _ => by
    unfold rdK
    rw [Finset.sum_mul]
    exact Finset.sum_congr rfl fun i _ => by rw [pK_eq Q K V D hr]; ring

/-- The value gradient the kernel leaves is the reference's. -/
theorem kernel_dv : Rep (Cert.KernelIdeal.Value.G7 m c : Vec Ideal Cert.KernelIdeal.S2048x512 .bf16) (rdV Q K D) :=
  (G7_rep R).congr fun r C hr _ => by
    unfold rdV
    exact Finset.sum_congr rfl fun i _ => by rw [pV_eq Q K D hr]

end
end Cert.Proof.Attn
-- ==== Proof.RefSums.lean ====
/-
  Arrays of four axes, the first of size one, of finite extended reals; the two running sums along the last axis; and the
  softplus of a finite number.
-/
module

public import proofs.«01_k».proof.Proof.Real
public import proofs.«01_k».proof.Proof.Gen.ReferenceIdeal.Read

@[expose] public section

noncomputable section

open Idealize.ShloMosaic Idealize.SL.Sem Finset

namespace Cert.Proof.Attn

/-- The array holds the real `f h r c` at `(0, h, r, c)`. -/
def Rep4 {d : Fin 4 → ℕ} (x : (⟨4, d⟩ : Shape).Idx → EReal) (f : ℕ → ℕ → ℕ → ℝ) : Prop :=
  ∀ i : (⟨4, d⟩ : Shape).Idx, x i = ((f (i 1).val (i 2).val (i 3).val : ℝ) : EReal)

theorem foldl_sum {n : ℕ} (f : Fin n → EReal) (v : EReal) :
    (List.finRange n).foldl (fun r k => r + f k) v = v + ∑ k, f k := by
  rw [Fin.sum_univ_def]
  generalize List.finRange n = l
  induction l generalizing v with
  | nil => simp
  | cons a l ih => rw [List.foldl_cons, ih, List.map_cons, List.sum_cons, add_assoc]

section
variable {H R N : ℕ}

variable (N) in
/-- A window of `N` along the last axis. -/
abbrev W : Shape := ⟨4, ![1, 1, 1, N]⟩
theorem W_numel : (W N).numel = N := by simp [Shape.numel, Fin.prod_univ_four]

/-- The last coordinate of a window's `n`-th position is `n`, the others zero. -/
theorem W_symm (n : Fin (W N).numel) : (∀ a : Fin 4, a ≠ 3 → ((W N).rowMajor.symm n a).val = 0) ∧ ((W N).rowMajor.symm n 3).val = n.val := by
  have e := congrArg Fin.val ((W N).rowMajor.apply_symm_apply n)
  rw [Shape.rowMajor_val_four] at e
  generalize (W N).rowMajor.symm n = w at e
  have h0 : (w 0).val < 1 := (w 0).isLt
  have h1 : (w 1).val < 1 := (w 1).isLt
  have h2 : (w 2).val < 1 := (w 2).isLt
  refine ⟨fun a ha => ?_, ?_⟩
  · match a with
    | ⟨0, _⟩ => exact Nat.lt_one_iff.1 h0
    | ⟨1, _⟩ => exact Nat.lt_one_iff.1 h1
    | ⟨2, _⟩ => exact Nat.lt_one_iff.1 h2
    | ⟨3, _⟩ => exact absurd rfl ha
  · rw [← e]
    show (w 3).val = (((w 0).val * 1 + (w 1).val) * 1 + (w 2).val) * N + (w 3).val
    rw [Nat.lt_one_iff.1 h0, Nat.lt_one_iff.1 h1, Nat.lt_one_iff.1 h2]; simp

variable (H R N) in
/-- `H` heads of `R` rows of `N`. -/
abbrev S4 : Shape := ⟨4, ![1, H, R, N]⟩

/-- A sum over windows of `N` along the last axis, padded by `lo` before. -/
theorem window_rep {lo hi : ℕ} (x : (S4 H R N).Idx → EReal) {f : ℕ → ℕ → ℕ → ℝ} (hx : Rep4 x f) (init : (⟨0, ![]⟩ : Shape).Idx → EReal)
    (h0 : ∀ i, init i = 0) (h : (S4 H R N).ReduceWindows ![1, 1, 1, N] ![1, 1, 1, 1] ![0, 0, 0, lo] ![0, 0, 0, hi] (S4 H R N))
    (hu : 0 < (⟨0, ![]⟩ : Shape).numel) :
    Rep4 (Host.reduceWindowAdd (F := Ideal) (φ := .f32) ![1, 1, 1, N] ![1, 1, 1, 1] ![0, 0, 0, lo] ![0, 0, 0, hi] x init h hu)
      (fun a r j => ∑ n ∈ range N, if lo ≤ j + n ∧ j + n - lo < N then f a r (j + n - lo) else 0) := by
  intro i
  have hi1 : (i 1).val < H := (i 1).isLt
  have hi2 : (i 2).val < R := (i 2).isLt
  have hi0 : (i 0).val < 1 := (i 0).isLt
  unfold Host.reduceWindowAdd
  show Host.reduceWindow (u := ⟨0, ![]⟩) (· + ·) ![1, 1, 1, N] ![1, 1, 1, 1] ![0, 0, 0, lo] ![0, 0, 0, hi] x (fun _ => init (Shape.Idx.first hu)) h hu i = _
  unfold Host.reduceWindow
  refine (foldl_sum (n := (W N).numel) _ _).trans ?_
  rw [h0, zero_add, show range N = range (W N).numel by rw [W_numel], ← coe_sum]
  refine Finset.sum_congr rfl fun n _ => ?_
  obtain ⟨ha, h3⟩ := W_symm n
  have a0 := ha 0 (by decide)
  have a1 := ha 1 (by decide)
  have a2 := ha 2 (by decide)
  dsimp only
  split
  · next hin =>
    have h := hin 3
    change lo ≤ (i 3).val * 1 + ((W N).rowMajor.symm n 3).val ∧ (i 3).val * 1 + ((W N).rowMajor.symm n 3).val - lo < N at h
    rw [h3, Nat.mul_one] at h
    rw [if_pos h, hx]
    congr 2
    · show (i 1).val * 1 + ((W N).rowMajor.symm n 1).val - 0 = _
      rw [a1]; omega
    · show (i 2).val * 1 + ((W N).rowMajor.symm n 2).val - 0 = _
      rw [a2]; omega
    · show (i 3).val * 1 + ((W N).rowMajor.symm n 3).val - lo = _
      rw [h3, Nat.mul_one]
  · next hin =>
    rw [if_neg]
    · rfl
    · intro hn
      refine hin fun a => ?_
      match a with
      | ⟨0, _⟩ =>
        show 0 ≤ (i 0).val * 1 + ((W N).rowMajor.symm n 0).val ∧ (i 0).val * 1 + ((W N).rowMajor.symm n 0).val - 0 < 1
        rw [a0]; omega
      | ⟨1, _⟩ =>
        show 0 ≤ (i 1).val * 1 + ((W N).rowMajor.symm n 1).val ∧ (i 1).val * 1 + ((W N).rowMajor.symm n 1).val - 0 < H
        rw [a1]; omega
      | ⟨2, _⟩ =>
        show 0 ≤ (i 2).val * 1 + ((W N).rowMajor.symm n 2).val ∧ (i 2).val * 1 + ((W N).rowMajor.symm n 2).val - 0 < R
        rw [a2]; omega
      | ⟨3, _⟩ =>
        show lo ≤ (i 3).val * 1 + ((W N).rowMajor.symm n 3).val ∧ (i 3).val * 1 + ((W N).rowMajor.symm n 3).val - lo < N
        rw [h3, Nat.mul_one]; exact hn

end

/-- A window padded after: the sum from `j` on. -/
theorem suffix_sum (g : ℕ → ℝ) {j : ℕ} : (∑ n ∈ range 2048, if 0 ≤ j + n ∧ j + n - 0 < 2048 then g (j + n - 0) else 0)
    = ∑ t ∈ range 2048, if j ≤ t then g t else 0 := by
  rw [← Finset.sum_filter, ← Finset.sum_filter]
  refine Finset.sum_nbij' (fun n => j + n) (fun t => t - j) ?_ ?_ ?_ ?_ (fun _ _ => rfl) <;>
    · intro a ha
      simp only [mem_filter, mem_range] at ha ⊢
      omega

/-- A window padded before: the sum up to `j`. -/
theorem prefix_sum (g : ℕ → ℝ) {j : ℕ} (hj : j < 2048) :
    (∑ n ∈ range 2048, if 2047 ≤ j + n ∧ j + n - 2047 < 2048 then g (j + n - 2047) else 0) = ∑ t ∈ range (j + 1), g t := by
  rw [← Finset.sum_filter]
  refine Finset.sum_nbij' (fun n => j + n - 2047) (fun t => t + 2047 - j) ?_ ?_ ?_ ?_ (fun _ _ => rfl) <;>
    · intro a ha
      simp only [mem_filter, mem_range] at ha ⊢
      omega

/-! ## Operations on finite numbers -/

theorem c_neg {φ : FTy} (a : ℝ) : (FloatOps.hostNegf (F := Ideal) (φ := φ) (a : EReal) : EReal) = ((-a : ℝ) : EReal) := (EReal.coe_neg a).symm
theorem c_add {φ : FTy} (a b : ℝ) : (FloatOps.addf (F := Ideal) (φ := φ) (a : EReal) (b : EReal) : EReal) = ((a + b : ℝ) : EReal) := (EReal.coe_add a b).symm
theorem c_sub {φ : FTy} (a b : ℝ) : (FloatOps.subf (F := Ideal) (φ := φ) (a : EReal) (b : EReal) : EReal) = ((a - b : ℝ) : EReal) := (EReal.coe_sub a b).symm
theorem c_mul {φ : FTy} (a b : ℝ) : (FloatOps.mulf (F := Ideal) (φ := φ) (a : EReal) (b : EReal) : EReal) = ((a * b : ℝ) : EReal) := (EReal.coe_mul a b).symm
theorem c_max {φ : FTy} (a b : ℝ) : (FloatOps.maximumf (F := Ideal) (φ := φ) (a : EReal) (b : EReal) : EReal) = ((max a b : ℝ) : EReal) :=
  (EReal.coe_strictMono.monotone.map_max (a := a) (b := b)).symm
theorem c_abs {φ : FTy} (a : ℝ) : (FloatOps.hostAbsf (F := Ideal) (φ := φ) (a : EReal) : EReal) = ((|a| : ℝ) : EReal) := coe_abs a
theorem c_exp {φ : FTy} (a : ℝ) : (FloatOps.hostUnary (F := Ideal) (φ := φ) .exp (a : EReal) : EReal) = ((Real.exp a : ℝ) : EReal) := Ideal.exp_coe a
theorem c_log1p {φ : FTy} {a : ℝ} (h : 0 < 1 + a) :
    (FloatOps.hostUnary (F := Ideal) (φ := φ) .log1p (a : EReal) : EReal) = ((Real.log (1 + a) : ℝ) : EReal) := by
  show Ideal.log (1 + (a : EReal)) = _
  rw [show (1 : EReal) = ((1 : ℝ) : EReal) from rfl, ← EReal.coe_add, log_coe h]
theorem c_zero : (FloatOps.ofBits (F := Ideal) .f32 0x00000000#32 : EReal) = ((0 : ℝ) : EReal) := Ideal.ofBits_zero_f32
theorem c_eighth : (FloatOps.ofBits (F := Ideal) .f32 0x3E000000#32 : EReal) = ((1 / 8 : ℝ) : EReal) := eighth
theorem c_ne {φ : FTy} (a : EReal) : FloatOps.cmpf (F := Ideal) (φ := φ) .une a a = 0#1 := by
  show Ideal.cmp .une a a = _
  simp [Ideal.cmp]
theorem c_inf : (FloatOps.ofBits (F := Ideal) .f32 0x7F800000#32 : EReal) = ⊤ := by
  show Ideal.ofBits .f32 0x7F800000#32 = ⊤
  simp [Ideal.ofBits, Ideal.ieee]
theorem c_top {φ : FTy} (a : ℝ) : FloatOps.cmpf (F := Ideal) (φ := φ) .oeq (a : EReal) (⊤ : EReal) = 0#1 := by
  show Ideal.cmp .oeq (a : EReal) ⊤ = _
  simp [Ideal.cmp]
theorem c_sel {α : Type} (a b : α) : Scalar.select 0#1 a b = b := rfl
theorem c_mask {i j : ℕ} (hi : i < 2048) (hj : j < 2048) (a b : ℝ) :
    (Scalar.select (IntOp.cmpi .slt (BitVec.ofNat 32 j) (BitVec.ofNat 32 i)) (a : EReal) (b : EReal))
      = ((if j < i then a else b : ℝ) : EReal) := by
  rw [WordCmp.cmpi_slt_ofNat (by omega) (by omega)]
  by_cases h : j < i <;> simp [h, Scalar.select]

end Cert.Proof.Attn
-- ==== Proof.Ref.lean ====
/-
  The reference's value, read element by element: each operation's array holds the real function of the same name in
  `Real.lean`.
-/
module

public import proofs.«01_k».proof.Proof.RefSums

@[expose] public section

noncomputable section

open Idealize.ShloMosaic Idealize.SL.Sem Finset
open Cert.ReferenceIdeal Cert.ReferenceIdeal.Gen Cert.ReferenceIdeal.Read

namespace Cert.Proof.Attn

/-- The overflow-free softplus of `-z`, as the host computes it. -/
theorem softplus_coe (z : ℝ) :
    Scalar.select
      (FloatOps.cmpf (F := Ideal) (φ := .f32) .une
        (FloatOps.subf (F := Ideal) (φ := .f32) (FloatOps.hostNegf (F := Ideal) (φ := .f32) (z : EReal)) (FloatOps.ofBits (F := Ideal) .f32 0x00000000#32))
        (FloatOps.subf (F := Ideal) (φ := .f32) (FloatOps.hostNegf (F := Ideal) (φ := .f32) (z : EReal)) (FloatOps.ofBits (F := Ideal) .f32 0x00000000#32)))
      (FloatOps.addf (F := Ideal) (φ := .f32) (FloatOps.hostNegf (F := Ideal) (φ := .f32) (z : EReal)) (FloatOps.ofBits (F := Ideal) .f32 0x00000000#32))
      (FloatOps.addf (F := Ideal) (φ := .f32)
        (FloatOps.maximumf (F := Ideal) (φ := .f32) (FloatOps.hostNegf (F := Ideal) (φ := .f32) (z : EReal)) (FloatOps.ofBits (F := Ideal) .f32 0x00000000#32))
        (FloatOps.hostUnary (F := Ideal) (φ := .f32) .log1p (FloatOps.hostUnary (F := Ideal) (φ := .f32) .exp
          (FloatOps.hostNegf (F := Ideal) (φ := .f32) (FloatOps.hostAbsf (F := Ideal) (φ := .f32)
            (FloatOps.subf (F := Ideal) (φ := .f32) (FloatOps.hostNegf (F := Ideal) (φ := .f32) (z : EReal)) (FloatOps.ofBits (F := Ideal) .f32 0x00000000#32)))))))
    = ((sp (-z) : ℝ) : EReal) := by
  rw [c_ne, c_sel, c_neg, c_zero, c_sub, c_max, c_abs, c_neg, c_exp, c_log1p (by positivity), c_add, sub_zero]
  rfl

section
variable {x0 x1 x2 x3 : (⟨S2048x512, .f32⟩ : BufTy).Contents (Elt Ideal)} {Q K V D : ℕ → ℕ → ℝ}

section
variable {i : S1x8x2048x2048.Idx}

theorem call0_sp {z : ℝ} (hz : val_main_v8 (F := Ideal) x0 x1 i = (z : EReal)) :
    val_main_call0_v1_0 (F := Ideal) x0 x1 i = ((sp (-z) : ℝ) : EReal) := by
  simp only [val_main_call0_v1_0_apply,
    val_main_call0_v0_apply, val_main_call0_call0_cst_apply, val_main_call0_call0_v0_apply, val_main_call0_call0_v1_apply,
    val_main_call0_call0_v2_apply, val_main_call0_call0_v3_apply, val_main_call0_call0_v4_apply, val_main_call0_call0_v5_apply,
    val_main_call0_call0_v6_apply, val_main_call0_call0_v7_apply, val_main_call0_call0_v8_apply, val_main_call0_call0_v9_apply,
    val_main_call0_call0_v10_apply, val_main_call0_call0_v11_apply]
  rw [hz]
  exact softplus_coe z

theorem call0_val {z : ℝ} (hz : val_main_v8 (F := Ideal) x0 x1 i = (z : EReal)) :
    val_main_v16_0 (F := Ideal) x0 x1 i = ((-sp (-z) : ℝ) : EReal) := by
  rw [val_main_v16_0_apply, call0_sp hz, c_neg]

theorem call0_res {z : ℝ} (hz : val_main_v8 (F := Ideal) x0 x1 i = (z : EReal)) :
    val_main_v16_1 (F := Ideal) x0 x1 i = ((Real.exp (-z - sp (-z)) : ℝ) : EReal) := by
  simp only [val_main_v16_1_apply,
    val_main_call0_call0_cst_0_apply, val_main_call0_call0_v13_apply, val_main_call0_call0_v14_apply, val_main_call0_call0_cst_1_apply,
    val_main_call0_call0_v15_apply, val_main_call0_call0_v16_apply, val_main_call0_call0_cst_2_apply, val_main_call0_call0_v17_apply,
    val_main_call0_call0_v18_apply, val_main_call0_call0_cst_3_apply, val_main_call0_call0_v19_apply, val_main_call0_call0_v20_apply,
    val_main_call0_call0_v21_apply]
  rw [call0_sp hz, val_main_call0_v0_apply, hz, c_inf, c_neg, c_top, c_top, c_sel, c_sel, c_sub, c_exp]

theorem call1_sp {z : ℝ} (hz : val_main_v17 (F := Ideal) x0 x1 i = (z : EReal)) :
    val_main_call1_v1_0 (F := Ideal) x0 x1 i = ((sp (-z) : ℝ) : EReal) := by
  simp only [val_main_call1_v1_0_apply,
    val_main_call1_v0_apply, val_main_call1_call0_cst_apply, val_main_call1_call0_v0_apply, val_main_call1_call0_v1_apply,
    val_main_call1_call0_v2_apply, val_main_call1_call0_v3_apply, val_main_call1_call0_v4_apply, val_main_call1_call0_v5_apply,
    val_main_call1_call0_v6_apply, val_main_call1_call0_v7_apply, val_main_call1_call0_v8_apply, val_main_call1_call0_v9_apply,
    val_main_call1_call0_v10_apply, val_main_call1_call0_v11_apply]
  rw [hz]
  exact softplus_coe z

theorem call1_val {z : ℝ} (hz : val_main_v17 (F := Ideal) x0 x1 i = (z : EReal)) :
    val_main_v18_0 (F := Ideal) x0 x1 i = ((-sp (-z) : ℝ) : EReal) := by
  rw [val_main_v18_0_apply, call1_sp hz, c_neg]

theorem call1_res {z : ℝ} (hz : val_main_v17 (F := Ideal) x0 x1 i = (z : EReal)) :
    val_main_v18_1 (F := Ideal) x0 x1 i = ((Real.exp (-z - sp (-z)) : ℝ) : EReal) := by
  simp only [val_main_v18_1_apply,
    val_main_call1_call0_cst_0_apply, val_main_call1_call0_v13_apply, val_main_call1_call0_v14_apply, val_main_call1_call0_cst_1_apply,
    val_main_call1_call0_v15_apply, val_main_call1_call0_v16_apply, val_main_call1_call0_cst_2_apply, val_main_call1_call0_v17_apply,
    val_main_call1_call0_v18_apply, val_main_call1_call0_cst_3_apply, val_main_call1_call0_v19_apply, val_main_call1_call0_v20_apply,
    val_main_call1_call0_v21_apply]
  rw [call1_sp hz, val_main_call1_v0_apply, hz, c_inf, c_neg, c_top, c_top, c_sel, c_sel, c_sub, c_exp]

theorem mask1 (i : S1x8x2048x2048.Idx) : val_main_v19_1 (F := Ideal) i = IntOp.cmpi .slt (BitVec.ofNat 32 (i 3).val) (BitVec.ofNat 32 (i 2).val) := by
  simp only [val_main_v19_1_apply, val_main_v15_apply, val_main_v14_apply, val_main_v13_apply, val_main_v12_apply, val_main_v11_apply,
    val_main_v10_apply, val_main_v9_apply]

theorem mask2 (i : S1x8x2048x2048.Idx) : val_main_v24_1 (F := Ideal) i = IntOp.cmpi .slt (BitVec.ofNat 32 (i 3).val) (BitVec.ofNat 32 (i 2).val) := by
  simp only [val_main_v24_1_apply, val_main_v15_apply, val_main_v14_apply, val_main_v13_apply, val_main_v12_apply, val_main_v11_apply,
    val_main_v10_apply, val_main_v9_apply]

theorem i2_lt (i : S1x8x2048x2048.Idx) : (i 2).val < 2048 := (i 2).isLt
theorem i3_lt (i : S1x8x2048x2048.Idx) : (i 3).val < 2048 := (i 3).isLt
end

/-! ## Heads -/

theorem v1_rep (hq : Rep x0 Q) : Rep4 (val_main_v1 (F := Ideal) x0) fun a r d => Q r (64 * a + d) := by
  intro i
  have h0 : (i 0).val < 1 := (i 0).isLt
  have h1 : (i 1).val < 8 := (i 1).isLt
  have h2 : (i 2).val < 2048 := (i 2).isLt
  have h3 : (i 3).val < 64 := (i 3).isLt
  rw [val_main_v1_apply, val_main_v0_apply, hq]
  congr 2
  · show ((((i 0).val * 2048 + (i 2).val) * 8 + (i 1).val) * 64 + (i 3).val) / 512 = (i 2).val
    omega
  · show ((((i 0).val * 2048 + (i 2).val) * 8 + (i 1).val) * 64 + (i 3).val) % 512 = 64 * (i 1).val + (i 3).val
    omega

theorem v3_rep (hk : Rep x1 K) : Rep4 (val_main_v3 (F := Ideal) x1) fun a r d => K r (64 * a + d) := by
  intro i
  have h0 : (i 0).val < 1 := (i 0).isLt
  have h1 : (i 1).val < 8 := (i 1).isLt
  have h2 : (i 2).val < 2048 := (i 2).isLt
  have h3 : (i 3).val < 64 := (i 3).isLt
  rw [val_main_v3_apply, val_main_v2_apply, hk]
  congr 2
  · show ((((i 0).val * 2048 + (i 2).val) * 8 + (i 1).val) * 64 + (i 3).val) / 512 = (i 2).val
    omega
  · show ((((i 0).val * 2048 + (i 2).val) * 8 + (i 1).val) * 64 + (i 3).val) % 512 = 64 * (i 1).val + (i 3).val
    omega

theorem v5_rep (hv : Rep x2 V) : Rep4 (val_main_v5 (F := Ideal) x2) fun a r d => V r (64 * a + d) := by
  intro i
  have h0 : (i 0).val < 1 := (i 0).isLt
  have h1 : (i 1).val < 8 := (i 1).isLt
  have h2 : (i 2).val < 2048 := (i 2).isLt
  have h3 : (i 3).val < 64 := (i 3).isLt
  rw [val_main_v5_apply, val_main_v4_apply, hv]
  congr 2
  · show ((((i 0).val * 2048 + (i 2).val) * 8 + (i 1).val) * 64 + (i 3).val) / 512 = (i 2).val
    omega
  · show ((((i 0).val * 2048 + (i 2).val) * 8 + (i 1).val) * 64 + (i 3).val) % 512 = 64 * (i 1).val + (i 3).val
    omega

theorem v29_rep (hd : Rep x3 D) : Rep4 (val_main_v29 (F := Ideal) x3) fun a r d => D r (64 * a + d) := by
  intro i
  have h0 : (i 0).val < 1 := (i 0).isLt
  have h1 : (i 1).val < 8 := (i 1).isLt
  have h2 : (i 2).val < 2048 := (i 2).isLt
  have h3 : (i 3).val < 64 := (i 3).isLt
  rw [val_main_v29_apply, val_main_v28_apply, hd]
  congr 2
  · show ((((i 0).val * 2048 + (i 2).val) * 8 + (i 1).val) * 64 + (i 3).val) / 512 = (i 2).val
    omega
  · show ((((i 0).val * 2048 + (i 2).val) * 8 + (i 1).val) * 64 + (i 3).val) % 512 = 64 * (i 1).val + (i 3).val
    omega

/-! ## The forward pass -/

theorem v8_rep (hq : Rep x0 Q) (hk : Rep x1 K) : Rep4 (val_main_v8 (F := Ideal) x0 x1) (rZ Q K) := by
  intro i
  rw [val_main_v8_apply, val_main_v6_apply, val_main_v7_apply, val_main_cst_apply, c_eighth]
  have e : ∑ k : Fin 64, (val_main_v1 (F := Ideal) x0) (lidx_main_v6 i k) * (val_main_v3 (F := Ideal) x1) (ridx_main_v6 i k)
      = ((∑ d ∈ range 64, Q (i 2).val (64 * (i 1).val + d) * K (i 3).val (64 * (i 1).val + d) : ℝ) : EReal) := by
    rw [← coe_sum]
    exact Finset.sum_congr rfl fun k _ => by rw [v1_rep hq, v3_rep hk, ← EReal.coe_mul]
  rw [e, c_mul]
  rfl

theorem v17_rep (hq : Rep x0 Q) (hk : Rep x1 K) : Rep4 (val_main_v17 (F := Ideal) x0 x1) fun a r j => -rZ Q K a r j := by
  intro i
  rw [val_main_v17_apply, v8_rep hq hk, c_neg]

theorem v19_rep (hq : Rep x0 Q) (hk : Rep x1 K) : Rep4 (val_main_v19_0 (F := Ideal) x0 x1) (rL Q K) := by
  intro i
  rw [val_main_v19_0_apply, mask1, call1_val (v17_rep hq hk i), val_main_call2_v2_apply, val_main_call2_v0_apply, val_main_cst_0_apply,
    c_zero, c_mask (i2_lt i) (i3_lt i), neg_neg]
  rfl

theorem v20_rep (hq : Rep x0 Q) (hk : Rep x1 K) :
    Rep4 (val_main_v20 (F := Ideal) x0 x1) fun a r j => ∑ t ∈ range 2048, if j ≤ t then rL Q K a r t else 0 := by
  intro i
  have h := window_rep (H := 8) (R := 2048) (N := 2048) (lo := 0) (hi := 2047) (val_main_v19_0 (F := Ideal) x0 x1) (v19_rep hq hk) (val_main_call3_v0 (F := Ideal))
    (fun i => by rw [val_main_call3_v0_apply, val_main_call3_cst_apply]; exact Ideal.ofBits_zero_f32)
    reduceWindows_S1x8x2048x2048_S1x8x2048x2048_w1s1p0_0_w1s1p0_0_w1s1p0_0_w2048s1p0_2047 h_S_ i
  refine Eq.trans ?_ (h.trans ?_)
  · unfold val_main_v20; rfl
  · exact congrArg Real.toEReal (suffix_sum (rL Q K (i 1).val (i 2).val))

theorem v23_rep (hq : Rep x0 Q) (hk : Rep x1 K) : Rep4 (val_main_v23 (F := Ideal) x0 x1) (rE Q K) := by
  intro i
  rw [val_main_v23_apply, val_main_v22_apply, val_main_v21_apply, call0_val (v8_rep hq hk i), v20_rep hq hk, v19_rep hq hk, c_add, c_sub, c_exp]
  rfl

theorem v24_rep (hq : Rep x0 Q) (hk : Rep x1 K) : Rep4 (val_main_v24_0 (F := Ideal) x0 x1) (rA Q K) := by
  intro i
  rw [val_main_v24_0_apply, mask2, v23_rep hq hk, val_main_call4_v2_apply, val_main_call4_v0_apply, val_main_cst_1_apply,
    c_zero, c_mask (i2_lt i) (i3_lt i)]
  rfl

/-! ## The backward pass -/

theorem v31_rep (hq : Rep x0 Q) (hk : Rep x1 K) (hd : Rep x3 D) :
    Rep4 (val_main_v31 (F := Ideal) x0 x1 x3) fun a r d => ∑ t ∈ range 2048, D t (64 * a + d) * rA Q K a t r := by
  intro i
  rw [val_main_v31_apply, val_main_v30_apply, ← coe_sum]
  exact Finset.sum_congr rfl fun k _ => by rw [v29_rep hd, v24_rep hq hk, ← EReal.coe_mul]

theorem v33_rep (hv : Rep x2 V) (hd : Rep x3 D) :
    Rep4 (val_main_v33 (F := Ideal) x2 x3) fun a r j => if j < r then rDA V D a r j else 0 := by
  intro i
  have e : val_main_v32 (F := Ideal) x2 x3 i = ((rDA V D (i 1).val (i 2).val (i 3).val : ℝ) : EReal) := by
    rw [val_main_v32_apply]
    unfold rDA
    rw [← coe_sum]
    exact Finset.sum_congr rfl fun k _ => by rw [v29_rep hd, v5_rep hv, ← EReal.coe_mul]
  rw [val_main_v33_apply, mask2, e, val_main_call5_v0_apply, val_main_call5_cst_apply, c_zero, c_mask (i2_lt i) (i3_lt i)]

section
variable (hq : Rep x0 Q) (hk : Rep x1 K) (hv : Rep x2 V) (hd : Rep x3 D)
include hq hk hv hd

theorem v34_rep : Rep4 (val_main_v34 (F := Ideal) x0 x1 x2 x3) (rDL Q K V D) := by
  intro i
  rw [val_main_v34_apply, v33_rep hv hd, v23_rep hq hk, c_mul]
  rfl

theorem v36_rep : Rep4 (val_main_v36 (F := Ideal) x0 x1 x2 x3) fun a r j => ∑ t ∈ range (j + 1), rDL Q K V D a r t := by
  intro i
  have h := window_rep (H := 8) (R := 2048) (N := 2048) (lo := 2047) (hi := 0) (val_main_v34 (F := Ideal) x0 x1 x2 x3) (v34_rep hq hk hv hd) (val_main_call6_v0 (F := Ideal))
    (fun i => by rw [val_main_call6_v0_apply, val_main_call6_cst_apply]; exact Ideal.ofBits_zero_f32)
    reduceWindows_S1x8x2048x2048_S1x8x2048x2048_w1s1p0_0_w1s1p0_0_w1s1p0_0_w2048s1p2047_0 h_S_ i
  refine Eq.trans ?_ (h.trans ?_)
  · unfold val_main_v36; rfl
  · exact congrArg Real.toEReal (prefix_sum (rDL Q K V D (i 1).val (i 2).val) (i3_lt i))

theorem v42_rep : Rep4 (val_main_v42 (F := Ideal) x0 x1 x2 x3) (rDZ Q K V D) := by
  intro i
  rw [val_main_v42_apply, val_main_v40_apply, val_main_v39_apply, val_main_call8_v1_apply, val_main_call8_v0_apply, val_main_v38_apply,
    val_main_v37_apply, val_main_v35_apply, val_main_v41_apply, val_main_call9_v1_apply, val_main_call9_v0_apply,
    v34_rep hq hk hv hd, v36_rep hq hk hv hd, call1_res (v17_rep hq hk i), call0_res (v8_rep hq hk i), mask1,
    val_main_call7_v0_apply, val_main_call7_cst_apply, c_zero, c_neg, c_add, c_mask (i2_lt i) (i3_lt i), c_neg, c_mul, c_neg, c_neg, c_mul,
    c_neg, c_add, neg_neg, neg_neg]
  rfl

theorem v44_rep : Rep4 (val_main_v44 (F := Ideal) x0 x1 x2 x3) fun a r j => rDZ Q K V D a r j * (1 / 8) := by
  intro i
  rw [val_main_v44_apply, v42_rep hq hk hv hd, val_main_v43_apply, val_main_cst_2_apply, c_eighth, c_mul]

theorem v45_rep : Rep4 (val_main_v45 (F := Ideal) x0 x1 x2 x3) fun a r d =>
    ∑ t ∈ range 2048, rDZ Q K V D a t r * (1 / 8) * Q t (64 * a + d) := by
  intro i
  rw [val_main_v45_apply, ← coe_sum]
  exact Finset.sum_congr rfl fun k _ => by rw [v44_rep hq hk hv hd, v1_rep hq, ← EReal.coe_mul]

theorem v46_rep : Rep4 (val_main_v46 (F := Ideal) x0 x1 x2 x3) fun a r d =>
    ∑ t ∈ range 2048, rDZ Q K V D a r t * (1 / 8) * K t (64 * a + d) := by
  intro i
  rw [val_main_v46_apply, ← coe_sum]
  exact Finset.sum_congr rfl fun k _ => by rw [v44_rep hq hk hv hd, v3_rep hk, ← EReal.coe_mul]

end

/-! ## The results -/

theorem col_split (C : ℕ) : 64 * (C / 64) + C % 64 = C := by omega

section
variable {y : S1x8x2048x64.Idx → EReal} {f : ℕ → ℕ → ℕ → ℝ}

/-- Heads side by side. -/
theorem flat (hy : Rep4 y f) (j : S2048x512.Idx) (i : S1x8x2048x64.Idx) (h1 : (i 1).val = ((j 0).val * 512 + (j 1).val) / 64 % 8)
    (h2 : (i 2).val = ((j 0).val * 512 + (j 1).val) / 512 % 2048) (h3 : (i 3).val = ((j 0).val * 512 + (j 1).val) % 64) :
    y i = ((f ((j 1).val / 64) (j 0).val ((j 1).val % 64) : ℝ) : EReal) := by
  have h0 : (j 0).val < 2048 := (j 0).isLt
  have h4 : (j 1).val < 512 := (j 1).isLt
  rw [hy, h1, h2, h3]
  congr 2 <;> omega
end

section
variable (hq : Rep x0 Q) (hk : Rep x1 K) (hv : Rep x2 V) (hd : Rep x3 D)
include hq hk hd

/-- The reference's value gradient. -/
theorem ref_dv : Rep (val_main_v55 (F := Ideal) x0 x1 x3) (rdV Q K D) := by
  intro j
  refine (val_main_v55_apply x0 x1 x3 j).trans ?_
  show val_main_v48 (F := Ideal) x0 x1 x3 j = _
  rw [val_main_v48_apply, val_main_v47_apply, flat (v31_rep hq hk hd) j _ rfl rfl rfl, col_split]
  rfl

include hv

/-- The reference's query gradient. -/
theorem ref_dq : Rep (val_main_v53 (F := Ideal) x0 x1 x2 x3) (rdQ Q K V D) := by
  intro j
  refine (val_main_v53_apply x0 x1 x2 x3 j).trans ?_
  show val_main_v52 (F := Ideal) x0 x1 x2 x3 j = _
  rw [val_main_v52_apply, val_main_v51_apply, flat (v46_rep hq hk hv hd) j _ rfl rfl rfl, col_split]
  rfl

/-- The reference's key gradient. -/
theorem ref_dk : Rep (val_main_v54 (F := Ideal) x0 x1 x2 x3) (rdK Q K V D) := by
  intro j
  refine (val_main_v54_apply x0 x1 x2 x3 j).trans ?_
  show val_main_v50 (F := Ideal) x0 x1 x2 x3 j = _
  rw [val_main_v50_apply, val_main_v49_apply, flat (v45_rep hq hk hv hd) j _ rfl rfl rfl, col_split]
  rfl

end
end
end Cert.Proof.Attn
-- ==== Proof.Host.lean ====
/-
  What the host prepares for the kernel: the four arguments, cast, and every row's total of log₂(1 − σ) over the keys before it,
  once per lane of its head.
-/
module

public import proofs.«01_k».proof.Proof.RefSums

@[expose] public section

noncomputable section

open Idealize.ShloMosaic Idealize.ShloMosaic.TcCoe Idealize.SL.Sem Finset
open Cert.KernelIdeal Cert.KernelIdeal.Gen

namespace Cert.Proof.Attn

abbrev HA : Type := (⟨S2048x512, .f32⟩ : BufTy).Contents (Elt Ideal)

/-- Heads first. -/
def hHeads (x : HA) : FVec Ideal S8x2048x64 .f32 :=
  transpose S8x2048x64 [1, 0, 2] (shapeCast S2048x8x64 x shapeCasts_S2048x512_S2048x8x64) transposes_S2048x8x64_S8x2048x64_1_0_2

/-- The scaled scores. -/
def hZ (x y : HA) : FVec Ideal S8x2048x2048 .f32 :=
  mulf (Host.dotGeneral dot_S8x2048x64_S8x2048x64_S8x2048x2048_2_2_1_1_0_0 none (hHeads x) (hHeads y))
    (broadcastInDim S8x2048x2048 ![] bcast_S_S8x2048x2048 (constant S_ .f32 0x3E000000#32))

/-- Keys before the query. -/
def hMask : IVec S2048x2048 1 :=
  cmpi .slt (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- Zeros. -/
def hZero : FVec Ideal S8x2048x2048 .f32 := broadcastInDim S8x2048x2048 ![] bcast_S_S8x2048x2048 (constant S_ .f32 0x00000000#32)

/-- Softplus. -/
def hSp (x : FVec Ideal S8x2048x2048 .f32) : FVec Ideal S8x2048x2048 .f32 :=
  select (cmpf .une (subf x hZero) (subf x hZero)) (addf x hZero)
    (addf (maximumf x hZero) (Host.log1p (Host.exp (Host.negf (Host.absf (subf x hZero))))))

/-- log₂(1 − σ) before the diagonal, zero from it on. -/
def hL1 (x y : HA) : FVec Ideal S8x2048x2048 .f32 :=
  select (broadcastInDim S8x2048x2048 ![1, 2] bcast_S2048x2048_S8x2048x2048_1_2 hMask)
    (Host.divf (Host.negf (hSp (Host.negf (Host.negf (hZ x y)))))
      (broadcastInDim S8x2048x2048 ![] bcast_S_S8x2048x2048 (Host.log (constant S_ .f32 0x40000000#32))))
    hZero

/-- The totals, once per lane. -/
def hT (x y : HA) : HA :=
  shapeCast S2048x512 (broadcastInDim S2048x8x64 ![0, 1, 2] bcast_S2048x8x1_S2048x8x64_0_1_2
    (broadcastInDim S2048x8x1 ![0, 1] bcast_S2048x8_S2048x8x1_0_1
      (transpose S2048x8 [1, 0] (Host.reduceAdd (hL1 x y) (constant S_ .f32 0x00000000#32) reducesTo_S8x2048x2048_S8x2048_d2 h_S_)
        transposes_S8x2048_S2048x8_1_0))) shapeCasts_S2048x8x64_S2048x512

variable (m : (ℓ : Loc nD τ sig) → Buf (Elt Ideal) ℓ) (c : Dev nD)

theorem V_main_v0 : V m c main_v0 = (truncf .bf16 (m ((c : Thread nD τ).loc main_arg0)) bitsLt_bf16_f32 : FVec Ideal S2048x512 .bf16) := by
  show StableHlo.after _ _ (Proc.devRef .tc main_v0) = _
  simp only [hostOps0, hostOps0_1, hostOps0_2, hostOps0_3, hostOps0_4, List.flatten_cons, List.flatten_nil, List.append_nil, List.cons_append,
      List.nil_append]
  after_results

theorem V_main_v1 : V m c main_v1 = (truncf .bf16 (m ((c : Thread nD τ).loc main_arg1)) bitsLt_bf16_f32 : FVec Ideal S2048x512 .bf16) := by
  show StableHlo.after _ _ (Proc.devRef .tc main_v1) = _
  simp only [hostOps0, hostOps0_1, hostOps0_2, hostOps0_3, hostOps0_4, List.flatten_cons, List.flatten_nil, List.append_nil, List.cons_append,
      List.nil_append]
  after_results

theorem V_main_v2 : V m c main_v2 = (truncf .bf16 (m ((c : Thread nD τ).loc main_arg2)) bitsLt_bf16_f32 : FVec Ideal S2048x512 .bf16) := by
  show StableHlo.after _ _ (Proc.devRef .tc main_v2) = _
  simp only [hostOps0, hostOps0_1, hostOps0_2, hostOps0_3, hostOps0_4, List.flatten_cons, List.flatten_nil, List.append_nil, List.cons_append,
      List.nil_append]
  after_results

theorem V_main_v3 : V m c main_v3 = (truncf .bf16 (m ((c : Thread nD τ).loc main_arg3)) bitsLt_bf16_f32 : FVec Ideal S2048x512 .bf16) := by
  show StableHlo.after _ _ (Proc.devRef .tc main_v3) = _
  simp only [hostOps0, hostOps0_1, hostOps0_2, hostOps0_3, hostOps0_4, List.flatten_cons, List.flatten_nil, List.append_nil, List.cons_append,
      List.nil_append]
  after_results

theorem V_main_v29 : V m c main_v29 = hT (m ((c : Thread nD τ).loc main_arg0)) (m ((c : Thread nD τ).loc main_arg1)) := by
  show StableHlo.after _ _ (Proc.devRef .tc main_v29) = _
  simp only [hostOps0, hostOps0_1, hostOps0_2, hostOps0_3, hostOps0_4, List.flatten_cons, List.flatten_nil, List.append_nil, List.cons_append,
      List.nil_append]
  after_results
  rfl

/-! ## At the ideal values -/

/-- The array holds the real `f a r c` at `(a, r, c)`. -/
def Rep3 {d : Fin 3 → ℕ} (x : (⟨3, d⟩ : Shape).Idx → EReal) (f : ℕ → ℕ → ℕ → ℝ) : Prop :=
  ∀ i : (⟨3, d⟩ : Shape).Idx, x i = ((f (i 0).val (i 1).val (i 2).val : ℝ) : EReal)

variable {x y : HA} {Q K V D : ℕ → ℕ → ℝ}

theorem hHeads_rep (h : Rep x Q) : Rep3 (hHeads x) fun a r d => Q r (64 * a + d) := by
  intro j
  rw [ValueIdx.eq_ix3 j]
  pointwise [hHeads]
  rw [h]
  show ((Q (j 1).val ((j 0).val * 64 + (j 2).val) : ℝ) : EReal) = ((Q (j 1).val (64 * (j 0).val + (j 2).val) : ℝ) : EReal)
  rw [Nat.mul_comm]

theorem hZ_rep (hq : Rep x Q) (hk : Rep y K) : Rep3 (hZ x y) (rZ Q K) := by
  intro j
  rw [ValueIdx.eq_ix3 j]
  pointwise [hZ]
  rw [show Ideal.ofBits FTy.f32 1040187392#32 = ((1 / 8 : ℝ) : EReal) from c_eighth]
  unfold rZ
  rw [EReal.coe_mul, ← coe_sum]
  refine congrArg (· * _) (Finset.sum_congr rfl fun k _ => ?_)
  rw [hHeads_rep hq, hHeads_rep hk, ← EReal.coe_mul]
  rfl

theorem hSp_at {w : FVec Ideal S8x2048x2048 .f32} {j : S8x2048x2048.Idx} {z : ℝ} (h : w j = (z : EReal)) :
    hSp w j = ((sp z : ℝ) : EReal) := by
  have e : ∀ j, hZero j = ((0 : ℝ) : EReal) := fun j => by
    rw [ValueIdx.eq_ix3 j]
    pointwise [hZero]
    rfl
  show Scalar.select (FloatOps.cmpf (F := Ideal) (φ := .f32) .une (FloatOps.subf (F := Ideal) (φ := .f32) (w j) (hZero j)) (FloatOps.subf (F := Ideal) (φ := .f32) (w j) (hZero j)))
    (FloatOps.addf (F := Ideal) (φ := .f32) (w j) (hZero j))
    (FloatOps.addf (F := Ideal) (φ := .f32) (FloatOps.maximumf (F := Ideal) (φ := .f32) (w j) (hZero j)) (FloatOps.hostUnary (F := Ideal) (φ := .f32) .log1p
      (FloatOps.hostUnary (F := Ideal) (φ := .f32) .exp (FloatOps.hostNegf (F := Ideal) (φ := .f32) (FloatOps.hostAbsf (F := Ideal) (φ := .f32)
        (FloatOps.subf (F := Ideal) (φ := .f32) (w j) (hZero j))))))) = _
  rw [h, e, c_ne, c_sel, c_sub, c_max, c_abs, c_neg, c_exp, c_log1p (by positivity), c_add, sub_zero]
  rfl

theorem two_lit : Ideal.ofBits .f32 0x40000000#32 = ((2 : ℝ) : EReal) := by
  simp [Ideal.ofBits, Ideal.ieee, -EReal.coe_mul]; norm_num

theorem hL1_rep (hq : Rep x Q) (hk : Rep y K) :
    Rep3 (hL1 x y) fun a r j => if j < r then -sp (rZ Q K a r j) / Real.log 2 else 0 := by
  intro j
  have h1 : (j 1).val < 2048 := (j 1).isLt
  have h2 : (j 2).val < 2048 := (j 2).isLt
  have hs : hSp (Host.negf (Host.negf (hZ x y))) j = ((sp (rZ Q K (j 0).val (j 1).val (j 2).val) : ℝ) : EReal) := hSp_at (by
    show FloatOps.hostNegf (F := Ideal) (φ := .f32) (FloatOps.hostNegf (F := Ideal) (φ := .f32) (hZ x y j)) = _
    rw [hZ_rep hq hk, c_neg, c_neg, neg_neg])
  rw [ValueIdx.eq_ix3 j] at hs ⊢
  pointwise [hL1, hMask, hZero]
  erw [hs]
  rw [two_lit, log_coe (by norm_num), ← EReal.coe_neg, Ideal.div_coe (Real.log_pos (by norm_num)).ne', ← EReal.coe_mul, mul_one_div]
  exact c_mask h1 h2 _ 0

theorem hT_rep (hq : Rep x Q) (hk : Rep y K) : Rep (hT x y) (rT Q K) := by
  intro j
  rw [eq_ix2 j]
  pointwise [hT]
  unfold rT
  rw [← coe_sum]
  exact Finset.sum_congr rfl fun k _ => hL1_rep hq hk _

/-- What the kernel reads, when the arguments hold reals. -/
theorem reads (hq : Rep (m ((c : Thread nD τ).loc main_arg0)) Q) (hk : Rep (m ((c : Thread nD τ).loc main_arg1)) K)
    (hv : Rep (m ((c : Thread nD τ).loc main_arg2)) V) (hd : Rep (m ((c : Thread nD τ).loc main_arg3)) D) : Reads m c Q K V D (rT Q K) where
  q := fun j => (congrFun (V_main_v0 m c) j).trans (hq j)
  k := fun j => (congrFun (V_main_v1 m c) j).trans (hk j)
  v := fun j => (congrFun (V_main_v2 m c) j).trans (hv j)
  d := fun j => (congrFun (V_main_v3 m c) j).trans (hd j)
  t := fun j => (congrFun (V_main_v29 m c) j).trans (hT_rep hq hk j)

end Cert.Proof.Attn
-- ==== Proof.Finite.lean ====
/-
  The precondition, read: where every element's absolute value is below +∞, the argument is an array of reals.
-/
module

public import proofs.«01_k».proof.Proof.RefSums
public import proofs.«01_k».proof.Proof.Gen.Pre_finite
public import Idealize.ShloMosaic.Lib.ReduceAll

@[expose] public section

noncomputable section

open Idealize.ShloMosaic Idealize.SL.Sem

namespace Cert.Proof.Attn

open Cert.Pre_finite Cert.Pre_finite.Facts

/-- The one index of an array without axes. -/
def pt : S_.Idx := fun d => d.elim0

instance : Subsingleton S_.Idx := ⟨fun a b => funext fun d => d.elim0⟩

/-- An extended real whose absolute value is below +∞ is a real. -/
theorem real_of_lt {a : EReal}
    (h : FloatOps.cmpf (F := Ideal) (φ := .f32) .olt (FloatOps.hostAbsf (F := Ideal) (φ := .f32) a)
      (FloatOps.ofBits (F := Ideal) .f32 0x7F800000#32) = 1#1) : a = ((a.toReal : ℝ) : EReal) := by
  rw [c_inf] at h
  replace h : BitVec.ofBool (decide (max a (-a) < ⊤)) = 1#1 := h
  have h' : max a (-a) < ⊤ := by
    by_contra hn
    rw [decide_eq_false hn] at h
    exact absurd h (by decide)
  rw [max_lt_iff] at h'
  refine (EReal.coe_toReal h'.1.ne fun hb => ?_).symm
  rw [hb] at h'
  exact absurd h'.2 (by simp)

/-- The real function an array of 2048 × 512 extended reals holds where it is finite. -/
def reals (x : FVec Ideal S2048x512 .f32) (r c : ℕ) : ℝ :=
  if h : r < 2048 ∧ c < 512 then (x (ValueIdx.ix2 ⟨r, h.1⟩ ⟨c, h.2⟩) : EReal).toReal else 0

theorem rep_of_all {x : FVec Ideal S2048x512 .f32}
    (h : Host.reduce IntOp.andi
      (cmpf .olt (Host.absf x) (broadcastInDim S2048x512 ![] bcast_S_S2048x512 (constant S_ .f32 0x7F800000#32)))
      (constantI S_ 1 1#1) reducesTo_S2048x512_S_d0_1 h_S_ pt = 1#1) : Rep x (reals x) := fun j => by
  have e : x j = (((x j : EReal).toReal : ℝ) : EReal) := real_of_lt (Host.reduce_andi_all _ _ _ _ _ h j)
  refine e.trans ?_
  unfold reals
  rw [dif_pos ⟨(j 0).isLt, (j 1).isLt⟩]
  exact congrArg (fun t => (((x t : EReal).toReal : ℝ) : EReal)) (ValueIdx.eq_ix2 j)

theorem and_one {a b : BitVec 1} (h : IntOp.andi a b = 1#1) : a = 1#1 ∧ b = 1#1 := by
  revert h; revert a b; decide

/-- Under the precondition the four arguments hold reals. -/
theorem reps {x0 x1 x2 x3 : FVec Ideal S2048x512 .f32} (h : fn (F := Ideal) x0 x1 x2 x3 = fun _ => 1#1) :
    Rep x0 (reals x0) ∧ Rep x1 (reals x1) ∧ Rep x2 (reals x2) ∧ Rep x3 (reals x3) := by
  have e := congrFun h pt
  dsimp only [fn, fn_part1] at e
  obtain ⟨e, e3⟩ := and_one e
  obtain ⟨e, e2⟩ := and_one e
  obtain ⟨e0, e1⟩ := and_one e
  exact ⟨rep_of_all e0, rep_of_all e1, rep_of_all e2, rep_of_all e3⟩

end Cert.Proof.Attn

end
-- ==== Proof.Equation.lean ====
/-
  The kernel's three results are the reference's: both hold the same reals.
-/
module

public import proofs.«01_k».proof.Defs
public import proofs.«01_k».proof.Proof.Ref
public import proofs.«01_k».proof.Proof.Host
public import proofs.«01_k».proof.Proof.Finite
public import proofs.«01_k».proof.Proof.Gen.ReferenceIdeal.Run

@[expose] public section

noncomputable section

open Idealize.ShloMosaic Idealize.SL.Sem

namespace Cert.Proof.Attn

/-- Two arrays that hold the same reals are equal. -/
theorem Rep.ext {d : Fin 2 → ℕ} {x y : (⟨2, d⟩ : Shape).Idx → EReal} {f : ℕ → ℕ → ℝ} (hx : Rep x f) (hy : Rep y f) : x = y :=
  funext fun j => (hx j).trans (hy j).symm

/-- From finite arguments on which the two agree, kernel and reference end with equal gradients of q, k and v. -/
theorem algebraic : Cert.algebraic_KernelIdeal_ReferenceIdeal_pre_finite
    (hKernelIdeal := Cert.KernelIdeal.Gen.facts) (hReferenceIdeal := Cert.ReferenceIdeal.Gen.facts)
    (hPre_finite := Cert.Pre_finite.Gen.facts) := fun m g m' g' pre agree => by
  refine ⟨fun c => Cert.KernelIdeal.Value.G5 m c, fun c => Cert.KernelIdeal.Value.G6 m c, fun c => Cert.KernelIdeal.Value.G7 m c,
    Cert.KernelIdeal.Value.run m g, ?_⟩
  refine (θ_run Cert.ReferenceIdeal.defs _ _).mono (fun r h c => ?_) (Cert.ReferenceIdeal.Value.run (F := Ideal) m' g')
  obtain ⟨h0, h1, h2, h3⟩ := h c
  obtain ⟨hq, hk, hv, hd⟩ := reps (pre c)
  obtain ⟨a0, a1, a2, a3⟩ := agree c
  have R := reads m c hq hk hv hd
  refine ⟨h0.trans ?_, h1.trans ?_, h2.trans ?_, h3⟩
  · rw [Cert.ReferenceIdeal.Read.val_main_v53_eq, a0, a1, a2, a3]
    exact Rep.ext (ref_dq hq hk hv hd) (kernel_dq R)
  · rw [Cert.ReferenceIdeal.Read.val_main_v54_eq, a0, a1, a2, a3]
    exact Rep.ext (ref_dk hq hk hv hd) (kernel_dk R)
  · rw [Cert.ReferenceIdeal.Read.val_main_v55_eq, a0, a1, a3]
    exact Rep.ext (ref_dv hq hk hd) (kernel_dv R)

end Cert.Proof.Attn

end
-- ==== Proof.Ffn2IdealBody.lean ====
/-
  The body of the weight gradient of the second feed-forward, run point by point. The grid has ten points. The
  first eight store a block of the gate and up weights' gradient, the last two a block of the down weights'. The
  window of the first result keeps its last block while the second is computed, and is written back at the end.
-/
module

public import proofs.«01_k».proof.Defs
public import proofs.«01_k».proof.Proof.Gen.Ffn2Ideal
public import proofs.«01_k».proof.Proof.Gen.Ffn2Ideal.Frame
public import proofs.«01_k».proof.Proof.Gen.Ffn2Ideal.Skeleton
public import Idealize.ShloMosaic.Lib.Claim
public import Idealize.ShloMosaic.Lib.VecWindow
public import Idealize.ShloMosaic.Lib.Pipeline.ValueKit

@[expose] public section

set_option maxRecDepth 16384

noncomputable section

namespace Cert.Proof.Ffn2IdealBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Ffn2Ideal Cert.Ffn2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first eight points the body stores the product of the first two blocks into the first result's buffer,
    and touches nothing else. -/
theorem run_up (c : Dev nD) (i : grid0.Coords)
    (arg1 : Memref sig .tc .vmem S2048x512 .bf16) (harg1 : arg1.IsWhole) (arg2 : Memref sig .tc .vmem S2048x1408 .bf16) (harg2 : arg2.IsWhole)
    (arg3 : Memref sig .tc .vmem S2048x1408 .bf16) (harg3 : arg3.IsWhole) (arg4 : Memref sig .tc .vmem S2048x1024 .bf16) (harg4 : arg4.IsWhole)
    (arg5 : Memref sig .tc .vmem S1x512x1408 .bf16) (harg5 : arg5.IsWhole) (arg6 : Memref sig .tc .vmem S1408x1024 .bf16) (harg6 : arg6.IsWhole)
    (hc0 : k0_cond1 i = 1#1) (hc1 : ¬k0_cond2 i = 1#1)
    (x0 : Vec F S2048x512 .bf16) (x1 : Vec F S2048x1408 .bf16) (x2 : Vec F S2048x1408 .bf16) (x3 : Vec F S2048x1024 .bf16)
    (x4 : Vec F S1x512x1408 .bf16) (x5 : Vec F S1408x1024 .bf16) (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay1 x0 x1) ∗ owns (c : Thread nD τ) arg6 fullShare x5) -∗ K ⟨⟩))
      ⊢ wp frame (wpE (defs₀ (F := F)) Variants.none c none) E
          (cc0_wgrad_ffn2 i arg1 harg1 arg2 harg2 arg3 harg3 arg4 harg4 arg5 harg5 arg6 harg6) K := by
  simp only [cc0_wgrad_ffn2_eq_skeleton]; unfold cc0_wgrad_ffn2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact (View.read_writes_full _ _ _ _ []).trans (by rw [View.readAt_full, View.readAt_full, hf0, hf1])
  iexists _; isplitr; · ipureintro; exact hf5
  iexact H5

/-- At the last two points the body stores the product of the other two blocks into the second result's buffer,
    and touches nothing else. -/
theorem run_down (c : Dev nD) (i : grid0.Coords)
    (arg1 : Memref sig .tc .vmem S2048x512 .bf16) (harg1 : arg1.IsWhole) (arg2 : Memref sig .tc .vmem S2048x1408 .bf16) (harg2 : arg2.IsWhole)
    (arg3 : Memref sig .tc .vmem S2048x1408 .bf16) (harg3 : arg3.IsWhole) (arg4 : Memref sig .tc .vmem S2048x1024 .bf16) (harg4 : arg4.IsWhole)
    (arg5 : Memref sig .tc .vmem S1x512x1408 .bf16) (harg5 : arg5.IsWhole) (arg6 : Memref sig .tc .vmem S1408x1024 .bf16) (harg6 : arg6.IsWhole)
    (hc0 : ¬k0_cond1 i = 1#1) (hc1 : k0_cond2 i = 1#1)
    (x0 : Vec F S2048x512 .bf16) (x1 : Vec F S2048x1408 .bf16) (x2 : Vec F S2048x1408 .bf16) (x3 : Vec F S2048x1024 .bf16)
    (x4 : Vec F S1x512x1408 .bf16) (x5 : Vec F S1408x1024 .bf16) (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (k0_pay2 x2 x3)) -∗ K ⟨⟩))
      ⊢ wp frame (wpE (defs₀ (F := F)) Variants.none c none) E
          (cc0_wgrad_ffn2 i arg1 harg1 arg2 harg2 arg3 harg3 arg4 harg4 arg5 harg5 arg6 harg6) K := by
  simp only [cc0_wgrad_ffn2_eq_skeleton]; unfold cc0_wgrad_ffn2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf2; obtain rfl := harg4.eq_unread hf3
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact hf4
    iexact H4
  iexists _; isplitr; swap; · iexact H5
  ipureintro
  exact (View.read_writes_full _ _ _ _ []).trans (by rw [View.readAt_full, View.readAt_full, hf2, hf3])

/-- The first eight points compute the first result. -/
theorem up_iff : ∀ t : Fin cfg0.N, k0_cond1 (grid0.coords t) = 1#1 ↔ t.val < 8 :=
  (by decide +kernel : ∀ t : Fin grid0.N, k0_cond1 (grid0.coords t) = 1#1 ↔ t.val < 8)

/-- The last two points compute the second. -/
theorem down_iff : ∀ t : Fin cfg0.N, k0_cond2 (grid0.coords t) = 1#1 ↔ 8 ≤ t.val :=
  (by decide +kernel : ∀ t : Fin grid0.N, k0_cond2 (grid0.coords t) = 1#1 ↔ 8 ≤ t.val)

/-- The first result's window is stored into at the first eight points. -/
theorem idle_up : ∀ t : Fin cfg0.N, cfg0.idle 4 (grid0.coords t) = decide (8 ≤ t.val) :=
  (by decide +kernel : ∀ t : Fin grid0.N, cfg0.idle 4 (grid0.coords t) = decide (8 ≤ t.val))

/-- The second's at the last two. -/
theorem idle_down : ∀ t : Fin cfg0.N, cfg0.idle 5 (grid0.coords t) = decide (t.val < 8) :=
  (by decide +kernel : ∀ t : Fin grid0.N, cfg0.idle 5 (grid0.coords t) = decide (t.val < 8))

/-- The first result's block is written back at each of the first seven points and at the last one. -/
theorem flush_up : ∀ t : Fin cfg0.N, (cfg0.win 4).flush t = decide (t.val < 7 ∨ t.val = 9) :=
  (by decide +kernel : ∀ t : Fin grid0.N, (cfg0.win 4).flush t = decide (t.val < 7 ∨ t.val = 9))

/-- The second result's block is written back at each of the last two points. -/
theorem flush_down : ∀ t : Fin cfg0.N, (cfg0.win 5).flush t = decide (8 ≤ t.val) :=
  (by decide +kernel : ∀ t : Fin grid0.N, (cfg0.win 5).flush t = decide (8 ≤ t.val))

/-- The point whose block of the first result the window holds at point `t`: `t` itself among the first eight, the
    eighth afterwards. -/
def held (t : Fin cfg0.N) : Fin cfg0.N := if t.val < 8 then t else ⟨7, lt_of_lt_of_eq (by decide) N_0.symm⟩

/-- What the windows hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay1 (iblk m c 0 (held t)) (iblk m c 1 (held t))
    | ⟨5, _⟩ => k0_pay2 (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = k0_pay1 (iblk m c 0 (held t)) (iblk m c 1 (held t)) := by dsimp only [dats]
theorem after_5 (c : Dev nD) (t : Fin cfg0.N) :
    (dats m 0 c).after 5 t = k0_pay2 (iblk m c 2 t) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The eighth point's block is still in the first result's window at the last two points. -/
theorem before_4 (c : Dev nD) (t : Fin cfg0.N) (h : 8 ≤ t.val) (d) :
    (dats m 0 c).before 4 t d = (dats m 0 c).after 4 t := by
  have hN : t.val < 10 := lt_of_lt_of_eq t.isLt N_0
  have hl : ∀ s : Fin cfg0.N, s.val = 7 → (dats m 0 c).left 4 s d = (dats m 0 c).after 4 t := by
    intro s hs
    unfold Dat.left
    rw [idle_up s, decide_eq_false (by omega)]
    show (dats m 0 c).after 4 s = _
    rw [after_4, after_4, show held s = held t from by
      unfold held
      rw [if_pos (by omega), if_neg (by omega)]
      exact Fin.ext hs]
  have h8 : ∀ s : Fin cfg0.N, s.val = 8 → (dats m 0 c).before 4 s d = (dats m 0 c).after 4 t := by
    intro s hs
    rw [(dats m 0 c).before_of_pos 4 s (by omega) rfl, flush_up, if_neg (by simp only [decide_eq_true_eq]; omega)]
    exact hl _ (by show s.val - 1 = 7; omega)
  by_cases h9 : t.val = 8
  · exact h8 t h9
  · rw [(dats m 0 c).before_of_pos 4 t (by omega) rfl, flush_up, if_neg (by simp only [decide_eq_true_eq]; omega)]
    unfold Dat.left
    rw [idle_up, decide_eq_true (by show 8 ≤ t.val - 1; omega)]
    exact h8 _ (by show t.val - 1 = 8; omega)

/-- What the body leaves in the first result's window. -/
theorem leaves_4 (c : Dev nD) (t : Fin cfg0.N) (h : t.val < 8) :
    (dats m 0 c).leavesExact 4 t = owns (c : Thread nD τ) (st0_4 t) fullShare (k0_pay1 (iblk m c 0 t) (iblk m c 1 t)) := by
  unfold Dat.leavesExact
  rw [idle_up, decide_eq_false (by omega), after_4, show held t = t from if_pos h]

/-- At the last two points it leaves that window as it found it. -/
theorem leaves_4_held (c : Dev nD) (t : Fin cfg0.N) (h : 8 ≤ t.val) (d) :
    owns (c : Thread nD τ) (st0_4 t) fullShare ((dats m 0 c).before 4 t d) ⊢ (dats m 0 c).leavesExact 4 t := by
  have hN : t.val < 10 := lt_of_lt_of_eq t.isLt N_0
  unfold Dat.leavesExact
  rw [idle_up, decide_eq_true h, flush_up]
  by_cases h9 : t.val = 9
  · rw [decide_eq_true (Or.inr h9), before_4 m c t h d]
  · rw [decide_eq_false (by omega)]
    iintro H; iexists _; iexact H

/-- What the body leaves in the second result's window: what it found, -/
theorem leaves_5_held (c : Dev nD) (t : Fin cfg0.N) (h : t.val < 8) (d) :
    owns (c : Thread nD τ) (st0_5 t) fullShare ((dats m 0 c).before 5 t d) ⊢ (dats m 0 c).leavesExact 5 t := by
  unfold Dat.leavesExact
  rw [idle_down, decide_eq_true h, flush_down, decide_eq_false (by omega)]
  iintro H; iexists _; iexact H

/-- or, at the last two points, the product. -/
theorem leaves_5 (c : Dev nD) (t : Fin cfg0.N) (h : 8 ≤ t.val) :
    (dats m 0 c).leavesExact 5 t = owns (c : Thread nD τ) (st0_5 t) fullShare (k0_pay2 (iblk m c 2 t) (iblk m c 3 t)) := by
  unfold Dat.leavesExact
  rw [idle_down, decide_eq_false (by omega), after_5]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0_0 t) fullShare ((dats m 0 c).after 0 t) from rfl,
    show (dats m 0 c).leavesExact 1 t = owns (c : Thread nD τ) (st0_1 t) fullShare ((dats m 0 c).after 1 t) from rfl,
    show (dats m 0 c).leavesExact 2 t = owns (c : Thread nD τ) (st0_2 t) fullShare ((dats m 0 c).after 2 t) from rfl,
    show (dats m 0 c).leavesExact 3 t = owns (c : Thread nD τ) (st0_3 t) fullShare ((dats m 0 c).after 3 t) from rfl,
    after_0, after_1, after_2, after_3]
  by_cases h : t.val < 8
  · rw [leaves_4 m c t h]
    iintro ⟨HΦ, Ho, ⟨%d0, H0⟩, ⟨%d1, H1⟩, ⟨%d2, H2⟩, ⟨%d3, H3⟩, ⟨%d4, H4⟩, ⟨%d5, H5⟩⟩
    iapply (run_up c (grid0.coords t) _ _ _ _ _ _ _ _ _ _ _ _ ((up_iff t).mpr h) (fun e => by have := (down_iff t).mp e; omega)
      (iblk m c 0 t) (iblk m c 1 t) (iblk m c 2 t) (iblk m c 3 t) ((dats m 0 c).before 4 t d4) ((dats m 0 c).before 5 t d5) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (leaves_5_held m c t h d5)
    iexact H5
  · rw [leaves_5 m c t (by omega)]
    iintro ⟨HΦ, Ho, ⟨%d0, H0⟩, ⟨%d1, H1⟩, ⟨%d2, H2⟩, ⟨%d3, H3⟩, ⟨%d4, H4⟩, ⟨%d5, H5⟩⟩
    iapply (run_down c (grid0.coords t) _ _ _ _ _ _ _ _ _ _ _ _ (fun e => h ((up_iff t).mp e)) ((down_iff t).mpr (by omega))
      (iblk m c 0 t) (iblk m c 1 t) (iblk m c 2 t) (iblk m c 3 t) ((dats m 0 c).before 4 t d4) ((dats m 0 c).before 5 t d5) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iapply (leaves_4_held m c t (by omega) d4)
      iexact H4
    iexact H5

/-- The table's row for the kernel is its body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends, with every array at what the windows wrote back and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- Every execution ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ))
    ((θ_run defs _ _).mono (fun _ h => h.2) (run_quiescent m ρ))

end Cert.Proof.Ffn2IdealBody

end
-- ==== Proof.Ffn2.lean ====
/-
  `_wgrad_ffn` at the second feed-forward: the gradients of both its weights in one call.  Element `(g, i, j)` of the
  first result is the sum over the 2048 rows of `n[·, i] * dgu[·, 1408 g + j]`, element `(i, j)` of the second is half the
  sum of `act[·, i] * dh[·, j]`, on the kernel's side and on the reference's.
-/
module

public import proofs.«01_k».proof.Defs
public import proofs.«01_k».proof.Proof.Gen.Ffn2
public import proofs.«01_k».proof.Proof.Ffn2Body
public import proofs.«01_k».proof.Proof.Gen.Ffn2Ideal
public import proofs.«01_k».proof.Proof.Ffn2IdealBody
public import proofs.«01_k».proof.Proof.Gen.Ffn2RefIdeal
public import proofs.«01_k».proof.Proof.Gen.Ffn2RefIdeal.Run
public import proofs.«01_k».proof.Proof.Gen.Ffn2RefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Ffn2Ideal.Sum

open Cert.Ffn2Ideal Cert.Ffn2Ideal.Gen Cert.Proof.Ffn2IdealBody

variable (m : (ℓ : Loc nD τ sig) → Buf (Elt Ideal) ℓ)

/-- The float word of one half, as the two programs print it. -/
abbrev half : EReal := FloatOps.ofBits (F := Ideal) .f32 0x3F000000#32

/-- The first operand's window reads the first argument: over the reals the host's cast is the identity. -/
theorem n_eq (c : Dev nD) : V m c main_v0 = m ((c : Thread nD τ).loc main_arg0) := by
  show StableHlo.after _ _ (Proc.devRef .tc main_v0) = _
  simp only [hostOps0, List.flatten_cons, List.flatten_nil, List.append_nil, List.cons_append, List.nil_append]
  after_results
  rfl

/-- The second operand's window reads the second argument. -/
theorem dgu_eq (c : Dev nD) : V m c main_v1 = m ((c : Thread nD τ).loc main_arg1) := by
  show StableHlo.after _ _ (Proc.devRef .tc main_v1) = _
  simp only [hostOps0, List.flatten_cons, List.flatten_nil, List.append_nil, List.cons_append, List.nil_append]
  after_results
  rfl

/-- The third operand's window reads half of the third argument. -/
theorem act_eq (c : Dev nD) : V m c main_v4 = fun i => half * m ((c : Thread nD τ).loc main_arg2) i := by
  show StableHlo.after _ _ (Proc.devRef .tc main_v4) = _
  simp only [hostOps0, List.flatten_cons, List.flatten_nil, List.append_nil, List.cons_append, List.nil_append]
  after_results
  funext i
  rfl

/-- The fourth operand's window reads the fourth argument. -/
theorem dh_eq (c : Dev nD) : V m c main_v5 = m ((c : Thread nD τ).loc main_arg3) := by
  show StableHlo.after _ _ (Proc.devRef .tc main_v5) = _
  simp only [hostOps0, List.flatten_cons, List.flatten_nil, List.append_nil, List.cons_append, List.nil_append]
  after_results
  rfl

/-- One block of the first product at an index. -/
theorem pay_up (a : Vec Ideal S2048x512 .bf16) (b : Vec Ideal S2048x1408 .bf16) (y : S1x512x1408.Idx) :
    k0_pay1 (F := Ideal) a b y = ∑ k : Fin 2048, a (ix2 k (y 1)) * b (ix2 k (y 2)) := by
  rw [ValueIdx.eq_ix3 y]
  pointwise [k0_pay1]

/-- One block of the second product at an index. -/
theorem pay_down (a : Vec Ideal S2048x1408 .bf16) (b : Vec Ideal S2048x1024 .bf16) (y : S1408x1024.Idx) :
    k0_pay2 (F := Ideal) a b y = ∑ k : Fin 2048, a (ix2 k (y 0)) * b (ix2 k (y 1)) := by
  rw [ValueIdx.eq_ix2 y]
  pointwise [k0_pay2]

/-- Which block the windows of the first product read and write, by the point whose block is held. -/
theorem idx_up : ∀ t : Fin cfg0.N, win0_0.index (held t) = ![0, (held t).val % 2] ∧ win0_1.index (held t) = ![0, (held t).val / 2]
    ∧ win0_4.index t = ![(held t).val / 2, (held t).val % 2, 0] :=
  (by decide +kernel : ∀ t : Fin grid0.N, win0_0.index (held t) = ![0, (held t).val % 2] ∧ win0_1.index (held t) = ![0, (held t).val / 2]
    ∧ win0_4.index t = ![(held t).val / 2, (held t).val % 2, 0])

/-- Which block those of the second read and write. -/
theorem idx_down : ∀ t : Fin cfg0.N, win0_2.index t = ![0, t.val - 8] ∧ win0_3.index t = ![0, 0] ∧ win0_5.index t = ![t.val - 8, 0] :=
  (by decide +kernel : ∀ t : Fin grid0.N, win0_2.index t = ![0, t.val - 8] ∧ win0_3.index t = ![0, 0] ∧ win0_5.index t = ![t.val - 8, 0])

/-- Element `(g, i, j)` of the first result: the sum over the rows. -/
def U (x0 : S2048x1024.Idx → EReal) (x1 : S2048x5632.Idx → EReal) : S4x1024x1408.Idx → EReal := fun i =>
  ∑ k : Fin 2048, x0 (ix2 k (i 1)) * x1 (ix2 k ⟨1408 * (i 0).val + (i 2).val, by
    have h0 : (i 0).val < 4 := (i 0).isLt; have h2 : (i 2).val < 1408 := (i 2).isLt; omega⟩)

/-- Element `(i, j)` of the second. -/
def W (x2 : S2048x2816.Idx → EReal) (x3 : S2048x1024.Idx → EReal) : S2816x1024.Idx → EReal := fun i =>
  ∑ k : Fin 2048, (half * x2 (ix2 k (i 0))) * x3 (ix2 k (i 1))

/-- The first result array after the run. -/
theorem up_eq (c : Dev nD) : (dats m 0 c).arrAt 4 cfg0.N
    = U (m ((c : Thread nD τ).loc main_arg0)) (m ((c : Thread nD τ).loc main_arg1)) := by
  refine (dats m 0 c).arrAt_eq_of_covers 4 _ (by decide +kernel) fun t hf y => ?_
  blk_simp
  rw [after_4]
  refine (pay_up _ _ y).trans ?_
  unfold U
  refine Finset.sum_congr rfl fun k _ => ?_
  congr 1
  · rw [← n_eq m c]
    blk_ext [iblk, idx_up t]
  · rw [← dgu_eq m c]
    blk_ext [iblk, idx_up t]

/-- The second. -/
theorem down_eq (c : Dev nD) : (dats m 0 c).arrAt 5 cfg0.N
    = W (m ((c : Thread nD τ).loc main_arg2)) (m ((c : Thread nD τ).loc main_arg3)) := by
  refine (dats m 0 c).arrAt_eq_of_covers 5 _ (by decide +kernel) fun t hf y => ?_
  blk_simp
  rw [after_5]
  refine (pay_down _ _ y).trans ?_
  unfold W
  refine Finset.sum_congr rfl fun k _ => ?_
  congr 1
  · rw [← congrFun (act_eq m c)]
    blk_ext [iblk, idx_down t]
  · rw [← dh_eq m c]
    blk_ext [iblk, idx_down t]

end Cert.Ffn2Ideal.Sum

namespace Cert.Proof.Ffn2

open Cert.Ffn2RefIdeal Cert.Ffn2RefIdeal.Read

/-- The reference's first result is the same sum. -/
theorem ref_up (x0 : S2048x1024.Idx → EReal) (x1 : S2048x5632.Idx → EReal) :
    val_main_v6 (F := Ideal) x0 x1 = Cert.Ffn2Ideal.Sum.U x0 x1 := by
  funext i
  rw [val_main_v6_apply, val_main_v5_apply, val_main_v4_apply, val_main_v3_apply]
  refine (val_main_v2_apply x0 x1 _).trans ?_
  unfold Cert.Ffn2Ideal.Sum.U
  refine Finset.sum_congr rfl fun k _ => ?_
  rw [mul_comm]
  congr 1
  · refine congrArg x0 (funext fun a => Fin.ext ?_)
    match a with
    | ⟨0, _⟩ => rfl
    | ⟨1, _⟩ =>
      have h0 : (i 0).val < 4 := (i 0).isLt; have h2 : (i 2).val < 1408 := (i 2).isLt
      show (((i 1).val * 4 + (i 0).val) * 1408 + (i 2).val) / 5632 = (i 1).val
      omega
  · refine congrArg x1 (funext fun a => Fin.ext ?_)
    match a with
    | ⟨0, _⟩ => rfl
    | ⟨1, _⟩ =>
      have h0 : (i 0).val < 4 := (i 0).isLt; have h2 : (i 2).val < 1408 := (i 2).isLt
      show (((i 1).val * 4 + (i 0).val) * 1408 + (i 2).val) % 5632 = 1408 * (i 0).val + (i 2).val
      omega

/-- Its second is too. -/
theorem ref_down (x2 : S2048x2816.Idx → EReal) (x3 : S2048x1024.Idx → EReal) :
    val_main_v15 (F := Ideal) x2 x3 = Cert.Ffn2Ideal.Sum.W x2 x3 := by
  funext i
  rw [val_main_v15_apply, val_main_v14_apply]
  refine (val_main_v13_apply x2 x3 _).trans ?_
  unfold Cert.Ffn2Ideal.Sum.W
  refine Finset.sum_congr rfl fun k _ => ?_
  rw [val_main_v12_apply, val_main_v11_apply]
  refine (mul_right_comm _ _ _).trans ?_
  congr 1
  · refine congrArg (Cert.Ffn2Ideal.Sum.half * ·) (congrArg x2 (funext fun a => Fin.ext ?_))
    match a with
    | ⟨0, _⟩ => rfl
    | ⟨1, _⟩ => rfl
  · refine congrArg x3 (funext fun a => Fin.ext ?_)
    match a with
    | ⟨0, _⟩ => rfl
    | ⟨1, _⟩ => rfl

/-- The reference ends with its arguments unchanged and every semaphore counter at zero. -/
theorem frame : Cert.quiescent_Ffn2RefIdeal (hFfn2RefIdeal := Cert.Ffn2RefIdeal.Gen.facts) := fun m ρ _ =>
  (θ_run Cert.Ffn2RefIdeal.defs _ _).mono
    (fun r h => ⟨fun c => (h c).2.2, Idealize.ShloMosaic.sem_eq_zero_of_no_sems (by decide) r.2⟩)
    (Cert.Ffn2RefIdeal.Value.run (F := Ideal) m ρ)

/-- Kernel and reference end with equal gradients, from any arguments on which the two agree. -/
theorem algebraic : Cert.algebraic_Ffn2Ideal_Ffn2RefIdeal
    (hFfn2Ideal := Cert.Ffn2Ideal.Gen.facts) (hFfn2RefIdeal := Cert.Ffn2RefIdeal.Gen.facts) := fun m g m' g' _ agree => by
  have hk := Idealize.ShloMosaic.θ_run_and (Cert.Proof.Ffn2IdealBody.run_main m g)
    (Cert.Ffn2Ideal.Gen.frame_of m g (Cert.Proof.Ffn2IdealBody.dats m) (Cert.Proof.Ffn2IdealBody.A_eq m)
      (Cert.Proof.Ffn2IdealBody.run_main m g))
  refine ⟨_, _, (θ_run Cert.Ffn2Ideal.defs _ _).mono (fun r h c => ⟨(h.1 c).1 4, (h.1 c).1 5, h.2 c⟩) hk, ?_⟩
  refine (θ_run Cert.Ffn2RefIdeal.defs _ _).mono (fun r h c => ?_) (Cert.Ffn2RefIdeal.Value.run (F := Ideal) m' g')
  obtain ⟨h0, h1, hr⟩ := h c
  obtain ⟨a0, a1, a2, a3⟩ := agree c
  refine ⟨h0.trans ?_, h1.trans ?_, hr⟩
  · rw [val_main_v6_eq, a0, a1, ref_up]
    exact (Cert.Ffn2Ideal.Sum.up_eq m c).symm
  · rw [val_main_v15_eq, a2, a3, ref_down]
    exact (Cert.Ffn2Ideal.Sum.down_eq m c).symm

end Cert.Proof.Ffn2

end
-- ==== Proof.Up1.lean ====
/-
  `_wgrad` at the gated unit's first product: the gradient of the weight that takes a row `n` to a row of `dgu`, in
  four column blocks.  Element `(g, i, j)` of the result is the sum over the 2048 rows of `n[·, i] * dgu[·, 1408 g + j]`,
  on the kernel's side and on the reference's.
-/
module

public import proofs.«01_k».proof.Defs
public import proofs.«01_k».proof.Proof.Gen.Up1
public import proofs.«01_k».proof.Proof.Gen.Up1.Frame
public import proofs.«01_k».proof.Proof.Gen.Up1Ideal
public import proofs.«01_k».proof.Proof.Gen.Up1Ideal.Frame
public import proofs.«01_k».proof.Proof.Gen.Up1Ideal.Value
public import proofs.«01_k».proof.Proof.Gen.Up1RefIdeal
public import proofs.«01_k».proof.Proof.Gen.Up1RefIdeal.Run
public import proofs.«01_k».proof.Proof.Gen.Up1RefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Up1Ideal.Sum

open Cert.Up1Ideal Cert.Up1Ideal.Gen

variable (m : (ℓ : Loc nD τ sig) → Buf (Elt Ideal) ℓ)

/-- The first operand's window reads the first argument: over the reals the host's cast is the identity. -/
theorem n_eq (c : Dev nD) : V m c main_v0 = m ((c : Thread nD τ).loc main_arg0) := by
  show StableHlo.after _ _ (Proc.devRef .tc main_v0) = _
  simp only [hostOps0, List.flatten_cons, List.flatten_nil, List.append_nil, List.cons_append, List.nil_append]
  after_results
  rfl

/-- The second operand's window reads the second argument. -/
theorem dgu_eq (c : Dev nD) : V m c main_v1 = m ((c : Thread nD τ).loc main_arg1) := by
  show StableHlo.after _ _ (Proc.devRef .tc main_v1) = _
  simp only [hostOps0, List.flatten_cons, List.flatten_nil, List.append_nil, List.cons_append, List.nil_append]
  after_results
  rfl

/-- One block's product at an index. -/
theorem pay_apply (a : Vec Ideal S2048x1024 .bf16) (b : Vec Ideal S2048x1408 .bf16) (y : S1x1024x1408.Idx) :
    k0_pay1 (F := Ideal) a b y = ∑ k : Fin 2048, a (ix2 k (y 1)) * b (ix2 k (y 2)) := by
  rw [ValueIdx.eq_ix3 y]
  pointwise [k0_pay1]

/-- Which block each window reads or writes at a point. -/
theorem idx : ∀ t : Fin cfg0.N, win0_0.index t = ![0, 0] ∧ win0_1.index t = ![0, t.val] ∧ win0_2.index t = ![t.val, 0, 0] :=
  (by decide +kernel : ∀ t : Fin grid0.N, win0_0.index t = ![0, 0] ∧ win0_1.index t = ![0, t.val] ∧ win0_2.index t = ![t.val, 0, 0])

/-- Element `(g, i, j)`: the sum over the rows. -/
def G (x0 : S2048x1024.Idx → EReal) (x1 : S2048x5632.Idx → EReal) : S4x1024x1408.Idx → EReal := fun i =>
  ∑ k : Fin 2048, x0 (ix2 k (i 1)) * x1 (ix2 k ⟨1408 * (i 0).val + (i 2).val, by
    have h0 : (i 0).val < 4 := (i 0).isLt; have h2 : (i 2).val < 1408 := (i 2).isLt; omega⟩)

/-- The result array after the run. -/
theorem out_eq (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay_apply _ _ y).trans ?_
  unfold G
  refine Finset.sum_congr rfl fun k _ => ?_
  congr 1
  · rw [← n_eq m c]
    blk_ext [iblk, idx t]
  · rw [← dgu_eq m c]
    blk_ext [iblk, idx t]

end Cert.Up1Ideal.Sum

namespace Cert.Proof.Up1

open Cert.Up1RefIdeal Cert.Up1RefIdeal.Read

/-- The reference's result is the same sum. -/
theorem ref_eq (x0 : S2048x1024.Idx → EReal) (x1 : S2048x5632.Idx → EReal) :
    val_main_v6 (F := Ideal) x0 x1 = Cert.Up1Ideal.Sum.G x0 x1 := by
  funext i
  rw [val_main_v6_apply, val_main_v5_apply, val_main_v4_apply, val_main_v3_apply]
  refine (val_main_v2_apply x0 x1 _).trans ?_
  unfold Cert.Up1Ideal.Sum.G
  refine Finset.sum_congr rfl fun k _ => ?_
  rw [mul_comm]
  congr 1
  · refine congrArg x0 (funext fun a => Fin.ext ?_)
    match a with
    | ⟨0, _⟩ => rfl
    | ⟨1, _⟩ =>
      have h0 : (i 0).val < 4 := (i 0).isLt; have h2 : (i 2).val < 1408 := (i 2).isLt
      show (((i 1).val * 4 + (i 0).val) * 1408 + (i 2).val) / 5632 = (i 1).val
      omega
  · refine congrArg x1 (funext fun a => Fin.ext ?_)
    match a with
    | ⟨0, _⟩ => rfl
    | ⟨1, _⟩ =>
      have h0 : (i 0).val < 4 := (i 0).isLt; have h2 : (i 2).val < 1408 := (i 2).isLt
      show (((i 1).val * 4 + (i 0).val) * 1408 + (i 2).val) % 5632 = 1408 * (i 0).val + (i 2).val
      omega

/-- The reference ends with its arguments unchanged and every semaphore counter at zero. -/
theorem frame : Cert.quiescent_Up1RefIdeal (hUp1RefIdeal := Cert.Up1RefIdeal.Gen.facts) := fun m ρ _ =>
  (θ_run Cert.Up1RefIdeal.defs _ _).mono
    (fun r h => ⟨fun c => (h c).2, Idealize.ShloMosaic.sem_eq_zero_of_no_sems (by decide) r.2⟩)
    (Cert.Up1RefIdeal.Value.run (F := Ideal) m ρ)

/-- Kernel and reference end with equal gradients, from any arguments on which the two agree. -/
theorem algebraic : Cert.algebraic_Up1Ideal_Up1RefIdeal
    (hUp1Ideal := Cert.Up1Ideal.Gen.facts) (hUp1RefIdeal := Cert.Up1RefIdeal.Gen.facts) := fun m g m' g' _ agree => by
  refine ⟨_, Cert.Up1Ideal.Value.run_blocks m g, ?_⟩
  refine (θ_run Cert.Up1RefIdeal.defs _ _).mono (fun r h c => ?_) (Cert.Up1RefIdeal.Value.run (F := Ideal) m' g')
  obtain ⟨h0, hr⟩ := h c
  obtain ⟨a0, a1⟩ := agree c
  refine ⟨h0.trans ?_, hr⟩
  rw [val_main_v6_eq, a0, a1, ref_eq]
  exact (Cert.Up1Ideal.Sum.out_eq m c).symm

end Cert.Proof.Up1

end
-- ==== Proof.Down1.lean ====
/-
  `_wgrad` at the gated unit's second product: the gradient of the weight that takes half of `act` to the block's output.
  Element `(0, i, j)` is the sum over the 2048 rows of `(act[·, i] / 2) * dh[·, j]`; the reference halves the other factor.
-/
module

public import proofs.«01_k».proof.Defs
public import proofs.«01_k».proof.Proof.Gen.Down1
public import proofs.«01_k».proof.Proof.Gen.Down1.Frame
public import proofs.«01_k».proof.Proof.Gen.Down1Ideal
public import proofs.«01_k».proof.Proof.Gen.Down1Ideal.Frame
public import proofs.«01_k».proof.Proof.Gen.Down1Ideal.Value
public import proofs.«01_k».proof.Proof.Gen.Down1RefIdeal
public import proofs.«01_k».proof.Proof.Gen.Down1RefIdeal.Run
public import proofs.«01_k».proof.Proof.Gen.Down1RefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Down1Ideal.Sum

open Cert.Down1Ideal Cert.Down1Ideal.Gen

variable (m : (ℓ : Loc nD τ sig) → Buf (Elt Ideal) ℓ)

/-- The float word of one half, as the two programs print it. -/
abbrev half : EReal := FloatOps.ofBits (F := Ideal) .f32 0x3F000000#32

/-- The first operand's window reads half of the first argument. -/
theorem act_eq (c : Dev nD) : V m c main_v2 = fun i => half * m ((c : Thread nD τ).loc main_arg0) i := by
  show StableHlo.after _ _ (Proc.devRef .tc main_v2) = _
  simp only [hostOps0, List.flatten_cons, List.flatten_nil, List.append_nil, List.cons_append, List.nil_append]
  after_results
  funext i
  rfl

/-- The second operand's window reads the second argument. -/
theorem dh_eq (c : Dev nD) : V m c main_arg1 = m ((c : Thread nD τ).loc main_arg1) := V_main_arg1 m c

/-- One block's product at an index. -/
theorem pay_apply (a : Vec Ideal S2048x1408 .bf16) (b : Vec Ideal S2048x1024 .f32) (y : S1x1408x1024.Idx) :
    k0_pay1 (F := Ideal) a b y = ∑ k : Fin 2048, a (ix2 k (y 1)) * b (ix2 k (y 2)) := by
  rw [ValueIdx.eq_ix3 y]
  pointwise [k0_pay1]

/-- Which block each window reads or writes at a point. -/
theorem idx : ∀ t : Fin cfg0.N, win0_0.index t = ![0, t.val] ∧ win0_1.index t = ![0, 0] ∧ win0_2.index t = ![0, t.val, 0] :=
  (by decide +kernel : ∀ t : Fin grid0.N, win0_0.index t = ![0, t.val] ∧ win0_1.index t = ![0, 0] ∧ win0_2.index t = ![0, t.val, 0])

/-- Element `(0, i, j)`: the sum over the rows. -/
def G (x0 : S2048x2816.Idx → EReal) (x1 : S2048x1024.Idx → EReal) : S1x2816x1024.Idx → EReal := fun i =>
  ∑ k : Fin 2048, (half * x0 (ix2 k (i 1))) * x1 (ix2 k (i 2))

/-- The result array after the run. -/
theorem out_eq (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay_apply _ _ y).trans ?_
  unfold G
  refine Finset.sum_congr rfl fun k _ => ?_
  congr 1
  · rw [← congrFun (act_eq m c)]
    blk_ext [iblk, idx t]
  · rw [← dh_eq m c]
    blk_ext [iblk, idx t]

end Cert.Down1Ideal.Sum

namespace Cert.Proof.Down1

open Cert.Down1RefIdeal Cert.Down1RefIdeal.Read

/-- The reference's result is the same sum. -/
theorem ref_eq (x0 : S2048x2816.Idx → EReal) (x1 : S2048x1024.Idx → EReal) :
    val_main_v9 (F := Ideal) x0 x1 = Cert.Down1Ideal.Sum.G x0 x1 := by
  funext i
  rw [val_main_v9_apply, val_main_v8_apply, val_main_v7_apply]
  refine (val_main_v6_apply x0 x1 _).trans ?_
  unfold Cert.Down1Ideal.Sum.G
  refine Finset.sum_congr rfl fun k _ => ?_
  rw [val_main_v5_apply, val_main_v4_apply]
  refine (mul_right_comm _ _ _).trans ?_
  congr 1
  · refine congrArg (Cert.Down1Ideal.Sum.half * ·) (congrArg x0 (funext fun a => Fin.ext ?_))
    match a with
    | ⟨0, _⟩ => rfl
    | ⟨1, _⟩ => rfl
  · refine congrArg x1 (funext fun a => Fin.ext ?_)
    match a with
    | ⟨0, _⟩ => rfl
    | ⟨1, _⟩ => rfl

/-- The reference ends with its arguments unchanged and every semaphore counter at zero. -/
theorem frame : Cert.quiescent_Down1RefIdeal (hDown1RefIdeal := Cert.Down1RefIdeal.Gen.facts) := fun m ρ _ =>
  (θ_run Cert.Down1RefIdeal.defs _ _).mono
    (fun r h => ⟨fun c => (h c).2, Idealize.ShloMosaic.sem_eq_zero_of_no_sems (by decide) r.2⟩)
    (Cert.Down1RefIdeal.Value.run (F := Ideal) m ρ)

/-- Kernel and reference end with equal gradients, from any arguments on which the two agree. -/
theorem algebraic : Cert.algebraic_Down1Ideal_Down1RefIdeal
    (hDown1Ideal := Cert.Down1Ideal.Gen.facts) (hDown1RefIdeal := Cert.Down1RefIdeal.Gen.facts) := fun m g m' g' _ agree => by
  refine ⟨_, Cert.Down1Ideal.Value.run_blocks m g, ?_⟩
  refine (θ_run Cert.Down1RefIdeal.defs _ _).mono (fun r h c => ?_) (Cert.Down1RefIdeal.Value.run (F := Ideal) m' g')
  obtain ⟨h0, hr⟩ := h c
  obtain ⟨a0, a1⟩ := agree c
  refine ⟨h0.trans ?_, hr⟩
  rw [val_main_v9_eq, a0, a1, ref_eq]
  exact (Cert.Down1Ideal.Sum.out_eq m c).symm

end Cert.Proof.Down1

end
-- ==== Proof.Proj.lean ====
/-
  `_wgrad_in`: the gradient of the layer's input product, in four column blocks: the first block's columns belong to the
  pooled branch and to the queries, the second's to the keys and the values, the last two's to the gate.  Element
  `(g, i, j)` is the sum over the 2048 rows of `u[·, i]` times column `1024 g + j` of the five gradients side by side.
-/
module

public import proofs.«01_k».proof.Defs
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ProjIdeal.Sum

open Cert.ProjIdeal Cert.ProjIdeal.Gen

variable (m : (ℓ : Loc nD τ sig) → Buf (Elt Ideal) ℓ)

/-- The window of operand 0 reads argument 0: over the reals the host's cast is the identity. -/
theorem u_eq (c : Dev nD) : V m c main_v0 = m ((c : Thread nD τ).loc main_arg0) := by
  show StableHlo.after _ _ (Proc.devRef .tc main_v0) = _
  simp only [hostOps0, List.flatten_cons, List.flatten_nil, List.append_nil, List.cons_append, List.nil_append]
  after_results
  rfl

/-- The window of operand 1 reads argument 1: over the reals the host's cast is the identity. -/
theorem dxp_eq (c : Dev nD) : V m c main_v1 = m ((c : Thread nD τ).loc main_arg1) := by
  show StableHlo.after _ _ (Proc.devRef .tc main_v1) = _
  simp only [hostOps0, List.flatten_cons, List.flatten_nil, List.append_nil, List.cons_append, List.nil_append]
  after_results
  rfl

/-- The window of operand 2 reads argument 2: over the reals the host's cast is the identity. -/
theorem dq_eq (c : Dev nD) : V m c main_v2 = m ((c : Thread nD τ).loc main_arg2) := by
  show StableHlo.after _ _ (Proc.devRef .tc main_v2) = _
  simp only [hostOps0, List.flatten_cons, List.flatten_nil, List.append_nil, List.cons_append, List.nil_append]
  after_results
  rfl

/-- The window of operand 3 reads argument 3: over the reals the host's cast is the identity. -/
theorem dk_eq (c : Dev nD) : V m c main_v3 = m ((c : Thread nD τ).loc main_arg3) := by
  show StableHlo.after _ _ (Proc.devRef .tc main_v3) = _
  simp only [hostOps0, List.flatten_cons, List.flatten_nil, List.append_nil, List.cons_append, List.nil_append]
  after_results
  rfl

/-- The window of operand 4 reads argument 4: over the reals the host's cast is the identity. -/
theorem dv_eq (c : Dev nD) : V m c main_v4 = m ((c : Thread nD τ).loc main_arg4) := by
  show StableHlo.after _ _ (Proc.devRef .tc main_v4) = _
  simp only [hostOps0, List.flatten_cons, List.flatten_nil, List.append_nil, List.cons_append, List.nil_append]
  after_results
  rfl

/-- The window of operand 5 reads argument 5: over the reals the host's cast is the identity. -/
theorem dlg_eq (c : Dev nD) : V m c main_v5 = m ((c : Thread nD τ).loc main_arg5) := by
  show StableHlo.after _ _ (Proc.devRef .tc main_v5) = _
  simp only [hostOps0, List.flatten_cons, List.flatten_nil, List.append_nil, List.cons_append, List.nil_append]
  after_results
  rfl

/-- Which block each window reads or writes at a point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, t.val - 2] ∧ win0_6.index t = ![t.val, 0, 0] :=
  (by decide +kernel : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, t.val - 2] ∧ win0_6.index t = ![t.val, 0, 0])

/-- A half block of the gradient at an index. -/
theorem pay2_apply (a : Vec Ideal S2048x1024 .bf16) (b : Vec Ideal S2048x512 .bf16) (y : S1x1024x512.Idx) :
    k0_pay2 (F := Ideal) a b y = ∑ k : Fin 2048, a (ix2 k (y 1)) * b (ix2 k (y 2)) := by
  rw [ValueIdx.eq_ix3 y]
  pointwise [k0_pay2, k0_pay1]

/-- A half block of the gradient at an index. -/
theorem pay3_apply (a : Vec Ideal S2048x1024 .bf16) (b : Vec Ideal S2048x512 .bf16) (y : S1x1024x512.Idx) :
    k0_pay3 (F := Ideal) a b y = ∑ k : Fin 2048, a (ix2 k (y 1)) * b (ix2 k (y 2)) := by
  rw [ValueIdx.eq_ix3 y]
  pointwise [k0_pay3, k0_pay1]

/-- A half block of the gradient at an index. -/
theorem pay4_apply (a : Vec Ideal S2048x1024 .bf16) (b : Vec Ideal S2048x512 .bf16) (y : S1x1024x512.Idx) :
    k0_pay4 (F := Ideal) a b y = ∑ k : Fin 2048, a (ix2 k (y 1)) * b (ix2 k (y 2)) := by
  rw [ValueIdx.eq_ix3 y]
  pointwise [k0_pay4, k0_pay1]

/-- A half block of the gradient at an index. -/
theorem pay5_apply (a : Vec Ideal S2048x1024 .bf16) (b : Vec Ideal S2048x512 .bf16) (y : S1x1024x512.Idx) :
    k0_pay5 (F := Ideal) a b y = ∑ k : Fin 2048, a (ix2 k (y 1)) * b (ix2 k (y 2)) := by
  rw [ValueIdx.eq_ix3 y]
  pointwise [k0_pay5, k0_pay1]

/-- A whole block of the gradient at an index. -/
theorem pay6_apply (a b : Vec Ideal S2048x1024 .bf16) (y : S1x1024x1024.Idx) :
    k0_pay6 (F := Ideal) a b y = ∑ k : Fin 2048, a (ix2 k (y 1)) * b (ix2 k (y 2)) := by
  rw [ValueIdx.eq_ix3 y]
  pointwise [k0_pay6, k0_pay1]

/-- The five gradients side by side. -/
abbrev cat (x1 x2 x3 x4 : S2048x512.Idx → EReal) (x5 : S2048x2048.Idx → EReal) : (Cert.ProjRefIdeal.S2048x4096).Idx → EReal :=
  Cert.ProjRefIdeal.Read.val_main_v0 (F := Ideal) x1 x2 x3 x4 x5

variable (x1 x2 x3 x4 : S2048x512.Idx → EReal) (x5 : S2048x2048.Idx → EReal)

/-- Columns 0 to 511. -/
theorem cat_1 (k : Fin 2048) (n : Fin 512) (h : 0 + n.val < 4096) : cat x1 x2 x3 x4 x5 (ix2 k ⟨0 + n.val, h⟩) = x1 (ix2 k n) := by
  have hn : n.val < 512 := n.isLt
  show Cert.ProjRefIdeal.Read.val_main_v0 (F := Ideal) x1 x2 x3 x4 x5 _ = _
  unfold Cert.ProjRefIdeal.Read.val_main_v0
  pointwise

/-- Columns 512 to 1023. -/
theorem cat_2 (k : Fin 2048) (n : Fin 512) (h : 512 + n.val < 4096) : cat x1 x2 x3 x4 x5 (ix2 k ⟨512 + n.val, h⟩) = x2 (ix2 k n) := by
  have hn : n.val < 512 := n.isLt
  show Cert.ProjRefIdeal.Read.val_main_v0 (F := Ideal) x1 x2 x3 x4 x5 _ = _
  unfold Cert.ProjRefIdeal.Read.val_main_v0
  pointwise

/-- Columns 1024 to 1535. -/
theorem cat_3 (k : Fin 2048) (n : Fin 512) (h : 1024 + n.val < 4096) : cat x1 x2 x3 x4 x5 (ix2 k ⟨1024 + n.val, h⟩) = x3 (ix2 k n) := by
  have hn : n.val < 512 := n.isLt
  show Cert.ProjRefIdeal.Read.val_main_v0 (F := Ideal) x1 x2 x3 x4 x5 _ = _
  unfold Cert.ProjRefIdeal.Read.val_main_v0
  pointwise
  rw [dif_neg (by omega)]
  rw [dif_neg (by omega)]
  rw [dif_pos (by omega)]
  refine congrArg x3 (congrArg (ix2 k) (Fin.ext ?_))
  show 1024 + n.val - 512 - 512 = n.val
  omega

/-- Columns 1536 to 2047. -/
theorem cat_4 (k : Fin 2048) (n : Fin 512) (h : 1536 + n.val < 4096) : cat x1 x2 x3 x4 x5 (ix2 k ⟨1536 + n.val, h⟩) = x4 (ix2 k n) := by
  have hn : n.val < 512 := n.isLt
  show Cert.ProjRefIdeal.Read.val_main_v0 (F := Ideal) x1 x2 x3 x4 x5 _ = _
  unfold Cert.ProjRefIdeal.Read.val_main_v0
  pointwise
  rw [dif_neg (by omega)]
  rw [dif_neg (by omega)]
  rw [dif_neg (by omega)]
  rw [dif_pos (by omega)]
  refine congrArg x4 (congrArg (ix2 k) (Fin.ext ?_))
  show 1536 + n.val - 512 - 512 - 512 = n.val
  omega

/-- Columns 2048 to 4095. -/
theorem cat_5 (k : Fin 2048) (n : Fin 2048) (h : 2048 + n.val < 4096) : cat x1 x2 x3 x4 x5 (ix2 k ⟨2048 + n.val, h⟩) = x5 (ix2 k n) := by
  have hn : n.val < 2048 := n.isLt
  show Cert.ProjRefIdeal.Read.val_main_v0 (F := Ideal) x1 x2 x3 x4 x5 _ = _
  unfold Cert.ProjRefIdeal.Read.val_main_v0
  pointwise
  rw [dif_neg (by omega), dif_neg (by omega), dif_neg (by omega), dif_neg (by omega)]
  refine congrArg x5 (congrArg (ix2 k) (Fin.ext ?_))
  show 2048 + n.val - 512 - 512 - 512 - 512 = n.val
  omega

/-- Element `(g, i, j)`: the sum over the rows. -/
def G (x0 : S2048x1024.Idx → EReal) (x1 x2 x3 x4 : S2048x512.Idx → EReal) (x5 : S2048x2048.Idx → EReal) : S4x1024x1024.Idx → EReal := fun i =>
  ∑ k : Fin 2048, x0 (ix2 k (i 1)) * cat x1 x2 x3 x4 x5 (ix2 k ⟨1024 * (i 0).val + (i 2).val, by
    have h0 : (i 0).val < 4 := (i 0).isLt; have h2 : (i 2).val < 1024 := (i 2).isLt; omega⟩)

/-- An element whose column lies in the first gradient. -/
theorem G_1 (x0 : S2048x1024.Idx → EReal) (i : S4x1024x1024.Idx) (p : Fin 1024) (n : Fin 512) (hp : (i 1).val = p.val) (hn : 1024 * (i 0).val + (i 2).val = 0 + n.val) :
    G x0 x1 x2 x3 x4 x5 i = ∑ k : Fin 2048, x0 (ix2 k p) * x1 (ix2 k n) := by
  have hb : n.val < 512 := n.isLt
  unfold G
  refine Finset.sum_congr rfl fun k _ => ?_
  rw [← cat_1 x1 x2 x3 x4 x5 k n (by omega)]
  congr 2
  · exact congrArg (ix2 k) (Fin.ext hp)
  · exact congrArg (ix2 k) (Fin.ext hn)

/-- An element whose column lies in the second gradient. -/
theorem G_2 (x0 : S2048x1024.Idx → EReal) (i : S4x1024x1024.Idx) (p : Fin 1024) (n : Fin 512) (hp : (i 1).val = p.val) (hn : 1024 * (i 0).val + (i 2).val = 512 + n.val) :
    G x0 x1 x2 x3 x4 x5 i = ∑ k : Fin 2048, x0 (ix2 k p) * x2 (ix2 k n) := by
  have hb : n.val < 512 := n.isLt
  unfold G
  refine Finset.sum_congr rfl fun k _ => ?_
  rw [← cat_2 x1 x2 x3 x4 x5 k n (by omega)]
  congr 2
  · exact congrArg (ix2 k) (Fin.ext hp)
  · exact congrArg (ix2 k) (Fin.ext hn)

/-- An element whose column lies in the third gradient. -/
theorem G_3 (x0 : S2048x1024.Idx → EReal) (i : S4x1024x1024.Idx) (p : Fin 1024) (n : Fin 512) (hp : (i 1).val = p.val) (hn : 1024 * (i 0).val + (i 2).val = 1024 + n.val) :
    G x0 x1 x2 x3 x4 x5 i = ∑ k : Fin 2048, x0 (ix2 k p) * x3 (ix2 k n) := by
  have hb : n.val < 512 := n.isLt
  unfold G
  refine Finset.sum_congr rfl fun k _ => ?_
  rw [← cat_3 x1 x2 x3 x4 x5 k n (by omega)]
  congr 2
  · exact congrArg (ix2 k) (Fin.ext hp)
  · exact congrArg (ix2 k) (Fin.ext hn)

/-- An element whose column lies in the fourth gradient. -/
theorem G_4 (x0 : S2048x1024.Idx → EReal) (i : S4x1024x1024.Idx) (p : Fin 1024) (n : Fin 512) (hp : (i 1).val = p.val) (hn : 1024 * (i 0).val + (i 2).val = 1536 + n.val) :
    G x0 x1 x2 x3 x4 x5 i = ∑ k : Fin 2048, x0 (ix2 k p) * x4 (ix2 k n) := by
  have hb : n.val < 512 := n.isLt
  unfold G
  refine Finset.sum_congr rfl fun k _ => ?_
  rw [← cat_4 x1 x2 x3 x4 x5 k n (by omega)]
  congr 2
  · exact congrArg (ix2 k) (Fin.ext hp)
  · exact congrArg (ix2 k) (Fin.ext hn)

/-- An element whose column lies in the fifth gradient. -/
theorem G_5 (x0 : S2048x1024.Idx → EReal) (i : S4x1024x1024.Idx) (p : Fin 1024) (n : Fin 2048) (hp : (i 1).val = p.val) (hn : 1024 * (i 0).val + (i 2).val = 2048 + n.val) :
    G x0 x1 x2 x3 x4 x5 i = ∑ k : Fin 2048, x0 (ix2 k p) * x5 (ix2 k n) := by
  have hb : n.val < 2048 := n.isLt
  unfold G
  refine Finset.sum_congr rfl fun k _ => ?_
  rw [← cat_5 x1 x2 x3 x4 x5 k n (by omega)]
  congr 2
  · exact congrArg (ix2 k) (Fin.ext hp)
  · exact congrArg (ix2 k) (Fin.ext hn)

/-- Where an element of the result's block lies in the result. -/
theorem place (t : Fin cfg0.N) (y : ((cfg0.win 6).xblock (cfg0.grid.coords t)).Idx) :
    ((((View.whole main_v6).slice (win0_6.rect t)).emb y) 0).val = t.val
    ∧ ((((View.whole main_v6).slice (win0_6.rect t)).emb y) 1).val = (y 1).val
    ∧ ((((View.whole main_v6).slice (win0_6.rect t)).emb y) 2).val = (y 2).val := by
  have e0 : (y 0).val < 1 := (y 0).isLt
  refine ⟨?_, ?_, ?_⟩ <;> blk_simp [idx t] <;> omega

/-- The half block that `dq` gives. -/
theorem tile_dq (c : Dev nD) (t : Fin cfg0.N) (x : S1x1024x512.Idx) (i : S4x1024x1024.Idx) (p0 : (i 0).val = 0) (p1 : (i 1).val = (x 1).val)
    (p2 : (i 2).val = 512 + (x 2).val) : k0_pay3 (F := Ideal) (iblk m c 0 t) (iblk m c 2 t) x
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  refine (pay3_apply _ _ x).trans ?_
  rw [G_2 _ _ _ _ _ _ _ (x 1) (x 2) p1 (by omega)]
  refine Finset.sum_congr rfl fun k _ => ?_
  congr 1
  · rw [← u_eq m c]
    blk_ext [iblk, idx t]
  · rw [← dq_eq m c]
    blk_ext [iblk, idx t]

/-- The half block that `dxp` gives. -/
theorem tile_dxp (c : Dev nD) (t : Fin cfg0.N) (x : S1x1024x512.Idx) (i : S4x1024x1024.Idx) (p0 : (i 0).val = 0) (p1 : (i 1).val = (x 1).val)
    (p2 : (i 2).val = 0 + (x 2).val) : k0_pay2 (F := Ideal) (iblk m c 0 t) (iblk m c 1 t) x
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  refine (pay2_apply _ _ x).trans ?_
  rw [G_1 _ _ _ _ _ _ _ (x 1) (x 2) p1 (by omega)]
  refine Finset.sum_congr rfl fun k _ => ?_
  congr 1
  · rw [← u_eq m c]
    blk_ext [iblk, idx t]
  · rw [← dxp_eq m c]
    blk_ext [iblk, idx t]

/-- The half block that `dv` gives. -/
theorem tile_dv (c : Dev nD) (t : Fin cfg0.N) (x : S1x1024x512.Idx) (i : S4x1024x1024.Idx) (p0 : (i 0).val = 1) (p1 : (i 1).val = (x 1).val)
    (p2 : (i 2).val = 512 + (x 2).val) : k0_pay5 (F := Ideal) (iblk m c 0 t) (iblk m c 4 t) x
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  refine (pay5_apply _ _ x).trans ?_
  rw [G_4 _ _ _ _ _ _ _ (x 1) (x 2) p1 (by omega)]
  refine Finset.sum_congr rfl fun k _ => ?_
  congr 1
  · rw [← u_eq m c]
    blk_ext [iblk, idx t]
  · rw [← dv_eq m c]
    blk_ext [iblk, idx t]

/-- The half block that `dk` gives. -/
theorem tile_dk (c : Dev nD) (t : Fin cfg0.N) (x : S1x1024x512.Idx) (i : S4x1024x1024.Idx) (p0 : (i 0).val = 1) (p1 : (i 1).val = (x 1).val)
    (p2 : (i 2).val = 0 + (x 2).val) : k0_pay4 (F := Ideal) (iblk m c 0 t) (iblk m c 3 t) x
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  refine (pay4_apply _ _ x).trans ?_
  rw [G_3 _ _ _ _ _ _ _ (x 1) (x 2) p1 (by omega)]
  refine Finset.sum_congr rfl fun k _ => ?_
  congr 1
  · rw [← u_eq m c]
    blk_ext [iblk, idx t]
  · rw [← dk_eq m c]
    blk_ext [iblk, idx t]

/-- The whole block that `dlg` gives. -/
theorem tile_dlg (c : Dev nD) (t : Fin cfg0.N) (h2 : 2 ≤ t.val) (x : S1x1024x1024.Idx) (i : S4x1024x1024.Idx) (p0 : (i 0).val = t.val)
    (p1 : (i 1).val = (x 1).val) (p2 : (i 2).val = (x 2).val) : k0_pay6 (F := Ideal) (iblk m c 0 t) (iblk m c 5 t) x
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  have hN : t.val < 4 := t.isLt
  have e2 : (x 2).val < 1024 := (x 2).isLt
  refine (pay6_apply _ _ x).trans ?_
  rw [G_5 _ _ _ _ _ _ _ (x 1) ⟨1024 * (t.val - 2) + (x 2).val, by omega⟩ p1 (by show _ = 2048 + (1024 * (t.val - 2) + (x 2).val); omega)]
  refine Finset.sum_congr rfl fun k _ => ?_
  congr 1
  · rw [← u_eq m c]
    blk_ext [iblk, idx t]
  · rw [← dlg_eq m c]
    blk_ext [iblk, idx t]

/-- What the first point leaves in the result's block. -/
theorem after_A (c : Dev nD) (t : Fin cfg0.N) (h0 : t.val % 4 = 0) (y : S1x1024x1024.Idx) (i : S4x1024x1024.Idx) (p0 : (i 0).val = t.val)
    (p1 : (i 1).val = (y 1).val) (p2 : (i 2).val = (y 2).val) : (dats m 0 c).after 6 t y = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  have hN : t.val < 4 := t.isLt
  rw [after0_6, outsAt0_A m c t h0 (by omega) (by omega)]
  frame_out
  canon_tiles x h
  · exact tile_dq m c t x i (by omega) (by omega) (by omega)
  · exact tile_dxp m c t x i (by omega) (by omega) (by omega)

/-- What the second point leaves in the result's block. -/
theorem after_B (c : Dev nD) (t : Fin cfg0.N) (h1 : t.val % 4 = 1) (y : S1x1024x1024.Idx) (i : S4x1024x1024.Idx) (p0 : (i 0).val = t.val)
    (p1 : (i 1).val = (y 1).val) (p2 : (i 2).val = (y 2).val) : (dats m 0 c).after 6 t y = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  have hN : t.val < 4 := t.isLt
  rw [after0_6, outsAt0_B m c t (by omega) h1 (by omega)]
  frame_out
  canon_tiles x h
  · exact tile_dv m c t x i (by omega) (by omega) (by omega)
  · exact tile_dk m c t x i (by omega) (by omega) (by omega)

/-- What the last two points leave in the result's block. -/
theorem after_C (c : Dev nD) (t : Fin cfg0.N) (h2 : 2 ≤ t.val) (y : S1x1024x1024.Idx) (i : S4x1024x1024.Idx) (p0 : (i 0).val = t.val)
    (p1 : (i 1).val = (y 1).val) (p2 : (i 2).val = (y 2).val) : (dats m 0 c).after 6 t y = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  have hN : t.val < 4 := t.isLt
  rw [after0_6, outsAt0_C m c t (by omega) (by omega) h2]
  frame_out
  exact tile_dlg m c t h2 y i p0 p1 p2

/-- The result array after the run. -/
theorem out_eq (c : Dev nD) : (dats m 0 c).arrAt 6 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  have hN : t.val < 4 := t.isLt
  obtain ⟨p0, p1, p2⟩ := place t y
  by_cases h0 : t.val % 4 = 0
  · exact after_A m c t h0 y _ p0 p1 p2
  · by_cases h1 : t.val % 4 = 1
    · exact after_B m c t h1 y _ p0 p1 p2
    · exact after_C m c t (by omega) y _ p0 p1 p2

end Cert.ProjIdeal.Sum

namespace Cert.Proof.Proj

open Cert.ProjRefIdeal Cert.ProjRefIdeal.Read Cert.ProjIdeal.Sum

/-- The reference's result is the same sum. -/
theorem ref_eq (x0 : S2048x1024.Idx → EReal) (x1 x2 x3 x4 : S2048x512.Idx → EReal) (x5 : S2048x2048.Idx → EReal) :
    val_main_v7 (F := Ideal) x0 x1 x2 x3 x4 x5 = G x0 x1 x2 x3 x4 x5 := by
  funext i
  rw [val_main_v7_apply, val_main_v6_apply, val_main_v5_apply, val_main_v4_apply]
  refine (val_main_v3_apply x0 x1 x2 x3 x4 x5 _).trans ?_
  unfold G
  refine Finset.sum_congr rfl fun k _ => ?_
  rw [mul_comm]
  have h0 : (i 0).val < 4 := (i 0).isLt
  have h2 : (i 2).val < 1024 := (i 2).isLt
  congr 1
  · refine congrArg x0 (funext fun a => Fin.ext ?_)
    match a with
    | ⟨0, _⟩ => rfl
    | ⟨1, _⟩ =>
      show (((i 1).val * 4 + (i 0).val) * 1024 + (i 2).val) / 4096 = (i 1).val
      omega
  · refine congrArg (cat x1 x2 x3 x4 x5) (funext fun a => Fin.ext ?_)
    match a with
    | ⟨0, _⟩ => rfl
    | ⟨1, _⟩ =>
      show (((i 1).val * 4 + (i 0).val) * 1024 + (i 2).val) % 4096 = 1024 * (i 0).val + (i 2).val
      omega

/-- The reference ends with its arguments unchanged and every semaphore counter at zero. -/
theorem frame : Cert.quiescent_ProjRefIdeal (hProjRefIdeal := Cert.ProjRefIdeal.Gen.facts) := fun m ρ _ =>
  (θ_run Cert.ProjRefIdeal.defs _ _).mono
    (fun r h => ⟨fun c => (h c).2, Idealize.ShloMosaic.sem_eq_zero_of_no_sems (by decide) r.2⟩)
    (Cert.ProjRefIdeal.Value.run (F := Ideal) m ρ)

/-- Kernel and reference end with equal gradients, from any arguments on which the two agree. -/
theorem algebraic : Cert.algebraic_ProjIdeal_ProjRefIdeal
    (hProjIdeal := Cert.ProjIdeal.Gen.facts) (hProjRefIdeal := Cert.ProjRefIdeal.Gen.facts) := fun m g m' g' _ agree => by
  refine ⟨_, Cert.ProjIdeal.Value.run_blocks m g, ?_⟩
  refine (θ_run Cert.ProjRefIdeal.defs _ _).mono (fun r h c => ?_) (Cert.ProjRefIdeal.Value.run (F := Ideal) m' g')
  obtain ⟨h0, hr⟩ := h c
  obtain ⟨a0, a1, a2, a3, a4, a5⟩ := agree c
  refine ⟨h0.trans ?_, hr⟩
  rw [val_main_v7_eq, a0, a1, a2, a3, a4, a5, ref_eq]
  exact (out_eq m c).symm

end Cert.Proof.Proj

end
-- ==== Proof.Branch.lean ====
/-
  `_wgrad_branches`: the gradients of the four weights of the two branches' outputs, the group mixing of the pooled branch
  and the layer's output product.  Each element is a sum over the 2048 rows of a product of one column of the forward
  operand and one column of the gradient.
-/
module

public import proofs.«01_k».proof.Defs
public import proofs.«01_k».proof.Proof.Gen.Branch
public import proofs.«01_k».proof.Proof.Gen.Branch.Frame
public import proofs.«01_k».proof.Proof.Gen.BranchIdeal
public import proofs.«01_k».proof.Proof.Gen.BranchIdeal.Frame
public import proofs.«01_k».proof.Proof.Gen.BranchIdeal.Value
public import proofs.«01_k».proof.Proof.Gen.BranchRefIdeal
public import proofs.«01_k».proof.Proof.Gen.BranchRefIdeal.Run
public import proofs.«01_k».proof.Proof.Gen.BranchRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.BranchIdeal.Sum

open Cert.BranchIdeal Cert.BranchIdeal.Gen

variable (m : (ℓ : Loc nD τ sig) → Buf (Elt Ideal) ℓ)

/-- The window of operand 0 reads argument 0: over the reals the host's cast is the identity. -/
theorem p_eq (c : Dev nD) : V m c main_v0 = m ((c : Thread nD τ).loc main_arg0) := by
  show StableHlo.after _ _ (Proc.devRef .tc main_v0) = _
  simp only [hostOps0, List.flatten_cons, List.flatten_nil, List.append_nil, List.cons_append, List.nil_append]
  after_results
  rfl

/-- The window of operand 1 reads argument 1: over the reals the host's cast is the identity. -/
theorem dyp_eq (c : Dev nD) : V m c main_v1 = m ((c : Thread nD τ).loc main_arg1) := by
  show StableHlo.after _ _ (Proc.devRef .tc main_v1) = _
  simp only [hostOps0, List.flatten_cons, List.flatten_nil, List.append_nil, List.cons_append, List.nil_append]
  after_results
  rfl

/-- The window of operand 2 reads argument 2: over the reals the host's cast is the identity. -/
theorem o_eq (c : Dev nD) : V m c main_v2 = m ((c : Thread nD τ).loc main_arg2) := by
  show StableHlo.after _ _ (Proc.devRef .tc main_v2) = _
  simp only [hostOps0, List.flatten_cons, List.flatten_nil, List.append_nil, List.cons_append, List.nil_append]
  after_results
  rfl

/-- The window of operand 3 reads argument 3: over the reals the host's cast is the identity. -/
theorem dys_eq (c : Dev nD) : V m c main_v3 = m ((c : Thread nD τ).loc main_arg3) := by
  show StableHlo.after _ _ (Proc.devRef .tc main_v3) = _
  simp only [hostOps0, List.flatten_cons, List.flatten_nil, List.append_nil, List.cons_append, List.nil_append]
  after_results
  rfl

/-- The window of operand 4 reads argument 4: over the reals the host's cast is the identity. -/
theorem pm_eq (c : Dev nD) : V m c main_v4 = m ((c : Thread nD τ).loc main_arg4) := by
  show StableHlo.after _ _ (Proc.devRef .tc main_v4) = _
  simp only [hostOps0, List.flatten_cons, List.flatten_nil, List.append_nil, List.cons_append, List.nil_append]
  after_results
  rfl

/-- The window of operand 5 reads argument 5: over the reals the host's cast is the identity. -/
theorem dyg_eq (c : Dev nD) : V m c main_v5 = m ((c : Thread nD τ).loc main_arg5) := by
  show StableHlo.after _ _ (Proc.devRef .tc main_v5) = _
  simp only [hostOps0, List.flatten_cons, List.flatten_nil, List.append_nil, List.cons_append, List.nil_append]
  after_results
  rfl

/-- The window of operand 6 reads argument 6: over the reals the host's cast is the identity. -/
theorem mm_eq (c : Dev nD) : V m c main_v6 = m ((c : Thread nD τ).loc main_arg6) := by
  show StableHlo.after _ _ (Proc.devRef .tc main_v6) = _
  simp only [hostOps0, List.flatten_cons, List.flatten_nil, List.append_nil, List.cons_append, List.nil_append]
  after_results
  rfl

/-- The window of operand 7 reads argument 7. -/
theorem dh_eq (c : Dev nD) : V m c main_arg7 = m ((c : Thread nD τ).loc main_arg7) := V_main_arg7 m c

/-- Which block each window reads or writes at a point. -/
theorem idx : ∀ t : Fin cfg0.N, win0_0.index t = ![0, 0] ∧ win0_1.index t = ![0, t.val] ∧ win0_2.index t = ![0, 0] ∧ win0_3.index t = ![0, t.val]
    ∧ win0_4.index t = ![0, t.val] ∧ win0_5.index t = ![0, t.val] ∧ win0_6.index t = ![0, 0] ∧ win0_7.index t = ![0, t.val]
    ∧ win0_8.index t = ![t.val, 0, 0] ∧ win0_9.index t = ![t.val, 0, 0] ∧ win0_10.index t = ![t.val, 0, 0] ∧ win0_11.index t = ![0, t.val] :=
  (by decide +kernel : ∀ t : Fin grid0.N, win0_0.index t = ![0, 0] ∧ win0_1.index t = ![0, t.val] ∧ win0_2.index t = ![0, 0] ∧ win0_3.index t = ![0, t.val]
    ∧ win0_4.index t = ![0, t.val] ∧ win0_5.index t = ![0, t.val] ∧ win0_6.index t = ![0, 0] ∧ win0_7.index t = ![0, t.val]
    ∧ win0_8.index t = ![t.val, 0, 0] ∧ win0_9.index t = ![t.val, 0, 0] ∧ win0_10.index t = ![t.val, 0, 0] ∧ win0_11.index t = ![0, t.val])

/-- The pooled branch's block of the gradient at an index. -/
theorem pay2_apply (a : Vec Ideal S2048x512 .bf16) (b : Vec Ideal S2048x256 .bf16) (y : S1x512x256.Idx) :
    k0_pay2 (F := Ideal) a b y = ∑ k : Fin 2048, a (ix2 k (y 1)) * b (ix2 k (y 2)) := by
  rw [ValueIdx.eq_ix3 y]
  pointwise [k0_pay2]

/-- The attention branch's block of the gradient at an index. -/
theorem pay3_apply (a : Vec Ideal S2048x512 .bf16) (b : Vec Ideal S2048x256 .bf16) (y : S1x512x256.Idx) :
    k0_pay3 (F := Ideal) a b y = ∑ k : Fin 2048, a (ix2 k (y 1)) * b (ix2 k (y 2)) := by
  rw [ValueIdx.eq_ix3 y]
  pointwise [k0_pay3]

/-- One group's gradient at an index. -/
theorem pay4_apply (a : Vec Ideal S2048x128 .bf16) (b : Vec Ideal S2048x128 .bf16) (y : S1x128x128.Idx) :
    k0_pay4 (F := Ideal) a b y = ∑ k : Fin 2048, a (ix2 k (y 1)) * b (ix2 k (y 2)) := by
  rw [ValueIdx.eq_ix3 y]
  pointwise [k0_pay4]

/-- The output product's block of the gradient at an index. -/
theorem pay1_apply (a : Vec Ideal S2048x1024 .bf16) (b : Vec Ideal S2048x256 .f32) (y : S1024x256.Idx) :
    k0_pay1 (F := Ideal) (k0_pay5 a) b y = ∑ k : Fin 2048, a (ix2 k (y 0)) * b (ix2 k (y 1)) := by
  rw [ValueIdx.eq_ix2 y]
  pointwise [k0_pay1, k0_pay5]

/-- The gradient of a weight from 512 columns to 1024, in four column blocks. -/
def Gcols (x0 : S2048x512.Idx → EReal) (x1 : S2048x1024.Idx → EReal) : S4x512x256.Idx → EReal := fun i =>
  ∑ k : Fin 2048, x0 (ix2 k (i 1)) * x1 (ix2 k ⟨256 * (i 0).val + (i 2).val, by
    have h0 : (i 0).val < 4 := (i 0).isLt; have h2 : (i 2).val < 256 := (i 2).isLt; omega⟩)

/-- The gradients of the four groups' weights, each from its 128 columns to its 128 columns. -/
def Ggroup (x0 x1 : S2048x512.Idx → EReal) : S4x128x128.Idx → EReal := fun i =>
  ∑ k : Fin 2048, x0 (ix2 k ⟨128 * (i 0).val + (i 1).val, by
    have h0 : (i 0).val < 4 := (i 0).isLt; have h1 : (i 1).val < 128 := (i 1).isLt; omega⟩) * x1 (ix2 k ⟨128 * (i 0).val + (i 2).val, by
    have h0 : (i 0).val < 4 := (i 0).isLt; have h2 : (i 2).val < 128 := (i 2).isLt; omega⟩)

/-- The gradient of the output product's weight. -/
def Gout (x0 x1 : S2048x1024.Idx → EReal) : S1024x1024.Idx → EReal := fun i =>
  ∑ k : Fin 2048, x0 (ix2 k (i 0)) * x1 (ix2 k (i 1))

/-- Result 0 after the run. -/
theorem pool_out (c : Dev nD) : (dats m 0 c).arrAt 8 cfg0.N = Gcols (m ((c : Thread nD τ).loc main_arg0)) (m ((c : Thread nD τ).loc main_arg1)) := by
  refine (dats m 0 c).arrAt_eq_of_covers 8 _ (by decide +kernel) fun t hf y => ?_
  blk_simp
  rw [after0_8]
  frame_out
  refine (pay2_apply _ _ y).trans ?_
  unfold Gcols
  refine Finset.sum_congr rfl fun k _ => ?_
  congr 1
  · rw [← p_eq m c]
    blk_ext [iblk, idx t]
  · rw [← dyp_eq m c]
    blk_ext [iblk, idx t]

/-- Result 1 after the run. -/
theorem attn_out (c : Dev nD) : (dats m 0 c).arrAt 9 cfg0.N = Gcols (m ((c : Thread nD τ).loc main_arg2)) (m ((c : Thread nD τ).loc main_arg3)) := by
  refine (dats m 0 c).arrAt_eq_of_covers 9 _ (by decide +kernel) fun t hf y => ?_
  blk_simp
  rw [after0_9]
  frame_out
  refine (pay3_apply _ _ y).trans ?_
  unfold Gcols
  refine Finset.sum_congr rfl fun k _ => ?_
  congr 1
  · rw [← o_eq m c]
    blk_ext [iblk, idx t]
  · rw [← dys_eq m c]
    blk_ext [iblk, idx t]

/-- Result 2 after the run. -/
theorem group_out (c : Dev nD) : (dats m 0 c).arrAt 10 cfg0.N = Ggroup (m ((c : Thread nD τ).loc main_arg4)) (m ((c : Thread nD τ).loc main_arg5)) := by
  refine (dats m 0 c).arrAt_eq_of_covers 10 _ (by decide +kernel) fun t hf y => ?_
  blk_simp
  rw [after0_10]
  frame_out
  refine (pay4_apply _ _ y).trans ?_
  unfold Ggroup
  refine Finset.sum_congr rfl fun k _ => ?_
  congr 1
  · rw [← pm_eq m c]
    blk_ext [iblk, idx t]
  · rw [← dyg_eq m c]
    blk_ext [iblk, idx t]

/-- Result 3 after the run. -/
theorem mix_out (c : Dev nD) : (dats m 0 c).arrAt 11 cfg0.N = Gout (m ((c : Thread nD τ).loc main_arg6)) (m ((c : Thread nD τ).loc main_arg7)) := by
  refine (dats m 0 c).arrAt_eq_of_covers 11 _ (by decide +kernel) fun t hf y => ?_
  blk_simp
  rw [after0_11]
  frame_out
  refine (pay1_apply _ _ y).trans ?_
  unfold Gout
  refine Finset.sum_congr rfl fun k _ => ?_
  congr 1
  · rw [← mm_eq m c]
    blk_ext [iblk, idx t]
  · rw [← dh_eq m c]
    blk_ext [iblk, idx t]

end Cert.BranchIdeal.Sum

namespace Cert.Proof.Branch

open Cert.BranchRefIdeal Cert.BranchRefIdeal.Read Cert.BranchIdeal.Sum

/-- The reference's result is the same sum. -/
theorem ref_pool (x y : _) : val_main_v6 (F := Ideal) x y = Gcols x y := by
  funext i
  rw [val_main_v6_apply, val_main_v5_apply, val_main_v4_apply, val_main_v3_apply]
  refine (val_main_v2_apply x y _).trans ?_
  unfold Gcols
  refine Finset.sum_congr rfl fun k _ => ?_
  rw [mul_comm]
  have h0 : (i 0).val < 4 := (i 0).isLt
  have h2 : (i 2).val < 256 := (i 2).isLt
  congr 1
  · refine congrArg x (funext fun a => Fin.ext ?_)
    match a with
    | ⟨0, _⟩ => rfl
    | ⟨1, _⟩ =>
      show (((i 1).val * 4 + (i 0).val) * 256 + (i 2).val) / 1024 = (i 1).val
      omega
  · refine congrArg y (funext fun a => Fin.ext ?_)
    match a with
    | ⟨0, _⟩ => rfl
    | ⟨1, _⟩ =>
      show (((i 1).val * 4 + (i 0).val) * 256 + (i 2).val) % 1024 = 256 * (i 0).val + (i 2).val
      omega

/-- The reference's result is the same sum. -/
theorem ref_attn (x y : _) : val_main_v13 (F := Ideal) x y = Gcols x y := by
  funext i
  rw [val_main_v13_apply, val_main_v12_apply, val_main_v11_apply, val_main_v10_apply]
  refine (val_main_v9_apply x y _).trans ?_
  unfold Gcols
  refine Finset.sum_congr rfl fun k _ => ?_
  rw [mul_comm]
  have h0 : (i 0).val < 4 := (i 0).isLt
  have h2 : (i 2).val < 256 := (i 2).isLt
  congr 1
  · refine congrArg x (funext fun a => Fin.ext ?_)
    match a with
    | ⟨0, _⟩ => rfl
    | ⟨1, _⟩ =>
      show (((i 1).val * 4 + (i 0).val) * 256 + (i 2).val) / 1024 = (i 1).val
      omega
  · refine congrArg y (funext fun a => Fin.ext ?_)
    match a with
    | ⟨0, _⟩ => rfl
    | ⟨1, _⟩ =>
      show (((i 1).val * 4 + (i 0).val) * 256 + (i 2).val) % 1024 = 256 * (i 0).val + (i 2).val
      omega

/-- The reference's gradients of the groups' weights are the same sums. -/
theorem ref_group (x y : S2048x512.Idx → EReal) : val_main_v22 (F := Ideal) x y = Ggroup x y := by
  funext i
  rw [val_main_v22_apply]
  refine (val_main_v21_apply x y _).trans ?_
  unfold Ggroup
  refine Finset.sum_congr rfl fun k _ => ?_
  rw [mul_comm, val_main_v20_apply, val_main_v19_apply, val_main_v15_apply]
  have h0 : (i 0).val < 4 := (i 0).isLt
  have h1 : (i 1).val < 128 := (i 1).isLt
  have h2 : (i 2).val < 128 := (i 2).isLt
  have hk : k.val < 2048 := k.isLt
  congr 1
  · refine congrArg x (funext fun a => Fin.ext ?_)
    match a with
    | ⟨0, _⟩ =>
      show ((k.val * 4 + (i 0).val) * 128 + (i 1).val) / 512 = k.val
      omega
    | ⟨1, _⟩ =>
      show ((k.val * 4 + (i 0).val) * 128 + (i 1).val) % 512 = 128 * (i 0).val + (i 1).val
      omega
  · refine congrArg y (funext fun a => Fin.ext ?_)
    match a with
    | ⟨0, _⟩ =>
      show ((k.val * 4 + (i 0).val) * 128 + (i 2).val) / 512 = k.val
      omega
    | ⟨1, _⟩ =>
      show ((k.val * 4 + (i 0).val) * 128 + (i 2).val) % 512 = 128 * (i 0).val + (i 2).val
      omega

/-- The reference's gradient of the output product's weight is the same sum. -/
theorem ref_mix (x y : S2048x1024.Idx → EReal) : val_main_v27 (F := Ideal) x y = Gout x y := by
  funext i
  rw [val_main_v27_apply, val_main_v26_apply]
  refine (val_main_v25_apply x y _).trans ?_
  unfold Gout
  refine Finset.sum_congr rfl fun k _ => ?_
  rw [mul_comm]
  congr 1
  · refine congrArg x (funext fun a => Fin.ext ?_)
    match a with
    | ⟨0, _⟩ => rfl
    | ⟨1, _⟩ => rfl
  · refine congrArg y (funext fun a => Fin.ext ?_)
    match a with
    | ⟨0, _⟩ => rfl
    | ⟨1, _⟩ => rfl

/-- The reference ends with its arguments unchanged and every semaphore counter at zero. -/
theorem frame : Cert.quiescent_BranchRefIdeal (hBranchRefIdeal := Cert.BranchRefIdeal.Gen.facts) := fun m ρ _ =>
  (θ_run Cert.BranchRefIdeal.defs _ _).mono
    (fun r h => ⟨fun c => (h c).2.2.2.2, Idealize.ShloMosaic.sem_eq_zero_of_no_sems (by decide) r.2⟩)
    (Cert.BranchRefIdeal.Value.run (F := Ideal) m ρ)

/-- Kernel and reference end with equal gradients, from any arguments on which the two agree. -/
theorem algebraic : Cert.algebraic_BranchIdeal_BranchRefIdeal
    (hBranchIdeal := Cert.BranchIdeal.Gen.facts) (hBranchRefIdeal := Cert.BranchRefIdeal.Gen.facts) := fun m g m' g' _ agree => by
  refine ⟨_, _, _, _, Cert.BranchIdeal.Value.run_blocks m g, ?_⟩
  refine (θ_run Cert.BranchRefIdeal.defs _ _).mono (fun r h c => ?_) (Cert.BranchRefIdeal.Value.run (F := Ideal) m' g')
  obtain ⟨h0, h1, h2, h3, hr⟩ := h c
  obtain ⟨a0, a1, a2, a3, a4, a5, a6, a7⟩ := agree c
  refine ⟨h0.trans ?_, h1.trans ?_, h2.trans ?_, h3.trans ?_, hr⟩
  · rw [val_main_v6_eq, a0, a1, ref_pool]
    exact (pool_out m c).symm
  · rw [val_main_v13_eq, a2, a3, ref_attn]
    exact (attn_out m c).symm
  · rw [val_main_v22_eq, a4, a5, ref_group]
    exact (group_out m c).symm
  · rw [val_main_v27_eq, a6, a7, ref_mix]
    exact (mix_out m c).symm

end Cert.Proof.Branch

end
-- ==== Proof.Gated.lean ====
/-
  The half that scales a feed-forward branch, the logistic function as the host spells it, and extended reals that are real numbers.
-/
module

public import Idealize.ShloMosaic.PureOps.Ideal
public import Idealize.ShloMosaic.PureOps.Ideal.Laws
public import Idealize.ShloMosaic.Lib.IdealHost

@[expose] public section

noncomputable section

namespace Cert.Gated

open Idealize.ShloMosaic

/-- A half, as the programs spell it. -/
abbrev half : EReal := Ideal.ofBits FTy.f32 1056964608#32

/-- It is the real number one half. -/
theorem half_eq : half = ((1 / 2 : ℝ) : EReal) := by
  simp [Ideal.ofBits, Ideal.ieee, -EReal.coe_mul]; norm_num

/-- Halving distributes over a sum of any extended reals. -/
theorem half_mul_add (x y : EReal) : half * (x + y) = half * x + half * y := by
  rw [half_eq]
  exact EReal.left_distrib_of_nonneg_of_ne_top (by exact_mod_cast (by norm_num : (0 : ℝ) ≤ 1 / 2)) (EReal.coe_ne_top _) x y

theorem half_mul_sum {ι : Type} (s : Finset ι) (f : ι → EReal) : half * ∑ k ∈ s, f k = ∑ k ∈ s, half * f k := by
  classical
  induction s using Finset.induction_on with
  | empty => simp
  | insert a s ha ih => rw [Finset.sum_insert ha, Finset.sum_insert ha, half_mul_add, ih]

/-- The host's `1 / (1 + exp (−g))` is the logistic function. -/
theorem logistic_eq (g : EReal) : FloatOps.hostDivf (F := Ideal) (φ := .f32) (FloatOps.ofBits (F := Ideal) .f32 0x3F800000#32)
    (FloatOps.addf (F := Ideal) (φ := .f32) (FloatOps.ofBits (F := Ideal) .f32 0x3F800000#32)
      (FloatOps.hostUnary (F := Ideal) (φ := .f32) .exp (FloatOps.hostNegf (F := Ideal) (φ := .f32) g))) = Ideal.logistic g := by
  show Ideal.div (Ideal.ofBits .f32 0x3F800000#32) (Ideal.ofBits .f32 0x3F800000#32 + Ideal.exp (-g)) = _
  rw [Ideal.ofBits_one_f32]
  rfl

/-! ## Real numbers among the extended reals -/

/-- `x` is a real number. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type} (s : Finset ι) (f : ι → EReal) (h : ∀ k, IsReal (f k)) : IsReal (∑ k ∈ s, f k) := by
  classical
  induction s using Finset.induction_on with
  | empty => exact ⟨0, by simp⟩
  | insert a s ha ih => rw [Finset.sum_insert ha]; exact (h a).add ih

theorem isReal_half : IsReal half := ⟨_, half_eq⟩

/-- The gate's gradient: the product rule's two terms and their factored form agree on real numbers. -/
theorem gate_eq {d u g : EReal} (hd : IsReal d) (hu : IsReal u) (hg : IsReal g) :
    d * u * Ideal.logistic g + g * (d * u) * (Ideal.logistic g * (1 - Ideal.logistic g))
      = d * u * (Ideal.logistic g * (1 + g * (1 - Ideal.logistic g))) := by
  obtain ⟨a, rfl⟩ := hd
  obtain ⟨b, rfl⟩ := hu
  obtain ⟨c, rfl⟩ := hg
  rw [Ideal.logistic_coe]
  generalize (1 + Real.exp (-c))⁻¹ = l
  have e : ((1 : EReal)) = ((1 : ℝ) : EReal) := rfl
  rw [e]
  simp only [← EReal.coe_mul, ← EReal.coe_add, ← EReal.coe_sub]
  exact congrArg _ (by ring)

end Cert.Gated

end
-- ==== Proof.Staged.lean ====
/-
  A scratch buffer that the first point of a grid fills by copies and that every later point reads: what a load of it gives, and what
  it holds, when every copy lands a block of one array.
-/
module

public import Idealize.ShloMosaic.Lib.Pipeline.ValueKit
public import Idealize.ShloMosaic.Lib.Pipeline.ReadBack

@[expose] public section

noncomputable section

namespace Cert.Staged

open Idealize.ShloMosaic

variable {sig : RefSig} {κ : Kind} {sp : Space} {s : Shape} {e : EltTy} {Val : EltTy → Type} [∀ e, Nonempty (Val e)]

/-- Pieces that are blocks of `G` and cover the buffer leave `G` in it. -/
theorem canon_eq (G : s.Idx → Val e) (L : List (View.Piece Val s e)) (h : View.PiecesOf G L) (hc : ∀ y : s.Idx, ∃ p ∈ L, y ∈ p.1.set) :
    View.canon L = G := funext fun y => by
  have := View.canon_append_of_piecesOf G [] L h y (hc y)
  rwa [List.append_nil] at this

/-- A load of a buffer that blocks of `G` fill is the load of `G`. -/
theorem readCov_eq (v : View sig κ sp s e) (G : s.Idx → Val e) (L : List (View.Piece Val s e)) (r : Rect s) (h : View.PiecesOf G L)
    (hc : ∀ y : s.Idx, ∃ p ∈ L, y ∈ p.1.set) : v.readCov L r.toLoadRect = View.ld G r := by
  rw [View.readCov_eq_canon', canon_eq G L h hc]

end Cert.Staged
-- ==== Proof.Ffn1.lean ====
module

public import proofs.«01_k».proof.Defs
public import proofs.«01_k».proof.Proof.Gen.Ffn1
public import proofs.«01_k».proof.Proof.Gen.Ffn1.Frame
public import proofs.«01_k».proof.Proof.Gen.Ffn1Ideal
public import proofs.«01_k».proof.Proof.Gen.Ffn1Ideal.Frame
public import proofs.«01_k».proof.Proof.Gen.Ffn1Ideal.Value
public import proofs.«01_k».proof.Proof.Gen.Ffn1RefIdeal
public import proofs.«01_k».proof.Proof.Gen.Ffn1RefIdeal.Run
public import proofs.«01_k».proof.Proof.Gen.Ffn1RefIdeal.Read
public import proofs.«01_k».proof.Proof.Gated
public import proofs.«01_k».proof.Proof.Staged
public import Idealize.ShloMosaic.Lib.ValueLayout
public import Idealize.ShloMosaic.Lib.Quiescent
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Ffn1Ideal.Sum

open Cert.Ffn1Ideal Cert.Ffn1Ideal.Gen

variable (m : (ℓ : Loc nD τ sig) → Buf (Elt Ideal) ℓ)

/-! ## The scratch buffers: the weights, whole -/

/-- The columns of an array held in four shards, laid side by side. -/
def wide (X : S4x1024x1408.Idx → EReal) (i : S1024x5632.Idx) : EReal :=
  X (ix3 (⟨(i 1).val / 1408, by have : (i 1).val < 5632 := (i 1).isLt; omega⟩ : Fin 4) (i 0)
    (⟨(i 1).val % 1408, Nat.mod_lt _ (by decide)⟩ : Fin 1408))

/-- A run of columns of one shard is a run of columns of the wide array. -/
theorem shard_piece (X : S4x1024x1408.Idx → EReal) (d o w C : ℕ) (inb : ∀ a, (![d, 0, o] : Fin 3 → ℕ) a + (![1, 1024, w] : Fin 3 → ℕ) a ≤ S4x1024x1408.size a)
    (inb' : ∀ a, (![0, C] : Fin 2 → ℕ) a + (![1024, w] : Fin 2 → ℕ) a ≤ S1024x5632.size a)
    (h : (⟨2, ![1024, w]⟩ : Shape).numel = (⟨3, ![1, 1024, w]⟩ : Shape).numel) (hC : C = 1408 * d + o) (hw : o + w ≤ 1408)
    (x : (⟨2, ![1024, w]⟩ : Shape).Idx) :
    X ((Rect.unit (s := S4x1024x1408) ![d, 0, o] ![1, 1024, w] inb).emb (Shape.reshapeEquiv h x))
      = wide X ((Rect.unit (s := S1024x5632) ![0, C] ![1024, w] inb').emb x) := by
  have hx : (x 1).val < w := (x 1).isLt
  have h1 : C + (x 1).val = (o + (x 1).val) + 1408 * d := by omega
  have e : Shape.reshapeEquiv h x = ix3 (0 : Fin 1) (x 0) (x 1) :=
    (congrArg (Shape.reshapeEquiv h) (ValueIdx.eq_ix2 x)).trans (ValueIdx.reshapeEquiv_ix2_1ab h (x 0) (x 1))
  rw [e]
  refine congrArg X (funext fun a => Fin.ext ?_)
  match a with
  | ⟨0, _⟩ =>
    show d + 1 * 0 = (C + 1 * (x 1).val) / 1408
    omega
  | ⟨1, _⟩ => rfl
  | ⟨2, _⟩ =>
    show o + 1 * (x 1).val = (C + 1 * (x 1).val) % 1408
    omega

/-- Shard 3's columns from 128. -/
theorem piece_4352 (X : S4x1024x1408.Idx → EReal) (x : S1024x1280.Idx) :
    (ReadAs.same (Val := Elt Ideal)).apply (View.read (Elt Ideal) (((View.whole main_v2).slice (Rect.unit (s := S4x1024x1408) ![3, 0, 128] S1x1024x1280.size inb_S4x1024x1408_S1x1024x1280_3_0_128)).reshape
      S1024x1280 squeezes_S1x1024x1280_S1024x1280.numel_eq) X) x = wide X ((Rect.unit (s := S1024x5632) ![0, 4352] S1024x1280.size inb_S1024x5632_S1024x1280_0_4352).emb x) :=
  shard_piece X 3 128 1280 4352 inb_S4x1024x1408_S1x1024x1280_3_0_128 inb_S1024x5632_S1024x1280_0_4352 squeezes_S1x1024x1280_S1024x1280.numel_eq rfl (by decide) x

/-- Shard 1's columns from 128. -/
theorem piece_1536 (X : S4x1024x1408.Idx → EReal) (x : S1024x1280.Idx) :
    (ReadAs.same (Val := Elt Ideal)).apply (View.read (Elt Ideal) (((View.whole main_v2).slice (Rect.unit (s := S4x1024x1408) ![1, 0, 128] S1x1024x1280.size inb_S4x1024x1408_S1x1024x1280_1_0_128)).reshape
      S1024x1280 squeezes_S1x1024x1280_S1024x1280.numel_eq) X) x = wide X ((Rect.unit (s := S1024x5632) ![0, 1536] S1024x1280.size inb_S1024x5632_S1024x1280_0_1536).emb x) :=
  shard_piece X 1 128 1280 1536 inb_S4x1024x1408_S1x1024x1280_1_0_128 inb_S1024x5632_S1024x1280_0_1536 squeezes_S1x1024x1280_S1024x1280.numel_eq rfl (by decide) x

/-- Shard 3's columns from 0. -/
theorem piece_4224 (X : S4x1024x1408.Idx → EReal) (x : S1024x128.Idx) :
    (ReadAs.same (Val := Elt Ideal)).apply (View.read (Elt Ideal) (((View.whole main_v2).slice (Rect.unit (s := S4x1024x1408) ![3, 0, 0] S1x1024x128.size inb_S4x1024x1408_S1x1024x128_3_0_0)).reshape
      S1024x128 squeezes_S1x1024x128_S1024x128.numel_eq) X) x = wide X ((Rect.unit (s := S1024x5632) ![0, 4224] S1024x128.size inb_S1024x5632_S1024x128_0_4224).emb x) :=
  shard_piece X 3 0 128 4224 inb_S4x1024x1408_S1x1024x128_3_0_0 inb_S1024x5632_S1024x128_0_4224 squeezes_S1x1024x128_S1024x128.numel_eq rfl (by decide) x

/-- Shard 2's columns from 0. -/
theorem piece_2816 (X : S4x1024x1408.Idx → EReal) (x : S1024x1408.Idx) :
    (ReadAs.same (Val := Elt Ideal)).apply (View.read (Elt Ideal) (((View.whole main_v2).slice (Rect.unit (s := S4x1024x1408) ![2, 0, 0] S1x1024x1408.size inb_S4x1024x1408_S1x1024x1408_2_0_0)).reshape
      S1024x1408 squeezes_S1x1024x1408_S1024x1408.numel_eq) X) x = wide X ((Rect.unit (s := S1024x5632) ![0, 2816] S1024x1408.size inb_S1024x5632_S1024x1408_0_2816).emb x) :=
  shard_piece X 2 0 1408 2816 inb_S4x1024x1408_S1x1024x1408_2_0_0 inb_S1024x5632_S1024x1408_0_2816 squeezes_S1x1024x1408_S1024x1408.numel_eq rfl (by decide) x

/-- Shard 1's columns from 0. -/
theorem piece_1408 (X : S4x1024x1408.Idx → EReal) (x : S1024x128.Idx) :
    (ReadAs.same (Val := Elt Ideal)).apply (View.read (Elt Ideal) (((View.whole main_v2).slice (Rect.unit (s := S4x1024x1408) ![1, 0, 0] S1x1024x128.size inb_S4x1024x1408_S1x1024x128_1_0_0)).reshape
      S1024x128 squeezes_S1x1024x128_S1024x128.numel_eq) X) x = wide X ((Rect.unit (s := S1024x5632) ![0, 1408] S1024x128.size inb_S1024x5632_S1024x128_0_1408).emb x) :=
  shard_piece X 1 0 128 1408 inb_S4x1024x1408_S1x1024x128_1_0_0 inb_S1024x5632_S1024x128_0_1408 squeezes_S1x1024x128_S1024x128.numel_eq rfl (by decide) x

/-- Shard 0's columns from 0. -/
theorem piece_0 (X : S4x1024x1408.Idx → EReal) (x : S1024x1408.Idx) :
    (ReadAs.same (Val := Elt Ideal)).apply (View.read (Elt Ideal) (((View.whole main_v2).slice (Rect.unit (s := S4x1024x1408) ![0, 0, 0] S1x1024x1408.size inb_S4x1024x1408_S1x1024x1408_0_0_0)).reshape
      S1024x1408 squeezes_S1x1024x1408_S1024x1408.numel_eq) X) x = wide X ((Rect.unit (s := S1024x5632) ![0, 0] S1024x1408.size inb_S1024x5632_S1024x1408_0_0).emb x) :=
  shard_piece X 0 0 1408 0 inb_S4x1024x1408_S1x1024x1408_0_0_0 inb_S1024x5632_S1024x1408_0_0 squeezes_S1x1024x1408_S1024x1408.numel_eq rfl (by decide) x

/-- The scratch buffers hold the weights after every point. -/
theorem held (c : Dev nD) : ∀ (n : ℕ) (h : n < cfg0.N), (outsAt0 m c n h).2.2.2.2 = (wide (V m c main_v2), V m c main_v3)
  | 0, h => by
      show (outsAt0 m c (⟨0, h⟩ : Fin cfg0.N).val (⟨0, h⟩ : Fin cfg0.N).isLt).2.2.2.2 = _
      rw [outsAt0_A m c ⟨0, h⟩ rfl (by show ¬ 1 ≤ 0; omega)]
      frame_out
      refine congrArg₂ Prod.mk ?_ ?_
      · refine Cert.Staged.canon_eq (Val := Elt Ideal) (e := .bf16) (s := S1024x5632) (wide (V m c main_v2)) _ ?_ ?_
        · exact ⟨piece_4352 (V m c main_v2), piece_1536 (V m c main_v2), piece_4224 (V m c main_v2), piece_2816 (V m c main_v2), piece_1408 (V m c main_v2), piece_0 (V m c main_v2), trivial⟩
        · exact View.cover_of_tiledBy _ ![1024, 128] (by sl_kernel_rfl)
      · refine Cert.Staged.canon_eq (Val := Elt Ideal) (e := .bf16) (s := S2816x1024) (V m c main_v3) _ ?_ ?_
        · exact ⟨fun _ => rfl, fun _ => rfl, trivial⟩
        · exact View.cover_of_tiledBy _ ![256, 1024] (by sl_kernel_rfl)
  | n + 1, h => by
      have hN : n + 1 < 8 := h
      show (outsAt0 m c (⟨n + 1, h⟩ : Fin cfg0.N).val (⟨n + 1, h⟩ : Fin cfg0.N).isLt).2.2.2.2 = _
      rw [outsAt0_B m c ⟨n + 1, h⟩ (by show ¬ (n + 1) % 8 = 0; omega) (by show 1 ≤ n + 1; omega)]
      exact held c n (Nat.lt_of_succ_lt h)

/-! ## What the kernel writes, as functions of its arguments -/

/-- A row divided by its root mean square, times the gain. -/
def nrm (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- The gated product, halved. -/
def act (g u : EReal) : EReal := Cert.Gated.half * (g * Ideal.logistic g * u)

section

variable (x0 : S2048x1024.Idx → EReal) (x1 : S1x1024.Idx → EReal) (x2 : S1024x5632.Idx → EReal) (x3 : S2816x1024.Idx → EReal)

/-- The normalised rows. -/
def N (p : Fin 2048) (k : Fin 1024) : EReal := nrm (fun j => x0 (ix2 p j)) (fun j => x1 (ix2 (0 : Fin 1) j)) k

/-- Their product with the first weights: gate columns, then the factors' columns. -/
def GU (p : Fin 2048) (j : Fin 5632) : EReal := ∑ k : Fin 1024, N x0 x1 p k * x2 (ix2 k j)

/-- The halved gated products. -/
def A (p : Fin 2048) (n : Fin 2816) : EReal :=
  act (GU x0 x1 x2 p ⟨n.val, by omega⟩) (GU x0 x1 x2 p ⟨2816 + n.val, by omega⟩)

/-- The rows with the branch added. -/
def H (p : Fin 2048) (q : Fin 1024) : EReal := x0 (ix2 p q) + ∑ n : Fin 2816, A x0 x1 x2 p n * x3 (ix2 n q)

end

/-- A sum over the hidden columns is the sum over the first 1536 and that over the other 1280. -/
theorem sum_split (f : Fin 2816 → EReal) :
    ∑ n, f n = (0 + ∑ k : Fin 1536, f ⟨k.val, by omega⟩) + ∑ k : Fin 1280, f ⟨1536 + k.val, by omega⟩ := by
  rw [zero_add]
  exact Fin.sum_univ_add (a := 1536) (b := 1280) f

/-! ## The operands -/

/-- The shards' operand: the columns in four blocks. -/
theorem shards_eq (c : Dev nD) : V m c main_v2 = transpose S4x1024x1408 [1, 0, 2]
    (shapeCast S1024x4x1408 ((m ((c : Thread nD τ).loc main_arg2)) : S1024x5632.Idx → EReal) shapeCasts_S1024x5632_S1024x4x1408) transposes_S1024x4x1408_S4x1024x1408_1_0_2 := by
  show StableHlo.after _ _ (Proc.devRef .tc main_v2) = _
  simp only [hostOps0, List.flatten_cons, List.flatten_nil, List.append_nil, List.cons_append, List.nil_append]
  after_results
  rfl

/-- The shards side by side are the first weights. -/
theorem wide_eq (c : Dev nD) : wide (V m c main_v2) = (m ((c : Thread nD τ).loc main_arg2)) := by
  rw [shards_eq m c]
  funext i
  have h1 : (i 1).val < 5632 := (i 1).isLt
  refine (transpose_apply _ _ _ _ (ix3 (i 0 : Fin 1024) (⟨(i 1).val / 1408, by omega⟩ : Fin 4) (⟨(i 1).val % 1408, Nat.mod_lt _ (by decide)⟩ : Fin 1408)) fun b => match b with
    | ⟨0, _⟩ => rfl
    | ⟨1, _⟩ => rfl
    | ⟨2, _⟩ => rfl).trans ?_
  refine shapeCast_apply _ _ _ i ?_
  refine (Shape.rowMajor_val_two i).trans (Eq.trans ?_ (Shape.rowMajor_val_three (d := ![1024, 4, 1408]) _).symm)
  show (i 0).val * 5632 + (i 1).val = ((i 0).val * 4 + (i 1).val / 1408) * 1408 + (i 1).val % 1408
  omega

/-- The second weights' operand. -/
theorem wd_eq (c : Dev nD) : V m c main_v3 = (m ((c : Thread nD τ).loc main_arg3)) := by
  show StableHlo.after _ _ (Proc.devRef .tc main_v3) = _
  simp only [hostOps0, List.flatten_cons, List.flatten_nil, List.append_nil, List.cons_append, List.nil_append]
  after_results
  rfl

/-- The blocks' indices. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0])

/-- A block of the rows. -/
theorem blk0 (c : Dev nD) (t : Fin cfg0.N) (r : Fin 256) (k : Fin 1024) (p : Fin 2048) (h : p.val = 256 * t.val + r.val) :
    iblk m c 0 t (ix2 r k) = (m ((c : Thread nD τ).loc main_arg0)) (ix2 p k) := by
  rw [← V_main_arg0 m c]
  blk_ext [iblk, idx t] <;> omega

/-- The gain's block. -/
theorem blk1 (c : Dev nD) (t : Fin cfg0.N) (k : Fin 1024) : iblk m c 1 t (ix2 (0 : Fin 1) k) = (m ((c : Thread nD τ).loc main_arg1)) (ix2 (0 : Fin 1) k) := by
  rw [← V_main_arg1 m c]
  blk_ext [iblk, idx t] <;> omega

/-! ## The stores' payloads at an index -/

/-- The normalised block. -/
theorem pay_n (B : Vec Ideal S256x1024 .f32) (g : Vec Ideal S1x1024 .f32) (y : S256x1024.Idx) :
    k0_pay8 (F := Ideal) B g y = nrm (fun k => B (ix2 (y 0) k)) (fun k => g (ix2 (0 : Fin 1) k)) (y 1) := by
  rw [ValueIdx.eq_ix2 y]
  pointwise [k0_pay8]
  rfl

theorem pay_nA (B : Vec Ideal S256x1024 .f32) (g : Vec Ideal S1x1024 .f32) (y : S256x1024.Idx) :
    k0_pay9 (F := Ideal) B g y = k0_pay8 (F := Ideal) B g y := by
  rw [ValueIdx.eq_ix2 y]
  pointwise [k0_pay9]

theorem pay_nB (B : Vec Ideal S256x1024 .f32) (g : Vec Ideal S1x1024 .f32) : k0_pay21 (F := Ideal) B g = k0_pay9 (F := Ideal) B g := rfl

theorem pay_20 (B : Vec Ideal S256x1024 .f32) (g : Vec Ideal S1x1024 .f32) : k0_pay20 (F := Ideal) B g = k0_pay8 (F := Ideal) B g := rfl

theorem pay_g0 (n : FVec Ideal S256x1024 .bf16) (W : Vec Ideal S1024x1536 .bf16) (y : S256x1536.Idx) :
    k0_pay13 (F := Ideal) n W y = ∑ k : Fin 1024, n (ix2 (y 0) k) * W (ix2 k (y 1)) := by
  rw [ValueIdx.eq_ix2 y]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]

theorem pay_u0 (n : FVec Ideal S256x1024 .bf16) (W : Vec Ideal S1024x1536 .bf16) (y : S256x1536.Idx) :
    k0_pay15 (F := Ideal) (k0_pay14 n W) y = ∑ k : Fin 1024, n (ix2 (y 0) k) * W (ix2 k (y 1)) := by
  rw [ValueIdx.eq_ix2 y]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]

theorem pay_g1 (n : FVec Ideal S256x1024 .bf16) (W : Vec Ideal S1024x1280 .bf16) (y : S256x1280.Idx) :
    k0_pay2 (F := Ideal) (k0_pay19 n W) y = ∑ k : Fin 1024, n (ix2 (y 0) k) * W (ix2 k (y 1)) := by
  rw [ValueIdx.eq_ix2 y]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]

theorem pay_u1 (n : FVec Ideal S256x1024 .bf16) (W : Vec Ideal S1024x1280 .bf16) (y : S256x1280.Idx) :
    k0_pay3 (F := Ideal) n W y = ∑ k : Fin 1024, n (ix2 (y 0) k) * W (ix2 k (y 1)) := by
  rw [ValueIdx.eq_ix2 y]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]

theorem pay_a0 (n : FVec Ideal S256x1024 .bf16) (G U : Vec Ideal S1024x1536 .bf16) (y : S256x1536.Idx) :
    k0_pay16 (F := Ideal) (k0_pay11 n G) (k0_pay12 n U) y
      = act (∑ k : Fin 1024, n (ix2 (y 0) k) * G (ix2 k (y 1))) (∑ k : Fin 1024, n (ix2 (y 0) k) * U (ix2 k (y 1))) := by
  rw [ValueIdx.eq_ix2 y]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  rfl

theorem pay_a1 (n : FVec Ideal S256x1024 .bf16) (G U : Vec Ideal S1024x1280 .bf16) (y : S256x1280.Idx) :
    k0_pay4 (F := Ideal) n (k0_pay19 n G) U y
      = act (∑ k : Fin 1024, n (ix2 (y 0) k) * G (ix2 k (y 1))) (∑ k : Fin 1024, n (ix2 (y 0) k) * U (ix2 k (y 1))) := by
  rw [ValueIdx.eq_ix2 y]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  rfl

theorem pay_s0 (g u : FVec Ideal S256x1536 .f32) (y : S256x1536.Idx) : k0_pay17 (F := Ideal) g u y = k0_pay16 (F := Ideal) g u y := by
  rw [ValueIdx.eq_ix2 y]
  pointwise [k0_pay17]

theorem pay_s1 (n : FVec Ideal S256x1024 .bf16) (g : FVec Ideal S256x1280 .f32) (U : Vec Ideal S1024x1280 .bf16) (y : S256x1280.Idx) :
    k0_pay5 (F := Ideal) n g U y = k0_pay4 (F := Ideal) n g U y := by
  rw [ValueIdx.eq_ix2 y]
  pointwise [k0_pay5]

/-- The rows with the two products added. -/
theorem pay_h (B : Vec Ideal S256x1024 .f32) (n : FVec Ideal S256x1024 .bf16) (g0 u0 : FVec Ideal S256x1536 .f32) (W0 : Vec Ideal S1536x1024 .bf16)
    (g1 : FVec Ideal S256x1280 .f32) (U1 : Vec Ideal S1024x1280 .bf16) (W1 : Vec Ideal S1280x1024 .bf16) (y : S256x1024.Idx) :
    k0_pay6 (F := Ideal) B n (k0_pay18 k0_pay10 g0 u0 W0) g1 U1 W1 y
      = B y + ((0 + ∑ k : Fin 1536, k0_pay16 (F := Ideal) g0 u0 (ix2 (y 0) k) * W0 (ix2 k (y 1)))
        + ∑ k : Fin 1280, k0_pay4 (F := Ideal) n g1 U1 (ix2 (y 0) k) * W1 (ix2 k (y 1))) := by
  rw [ValueIdx.eq_ix2 y]
  pointwise [k0_pay6, k0_pay18, k0_pay10]

/-! ## The payloads are the functions' entries -/

/-- The normalised block holds the function's rows. -/
theorem n_tile (c : Dev nD) (t : Fin cfg0.N) (y : S256x1024.Idx) (p : Fin 2048) (k : Fin 1024) (hp : p.val = 256 * t.val + (y 0).val)
    (hk : k.val = (y 1).val) : k0_pay8 (F := Ideal) (iblk m c 0 t) (iblk m c 1 t) y = N (m ((c : Thread nD τ).loc main_arg0)) (m ((c : Thread nD τ).loc main_arg1)) p k := by
  obtain rfl : k = y 1 := Fin.ext hk
  refine (pay_n _ _ y).trans ?_
  unfold N
  exact congrFun (congr (congrArg nrm (funext fun j => blk0 m c t (y 0) j p hp)) (funext fun j => blk1 m c t j)) (y 1)

/-- The products with the columns from 0. -/
theorem gu_g0 (c : Dev nD) (t : Fin cfg0.N) (r : Fin 256) (q : Fin 1536) (p : Fin 2048) (j : Fin 5632) (hp : p.val = 256 * t.val + r.val)
    (hj : j.val = 0 + q.val) (n : FVec Ideal S256x1024 .bf16) (W : Vec Ideal S1024x1536 .bf16)
    (hn : n = (k0_pay8 (iblk m c 0 t) (iblk m c 1 t))) (hW : W = (View.ld (Val := Elt Ideal) (e' := .bf16) (wide (V m c main_v2)) (Rect.unit ![0, 0] ![1024, 1536] inb_S1024x5632_S1024x1536_0_0))) :
    ∑ k : Fin 1024, n (ix2 r k) * W (ix2 k q) = GU (m ((c : Thread nD τ).loc main_arg0)) (m ((c : Thread nD τ).loc main_arg1)) (m ((c : Thread nD τ).loc main_arg2)) p j := by
  subst hn hW
  unfold GU
  refine Finset.sum_congr rfl fun k _ => ?_
  refine congr (congrArg _ (n_tile m c t (ix2 r k) p k hp rfl)) ?_
  rw [wide_eq m c]
  refine congrArg (m ((c : Thread nD τ).loc main_arg2)) (funext fun a => Fin.ext ?_)
  match a with
  | ⟨0, _⟩ => show 0 + 1 * k.val = k.val; omega
  | ⟨1, _⟩ => show 0 + 1 * q.val = j.val; omega

/-- The products with the columns from 2816. -/
theorem gu_u0 (c : Dev nD) (t : Fin cfg0.N) (r : Fin 256) (q : Fin 1536) (p : Fin 2048) (j : Fin 5632) (hp : p.val = 256 * t.val + r.val)
    (hj : j.val = 2816 + q.val) (n : FVec Ideal S256x1024 .bf16) (W : Vec Ideal S1024x1536 .bf16)
    (hn : n = (k0_pay8 (iblk m c 0 t) (iblk m c 1 t))) (hW : W = (View.ld (Val := Elt Ideal) (e' := .bf16) (wide (V m c main_v2)) (Rect.unit ![0, 2816] ![1024, 1536] inb_S1024x5632_S1024x1536_0_2816))) :
    ∑ k : Fin 1024, n (ix2 r k) * W (ix2 k q) = GU (m ((c : Thread nD τ).loc main_arg0)) (m ((c : Thread nD τ).loc main_arg1)) (m ((c : Thread nD τ).loc main_arg2)) p j := by
  subst hn hW
  unfold GU
  refine Finset.sum_congr rfl fun k _ => ?_
  refine congr (congrArg _ (n_tile m c t (ix2 r k) p k hp rfl)) ?_
  rw [wide_eq m c]
  refine congrArg (m ((c : Thread nD τ).loc main_arg2)) (funext fun a => Fin.ext ?_)
  match a with
  | ⟨0, _⟩ => show 0 + 1 * k.val = k.val; omega
  | ⟨1, _⟩ => show 2816 + 1 * q.val = j.val; omega

/-- The products with the columns from 1536. -/
theorem gu_g1 (c : Dev nD) (t : Fin cfg0.N) (r : Fin 256) (q : Fin 1280) (p : Fin 2048) (j : Fin 5632) (hp : p.val = 256 * t.val + r.val)
    (hj : j.val = 1536 + q.val) (n : FVec Ideal S256x1024 .bf16) (W : Vec Ideal S1024x1280 .bf16)
    (hn : n = (k0_pay8 (iblk m c 0 t) (iblk m c 1 t))) (hW : W = (View.ld (Val := Elt Ideal) (e' := .bf16) (wide (V m c main_v2)) (Rect.unit ![0, 1536] ![1024, 1280] inb_S1024x5632_S1024x1280_0_1536))) :
    ∑ k : Fin 1024, n (ix2 r k) * W (ix2 k q) = GU (m ((c : Thread nD τ).loc main_arg0)) (m ((c : Thread nD τ).loc main_arg1)) (m ((c : Thread nD τ).loc main_arg2)) p j := by
  subst hn hW
  unfold GU
  refine Finset.sum_congr rfl fun k _ => ?_
  refine congr (congrArg _ (n_tile m c t (ix2 r k) p k hp rfl)) ?_
  rw [wide_eq m c]
  refine congrArg (m ((c : Thread nD τ).loc main_arg2)) (funext fun a => Fin.ext ?_)
  match a with
  | ⟨0, _⟩ => show 0 + 1 * k.val = k.val; omega
  | ⟨1, _⟩ => show 1536 + 1 * q.val = j.val; omega

/-- The products with the columns from 4352. -/
theorem gu_u1 (c : Dev nD) (t : Fin cfg0.N) (r : Fin 256) (q : Fin 1280) (p : Fin 2048) (j : Fin 5632) (hp : p.val = 256 * t.val + r.val)
    (hj : j.val = 4352 + q.val) (n : FVec Ideal S256x1024 .bf16) (W : Vec Ideal S1024x1280 .bf16)
    (hn : n = (k0_pay8 (iblk m c 0 t) (iblk m c 1 t))) (hW : W = (View.ld (Val := Elt Ideal) (e' := .bf16) (wide (V m c main_v2)) (Rect.unit ![0, 4352] ![1024, 1280] inb_S1024x5632_S1024x1280_0_4352))) :
    ∑ k : Fin 1024, n (ix2 r k) * W (ix2 k q) = GU (m ((c : Thread nD τ).loc main_arg0)) (m ((c : Thread nD τ).loc main_arg1)) (m ((c : Thread nD τ).loc main_arg2)) p j := by
  subst hn hW
  unfold GU
  refine Finset.sum_congr rfl fun k _ => ?_
  refine congr (congrArg _ (n_tile m c t (ix2 r k) p k hp rfl)) ?_
  rw [wide_eq m c]
  refine congrArg (m ((c : Thread nD τ).loc main_arg2)) (funext fun a => Fin.ext ?_)
  match a with
  | ⟨0, _⟩ => show 0 + 1 * k.val = k.val; omega
  | ⟨1, _⟩ => show 4352 + 1 * q.val = j.val; omega

/-- The halved gated products of the columns from 0. -/
theorem a_0 (c : Dev nD) (t : Fin cfg0.N) (y : S256x1536.Idx) (p : Fin 2048) (n : Fin 2816) (hp : p.val = 256 * t.val + (y 0).val)
    (hn : n.val = 0 + (y 1).val) :
    k0_pay16 (F := Ideal) (k0_pay11 (k0_pay8 (iblk m c 0 t) (iblk m c 1 t)) (View.ld (Val := Elt Ideal) (e' := .bf16) (wide (V m c main_v2)) (Rect.unit ![0, 0] ![1024, 1536] inb_S1024x5632_S1024x1536_0_0))) (k0_pay12 (k0_pay8 (iblk m c 0 t) (iblk m c 1 t)) (View.ld (Val := Elt Ideal) (e' := .bf16) (wide (V m c main_v2)) (Rect.unit ![0, 2816] ![1024, 1536] inb_S1024x5632_S1024x1536_0_2816))) y
      = A (m ((c : Thread nD τ).loc main_arg0)) (m ((c : Thread nD τ).loc main_arg1)) (m ((c : Thread nD τ).loc main_arg2)) p n := by
  refine (pay_a0 _ _ _ y).trans ?_
  unfold A
  exact congr (congrArg act (gu_g0 m c t (y 0) (y 1) p _ hp hn _ _ rfl rfl))
    (gu_u0 m c t (y 0) (y 1) p _ hp (by show 2816 + n.val = 2816 + (y 1).val; omega) _ _ rfl rfl)

/-- The rows of the second weights from 0. -/
theorem wd_0 (c : Dev nD) (k : Fin 1536) (q : Fin 1024) (n : Fin 2816) (hn : n.val = 0 + k.val) : (View.ld (V m c main_v3) (Rect.unit ![0, 0] ![1536, 1024] inb_S2816x1024_S1536x1024_0_0)) (ix2 k q) = (m ((c : Thread nD τ).loc main_arg3)) (ix2 n q) := by
  rw [wd_eq m c]
  refine congrArg (m ((c : Thread nD τ).loc main_arg3)) (funext fun a => Fin.ext ?_)
  match a with
  | ⟨0, _⟩ => show 0 + 1 * k.val = n.val; omega
  | ⟨1, _⟩ => show 0 + 1 * q.val = q.val; omega

/-- The halved gated products of the columns from 1536. -/
theorem a_1 (c : Dev nD) (t : Fin cfg0.N) (y : S256x1280.Idx) (p : Fin 2048) (n : Fin 2816) (hp : p.val = 256 * t.val + (y 0).val)
    (hn : n.val = 1536 + (y 1).val) :
    k0_pay4 (F := Ideal) (k0_pay8 (iblk m c 0 t) (iblk m c 1 t)) (k0_pay19 (k0_pay8 (iblk m c 0 t) (iblk m c 1 t)) (View.ld (Val := Elt Ideal) (e' := .bf16) (wide (V m c main_v2)) (Rect.unit ![0, 1536] ![1024, 1280] inb_S1024x5632_S1024x1280_0_1536))) (View.ld (Val := Elt Ideal) (e' := .bf16) (wide (V m c main_v2)) (Rect.unit ![0, 4352] ![1024, 1280] inb_S1024x5632_S1024x1280_0_4352)) y
      = A (m ((c : Thread nD τ).loc main_arg0)) (m ((c : Thread nD τ).loc main_arg1)) (m ((c : Thread nD τ).loc main_arg2)) p n := by
  refine (pay_a1 _ _ _ y).trans ?_
  unfold A
  exact congr (congrArg act (gu_g1 m c t (y 0) (y 1) p _ hp hn _ _ rfl rfl))
    (gu_u1 m c t (y 0) (y 1) p _ hp (by show 2816 + n.val = 4352 + (y 1).val; omega) _ _ rfl rfl)

/-- The rows of the second weights from 1536. -/
theorem wd_1 (c : Dev nD) (k : Fin 1280) (q : Fin 1024) (n : Fin 2816) (hn : n.val = 1536 + k.val) : (View.ld (V m c main_v3) (Rect.unit ![1536, 0] ![1280, 1024] inb_S2816x1024_S1280x1024_1536_0)) (ix2 k q) = (m ((c : Thread nD τ).loc main_arg3)) (ix2 n q) := by
  rw [wd_eq m c]
  refine congrArg (m ((c : Thread nD τ).loc main_arg3)) (funext fun a => Fin.ext ?_)
  match a with
  | ⟨0, _⟩ => show 1536 + 1 * k.val = n.val; omega
  | ⟨1, _⟩ => show 0 + 1 * q.val = q.val; omega

/-- The rows with the branch added. -/
theorem h_tile (c : Dev nD) (t : Fin cfg0.N) (y : S256x1024.Idx) (p : Fin 2048) (q : Fin 1024) (hp : p.val = 256 * t.val + (y 0).val)
    (hq : q.val = (y 1).val) :
    k0_pay6 (F := Ideal) (iblk m c 0 t) (k0_pay8 (iblk m c 0 t) (iblk m c 1 t)) (k0_pay18 k0_pay10 (k0_pay11 (k0_pay8 (iblk m c 0 t) (iblk m c 1 t)) (View.ld (Val := Elt Ideal) (e' := .bf16) (wide (V m c main_v2)) (Rect.unit ![0, 0] ![1024, 1536] inb_S1024x5632_S1024x1536_0_0))) (k0_pay12 (k0_pay8 (iblk m c 0 t) (iblk m c 1 t)) (View.ld (Val := Elt Ideal) (e' := .bf16) (wide (V m c main_v2)) (Rect.unit ![0, 2816] ![1024, 1536] inb_S1024x5632_S1024x1536_0_2816))) (View.ld (V m c main_v3) (Rect.unit ![0, 0] ![1536, 1024] inb_S2816x1024_S1536x1024_0_0))) (k0_pay19 (k0_pay8 (iblk m c 0 t) (iblk m c 1 t)) (View.ld (Val := Elt Ideal) (e' := .bf16) (wide (V m c main_v2)) (Rect.unit ![0, 1536] ![1024, 1280] inb_S1024x5632_S1024x1280_0_1536))) (View.ld (Val := Elt Ideal) (e' := .bf16) (wide (V m c main_v2)) (Rect.unit ![0, 4352] ![1024, 1280] inb_S1024x5632_S1024x1280_0_4352)) (View.ld (V m c main_v3) (Rect.unit ![1536, 0] ![1280, 1024] inb_S2816x1024_S1280x1024_1536_0)) y
      = H (m ((c : Thread nD τ).loc main_arg0)) (m ((c : Thread nD τ).loc main_arg1)) (m ((c : Thread nD τ).loc main_arg2)) (m ((c : Thread nD τ).loc main_arg3)) p q := by
  obtain rfl : q = y 1 := Fin.ext hq
  refine (pay_h _ _ _ _ _ _ _ _ y).trans ?_
  unfold H
  rw [sum_split]
  refine congr (congrArg _ ((congrArg _ (ValueIdx.eq_ix2 y)).trans (blk0 m c t (y 0) (y 1) p hp))) ?_
  refine congr (congrArg _ (congrArg (0 + ·) (Finset.sum_congr rfl fun k _ => ?_))) (Finset.sum_congr rfl fun k _ => ?_)
  · exact congr (congrArg _ (a_0 m c t (ix2 (y 0) k) p ⟨k.val, by omega⟩ hp (by show k.val = 0 + k.val; omega))) (wd_0 m c k (y 1) ⟨k.val, by omega⟩ (by show k.val = 0 + k.val; omega))
  · exact congr (congrArg _ (a_1 m c t (ix2 (y 0) k) p ⟨1536 + k.val, by omega⟩ hp rfl)) (wd_1 m c k (y 1) ⟨1536 + k.val, by omega⟩ rfl)

/-! ## The four result arrays -/

section

variable (x0 : S2048x1024.Idx → EReal) (x1 : S1x1024.Idx → EReal) (x2 : S1024x5632.Idx → EReal) (x3 : S2816x1024.Idx → EReal)

def GH (i : S2048x1024.Idx) : EReal := H x0 x1 x2 x3 (i 0) (i 1)
def GN (i : S2048x1024.Idx) : EReal := N x0 x1 (i 0) (i 1)
def GG (i : S2048x5632.Idx) : EReal := GU x0 x1 x2 (i 0) (i 1)
def GA (i : S2048x2816.Idx) : EReal := A x0 x1 x2 (i 0) (i 1)

end

/-! The later points' payloads are the first point's. -/

theorem same_h (B : Vec Ideal S256x1024 .f32) (g : Vec Ideal S1x1024 .f32) (G0 U0 : Vec Ideal S1024x1536 .bf16) (W0 : Vec Ideal S1536x1024 .bf16)
    (G1 U1 : Vec Ideal S1024x1280 .bf16) (W1 : Vec Ideal S1280x1024 .bf16) :
    k0_pay7 (F := Ideal) (k0_pay36 B (k0_pay20 B g) k0_pay22 (k0_pay27 B g G0 U0) W0 G1 U1 W1)
      = k0_pay6 (F := Ideal) B (k0_pay8 B g) (k0_pay18 k0_pay10 (k0_pay11 (k0_pay8 B g) G0) (k0_pay12 (k0_pay8 B g) U0) W0)
        (k0_pay19 (k0_pay8 B g) G1) U1 W1 := rfl

theorem same_g0 (B : Vec Ideal S256x1024 .f32) (g : Vec Ideal S1x1024 .f32) (W : Vec Ideal S1024x1536 .bf16) :
    k0_pay25 (F := Ideal) B g W = k0_pay13 (F := Ideal) (k0_pay8 B g) W := rfl

theorem same_u0 (B : Vec Ideal S256x1024 .f32) (g : Vec Ideal S1x1024 .f32) (W : Vec Ideal S1024x1536 .bf16) :
    k0_pay26 (F := Ideal) B g W = k0_pay15 (F := Ideal) (k0_pay14 (k0_pay8 B g) W) := rfl

theorem same_g1 (B : Vec Ideal S256x1024 .f32) (g : Vec Ideal S1x1024 .f32) (W : Vec Ideal S1024x1280 .bf16) :
    k0_pay32 (F := Ideal) (k0_pay20 B g) W = k0_pay2 (F := Ideal) (k0_pay19 (k0_pay8 B g) W) := rfl

theorem same_u1 (B : Vec Ideal S256x1024 .f32) (g : Vec Ideal S1x1024 .f32) (W : Vec Ideal S1024x1280 .bf16) :
    k0_pay33 (F := Ideal) (k0_pay20 B g) W = k0_pay3 (F := Ideal) (k0_pay8 B g) W := rfl

theorem same_a0 (B : Vec Ideal S256x1024 .f32) (g : Vec Ideal S1x1024 .f32) (G U : Vec Ideal S1024x1536 .bf16) :
    k0_pay29 (F := Ideal) (k0_pay27 B g G U) = k0_pay17 (F := Ideal) (k0_pay11 (k0_pay8 B g) G) (k0_pay12 (k0_pay8 B g) U) := rfl

theorem same_a1 (B : Vec Ideal S256x1024 .f32) (g : Vec Ideal S1x1024 .f32) (G U : Vec Ideal S1024x1280 .bf16) :
    k0_pay35 (F := Ideal) (k0_pay20 B g) G U = k0_pay5 (F := Ideal) (k0_pay8 B g) (k0_pay19 (k0_pay8 B g) G) U := rfl

/-- What the first point leaves in the block of the rows with the branch added. -/
theorem after2_A (c : Dev nD) (t : Fin cfg0.N) (h0 : t.val % 8 = 0) (y : S256x1024.Idx) (i : S2048x1024.Idx)
    (p0 : (i 0).val = 256 * t.val + (y 0).val) (p1 : (i 1).val = (y 1).val) : (dats m 0 c).after 2 t y = GH (m ((c : Thread nD τ).loc main_arg0)) (m ((c : Thread nD τ).loc main_arg1)) (m ((c : Thread nD τ).loc main_arg2)) (m ((c : Thread nD τ).loc main_arg3)) i := by
  unfold GH
  have hN : t.val < 8 := t.isLt
  rw [after0_2, outsAt0_A m c t h0 (by omega)]
  frame_out
  rw [Cert.Staged.readCov_eq (View.whole cc0_scratch0) (wide (V m c main_v2)),
    Cert.Staged.readCov_eq (View.whole cc0_scratch0) (wide (V m c main_v2)),
    Cert.Staged.readCov_eq (View.whole cc0_scratch0) (wide (V m c main_v2)),
    Cert.Staged.readCov_eq (View.whole cc0_scratch0) (wide (V m c main_v2)),
    Cert.Staged.readCov_eq (View.whole cc0_scratch1) (V m c main_v3),
    Cert.Staged.readCov_eq (View.whole cc0_scratch1) (V m c main_v3)]
  rotate_left
  · exact ⟨fun _ => rfl, fun _ => rfl, trivial⟩
  · exact View.cover_of_tiledBy _ ![256, 1024] (by sl_kernel_rfl)
  · exact ⟨fun _ => rfl, fun _ => rfl, trivial⟩
  · exact View.cover_of_tiledBy _ ![256, 1024] (by sl_kernel_rfl)
  · exact ⟨piece_4352 (V m c main_v2), piece_1536 (V m c main_v2), piece_4224 (V m c main_v2), piece_2816 (V m c main_v2), piece_1408 (V m c main_v2), piece_0 (V m c main_v2), trivial⟩
  · exact View.cover_of_tiledBy _ ![1024, 128] (by sl_kernel_rfl)
  · exact ⟨piece_4352 (V m c main_v2), piece_1536 (V m c main_v2), piece_4224 (V m c main_v2), piece_2816 (V m c main_v2), piece_1408 (V m c main_v2), piece_0 (V m c main_v2), trivial⟩
  · exact View.cover_of_tiledBy _ ![1024, 128] (by sl_kernel_rfl)
  · exact ⟨piece_4352 (V m c main_v2), piece_1536 (V m c main_v2), piece_4224 (V m c main_v2), piece_2816 (V m c main_v2), piece_1408 (V m c main_v2), piece_0 (V m c main_v2), trivial⟩
  · exact View.cover_of_tiledBy _ ![1024, 128] (by sl_kernel_rfl)
  · exact ⟨piece_4352 (V m c main_v2), piece_1536 (V m c main_v2), piece_4224 (V m c main_v2), piece_2816 (V m c main_v2), piece_1408 (V m c main_v2), piece_0 (V m c main_v2), trivial⟩
  · exact View.cover_of_tiledBy _ ![1024, 128] (by sl_kernel_rfl)
  exact h_tile m c t y (i 0) (i 1) p0 p1

/-- What a later point leaves in the block of the rows with the branch added. -/
theorem after2_B (c : Dev nD) (t : Fin cfg0.N) (h0 : ¬ t.val % 8 = 0) (y : S256x1024.Idx) (i : S2048x1024.Idx)
    (p0 : (i 0).val = 256 * t.val + (y 0).val) (p1 : (i 1).val = (y 1).val) : (dats m 0 c).after 2 t y = GH (m ((c : Thread nD τ).loc main_arg0)) (m ((c : Thread nD τ).loc main_arg1)) (m ((c : Thread nD τ).loc main_arg2)) (m ((c : Thread nD τ).loc main_arg3)) i := by
  unfold GH
  have hN : 1 ≤ t.val := by omega
  rw [after0_2, outsAt0_B m c t h0 hN]
  frame_out
  simp only [read_unread_whole]
  rw [held m c]
  exact (congrFun (same_h _ _ _ _ _ _ _ _) y).trans (h_tile m c t y (i 0) (i 1) p0 p1)

/-- Where an element of a block of the rows with the branch added lies. -/
theorem place2 (t : Fin cfg0.N) (y : ((cfg0.win 2).xblock (cfg0.grid.coords t)).Idx) :
    ((((View.whole main_v4_0).slice (win0_2.rect t)).emb y) 0).val = 256 * t.val + (y 0).val
    ∧ ((((View.whole main_v4_0).slice (win0_2.rect t)).emb y) 1).val = (y 1).val := by
  refine ⟨?_, ?_⟩ <;> blk_simp [idx t] <;> omega

/-- The array of the rows with the branch added after the run. -/
theorem out2_eq (c : Dev nD) : (dats m 0 c).arrAt 2 cfg0.N = GH (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t hf y => ?_
  blk_simp
  obtain ⟨p0, p1⟩ := place2 t y
  by_cases h0 : t.val % 8 = 0
  · exact after2_A m c t h0 y _ p0 p1
  · exact after2_B m c t h0 y _ p0 p1

/-- What the first point leaves in the block of the normalised rows. -/
theorem after3_A (c : Dev nD) (t : Fin cfg0.N) (h0 : t.val % 8 = 0) (y : S256x1024.Idx) (i : S2048x1024.Idx)
    (p0 : (i 0).val = 256 * t.val + (y 0).val) (p1 : (i 1).val = (y 1).val) : (dats m 0 c).after 3 t y = GN (m ((c : Thread nD τ).loc main_arg0)) (m ((c : Thread nD τ).loc main_arg1)) i := by
  unfold GN
  have hN : t.val < 8 := t.isLt
  rw [after0_3, outsAt0_A m c t h0 (by omega)]
  frame_out
  exact (pay_nA _ _ y).trans (n_tile m c t y (i 0) (i 1) p0 p1)

/-- What a later point leaves in the block of the normalised rows. -/
theorem after3_B (c : Dev nD) (t : Fin cfg0.N) (h0 : ¬ t.val % 8 = 0) (y : S256x1024.Idx) (i : S2048x1024.Idx)
    (p0 : (i 0).val = 256 * t.val + (y 0).val) (p1 : (i 1).val = (y 1).val) : (dats m 0 c).after 3 t y = GN (m ((c : Thread nD τ).loc main_arg0)) (m ((c : Thread nD τ).loc main_arg1)) i := by
  unfold GN
  have hN : 1 ≤ t.val := by omega
  rw [after0_3, outsAt0_B m c t h0 hN]
  frame_out
  exact (congrFun (pay_nB _ _) y).trans ((pay_nA _ _ y).trans (n_tile m c t y (i 0) (i 1) p0 p1))

/-- Where an element of a block of the normalised rows lies. -/
theorem place3 (t : Fin cfg0.N) (y : ((cfg0.win 3).xblock (cfg0.grid.coords t)).Idx) :
    ((((View.whole main_v4_1).slice (win0_3.rect t)).emb y) 0).val = 256 * t.val + (y 0).val
    ∧ ((((View.whole main_v4_1).slice (win0_3.rect t)).emb y) 1).val = (y 1).val := by
  refine ⟨?_, ?_⟩ <;> blk_simp [idx t] <;> omega

/-- The array of the normalised rows after the run. -/
theorem out3_eq (c : Dev nD) : (dats m 0 c).arrAt 3 cfg0.N = GN (m ((c : Thread nD τ).loc main_arg0)) (m ((c : Thread nD τ).loc main_arg1)) := by
  refine (dats m 0 c).arrAt_eq_of_covers 3 _ (by decide +kernel) fun t hf y => ?_
  blk_simp
  obtain ⟨p0, p1⟩ := place3 t y
  by_cases h0 : t.val % 8 = 0
  · exact after3_A m c t h0 y _ p0 p1
  · exact after3_B m c t h0 y _ p0 p1

/-- What the first point leaves in the block of the gates and factors. -/
theorem after4_A (c : Dev nD) (t : Fin cfg0.N) (h0 : t.val % 8 = 0) (y : S256x5632.Idx) (i : S2048x5632.Idx)
    (p0 : (i 0).val = 256 * t.val + (y 0).val) (p1 : (i 1).val = (y 1).val) : (dats m 0 c).after 4 t y = GG (m ((c : Thread nD τ).loc main_arg0)) (m ((c : Thread nD τ).loc main_arg1)) (m ((c : Thread nD τ).loc main_arg2)) i := by
  unfold GG
  have hN : t.val < 8 := t.isLt
  rw [after0_4, outsAt0_A m c t h0 (by omega)]
  frame_out
  rw [Cert.Staged.readCov_eq (View.whole cc0_scratch0) (wide (V m c main_v2)),
    Cert.Staged.readCov_eq (View.whole cc0_scratch0) (wide (V m c main_v2)),
    Cert.Staged.readCov_eq (View.whole cc0_scratch0) (wide (V m c main_v2)),
    Cert.Staged.readCov_eq (View.whole cc0_scratch0) (wide (V m c main_v2))]
  rotate_left
  · exact ⟨piece_4352 (V m c main_v2), piece_1536 (V m c main_v2), piece_4224 (V m c main_v2), piece_2816 (V m c main_v2), piece_1408 (V m c main_v2), piece_0 (V m c main_v2), trivial⟩
  · exact View.cover_of_tiledBy _ ![1024, 128] (by sl_kernel_rfl)
  · exact ⟨piece_4352 (V m c main_v2), piece_1536 (V m c main_v2), piece_4224 (V m c main_v2), piece_2816 (V m c main_v2), piece_1408 (V m c main_v2), piece_0 (V m c main_v2), trivial⟩
  · exact View.cover_of_tiledBy _ ![1024, 128] (by sl_kernel_rfl)
  · exact ⟨piece_4352 (V m c main_v2), piece_1536 (V m c main_v2), piece_4224 (V m c main_v2), piece_2816 (V m c main_v2), piece_1408 (V m c main_v2), piece_0 (V m c main_v2), trivial⟩
  · exact View.cover_of_tiledBy _ ![1024, 128] (by sl_kernel_rfl)
  · exact ⟨piece_4352 (V m c main_v2), piece_1536 (V m c main_v2), piece_4224 (V m c main_v2), piece_2816 (V m c main_v2), piece_1408 (V m c main_v2), piece_0 (V m c main_v2), trivial⟩
  · exact View.cover_of_tiledBy _ ![1024, 128] (by sl_kernel_rfl)
  canon_tiles x h using (View.cover_of_tiledBy _ ![256, 256] (by sl_kernel_rfl) _)
  · exact (pay_u1 _ _ x).trans (gu_u1 m c t (x 0) (x 1) (i 0) (i 1) (by omega) (by omega) _ _ rfl rfl)
  · exact (pay_g1 _ _ x).trans (gu_g1 m c t (x 0) (x 1) (i 0) (i 1) (by omega) (by omega) _ _ rfl rfl)
  · exact (pay_u0 _ _ x).trans (gu_u0 m c t (x 0) (x 1) (i 0) (i 1) (by omega) (by omega) _ _ rfl rfl)
  · exact (pay_g0 _ _ x).trans (gu_g0 m c t (x 0) (x 1) (i 0) (i 1) (by omega) (by omega) _ _ rfl rfl)

/-- What a later point leaves in the block of the gates and factors. -/
theorem after4_B (c : Dev nD) (t : Fin cfg0.N) (h0 : ¬ t.val % 8 = 0) (y : S256x5632.Idx) (i : S2048x5632.Idx)
    (p0 : (i 0).val = 256 * t.val + (y 0).val) (p1 : (i 1).val = (y 1).val) : (dats m 0 c).after 4 t y = GG (m ((c : Thread nD τ).loc main_arg0)) (m ((c : Thread nD τ).loc main_arg1)) (m ((c : Thread nD τ).loc main_arg2)) i := by
  unfold GG
  have hN : 1 ≤ t.val := by omega
  rw [after0_4, outsAt0_B m c t h0 hN]
  frame_out
  simp only [read_unread_whole]
  rw [held m c]
  canon_tiles x h using (View.cover_of_tiledBy _ ![256, 256] (by sl_kernel_rfl) _)
  · exact (congrFun (same_u1 _ _ _) x).trans ((pay_u1 _ _ x).trans (gu_u1 m c t (x 0) (x 1) (i 0) (i 1) (by omega) (by omega) _ _ rfl rfl))
  · exact (congrFun (same_g1 _ _ _) x).trans ((pay_g1 _ _ x).trans (gu_g1 m c t (x 0) (x 1) (i 0) (i 1) (by omega) (by omega) _ _ rfl rfl))
  · exact (congrFun (same_u0 _ _ _) x).trans ((pay_u0 _ _ x).trans (gu_u0 m c t (x 0) (x 1) (i 0) (i 1) (by omega) (by omega) _ _ rfl rfl))
  · exact (congrFun (same_g0 _ _ _) x).trans ((pay_g0 _ _ x).trans (gu_g0 m c t (x 0) (x 1) (i 0) (i 1) (by omega) (by omega) _ _ rfl rfl))

/-- Where an element of a block of the gates and factors lies. -/
theorem place4 (t : Fin cfg0.N) (y : ((cfg0.win 4).xblock (cfg0.grid.coords t)).Idx) :
    ((((View.whole main_v4_2).slice (win0_4.rect t)).emb y) 0).val = 256 * t.val + (y 0).val
    ∧ ((((View.whole main_v4_2).slice (win0_4.rect t)).emb y) 1).val = (y 1).val := by
  refine ⟨?_, ?_⟩ <;> blk_simp [idx t] <;> omega

/-- The array of the gates and factors after the run. -/
theorem out4_eq (c : Dev nD) : (dats m 0 c).arrAt 4 cfg0.N = GG (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  obtain ⟨p0, p1⟩ := place4 t y
  by_cases h0 : t.val % 8 = 0
  · exact after4_A m c t h0 y _ p0 p1
  · exact after4_B m c t h0 y _ p0 p1

/-- What the first point leaves in the block of the halved gated products. -/
theorem after5_A (c : Dev nD) (t : Fin cfg0.N) (h0 : t.val % 8 = 0) (y : S256x2816.Idx) (i : S2048x2816.Idx)
    (p0 : (i 0).val = 256 * t.val + (y 0).val) (p1 : (i 1).val = (y 1).val) : (dats m 0 c).after 5 t y = GA (m ((c : Thread nD τ).loc main_arg0)) (m ((c : Thread nD τ).loc main_arg1)) (m ((c : Thread nD τ).loc main_arg2)) i := by
  unfold GA
  have hN : t.val < 8 := t.isLt
  rw [after0_5, outsAt0_A m c t h0 (by omega)]
  frame_out
  rw [Cert.Staged.readCov_eq (View.whole cc0_scratch0) (wide (V m c main_v2)),
    Cert.Staged.readCov_eq (View.whole cc0_scratch0) (wide (V m c main_v2)),
    Cert.Staged.readCov_eq (View.whole cc0_scratch0) (wide (V m c main_v2)),
    Cert.Staged.readCov_eq (View.whole cc0_scratch0) (wide (V m c main_v2))]
  rotate_left
  · exact ⟨piece_4352 (V m c main_v2), piece_1536 (V m c main_v2), piece_4224 (V m c main_v2), piece_2816 (V m c main_v2), piece_1408 (V m c main_v2), piece_0 (V m c main_v2), trivial⟩
  · exact View.cover_of_tiledBy _ ![1024, 128] (by sl_kernel_rfl)
  · exact ⟨piece_4352 (V m c main_v2), piece_1536 (V m c main_v2), piece_4224 (V m c main_v2), piece_2816 (V m c main_v2), piece_1408 (V m c main_v2), piece_0 (V m c main_v2), trivial⟩
  · exact View.cover_of_tiledBy _ ![1024, 128] (by sl_kernel_rfl)
  · exact ⟨piece_4352 (V m c main_v2), piece_1536 (V m c main_v2), piece_4224 (V m c main_v2), piece_2816 (V m c main_v2), piece_1408 (V m c main_v2), piece_0 (V m c main_v2), trivial⟩
  · exact View.cover_of_tiledBy _ ![1024, 128] (by sl_kernel_rfl)
  · exact ⟨piece_4352 (V m c main_v2), piece_1536 (V m c main_v2), piece_4224 (V m c main_v2), piece_2816 (V m c main_v2), piece_1408 (V m c main_v2), piece_0 (V m c main_v2), trivial⟩
  · exact View.cover_of_tiledBy _ ![1024, 128] (by sl_kernel_rfl)
  canon_tiles x h using (View.cover_of_tiledBy _ ![256, 256] (by sl_kernel_rfl) _)
  · exact (pay_s1 _ _ _ x).trans (a_1 m c t x (i 0) (i 1) (by omega) (by omega))
  · exact (pay_s0 _ _ x).trans (a_0 m c t x (i 0) (i 1) (by omega) (by omega))

/-- What a later point leaves in the block of the halved gated products. -/
theorem after5_B (c : Dev nD) (t : Fin cfg0.N) (h0 : ¬ t.val % 8 = 0) (y : S256x2816.Idx) (i : S2048x2816.Idx)
    (p0 : (i 0).val = 256 * t.val + (y 0).val) (p1 : (i 1).val = (y 1).val) : (dats m 0 c).after 5 t y = GA (m ((c : Thread nD τ).loc main_arg0)) (m ((c : Thread nD τ).loc main_arg1)) (m ((c : Thread nD τ).loc main_arg2)) i := by
  unfold GA
  have hN : 1 ≤ t.val := by omega
  rw [after0_5, outsAt0_B m c t h0 hN]
  frame_out
  simp only [read_unread_whole]
  rw [held m c]
  canon_tiles x h using (View.cover_of_tiledBy _ ![256, 256] (by sl_kernel_rfl) _)
  · exact (congrFun (same_a1 _ _ _ _) x).trans ((pay_s1 _ _ _ x).trans (a_1 m c t x (i 0) (i 1) (by omega) (by omega)))
  · exact (congrFun (same_a0 _ _ _ _) x).trans ((pay_s0 _ _ x).trans (a_0 m c t x (i 0) (i 1) (by omega) (by omega)))

/-- Where an element of a block of the halved gated products lies. -/
theorem place5 (t : Fin cfg0.N) (y : ((cfg0.win 5).xblock (cfg0.grid.coords t)).Idx) :
    ((((View.whole main_v4_3).slice (win0_5.rect t)).emb y) 0).val = 256 * t.val + (y 0).val
    ∧ ((((View.whole main_v4_3).slice (win0_5.rect t)).emb y) 1).val = (y 1).val := by
  refine ⟨?_, ?_⟩ <;> blk_simp [idx t] <;> omega

/-- The array of the halved gated products after the run. -/
theorem out5_eq (c : Dev nD) : (dats m 0 c).arrAt 5 cfg0.N = GA (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  obtain ⟨p0, p1⟩ := place5 t y
  by_cases h0 : t.val % 8 = 0
  · exact after5_A m c t h0 y _ p0 p1
  · exact after5_B m c t h0 y _ p0 p1

end Cert.Ffn1Ideal.Sum

namespace Cert.Proof.Ffn1

open Cert.Ffn1RefIdeal Cert.Ffn1RefIdeal.Facts Cert.Ffn1RefIdeal.Gen Cert.Ffn1RefIdeal.Read Cert.Ffn1Ideal.Sum Cert.Gated

/-! ## The reference at an index -/

section

variable (x0 : S2048x1024.Idx → EReal) (x1 : S1x1024.Idx → EReal) (x2 : S1024x5632.Idx → EReal) (x3 : S2816x1024.Idx → EReal)

/-- The sum of a row's squares. -/
theorem sq_apply (i : S2048.Idx) : val_main_v1 (F := Ideal) x0 i = ∑ j : Fin 1024, x0 (ix2 (i 0) j) * x0 (ix2 (i 0) j) := by
  refine (val_main_v1_apply x0 i).trans ?_
  rw [val_main_cst_apply]
  show Ideal.ofBits .f32 0x00000000#32 + _ = _
  rw [Ideal.ofBits_zero_f32, zero_add]
  refine Finset.sum_congr rfl fun k _ => ?_
  rw [val_main_v0_apply]
  have e : idx_main_v1 i k = ix2 (i 0) k := funext fun a => Fin.ext (match a with
    | ⟨0, _⟩ => rfl
    | ⟨1, _⟩ => rfl)
  rw [e]
  rfl

/-- The reference's normalised rows. -/
theorem n_apply (i : S2048x1024.Idx) : val_main_v11 (F := Ideal) x0 x1 i = N x0 x1 (i 0) (i 1) := by
  rw [val_main_v11_apply, val_main_v9_apply, val_main_v8_apply, val_main_v7_apply, val_main_v6_apply, val_main_v4_apply, val_main_v5_apply,
    val_main_v3_apply, val_main_v2_apply, sq_apply, val_main_cst_0_apply, val_main_cst_1_apply, val_main_v10_apply]
  unfold N nrm
  refine congr (congrArg (fun a b : EReal => a * b) (congr (congrArg (fun a b : EReal => a * b) (congrArg x0 (ValueIdx.eq_ix2 i))) rfl))
    (congrArg x1 (funext fun a => Fin.ext ?_))
  match a with
  | ⟨0, _⟩ => rfl
  | ⟨1, _⟩ => rfl

/-- The reference's product with the first weights. -/
theorem gu_apply (i : S2048x5632.Idx) : val_main_v12 (F := Ideal) x0 x1 x2 i = GU x0 x1 x2 (i 0) (i 1) := by
  refine (val_main_v12_apply x0 x1 x2 i).trans ?_
  unfold GU
  refine Finset.sum_congr rfl fun k _ => ?_
  rw [n_apply]
  refine congrArg (fun b : EReal => N x0 x1 (i 0) k * b) (congrArg x2 (funext fun a => Fin.ext ?_))
  match a with
  | ⟨0, _⟩ => rfl
  | ⟨1, _⟩ => rfl

/-- Half the reference's gated product. -/
theorem act_apply (i : S2048x2816.Idx) : half * val_main_v16 (F := Ideal) x0 x1 x2 i = A x0 x1 x2 (i 0) (i 1) := by
  rw [val_main_v16_apply, val_main_v15_apply, val_main_call0_v5_apply, val_main_call0_v4_apply, val_main_call0_v3_apply, val_main_call0_v2_apply,
    val_main_call0_v1_apply, val_main_call0_v0_apply, val_main_v13_apply, val_main_v14_apply, gu_apply, gu_apply]
  unfold A act
  have e0 : idx_main_v13 i = ix2 (i 0) (⟨(i 1).val, Nat.lt_trans (i 1).isLt (by decide)⟩ : Fin 5632) := funext fun a => Fin.ext (match a with
    | ⟨0, _⟩ => rfl
    | ⟨1, _⟩ => rfl)
  have e1 : idx_main_v14 i = ix2 (i 0) (⟨2816 + (i 1).val, Nat.add_lt_add_left (i 1).isLt 2816⟩ : Fin 5632) := funext fun a => Fin.ext (match a with
    | ⟨0, _⟩ => rfl
    | ⟨1, _⟩ => rfl)
  rw [e0, e1]
  exact congrArg (fun l : EReal => half * (_ * l * _)) (logistic_eq _)

theorem ref_n : val_main_v21 (F := Ideal) x0 x1 = GN x0 x1 := funext fun i => (val_main_v21_apply (F := Ideal) x0 x1 i).trans (n_apply x0 x1 i)

theorem ref_g : val_main_v22 (F := Ideal) x0 x1 x2 = GG x0 x1 x2 := funext fun i => (val_main_v22_apply (F := Ideal) x0 x1 x2 i).trans (gu_apply x0 x1 x2 i)

theorem ref_a : val_main_v25 (F := Ideal) x0 x1 x2 = GA x0 x1 x2 := funext fun i => by
  refine (val_main_v25_apply (F := Ideal) x0 x1 x2 i).trans ?_
  show val_main_v24 (F := Ideal) x0 x1 x2 i = _
  rw [val_main_v24_apply, val_main_v23_apply, val_main_cst_3_apply]
  exact act_apply x0 x1 x2 i

theorem ref_h : val_main_v20 (F := Ideal) x0 x1 x2 x3 = GH x0 x1 x2 x3 := funext fun i => by
  rw [val_main_v20_apply, val_main_v19_apply, val_main_v18_apply, val_main_cst_2_apply]
  unfold GH H
  refine congr (congrArg (fun a b : EReal => a + b) (congrArg x0 (ValueIdx.eq_ix2 i))) ?_
  show half * _ = _
  rw [val_main_v17_apply, half_mul_sum]
  refine Finset.sum_congr rfl fun k _ => ?_
  rw [← mul_assoc, act_apply]
  refine congrArg (fun b : EReal => A x0 x1 x2 (i 0) k * b) (congrArg x3 (funext fun a => Fin.ext ?_))
  match a with
  | ⟨0, _⟩ => rfl
  | ⟨1, _⟩ => rfl

end

/-- The reference ends with its arguments unchanged and every semaphore counter at zero. -/
theorem frame : Cert.quiescent_Ffn1RefIdeal (hFfn1RefIdeal := Cert.Ffn1RefIdeal.Gen.facts) := fun m ρ _ =>
  (θ_run Cert.Ffn1RefIdeal.defs _ _).mono
    (fun r h => ⟨fun c => (h c).2.2.2.2, Idealize.ShloMosaic.sem_eq_zero_of_no_sems (by decide) r.2⟩)
    (Cert.Ffn1RefIdeal.Value.run (F := Ideal) m ρ)

/-- From arguments on which the two agree, kernel and reference end with the four equal results. -/
theorem algebraic : Cert.algebraic_Ffn1Ideal_Ffn1RefIdeal
    (hFfn1Ideal := Cert.Ffn1Ideal.Gen.facts) (hFfn1RefIdeal := Cert.Ffn1RefIdeal.Gen.facts) :=
    fun m g m' g' _ agree => by
  refine ⟨_, _, _, _, Cert.Ffn1Ideal.Value.run_blocks m g, ?_⟩
  refine (θ_run Cert.Ffn1RefIdeal.defs _ _).mono (fun r h c => ?_) (Cert.Ffn1RefIdeal.Value.run (F := Ideal) m' g')
  obtain ⟨h0, h1, h2, h3, hr⟩ := h c
  obtain ⟨a0, a1, a2, a3⟩ := agree c
  refine ⟨h0.trans ?_, h1.trans ?_, h2.trans ?_, h3.trans ?_, hr⟩
  · rw [val_main_v20_eq, a0, a1, a2, a3, ref_h]
    exact (out2_eq m c).symm
  · rw [val_main_v21_eq, a0, a1, ref_n]
    exact (out3_eq m c).symm
  · rw [val_main_v22_eq, a0, a1, a2, ref_g]
    exact (out4_eq m c).symm
  · rw [val_main_v25_eq, a0, a1, a2, ref_a]
    exact (out5_eq m c).symm

end Cert.Proof.Ffn1

end
-- ==== Proof.Act1.lean ====
module

public import proofs.«01_k».proof.Defs
public import proofs.«01_k».proof.Proof.Gen.Act1
public import proofs.«01_k».proof.Proof.Gen.Act1.Frame
public import proofs.«01_k».proof.Proof.Gen.Act1Ideal
public import proofs.«01_k».proof.Proof.Gen.Act1Ideal.Frame
public import proofs.«01_k».proof.Proof.Gen.Act1Ideal.Value
public import proofs.«01_k».proof.Proof.Gen.Act1RefIdeal
public import proofs.«01_k».proof.Proof.Gen.Act1RefIdeal.Run
public import proofs.«01_k».proof.Proof.Gen.Act1RefIdeal.Read
public import proofs.«01_k».proof.Proof.Gen.Pre_finite3
public import proofs.«01_k».proof.Proof.Finite
public import proofs.«01_k».proof.Proof.Gated
public import proofs.«01_k».proof.Proof.Staged
public import Idealize.ShloMosaic.Lib.Quiescent
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Act1Ideal.Sum

open Cert.Act1Ideal Cert.Act1Ideal.Gen

variable (m : (ℓ : Loc nD τ sig) → Buf (Elt Ideal) ℓ)

/-- Which block of each array a point takes. -/
theorem idx : ∀ t : Fin cfg0.N, win0_0.index t = ![t.val, 0] ∧ win0_1.index t = ![t.val, 0] ∧ win0_2.index t = ![t.val, 0] :=
  (by decide +kernel : ∀ t : Fin grid0.N, win0_0.index t = ![t.val, 0] ∧ win0_1.index t = ![t.val, 0] ∧ win0_2.index t = ![t.val, 0])

/-! ## What the kernel writes, as a function of its arguments -/

/-- The gradient of the gated product, halved: `½ · Σ dh · w`. -/
def da (x0 : S2048x1024.Idx → EReal) (x2 : S2816x1024.Idx → EReal) (p : Fin 2048) (n : Fin 2816) : EReal :=
  Cert.Gated.half * ∑ k : Fin 1024, x0 (ix2 p k) * x2 (ix2 n k)

/-- The gradient of the gate `g`, from that of the product `d` and the other factor `u`. -/
def gate (d u g : EReal) : EReal := d * u * (Ideal.logistic g * (1 + g * (1 - Ideal.logistic g)))

/-- The gradient of the other factor. -/
def lin (d g : EReal) : EReal := d * (g * Ideal.logistic g)

/-- The result: the gate's gradient in the first 2816 columns, the other factor's in the last. -/
def G (x0 : S2048x1024.Idx → EReal) (x1 : S2048x5632.Idx → EReal) (x2 : S2816x1024.Idx → EReal) (i : S2048x5632.Idx) : EReal :=
  if h : (i 1).val < 2816 then
    gate (da x0 x2 (i 0) ⟨(i 1).val, h⟩) (x1 (ix2 (i 0) (⟨2816 + (i 1).val, by omega⟩ : Fin 5632))) (x1 i)
  else
    lin (da x0 x2 (i 0) ⟨(i 1).val - 2816, by have : (i 1).val < 5632 := (i 1).isLt; omega⟩)
      (x1 (ix2 (i 0) (⟨(i 1).val - 2816, by have : (i 1).val < 5632 := (i 1).isLt; omega⟩ : Fin 5632)))

theorem G_gate (x0 : S2048x1024.Idx → EReal) (x1 : S2048x5632.Idx → EReal) (x2 : S2816x1024.Idx → EReal) (i : S2048x5632.Idx)
    (n : Fin 2816) : (i 1).val = n.val →
    G x0 x1 x2 i = gate (da x0 x2 (i 0) n) (x1 (ix2 (i 0) (⟨2816 + n.val, by omega⟩ : Fin 5632))) (x1 i) := by
  obtain ⟨n, hn⟩ := n
  intro h
  obtain rfl : (i 1).val = n := h
  exact dif_pos hn

theorem G_lin (x0 : S2048x1024.Idx → EReal) (x1 : S2048x5632.Idx → EReal) (x2 : S2816x1024.Idx → EReal) (i : S2048x5632.Idx)
    (n : Fin 2816) : (i 1).val = 2816 + n.val →
    G x0 x1 x2 i = lin (da x0 x2 (i 0) n) (x1 (ix2 (i 0) (⟨n.val, by omega⟩ : Fin 5632))) := by
  obtain ⟨n, hn⟩ := n
  intro h
  have h' : (i 1).val = 2816 + n := h
  obtain rfl : n = (i 1).val - 2816 := by omega
  exact dif_neg (by omega)

/-! ## The operands -/

theorem dh_eq (c : Dev nD) : V m c main_arg0 = (m ((c : Thread nD τ).loc main_arg0)) := V_main_arg0 m c

/-- The casts of the two other arguments are identities. -/
theorem gu_eq (c : Dev nD) : V m c main_v0 = (m ((c : Thread nD τ).loc main_arg1)) := by
  show StableHlo.after _ _ (Proc.devRef .tc main_v0) = _
  simp only [hostOps0, List.flatten_cons, List.flatten_nil, List.append_nil, List.cons_append, List.nil_append]
  after_results
  rfl

theorem wd_eq (c : Dev nD) : V m c main_v1 = (m ((c : Thread nD τ).loc main_arg2)) := by
  show StableHlo.after _ _ (Proc.devRef .tc main_v1) = _
  simp only [hostOps0, List.flatten_cons, List.flatten_nil, List.append_nil, List.cons_append, List.nil_append]
  after_results
  rfl

/-- A block of the incoming gradient. -/
theorem blk0 (c : Dev nD) (t : Fin cfg0.N) (r : Fin 512) (k : Fin 1024) (q : Fin 2048) (h : q.val = 512 * t.val + r.val) :
    iblk m c 0 t (ix2 r k) = (m ((c : Thread nD τ).loc main_arg0)) (ix2 q k) := by
  rw [← dh_eq m c]
  blk_ext [iblk, idx t] <;> omega

/-- A block of the saved gate and factor. -/
theorem blk1 (c : Dev nD) (t : Fin cfg0.N) (y : S512x5632.Idx) (i : S2048x5632.Idx) (h0 : (i 0).val = 512 * t.val + (y 0).val)
    (h1 : (i 1).val = (y 1).val) : iblk m c 1 t y = (m ((c : Thread nD τ).loc main_arg1)) i := by
  rw [← gu_eq m c]
  blk_ext [iblk, idx t] <;> omega

/-- The scratch buffer holds the weights after every point. -/
theorem held (c : Dev nD) : ∀ (n : ℕ) (h : n < cfg0.N), (outsAt0 m c n h).2 = V m c main_v1
  | 0, h => by
      show (outsAt0 m c (⟨0, h⟩ : Fin cfg0.N).val (⟨0, h⟩ : Fin cfg0.N).isLt).2 = _
      rw [outsAt0_A m c ⟨0, h⟩ rfl (by show ¬ 1 ≤ 0; omega)]
      frame_out
      exact Cert.Staged.canon_eq (V m c main_v1) _ ⟨fun _ => rfl, fun _ => rfl, trivial⟩
        (View.cover_of_tiledBy _ ![256, 1024] (by sl_kernel_rfl))
  | n + 1, h => by
      have hN : n + 1 < 4 := h
      show (outsAt0 m c (⟨n + 1, h⟩ : Fin cfg0.N).val (⟨n + 1, h⟩ : Fin cfg0.N).isLt).2 = _
      rw [outsAt0_B m c ⟨n + 1, h⟩ (by show ¬ (n + 1) % 4 = 0; omega) (by show 1 ≤ n + 1; omega)]
      exact held c n (Nat.lt_of_succ_lt h)

/-! ## The payloads of the stores, entry by entry -/

theorem pay_A_gate0 (B : Vec Ideal S512x1024 .f32) (U V : Vec Ideal S512x1536 .bf16) (W : Vec Ideal S1536x1024 .bf16) (y : S512x1536.Idx) :
    k0_pay14 (F := Ideal) (k0_pay10 U) (k0_pay11 B V W) (k0_pay12 U) k0_pay13 y = gate (Cert.Gated.half * ∑ k, B (ix2 (y 0) k) * W (ix2 (y 1) k)) (V y) (U y) := by
  rw [ValueIdx.eq_ix2 y]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
  rfl

theorem pay_A_lin0 (B : Vec Ideal S512x1024 .f32) (U : Vec Ideal S512x1536 .bf16) (W : Vec Ideal S1536x1024 .bf16) (y : S512x1536.Idx) :
    k0_pay15 (F := Ideal) (k0_pay8 U) (k0_pay9 B W) (k0_pay10 U) y = lin (Cert.Gated.half * ∑ k, B (ix2 (y 0) k) * W (ix2 (y 1) k)) (U y) := by
  rw [ValueIdx.eq_ix2 y]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
  rfl

theorem pay_A_gate1 (B : Vec Ideal S512x1024 .f32) (U V : Vec Ideal S512x1280 .bf16) (W : Vec Ideal S1280x1024 .bf16) (y : S512x1280.Idx) :
    k0_pay1 (F := Ideal) (k0_pay19 (k0_pay7 B) U V W) y = gate (Cert.Gated.half * ∑ k, B (ix2 (y 0) k) * W (ix2 (y 1) k)) (V y) (U y) := by
  rw [ValueIdx.eq_ix2 y]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
  rfl

theorem pay_A_lin1 (B : Vec Ideal S512x1024 .f32) (U : Vec Ideal S512x1280 .bf16) (W : Vec Ideal S1280x1024 .bf16) (y : S512x1280.Idx) :
    k0_pay2 (F := Ideal) (k0_pay16 U) (k0_pay17 (k0_pay7 B) W) (k0_pay18 U) y = lin (Cert.Gated.half * ∑ k, B (ix2 (y 0) k) * W (ix2 (y 1) k)) (U y) := by
  rw [ValueIdx.eq_ix2 y]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
  rfl

theorem pay_B_gate0 (B : Vec Ideal S512x1024 .f32) (U V : Vec Ideal S512x1536 .bf16) (W : Vec Ideal S1536x1024 .bf16) (y : S512x1536.Idx) :
    k0_pay24 (F := Ideal) B U V W y = gate (Cert.Gated.half * ∑ k, B (ix2 (y 0) k) * W (ix2 (y 1) k)) (V y) (U y) := by
  rw [ValueIdx.eq_ix2 y]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
  rfl

theorem pay_B_lin0 (B : Vec Ideal S512x1024 .f32) (U : Vec Ideal S512x1536 .bf16) (W : Vec Ideal S1536x1024 .bf16) (y : S512x1536.Idx) :
    k0_pay25 (F := Ideal) B U W y = lin (Cert.Gated.half * ∑ k, B (ix2 (y 0) k) * W (ix2 (y 1) k)) (U y) := by
  rw [ValueIdx.eq_ix2 y]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
  rfl

theorem pay_B_gate1 (B : Vec Ideal S512x1024 .f32) (U V : Vec Ideal S512x1280 .bf16) (W : Vec Ideal S1280x1024 .bf16) (y : S512x1280.Idx) :
    k0_pay5 (F := Ideal) (k0_pay20 B) (k0_pay26 U) (k0_pay27 V) W y = gate (Cert.Gated.half * ∑ k, B (ix2 (y 0) k) * W (ix2 (y 1) k)) (V y) (U y) := by
  rw [ValueIdx.eq_ix2 y]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
  rfl

theorem pay_B_lin1 (B : Vec Ideal S512x1024 .f32) (U : Vec Ideal S512x1280 .bf16) (W : Vec Ideal S1280x1024 .bf16) (y : S512x1280.Idx) :
    k0_pay6 (F := Ideal) (k0_pay20 B) (k0_pay26 U) W y = lin (Cert.Gated.half * ∑ k, B (ix2 (y 0) k) * W (ix2 (y 1) k)) (U y) := by
  rw [ValueIdx.eq_ix2 y]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
  rfl

/-! ## The stores' payloads are the function's entries -/

/-- The product over columns 0, …: its value. -/
theorem da_0 (c : Dev nD) (t : Fin cfg0.N) (x : S512x1536.Idx) (p : Fin 2048) (n : Fin 2816) (hp : p.val = 512 * t.val + (x 0).val)
    (hn : n.val = 0 + (x 1).val) (B : Vec Ideal S512x1024 .f32) (W : Vec Ideal S1536x1024 .bf16) (hB : B = iblk m c 0 t)
    (hW : W = View.ld (V m c main_v1) (Rect.unit ![0, 0] ![1536, 1024] inb_S2816x1024_S1536x1024_0_0)) :
    Cert.Gated.half * ∑ k : Fin 1024, B (ix2 (x 0) k) * W (ix2 (x 1) k) = da (m ((c : Thread nD τ).loc main_arg0)) (m ((c : Thread nD τ).loc main_arg2)) p n := by
  subst hB hW
  unfold da
  refine congrArg (Cert.Gated.half * ·) (Finset.sum_congr rfl fun k _ => ?_)
  congr 1
  · exact blk0 m c t (x 0) k p hp
  · rw [wd_eq m c]
    refine congrArg (m ((c : Thread nD τ).loc main_arg2)) (funext fun a => Fin.ext ?_)
    match a with
    | ⟨0, _⟩ => show 0 + 1 * (x 1).val = n.val; omega
    | ⟨1, _⟩ => show 0 + 1 * k.val = k.val; omega

theorem ld_g0 (c : Dev nD) (t : Fin cfg0.N) (x : S512x1536.Idx) (i : S2048x5632.Idx) (h0 : (i 0).val = 512 * t.val + (x 0).val)
    (h1 : (i 1).val = 0 + (x 1).val) : View.ld (iblk m c 1 t) (Rect.unit ![0, 0] ![512, 1536] inb_S512x5632_S512x1536_0_0) x = (m ((c : Thread nD τ).loc main_arg1)) i :=
  blk1 m c t _ i (h0.trans (by show _ = 512 * t.val + (0 + 1 * (x 0).val); omega))
    (h1.trans (by show _ = 0 + 1 * (x 1).val; omega))

theorem ld_u0 (c : Dev nD) (t : Fin cfg0.N) (x : S512x1536.Idx) (i : S2048x5632.Idx) (h0 : (i 0).val = 512 * t.val + (x 0).val)
    (h1 : (i 1).val = 2816 + (x 1).val) : View.ld (iblk m c 1 t) (Rect.unit ![0, 2816] ![512, 1536] inb_S512x5632_S512x1536_0_2816) x = (m ((c : Thread nD τ).loc main_arg1)) i :=
  blk1 m c t _ i (h0.trans (by show _ = 512 * t.val + (0 + 1 * (x 0).val); omega))
    (h1.trans (by show _ = 2816 + 1 * (x 1).val; omega))

/-- The product over columns 1536, …: its value. -/
theorem da_1 (c : Dev nD) (t : Fin cfg0.N) (x : S512x1280.Idx) (p : Fin 2048) (n : Fin 2816) (hp : p.val = 512 * t.val + (x 0).val)
    (hn : n.val = 1536 + (x 1).val) (B : Vec Ideal S512x1024 .f32) (W : Vec Ideal S1280x1024 .bf16) (hB : B = iblk m c 0 t)
    (hW : W = View.ld (V m c main_v1) (Rect.unit ![1536, 0] ![1280, 1024] inb_S2816x1024_S1280x1024_1536_0)) :
    Cert.Gated.half * ∑ k : Fin 1024, B (ix2 (x 0) k) * W (ix2 (x 1) k) = da (m ((c : Thread nD τ).loc main_arg0)) (m ((c : Thread nD τ).loc main_arg2)) p n := by
  subst hB hW
  unfold da
  refine congrArg (Cert.Gated.half * ·) (Finset.sum_congr rfl fun k _ => ?_)
  congr 1
  · exact blk0 m c t (x 0) k p hp
  · rw [wd_eq m c]
    refine congrArg (m ((c : Thread nD τ).loc main_arg2)) (funext fun a => Fin.ext ?_)
    match a with
    | ⟨0, _⟩ => show 1536 + 1 * (x 1).val = n.val; omega
    | ⟨1, _⟩ => show 0 + 1 * k.val = k.val; omega

theorem ld_g1 (c : Dev nD) (t : Fin cfg0.N) (x : S512x1280.Idx) (i : S2048x5632.Idx) (h0 : (i 0).val = 512 * t.val + (x 0).val)
    (h1 : (i 1).val = 1536 + (x 1).val) : View.ld (iblk m c 1 t) (Rect.unit ![0, 1536] ![512, 1280] inb_S512x5632_S512x1280_0_1536) x = (m ((c : Thread nD τ).loc main_arg1)) i :=
  blk1 m c t _ i (h0.trans (by show _ = 512 * t.val + (0 + 1 * (x 0).val); omega))
    (h1.trans (by show _ = 1536 + 1 * (x 1).val; omega))

theorem ld_u1 (c : Dev nD) (t : Fin cfg0.N) (x : S512x1280.Idx) (i : S2048x5632.Idx) (h0 : (i 0).val = 512 * t.val + (x 0).val)
    (h1 : (i 1).val = 4352 + (x 1).val) : View.ld (iblk m c 1 t) (Rect.unit ![0, 4352] ![512, 1280] inb_S512x5632_S512x1280_0_4352) x = (m ((c : Thread nD τ).loc main_arg1)) i :=
  blk1 m c t _ i (h0.trans (by show _ = 512 * t.val + (0 + 1 * (x 0).val); omega))
    (h1.trans (by show _ = 4352 + 1 * (x 1).val; omega))

theorem tile_A_gate0 (c : Dev nD) (t : Fin cfg0.N) (x : S512x1536.Idx) (i : S2048x5632.Idx) (p0 : (i 0).val = 512 * t.val + (x 0).val)
    (p1 : (i 1).val = 0 + (x 1).val) :
    k0_pay14 (F := Ideal) (k0_pay10 (View.ld (iblk m c 1 t) (Rect.unit ![0, 0] ![512, 1536] inb_S512x5632_S512x1536_0_0))) (k0_pay11 (iblk m c 0 t) (View.ld (iblk m c 1 t) (Rect.unit ![0, 2816] ![512, 1536] inb_S512x5632_S512x1536_0_2816)) (View.ld (V m c main_v1) (Rect.unit ![0, 0] ![1536, 1024] inb_S2816x1024_S1536x1024_0_0))) (k0_pay12 (View.ld (iblk m c 1 t) (Rect.unit ![0, 0] ![512, 1536] inb_S512x5632_S512x1536_0_0))) k0_pay13 x
      = G (m ((c : Thread nD τ).loc main_arg0)) (m ((c : Thread nD τ).loc main_arg1)) (m ((c : Thread nD τ).loc main_arg2)) i := by
  have hx : (x 1).val < 1536 := (x 1).isLt
  refine (pay_A_gate0 _ _ _ _ x).trans ?_
  refine Eq.trans ?_ (G_gate _ _ _ i (⟨0 + (x 1).val, by omega⟩ : Fin 2816) (p1.trans (by show 0 + (x 1).val = (0 + (x 1).val); omega))).symm
  exact congr (congr (congrArg gate (da_0 m c t x (i 0) (⟨0 + (x 1).val, by omega⟩ : Fin 2816) p0 rfl _ _ rfl rfl))
    (ld_u0 m c t x (ix2 (i 0) (⟨2816 + (0 + (x 1).val), by omega⟩ : Fin 5632)) p0 (by show 2816 + (0 + (x 1).val) = _; omega)))
    (ld_g0 m c t x i p0 p1)

theorem tile_A_lin0 (c : Dev nD) (t : Fin cfg0.N) (x : S512x1536.Idx) (i : S2048x5632.Idx) (p0 : (i 0).val = 512 * t.val + (x 0).val)
    (p1 : (i 1).val = 2816 + (x 1).val) :
    k0_pay15 (F := Ideal) (k0_pay8 (View.ld (iblk m c 1 t) (Rect.unit ![0, 0] ![512, 1536] inb_S512x5632_S512x1536_0_0))) (k0_pay9 (iblk m c 0 t) (View.ld (V m c main_v1) (Rect.unit ![0, 0] ![1536, 1024] inb_S2816x1024_S1536x1024_0_0))) (k0_pay10 (View.ld (iblk m c 1 t) (Rect.unit ![0, 0] ![512, 1536] inb_S512x5632_S512x1536_0_0))) x
      = G (m ((c : Thread nD τ).loc main_arg0)) (m ((c : Thread nD τ).loc main_arg1)) (m ((c : Thread nD τ).loc main_arg2)) i := by
  have hx : (x 1).val < 1536 := (x 1).isLt
  refine (pay_A_lin0 _ _ _ x).trans ?_
  refine Eq.trans ?_ (G_lin _ _ _ i (⟨0 + (x 1).val, by omega⟩ : Fin 2816) (p1.trans (by show 2816 + (x 1).val = 2816 + (0 + (x 1).val); omega))).symm
  exact congr (congrArg lin (da_0 m c t x (i 0) (⟨0 + (x 1).val, by omega⟩ : Fin 2816) p0 rfl _ _ rfl rfl))
    (ld_g0 m c t x (ix2 (i 0) (⟨0 + (x 1).val, by omega⟩ : Fin 5632)) p0 rfl)

theorem tile_A_gate1 (c : Dev nD) (t : Fin cfg0.N) (x : S512x1280.Idx) (i : S2048x5632.Idx) (p0 : (i 0).val = 512 * t.val + (x 0).val)
    (p1 : (i 1).val = 1536 + (x 1).val) :
    k0_pay1 (F := Ideal) (k0_pay19 (k0_pay7 (iblk m c 0 t)) (View.ld (iblk m c 1 t) (Rect.unit ![0, 1536] ![512, 1280] inb_S512x5632_S512x1280_0_1536)) (View.ld (iblk m c 1 t) (Rect.unit ![0, 4352] ![512, 1280] inb_S512x5632_S512x1280_0_4352)) (View.ld (V m c main_v1) (Rect.unit ![1536, 0] ![1280, 1024] inb_S2816x1024_S1280x1024_1536_0))) x
      = G (m ((c : Thread nD τ).loc main_arg0)) (m ((c : Thread nD τ).loc main_arg1)) (m ((c : Thread nD τ).loc main_arg2)) i := by
  have hx : (x 1).val < 1280 := (x 1).isLt
  refine (pay_A_gate1 _ _ _ _ x).trans ?_
  refine Eq.trans ?_ (G_gate _ _ _ i (⟨1536 + (x 1).val, by omega⟩ : Fin 2816) (p1.trans (by show 1536 + (x 1).val = (1536 + (x 1).val); omega))).symm
  exact congr (congr (congrArg gate (da_1 m c t x (i 0) (⟨1536 + (x 1).val, by omega⟩ : Fin 2816) p0 rfl _ _ rfl rfl))
    (ld_u1 m c t x (ix2 (i 0) (⟨2816 + (1536 + (x 1).val), by omega⟩ : Fin 5632)) p0 (by show 2816 + (1536 + (x 1).val) = _; omega)))
    (ld_g1 m c t x i p0 p1)

theorem tile_A_lin1 (c : Dev nD) (t : Fin cfg0.N) (x : S512x1280.Idx) (i : S2048x5632.Idx) (p0 : (i 0).val = 512 * t.val + (x 0).val)
    (p1 : (i 1).val = 4352 + (x 1).val) :
    k0_pay2 (F := Ideal) (k0_pay16 (View.ld (iblk m c 1 t) (Rect.unit ![0, 1536] ![512, 1280] inb_S512x5632_S512x1280_0_1536))) (k0_pay17 (k0_pay7 (iblk m c 0 t)) (View.ld (V m c main_v1) (Rect.unit ![1536, 0] ![1280, 1024] inb_S2816x1024_S1280x1024_1536_0))) (k0_pay18 (View.ld (iblk m c 1 t) (Rect.unit ![0, 1536] ![512, 1280] inb_S512x5632_S512x1280_0_1536))) x
      = G (m ((c : Thread nD τ).loc main_arg0)) (m ((c : Thread nD τ).loc main_arg1)) (m ((c : Thread nD τ).loc main_arg2)) i := by
  have hx : (x 1).val < 1280 := (x 1).isLt
  refine (pay_A_lin1 _ _ _ x).trans ?_
  refine Eq.trans ?_ (G_lin _ _ _ i (⟨1536 + (x 1).val, by omega⟩ : Fin 2816) (p1.trans (by show 4352 + (x 1).val = 2816 + (1536 + (x 1).val); omega))).symm
  exact congr (congrArg lin (da_1 m c t x (i 0) (⟨1536 + (x 1).val, by omega⟩ : Fin 2816) p0 rfl _ _ rfl rfl))
    (ld_g1 m c t x (ix2 (i 0) (⟨1536 + (x 1).val, by omega⟩ : Fin 5632)) p0 rfl)

theorem tile_B_gate0 (c : Dev nD) (t : Fin cfg0.N) (x : S512x1536.Idx) (i : S2048x5632.Idx) (p0 : (i 0).val = 512 * t.val + (x 0).val)
    (p1 : (i 1).val = 0 + (x 1).val) :
    k0_pay24 (F := Ideal) (iblk m c 0 t) (View.ld (iblk m c 1 t) (Rect.unit ![0, 0] ![512, 1536] inb_S512x5632_S512x1536_0_0)) (View.ld (iblk m c 1 t) (Rect.unit ![0, 2816] ![512, 1536] inb_S512x5632_S512x1536_0_2816)) (View.ld (V m c main_v1) (Rect.unit ![0, 0] ![1536, 1024] inb_S2816x1024_S1536x1024_0_0)) x
      = G (m ((c : Thread nD τ).loc main_arg0)) (m ((c : Thread nD τ).loc main_arg1)) (m ((c : Thread nD τ).loc main_arg2)) i := by
  have hx : (x 1).val < 1536 := (x 1).isLt
  refine (pay_B_gate0 _ _ _ _ x).trans ?_
  refine Eq.trans ?_ (G_gate _ _ _ i (⟨0 + (x 1).val, by omega⟩ : Fin 2816) (p1.trans (by show 0 + (x 1).val = (0 + (x 1).val); omega))).symm
  exact congr (congr (congrArg gate (da_0 m c t x (i 0) (⟨0 + (x 1).val, by omega⟩ : Fin 2816) p0 rfl _ _ rfl rfl))
    (ld_u0 m c t x (ix2 (i 0) (⟨2816 + (0 + (x 1).val), by omega⟩ : Fin 5632)) p0 (by show 2816 + (0 + (x 1).val) = _; omega)))
    (ld_g0 m c t x i p0 p1)

theorem tile_B_lin0 (c : Dev nD) (t : Fin cfg0.N) (x : S512x1536.Idx) (i : S2048x5632.Idx) (p0 : (i 0).val = 512 * t.val + (x 0).val)
    (p1 : (i 1).val = 2816 + (x 1).val) :
    k0_pay25 (F := Ideal) (iblk m c 0 t) (View.ld (iblk m c 1 t) (Rect.unit ![0, 0] ![512, 1536] inb_S512x5632_S512x1536_0_0)) (View.ld (V m c main_v1) (Rect.unit ![0, 0] ![1536, 1024] inb_S2816x1024_S1536x1024_0_0)) x
      = G (m ((c : Thread nD τ).loc main_arg0)) (m ((c : Thread nD τ).loc main_arg1)) (m ((c : Thread nD τ).loc main_arg2)) i := by
  have hx : (x 1).val < 1536 := (x 1).isLt
  refine (pay_B_lin0 _ _ _ x).trans ?_
  refine Eq.trans ?_ (G_lin _ _ _ i (⟨0 + (x 1).val, by omega⟩ : Fin 2816) (p1.trans (by show 2816 + (x 1).val = 2816 + (0 + (x 1).val); omega))).symm
  exact congr (congrArg lin (da_0 m c t x (i 0) (⟨0 + (x 1).val, by omega⟩ : Fin 2816) p0 rfl _ _ rfl rfl))
    (ld_g0 m c t x (ix2 (i 0) (⟨0 + (x 1).val, by omega⟩ : Fin 5632)) p0 rfl)

theorem tile_B_gate1 (c : Dev nD) (t : Fin cfg0.N) (x : S512x1280.Idx) (i : S2048x5632.Idx) (p0 : (i 0).val = 512 * t.val + (x 0).val)
    (p1 : (i 1).val = 1536 + (x 1).val) :
    k0_pay5 (F := Ideal) (k0_pay20 (iblk m c 0 t)) (k0_pay26 (View.ld (iblk m c 1 t) (Rect.unit ![0, 1536] ![512, 1280] inb_S512x5632_S512x1280_0_1536))) (k0_pay27 (View.ld (iblk m c 1 t) (Rect.unit ![0, 4352] ![512, 1280] inb_S512x5632_S512x1280_0_4352))) (View.ld (V m c main_v1) (Rect.unit ![1536, 0] ![1280, 1024] inb_S2816x1024_S1280x1024_1536_0)) x
      = G (m ((c : Thread nD τ).loc main_arg0)) (m ((c : Thread nD τ).loc main_arg1)) (m ((c : Thread nD τ).loc main_arg2)) i := by
  have hx : (x 1).val < 1280 := (x 1).isLt
  refine (pay_B_gate1 _ _ _ _ x).trans ?_
  refine Eq.trans ?_ (G_gate _ _ _ i (⟨1536 + (x 1).val, by omega⟩ : Fin 2816) (p1.trans (by show 1536 + (x 1).val = (1536 + (x 1).val); omega))).symm
  exact congr (congr (congrArg gate (da_1 m c t x (i 0) (⟨1536 + (x 1).val, by omega⟩ : Fin 2816) p0 rfl _ _ rfl rfl))
    (ld_u1 m c t x (ix2 (i 0) (⟨2816 + (1536 + (x 1).val), by omega⟩ : Fin 5632)) p0 (by show 2816 + (1536 + (x 1).val) = _; omega)))
    (ld_g1 m c t x i p0 p1)

theorem tile_B_lin1 (c : Dev nD) (t : Fin cfg0.N) (x : S512x1280.Idx) (i : S2048x5632.Idx) (p0 : (i 0).val = 512 * t.val + (x 0).val)
    (p1 : (i 1).val = 4352 + (x 1).val) :
    k0_pay6 (F := Ideal) (k0_pay20 (iblk m c 0 t)) (k0_pay26 (View.ld (iblk m c 1 t) (Rect.unit ![0, 1536] ![512, 1280] inb_S512x5632_S512x1280_0_1536))) (View.ld (V m c main_v1) (Rect.unit ![1536, 0] ![1280, 1024] inb_S2816x1024_S1280x1024_1536_0)) x
      = G (m ((c : Thread nD τ).loc main_arg0)) (m ((c : Thread nD τ).loc main_arg1)) (m ((c : Thread nD τ).loc main_arg2)) i := by
  have hx : (x 1).val < 1280 := (x 1).isLt
  refine (pay_B_lin1 _ _ _ x).trans ?_
  refine Eq.trans ?_ (G_lin _ _ _ i (⟨1536 + (x 1).val, by omega⟩ : Fin 2816) (p1.trans (by show 4352 + (x 1).val = 2816 + (1536 + (x 1).val); omega))).symm
  exact congr (congrArg lin (da_1 m c t x (i 0) (⟨1536 + (x 1).val, by omega⟩ : Fin 2816) p0 rfl _ _ rfl rfl))
    (ld_g1 m c t x (ix2 (i 0) (⟨1536 + (x 1).val, by omega⟩ : Fin 5632)) p0 rfl)

/-- Where an element of the result's block lies in the result. -/
theorem place (t : Fin cfg0.N) (y : ((cfg0.win 2).xblock (cfg0.grid.coords t)).Idx) :
    ((((View.whole main_v2).slice (win0_2.rect t)).emb y) 0).val = 512 * t.val + (y 0).val
    ∧ ((((View.whole main_v2).slice (win0_2.rect t)).emb y) 1).val = (y 1).val := by
  refine ⟨?_, ?_⟩ <;> blk_simp [idx t] <;> omega

/-- What the first point leaves in the result's block. -/
theorem after_A (c : Dev nD) (t : Fin cfg0.N) (h0 : t.val % 4 = 0) (y : S512x5632.Idx) (i : S2048x5632.Idx)
    (p0 : (i 0).val = 512 * t.val + (y 0).val) (p1 : (i 1).val = (y 1).val) : (dats m 0 c).after 2 t y = G (m ((c : Thread nD τ).loc main_arg0)) (m ((c : Thread nD τ).loc main_arg1)) (m ((c : Thread nD τ).loc main_arg2)) i := by
  have hN : t.val < 4 := t.isLt
  rw [after0_2, outsAt0_A m c t h0 (by omega)]
  frame_out
  rw [Cert.Staged.readCov_eq (View.whole cc0_scratch0) (V m c main_v1), Cert.Staged.readCov_eq (View.whole cc0_scratch0) (V m c main_v1)]
  rotate_left
  · exact ⟨fun _ => rfl, fun _ => rfl, trivial⟩
  · exact View.cover_of_tiledBy _ ![256, 1024] (by sl_kernel_rfl)
  · exact ⟨fun _ => rfl, fun _ => rfl, trivial⟩
  · exact View.cover_of_tiledBy _ ![256, 1024] (by sl_kernel_rfl)
  canon_tiles x h using (View.cover_of_tiledBy _ ![512, 256] (by sl_kernel_rfl) _)
  · exact tile_A_lin1 m c t x i (by omega) (by omega)
  · exact tile_A_gate1 m c t x i (by omega) (by omega)
  · exact tile_A_lin0 m c t x i (by omega) (by omega)
  · exact tile_A_gate0 m c t x i (by omega) (by omega)

/-- What a later point leaves in the result's block. -/
theorem after_B (c : Dev nD) (t : Fin cfg0.N) (h0 : ¬ t.val % 4 = 0) (y : S512x5632.Idx) (i : S2048x5632.Idx)
    (p0 : (i 0).val = 512 * t.val + (y 0).val) (p1 : (i 1).val = (y 1).val) : (dats m 0 c).after 2 t y = G (m ((c : Thread nD τ).loc main_arg0)) (m ((c : Thread nD τ).loc main_arg1)) (m ((c : Thread nD τ).loc main_arg2)) i := by
  have h1 : 1 ≤ t.val := by omega
  rw [after0_2, outsAt0_B m c t h0 h1]
  frame_out
  simp only [read_unread_whole]
  rw [held m c]
  canon_tiles x h using (View.cover_of_tiledBy _ ![512, 256] (by sl_kernel_rfl) _)
  · exact tile_B_lin1 m c t x i (by omega) (by omega)
  · exact tile_B_gate1 m c t x i (by omega) (by omega)
  · exact tile_B_lin0 m c t x i (by omega) (by omega)
  · exact tile_B_gate0 m c t x i (by omega) (by omega)

/-- The result array after the run. -/
theorem out_eq (c : Dev nD) : (dats m 0 c).arrAt 2 cfg0.N = G (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  obtain ⟨p0, p1⟩ := place t y
  by_cases h0 : t.val % 4 = 0
  · exact after_A m c t h0 y _ p0 p1
  · exact after_B m c t h0 y _ p0 p1

end Cert.Act1Ideal.Sum

namespace Cert.Proof.Act1

open Cert.Act1RefIdeal Cert.Act1RefIdeal.Facts Cert.Act1RefIdeal.Gen Cert.Act1RefIdeal.Read Cert.Act1Ideal.Sum Cert.Gated

/-! ## The reference at an index -/

section

variable (x0 : S2048x1024.Idx → EReal) (x1 : S2048x5632.Idx → EReal) (x2 : S2816x1024.Idx → EReal)

/-- The reference's logistic function of the gate. -/
theorem sig_apply (i : S2048x2816.Idx) : val_main_v2_2 (F := Ideal) x1 i = Ideal.logistic (x1 (idx_main_v0 i)) := by
  rw [val_main_v2_2_apply, val_main_call0_v4_apply, val_main_call0_v3_apply, val_main_call0_v2_apply, val_main_call0_v1_apply,
    val_main_call0_v0_apply, val_main_v0_apply]
  exact logistic_eq _

/-- The reference's gradient of the gated product. -/
theorem da_apply (i : S2048x2816.Idx) : val_main_v9 (F := Ideal) x0 x2 i = da x0 x2 (i 0) (i 1) := by
  refine (val_main_v9_apply x0 x2 i).trans ?_
  unfold da
  rw [half_mul_sum]
  refine Finset.sum_congr rfl fun k _ => ?_
  rw [val_main_v8_apply, val_main_v7_apply]
  refine (mul_assoc _ _ _).trans (congrArg (half * ·) ?_)
  congr 1
  · refine congrArg x0 (funext fun a => Fin.ext ?_)
    match a with
    | ⟨0, _⟩ => rfl
    | ⟨1, _⟩ => rfl
  · refine congrArg x2 (funext fun a => Fin.ext ?_)
    match a with
    | ⟨0, _⟩ => rfl
    | ⟨1, _⟩ => rfl

/-- The second half of the reference's columns. -/
theorem lin_apply (i : S2048x2816.Idx) : val_main_v10 (F := Ideal) x0 x1 x2 i = lin (da x0 x2 (i 0) (i 1)) (x1 (idx_main_v0 i)) := by
  rw [val_main_v10_apply, da_apply, val_main_v2_0_apply, sig_apply, val_main_v0_apply]
  exact mul_comm _ _

/-- The first half, where the product, the factor and the gate are real numbers. -/
theorem gate_apply (i : S2048x2816.Idx) (hd : IsReal (da x0 x2 (i 0) (i 1))) (h1 : ∀ j, IsReal (x1 j)) :
    val_main_v12 (F := Ideal) x0 x1 x2 i = gate (da x0 x2 (i 0) (i 1)) (x1 (idx_main_v1 i)) (x1 (idx_main_v0 i)) := by
  rw [val_main_v12_apply, val_main_call1_v1_apply, val_main_call1_v2_apply, val_main_call1_v0_apply, val_main_v11_apply, da_apply,
    val_main_v2_1_apply, val_main_call0_v7_apply, val_main_call0_v6_apply, sig_apply, val_main_v0_apply, val_main_v1_apply]
  refine Eq.trans ?_ (gate_eq hd (h1 _) (h1 _))
  rw [val_main_call0_cst_1_apply]
  show _ + _ * (_ * (Ideal.ofBits .f32 0x3F800000#32 - _)) = _
  rw [Ideal.ofBits_one_f32]
  rfl

/-- On real arguments the reference's result is the kernel's function. -/
theorem ref_eq (h0 : ∀ j, IsReal (x0 j)) (h1 : ∀ j, IsReal (x1 j)) (h2 : ∀ j, IsReal (x2 j)) :
    val_main_v14 (F := Ideal) x0 x1 x2 = Cert.Act1Ideal.Sum.G x0 x1 x2 := by
  funext i
  rw [val_main_v14_apply]
  show val_main_v13 (F := Ideal) x0 x1 x2 i = _
  unfold val_main_v13
  have hi : (i 1).val < 5632 := (i 1).isLt
  by_cases h : (i 1).val < 2816
  · refine (concatenate_pair_apply_left (s₁ := S2048x2816) (s₂ := S2048x2816) 1 _ _ _ i rfl (ix2 (i 0) (⟨(i 1).val, h⟩ : Fin 2816)) fun b => match b with
      | ⟨0, _⟩ => rfl
      | ⟨1, _⟩ => rfl).trans ?_
    refine (gate_apply x0 x1 x2 _ (isReal_half.mul (IsReal.sum _ _ fun k => (h0 _).mul (h2 _))) h1).trans ?_
    refine Eq.trans ?_ (G_gate x0 x1 x2 i ⟨(i 1).val, h⟩ rfl).symm
    refine congr (congrArg (gate _) (congrArg x1 (funext fun a => Fin.ext ?_))) (congrArg x1 (funext fun a => Fin.ext ?_))
    · match a with
      | ⟨0, _⟩ => rfl
      | ⟨1, _⟩ => rfl
    · match a with
      | ⟨0, _⟩ => rfl
      | ⟨1, _⟩ => rfl
  · refine (concatenate_pair_apply_right (s₁ := S2048x2816) (s₂ := S2048x2816) 1 _ _ _ i rfl rfl (ix2 (i 0) (⟨(i 1).val - 2816, by omega⟩ : Fin 2816)) (fun b => match b with
      | ⟨0, _⟩ => fun _ => rfl
      | ⟨1, _⟩ => fun hb => absurd rfl hb) (by show (i 1).val - 2816 + 2816 = (i 1).val; omega)).trans ?_
    refine (lin_apply x0 x1 x2 _).trans ?_
    refine Eq.trans ?_ (G_lin x0 x1 x2 i ⟨(i 1).val - 2816, by omega⟩ (by show (i 1).val = 2816 + ((i 1).val - 2816); omega)).symm
    refine congrArg (lin _) (congrArg x1 (funext fun a => Fin.ext ?_))
    match a with
    | ⟨0, _⟩ => rfl
    | ⟨1, _⟩ => rfl

end

/-! ## The precondition -/

/-- An array of which the precondition says that every entry is finite holds real numbers. -/
theorem reals_of_all {s : Shape} {x : FVec Ideal s .f32} {hb : Cert.Pre_finite3.S_.BroadcastsInDim s (![] : Fin 0 → Fin s.rank)}
    {dims : List (Fin s.rank)} {hr : s.ReducesTo dims Cert.Pre_finite3.S_} {h_S_ : 0 < Cert.Pre_finite3.S_.numel} {p : Cert.Pre_finite3.S_.Idx}
    (h : Host.reduce IntOp.andi
      (cmpf .olt (Host.absf x) (broadcastInDim s ![] hb (constant Cert.Pre_finite3.S_ .f32 0x7F800000#32)))
      (constantI Cert.Pre_finite3.S_ 1 1#1) hr h_S_ p = 1#1) (j : s.Idx) : IsReal (x j) :=
  ⟨_, Cert.Proof.Attn.real_of_lt (Host.reduce_andi_all _ _ _ _ _ h j)⟩

/-- Under the precondition the three arguments hold real numbers. -/
theorem reals_of_pre {x0 : FVec Ideal Cert.Pre_finite3.S2048x1024 .f32} {x1 : FVec Ideal Cert.Pre_finite3.S2048x5632 .f32}
    {x2 : FVec Ideal Cert.Pre_finite3.S2816x1024 .f32} (h : Cert.Pre_finite3.fn (F := Ideal) x0 x1 x2 = fun _ => 1#1) :
    (∀ j, IsReal (x0 j)) ∧ (∀ j, IsReal (x1 j)) ∧ (∀ j, IsReal (x2 j)) := by
  have e := congrFun h (fun a => a.elim0)
  dsimp only [Cert.Pre_finite3.fn] at e
  obtain ⟨e, e2⟩ := Cert.Proof.Attn.and_one e
  obtain ⟨e0, e1⟩ := Cert.Proof.Attn.and_one e
  exact ⟨reals_of_all e0, reals_of_all e1, reals_of_all e2⟩

/-- The reference ends with its arguments unchanged and every semaphore counter at zero. -/
theorem frame : Cert.quiescent_Act1RefIdeal (hAct1RefIdeal := Cert.Act1RefIdeal.Gen.facts) := fun m ρ _ =>
  (θ_run Cert.Act1RefIdeal.defs _ _).mono
    (fun r h => ⟨fun c => (h c).2, Idealize.ShloMosaic.sem_eq_zero_of_no_sems (by decide) r.2⟩)
    (Cert.Act1RefIdeal.Value.run (F := Ideal) m ρ)

/-- From finite arguments on which the two agree, kernel and reference end with equal gradients. -/
theorem algebraic : Cert.algebraic_Act1Ideal_Act1RefIdeal_pre_finite3
    (hAct1Ideal := Cert.Act1Ideal.Gen.facts) (hAct1RefIdeal := Cert.Act1RefIdeal.Gen.facts) (hPre_finite3 := Cert.Pre_finite3.Gen.facts) :=
    fun m g m' g' pre agree => by
  refine ⟨_, Cert.Act1Ideal.Value.run_blocks m g, ?_⟩
  refine (θ_run Cert.Act1RefIdeal.defs _ _).mono (fun r h c => ?_) (Cert.Act1RefIdeal.Value.run (F := Ideal) m' g')
  obtain ⟨h0, hr⟩ := h c
  obtain ⟨a0, a1, a2⟩ := agree c
  obtain ⟨r0, r1, r2⟩ := reals_of_pre (pre c)
  refine ⟨h0.trans ?_, hr⟩
  rw [val_main_v14_eq, a0, a1, a2, ref_eq _ _ _ r0 r1 r2]
  exact (Cert.Act1Ideal.Sum.out_eq m c).symm

end Cert.Proof.Act1

end
-- ==== Proof.Norm.lean ====
/-
  The root-mean-square norm of a row of 1024 extended reals and its gradient; sums taken a block of rows at a time.
-/
module

public import proofs.«01_k».proof.Proof.Gated

@[expose] public section

noncomputable section

namespace Cert.Norm

open Idealize.ShloMosaic Cert.Gated

/-! ## The constants -/

/-- The width of a row, as the programs spell it. -/
abbrev wid : EReal := Ideal.ofBits FTy.f32 0x44800000#32

/-- The number added to the mean of the squares. -/
abbrev eps : EReal := Ideal.ofBits FTy.f32 0x358637BD#32

/-- Minus a half. -/
abbrev mhalf : EReal := Ideal.ofBits FTy.f32 0xBF000000#32

/-- The width's inverse. -/
abbrev perRow : EReal := Ideal.ofBits FTy.f32 0x3A800000#32

/-- Half the width's inverse. -/
abbrev halfPerRow : EReal := Ideal.ofBits FTy.f32 0x3A000000#32

theorem wid_eq : wid = ((1024 : ℝ) : EReal) := by
  simp [Ideal.ofBits, Ideal.ieee, -EReal.coe_mul]; norm_num

theorem eps_eq : ∃ e : ℝ, 0 < e ∧ eps = (e : EReal) := by
  refine ⟨_, ?_, by simp [Ideal.ofBits, Ideal.ieee, -EReal.coe_mul]; rfl⟩
  positivity

theorem mhalf_eq : mhalf = ((-(1 / 2) : ℝ) : EReal) := by
  simp [Ideal.ofBits, Ideal.ieee, -EReal.coe_mul]; norm_num

theorem perRow_eq : perRow = ((1 / 1024 : ℝ) : EReal) := by
  simp [Ideal.ofBits, Ideal.ieee, -EReal.coe_mul]; norm_num

theorem halfPerRow_eq : halfPerRow = ((1 / 2048 : ℝ) : EReal) := by
  simp [Ideal.ofBits, Ideal.ieee, -EReal.coe_mul]; norm_num

theorem two_eq : Ideal.ofBits FTy.f32 0x40000000#32 = ((2 : ℝ) : EReal) := by
  simp [Ideal.ofBits, Ideal.ieee, -EReal.coe_mul]; norm_num

/-! ## Real numbers -/

theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem isReal_sub {x y : EReal} (hx : IsReal x) (hy : IsReal y) : IsReal (x - y) := by
  obtain ⟨a, rfl⟩ := hx
  obtain ⟨b, rfl⟩ := hy
  exact ⟨a - b, (EReal.coe_sub a b).symm⟩

theorem isReal_div_wid {x : EReal} (hx : IsReal x) : IsReal (Ideal.div x wid) := by
  obtain ⟨a, rfl⟩ := hx
  rw [wid_eq, Ideal.div_coe (by norm_num)]
  exact ⟨_, (EReal.coe_mul _ _).symm⟩

theorem isReal_perRow : IsReal perRow := ⟨_, perRow_eq⟩

theorem isReal_logistic {x : EReal} (hx : IsReal x) : IsReal (Ideal.logistic x) := by
  obtain ⟨a, rfl⟩ := hx
  exact ⟨_, Ideal.logistic_coe a⟩

theorem isReal_one : IsReal 1 := ⟨1, rfl⟩

/-! ## The norm and its gradient -/

/-- The mean of a row's squares, plus the small number. -/
def ms (x : Fin 1024 → EReal) : EReal := Ideal.div (∑ j : Fin 1024, x j * x j) wid + eps

/-- The inverse root of that. -/
def rr (x : Fin 1024 → EReal) : EReal := Ideal.rsqrt (ms x)

/-- The gradient through a norm with gain `g` at row `x`, of the incoming gradient `d`. -/
def back (x g d : Fin 1024 → EReal) (k : Fin 1024) : EReal :=
  rr x * (d k * g k - x k * rr x * Ideal.div (∑ j : Fin 1024, d j * g j * (x j * rr x)) wid)

/-- What reaches the row through the mean of its squares, before the factor `2 · x`. -/
def through (x g d : Fin 1024 → EReal) : EReal :=
  Ideal.div ((∑ j : Fin 1024, x j * (d j * g j)) * (mhalf * Ideal.div (rr x) (ms x))) wid

/-- Of a row of real numbers both are real, and the inverse root squared is the inverse. -/
theorem rr_eq {x : Fin 1024 → EReal} (hx : ∀ j, IsReal (x j)) :
    ∃ r s : ℝ, rr x = (r : EReal) ∧ ms x = (s : EReal) ∧ 0 < s ∧ r * r * s = 1 := by
  choose X hX using hx
  obtain ⟨e, he, hE⟩ := eps_eq
  have hm : ms x = (((∑ j, X j * X j) * (1 / 1024) + e : ℝ) : EReal) := by
    unfold ms
    rw [hE, wid_eq, Ideal.div_coe (by norm_num)]
    simp only [hX, ← EReal.coe_mul, coe_sum, ← EReal.coe_add]
  have hs : 0 < (∑ j, X j * X j) * (1 / 1024) + e :=
    add_pos_of_nonneg_of_pos (mul_nonneg (Finset.sum_nonneg fun j _ => mul_self_nonneg _) (by norm_num)) he
  generalize (∑ j, X j * X j) * (1 / 1024) + e = s at hm hs
  refine ⟨(Real.sqrt s)⁻¹, s, ?_, hm, hs, ?_⟩
  · unfold rr
    rw [hm, Ideal.rsqrt_coe, if_neg hs.not_gt, if_neg hs.ne']
  · have h := Real.mul_self_sqrt hs.le
    have h0 : Real.sqrt s ≠ 0 := (Real.sqrt_pos.mpr hs).ne'
    field_simp
    nlinarith [h]

theorem isReal_rr {x : Fin 1024 → EReal} (hx : ∀ j, IsReal (x j)) : IsReal (rr x) := by
  obtain ⟨r, _, h, _⟩ := rr_eq hx
  exact ⟨r, h⟩

theorem isReal_back {x g d : Fin 1024 → EReal} (hx : ∀ j, IsReal (x j)) (hg : ∀ j, IsReal (g j)) (hd : ∀ j, IsReal (d j))
    (k : Fin 1024) : IsReal (back x g d k) :=
  (isReal_rr hx).mul (isReal_sub ((hd k).mul (hg k)) (((hx k).mul (isReal_rr hx)).mul
    (isReal_div_wid (IsReal.sum _ _ fun j => ((hd j).mul (hg j)).mul ((hx j).mul (isReal_rr hx))))))

/-- On real numbers the product rule's three terms are the gradient. -/
theorem back_eq {x g d : Fin 1024 → EReal} (hx : ∀ j, IsReal (x j)) (hg : ∀ j, IsReal (g j)) (hd : ∀ j, IsReal (d j)) (k : Fin 1024) :
    d k * g k * rr x + x k * through x g d + through x g d * x k = back x g d k := by
  obtain ⟨r, s, hr, hm, hs, h1⟩ := rr_eq hx
  unfold through back
  rw [hr, hm, wid_eq, mhalf_eq]
  choose X hX using hx
  choose G hG using hg
  choose D hD using hd
  simp only [Ideal.div_coe (show (1024 : ℝ) ≠ 0 by norm_num), Ideal.div_coe hs.ne', hX, hG, hD, ← EReal.coe_mul, coe_sum, ← EReal.coe_add,
    ← EReal.coe_sub]
  refine congrArg _ ?_
  have e : ∑ j, D j * G j * (X j * r) = (∑ j, X j * (D j * G j)) * r := by
    rw [Finset.sum_mul]
    exact Finset.sum_congr rfl fun j _ => by ring
  rw [e]
  generalize ∑ j, X j * (D j * G j) = p
  have hi : 1 / s = r * r := by
    rw [div_eq_iff hs.ne']
    exact h1.symm
  rw [hi]
  ring

/-! ## Scaling sums -/

theorem perRow_mul_sum {ι : Type} (s : Finset ι) (f : ι → EReal) : halfPerRow * ∑ k ∈ s, f k = ∑ k ∈ s, halfPerRow * f k := by
  classical
  induction s using Finset.induction_on with
  | empty => simp
  | insert a s ha ih =>
    rw [Finset.sum_insert ha, Finset.sum_insert ha, ← ih, halfPerRow_eq]
    exact EReal.left_distrib_of_nonneg_of_ne_top (by exact_mod_cast (by norm_num : (0 : ℝ) ≤ 1 / 2048)) (EReal.coe_ne_top _) _ _

/-- Half a mean is the sum by the scaled constant. -/
theorem half_mul_div (x : EReal) : half * Ideal.div x wid = halfPerRow * x := by
  rw [wid_eq, Ideal.div_coe (by norm_num), half_eq, halfPerRow_eq, mul_left_comm, ← EReal.coe_mul, mul_comm]
  norm_num

/-- The loss's gradient at an error, as the product rule spells it. -/
theorem scale_err (x : EReal) : Ideal.div (half * Ideal.ofBits FTy.f32 0x3F800000#32) wid * (Ideal.ofBits FTy.f32 0x40000000#32 * x) = x * perRow := by
  rw [wid_eq, Ideal.div_coe (by norm_num), half_eq, Ideal.ofBits_one_f32, mul_one, two_eq, perRow_eq, ← mul_assoc, ← EReal.coe_mul,
    ← EReal.coe_mul, mul_comm]
  norm_num

/-! ## Sums over the first rows -/

/-- The sum of `f` over the first `n` of 2048 rows. -/
def firstRows (f : Fin 2048 → EReal) (n : ℕ) : EReal := ∑ k ∈ Finset.range n, if h : k < 2048 then f ⟨k, h⟩ else 0

theorem firstRows_zero (f : Fin 2048 → EReal) : firstRows f 0 = 0 := Finset.sum_range_zero _

/-- A further block of rows. -/
theorem firstRows_add (f : Fin 2048 → EReal) (n b : ℕ) (h : n + b ≤ 2048) :
    firstRows f (n + b) = firstRows f n + ∑ r : Fin b, f ⟨n + r.val, by omega⟩ := by
  unfold firstRows
  rw [Finset.sum_range_add, Finset.sum_range fun k => if h : n + k < 2048 then f ⟨n + k, h⟩ else 0]
  refine congrArg _ (Finset.sum_congr rfl fun r _ => ?_)
  exact dif_pos (by omega)

theorem firstRows_all (f : Fin 2048 → EReal) : firstRows f 2048 = ∑ p, f p := by
  unfold firstRows
  rw [Finset.sum_range]
  exact Finset.sum_congr rfl fun r _ => dif_pos r.isLt

/-! ## Sums over the wide columns -/

/-- A sum over the 5632 wide columns, in four runs. -/
theorem sum_wide (f : Fin 5632 → EReal) :
    ∑ j, f j = (((0 + ∑ k : Fin 1536, f ⟨k.val, by omega⟩) + ∑ k : Fin 1280, f ⟨1536 + k.val, by omega⟩)
      + ∑ k : Fin 1536, f ⟨2816 + k.val, by omega⟩) + ∑ k : Fin 1280, f ⟨4352 + k.val, by omega⟩ := by
  rw [zero_add]
  refine (Fin.sum_univ_add (a := 4352) (b := 1280) f).trans (congrArg (· + _) ?_)
  refine (Fin.sum_univ_add (a := 2816) (b := 1536) _).trans (congrArg (· + _) ?_)
  exact Fin.sum_univ_add (a := 1536) (b := 1280) _

end Cert.Norm

end
-- ==== Proof.In1.lean ====
module

public import proofs.«01_k».proof.Defs
public import proofs.«01_k».proof.Proof.Gen.In1
public import proofs.«01_k».proof.Proof.Gen.In1.Frame
public import proofs.«01_k».proof.Proof.Gen.In1Ideal
public import proofs.«01_k».proof.Proof.Gen.In1Ideal.Frame
public import proofs.«01_k».proof.Proof.Gen.In1Ideal.Value
public import proofs.«01_k».proof.Proof.Gen.In1RefIdeal
public import proofs.«01_k».proof.Proof.Gen.In1RefIdeal.Run
public import proofs.«01_k».proof.Proof.Gen.In1RefIdeal.Read
public import proofs.«01_k».proof.Proof.Gen.Pre_finite5
public import proofs.«01_k».proof.Proof.Finite
public import proofs.«01_k».proof.Proof.Norm
public import proofs.«01_k».proof.Proof.Ffn1
public import proofs.«01_k».proof.Proof.Staged
public import Idealize.ShloMosaic.Lib.ValueLayout
public import Idealize.ShloMosaic.Lib.Quiescent
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.In1Ideal.Sum

open Cert.In1Ideal Cert.In1Ideal.Gen Cert.Gated Cert.Norm
open Cert.Ffn1Ideal.Sum (wide shard_piece)

variable (m : (ℓ : Loc nD τ sig) → Buf (Elt Ideal) ℓ)

/-! ## What the kernel writes, as functions of its arguments -/

/-- Row `p` of an array. -/
abbrev row (x : S2048x1024.Idx → EReal) (p : Fin 2048) (j : Fin 1024) : EReal := x (ix2 p j)

/-- The gain's only row. -/
abbrev gain (x : S1x1024.Idx → EReal) (j : Fin 1024) : EReal := x (ix2 (0 : Fin 1) j)

/-- The gradient at the normalised rows: the incoming one through the first weights. -/
def DN (x3 : S2048x5632.Idx → EReal) (x4 : S1024x5632.Idx → EReal) (p : Fin 2048) (k : Fin 1024) : EReal :=
  ∑ j : Fin 5632, x3 (ix2 p j) * x4 (ix2 k j)

/-- The gradient of the rows: what skips the branch, and what comes back through the norm. -/
def DX (x0 x1 : S2048x1024.Idx → EReal) (x2 : S1x1024.Idx → EReal) (x3 : S2048x5632.Idx → EReal) (x4 : S1024x5632.Idx → EReal)
    (i : S2048x1024.Idx) : EReal :=
  x0 i + back (row x1 (i 0)) (gain x2) (DN x3 x4 (i 0)) (i 1)

/-- What row `p` adds to the gain's gradient. -/
def DG (x1 : S2048x1024.Idx → EReal) (x3 : S2048x5632.Idx → EReal) (x4 : S1024x5632.Idx → EReal) (k : Fin 1024) (p : Fin 2048) : EReal :=
  DN x3 x4 p k * (x1 (ix2 p k) * rr (row x1 p))

/-! ## The operands -/

/-- The shards' operand: the columns in four blocks. -/
theorem shards_eq (c : Dev nD) : V m c main_v3 = transpose S4x1024x1408 [1, 0, 2]
    (shapeCast S1024x4x1408 ((m ((c : Thread nD τ).loc main_arg4)) : S1024x5632.Idx → EReal) shapeCasts_S1024x5632_S1024x4x1408) transposes_S1024x4x1408_S4x1024x1408_1_0_2 := by
  show StableHlo.after _ _ (Proc.devRef .tc main_v3) = _
  simp only [hostOps0, List.flatten_cons, List.flatten_nil, List.append_nil, List.cons_append, List.nil_append]
  after_results
  rfl

/-- The shards side by side are the first weights. -/
theorem wide_eq (c : Dev nD) : wide (V m c main_v3) = (m ((c : Thread nD τ).loc main_arg4)) := by
  rw [shards_eq m c]
  funext i
  have h1 : (i 1).val < 5632 := (i 1).isLt
  refine (transpose_apply _ _ _ _ (ix3 (i 0 : Fin 1024) (⟨(i 1).val / 1408, by omega⟩ : Fin 4) (⟨(i 1).val % 1408, Nat.mod_lt _ (by decide)⟩ : Fin 1408)) fun b => match b with
    | ⟨0, _⟩ => rfl
    | ⟨1, _⟩ => rfl
    | ⟨2, _⟩ => rfl).trans ?_
  refine shapeCast_apply _ _ _ i ?_
  refine (Shape.rowMajor_val_two i).trans (Eq.trans ?_ (Shape.rowMajor_val_three (d := ![1024, 4, 1408]) _).symm)
  show (i 0).val * 5632 + (i 1).val = ((i 0).val * 4 + (i 1).val / 1408) * 1408 + (i 1).val % 1408
  omega

/-- The cast of the hidden gradient is the identity. -/
theorem dgu_eq (c : Dev nD) : V m c main_v0 = (m ((c : Thread nD τ).loc main_arg3)) := by
  show StableHlo.after _ _ (Proc.devRef .tc main_v0) = _
  simp only [hostOps0, List.flatten_cons, List.flatten_nil, List.append_nil, List.cons_append, List.nil_append]
  after_results
  rfl

/-- The blocks' indices. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![t.val, 0] ∧ win0_5.index t = ![0, 0])

/-- A block of what skips the branch. -/
theorem blk0 (c : Dev nD) (t : Fin cfg0.N) (y : S512x1024.Idx) (i : S2048x1024.Idx) (h0 : (i 0).val = 512 * t.val + (y 0).val)
    (h1 : (i 1).val = (y 1).val) : iblk m c 0 t y = (m ((c : Thread nD τ).loc main_arg0)) i := by
  rw [← V_main_arg0 m c]
  blk_ext [iblk, idx t] <;> omega

/-- A block of the rows. -/
theorem blk1 (c : Dev nD) (t : Fin cfg0.N) (r : Fin 512) (k : Fin 1024) (p : Fin 2048) (h : p.val = 512 * t.val + r.val) :
    iblk m c 1 t (ix2 r k) = (m ((c : Thread nD τ).loc main_arg1)) (ix2 p k) := by
  rw [← V_main_arg1 m c]
  blk_ext [iblk, idx t] <;> omega

/-- The gain's block. -/
theorem blk2 (c : Dev nD) (t : Fin cfg0.N) (k : Fin 1024) : iblk m c 2 t (ix2 (0 : Fin 1) k) = (m ((c : Thread nD τ).loc main_arg2)) (ix2 (0 : Fin 1) k) := by
  rw [← V_main_arg2 m c]
  blk_ext [iblk, idx t] <;> omega

/-- A block of the hidden gradient. -/
theorem blk3 (c : Dev nD) (t : Fin cfg0.N) (y : S512x5632.Idx) (i : S2048x5632.Idx) (h0 : (i 0).val = 512 * t.val + (y 0).val)
    (h1 : (i 1).val = (y 1).val) : iblk m c 3 t y = (m ((c : Thread nD τ).loc main_arg3)) i := by
  rw [← dgu_eq m c]
  blk_ext [iblk, idx t] <;> omega

/-! ## The stores' payloads at an index -/

theorem pay_dn (d0 : Vec Ideal S512x1536 .bf16) (w0 : Vec Ideal S1024x1536 .bf16) (d1 : Vec Ideal S512x1280 .bf16) (w1 : Vec Ideal S1024x1280 .bf16)
    (d2 : Vec Ideal S512x1536 .bf16) (w2 : Vec Ideal S1024x1536 .bf16) (d3 : Vec Ideal S512x1280 .bf16) (w3 : Vec Ideal S1024x1280 .bf16)
    (y : S512x1024.Idx) :
    k0_pay12 (F := Ideal) d0 w0 d1 w1 d2 w2 d3 w3 y
      = (((0 + ∑ k : Fin 1536, d0 (ix2 (y 0) k) * w0 (ix2 (y 1) k)) + ∑ k : Fin 1280, d1 (ix2 (y 0) k) * w1 (ix2 (y 1) k))
        + ∑ k : Fin 1536, d2 (ix2 (y 0) k) * w2 (ix2 (y 1) k)) + ∑ k : Fin 1280, d3 (ix2 (y 0) k) * w3 (ix2 (y 1) k) := by
  rw [ValueIdx.eq_ix2 y]
  pointwise [k0_pay12]

theorem same_dn (d0 : Vec Ideal S512x1536 .bf16) (w0 : Vec Ideal S1024x1536 .bf16) (d1 : Vec Ideal S512x1280 .bf16) (w1 : Vec Ideal S1024x1280 .bf16)
    (d2 : Vec Ideal S512x1536 .bf16) (w2 : Vec Ideal S1024x1536 .bf16) (d3 : Vec Ideal S512x1280 .bf16) (w3 : Vec Ideal S1024x1280 .bf16) :
    k0_pay10 (F := Ideal) (k0_pay8 d0 w0) (k0_pay9 d1 w1) d2 w2 d3 w3 = k0_pay12 (F := Ideal) d0 w0 d1 w1 d2 w2 d3 w3 := rfl

theorem pay_dx (dn x dh : Vec Ideal S512x1024 .f32) (g : Vec Ideal S1x1024 .f32) (y : S512x1024.Idx) :
    k0_pay6 (F := Ideal) dn (k0_pay13 x) (k0_pay14 x) g dh y
      = dh y + back (fun j => x (ix2 (y 0) j)) (fun j => g (ix2 (0 : Fin 1) j)) (fun j => dn (ix2 (y 0) j)) (y 1) := by
  rw [ValueIdx.eq_ix2 y]
  pointwise [k0_pay6, k0_pay13, k0_pay14]
  rfl

theorem same_dx (dn x dh : Vec Ideal S512x1024 .f32) (g : Vec Ideal S1x1024 .f32) :
    k0_pay4 (F := Ideal) dn x (k0_pay11 x) g dh = k0_pay6 (F := Ideal) dn (k0_pay13 x) (k0_pay14 x) g dh := rfl

theorem pay_dg (dn x : Vec Ideal S512x1024 .f32) (a : Vec Ideal S1x1024 .f32) (y : S1x1024.Idx) :
    k0_pay7 (F := Ideal) dn (k0_pay14 x) a y
      = a y + ∑ r : Fin 512, dn (ix2 r (y 1)) * (x (ix2 r (y 1)) * rr (fun j => x (ix2 r j))) := by
  rw [ValueIdx.eq_ix2 y]
  pointwise [k0_pay7, k0_pay13, k0_pay14]
  rfl

theorem same_dg (dn x : Vec Ideal S512x1024 .f32) (a : Vec Ideal S1x1024 .f32) :
    k0_pay5 (F := Ideal) dn x (k0_pay11 x) a = k0_pay7 (F := Ideal) dn (k0_pay14 x) a := rfl

theorem pay_zero (y : S1x1024.Idx) : k0_pay1 (F := Ideal) y = 0 := by
  rw [ValueIdx.eq_ix2 y]
  pointwise [k0_pay1]

/-- Shard 3's columns from 128. -/
theorem piece_4352 (X : S4x1024x1408.Idx → EReal) (x : S1024x1280.Idx) :
    (ReadAs.same (Val := Elt Ideal)).apply (View.read (Elt Ideal) (((View.whole main_v3).slice (Rect.unit (s := S4x1024x1408) ![3, 0, 128] S1x1024x1280.size inb_S4x1024x1408_S1x1024x1280_3_0_128)).reshape
      S1024x1280 squeezes_S1x1024x1280_S1024x1280.numel_eq) X) x = wide X ((Rect.unit (s := S1024x5632) ![0, 4352] S1024x1280.size inb_S1024x5632_S1024x1280_0_4352).emb x) :=
  shard_piece X 3 128 1280 4352 inb_S4x1024x1408_S1x1024x1280_3_0_128 inb_S1024x5632_S1024x1280_0_4352 squeezes_S1x1024x1280_S1024x1280.numel_eq rfl (by decide) x

/-- Shard 3's columns from 0. -/
theorem piece_4224 (X : S4x1024x1408.Idx → EReal) (x : S1024x128.Idx) :
    (ReadAs.same (Val := Elt Ideal)).apply (View.read (Elt Ideal) (((View.whole main_v3).slice (Rect.unit (s := S4x1024x1408) ![3, 0, 0] S1x1024x128.size inb_S4x1024x1408_S1x1024x128_3_0_0)).reshape
      S1024x128 squeezes_S1x1024x128_S1024x128.numel_eq) X) x = wide X ((Rect.unit (s := S1024x5632) ![0, 4224] S1024x128.size inb_S1024x5632_S1024x128_0_4224).emb x) :=
  shard_piece X 3 0 128 4224 inb_S4x1024x1408_S1x1024x128_3_0_0 inb_S1024x5632_S1024x128_0_4224 squeezes_S1x1024x128_S1024x128.numel_eq rfl (by decide) x

/-- Shard 2's columns from 0. -/
theorem piece_2816 (X : S4x1024x1408.Idx → EReal) (x : S1024x1408.Idx) :
    (ReadAs.same (Val := Elt Ideal)).apply (View.read (Elt Ideal) (((View.whole main_v3).slice (Rect.unit (s := S4x1024x1408) ![2, 0, 0] S1x1024x1408.size inb_S4x1024x1408_S1x1024x1408_2_0_0)).reshape
      S1024x1408 squeezes_S1x1024x1408_S1024x1408.numel_eq) X) x = wide X ((Rect.unit (s := S1024x5632) ![0, 2816] S1024x1408.size inb_S1024x5632_S1024x1408_0_2816).emb x) :=
  shard_piece X 2 0 1408 2816 inb_S4x1024x1408_S1x1024x1408_2_0_0 inb_S1024x5632_S1024x1408_0_2816 squeezes_S1x1024x1408_S1024x1408.numel_eq rfl (by decide) x

/-- Shard 1's columns from 128. -/
theorem piece_1536 (X : S4x1024x1408.Idx → EReal) (x : S1024x1280.Idx) :
    (ReadAs.same (Val := Elt Ideal)).apply (View.read (Elt Ideal) (((View.whole main_v3).slice (Rect.unit (s := S4x1024x1408) ![1, 0, 128] S1x1024x1280.size inb_S4x1024x1408_S1x1024x1280_1_0_128)).reshape
      S1024x1280 squeezes_S1x1024x1280_S1024x1280.numel_eq) X) x = wide X ((Rect.unit (s := S1024x5632) ![0, 1536] S1024x1280.size inb_S1024x5632_S1024x1280_0_1536).emb x) :=
  shard_piece X 1 128 1280 1536 inb_S4x1024x1408_S1x1024x1280_1_0_128 inb_S1024x5632_S1024x1280_0_1536 squeezes_S1x1024x1280_S1024x1280.numel_eq rfl (by decide) x

/-- Shard 1's columns from 0. -/
theorem piece_1408 (X : S4x1024x1408.Idx → EReal) (x : S1024x128.Idx) :
    (ReadAs.same (Val := Elt Ideal)).apply (View.read (Elt Ideal) (((View.whole main_v3).slice (Rect.unit (s := S4x1024x1408) ![1, 0, 0] S1x1024x128.size inb_S4x1024x1408_S1x1024x128_1_0_0)).reshape
      S1024x128 squeezes_S1x1024x128_S1024x128.numel_eq) X) x = wide X ((Rect.unit (s := S1024x5632) ![0, 1408] S1024x128.size inb_S1024x5632_S1024x128_0_1408).emb x) :=
  shard_piece X 1 0 128 1408 inb_S4x1024x1408_S1x1024x128_1_0_0 inb_S1024x5632_S1024x128_0_1408 squeezes_S1x1024x128_S1024x128.numel_eq rfl (by decide) x

/-- Shard 0's columns from 0. -/
theorem piece_0 (X : S4x1024x1408.Idx → EReal) (x : S1024x1408.Idx) :
    (ReadAs.same (Val := Elt Ideal)).apply (View.read (Elt Ideal) (((View.whole main_v3).slice (Rect.unit (s := S4x1024x1408) ![0, 0, 0] S1x1024x1408.size inb_S4x1024x1408_S1x1024x1408_0_0_0)).reshape
      S1024x1408 squeezes_S1x1024x1408_S1024x1408.numel_eq) X) x = wide X ((Rect.unit (s := S1024x5632) ![0, 0] S1024x1408.size inb_S1024x5632_S1024x1408_0_0).emb x) :=
  shard_piece X 0 0 1408 0 inb_S4x1024x1408_S1x1024x1408_0_0_0 inb_S1024x5632_S1024x1408_0_0 squeezes_S1x1024x1408_S1024x1408.numel_eq rfl (by decide) x

/-- The scratch buffer holds the weights after every point. -/
theorem held (c : Dev nD) : ∀ (n : ℕ) (h : n < cfg0.N), (outsAt0 m c n h).2.2 = wide (V m c main_v3)
  | 0, h => by
      show (outsAt0 m c (⟨0, h⟩ : Fin cfg0.N).val (⟨0, h⟩ : Fin cfg0.N).isLt).2.2 = _
      rw [outsAt0_A m c ⟨0, h⟩ rfl rfl (by show ¬ 1 ≤ 0; omega)]
      frame_out
      refine Cert.Staged.canon_eq (Val := Elt Ideal) (e := .bf16) (s := S1024x5632) (wide (V m c main_v3)) _ ?_ ?_
      · exact ⟨piece_4352 (V m c main_v3), piece_4224 (V m c main_v3), piece_2816 (V m c main_v3), piece_1536 (V m c main_v3), piece_1408 (V m c main_v3), piece_0 (V m c main_v3), trivial⟩
      · exact View.cover_of_tiledBy _ ![1024, 128] (by sl_kernel_rfl)
  | n + 1, h => by
      have hN : n + 1 < 4 := h
      show (outsAt0 m c (⟨n + 1, h⟩ : Fin cfg0.N).val (⟨n + 1, h⟩ : Fin cfg0.N).isLt).2.2 = _
      rw [outsAt0_B m c ⟨n + 1, h⟩ (by show ¬ (n + 1) % 4 = 0; omega) (by show ¬ (n + 1) % 4 = 0; omega) (by show 1 ≤ n + 1; omega)]
      exact held c n (Nat.lt_of_succ_lt h)

/-! ## The payloads are the functions' entries -/

/-- A product of the sum that gives an entry of that gradient. -/
def term (x3 : S2048x5632.Idx → EReal) (x4 : S1024x5632.Idx → EReal) (p : Fin 2048) (q : Fin 1024) (j : Fin 5632) : EReal :=
  x3 (ix2 p j) * x4 (ix2 q j)

/-- The products over a run of columns. -/
theorem run_sum (c : Dev nD) (t : Fin cfg0.N) (r : Fin 512) (q : Fin 1024) (p : Fin 2048) (hp : p.val = 512 * t.val + r.val) (o w : ℕ)
    (inb : ∀ a, (![0, o] : Fin 2 → ℕ) a + (![512, w] : Fin 2 → ℕ) a ≤ S512x5632.size a)
    (inb' : ∀ a, (![0, o] : Fin 2 → ℕ) a + (![1024, w] : Fin 2 → ℕ) a ≤ S1024x5632.size a) (how : o + w ≤ 5632)
    (d : (⟨2, ![512, w]⟩ : Shape).Idx → EReal) (W : (⟨2, ![1024, w]⟩ : Shape).Idx → EReal)
    (hd : d = View.ld (iblk m c 3 t) (Rect.unit (s := S512x5632) ![0, o] ![512, w] inb))
    (hW : W = View.ld (Val := Elt Ideal) (e' := .bf16) (wide (V m c main_v3)) (Rect.unit (s := S1024x5632) ![0, o] ![1024, w] inb')) :
    ∑ k : Fin w, d (ix2 r k) * W (ix2 q k)
      = ∑ k : Fin w, term (m ((c : Thread nD τ).loc main_arg3)) (m ((c : Thread nD τ).loc main_arg4)) p q ⟨o + k.val, by omega⟩ := by
  subst hd hW
  refine Finset.sum_congr rfl fun k _ => ?_
  unfold term
  congr 1
  · exact blk3 m c t _ (ix2 p (⟨o + k.val, by omega⟩ : Fin 5632)) (hp.trans (by show _ = 512 * t.val + (0 + 1 * r.val); omega))
      (by show o + k.val = o + 1 * k.val; omega)
  · rw [wide_eq m c]
    refine congrArg (m ((c : Thread nD τ).loc main_arg4)) (funext fun a => Fin.ext ?_)
    match a with
    | ⟨0, _⟩ => show 0 + 1 * q.val = q.val; omega
    | ⟨1, _⟩ => show o + 1 * k.val = o + k.val; omega

/-- The gradient at the normalised rows of point `t`'s block, as the kernel computes it. -/
def dnv (c : Dev nD) (t : Fin cfg0.N) : FVec Ideal S512x1024 .f32 :=
  k0_pay12 (F := Ideal) (View.ld (iblk m c 3 t) (Rect.unit ![0, 0] ![512, 1536] inb_S512x5632_S512x1536_0_0))
    (View.ld (Val := Elt Ideal) (e' := .bf16) (wide (V m c main_v3)) (Rect.unit ![0, 0] ![1024, 1536] inb_S1024x5632_S1024x1536_0_0))
    (View.ld (iblk m c 3 t) (Rect.unit ![0, 1536] ![512, 1280] inb_S512x5632_S512x1280_0_1536))
    (View.ld (Val := Elt Ideal) (e' := .bf16) (wide (V m c main_v3)) (Rect.unit ![0, 1536] ![1024, 1280] inb_S1024x5632_S1024x1280_0_1536))
    (View.ld (iblk m c 3 t) (Rect.unit ![0, 2816] ![512, 1536] inb_S512x5632_S512x1536_0_2816))
    (View.ld (Val := Elt Ideal) (e' := .bf16) (wide (V m c main_v3)) (Rect.unit ![0, 2816] ![1024, 1536] inb_S1024x5632_S1024x1536_0_2816))
    (View.ld (iblk m c 3 t) (Rect.unit ![0, 4352] ![512, 1280] inb_S512x5632_S512x1280_0_4352))
    (View.ld (Val := Elt Ideal) (e' := .bf16) (wide (V m c main_v3)) (Rect.unit ![0, 4352] ![1024, 1280] inb_S1024x5632_S1024x1280_0_4352))

/-- It holds the function's rows. -/
theorem dn_tile (c : Dev nD) (t : Fin cfg0.N) (r : Fin 512) (k : Fin 1024) (p : Fin 2048) (hp : p.val = 512 * t.val + r.val) :
    dnv m c t (ix2 r k) = DN (m ((c : Thread nD τ).loc main_arg3)) (m ((c : Thread nD τ).loc main_arg4)) p k := by
  refine (pay_dn _ _ _ _ _ _ _ _ _).trans ?_
  refine Eq.trans ?_ (sum_wide (term (m ((c : Thread nD τ).loc main_arg3)) (m ((c : Thread nD τ).loc main_arg4)) p k)).symm
  have e := run_sum m c t r k p hp 0 1536 inb_S512x5632_S512x1536_0_0 inb_S1024x5632_S1024x1536_0_0 (by decide) _ _ rfl rfl
  simp only [Nat.zero_add] at e
  exact congrArg₂ (· + ·) (congrArg₂ (· + ·) (congrArg₂ (· + ·) (congrArg (0 + ·) e)
    (run_sum m c t r k p hp 1536 1280 inb_S512x5632_S512x1280_0_1536 inb_S1024x5632_S1024x1280_0_1536 (by decide) _ _ rfl rfl))
    (run_sum m c t r k p hp 2816 1536 inb_S512x5632_S512x1536_0_2816 inb_S1024x5632_S1024x1536_0_2816 (by decide) _ _ rfl rfl))
    (run_sum m c t r k p hp 4352 1280 inb_S512x5632_S512x1280_0_4352 inb_S1024x5632_S1024x1280_0_4352 (by decide) _ _ rfl rfl)

/-- The rows' gradient of point `t`'s block. -/
theorem dx_tile (c : Dev nD) (t : Fin cfg0.N) (y : S512x1024.Idx) (i : S2048x1024.Idx) (p0 : (i 0).val = 512 * t.val + (y 0).val)
    (p1 : (i 1).val = (y 1).val) :
    k0_pay6 (F := Ideal) (dnv m c t) (k0_pay13 (iblk m c 1 t)) (k0_pay14 (iblk m c 1 t)) (iblk m c 2 t) (iblk m c 0 t) y
      = DX (m ((c : Thread nD τ).loc main_arg0)) (m ((c : Thread nD τ).loc main_arg1)) (m ((c : Thread nD τ).loc main_arg2)) (m ((c : Thread nD τ).loc main_arg3)) (m ((c : Thread nD τ).loc main_arg4)) i := by
  refine (pay_dx _ _ _ _ y).trans ?_
  unfold DX
  refine congr (congrArg _ (blk0 m c t y i p0 p1)) ?_
  refine congr (congr (congr (congrArg back (funext fun j => blk1 m c t (y 0) j (i 0) p0)) (funext fun j => blk2 m c t j))
    (funext fun j => dn_tile m c t (y 0) j (i 0) p0)) (Fin.ext p1.symm)

/-- The sum of the gain's gradient over the first `n` rows. -/
def GA (c : Dev nD) (n : ℕ) (i : S1x1024.Idx) : EReal :=
  firstRows (DG (m ((c : Thread nD τ).loc main_arg1)) (m ((c : Thread nD τ).loc main_arg3)) (m ((c : Thread nD τ).loc main_arg4)) (i 1)) n

/-- A point adds its rows to the gain's gradient. -/
theorem dg_tile (c : Dev nD) (t : Fin cfg0.N) (a : Vec Ideal S1x1024 .f32) (ha : ∀ i, a i = GA m c (512 * t.val) i) (y : S1x1024.Idx) :
    k0_pay7 (F := Ideal) (dnv m c t) (k0_pay14 (iblk m c 1 t)) a y = GA m c (512 * (t.val + 1)) y := by
  have hN : t.val < 4 := t.isLt
  refine (pay_dg _ _ _ y).trans ?_
  rw [ha]
  unfold GA
  rw [show 512 * (t.val + 1) = 512 * t.val + 512 by omega, firstRows_add _ _ _ (by omega)]
  refine congrArg _ (Finset.sum_congr rfl fun r _ => ?_)
  unfold DG
  refine congr (congrArg _ (dn_tile m c t r (y 1) ⟨512 * t.val + r.val, by omega⟩ rfl)) ?_
  exact congr (congrArg _ (blk1 m c t r (y 1) ⟨512 * t.val + r.val, by omega⟩ rfl))
    (congrArg rr (funext fun j => blk1 m c t r j ⟨512 * t.val + r.val, by omega⟩ rfl))

/-- After each point the accumulator holds the gain's gradient of the rows so far. -/
theorem acc_eq (c : Dev nD) : ∀ (n : ℕ) (h : n < cfg0.N), (outsAt0 m c n h).2.1 = GA m c (512 * (n + 1))
  | 0, h => by
      show (outsAt0 m c (⟨0, h⟩ : Fin cfg0.N).val (⟨0, h⟩ : Fin cfg0.N).isLt).2.1 = _
      rw [outsAt0_A m c ⟨0, h⟩ rfl rfl (by show ¬ 1 ≤ 0; omega)]
      funext y
      frame_out
      rw [Cert.Staged.readCov_eq (View.whole cc0_scratch0) (wide (V m c main_v3)),
        Cert.Staged.readCov_eq (View.whole cc0_scratch0) (wide (V m c main_v3)),
        Cert.Staged.readCov_eq (View.whole cc0_scratch0) (wide (V m c main_v3)),
        Cert.Staged.readCov_eq (View.whole cc0_scratch0) (wide (V m c main_v3))]
      rotate_left
      · exact ⟨piece_4352 (V m c main_v3), piece_4224 (V m c main_v3), piece_2816 (V m c main_v3), piece_1536 (V m c main_v3), piece_1408 (V m c main_v3), piece_0 (V m c main_v3), trivial⟩
      · exact View.cover_of_tiledBy _ ![1024, 128] (by sl_kernel_rfl)
      · exact ⟨piece_4352 (V m c main_v3), piece_4224 (V m c main_v3), piece_2816 (V m c main_v3), piece_1536 (V m c main_v3), piece_1408 (V m c main_v3), piece_0 (V m c main_v3), trivial⟩
      · exact View.cover_of_tiledBy _ ![1024, 128] (by sl_kernel_rfl)
      · exact ⟨piece_4352 (V m c main_v3), piece_4224 (V m c main_v3), piece_2816 (V m c main_v3), piece_1536 (V m c main_v3), piece_1408 (V m c main_v3), piece_0 (V m c main_v3), trivial⟩
      · exact View.cover_of_tiledBy _ ![1024, 128] (by sl_kernel_rfl)
      · exact ⟨piece_4352 (V m c main_v3), piece_4224 (V m c main_v3), piece_2816 (V m c main_v3), piece_1536 (V m c main_v3), piece_1408 (V m c main_v3), piece_0 (V m c main_v3), trivial⟩
      · exact View.cover_of_tiledBy _ ![1024, 128] (by sl_kernel_rfl)
      refine (congrFun (same_dg _ _ _) y).trans (dg_tile m c ⟨0, h⟩ _ (fun i => (pay_zero i).trans ?_) y)
      exact (firstRows_zero _).symm
  | n + 1, h => by
      have hN : n + 1 < 4 := h
      show (outsAt0 m c (⟨n + 1, h⟩ : Fin cfg0.N).val (⟨n + 1, h⟩ : Fin cfg0.N).isLt).2.1 = _
      rw [outsAt0_B m c ⟨n + 1, h⟩ (by show ¬ (n + 1) % 4 = 0; omega) (by show ¬ (n + 1) % 4 = 0; omega) (by show 1 ≤ n + 1; omega)]
      funext y
      frame_out
      simp only [read_unread_whole]
      rw [held m c]
      exact dg_tile m c ⟨n + 1, h⟩ _ (fun i => congrFun (acc_eq c n (Nat.lt_of_succ_lt h)) i) y

/-- What the first point leaves in the block of the rows' gradient. -/
theorem after4_A (c : Dev nD) (t : Fin cfg0.N) (h0 : t.val % 4 = 0) (y : S512x1024.Idx) (i : S2048x1024.Idx)
    (p0 : (i 0).val = 512 * t.val + (y 0).val) (p1 : (i 1).val = (y 1).val) : (dats m 0 c).after 4 t y = DX (m ((c : Thread nD τ).loc main_arg0)) (m ((c : Thread nD τ).loc main_arg1)) (m ((c : Thread nD τ).loc main_arg2)) (m ((c : Thread nD τ).loc main_arg3)) (m ((c : Thread nD τ).loc main_arg4)) i := by
  have hN : t.val < 4 := t.isLt
  rw [after0_4, outsAt0_A m c t h0 h0 (by omega)]
  frame_out
  rw [Cert.Staged.readCov_eq (View.whole cc0_scratch0) (wide (V m c main_v3)),
    Cert.Staged.readCov_eq (View.whole cc0_scratch0) (wide (V m c main_v3)),
    Cert.Staged.readCov_eq (View.whole cc0_scratch0) (wide (V m c main_v3)),
    Cert.Staged.readCov_eq (View.whole cc0_scratch0) (wide (V m c main_v3))]
  rotate_left
  · exact ⟨piece_4352 (V m c main_v3), piece_4224 (V m c main_v3), piece_2816 (V m c main_v3), piece_1536 (V m c main_v3), piece_1408 (V m c main_v3), piece_0 (V m c main_v3), trivial⟩
  · exact View.cover_of_tiledBy _ ![1024, 128] (by sl_kernel_rfl)
  · exact ⟨piece_4352 (V m c main_v3), piece_4224 (V m c main_v3), piece_2816 (V m c main_v3), piece_1536 (V m c main_v3), piece_1408 (V m c main_v3), piece_0 (V m c main_v3), trivial⟩
  · exact View.cover_of_tiledBy _ ![1024, 128] (by sl_kernel_rfl)
  · exact ⟨piece_4352 (V m c main_v3), piece_4224 (V m c main_v3), piece_2816 (V m c main_v3), piece_1536 (V m c main_v3), piece_1408 (V m c main_v3), piece_0 (V m c main_v3), trivial⟩
  · exact View.cover_of_tiledBy _ ![1024, 128] (by sl_kernel_rfl)
  · exact ⟨piece_4352 (V m c main_v3), piece_4224 (V m c main_v3), piece_2816 (V m c main_v3), piece_1536 (V m c main_v3), piece_1408 (V m c main_v3), piece_0 (V m c main_v3), trivial⟩
  · exact View.cover_of_tiledBy _ ![1024, 128] (by sl_kernel_rfl)
  exact (congrFun (same_dx _ _ _ _) y).trans (dx_tile m c t y i p0 p1)

/-- What a later point leaves in the block of the rows' gradient. -/
theorem after4_B (c : Dev nD) (t : Fin cfg0.N) (h0 : ¬ t.val % 4 = 0) (y : S512x1024.Idx) (i : S2048x1024.Idx)
    (p0 : (i 0).val = 512 * t.val + (y 0).val) (p1 : (i 1).val = (y 1).val) : (dats m 0 c).after 4 t y = DX (m ((c : Thread nD τ).loc main_arg0)) (m ((c : Thread nD τ).loc main_arg1)) (m ((c : Thread nD τ).loc main_arg2)) (m ((c : Thread nD τ).loc main_arg3)) (m ((c : Thread nD τ).loc main_arg4)) i := by
  rw [after0_4, outsAt0_B m c t h0 h0 (by omega)]
  frame_out
  simp only [read_unread_whole]
  rw [held m c]
  exact dx_tile m c t y i p0 p1

/-- Where an element of a block of the rows' gradient lies. -/
theorem place4 (t : Fin cfg0.N) (y : ((cfg0.win 4).xblock (cfg0.grid.coords t)).Idx) :
    ((((View.whole main_v4_0).slice (win0_4.rect t)).emb y) 0).val = 512 * t.val + (y 0).val
    ∧ ((((View.whole main_v4_0).slice (win0_4.rect t)).emb y) 1).val = (y 1).val := by
  refine ⟨?_, ?_⟩ <;> blk_simp [idx t] <;> omega

/-- The array of the rows' gradient after the run. -/
theorem out4_eq (c : Dev nD) : (dats m 0 c).arrAt 4 cfg0.N = DX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 4 _ (by decide +kernel) fun t hf y => ?_
  blk_simp
  obtain ⟨p0, p1⟩ := place4 t y
  by_cases h0 : t.val % 4 = 0
  · exact after4_A m c t h0 y _ p0 p1
  · exact after4_B m c t h0 y _ p0 p1

/-- The accumulator is written back after the last point alone. -/
theorem flush5 : ∀ t : Fin cfg0.N, (cfg0.win 5).flush t = decide (t.val = 3) :=
  (by decide +kernel : ∀ t : Fin grid0.N, (cfg0.win 5).flush t = decide (t.val = 3))

/-- Where an element of the accumulator lies. -/
theorem place5 (t : Fin cfg0.N) (y : ((cfg0.win 5).xblock (cfg0.grid.coords t)).Idx) :
    ((((View.whole main_v4_1).slice (win0_5.rect t)).emb y) 0).val = (y 0).val
    ∧ ((((View.whole main_v4_1).slice (win0_5.rect t)).emb y) 1).val = (y 1).val := by
  refine ⟨?_, ?_⟩ <;> blk_simp [idx t] <;> omega

/-- The gain's gradient: the sum over all rows. -/
def DGAIN (x1 : S2048x1024.Idx → EReal) (x3 : S2048x5632.Idx → EReal) (x4 : S1024x5632.Idx → EReal) (i : S1x1024.Idx) : EReal :=
  ∑ p : Fin 2048, DG x1 x3 x4 (i 1) p

/-- The array of the gain's gradient after the run. -/
theorem out5_eq (c : Dev nD) : (dats m 0 c).arrAt 5 cfg0.N
    = DGAIN (m ((c : Thread nD τ).loc main_arg1)) (m ((c : Thread nD τ).loc main_arg3)) (m ((c : Thread nD τ).loc main_arg4)) := by
  refine (dats m 0 c).arrAt_eq_of_covers 5 _ (by decide +kernel) fun t hf y => ?_
  have ht : t.val = 3 := of_decide_eq_true ((flush5 t).symm.trans hf)
  blk_simp
  obtain ⟨p0, p1⟩ := place5 t y
  generalize ((View.whole main_v4_1).slice (win0_5.rect t)).emb y = i at p0 p1
  rw [after0_5]
  refine (congrFun (acc_eq m c t.val t.isLt) y).trans ?_
  unfold GA DGAIN
  rw [ht, firstRows_all, show i 1 = y 1 from Fin.ext p1]

end Cert.In1Ideal.Sum

namespace Cert.Proof.In1

open Cert.In1RefIdeal Cert.In1RefIdeal.Facts Cert.In1RefIdeal.Gen Cert.In1RefIdeal.Read Cert.In1Ideal.Sum Cert.Gated Cert.Norm

/-! ## The reference at an index -/

section

variable (x0 x1 : S2048x1024.Idx → EReal) (x2 : S1x1024.Idx → EReal) (x3 : S2048x5632.Idx → EReal) (x4 : S1024x5632.Idx → EReal)

theorem eq_ix2' {a b : ℕ} (i : (⟨2, ![a, b]⟩ : Shape).Idx) (p : Fin a) (q : Fin b) (h0 : (i 0).val = p.val) (h1 : (i 1).val = q.val) : i = ix2 p q :=
  funext fun d => Fin.ext (match d with
    | ⟨0, _⟩ => h0
    | ⟨1, _⟩ => h1)

/-- The mean of a row's squares, plus the small number. -/
theorem ms_apply (i : S2048x1.Idx) (p : Fin 2048) (hp : (i 0).val = p.val) : val_main_v6 (F := Ideal) x1 i = ms (row x1 p) := by
  rw [val_main_v6_apply, val_main_v4_apply, val_main_v2_apply, val_main_v1_apply, val_main_v3_apply, val_main_v5_apply, val_main_cst_apply,
    val_main_cst_0_apply, val_main_cst_1_apply]
  show Ideal.div (Ideal.ofBits .f32 0x00000000#32 + _) wid + eps = _
  rw [Ideal.ofBits_zero_f32, zero_add]
  unfold ms
  refine congrArg (Ideal.div · wid + eps) (Finset.sum_congr rfl fun k _ => ?_)
  rw [val_main_v0_apply, eq_ix2' (idx_main_v1 (idx_main_v2 i) k) p k hp rfl]
  rfl

/-- The inverse root of that. -/
theorem rr_apply (i : S2048x1.Idx) (p : Fin 2048) (hp : (i 0).val = p.val) : val_main_v7 (F := Ideal) x1 i = rr (row x1 p) := by
  rw [val_main_v7_apply, ms_apply x1 i p hp]
  rfl

/-- The factor of the gradient through the mean of the squares. -/
theorem fac_apply (i : S2048x1.Idx) (p : Fin 2048) (hp : (i 0).val = p.val) :
    val_main_v10 (F := Ideal) x1 i = mhalf * Ideal.div (rr (row x1 p)) (ms (row x1 p)) := by
  rw [val_main_v10_apply, val_main_v9_apply, val_main_cst_2_apply, val_main_v8_apply, rr_apply x1 i p hp, ms_apply x1 i p hp]
  rfl

/-- The gradient at the normalised rows. -/
theorem dn_apply (i : S2048x1024.Idx) (p : Fin 2048) (q : Fin 1024) (hp : (i 0).val = p.val) (hq : (i 1).val = q.val) :
    val_main_v16 (F := Ideal) x3 x4 i = DN x3 x4 p q := by
  rw [val_main_v16_apply]
  unfold DN
  refine Finset.sum_congr rfl fun k _ => ?_
  rw [eq_ix2' (lidx_main_v16 i k) p k hp rfl, eq_ix2' (ridx_main_v16 i k) q k hq rfl]

/-- The gradient at the normalised rows, times the gain. -/
theorem dng_apply (i : S2048x1024.Idx) (p : Fin 2048) (q : Fin 1024) (hp : (i 0).val = p.val) (hq : (i 1).val = q.val) :
    val_main_v21 (F := Ideal) x2 x3 x4 i = DN x3 x4 p q * gain x2 q := by
  rw [val_main_v21_apply, val_main_v20_apply, dn_apply x3 x4 i p q hp hq, eq_ix2' (idx_main_v20 i) (0 : Fin 1) q rfl hq]
  rfl

/-- What reaches a row through the mean of its squares. -/
theorem through_apply (i : S2048x1.Idx) (p : Fin 2048) (hp : (i 0).val = p.val) :
    val_main_v29 (F := Ideal) x1 x2 x3 x4 i = through (row x1 p) (gain x2) (DN x3 x4 p) := by
  rw [val_main_v29_apply, val_main_v28_apply, val_main_cst_5_apply, val_main_v27_apply, fac_apply x1 i p hp, val_main_v24_apply, val_main_v23_apply,
    val_main_cst_4_apply]
  show Ideal.div ((Ideal.ofBits .f32 0x00000000#32 + _) * _) wid = _
  rw [Ideal.ofBits_zero_f32, zero_add]
  unfold through
  refine congrArg (fun s => Ideal.div (s * _) wid) (Finset.sum_congr rfl fun k _ => ?_)
  have h1 : (i 1).val < 1 := (i 1).isLt
  have e : ((idx_main_v23 (idx_main_v24 i) k) 0).val = p.val := by
    show (i 0).val * 1 + (i 1).val = p.val
    omega
  rw [val_main_v22_apply, dng_apply x2 x3 x4 _ p k e rfl, eq_ix2' (idx_main_v23 (idx_main_v24 i) k) p k e rfl]
  rfl

/-- The same, spread over the row. -/
theorem spread_apply (i : S2048x1024.Idx) (p : Fin 2048) (hp : (i 0).val = p.val) :
    val_main_v31 (F := Ideal) x1 x2 x3 x4 i = through (row x1 p) (gain x2) (DN x3 x4 p) := by
  rw [val_main_v31_apply, val_main_v30_apply, val_main_cst_6_apply, Fin.sum_univ_one, through_apply x1 x2 x3 x4 _ p hp]
  exact (congrArg (· + _) Ideal.ofBits_zero_f32).trans (zero_add _)

/-- On real arguments the reference's gradient of the rows is the kernel's function. -/
theorem ref_dx (h1 : ∀ j, IsReal (x1 j)) (h2 : ∀ j, IsReal (x2 j)) (h3 : ∀ j, IsReal (x3 j)) (h4 : ∀ j, IsReal (x4 j)) :
    val_main_v36 (F := Ideal) x0 x1 x2 x3 x4 = DX x0 x1 x2 x3 x4 := by
  funext i
  unfold DX
  rw [val_main_v36_apply, val_main_v35_apply, val_main_v34_apply, val_main_v33_apply, val_main_v32_apply, val_main_v26_apply, val_main_v25_apply,
    spread_apply x1 x2 x3 x4 i (i 0) rfl, dng_apply x2 x3 x4 i (i 0) (i 1) rfl rfl, rr_apply x1 _ (i 0) rfl]
  refine congrArg (x0 i + ·) ?_
  refine Eq.trans ?_ (back_eq (fun j => h1 _) (fun j => h2 _) (fun j => IsReal.sum _ _ fun k => (h3 _).mul (h4 _)) (i 1))
  show _ + x1 i * _ + _ * x1 i = _
  rw [ValueIdx.eq_ix2 i]
  rfl

/-- The reference's gradient of the gain is the kernel's function. -/
theorem ref_dgain : val_main_v19 (F := Ideal) x1 x3 x4 = DGAIN x1 x3 x4 := by
  funext i
  unfold DGAIN
  rw [val_main_v19_apply, val_main_v18_apply, val_main_cst_3_apply]
  refine (congrArg (· + _) Ideal.ofBits_zero_f32).trans ((zero_add _).trans (Finset.sum_congr rfl fun p _ => ?_))
  have hi : (i 0).val < 1 := (i 0).isLt
  have e : ((idx_main_v18 (idx_main_v19 i) p) 1).val = (i 1).val := by
    show (i 0).val * 1024 + (i 1).val = (i 1).val
    omega
  rw [val_main_v17_apply, val_main_v12_apply, val_main_v11_apply, dn_apply x3 x4 _ p (i 1) rfl e, rr_apply x1 _ p rfl,
    eq_ix2' (idx_main_v18 (idx_main_v19 i) p) p (i 1) rfl e]
  exact mul_comm _ _

end

/-! ## The precondition -/

/-- An array of which the precondition says that every entry is finite holds real numbers. -/
theorem reals_of_all {s : Shape} {x : FVec Ideal s .f32} {hb : Cert.Pre_finite5.S_.BroadcastsInDim s (![] : Fin 0 → Fin s.rank)}
    {dims : List (Fin s.rank)} {hr : s.ReducesTo dims Cert.Pre_finite5.S_} {h_S_ : 0 < Cert.Pre_finite5.S_.numel} {p : Cert.Pre_finite5.S_.Idx}
    (h : Host.reduce IntOp.andi
      (cmpf .olt (Host.absf x) (broadcastInDim s ![] hb (constant Cert.Pre_finite5.S_ .f32 0x7F800000#32)))
      (constantI Cert.Pre_finite5.S_ 1 1#1) hr h_S_ p = 1#1) (j : s.Idx) : IsReal (x j) :=
  ⟨_, Cert.Proof.Attn.real_of_lt (Host.reduce_andi_all _ _ _ _ _ h j)⟩

/-- Under the precondition the rows, the gain, the hidden gradient and the weights hold real numbers. -/
theorem reals_of_pre {x0 x1 : FVec Ideal Cert.Pre_finite5.S2048x1024 .f32} {x2 : FVec Ideal Cert.Pre_finite5.S1x1024 .f32}
    {x3 : FVec Ideal Cert.Pre_finite5.S2048x5632 .f32} {x4 : FVec Ideal Cert.Pre_finite5.S1024x5632 .f32}
    (h : Cert.Pre_finite5.fn (F := Ideal) x0 x1 x2 x3 x4 = fun _ => 1#1) :
    (∀ j, IsReal (x1 j)) ∧ (∀ j, IsReal (x2 j)) ∧ (∀ j, IsReal (x3 j)) ∧ (∀ j, IsReal (x4 j)) := by
  have e := congrFun h (fun a => a.elim0)
  dsimp only [Cert.Pre_finite5.fn, Cert.Pre_finite5.fn_part1] at e
  obtain ⟨e, e4⟩ := Cert.Proof.Attn.and_one e
  obtain ⟨e, e3⟩ := Cert.Proof.Attn.and_one e
  obtain ⟨e1, e2⟩ := Cert.Proof.Attn.and_one e
  exact ⟨reals_of_all e1, reals_of_all e2, reals_of_all e3, reals_of_all e4⟩

/-- The reference ends with its arguments unchanged and every semaphore counter at zero. -/
theorem frame : Cert.quiescent_In1RefIdeal (hIn1RefIdeal := Cert.In1RefIdeal.Gen.facts) := fun m ρ _ =>
  (θ_run Cert.In1RefIdeal.defs _ _).mono
    (fun r h => ⟨fun c => (h c).2.2, Idealize.ShloMosaic.sem_eq_zero_of_no_sems (by decide) r.2⟩)
    (Cert.In1RefIdeal.Value.run (F := Ideal) m ρ)

/-- From finite arguments on which the two agree, kernel and reference end with equal gradients. -/
theorem algebraic : Cert.algebraic_In1Ideal_In1RefIdeal_pre_finite5
    (hIn1Ideal := Cert.In1Ideal.Gen.facts) (hIn1RefIdeal := Cert.In1RefIdeal.Gen.facts) (hPre_finite5 := Cert.Pre_finite5.Gen.facts) :=
    fun m g m' g' pre agree => by
  refine ⟨_, _, Cert.In1Ideal.Value.run_blocks m g, ?_⟩
  refine (θ_run Cert.In1RefIdeal.defs _ _).mono (fun r h c => ?_) (Cert.In1RefIdeal.Value.run (F := Ideal) m' g')
  obtain ⟨h0, h1, hr⟩ := h c
  obtain ⟨a0, a1, a2, a3, a4⟩ := agree c
  obtain ⟨r1, r2, r3, r4⟩ := reals_of_pre (pre c)
  refine ⟨h0.trans ?_, h1.trans ?_, hr⟩
  · rw [val_main_v36_eq, a0, a1, a2, a3, a4, ref_dx _ _ _ _ _ r1 r2 r3 r4]
    exact (out4_eq m c).symm
  · rw [val_main_v19_eq, a1, a3, a4, ref_dgain]
    exact (out5_eq m c).symm

end Cert.Proof.In1

end
-- ==== Proof.LastValue.lean ====
module

public import proofs.«01_k».proof.Defs
public import proofs.«01_k».proof.Proof.Gen.LastIdeal
public import proofs.«01_k».proof.Proof.Gen.LastIdeal.Frame
public import proofs.«01_k».proof.Proof.Gen.LastIdeal.Value
public import proofs.«01_k».proof.Proof.Norm
public import proofs.«01_k».proof.Proof.Ffn1
public import proofs.«01_k».proof.Proof.Act1
public import proofs.«01_k».proof.Proof.In1
public import proofs.«01_k».proof.Proof.Staged
public import Idealize.ShloMosaic.Lib.ValueLayout
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.LastIdeal.Sum

open Cert.LastIdeal Cert.LastIdeal.Gen Cert.Gated Cert.Norm
open Cert.Ffn1Ideal.Sum (wide shard_piece nrm act N GU A H sum_split)
open Cert.In1Ideal.Sum (row gain)
open Cert.Act1Ideal.Sum (gate lin)

variable (m : (ℓ : Loc nD τ sig) → Buf (Elt Ideal) ℓ)

/-! ## What the kernel writes, as functions of its arguments -/

section

variable (x0 : S2048x1024.Idx → EReal) (x1 : S1x1024.Idx → EReal) (x2 : S1024x5632.Idx → EReal) (x3 : S2816x1024.Idx → EReal)
  (x4 : S2048x1024.Idx → EReal) (x5 : S1x1024.Idx → EReal)

/-- The last norm of the rows with the branch added, minus the target. -/
def ERR (p : Fin 2048) (k : Fin 1024) : EReal := H x0 x1 x2 x3 p k * rr (H x0 x1 x2 x3 p) * x5 (ix2 (0 : Fin 1) k) - x4 (ix2 p k)

/-- The loss's gradient at the last norm. -/
def EP (p : Fin 2048) (k : Fin 1024) : EReal := ERR x0 x1 x2 x3 x4 x5 p k * perRow

/-- The loss's gradient at the rows with the branch added. -/
def DH (p : Fin 2048) (k : Fin 1024) : EReal := back (H x0 x1 x2 x3 p) (gain x5) (EP x0 x1 x2 x3 x4 x5 p) k

/-- The same as an array. -/
def DHA (i : S2048x1024.Idx) : EReal := DH x0 x1 x2 x3 x4 x5 (i 0) (i 1)

/-- The gates and factors as an array. -/
def GUA (i : S2048x5632.Idx) : EReal := GU x0 x1 x2 (i 0) (i 1)

/-- The gradient of the gates and factors. -/
def DGU (i : S2048x5632.Idx) : EReal := Cert.Act1Ideal.Sum.G (DHA x0 x1 x2 x3 x4 x5) (GUA x0 x1 x2) x3 i

/-- The gradient at the normalised rows. -/
def DN (p : Fin 2048) (k : Fin 1024) : EReal := ∑ j : Fin 5632, DGU x0 x1 x2 x3 x4 x5 (ix2 p j) * x2 (ix2 k j)

/-- The gradient of the rows: what skips the branch, and what comes back through the first norm. -/
def DX (i : S2048x1024.Idx) : EReal :=
  DH x0 x1 x2 x3 x4 x5 (i 0) (i 1) + back (row x0 (i 0)) (gain x1) (DN x0 x1 x2 x3 x4 x5 (i 0)) (i 1)

/-- What row `p` adds to the first gain's gradient. -/
def DG (k : Fin 1024) (p : Fin 2048) : EReal := DN x0 x1 x2 x3 x4 x5 p k * (x0 (ix2 p k) * rr (row x0 p))

/-- What row `p` adds to the last gain's gradient. -/
def DF (k : Fin 1024) (p : Fin 2048) : EReal := EP x0 x1 x2 x3 x4 x5 p k * (H x0 x1 x2 x3 p k * rr (H x0 x1 x2 x3 p))

/-- What row `p` adds to the loss. -/
def LS (p : Fin 2048) : EReal := halfPerRow * ∑ k : Fin 1024, ERR x0 x1 x2 x3 x4 x5 p k * ERR x0 x1 x2 x3 x4 x5 p k

/-- The first gain's gradient. -/
def DGAIN (i : S1x1024.Idx) : EReal := ∑ p : Fin 2048, DG x0 x1 x2 x3 x4 x5 (i 1) p

/-- The last gain's gradient. -/
def DLAST (i : S1x1024.Idx) : EReal := ∑ p : Fin 2048, DF x0 x1 x2 x3 x4 x5 (i 1) p

/-- The loss, in each of 128 columns. -/
def LOSS (_ : S1x128.Idx) : EReal := ∑ p : Fin 2048, LS x0 x1 x2 x3 x4 x5 p

end

/-! ## The operands -/

/-- The six arguments. -/
abbrev a0 (c : Dev nD) : S2048x1024.Idx → EReal := m ((c : Thread nD τ).loc main_arg0)
abbrev a1 (c : Dev nD) : S1x1024.Idx → EReal := m ((c : Thread nD τ).loc main_arg1)
abbrev a2 (c : Dev nD) : S1024x5632.Idx → EReal := m ((c : Thread nD τ).loc main_arg2)
abbrev a3 (c : Dev nD) : S2816x1024.Idx → EReal := m ((c : Thread nD τ).loc main_arg3)
abbrev a4 (c : Dev nD) : S2048x1024.Idx → EReal := m ((c : Thread nD τ).loc main_arg4)
abbrev a5 (c : Dev nD) : S1x1024.Idx → EReal := m ((c : Thread nD τ).loc main_arg5)

/-- The shards' operand: the columns in four blocks. -/
theorem shards_eq (c : Dev nD) : V m c main_v2 = transpose S4x1024x1408 [1, 0, 2]
    (shapeCast S1024x4x1408 (a2 m c) shapeCasts_S1024x5632_S1024x4x1408) transposes_S1024x4x1408_S4x1024x1408_1_0_2 := by
  show StableHlo.after _ _ (Proc.devRef .tc main_v2) = _
  simp only [hostOps0, List.flatten_cons, List.flatten_nil, List.append_nil, List.cons_append, List.nil_append]
  after_results
  rfl

/-- The shards side by side are the first weights. -/
theorem wide_eq (c : Dev nD) : wide (V m c main_v2) = a2 m c := by
  rw [shards_eq m c]
  funext i
  have h1 : (i 1).val < 5632 := (i 1).isLt
  refine (transpose_apply _ _ _ _ (ix3 (i 0 : Fin 1024) (⟨(i 1).val / 1408, by omega⟩ : Fin 4) (⟨(i 1).val % 1408, Nat.mod_lt _ (by decide)⟩ : Fin 1408)) fun b => match b with
    | ⟨0, _⟩ => rfl
    | ⟨1, _⟩ => rfl
    | ⟨2, _⟩ => rfl).trans ?_
  refine shapeCast_apply _ _ _ i ?_
  refine (Shape.rowMajor_val_two i).trans (Eq.trans ?_ (Shape.rowMajor_val_three (d := ![1024, 4, 1408]) _).symm)
  show (i 0).val * 5632 + (i 1).val = ((i 0).val * 4 + (i 1).val / 1408) * 1408 + (i 1).val % 1408
  omega

/-- The second weights' operand. -/
theorem wd_eq (c : Dev nD) : V m c main_v3 = a3 m c := by
  show StableHlo.after _ _ (Proc.devRef .tc main_v3) = _
  simp only [hostOps0, List.flatten_cons, List.flatten_nil, List.append_nil, List.cons_append, List.nil_append]
  after_results
  rfl

/-- The blocks' indices. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] :=
  (by decide +kernel : ∀ t : Fin grid0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0])

/-- A block of the rows. -/
theorem blk0 (c : Dev nD) (t : Fin cfg0.N) (r : Fin 256) (k : Fin 1024) (p : Fin 2048) (h : p.val = 256 * t.val + r.val) :
    iblk m c 0 t (ix2 r k) = a0 m c (ix2 p k) := by
  unfold a0
  rw [← V_main_arg0 m c]
  blk_ext [iblk, idx t] <;> omega

/-- The first gain's block. -/
theorem blk1 (c : Dev nD) (t : Fin cfg0.N) (k : Fin 1024) : iblk m c 1 t (ix2 (0 : Fin 1) k) = a1 m c (ix2 (0 : Fin 1) k) := by
  unfold a1
  rw [← V_main_arg1 m c]
  blk_ext [iblk, idx t] <;> omega

/-- A block of the target. -/
theorem blk2 (c : Dev nD) (t : Fin cfg0.N) (r : Fin 256) (k : Fin 1024) (p : Fin 2048) (h : p.val = 256 * t.val + r.val) :
    iblk m c 2 t (ix2 r k) = a4 m c (ix2 p k) := by
  unfold a4
  rw [← V_main_arg4 m c]
  blk_ext [iblk, idx t] <;> omega

/-- The last gain's block. -/
theorem blk3 (c : Dev nD) (t : Fin cfg0.N) (k : Fin 1024) : iblk m c 3 t (ix2 (0 : Fin 1) k) = a5 m c (ix2 (0 : Fin 1) k) := by
  unfold a5
  rw [← V_main_arg5 m c]
  blk_ext [iblk, idx t] <;> omega

/-- Shard 3's columns. -/
theorem piece_3 (X : S4x1024x1408.Idx → EReal) (x : S1024x1408.Idx) :
    (ReadAs.same (Val := Elt Ideal)).apply (View.read (Elt Ideal) (((View.whole main_v2).slice (Rect.unit (s := S4x1024x1408) ![3, 0, 0] S1x1024x1408.size inb_S4x1024x1408_S1x1024x1408_3_0_0)).reshape
      S1024x1408 squeezes_S1x1024x1408_S1024x1408.numel_eq) X) x = wide X ((Rect.unit (s := S1024x5632) ![0, 4224] S1024x1408.size inb_S1024x5632_S1024x1408_0_4224).emb x) :=
  shard_piece X 3 0 1408 4224 inb_S4x1024x1408_S1x1024x1408_3_0_0 inb_S1024x5632_S1024x1408_0_4224 squeezes_S1x1024x1408_S1024x1408.numel_eq rfl (by decide) x

/-- Shard 2's columns. -/
theorem piece_2 (X : S4x1024x1408.Idx → EReal) (x : S1024x1408.Idx) :
    (ReadAs.same (Val := Elt Ideal)).apply (View.read (Elt Ideal) (((View.whole main_v2).slice (Rect.unit (s := S4x1024x1408) ![2, 0, 0] S1x1024x1408.size inb_S4x1024x1408_S1x1024x1408_2_0_0)).reshape
      S1024x1408 squeezes_S1x1024x1408_S1024x1408.numel_eq) X) x = wide X ((Rect.unit (s := S1024x5632) ![0, 2816] S1024x1408.size inb_S1024x5632_S1024x1408_0_2816).emb x) :=
  shard_piece X 2 0 1408 2816 inb_S4x1024x1408_S1x1024x1408_2_0_0 inb_S1024x5632_S1024x1408_0_2816 squeezes_S1x1024x1408_S1024x1408.numel_eq rfl (by decide) x

/-- Shard 1's columns. -/
theorem piece_1 (X : S4x1024x1408.Idx → EReal) (x : S1024x1408.Idx) :
    (ReadAs.same (Val := Elt Ideal)).apply (View.read (Elt Ideal) (((View.whole main_v2).slice (Rect.unit (s := S4x1024x1408) ![1, 0, 0] S1x1024x1408.size inb_S4x1024x1408_S1x1024x1408_1_0_0)).reshape
      S1024x1408 squeezes_S1x1024x1408_S1024x1408.numel_eq) X) x = wide X ((Rect.unit (s := S1024x5632) ![0, 1408] S1024x1408.size inb_S1024x5632_S1024x1408_0_1408).emb x) :=
  shard_piece X 1 0 1408 1408 inb_S4x1024x1408_S1x1024x1408_1_0_0 inb_S1024x5632_S1024x1408_0_1408 squeezes_S1x1024x1408_S1024x1408.numel_eq rfl (by decide) x

/-- Shard 0's columns. -/
theorem piece_0 (X : S4x1024x1408.Idx → EReal) (x : S1024x1408.Idx) :
    (ReadAs.same (Val := Elt Ideal)).apply (View.read (Elt Ideal) (((View.whole main_v2).slice (Rect.unit (s := S4x1024x1408) ![0, 0, 0] S1x1024x1408.size inb_S4x1024x1408_S1x1024x1408_0_0_0)).reshape
      S1024x1408 squeezes_S1x1024x1408_S1024x1408.numel_eq) X) x = wide X ((Rect.unit (s := S1024x5632) ![0, 0] S1024x1408.size inb_S1024x5632_S1024x1408_0_0).emb x) :=
  shard_piece X 0 0 1408 0 inb_S4x1024x1408_S1x1024x1408_0_0_0 inb_S1024x5632_S1024x1408_0_0 squeezes_S1x1024x1408_S1024x1408.numel_eq rfl (by decide) x

/-- The scratch buffers hold the weights after every point. -/
theorem held (c : Dev nD) : ∀ (n : ℕ) (h : n < cfg0.N), (outsAt0 m c n h).2.2.2.2.2.2.2.2 = (wide (V m c main_v2), V m c main_v3)
  | 0, h => by
      show (outsAt0 m c (⟨0, h⟩ : Fin cfg0.N).val (⟨0, h⟩ : Fin cfg0.N).isLt).2.2.2.2.2.2.2.2 = _
      rw [outsAt0_A m c ⟨0, h⟩ rfl rfl]
      frame_out
      refine congrArg₂ Prod.mk ?_ ?_
      · refine Cert.Staged.canon_eq (Val := Elt Ideal) (e := .bf16) (s := S1024x5632) (wide (V m c main_v2)) _ ?_ ?_
        · exact ⟨piece_3 (V m c main_v2), piece_2 (V m c main_v2), piece_1 (V m c main_v2), piece_0 (V m c main_v2), trivial⟩
        · exact View.cover_of_tiledBy _ ![1024, 1408] (by sl_kernel_rfl)
      · refine Cert.Staged.canon_eq (Val := Elt Ideal) (e := .bf16) (s := S2816x1024) (V m c main_v3) _ ?_ ?_
        · exact ⟨fun _ => rfl, fun _ => rfl, fun _ => rfl, fun _ => rfl, trivial⟩
        · exact View.cover_of_tiledBy _ ![704, 1024] (by sl_kernel_rfl)
  | n + 1, h => by
      have hN : n + 1 < 8 := h
      show (outsAt0 m c (⟨n + 1, h⟩ : Fin cfg0.N).val (⟨n + 1, h⟩ : Fin cfg0.N).isLt).2.2.2.2.2.2.2.2 = _
      rw [outsAt0_B m c ⟨n + 1, h⟩ (by show ¬ (n + 1) % 8 = 0; omega) (by show ¬ (n + 1) % 8 = 0; omega)]
      exact held c n (Nat.lt_of_succ_lt h)

/-! ## The stores' payloads at an index -/

theorem pay_n (B : Vec Ideal S256x1024 .f32) (g : Vec Ideal S1x1024 .f32) (y : S256x1024.Idx) :
    k0_pay8 (F := Ideal) B g y = nrm (fun k => B (ix2 (y 0) k)) (fun k => g (ix2 (0 : Fin 1) k)) (y 1) := by
  rw [ValueIdx.eq_ix2 y]
  pointwise [k0_pay6, k0_pay7, k0_pay8]
  rfl

theorem pay_g0 (B : Vec Ideal S256x1024 .f32) (g : Vec Ideal S1x1024 .f32) (W : Vec Ideal S1024x1536 .bf16) (y : S256x1536.Idx) :
    k0_pay13 (F := Ideal) B g W y = ∑ k : Fin 1024, k0_pay8 (F := Ideal) B g (ix2 (y 0) k) * W (ix2 k (y 1)) := by
  rw [ValueIdx.eq_ix2 y]
  pointwise [k0_pay11, k0_pay13]

theorem pay_u0 (B : Vec Ideal S256x1024 .f32) (g : Vec Ideal S1x1024 .f32) (W : Vec Ideal S1024x1536 .bf16) (y : S256x1536.Idx) :
    k0_pay14 (F := Ideal) B g W y = ∑ k : Fin 1024, k0_pay8 (F := Ideal) B g (ix2 (y 0) k) * W (ix2 k (y 1)) := by
  rw [ValueIdx.eq_ix2 y]
  pointwise [k0_pay12, k0_pay14]

theorem pay_g1 (n : FVec Ideal S256x1024 .bf16) (W : Vec Ideal S1024x1280 .bf16) (y : S256x1280.Idx) :
    k0_pay21 (F := Ideal) n W y = ∑ k : Fin 1024, n (ix2 (y 0) k) * W (ix2 k (y 1)) := by
  rw [ValueIdx.eq_ix2 y]
  pointwise [k0_pay19, k0_pay21]

theorem pay_u1 (n : FVec Ideal S256x1024 .bf16) (W : Vec Ideal S1024x1280 .bf16) (y : S256x1280.Idx) :
    k0_pay22 (F := Ideal) n W y = ∑ k : Fin 1024, n (ix2 (y 0) k) * W (ix2 k (y 1)) := by
  rw [ValueIdx.eq_ix2 y]
  pointwise [k0_pay20, k0_pay22]

theorem pay_a0 (B : Vec Ideal S256x1024 .f32) (g : Vec Ideal S1x1024 .f32) (G U : Vec Ideal S1024x1536 .bf16) (y : S256x1536.Idx) :
    k0_pay17 (F := Ideal) (k0_pay15 B g G U) k0_pay16 y
      = act (∑ k : Fin 1024, k0_pay8 (F := Ideal) B g (ix2 (y 0) k) * G (ix2 k (y 1))) (∑ k : Fin 1024, k0_pay8 (F := Ideal) B g (ix2 (y 0) k) * U (ix2 k (y 1))) := by
  rw [ValueIdx.eq_ix2 y]
  pointwise [k0_pay11, k0_pay12, k0_pay15, k0_pay16, k0_pay17]
  rfl

theorem pay_a1 (n : FVec Ideal S256x1024 .bf16) (G U : Vec Ideal S1024x1280 .bf16) (y : S256x1280.Idx) :
    k0_pay23 (F := Ideal) n G U y
      = act (∑ k : Fin 1024, n (ix2 (y 0) k) * G (ix2 k (y 1))) (∑ k : Fin 1024, n (ix2 (y 0) k) * U (ix2 k (y 1))) := by
  rw [ValueIdx.eq_ix2 y]
  pointwise [k0_pay19, k0_pay20, k0_pay23]
  rfl

/-- The rows with the two products added. -/
theorem pay_h (B : Vec Ideal S256x1024 .f32) (n : FVec Ideal S256x1024 .bf16) (v w : FVec Ideal S256x1536 .f32) (W0 : Vec Ideal S1536x1024 .bf16)
    (G1 U1 : Vec Ideal S1024x1280 .bf16) (W1 : Vec Ideal S1280x1024 .bf16) (y : S256x1024.Idx) :
    k0_pay25 (F := Ideal) B n k0_pay10 v w W0 G1 U1 W1 y
      = B y + ((0 + ∑ k : Fin 1536, k0_pay17 (F := Ideal) v w (ix2 (y 0) k) * W0 (ix2 k (y 1)))
        + ∑ k : Fin 1280, k0_pay23 (F := Ideal) n G1 U1 (ix2 (y 0) k) * W1 (ix2 k (y 1))) := by
  rw [ValueIdx.eq_ix2 y]
  pointwise [k0_pay25, k0_pay10]

/-- Their inverse root mean squares. -/
theorem pay_r (B : Vec Ideal S256x1024 .f32) (n : FVec Ideal S256x1024 .bf16) (z : FVec Ideal S256x1024 .f32) (v w : FVec Ideal S256x1536 .f32)
    (W0 : Vec Ideal S1536x1024 .bf16) (G1 U1 : Vec Ideal S1024x1280 .bf16) (W1 : Vec Ideal S1280x1024 .bf16) (y : S256x1.Idx) :
    k0_pay26 (F := Ideal) B n z v w W0 G1 U1 W1 y = rr (fun j => k0_pay25 (F := Ideal) B n z v w W0 G1 U1 W1 (ix2 (y 0) j)) := by
  rw [ValueIdx.eq_ix2 y]
  pointwise [k0_pay26]
  rfl

section

variable (h tg : FVec Ideal S256x1024 .f32) (f : Vec Ideal S1x1024 .f32) (r : FVec Ideal S256x1 .f32)

/-- The error. -/
theorem pay_err (y : S256x1024.Idx) :
    k0_pay28 (F := Ideal) h f r tg y = h y * r (ix2 (y 0) (0 : Fin 1)) * f (ix2 (0 : Fin 1) (y 1)) - tg y := by
  rw [ValueIdx.eq_ix2 y]
  pointwise [k0_pay27, k0_pay28]

theorem pay_e (y : S256x1024.Idx) : k0_pay29 (F := Ideal) h f r tg y = k0_pay28 (F := Ideal) h f r tg y * perRow := by
  rw [ValueIdx.eq_ix2 y]
  pointwise [k0_pay29]

/-- The gradient at the rows. -/
theorem pay_dh (hr : ∀ p : Fin 256, r (ix2 p (0 : Fin 1)) = rr (fun j => h (ix2 p j))) (y : S256x1024.Idx) :
    k0_pay32 (F := Ideal) h f r tg y
      = back (fun j => h (ix2 (y 0) j)) (fun j => f (ix2 (0 : Fin 1) j)) (fun j => k0_pay29 (F := Ideal) h f r tg (ix2 (y 0) j)) (y 1) := by
  unfold back
  rw [← hr (y 0), ValueIdx.eq_ix2 y]
  pointwise [k0_pay27, k0_pay30, k0_pay32]

/-- The block's share of the last gain's gradient. -/
theorem pay_df (a : Vec Ideal S1x1024 .f32) (y : S1x1024.Idx) :
    k0_pay1 (F := Ideal) (k0_pay53 (k0_pay31 h f r tg) a) y
      = a y + ∑ p : Fin 256, k0_pay29 (F := Ideal) h f r tg (ix2 p (y 1)) * (h (ix2 p (y 1)) * r (ix2 p (0 : Fin 1))) := by
  rw [ValueIdx.eq_ix2 y]
  pointwise [k0_pay1, k0_pay53, k0_pay31, k0_pay27]

/-- Half the gradient's product with the second weights' first rows. -/
theorem pay_da0 (W : Vec Ideal S1536x1024 .bf16) (y : S256x1536.Idx) :
    k0_pay36 (F := Ideal) h f r tg W y = half * ∑ k : Fin 1024, k0_pay32 (F := Ideal) h f r tg (ix2 (y 0) k) * W (ix2 (y 1) k) := by
  rw [ValueIdx.eq_ix2 y]
  pointwise [k0_pay36]

theorem pay_dg0 (g u : FVec Ideal S256x1536 .bf16) (W : Vec Ideal S1536x1024 .bf16) (y : S256x1536.Idx) :
    k0_pay38 (F := Ideal) g u h f r tg W y = gate (k0_pay36 (F := Ideal) h f r tg W y) (u y) (g y) := by
  rw [ValueIdx.eq_ix2 y]
  pointwise [k0_pay38, k0_pay37, k0_pay35]
  rfl

theorem pay_dl0 (g : FVec Ideal S256x1536 .bf16) (d : FVec Ideal S256x1536 .f32) (y : S256x1536.Idx) :
    k0_pay39 (F := Ideal) (k0_pay35 g) d (k0_pay37 g) y = lin (d y) (g y) := by
  rw [ValueIdx.eq_ix2 y]
  pointwise [k0_pay39, k0_pay37, k0_pay35]
  rfl

end

theorem pay_dg1 (g u : FVec Ideal S256x1280 .bf16) (d : FVec Ideal S256x1024 .bf16) (W : Vec Ideal S1280x1024 .bf16) (y : S256x1280.Idx) :
    k0_pay46 (F := Ideal) g u d W y = gate (half * ∑ k : Fin 1024, d (ix2 (y 0) k) * W (ix2 (y 1) k)) (u y) (g y) := by
  rw [ValueIdx.eq_ix2 y]
  pointwise [k0_pay43, k0_pay44, k0_pay45, k0_pay46]
  rfl

theorem pay_dl1 (g : FVec Ideal S256x1280 .bf16) (d : FVec Ideal S256x1024 .bf16) (W : Vec Ideal S1280x1024 .bf16) (y : S256x1280.Idx) :
    k0_pay47 (F := Ideal) g d W y = lin (half * ∑ k : Fin 1024, d (ix2 (y 0) k) * W (ix2 (y 1) k)) (g y) := by
  rw [ValueIdx.eq_ix2 y]
  pointwise [k0_pay43, k0_pay44, k0_pay45, k0_pay47]
  rfl

/-- The gradient at the normalised rows, over the first gates and factors. -/
theorem pay_dn0 (a b s : FVec Ideal S256x1536 .f32) (d : FVec Ideal S256x1536 .bf16) (G U : Vec Ideal S1024x1536 .bf16) (y : S256x1024.Idx) :
    k0_pay42 (F := Ideal) k0_pay34 a b s d G U y
      = (0 + ∑ k : Fin 1536, d (ix2 (y 0) k) * G (ix2 (y 1) k)) + ∑ k : Fin 1536, k0_pay39 (F := Ideal) a b s (ix2 (y 0) k) * U (ix2 (y 1) k) := by
  rw [ValueIdx.eq_ix2 y]
  pointwise [k0_pay42, k0_pay34]

/-- The same over all of them. -/
theorem pay_dn (z : FVec Ideal S256x1024 .f32) (d l : FVec Ideal S256x1280 .bf16) (G U : Vec Ideal S1024x1280 .bf16) (y : S256x1024.Idx) :
    k0_pay50 (F := Ideal) z d l G U y
      = (z y + ∑ k : Fin 1280, d (ix2 (y 0) k) * G (ix2 (y 1) k)) + ∑ k : Fin 1280, l (ix2 (y 0) k) * U (ix2 (y 1) k) := by
  rw [ValueIdx.eq_ix2 y]
  pointwise [k0_pay50]

theorem pay_dx (x dh z : FVec Ideal S256x1024 .f32) (d l : FVec Ideal S256x1280 .bf16) (G U : Vec Ideal S1024x1280 .bf16) (g : Vec Ideal S1x1024 .f32)
    (y : S256x1024.Idx) :
    k0_pay51 (F := Ideal) (k0_pay6 x) (k0_pay7 x) dh z d l G U g y
      = dh y + back (fun j => x (ix2 (y 0) j)) (fun j => g (ix2 (0 : Fin 1) j)) (fun j => k0_pay50 (F := Ideal) z d l G U (ix2 (y 0) j)) (y 1) := by
  rw [ValueIdx.eq_ix2 y]
  pointwise [k0_pay51, k0_pay6, k0_pay7]
  rfl

theorem pay_dgain (x z : FVec Ideal S256x1024 .f32) (d l : FVec Ideal S256x1280 .bf16) (G U : Vec Ideal S1024x1280 .bf16) (a : Vec Ideal S1x1024 .f32)
    (y : S1x1024.Idx) :
    k0_pay52 (F := Ideal) (k0_pay7 x) z d l G U a y
      = a y + ∑ p : Fin 256, k0_pay50 (F := Ideal) z d l G U (ix2 p (y 1)) * (x (ix2 p (y 1)) * rr (fun j => x (ix2 p j))) := by
  rw [ValueIdx.eq_ix2 y]
  pointwise [k0_pay52, k0_pay6, k0_pay7]
  rfl

theorem pay_loss (e : FVec Ideal S256x1024 .f32) (a : Vec Ideal S1x128 .f32) (y : S1x128.Idx) :
    k0_pay2 (F := Ideal) e a y = a y + halfPerRow * ∑ p : Fin 256, ∑ k : Fin 1024, e (ix2 p k) * e (ix2 p k) := by
  rw [ValueIdx.eq_ix2 y]
  pointwise [k0_pay2]

theorem pay_zero3 (y : S1x1024.Idx) : k0_pay3 (F := Ideal) y = 0 := by
  rw [ValueIdx.eq_ix2 y]
  pointwise [k0_pay3]

theorem pay_zero4 (y : S1x1024.Idx) : k0_pay4 (F := Ideal) y = 0 := by
  rw [ValueIdx.eq_ix2 y]
  pointwise [k0_pay4]

theorem pay_zero5 (y : S1x128.Idx) : k0_pay5 (F := Ideal) y = 0 := by
  rw [ValueIdx.eq_ix2 y]
  pointwise [k0_pay5]

/-! ## A point's values, as the kernel computes them -/

section

variable (c : Dev nD) (t : Fin cfg0.N)

/-- The point's blocks: rows, first gain, target, last gain. -/
def xb : Vec Ideal S256x1024 .f32 := iblk m c 0 t
def gb : Vec Ideal S1x1024 .f32 := iblk m c 1 t
def tb : Vec Ideal S256x1024 .f32 := iblk m c 2 t
def fb : Vec Ideal S1x1024 .f32 := iblk m c 3 t

/-- The parts of the weights that the products take. -/
def wG0 : Vec Ideal S1024x1536 .bf16 :=
  View.ld (Val := Elt Ideal) (e' := .bf16) (wide (V m c main_v2)) (Rect.unit (s := S1024x5632) ![0, 0] ![1024, 1536] inb_S1024x5632_S1024x1536_0_0)
def wU0 : Vec Ideal S1024x1536 .bf16 :=
  View.ld (Val := Elt Ideal) (e' := .bf16) (wide (V m c main_v2)) (Rect.unit (s := S1024x5632) ![0, 2816] ![1024, 1536] inb_S1024x5632_S1024x1536_0_2816)
def wG1 : Vec Ideal S1024x1280 .bf16 :=
  View.ld (Val := Elt Ideal) (e' := .bf16) (wide (V m c main_v2)) (Rect.unit (s := S1024x5632) ![0, 1536] ![1024, 1280] inb_S1024x5632_S1024x1280_0_1536)
def wU1 : Vec Ideal S1024x1280 .bf16 :=
  View.ld (Val := Elt Ideal) (e' := .bf16) (wide (V m c main_v2)) (Rect.unit (s := S1024x5632) ![0, 4352] ![1024, 1280] inb_S1024x5632_S1024x1280_0_4352)
def wD0 : Vec Ideal S1536x1024 .bf16 :=
  View.ld (Val := Elt Ideal) (e' := .bf16) (V m c main_v3) (Rect.unit (s := S2816x1024) ![0, 0] ![1536, 1024] inb_S2816x1024_S1536x1024_0_0)
def wD1 : Vec Ideal S1280x1024 .bf16 :=
  View.ld (Val := Elt Ideal) (e' := .bf16) (V m c main_v3) (Rect.unit (s := S2816x1024) ![1536, 0] ![1280, 1024] inb_S2816x1024_S1280x1024_1536_0)

/-- The normalised rows. -/
def nv : FVec Ideal S256x1024 .bf16 := k0_pay8 (xb m c t) (gb m c t)

/-- Gates and factors. -/
def g0v : FVec Ideal S256x1536 .bf16 := k0_pay13 (xb m c t) (gb m c t) (wG0 m c)
def u0v : FVec Ideal S256x1536 .bf16 := k0_pay14 (xb m c t) (gb m c t) (wU0 m c)
def g1v : FVec Ideal S256x1280 .bf16 := k0_pay21 (nv m c t) (wG1 m c)
def u1v : FVec Ideal S256x1280 .bf16 := k0_pay22 (nv m c t) (wU1 m c)

/-- The rows with the branch added, and their inverse root mean squares. -/
def hv : FVec Ideal S256x1024 .f32 :=
  k0_pay25 (xb m c t) (nv m c t) k0_pay10 (k0_pay15 (xb m c t) (gb m c t) (wG0 m c) (wU0 m c)) k0_pay16 (wD0 m c) (wG1 m c) (wU1 m c) (wD1 m c)
def rv : FVec Ideal S256x1 .f32 :=
  k0_pay26 (xb m c t) (nv m c t) k0_pay10 (k0_pay15 (xb m c t) (gb m c t) (wG0 m c) (wU0 m c)) k0_pay16 (wD0 m c) (wG1 m c) (wU1 m c) (wD1 m c)

/-- The gradient at those rows. -/
def dhv : FVec Ideal S256x1024 .bf16 := k0_pay32 (hv m c t) (fb m c t) (rv m c t) (tb m c t)

/-- The gradients of gates and factors. -/
def dg0v : FVec Ideal S256x1536 .bf16 := k0_pay38 (g0v m c t) (u0v m c t) (hv m c t) (fb m c t) (rv m c t) (tb m c t) (wD0 m c)
def dl0v : FVec Ideal S256x1536 .bf16 :=
  k0_pay39 (k0_pay35 (g0v m c t)) (k0_pay36 (hv m c t) (fb m c t) (rv m c t) (tb m c t) (wD0 m c)) (k0_pay37 (g0v m c t))
def dg1v : FVec Ideal S256x1280 .bf16 := k0_pay46 (g1v m c t) (u1v m c t) (dhv m c t) (wD1 m c)
def dl1v : FVec Ideal S256x1280 .bf16 := k0_pay47 (g1v m c t) (dhv m c t) (wD1 m c)

/-- The gradient at the normalised rows, over the first gates and factors and over all. -/
def dn0v : FVec Ideal S256x1024 .f32 :=
  k0_pay42 k0_pay34 (k0_pay35 (g0v m c t)) (k0_pay36 (hv m c t) (fb m c t) (rv m c t) (tb m c t) (wD0 m c)) (k0_pay37 (g0v m c t)) (dg0v m c t)
    (wG0 m c) (wU0 m c)
def dnv : FVec Ideal S256x1024 .f32 := k0_pay50 (dn0v m c t) (dg1v m c t) (dl1v m c t) (wG1 m c) (wU1 m c)

end

/-! ## They are the functions' entries -/

/-- The functions of the kernel's arguments. -/
abbrev fN (c : Dev nD) := N (a0 m c) (a1 m c)
abbrev fGU (c : Dev nD) := GU (a0 m c) (a1 m c) (a2 m c)
abbrev fA (c : Dev nD) := A (a0 m c) (a1 m c) (a2 m c)
abbrev fH (c : Dev nD) := H (a0 m c) (a1 m c) (a2 m c) (a3 m c)
abbrev fERR (c : Dev nD) := ERR (a0 m c) (a1 m c) (a2 m c) (a3 m c) (a4 m c) (a5 m c)
abbrev fEP (c : Dev nD) := EP (a0 m c) (a1 m c) (a2 m c) (a3 m c) (a4 m c) (a5 m c)
abbrev fDH (c : Dev nD) := DH (a0 m c) (a1 m c) (a2 m c) (a3 m c) (a4 m c) (a5 m c)
abbrev fDHA (c : Dev nD) := DHA (a0 m c) (a1 m c) (a2 m c) (a3 m c) (a4 m c) (a5 m c)
abbrev fDGU (c : Dev nD) := DGU (a0 m c) (a1 m c) (a2 m c) (a3 m c) (a4 m c) (a5 m c)
abbrev fDN (c : Dev nD) := DN (a0 m c) (a1 m c) (a2 m c) (a3 m c) (a4 m c) (a5 m c)

theorem wG0_apply (c : Dev nD) (k : Fin 1024) (q : Fin 1536) (j : Fin 5632) (hj : j.val = 0 + q.val) : wG0 m c (ix2 k q) = a2 m c (ix2 k j) := by
  unfold wG0
  rw [wide_eq m c]
  refine congrArg (a2 m c) (funext fun a => Fin.ext ?_)
  match a with
  | ⟨0, _⟩ => show 0 + 1 * k.val = k.val; omega
  | ⟨1, _⟩ => show 0 + 1 * q.val = j.val; omega

theorem wU0_apply (c : Dev nD) (k : Fin 1024) (q : Fin 1536) (j : Fin 5632) (hj : j.val = 2816 + q.val) : wU0 m c (ix2 k q) = a2 m c (ix2 k j) := by
  unfold wU0
  rw [wide_eq m c]
  refine congrArg (a2 m c) (funext fun a => Fin.ext ?_)
  match a with
  | ⟨0, _⟩ => show 0 + 1 * k.val = k.val; omega
  | ⟨1, _⟩ => show 2816 + 1 * q.val = j.val; omega

theorem wG1_apply (c : Dev nD) (k : Fin 1024) (q : Fin 1280) (j : Fin 5632) (hj : j.val = 1536 + q.val) : wG1 m c (ix2 k q) = a2 m c (ix2 k j) := by
  unfold wG1
  rw [wide_eq m c]
  refine congrArg (a2 m c) (funext fun a => Fin.ext ?_)
  match a with
  | ⟨0, _⟩ => show 0 + 1 * k.val = k.val; omega
  | ⟨1, _⟩ => show 1536 + 1 * q.val = j.val; omega

theorem wU1_apply (c : Dev nD) (k : Fin 1024) (q : Fin 1280) (j : Fin 5632) (hj : j.val = 4352 + q.val) : wU1 m c (ix2 k q) = a2 m c (ix2 k j) := by
  unfold wU1
  rw [wide_eq m c]
  refine congrArg (a2 m c) (funext fun a => Fin.ext ?_)
  match a with
  | ⟨0, _⟩ => show 0 + 1 * k.val = k.val; omega
  | ⟨1, _⟩ => show 4352 + 1 * q.val = j.val; omega

theorem wD0_apply (c : Dev nD) (k : Fin 1536) (q : Fin 1024) (n : Fin 2816) (hn : n.val = 0 + k.val) : wD0 m c (ix2 k q) = a3 m c (ix2 n q) := by
  unfold wD0
  rw [wd_eq m c]
  refine congrArg (a3 m c) (funext fun a => Fin.ext ?_)
  match a with
  | ⟨0, _⟩ => show 0 + 1 * k.val = n.val; omega
  | ⟨1, _⟩ => show 0 + 1 * q.val = q.val; omega

theorem wD1_apply (c : Dev nD) (k : Fin 1280) (q : Fin 1024) (n : Fin 2816) (hn : n.val = 1536 + k.val) : wD1 m c (ix2 k q) = a3 m c (ix2 n q) := by
  unfold wD1
  rw [wd_eq m c]
  refine congrArg (a3 m c) (funext fun a => Fin.ext ?_)
  match a with
  | ⟨0, _⟩ => show 1536 + 1 * k.val = n.val; omega
  | ⟨1, _⟩ => show 0 + 1 * q.val = q.val; omega

section

variable (c : Dev nD) (t : Fin cfg0.N) (r : Fin 256) (p : Fin 2048) (hp : p.val = 256 * t.val + r.val)
include hp

theorem n_tile (k : Fin 1024) : nv m c t (ix2 r k) = fN m c p k := by
  refine (pay_n _ _ (ix2 r k)).trans ?_
  exact congrArg₂ (fun a b => nrm a b k) (funext fun k => blk0 m c t r k p hp) (funext fun k => blk1 m c t k)

theorem g0_sum (q : Fin 1536) (j : Fin 5632) (hj : j.val = 0 + q.val) :
    ∑ k : Fin 1024, nv m c t (ix2 r k) * wG0 m c (ix2 k q) = fGU m c p j :=
  Finset.sum_congr rfl fun k _ => congrArg₂ (fun a b : EReal => a * b) (n_tile m c t r p hp k) (wG0_apply m c k q j hj)

theorem g0_tile (q : Fin 1536) (j : Fin 5632) (hj : j.val = 0 + q.val) : g0v m c t (ix2 r q) = fGU m c p j :=
  (pay_g0 _ _ _ (ix2 r q)).trans (g0_sum m c t r p hp q j hj)

theorem u0_sum (q : Fin 1536) (j : Fin 5632) (hj : j.val = 2816 + q.val) :
    ∑ k : Fin 1024, nv m c t (ix2 r k) * wU0 m c (ix2 k q) = fGU m c p j :=
  Finset.sum_congr rfl fun k _ => congrArg₂ (fun a b : EReal => a * b) (n_tile m c t r p hp k) (wU0_apply m c k q j hj)

theorem u0_tile (q : Fin 1536) (j : Fin 5632) (hj : j.val = 2816 + q.val) : u0v m c t (ix2 r q) = fGU m c p j :=
  (pay_u0 _ _ _ (ix2 r q)).trans (u0_sum m c t r p hp q j hj)

theorem g1_sum (q : Fin 1280) (j : Fin 5632) (hj : j.val = 1536 + q.val) :
    ∑ k : Fin 1024, nv m c t (ix2 r k) * wG1 m c (ix2 k q) = fGU m c p j :=
  Finset.sum_congr rfl fun k _ => congrArg₂ (fun a b : EReal => a * b) (n_tile m c t r p hp k) (wG1_apply m c k q j hj)

theorem g1_tile (q : Fin 1280) (j : Fin 5632) (hj : j.val = 1536 + q.val) : g1v m c t (ix2 r q) = fGU m c p j :=
  (pay_g1 _ _ (ix2 r q)).trans (g1_sum m c t r p hp q j hj)

theorem u1_sum (q : Fin 1280) (j : Fin 5632) (hj : j.val = 4352 + q.val) :
    ∑ k : Fin 1024, nv m c t (ix2 r k) * wU1 m c (ix2 k q) = fGU m c p j :=
  Finset.sum_congr rfl fun k _ => congrArg₂ (fun a b : EReal => a * b) (n_tile m c t r p hp k) (wU1_apply m c k q j hj)

theorem u1_tile (q : Fin 1280) (j : Fin 5632) (hj : j.val = 4352 + q.val) : u1v m c t (ix2 r q) = fGU m c p j :=
  (pay_u1 _ _ (ix2 r q)).trans (u1_sum m c t r p hp q j hj)

/-- The halved gated products of the first columns. -/
theorem a0_tile (q : Fin 1536) (n : Fin 2816) (hn : n.val = 0 + q.val) :
    k0_pay17 (F := Ideal) (k0_pay15 (xb m c t) (gb m c t) (wG0 m c) (wU0 m c)) k0_pay16 (ix2 r q) = fA m c p n :=
  (pay_a0 _ _ _ _ (ix2 r q)).trans (congrArg₂ act (g0_sum m c t r p hp q _ hn) (u0_sum m c t r p hp q _ (by show 2816 + n.val = _; omega)))

/-- The halved gated products of the last columns. -/
theorem a1_tile (q : Fin 1280) (n : Fin 2816) (hn : n.val = 1536 + q.val) :
    k0_pay23 (F := Ideal) (nv m c t) (wG1 m c) (wU1 m c) (ix2 r q) = fA m c p n :=
  (pay_a1 _ _ _ (ix2 r q)).trans (congrArg₂ act (g1_sum m c t r p hp q _ hn) (u1_sum m c t r p hp q _ (by show 2816 + n.val = _; omega)))

theorem h_tile (q : Fin 1024) : hv m c t (ix2 r q) = fH m c p q := by
  refine (pay_h _ _ _ _ _ _ _ _ (ix2 r q)).trans ?_
  unfold fH H
  rw [sum_split]
  refine congrArg₂ (fun a b : EReal => a + b) (blk0 m c t r q p hp) (congrArg₂ (fun a b : EReal => a + b) (congrArg (0 + ·) ?_) ?_)
  · exact Finset.sum_congr rfl fun k _ => congrArg₂ (fun a b : EReal => a * b)
      (a0_tile m c t r p hp k ⟨k.val, by omega⟩ (Nat.zero_add _).symm) (wD0_apply m c k q ⟨k.val, by omega⟩ (Nat.zero_add _).symm)
  · exact Finset.sum_congr rfl fun k _ => congrArg₂ (fun a b : EReal => a * b)
      (a1_tile m c t r p hp k ⟨1536 + k.val, by omega⟩ rfl) (wD1_apply m c k q ⟨1536 + k.val, by omega⟩ rfl)

theorem h_row : (fun j => hv m c t (ix2 r j)) = fH m c p := funext fun j => h_tile m c t r p hp j

omit hp in
theorem r_rows (r : Fin 256) : rv m c t (ix2 r (0 : Fin 1)) = rr (fun j => hv m c t (ix2 r j)) := pay_r _ _ _ _ _ _ _ _ _ (ix2 r (0 : Fin 1))

theorem r_tile : rv m c t (ix2 r (0 : Fin 1)) = rr (fH m c p) := by
  rw [r_rows, h_row m c t r p hp]

theorem err_tile (q : Fin 1024) : k0_pay28 (F := Ideal) (hv m c t) (fb m c t) (rv m c t) (tb m c t) (ix2 r q) = fERR m c p q := by
  refine (pay_err _ _ _ _ (ix2 r q)).trans ?_
  exact congrArg₂ (fun a b : EReal => a - b) (congrArg₂ (fun a b : EReal => a * b) (congrArg₂ (fun a b : EReal => a * b) (h_tile m c t r p hp q)
    (r_tile m c t r p hp)) (blk3 m c t q)) (blk2 m c t r q p hp)

theorem e_tile (q : Fin 1024) : k0_pay29 (F := Ideal) (hv m c t) (fb m c t) (rv m c t) (tb m c t) (ix2 r q) = fEP m c p q :=
  (pay_e _ _ _ _ (ix2 r q)).trans (congrArg (· * perRow) (err_tile m c t r p hp q))

theorem dh_tile (q : Fin 1024) : dhv m c t (ix2 r q) = fDH m c p q := by
  refine (pay_dh _ _ _ _ (r_rows m c t) (ix2 r q)).trans ?_
  exact congr (congr (congrArg₂ back (h_row m c t r p hp) (funext fun j => blk3 m c t j)) (funext fun j => e_tile m c t r p hp j)) rfl

theorem da0_tile (q : Fin 1536) (n : Fin 2816) (hn : n.val = 0 + q.val) :
    k0_pay36 (F := Ideal) (hv m c t) (fb m c t) (rv m c t) (tb m c t) (wD0 m c) (ix2 r q) = Cert.Act1Ideal.Sum.da (fDHA m c) (a3 m c) p n :=
  (pay_da0 _ _ _ _ _ (ix2 r q)).trans (congrArg (half * ·) (Finset.sum_congr rfl fun k _ => congrArg₂ (fun a b : EReal => a * b)
    (dh_tile m c t r p hp k) (wD0_apply m c q k n hn)))

theorem da1_tile (q : Fin 1280) (n : Fin 2816) (hn : n.val = 1536 + q.val) :
    half * ∑ k : Fin 1024, dhv m c t (ix2 r k) * wD1 m c (ix2 q k) = Cert.Act1Ideal.Sum.da (fDHA m c) (a3 m c) p n :=
  congrArg (half * ·) (Finset.sum_congr rfl fun k _ => congrArg₂ (fun a b : EReal => a * b)
    (dh_tile m c t r p hp k) (wD1_apply m c q k n hn))

theorem dg0_tile (q : Fin 1536) (j : Fin 5632) (hj : j.val = 0 + q.val) : dg0v m c t (ix2 r q) = fDGU m c (ix2 p j) := by
  refine (pay_dg0 _ _ _ _ _ _ _ (ix2 r q)).trans ?_
  refine Eq.trans ?_ (Cert.Act1Ideal.Sum.G_gate _ _ _ (ix2 p j) (⟨q.val, by omega⟩ : Fin 2816) (hj.trans (Nat.zero_add _))).symm
  exact congr (congrArg₂ gate (da0_tile m c t r p hp q _ (Nat.zero_add _).symm) (u0_tile m c t r p hp q _ rfl)) (g0_tile m c t r p hp q j hj)

theorem dl0_tile (q : Fin 1536) (j : Fin 5632) (hj : j.val = 2816 + q.val) : dl0v m c t (ix2 r q) = fDGU m c (ix2 p j) := by
  refine (pay_dl0 _ _ (ix2 r q)).trans ?_
  refine Eq.trans ?_ (Cert.Act1Ideal.Sum.G_lin _ _ _ (ix2 p j) (⟨q.val, by omega⟩ : Fin 2816) hj).symm
  exact congrArg₂ lin (da0_tile m c t r p hp q _ (Nat.zero_add _).symm) (g0_tile m c t r p hp q _ (Nat.zero_add _).symm)

theorem dg1_tile (q : Fin 1280) (j : Fin 5632) (hj : j.val = 1536 + q.val) : dg1v m c t (ix2 r q) = fDGU m c (ix2 p j) := by
  refine (pay_dg1 _ _ _ _ (ix2 r q)).trans ?_
  refine Eq.trans ?_ (Cert.Act1Ideal.Sum.G_gate _ _ _ (ix2 p j) (⟨1536 + q.val, by omega⟩ : Fin 2816) hj).symm
  exact congr (congrArg₂ gate (da1_tile m c t r p hp q _ rfl) (u1_tile m c t r p hp q _ (by show 2816 + (1536 + q.val) = _; omega)))
    (g1_tile m c t r p hp q j hj)

theorem dl1_tile (q : Fin 1280) (j : Fin 5632) (hj : j.val = 4352 + q.val) : dl1v m c t (ix2 r q) = fDGU m c (ix2 p j) := by
  refine (pay_dl1 _ _ _ (ix2 r q)).trans ?_
  refine Eq.trans ?_ (Cert.Act1Ideal.Sum.G_lin _ _ _ (ix2 p j) (⟨1536 + q.val, by omega⟩ : Fin 2816) (hj.trans (by show _ = 2816 + (1536 + q.val); omega))).symm
  exact congrArg₂ lin (da1_tile m c t r p hp q _ rfl) (g1_tile m c t r p hp q _ rfl)

theorem dn0_tile (k : Fin 1024) : dn0v m c t (ix2 r k)
    = (0 + ∑ q : Fin 1536, fDGU m c (ix2 p (⟨q.val, by omega⟩ : Fin 5632)) * a2 m c (ix2 k (⟨q.val, by omega⟩ : Fin 5632)))
      + ∑ q : Fin 1536, fDGU m c (ix2 p (⟨2816 + q.val, by omega⟩ : Fin 5632)) * a2 m c (ix2 k (⟨2816 + q.val, by omega⟩ : Fin 5632)) := by
  refine (pay_dn0 _ _ _ _ _ _ (ix2 r k)).trans ?_
  refine congrArg₂ (fun a b : EReal => a + b) (congrArg (0 + ·) ?_) ?_
  · exact Finset.sum_congr rfl fun q _ => congrArg₂ (fun a b : EReal => a * b) (dg0_tile m c t r p hp q _ (Nat.zero_add _).symm)
      (wG0_apply m c k q _ (Nat.zero_add _).symm)
  · exact Finset.sum_congr rfl fun q _ => congrArg₂ (fun a b : EReal => a * b) (dl0_tile m c t r p hp q _ rfl) (wU0_apply m c k q _ rfl)

theorem dn_tile (k : Fin 1024) : dnv m c t (ix2 r k) = fDN m c p k := by
  refine (pay_dn _ _ _ _ _ (ix2 r k)).trans ?_
  refine Eq.trans ?_ (sum_wide fun j => fDGU m c (ix2 p j) * a2 m c (ix2 k j)).symm
  rw [add_right_comm (0 + _) _ (∑ q : Fin 1536, _)]
  refine congrArg₂ (fun a b : EReal => a + b) (congrArg₂ (fun a b : EReal => a + b) (dn0_tile m c t r p hp k) ?_) ?_
  · exact Finset.sum_congr rfl fun q _ => congrArg₂ (fun a b : EReal => a * b) (dg1_tile m c t r p hp q _ rfl) (wG1_apply m c k q _ rfl)
  · exact Finset.sum_congr rfl fun q _ => congrArg₂ (fun a b : EReal => a * b) (dl1_tile m c t r p hp q _ rfl) (wU1_apply m c k q _ rfl)

theorem dx_tile (q : Fin 1024) :
    k0_pay51 (F := Ideal) (k0_pay6 (xb m c t)) (k0_pay7 (xb m c t)) (k0_pay30 (hv m c t) (fb m c t) (rv m c t) (tb m c t)) (dn0v m c t) (dg1v m c t)
      (dl1v m c t) (wG1 m c) (wU1 m c) (gb m c t) (ix2 r q) = DX (a0 m c) (a1 m c) (a2 m c) (a3 m c) (a4 m c) (a5 m c) (ix2 p q) := by
  refine (pay_dx _ _ _ _ _ _ _ _ (ix2 r q)).trans ?_
  refine congrArg₂ (fun a b : EReal => a + b) (dh_tile m c t r p hp q) ?_
  exact congr (congr (congrArg₂ back (funext fun j => blk0 m c t r j p hp) (funext fun j => blk1 m c t j))
    (funext fun j => dn_tile m c t r p hp j)) rfl

end

/-! ## The accumulators -/

/-- The sums over the first `n` rows. -/
def accG (c : Dev nD) (n : ℕ) (i : S1x1024.Idx) : EReal := firstRows (DG (a0 m c) (a1 m c) (a2 m c) (a3 m c) (a4 m c) (a5 m c) (i 1)) n
def accF (c : Dev nD) (n : ℕ) (i : S1x1024.Idx) : EReal := firstRows (DF (a0 m c) (a1 m c) (a2 m c) (a3 m c) (a4 m c) (a5 m c) (i 1)) n
def accL (c : Dev nD) (n : ℕ) (_ : S1x128.Idx) : EReal := firstRows (LS (a0 m c) (a1 m c) (a2 m c) (a3 m c) (a4 m c) (a5 m c)) n

/-- A point adds its rows to the first gain's gradient. -/
theorem dgain_tile (c : Dev nD) (t : Fin cfg0.N) (a : Vec Ideal S1x1024 .f32) (ha : ∀ i, a i = accG m c (256 * t.val) i) (y : S1x1024.Idx) :
    k0_pay52 (F := Ideal) (k0_pay7 (xb m c t)) (dn0v m c t) (dg1v m c t) (dl1v m c t) (wG1 m c) (wU1 m c) a y = accG m c (256 * (t.val + 1)) y := by
  have hN : t.val < 8 := t.isLt
  refine (pay_dgain _ _ _ _ _ _ _ y).trans ?_
  rw [ha]
  unfold accG
  rw [show 256 * (t.val + 1) = 256 * t.val + 256 by omega, firstRows_add _ _ _ (by omega)]
  refine congrArg _ (Finset.sum_congr rfl fun r _ => ?_)
  exact congrArg₂ (fun a b : EReal => a * b) (dn_tile m c t r ⟨256 * t.val + r.val, by omega⟩ rfl (y 1))
    (congrArg₂ (fun a b : EReal => a * b) (blk0 m c t r (y 1) ⟨256 * t.val + r.val, by omega⟩ rfl)
      (congrArg rr (funext fun j => blk0 m c t r j ⟨256 * t.val + r.val, by omega⟩ rfl)))

/-- A point adds its rows to the last gain's gradient. -/
theorem df_tile (c : Dev nD) (t : Fin cfg0.N) (a : Vec Ideal S1x1024 .f32) (ha : ∀ i, a i = accF m c (256 * t.val) i) (y : S1x1024.Idx) :
    k0_pay1 (F := Ideal) (k0_pay53 (k0_pay31 (hv m c t) (fb m c t) (rv m c t) (tb m c t)) a) y = accF m c (256 * (t.val + 1)) y := by
  have hN : t.val < 8 := t.isLt
  refine (pay_df _ _ _ _ _ y).trans ?_
  rw [ha]
  unfold accF
  rw [show 256 * (t.val + 1) = 256 * t.val + 256 by omega, firstRows_add _ _ _ (by omega)]
  refine congrArg _ (Finset.sum_congr rfl fun r _ => ?_)
  exact congrArg₂ (fun a b : EReal => a * b) (e_tile m c t r ⟨256 * t.val + r.val, by omega⟩ rfl (y 1))
    (congrArg₂ (fun a b : EReal => a * b) (h_tile m c t r ⟨256 * t.val + r.val, by omega⟩ rfl (y 1)) (r_tile m c t r ⟨256 * t.val + r.val, by omega⟩ rfl))

/-- A point adds its rows to the loss. -/
theorem loss_tile (c : Dev nD) (t : Fin cfg0.N) (a : Vec Ideal S1x128 .f32) (ha : ∀ i, a i = accL m c (256 * t.val) i) (y : S1x128.Idx) :
    k0_pay2 (F := Ideal) (k0_pay28 (hv m c t) (fb m c t) (rv m c t) (tb m c t)) a y = accL m c (256 * (t.val + 1)) y := by
  have hN : t.val < 8 := t.isLt
  refine (pay_loss _ _ y).trans ?_
  rw [ha, perRow_mul_sum]
  unfold accL
  rw [show 256 * (t.val + 1) = 256 * t.val + 256 by omega, firstRows_add _ _ _ (by omega)]
  refine congrArg _ (Finset.sum_congr rfl fun r _ => ?_)
  refine congrArg (halfPerRow * ·) (Finset.sum_congr rfl fun k _ => ?_)
  exact congrArg₂ (fun a b : EReal => a * b) (err_tile m c t r ⟨256 * t.val + r.val, by omega⟩ rfl k) (err_tile m c t r ⟨256 * t.val + r.val, by omega⟩ rfl k)

/-! ## The result arrays -/

/-- A block whose entries are a function's is that function's block. -/
theorem tile_at {w : ℕ} (f : (⟨2, ![256, w]⟩ : Shape).Idx → EReal) (g : (⟨2, ![2048, w]⟩ : Shape).Idx → EReal) (t : ℕ)
    (h : ∀ (r : Fin 256) (p : Fin 2048), p.val = 256 * t + r.val → ∀ q : Fin w, f (ix2 r q) = g (ix2 p q))
    (y : (⟨2, ![256, w]⟩ : Shape).Idx) (i : (⟨2, ![2048, w]⟩ : Shape).Idx) (p0 : (i 0).val = 256 * t + (y 0).val) (p1 : (i 1).val = (y 1).val) :
    f y = g i := by
  have e : i = ix2 (i 0 : Fin 2048) (y 1 : Fin w) := Cert.Proof.In1.eq_ix2' i (i 0) (y 1) rfl p1
  exact (congrArg f (ValueIdx.eq_ix2 y)).trans ((h (y 0) (i 0) p0 (y 1)).trans (congrArg g e.symm))

/-- The casts before the stores are identities. -/
theorem same_9 (B : Vec Ideal S256x1024 .f32) (g : Vec Ideal S1x1024 .f32) : k0_pay9 (F := Ideal) B g = k0_pay8 (F := Ideal) B g :=
  funext fun y => by rw [ValueIdx.eq_ix2 y]; pointwise [k0_pay9]
theorem same_18 (v w : FVec Ideal S256x1536 .f32) : k0_pay18 (F := Ideal) v w = k0_pay17 (F := Ideal) v w :=
  funext fun y => by rw [ValueIdx.eq_ix2 y]; pointwise [k0_pay18]
theorem same_24 (n : FVec Ideal S256x1024 .bf16) (G U : Vec Ideal S1024x1280 .bf16) : k0_pay24 (F := Ideal) n G U = k0_pay23 (F := Ideal) n G U :=
  funext fun y => by rw [ValueIdx.eq_ix2 y]; pointwise [k0_pay24]
theorem same_33 (h tg : FVec Ideal S256x1024 .f32) (f : Vec Ideal S1x1024 .f32) (r : FVec Ideal S256x1 .f32) :
    k0_pay33 (F := Ideal) h f r tg = k0_pay32 (F := Ideal) h f r tg :=
  funext fun y => by rw [ValueIdx.eq_ix2 y]; pointwise [k0_pay33]
theorem same_40 (d : FVec Ideal S256x1536 .bf16) : k0_pay40 (F := Ideal) d = d :=
  funext fun y => by rw [ValueIdx.eq_ix2 y]; pointwise [k0_pay40]
theorem same_41 (a b s : FVec Ideal S256x1536 .f32) : k0_pay41 (F := Ideal) a b s = k0_pay39 (F := Ideal) a b s :=
  funext fun y => by rw [ValueIdx.eq_ix2 y]; pointwise [k0_pay41]
theorem same_48 (g u : FVec Ideal S256x1280 .bf16) (d : FVec Ideal S256x1024 .bf16) (W : Vec Ideal S1280x1024 .bf16) :
    k0_pay48 (F := Ideal) g u d W = k0_pay46 (F := Ideal) g u d W :=
  funext fun y => by rw [ValueIdx.eq_ix2 y]; pointwise [k0_pay48]
theorem same_49 (d : FVec Ideal S256x1280 .bf16) : k0_pay49 (F := Ideal) d = d :=
  funext fun y => by rw [ValueIdx.eq_ix2 y]; pointwise [k0_pay49]

/-- What the first point leaves in the block of the rows' gradient. -/
theorem after4_A (c : Dev nD) (t : Fin cfg0.N) (h0 : t.val % 8 = 0) (y : S256x1024.Idx) (i : S2048x1024.Idx)
    (p0 : (i 0).val = 256 * t.val + (y 0).val) (p1 : (i 1).val = (y 1).val) : (dats m 0 c).after 4 t y = DX (a0 m c) (a1 m c) (a2 m c) (a3 m c) (a4 m c) (a5 m c) i := by
  rw [after0_4, outsAt0_A m c t h0 h0]
  frame_out
  rw [Cert.Staged.readCov_eq (View.whole cc0_scratch0) (wide (V m c main_v2)),
    Cert.Staged.readCov_eq (View.whole cc0_scratch0) (wide (V m c main_v2)),
    Cert.Staged.readCov_eq (View.whole cc0_scratch0) (wide (V m c main_v2)),
    Cert.Staged.readCov_eq (View.whole cc0_scratch0) (wide (V m c main_v2)),
    Cert.Staged.readCov_eq (View.whole cc0_scratch1) (V m c main_v3),
    Cert.Staged.readCov_eq (View.whole cc0_scratch1) (V m c main_v3)]
  rotate_left
  · exact ⟨fun _ => rfl, fun _ => rfl, fun _ => rfl, fun _ => rfl, trivial⟩
  · exact View.cover_of_tiledBy _ ![704, 1024] (by sl_kernel_rfl)
  · exact ⟨fun _ => rfl, fun _ => rfl, fun _ => rfl, fun _ => rfl, trivial⟩
  · exact View.cover_of_tiledBy _ ![704, 1024] (by sl_kernel_rfl)
  · exact ⟨piece_3 (V m c main_v2), piece_2 (V m c main_v2), piece_1 (V m c main_v2), piece_0 (V m c main_v2), trivial⟩
  · exact View.cover_of_tiledBy _ ![1024, 1408] (by sl_kernel_rfl)
  · exact ⟨piece_3 (V m c main_v2), piece_2 (V m c main_v2), piece_1 (V m c main_v2), piece_0 (V m c main_v2), trivial⟩
  · exact View.cover_of_tiledBy _ ![1024, 1408] (by sl_kernel_rfl)
  · exact ⟨piece_3 (V m c main_v2), piece_2 (V m c main_v2), piece_1 (V m c main_v2), piece_0 (V m c main_v2), trivial⟩
  · exact View.cover_of_tiledBy _ ![1024, 1408] (by sl_kernel_rfl)
  · exact ⟨piece_3 (V m c main_v2), piece_2 (V m c main_v2), piece_1 (V m c main_v2), piece_0 (V m c main_v2), trivial⟩
  · exact View.cover_of_tiledBy _ ![1024, 1408] (by sl_kernel_rfl)
  exact tile_at _ (DX (a0 m c) (a1 m c) (a2 m c) (a3 m c) (a4 m c) (a5 m c)) t.val (fun r p hp q => dx_tile m c t r p hp q) y i p0 p1

/-- What a later point leaves there. -/
theorem after4_B (c : Dev nD) (t : Fin cfg0.N) (h0 : ¬ t.val % 8 = 0) (y : S256x1024.Idx) (i : S2048x1024.Idx)
    (p0 : (i 0).val = 256 * t.val + (y 0).val) (p1 : (i 1).val = (y 1).val) : (dats m 0 c).after 4 t y = DX (a0 m c) (a1 m c) (a2 m c) (a3 m c) (a4 m c) (a5 m c) i := by
  rw [after0_4, outsAt0_B m c t h0 h0]
  frame_out
  simp only [read_unread_whole]
  rw [held m c]
  exact tile_at _ (DX (a0 m c) (a1 m c) (a2 m c) (a3 m c) (a4 m c) (a5 m c)) t.val (fun r p hp q => dx_tile m c t r p hp q) y i p0 p1

/-- Where an element of a block of the rows' gradient lies. -/
theorem place4 (t : Fin cfg0.N) (y : ((cfg0.win 4).xblock (cfg0.grid.coords t)).Idx) :
    ((((View.whole main_v4_0).slice (win0_4.rect t)).emb y) 0).val = 256 * t.val + (y 0).val
    ∧ ((((View.whole main_v4_0).slice (win0_4.rect t)).emb y) 1).val = (y 1).val := by
  refine ⟨?_, ?_⟩ <;> blk_simp [idx t] <;> omega

/-- The array of the rows' gradient after the run. -/
theorem out4_eq (c : Dev nD) : (dats m 0 c).arrAt 4 cfg0.N = DX (a0 m c) (a1 m c) (a2 m c) (a3 m c) (a4 m c) (a5 m c) := by
  refine (dats m 0 c).arrAt_eq_of_covers 4 _ (by decide +kernel) fun t hf y => ?_
  blk_simp
  obtain ⟨p0, p1⟩ := place4 t y
  by_cases h0 : t.val % 8 = 0
  · exact after4_A m c t h0 y _ p0 p1
  · exact after4_B m c t h0 y _ p0 p1

/-- What the first point leaves in the block of the gradient of gates and factors. -/
theorem after5_A (c : Dev nD) (t : Fin cfg0.N) (h0 : t.val % 8 = 0) (y : S256x5632.Idx) (i : S2048x5632.Idx)
    (p0 : (i 0).val = 256 * t.val + (y 0).val) (p1 : (i 1).val = (y 1).val) : (dats m 0 c).after 5 t y = DGU (a0 m c) (a1 m c) (a2 m c) (a3 m c) (a4 m c) (a5 m c) i := by
  rw [after0_5, outsAt0_A m c t h0 h0]
  frame_out
  rw [Cert.Staged.readCov_eq (View.whole cc0_scratch0) (wide (V m c main_v2)),
    Cert.Staged.readCov_eq (View.whole cc0_scratch0) (wide (V m c main_v2)),
    Cert.Staged.readCov_eq (View.whole cc0_scratch0) (wide (V m c main_v2)),
    Cert.Staged.readCov_eq (View.whole cc0_scratch0) (wide (V m c main_v2)),
    Cert.Staged.readCov_eq (View.whole cc0_scratch1) (V m c main_v3),
    Cert.Staged.readCov_eq (View.whole cc0_scratch1) (V m c main_v3)]
  rotate_left
  · exact ⟨fun _ => rfl, fun _ => rfl, fun _ => rfl, fun _ => rfl, trivial⟩
  · exact View.cover_of_tiledBy _ ![704, 1024] (by sl_kernel_rfl)
  · exact ⟨fun _ => rfl, fun _ => rfl, fun _ => rfl, fun _ => rfl, trivial⟩
  · exact View.cover_of_tiledBy _ ![704, 1024] (by sl_kernel_rfl)
  · exact ⟨piece_3 (V m c main_v2), piece_2 (V m c main_v2), piece_1 (V m c main_v2), piece_0 (V m c main_v2), trivial⟩
  · exact View.cover_of_tiledBy _ ![1024, 1408] (by sl_kernel_rfl)
  · exact ⟨piece_3 (V m c main_v2), piece_2 (V m c main_v2), piece_1 (V m c main_v2), piece_0 (V m c main_v2), trivial⟩
  · exact View.cover_of_tiledBy _ ![1024, 1408] (by sl_kernel_rfl)
  · exact ⟨piece_3 (V m c main_v2), piece_2 (V m c main_v2), piece_1 (V m c main_v2), piece_0 (V m c main_v2), trivial⟩
  · exact View.cover_of_tiledBy _ ![1024, 1408] (by sl_kernel_rfl)
  · exact ⟨piece_3 (V m c main_v2), piece_2 (V m c main_v2), piece_1 (V m c main_v2), piece_0 (V m c main_v2), trivial⟩
  · exact View.cover_of_tiledBy _ ![1024, 1408] (by sl_kernel_rfl)
  canon_tiles x h using (View.cover_of_tiledBy _ ![256, 256] (by sl_kernel_rfl) _)
  · exact (congrFun (same_49 (dl1v m c t)) x).trans ((congrArg (dl1v m c t) (ValueIdx.eq_ix2 x)).trans ((dl1_tile m c t (x 0) (i 0) (by omega) (x 1) (i 1) (by omega)).trans
      (congrArg (fDGU m c) (ValueIdx.eq_ix2 i).symm)))
  · exact (congrFun (same_48 (g1v m c t) (u1v m c t) (dhv m c t) (wD1 m c)) x).trans ((congrArg (dg1v m c t) (ValueIdx.eq_ix2 x)).trans ((dg1_tile m c t (x 0) (i 0) (by omega) (x 1) (i 1) (by omega)).trans
      (congrArg (fDGU m c) (ValueIdx.eq_ix2 i).symm)))
  · exact (congrFun (same_41 (k0_pay35 (g0v m c t)) (k0_pay36 (hv m c t) (fb m c t) (rv m c t) (tb m c t) (wD0 m c)) (k0_pay37 (g0v m c t))) x).trans ((congrArg (dl0v m c t) (ValueIdx.eq_ix2 x)).trans ((dl0_tile m c t (x 0) (i 0) (by omega) (x 1) (i 1) (by omega)).trans
      (congrArg (fDGU m c) (ValueIdx.eq_ix2 i).symm)))
  · exact (congrFun (same_40 (dg0v m c t)) x).trans ((congrArg (dg0v m c t) (ValueIdx.eq_ix2 x)).trans ((dg0_tile m c t (x 0) (i 0) (by omega) (x 1) (i 1) (by omega)).trans
      (congrArg (fDGU m c) (ValueIdx.eq_ix2 i).symm)))

/-- What a later point leaves there. -/
theorem after5_B (c : Dev nD) (t : Fin cfg0.N) (h0 : ¬ t.val % 8 = 0) (y : S256x5632.Idx) (i : S2048x5632.Idx)
    (p0 : (i 0).val = 256 * t.val + (y 0).val) (p1 : (i 1).val = (y 1).val) : (dats m 0 c).after 5 t y = DGU (a0 m c) (a1 m c) (a2 m c) (a3 m c) (a4 m c) (a5 m c) i := by
  rw [after0_5, outsAt0_B m c t h0 h0]
  frame_out
  simp only [read_unread_whole]
  rw [held m c]
  canon_tiles x h using (View.cover_of_tiledBy _ ![256, 256] (by sl_kernel_rfl) _)
  · exact (congrFun (same_49 (dl1v m c t)) x).trans ((congrArg (dl1v m c t) (ValueIdx.eq_ix2 x)).trans ((dl1_tile m c t (x 0) (i 0) (by omega) (x 1) (i 1) (by omega)).trans
      (congrArg (fDGU m c) (ValueIdx.eq_ix2 i).symm)))
  · exact (congrFun (same_48 (g1v m c t) (u1v m c t) (dhv m c t) (wD1 m c)) x).trans ((congrArg (dg1v m c t) (ValueIdx.eq_ix2 x)).trans ((dg1_tile m c t (x 0) (i 0) (by omega) (x 1) (i 1) (by omega)).trans
      (congrArg (fDGU m c) (ValueIdx.eq_ix2 i).symm)))
  · exact (congrFun (same_41 (k0_pay35 (g0v m c t)) (k0_pay36 (hv m c t) (fb m c t) (rv m c t) (tb m c t) (wD0 m c)) (k0_pay37 (g0v m c t))) x).trans ((congrArg (dl0v m c t) (ValueIdx.eq_ix2 x)).trans ((dl0_tile m c t (x 0) (i 0) (by omega) (x 1) (i 1) (by omega)).trans
      (congrArg (fDGU m c) (ValueIdx.eq_ix2 i).symm)))
  · exact (congrFun (same_40 (dg0v m c t)) x).trans ((congrArg (dg0v m c t) (ValueIdx.eq_ix2 x)).trans ((dg0_tile m c t (x 0) (i 0) (by omega) (x 1) (i 1) (by omega)).trans
      (congrArg (fDGU m c) (ValueIdx.eq_ix2 i).symm)))

/-- Where an element of a block of the gradient of gates and factors lies. -/
theorem place5 (t : Fin cfg0.N) (y : ((cfg0.win 5).xblock (cfg0.grid.coords t)).Idx) :
    ((((View.whole main_v4_1).slice (win0_5.rect t)).emb y) 0).val = 256 * t.val + (y 0).val
    ∧ ((((View.whole main_v4_1).slice (win0_5.rect t)).emb y) 1).val = (y 1).val := by
  refine ⟨?_, ?_⟩ <;> blk_simp [idx t] <;> omega

/-- The array of the gradient of gates and factors after the run. -/
theorem out5_eq (c : Dev nD) : (dats m 0 c).arrAt 5 cfg0.N = DGU (a0 m c) (a1 m c) (a2 m c) (a3 m c) (a4 m c) (a5 m c) := by
  refine (dats m 0 c).arrAt_eq_of_covers 5 _ (by decide +kernel) fun t hf y => ?_
  blk_simp
  obtain ⟨p0, p1⟩ := place5 t y
  by_cases h0 : t.val % 8 = 0
  · exact after5_A m c t h0 y _ p0 p1
  · exact after5_B m c t h0 y _ p0 p1

/-- What the first point leaves in the block of the normalised rows. -/
theorem after9_A (c : Dev nD) (t : Fin cfg0.N) (h0 : t.val % 8 = 0) (y : S256x1024.Idx) (i : S2048x1024.Idx)
    (p0 : (i 0).val = 256 * t.val + (y 0).val) (p1 : (i 1).val = (y 1).val) : (dats m 0 c).after 9 t y = Cert.Ffn1Ideal.Sum.GN (a0 m c) (a1 m c) i := by
  rw [after0_9, outsAt0_A m c t h0 h0]
  frame_out
  exact tile_at _ (Cert.Ffn1Ideal.Sum.GN (a0 m c) (a1 m c)) t.val (fun r p hp q => (congrFun (same_9 _ _) _).trans (n_tile m c t r p hp q)) y i p0 p1

/-- What a later point leaves there. -/
theorem after9_B (c : Dev nD) (t : Fin cfg0.N) (h0 : ¬ t.val % 8 = 0) (y : S256x1024.Idx) (i : S2048x1024.Idx)
    (p0 : (i 0).val = 256 * t.val + (y 0).val) (p1 : (i 1).val = (y 1).val) : (dats m 0 c).after 9 t y = Cert.Ffn1Ideal.Sum.GN (a0 m c) (a1 m c) i := by
  rw [after0_9, outsAt0_B m c t h0 h0]
  frame_out
  exact tile_at _ (Cert.Ffn1Ideal.Sum.GN (a0 m c) (a1 m c)) t.val (fun r p hp q => (congrFun (same_9 _ _) _).trans (n_tile m c t r p hp q)) y i p0 p1

/-- Where an element of a block of the normalised rows lies. -/
theorem place9 (t : Fin cfg0.N) (y : ((cfg0.win 9).xblock (cfg0.grid.coords t)).Idx) :
    ((((View.whole main_v4_5).slice (win0_9.rect t)).emb y) 0).val = 256 * t.val + (y 0).val
    ∧ ((((View.whole main_v4_5).slice (win0_9.rect t)).emb y) 1).val = (y 1).val := by
  refine ⟨?_, ?_⟩ <;> blk_simp [idx t] <;> omega

/-- The array of the normalised rows after the run. -/
theorem out9_eq (c : Dev nD) : (dats m 0 c).arrAt 9 cfg0.N = Cert.Ffn1Ideal.Sum.GN (a0 m c) (a1 m c) := by
  refine (dats m 0 c).arrAt_eq_of_covers 9 _ (by decide +kernel) fun t hf y => ?_
  blk_simp
  obtain ⟨p0, p1⟩ := place9 t y
  by_cases h0 : t.val % 8 = 0
  · exact after9_A m c t h0 y _ p0 p1
  · exact after9_B m c t h0 y _ p0 p1

/-- What the first point leaves in the block of the halved gated products. -/
theorem after10_A (c : Dev nD) (t : Fin cfg0.N) (h0 : t.val % 8 = 0) (y : S256x2816.Idx) (i : S2048x2816.Idx)
    (p0 : (i 0).val = 256 * t.val + (y 0).val) (p1 : (i 1).val = (y 1).val) : (dats m 0 c).after 10 t y = Cert.Ffn1Ideal.Sum.GA (a0 m c) (a1 m c) (a2 m c) i := by
  rw [after0_10, outsAt0_A m c t h0 h0]
  frame_out
  rw [Cert.Staged.readCov_eq (View.whole cc0_scratch0) (wide (V m c main_v2)),
    Cert.Staged.readCov_eq (View.whole cc0_scratch0) (wide (V m c main_v2)),
    Cert.Staged.readCov_eq (View.whole cc0_scratch0) (wide (V m c main_v2)),
    Cert.Staged.readCov_eq (View.whole cc0_scratch0) (wide (V m c main_v2))]
  rotate_left
  · exact ⟨piece_3 (V m c main_v2), piece_2 (V m c main_v2), piece_1 (V m c main_v2), piece_0 (V m c main_v2), trivial⟩
  · exact View.cover_of_tiledBy _ ![1024, 1408] (by sl_kernel_rfl)
  · exact ⟨piece_3 (V m c main_v2), piece_2 (V m c main_v2), piece_1 (V m c main_v2), piece_0 (V m c main_v2), trivial⟩
  · exact View.cover_of_tiledBy _ ![1024, 1408] (by sl_kernel_rfl)
  · exact ⟨piece_3 (V m c main_v2), piece_2 (V m c main_v2), piece_1 (V m c main_v2), piece_0 (V m c main_v2), trivial⟩
  · exact View.cover_of_tiledBy _ ![1024, 1408] (by sl_kernel_rfl)
  · exact ⟨piece_3 (V m c main_v2), piece_2 (V m c main_v2), piece_1 (V m c main_v2), piece_0 (V m c main_v2), trivial⟩
  · exact View.cover_of_tiledBy _ ![1024, 1408] (by sl_kernel_rfl)
  canon_tiles x h using (View.cover_of_tiledBy _ ![256, 256] (by sl_kernel_rfl) _)
  · exact (congrFun (same_24 (nv m c t) (wG1 m c) (wU1 m c)) x).trans ((congrArg (k0_pay23 (F := Ideal) (nv m c t) (wG1 m c) (wU1 m c)) (ValueIdx.eq_ix2 x)).trans ((a1_tile m c t (x 0) (i 0) (by omega) (x 1) (i 1) (by omega)).trans
      rfl))
  · exact (congrFun (same_18 (k0_pay15 (xb m c t) (gb m c t) (wG0 m c) (wU0 m c)) k0_pay16) x).trans ((congrArg (k0_pay17 (F := Ideal) (k0_pay15 (xb m c t) (gb m c t) (wG0 m c) (wU0 m c)) k0_pay16) (ValueIdx.eq_ix2 x)).trans ((a0_tile m c t (x 0) (i 0) (by omega) (x 1) (i 1) (by omega)).trans
      rfl))

/-- What a later point leaves there. -/
theorem after10_B (c : Dev nD) (t : Fin cfg0.N) (h0 : ¬ t.val % 8 = 0) (y : S256x2816.Idx) (i : S2048x2816.Idx)
    (p0 : (i 0).val = 256 * t.val + (y 0).val) (p1 : (i 1).val = (y 1).val) : (dats m 0 c).after 10 t y = Cert.Ffn1Ideal.Sum.GA (a0 m c) (a1 m c) (a2 m c) i := by
  rw [after0_10, outsAt0_B m c t h0 h0]
  frame_out
  simp only [read_unread_whole]
  rw [held m c]
  canon_tiles x h using (View.cover_of_tiledBy _ ![256, 256] (by sl_kernel_rfl) _)
  · exact (congrFun (same_24 (nv m c t) (wG1 m c) (wU1 m c)) x).trans ((congrArg (k0_pay23 (F := Ideal) (nv m c t) (wG1 m c) (wU1 m c)) (ValueIdx.eq_ix2 x)).trans ((a1_tile m c t (x 0) (i 0) (by omega) (x 1) (i 1) (by omega)).trans
      rfl))
  · exact (congrFun (same_18 (k0_pay15 (xb m c t) (gb m c t) (wG0 m c) (wU0 m c)) k0_pay16) x).trans ((congrArg (k0_pay17 (F := Ideal) (k0_pay15 (xb m c t) (gb m c t) (wG0 m c) (wU0 m c)) k0_pay16) (ValueIdx.eq_ix2 x)).trans ((a0_tile m c t (x 0) (i 0) (by omega) (x 1) (i 1) (by omega)).trans
      rfl))

/-- Where an element of a block of the halved gated products lies. -/
theorem place10 (t : Fin cfg0.N) (y : ((cfg0.win 10).xblock (cfg0.grid.coords t)).Idx) :
    ((((View.whole main_v4_6).slice (win0_10.rect t)).emb y) 0).val = 256 * t.val + (y 0).val
    ∧ ((((View.whole main_v4_6).slice (win0_10.rect t)).emb y) 1).val = (y 1).val := by
  refine ⟨?_, ?_⟩ <;> blk_simp [idx t] <;> omega

/-- The array of the halved gated products after the run. -/
theorem out10_eq (c : Dev nD) : (dats m 0 c).arrAt 10 cfg0.N = Cert.Ffn1Ideal.Sum.GA (a0 m c) (a1 m c) (a2 m c) := by
  refine (dats m 0 c).arrAt_eq_of_covers 10 _ (by decide +kernel) fun t hf y => ?_
  blk_simp
  obtain ⟨p0, p1⟩ := place10 t y
  by_cases h0 : t.val % 8 = 0
  · exact after10_A m c t h0 y _ p0 p1
  · exact after10_B m c t h0 y _ p0 p1

/-- What the first point leaves in the block of the gradient at the rows with the branch added. -/
theorem after11_A (c : Dev nD) (t : Fin cfg0.N) (h0 : t.val % 8 = 0) (y : S256x1024.Idx) (i : S2048x1024.Idx)
    (p0 : (i 0).val = 256 * t.val + (y 0).val) (p1 : (i 1).val = (y 1).val) : (dats m 0 c).after 11 t y = DHA (a0 m c) (a1 m c) (a2 m c) (a3 m c) (a4 m c) (a5 m c) i := by
  rw [after0_11, outsAt0_A m c t h0 h0]
  frame_out
  rw [Cert.Staged.readCov_eq (View.whole cc0_scratch0) (wide (V m c main_v2)),
    Cert.Staged.readCov_eq (View.whole cc0_scratch0) (wide (V m c main_v2)),
    Cert.Staged.readCov_eq (View.whole cc0_scratch0) (wide (V m c main_v2)),
    Cert.Staged.readCov_eq (View.whole cc0_scratch0) (wide (V m c main_v2)),
    Cert.Staged.readCov_eq (View.whole cc0_scratch1) (V m c main_v3),
    Cert.Staged.readCov_eq (View.whole cc0_scratch1) (V m c main_v3)]
  rotate_left
  · exact ⟨fun _ => rfl, fun _ => rfl, fun _ => rfl, fun _ => rfl, trivial⟩
  · exact View.cover_of_tiledBy _ ![704, 1024] (by sl_kernel_rfl)
  · exact ⟨fun _ => rfl, fun _ => rfl, fun _ => rfl, fun _ => rfl, trivial⟩
  · exact View.cover_of_tiledBy _ ![704, 1024] (by sl_kernel_rfl)
  · exact ⟨piece_3 (V m c main_v2), piece_2 (V m c main_v2), piece_1 (V m c main_v2), piece_0 (V m c main_v2), trivial⟩
  · exact View.cover_of_tiledBy _ ![1024, 1408] (by sl_kernel_rfl)
  · exact ⟨piece_3 (V m c main_v2), piece_2 (V m c main_v2), piece_1 (V m c main_v2), piece_0 (V m c main_v2), trivial⟩
  · exact View.cover_of_tiledBy _ ![1024, 1408] (by sl_kernel_rfl)
  · exact ⟨piece_3 (V m c main_v2), piece_2 (V m c main_v2), piece_1 (V m c main_v2), piece_0 (V m c main_v2), trivial⟩
  · exact View.cover_of_tiledBy _ ![1024, 1408] (by sl_kernel_rfl)
  · exact ⟨piece_3 (V m c main_v2), piece_2 (V m c main_v2), piece_1 (V m c main_v2), piece_0 (V m c main_v2), trivial⟩
  · exact View.cover_of_tiledBy _ ![1024, 1408] (by sl_kernel_rfl)
  exact tile_at _ (DHA (a0 m c) (a1 m c) (a2 m c) (a3 m c) (a4 m c) (a5 m c)) t.val (fun r p hp q => (congrFun (same_33 _ _ _ _) _).trans (dh_tile m c t r p hp q)) y i p0 p1

/-- What a later point leaves there. -/
theorem after11_B (c : Dev nD) (t : Fin cfg0.N) (h0 : ¬ t.val % 8 = 0) (y : S256x1024.Idx) (i : S2048x1024.Idx)
    (p0 : (i 0).val = 256 * t.val + (y 0).val) (p1 : (i 1).val = (y 1).val) : (dats m 0 c).after 11 t y = DHA (a0 m c) (a1 m c) (a2 m c) (a3 m c) (a4 m c) (a5 m c) i := by
  rw [after0_11, outsAt0_B m c t h0 h0]
  frame_out
  simp only [read_unread_whole]
  rw [held m c]
  exact tile_at _ (DHA (a0 m c) (a1 m c) (a2 m c) (a3 m c) (a4 m c) (a5 m c)) t.val (fun r p hp q => (congrFun (same_33 _ _ _ _) _).trans (dh_tile m c t r p hp q)) y i p0 p1

/-- Where an element of a block of the gradient at the rows with the branch added lies. -/
theorem place11 (t : Fin cfg0.N) (y : ((cfg0.win 11).xblock (cfg0.grid.coords t)).Idx) :
    ((((View.whole main_v4_7).slice (win0_11.rect t)).emb y) 0).val = 256 * t.val + (y 0).val
    ∧ ((((View.whole main_v4_7).slice (win0_11.rect t)).emb y) 1).val = (y 1).val := by
  refine ⟨?_, ?_⟩ <;> blk_simp [idx t] <;> omega

/-- The array of the gradient at the rows with the branch added after the run. -/
theorem out11_eq (c : Dev nD) : (dats m 0 c).arrAt 11 cfg0.N = DHA (a0 m c) (a1 m c) (a2 m c) (a3 m c) (a4 m c) (a5 m c) := by
  refine (dats m 0 c).arrAt_eq_of_covers 11 _ (by decide +kernel) fun t hf y => ?_
  blk_simp
  obtain ⟨p0, p1⟩ := place11 t y
  by_cases h0 : t.val % 8 = 0
  · exact after11_A m c t h0 y _ p0 p1
  · exact after11_B m c t h0 y _ p0 p1

/-- After each point the accumulator holds the first gain's gradient of the rows so far. -/
theorem acc6_eq (c : Dev nD) : ∀ (n : ℕ) (h : n < cfg0.N), (outsAt0 m c n h).2.2.1 = accG m c (256 * (n + 1))
  | 0, h => by
      show (outsAt0 m c (⟨0, h⟩ : Fin cfg0.N).val (⟨0, h⟩ : Fin cfg0.N).isLt).2.2.1 = _
      rw [outsAt0_A m c ⟨0, h⟩ rfl rfl]
      funext y
      frame_out
      rw [Cert.Staged.readCov_eq (View.whole cc0_scratch0) (wide (V m c main_v2)),
        Cert.Staged.readCov_eq (View.whole cc0_scratch0) (wide (V m c main_v2)),
        Cert.Staged.readCov_eq (View.whole cc0_scratch0) (wide (V m c main_v2)),
        Cert.Staged.readCov_eq (View.whole cc0_scratch0) (wide (V m c main_v2)),
        Cert.Staged.readCov_eq (View.whole cc0_scratch1) (V m c main_v3),
        Cert.Staged.readCov_eq (View.whole cc0_scratch1) (V m c main_v3)]
      rotate_left
      · exact ⟨fun _ => rfl, fun _ => rfl, fun _ => rfl, fun _ => rfl, trivial⟩
      · exact View.cover_of_tiledBy _ ![704, 1024] (by sl_kernel_rfl)
      · exact ⟨fun _ => rfl, fun _ => rfl, fun _ => rfl, fun _ => rfl, trivial⟩
      · exact View.cover_of_tiledBy _ ![704, 1024] (by sl_kernel_rfl)
      · exact ⟨piece_3 (V m c main_v2), piece_2 (V m c main_v2), piece_1 (V m c main_v2), piece_0 (V m c main_v2), trivial⟩
      · exact View.cover_of_tiledBy _ ![1024, 1408] (by sl_kernel_rfl)
      · exact ⟨piece_3 (V m c main_v2), piece_2 (V m c main_v2), piece_1 (V m c main_v2), piece_0 (V m c main_v2), trivial⟩
      · exact View.cover_of_tiledBy _ ![1024, 1408] (by sl_kernel_rfl)
      · exact ⟨piece_3 (V m c main_v2), piece_2 (V m c main_v2), piece_1 (V m c main_v2), piece_0 (V m c main_v2), trivial⟩
      · exact View.cover_of_tiledBy _ ![1024, 1408] (by sl_kernel_rfl)
      · exact ⟨piece_3 (V m c main_v2), piece_2 (V m c main_v2), piece_1 (V m c main_v2), piece_0 (V m c main_v2), trivial⟩
      · exact View.cover_of_tiledBy _ ![1024, 1408] (by sl_kernel_rfl)
      refine dgain_tile m c ⟨0, h⟩ _ (fun i => (pay_zero3 i).trans ?_) y
      exact (firstRows_zero _).symm
  | n + 1, h => by
      have hN : n + 1 < 8 := h
      show (outsAt0 m c (⟨n + 1, h⟩ : Fin cfg0.N).val (⟨n + 1, h⟩ : Fin cfg0.N).isLt).2.2.1 = _
      rw [outsAt0_B m c ⟨n + 1, h⟩ (by show ¬ (n + 1) % 8 = 0; omega) (by show ¬ (n + 1) % 8 = 0; omega)]
      funext y
      frame_out
      simp only [read_unread_whole]
      rw [held m c]
      exact dgain_tile m c ⟨n + 1, h⟩ _ (fun i => congrFun (acc6_eq c n (Nat.lt_of_succ_lt h)) i) y

/-- The accumulator is written back after the last point alone. -/
theorem flush6 : ∀ t : Fin cfg0.N, (cfg0.win 6).flush t = decide (t.val = 7) :=
  (by decide +kernel : ∀ t : Fin grid0.N, (cfg0.win 6).flush t = decide (t.val = 7))

/-- Where an element of the accumulator lies. -/
theorem place6 (t : Fin cfg0.N) (y : ((cfg0.win 6).xblock (cfg0.grid.coords t)).Idx) :
    ((((View.whole main_v4_2).slice (win0_6.rect t)).emb y) 0).val = (y 0).val
    ∧ ((((View.whole main_v4_2).slice (win0_6.rect t)).emb y) 1).val = (y 1).val := by
  refine ⟨?_, ?_⟩ <;> blk_simp [idx t] <;> omega

/-- The array of the first gain's gradient after the run. -/
theorem out6_eq (c : Dev nD) : (dats m 0 c).arrAt 6 cfg0.N = DGAIN (a0 m c) (a1 m c) (a2 m c) (a3 m c) (a4 m c) (a5 m c) := by
  refine (dats m 0 c).arrAt_eq_of_covers 6 _ (by decide +kernel) fun t hf y => ?_
  have ht : t.val = 7 := of_decide_eq_true ((flush6 t).symm.trans hf)
  blk_simp
  obtain ⟨p0, p1⟩ := place6 t y
  generalize ((View.whole main_v4_2).slice (win0_6.rect t)).emb y = i at p0 p1
  rw [after0_6]
  refine (congrFun (acc6_eq m c t.val t.isLt) y).trans ?_
  unfold accG DGAIN
  rw [ht, firstRows_all, show i 1 = y 1 from Fin.ext p1]

/-- After each point the accumulator holds the loss of the rows so far. -/
theorem acc7_eq (c : Dev nD) : ∀ (n : ℕ) (h : n < cfg0.N), (outsAt0 m c n h).2.2.2.1 = accL m c (256 * (n + 1))
  | 0, h => by
      show (outsAt0 m c (⟨0, h⟩ : Fin cfg0.N).val (⟨0, h⟩ : Fin cfg0.N).isLt).2.2.2.1 = _
      rw [outsAt0_A m c ⟨0, h⟩ rfl rfl]
      funext y
      frame_out
      rw [Cert.Staged.readCov_eq (View.whole cc0_scratch0) (wide (V m c main_v2)),
        Cert.Staged.readCov_eq (View.whole cc0_scratch0) (wide (V m c main_v2)),
        Cert.Staged.readCov_eq (View.whole cc0_scratch0) (wide (V m c main_v2)),
        Cert.Staged.readCov_eq (View.whole cc0_scratch0) (wide (V m c main_v2)),
        Cert.Staged.readCov_eq (View.whole cc0_scratch1) (V m c main_v3),
        Cert.Staged.readCov_eq (View.whole cc0_scratch1) (V m c main_v3)]
      rotate_left
      · exact ⟨fun _ => rfl, fun _ => rfl, fun _ => rfl, fun _ => rfl, trivial⟩
      · exact View.cover_of_tiledBy _ ![704, 1024] (by sl_kernel_rfl)
      · exact ⟨fun _ => rfl, fun _ => rfl, fun _ => rfl, fun _ => rfl, trivial⟩
      · exact View.cover_of_tiledBy _ ![704, 1024] (by sl_kernel_rfl)
      · exact ⟨piece_3 (V m c main_v2), piece_2 (V m c main_v2), piece_1 (V m c main_v2), piece_0 (V m c main_v2), trivial⟩
      · exact View.cover_of_tiledBy _ ![1024, 1408] (by sl_kernel_rfl)
      · exact ⟨piece_3 (V m c main_v2), piece_2 (V m c main_v2), piece_1 (V m c main_v2), piece_0 (V m c main_v2), trivial⟩
      · exact View.cover_of_tiledBy _ ![1024, 1408] (by sl_kernel_rfl)
      · exact ⟨piece_3 (V m c main_v2), piece_2 (V m c main_v2), piece_1 (V m c main_v2), piece_0 (V m c main_v2), trivial⟩
      · exact View.cover_of_tiledBy _ ![1024, 1408] (by sl_kernel_rfl)
      · exact ⟨piece_3 (V m c main_v2), piece_2 (V m c main_v2), piece_1 (V m c main_v2), piece_0 (V m c main_v2), trivial⟩
      · exact View.cover_of_tiledBy _ ![1024, 1408] (by sl_kernel_rfl)
      refine loss_tile m c ⟨0, h⟩ _ (fun i => (pay_zero5 i).trans ?_) y
      exact (firstRows_zero _).symm
  | n + 1, h => by
      have hN : n + 1 < 8 := h
      show (outsAt0 m c (⟨n + 1, h⟩ : Fin cfg0.N).val (⟨n + 1, h⟩ : Fin cfg0.N).isLt).2.2.2.1 = _
      rw [outsAt0_B m c ⟨n + 1, h⟩ (by show ¬ (n + 1) % 8 = 0; omega) (by show ¬ (n + 1) % 8 = 0; omega)]
      funext y
      frame_out
      simp only [read_unread_whole]
      rw [held m c]
      exact loss_tile m c ⟨n + 1, h⟩ _ (fun i => congrFun (acc7_eq c n (Nat.lt_of_succ_lt h)) i) y

/-- The accumulator is written back after the last point alone. -/
theorem flush7 : ∀ t : Fin cfg0.N, (cfg0.win 7).flush t = decide (t.val = 7) :=
  (by decide +kernel : ∀ t : Fin grid0.N, (cfg0.win 7).flush t = decide (t.val = 7))

/-- Where an element of the accumulator lies. -/
theorem place7 (t : Fin cfg0.N) (y : ((cfg0.win 7).xblock (cfg0.grid.coords t)).Idx) :
    ((((View.whole main_v4_3).slice (win0_7.rect t)).emb y) 0).val = (y 0).val
    ∧ ((((View.whole main_v4_3).slice (win0_7.rect t)).emb y) 1).val = (y 1).val := by
  refine ⟨?_, ?_⟩ <;> blk_simp [idx t] <;> omega

/-- The array of the loss after the run. -/
theorem out7_eq (c : Dev nD) : (dats m 0 c).arrAt 7 cfg0.N = LOSS (a0 m c) (a1 m c) (a2 m c) (a3 m c) (a4 m c) (a5 m c) := by
  refine (dats m 0 c).arrAt_eq_of_covers 7 _ (by decide +kernel) fun t hf y => ?_
  have ht : t.val = 7 := of_decide_eq_true ((flush7 t).symm.trans hf)
  blk_simp
  obtain ⟨p0, p1⟩ := place7 t y
  generalize ((View.whole main_v4_3).slice (win0_7.rect t)).emb y = i at p0 p1
  rw [after0_7]
  refine (congrFun (acc7_eq m c t.val t.isLt) y).trans ?_
  unfold accL LOSS
  rw [ht, firstRows_all]

/-- After each point the accumulator holds the last gain's gradient of the rows so far. -/
theorem acc8_eq (c : Dev nD) : ∀ (n : ℕ) (h : n < cfg0.N), (outsAt0 m c n h).2.2.2.2.1 = accF m c (256 * (n + 1))
  | 0, h => by
      show (outsAt0 m c (⟨0, h⟩ : Fin cfg0.N).val (⟨0, h⟩ : Fin cfg0.N).isLt).2.2.2.2.1 = _
      rw [outsAt0_A m c ⟨0, h⟩ rfl rfl]
      funext y
      frame_out
      rw [Cert.Staged.readCov_eq (View.whole cc0_scratch0) (wide (V m c main_v2)),
        Cert.Staged.readCov_eq (View.whole cc0_scratch0) (wide (V m c main_v2)),
        Cert.Staged.readCov_eq (View.whole cc0_scratch0) (wide (V m c main_v2)),
        Cert.Staged.readCov_eq (View.whole cc0_scratch0) (wide (V m c main_v2)),
        Cert.Staged.readCov_eq (View.whole cc0_scratch1) (V m c main_v3),
        Cert.Staged.readCov_eq (View.whole cc0_scratch1) (V m c main_v3)]
      rotate_left
      · exact ⟨fun _ => rfl, fun _ => rfl, fun _ => rfl, fun _ => rfl, trivial⟩
      · exact View.cover_of_tiledBy _ ![704, 1024] (by sl_kernel_rfl)
      · exact ⟨fun _ => rfl, fun _ => rfl, fun _ => rfl, fun _ => rfl, trivial⟩
      · exact View.cover_of_tiledBy _ ![704, 1024] (by sl_kernel_rfl)
      · exact ⟨piece_3 (V m c main_v2), piece_2 (V m c main_v2), piece_1 (V m c main_v2), piece_0 (V m c main_v2), trivial⟩
      · exact View.cover_of_tiledBy _ ![1024, 1408] (by sl_kernel_rfl)
      · exact ⟨piece_3 (V m c main_v2), piece_2 (V m c main_v2), piece_1 (V m c main_v2), piece_0 (V m c main_v2), trivial⟩
      · exact View.cover_of_tiledBy _ ![1024, 1408] (by sl_kernel_rfl)
      · exact ⟨piece_3 (V m c main_v2), piece_2 (V m c main_v2), piece_1 (V m c main_v2), piece_0 (V m c main_v2), trivial⟩
      · exact View.cover_of_tiledBy _ ![1024, 1408] (by sl_kernel_rfl)
      · exact ⟨piece_3 (V m c main_v2), piece_2 (V m c main_v2), piece_1 (V m c main_v2), piece_0 (V m c main_v2), trivial⟩
      · exact View.cover_of_tiledBy _ ![1024, 1408] (by sl_kernel_rfl)
      refine df_tile m c ⟨0, h⟩ _ (fun i => (pay_zero4 i).trans ?_) y
      exact (firstRows_zero _).symm
  | n + 1, h => by
      have hN : n + 1 < 8 := h
      show (outsAt0 m c (⟨n + 1, h⟩ : Fin cfg0.N).val (⟨n + 1, h⟩ : Fin cfg0.N).isLt).2.2.2.2.1 = _
      rw [outsAt0_B m c ⟨n + 1, h⟩ (by show ¬ (n + 1) % 8 = 0; omega) (by show ¬ (n + 1) % 8 = 0; omega)]
      funext y
      frame_out
      simp only [read_unread_whole]
      rw [held m c]
      exact df_tile m c ⟨n + 1, h⟩ _ (fun i => congrFun (acc8_eq c n (Nat.lt_of_succ_lt h)) i) y

/-- The accumulator is written back after the last point alone. -/
theorem flush8 : ∀ t : Fin cfg0.N, (cfg0.win 8).flush t = decide (t.val = 7) :=
  (by decide +kernel : ∀ t : Fin grid0.N, (cfg0.win 8).flush t = decide (t.val = 7))

/-- Where an element of the accumulator lies. -/
theorem place8 (t : Fin cfg0.N) (y : ((cfg0.win 8).xblock (cfg0.grid.coords t)).Idx) :
    ((((View.whole main_v4_4).slice (win0_8.rect t)).emb y) 0).val = (y 0).val
    ∧ ((((View.whole main_v4_4).slice (win0_8.rect t)).emb y) 1).val = (y 1).val := by
  refine ⟨?_, ?_⟩ <;> blk_simp [idx t] <;> omega

/-- The array of the last gain's gradient after the run. -/
theorem out8_eq (c : Dev nD) : (dats m 0 c).arrAt 8 cfg0.N = DLAST (a0 m c) (a1 m c) (a2 m c) (a3 m c) (a4 m c) (a5 m c) := by
  refine (dats m 0 c).arrAt_eq_of_covers 8 _ (by decide +kernel) fun t hf y => ?_
  have ht : t.val = 7 := of_decide_eq_true ((flush8 t).symm.trans hf)
  blk_simp
  obtain ⟨p0, p1⟩ := place8 t y
  generalize ((View.whole main_v4_4).slice (win0_8.rect t)).emb y = i at p0 p1
  rw [after0_8]
  refine (congrFun (acc8_eq m c t.val t.isLt) y).trans ?_
  unfold accF DLAST
  rw [ht, firstRows_all, show i 1 = y 1 from Fin.ext p1]

end Cert.LastIdeal.Sum

end
-- ==== Proof.Last.lean ====
module

public import proofs.«01_k».proof.Defs
public import proofs.«01_k».proof.Proof.Gen.Last
public import proofs.«01_k».proof.Proof.Gen.Last.Frame
public import proofs.«01_k».proof.Proof.Gen.LastRefIdeal
public import proofs.«01_k».proof.Proof.Gen.LastRefIdeal.Run
public import proofs.«01_k».proof.Proof.Gen.LastRefIdeal.Read
public import proofs.«01_k».proof.Proof.Gen.Pre_finite6
public import proofs.«01_k».proof.Proof.Finite
public import proofs.«01_k».proof.Proof.LastValue
public import Idealize.ShloMosaic.Lib.ValueLayout
public import Idealize.ShloMosaic.Lib.Quiescent

@[expose] public section

set_option maxRecDepth 16384

noncomputable section

open Idealize.ShloMosaic Idealize.ShloMosaic.TcCoe Idealize.SL.Sem

namespace Cert.Proof.Last

open Cert.LastRefIdeal Cert.LastRefIdeal.Facts Cert.LastRefIdeal.Gen Cert.LastRefIdeal.Read Cert.Gated Cert.Norm
open Cert.LastIdeal.Sum (ERR EP DH DHA GUA DGU DN DX DG DF LS DGAIN DLAST LOSS)
open Cert.Ffn1Ideal.Sum (nrm act N GU A H GN GA)
open Cert.In1Ideal.Sum (row gain)
open Cert.Act1Ideal.Sum (gate lin da G_gate G_lin)
open Cert.Proof.In1 (eq_ix2')

section

variable (x0 : S2048x1024.Idx → EReal) (x1 : S1x1024.Idx → EReal) (x2 : S1024x5632.Idx → EReal) (x3 : S2816x1024.Idx → EReal)
  (x4 : S2048x1024.Idx → EReal) (x5 : S1x1024.Idx → EReal)

/-- The mean of the squares of the rows, plus the small number. -/
theorem xms_apply (i : S2048x1.Idx) (p : Fin 2048) (hp : (i 0).val = p.val) : val_main_v6 (F := Ideal) x0 i = ms (row x0 p) := by
  rw [val_main_v6_apply, val_main_v4_apply, val_main_v2_apply, val_main_v1_apply, val_main_v3_apply, val_main_v5_apply, val_main_cst_apply,
    val_main_cst_0_apply, val_main_cst_1_apply]
  show Ideal.div (Ideal.ofBits .f32 0x00000000#32 + _) wid + eps = _
  rw [Ideal.ofBits_zero_f32, zero_add]
  unfold ms
  refine congrArg (Ideal.div · wid + eps) (Finset.sum_congr rfl fun k _ => ?_)
  rw [val_main_v0_apply, eq_ix2' (idx_main_v1 (idx_main_v2 i) k) p k hp rfl]
  rfl

/-- The inverse root of that. -/
theorem xrr_apply (i : S2048x1.Idx) (p : Fin 2048) (hp : (i 0).val = p.val) : val_main_v7 (F := Ideal) x0 i = rr (row x0 p) := by
  rw [val_main_v7_apply, xms_apply x0 i p hp]
  rfl

/-- The factor of the gradient through that mean. -/
theorem xfac_apply (i : S2048x1.Idx) (p : Fin 2048) (hp : (i 0).val = p.val) :
    val_main_v10 (F := Ideal) x0 i = mhalf * Ideal.div (rr (row x0 p)) (ms (row x0 p)) := by
  rw [val_main_v10_apply, val_main_v9_apply, val_main_cst_2_apply, val_main_v8_apply, xrr_apply x0 i p hp, xms_apply x0 i p hp]
  rfl

/-- The rows by their inverse root mean squares. -/
theorem xr_apply (i : S2048x1024.Idx) (p : Fin 2048) (q : Fin 1024) (hp : (i 0).val = p.val) (hq : (i 1).val = q.val) : val_main_v12 (F := Ideal) x0 i = x0 (ix2 p q) * rr (row x0 p) := by
  rw [val_main_v12_apply, val_main_v11_apply, xrr_apply x0 _ p hp, eq_ix2' i p q hp hq]
  rfl

/-- The normalised rows. -/
theorem n_apply (i : S2048x1024.Idx) (p : Fin 2048) (q : Fin 1024) (hp : (i 0).val = p.val) (hq : (i 1).val = q.val) : val_main_v14 (F := Ideal) x0 x1 i = N x0 x1 p q := by
  rw [val_main_v14_apply, xr_apply x0 i p q hp hq, val_main_v13_apply, eq_ix2' (idx_main_v13 i) (0 : Fin 1) q rfl hq]
  rfl

/-- Gates and factors. -/
theorem gu_apply (i : S2048x5632.Idx) (p : Fin 2048) (j : Fin 5632) (hp : (i 0).val = p.val) (hj : (i 1).val = j.val) :
    val_main_v15 (F := Ideal) x0 x1 x2 i = GU x0 x1 x2 p j := by
  rw [val_main_v15_apply]
  unfold GU
  refine Finset.sum_congr rfl fun k _ => ?_
  rw [n_apply x0 x1 _ p k hp rfl, eq_ix2' (ridx_main_v15 i k) k j rfl hj]

section

variable (i : S2048x2816.Idx) (p : Fin 2048) (n : Fin 2816) (hp : (i 0).val = p.val) (hn : (i 1).val = n.val)
include hp hn

theorem g_apply : val_main_v16 (F := Ideal) x0 x1 x2 i = GU x0 x1 x2 p (⟨n.val, by omega⟩ : Fin 5632) := by
  rw [val_main_v16_apply, gu_apply x0 x1 x2 _ p (⟨n.val, by omega⟩ : Fin 5632) hp hn]

theorem u_apply : val_main_v17 (F := Ideal) x0 x1 x2 i = GU x0 x1 x2 p (⟨2816 + n.val, by omega⟩ : Fin 5632) := by
  rw [val_main_v17_apply, gu_apply x0 x1 x2 _ p (⟨2816 + n.val, by omega⟩ : Fin 5632) hp (congrArg (2816 + ·) hn)]

theorem sig_apply : val_main_v18_2 (F := Ideal) x0 x1 x2 i = Ideal.logistic (GU x0 x1 x2 p (⟨n.val, by omega⟩ : Fin 5632)) := by
  rw [val_main_v18_2_apply, val_main_call0_v4_apply, val_main_call0_v3_apply, val_main_call0_v2_apply, val_main_call0_v1_apply,
    val_main_call0_v0_apply, g_apply x0 x1 x2 i p n hp hn]
  exact logistic_eq _

theorem act_apply : half * val_main_v19 (F := Ideal) x0 x1 x2 i = A x0 x1 x2 p n := by
  rw [val_main_v19_apply, val_main_v18_0_apply, sig_apply x0 x1 x2 i p n hp hn, g_apply x0 x1 x2 i p n hp hn, u_apply x0 x1 x2 i p n hp hn]
  rfl

end

/-- The rows with the branch added. -/
theorem h_apply (i : S2048x1024.Idx) (p : Fin 2048) (q : Fin 1024) (hp : (i 0).val = p.val) (hq : (i 1).val = q.val) : val_main_v23 (F := Ideal) x0 x1 x2 x3 i = H x0 x1 x2 x3 p q := by
  rw [val_main_v23_apply, val_main_v22_apply, val_main_v21_apply, val_main_cst_3_apply, val_main_v20_apply, eq_ix2' i p q hp hq]
  unfold H
  refine congrArg (x0 (ix2 p q) + ·) ?_
  show half * _ = _
  rw [half_mul_sum]
  refine Finset.sum_congr rfl fun k _ => ?_
  rw [← mul_assoc, act_apply x0 x1 x2 _ p k rfl rfl, eq_ix2' (ridx_main_v20 (ix2 p q) k) k q rfl rfl]

/-- The mean of the squares of those rows, plus the small number. -/
theorem hms_apply (i : S2048x1.Idx) (p : Fin 2048) (hp : (i 0).val = p.val) : val_main_v30 (F := Ideal) x0 x1 x2 x3 i = ms (H x0 x1 x2 x3 p) := by
  rw [val_main_v30_apply, val_main_v28_apply, val_main_v26_apply, val_main_v25_apply, val_main_v27_apply, val_main_v29_apply, val_main_cst_4_apply,
    val_main_cst_5_apply, val_main_cst_6_apply]
  show Ideal.div (Ideal.ofBits .f32 0x00000000#32 + _) wid + eps = _
  rw [Ideal.ofBits_zero_f32, zero_add]
  unfold ms
  refine congrArg (Ideal.div · wid + eps) (Finset.sum_congr rfl fun k _ => ?_)
  rw [val_main_v24_apply, h_apply x0 x1 x2 x3 _ p k hp rfl]
  rfl

/-- The inverse root of that. -/
theorem hrr_apply (i : S2048x1.Idx) (p : Fin 2048) (hp : (i 0).val = p.val) : val_main_v31 (F := Ideal) x0 x1 x2 x3 i = rr (H x0 x1 x2 x3 p) := by
  rw [val_main_v31_apply, hms_apply x0 x1 x2 x3 i p hp]
  rfl

/-- The factor of the gradient through that mean. -/
theorem hfac_apply (i : S2048x1.Idx) (p : Fin 2048) (hp : (i 0).val = p.val) :
    val_main_v34 (F := Ideal) x0 x1 x2 x3 i = mhalf * Ideal.div (rr (H x0 x1 x2 x3 p)) (ms (H x0 x1 x2 x3 p)) := by
  rw [val_main_v34_apply, val_main_v33_apply, val_main_cst_7_apply, val_main_v32_apply, hrr_apply x0 x1 x2 x3 i p hp, hms_apply x0 x1 x2 x3 i p hp]
  rfl

/-- Those rows by their inverse root mean squares. -/
theorem hr_apply (i : S2048x1024.Idx) (p : Fin 2048) (q : Fin 1024) (hp : (i 0).val = p.val) (hq : (i 1).val = q.val) :
    val_main_v36 (F := Ideal) x0 x1 x2 x3 i = H x0 x1 x2 x3 p q * rr (H x0 x1 x2 x3 p) := by
  rw [val_main_v36_apply, val_main_v35_apply, hrr_apply x0 x1 x2 x3 _ p hp, h_apply x0 x1 x2 x3 i p q hp hq]
  rfl

/-- The error. -/
theorem err_apply (i : S2048x1024.Idx) (p : Fin 2048) (q : Fin 1024) (hp : (i 0).val = p.val) (hq : (i 1).val = q.val) : val_main_v39 (F := Ideal) x0 x1 x2 x3 x4 x5 i = ERR x0 x1 x2 x3 x4 x5 p q := by
  rw [val_main_v39_apply, val_main_v38_apply, hr_apply x0 x1 x2 x3 i p q hp hq, val_main_v37_apply, eq_ix2' (idx_main_v37 i) (0 : Fin 1) q rfl hq,
    eq_ix2' i p q hp hq]
  rfl

/-- The loss's gradient at the last norm. -/
theorem ep_apply (i : S2048x1024.Idx) (p : Fin 2048) (q : Fin 1024) (hp : (i 0).val = p.val) (hq : (i 1).val = q.val) : val_main_v53 (F := Ideal) x0 x1 x2 x3 x4 x5 i = EP x0 x1 x2 x3 x4 x5 p q := by
  rw [val_main_v53_apply, val_main_v52_apply, val_main_v51_apply, val_main_v50_apply, val_main_v49_apply, val_main_v48_apply, val_main_cst_13_apply,
    val_main_cst_14_apply, val_main_cst_15_apply, val_main_v42_apply, val_main_v41_apply, val_main_cst_8_apply, err_apply x0 x1 x2 x3 x4 x5 i p q hp hq]
  exact scale_err _

/-- That gradient times the last gain. -/
theorem epg_apply (i : S2048x1024.Idx) (p : Fin 2048) (q : Fin 1024) (hp : (i 0).val = p.val) (hq : (i 1).val = q.val) : val_main_v58 (F := Ideal) x0 x1 x2 x3 x4 x5 i = EP x0 x1 x2 x3 x4 x5 p q * gain x5 q := by
  rw [val_main_v58_apply, val_main_v57_apply, ep_apply x0 x1 x2 x3 x4 x5 i p q hp hq, eq_ix2' (idx_main_v57 i) (0 : Fin 1) q rfl hq]
  rfl

/-- What reaches a row through the mean of its squares. -/
theorem hthrough_apply (i : S2048x1.Idx) (p : Fin 2048) (hp : (i 0).val = p.val) :
    val_main_v66 (F := Ideal) x0 x1 x2 x3 x4 x5 i = through (H x0 x1 x2 x3 p) (gain x5) (EP x0 x1 x2 x3 x4 x5 p) := by
  rw [val_main_v66_apply, val_main_v65_apply, val_main_cst_18_apply, val_main_v64_apply, hfac_apply x0 x1 x2 x3 i p hp, val_main_v61_apply,
    val_main_v60_apply, val_main_cst_17_apply]
  show Ideal.div ((Ideal.ofBits .f32 0x00000000#32 + _) * _) wid = _
  rw [Ideal.ofBits_zero_f32, zero_add]
  unfold through
  refine congrArg (fun s => Ideal.div (s * _) wid) (Finset.sum_congr rfl fun k _ => ?_)
  have h1 : (i 1).val < 1 := (i 1).isLt
  have e : ((idx_main_v60 (idx_main_v61 i) k) 0).val = p.val := by
    show (i 0).val * 1 + (i 1).val = p.val
    omega
  rw [val_main_v59_apply, epg_apply x0 x1 x2 x3 x4 x5 _ p k e rfl, h_apply x0 x1 x2 x3 _ p k e rfl]
  rfl

/-- The same, spread over the row. -/
theorem hspread_apply (i : S2048x1024.Idx) (p : Fin 2048) (hp : (i 0).val = p.val) :
    val_main_v68 (F := Ideal) x0 x1 x2 x3 x4 x5 i = through (H x0 x1 x2 x3 p) (gain x5) (EP x0 x1 x2 x3 x4 x5 p) := by
  rw [val_main_v68_apply, val_main_v67_apply, val_main_cst_19_apply, Fin.sum_univ_one, hthrough_apply x0 x1 x2 x3 x4 x5 _ p hp]
  exact (congrArg (· + _) Ideal.ofBits_zero_f32).trans (zero_add _)

/-- The reference's gradient of the last gain is the kernel's function. -/
theorem ref_dlast : val_main_v56 (F := Ideal) x0 x1 x2 x3 x4 x5 = DLAST x0 x1 x2 x3 x4 x5 := by
  funext i
  unfold DLAST
  rw [val_main_v56_apply, val_main_v55_apply, val_main_cst_16_apply]
  refine (congrArg (· + _) Ideal.ofBits_zero_f32).trans ((zero_add _).trans (Finset.sum_congr rfl fun p _ => ?_))
  have hi : (i 0).val < 1 := (i 0).isLt
  have e : ((idx_main_v55 (idx_main_v56 i) p) 1).val = (i 1).val := by
    show (i 0).val * 1024 + (i 1).val = (i 1).val
    omega
  rw [val_main_v54_apply, hr_apply x0 x1 x2 x3 _ p (i 1) rfl e, ep_apply x0 x1 x2 x3 x4 x5 _ p (i 1) rfl e]
  exact mul_comm _ _

/-- The loss's row sums. -/
theorem sq_apply (i : S2048.Idx) (p : Fin 2048) (hp : (i 0).val = p.val) :
    half * val_main_v45 (F := Ideal) x0 x1 x2 x3 x4 x5 i = LS x0 x1 x2 x3 x4 x5 p := by
  rw [val_main_v45_apply, val_main_v44_apply, val_main_cst_10_apply, val_main_v43_apply, val_main_cst_9_apply]
  show half * Ideal.div (Ideal.ofBits .f32 0x00000000#32 + _) wid = _
  rw [Ideal.ofBits_zero_f32, zero_add, half_mul_div]
  unfold LS
  refine congrArg (halfPerRow * ·) (Finset.sum_congr rfl fun k _ => ?_)
  rw [val_main_v40_apply, err_apply x0 x1 x2 x3 x4 x5 _ p k hp rfl]
  rfl

/-- The reference's loss is the kernel's function. -/
theorem ref_loss : val_main_v102 (F := Ideal) x0 x1 x2 x3 x4 x5 = LOSS x0 x1 x2 x3 x4 x5 := by
  funext i
  unfold LOSS
  rw [val_main_v102_apply, val_main_v47_apply, val_main_cst_12_apply, val_main_v46_apply, val_main_cst_11_apply]
  show half * (Ideal.ofBits .f32 0x00000000#32 + _) = _
  rw [Ideal.ofBits_zero_f32, zero_add, half_mul_sum]
  refine Fintype.sum_bijective (fun j : S2048.Idx => (j 0 : Fin 2048)) ⟨fun a b h => ?_, fun p => ⟨ix1 p, rfl⟩⟩ _ _ fun j => sq_apply x0 x1 x2 x3 x4 x5 j (j 0) rfl
  rw [ValueIdx.eq_ix1 a, ValueIdx.eq_ix1 b]
  exact congrArg ix1 h

/-! ## Real arguments -/

section

variable (h0 : ∀ j, IsReal (x0 j)) (h1 : ∀ j, IsReal (x1 j)) (h2 : ∀ j, IsReal (x2 j)) (h3 : ∀ j, IsReal (x3 j)) (h4 : ∀ j, IsReal (x4 j))
  (h5 : ∀ j, IsReal (x5 j))

include h0 h1 h2 in
theorem real_gu (p : Fin 2048) (j : Fin 5632) : IsReal (GU x0 x1 x2 p j) :=
  IsReal.sum _ _ fun k => ((((h0 _).mul (isReal_rr (x := row x0 p) fun j => h0 _)).mul (h1 _)).mul (h2 _))

include h0 h1 h2 in
theorem real_a (p : Fin 2048) (n : Fin 2816) : IsReal (A x0 x1 x2 p n) :=
  isReal_half.mul (((real_gu x0 x1 x2 h0 h1 h2 p _).mul (isReal_logistic (real_gu x0 x1 x2 h0 h1 h2 p _))).mul (real_gu x0 x1 x2 h0 h1 h2 p _))

include h0 h1 h2 h3 in
theorem real_h (p : Fin 2048) (q : Fin 1024) : IsReal (H x0 x1 x2 x3 p q) :=
  (h0 _).add (IsReal.sum _ _ fun n => (real_a x0 x1 x2 h0 h1 h2 p n).mul (h3 _))

include h0 h1 h2 h3 h4 h5

theorem real_ep (p : Fin 2048) (q : Fin 1024) : IsReal (EP x0 x1 x2 x3 x4 x5 p q) :=
  (isReal_sub (((real_h x0 x1 x2 x3 h0 h1 h2 h3 p q).mul (isReal_rr (real_h x0 x1 x2 x3 h0 h1 h2 h3 p))).mul (h5 _)) (h4 _)).mul isReal_perRow

theorem real_dh (p : Fin 2048) (q : Fin 1024) : IsReal (DH x0 x1 x2 x3 x4 x5 p q) :=
  isReal_back (real_h x0 x1 x2 x3 h0 h1 h2 h3 p) (fun j => h5 _) (real_ep x0 x1 x2 x3 x4 x5 h0 h1 h2 h3 h4 h5 p) q

theorem real_da (p : Fin 2048) (n : Fin 2816) : IsReal (da (DHA x0 x1 x2 x3 x4 x5) x3 p n) :=
  isReal_half.mul (IsReal.sum _ _ fun k => (real_dh x0 x1 x2 x3 x4 x5 h0 h1 h2 h3 h4 h5 p k).mul (h3 _))

theorem real_dgu (i : S2048x5632.Idx) : IsReal (DGU x0 x1 x2 x3 x4 x5 i) := by
  have hi : (i 1).val < 5632 := (i 1).isLt
  unfold DGU
  by_cases h : (i 1).val < 2816
  · rw [G_gate _ _ _ i ⟨(i 1).val, h⟩ rfl]
    have hg := real_gu x0 x1 x2 h0 h1 h2 (i 0) (i 1)
    have hu := real_gu x0 x1 x2 h0 h1 h2 (i 0) (⟨2816 + (i 1).val, by omega⟩ : Fin 5632)
    exact ((real_da x0 x1 x2 x3 x4 x5 h0 h1 h2 h3 h4 h5 _ _).mul hu).mul ((isReal_logistic hg).mul (isReal_one.add (hg.mul (isReal_sub isReal_one (isReal_logistic hg)))))
  · rw [G_lin _ _ _ i ⟨(i 1).val - 2816, by omega⟩ (by show (i 1).val = 2816 + ((i 1).val - 2816); omega)]
    have hg := real_gu x0 x1 x2 h0 h1 h2 (i 0) (⟨(i 1).val - 2816, by omega⟩ : Fin 5632)
    exact (real_da x0 x1 x2 x3 x4 x5 h0 h1 h2 h3 h4 h5 _ _).mul (hg.mul (isReal_logistic hg))

theorem real_dn (p : Fin 2048) (k : Fin 1024) : IsReal (DN x0 x1 x2 x3 x4 x5 p k) :=
  IsReal.sum _ _ fun j => (real_dgu x0 x1 x2 x3 x4 x5 h0 h1 h2 h3 h4 h5 _).mul (h2 _)

/-! ## The reference's gradients at an index -/

/-- The gradient at the rows with the branch added. -/
theorem dh_apply (i : S2048x1024.Idx) (p : Fin 2048) (q : Fin 1024) (hp : (i 0).val = p.val) (hq : (i 1).val = q.val) : val_main_v72 (F := Ideal) x0 x1 x2 x3 x4 x5 i = DH x0 x1 x2 x3 x4 x5 p q := by
  unfold DH
  rw [val_main_v72_apply, val_main_v71_apply, val_main_v70_apply, val_main_v69_apply, val_main_v63_apply, val_main_v62_apply,
    hspread_apply x0 x1 x2 x3 x4 x5 i p hp, epg_apply x0 x1 x2 x3 x4 x5 i p q hp hq, hrr_apply x0 x1 x2 x3 _ p hp, h_apply x0 x1 x2 x3 i p q hp hq]
  exact back_eq (real_h x0 x1 x2 x3 h0 h1 h2 h3 p) (fun j => h5 _) (real_ep x0 x1 x2 x3 x4 x5 h0 h1 h2 h3 h4 h5 p) q

section

variable (i : S2048x2816.Idx) (p : Fin 2048) (n : Fin 2816) (hp : (i 0).val = p.val) (hn : (i 1).val = n.val)
include hp hn

/-- The gradient of the gated product. -/
theorem da_apply : val_main_v75 (F := Ideal) x0 x1 x2 x3 x4 x5 i = da (DHA x0 x1 x2 x3 x4 x5) x3 p n := by
  rw [val_main_v75_apply]
  unfold da
  rw [half_mul_sum]
  refine Finset.sum_congr rfl fun k _ => ?_
  rw [val_main_v74_apply, val_main_v73_apply, val_main_cst_20_apply, dh_apply x0 x1 x2 x3 x4 x5 h0 h1 h2 h3 h4 h5 _ p k hp rfl, eq_ix2' (ridx_main_v75 i k) n k hn rfl]
  exact mul_assoc _ _ _

/-- The factor's gradient. -/
theorem lin_apply : val_main_v76 (F := Ideal) x0 x1 x2 x3 x4 x5 i = lin (da (DHA x0 x1 x2 x3 x4 x5) x3 p n) (GU x0 x1 x2 p (⟨n.val, by omega⟩ : Fin 5632)) := by
  rw [val_main_v76_apply, da_apply x0 x1 x2 x3 x4 x5 h0 h1 h2 h3 h4 h5 i p n hp hn, val_main_v18_0_apply, sig_apply x0 x1 x2 i p n hp hn, g_apply x0 x1 x2 i p n hp hn]
  exact mul_comm _ _

/-- The gate's gradient. -/
theorem gate_apply : val_main_v78 (F := Ideal) x0 x1 x2 x3 x4 x5 i
    = gate (da (DHA x0 x1 x2 x3 x4 x5) x3 p n) (GU x0 x1 x2 p (⟨2816 + n.val, by omega⟩ : Fin 5632)) (GU x0 x1 x2 p (⟨n.val, by omega⟩ : Fin 5632)) := by
  rw [val_main_v78_apply, val_main_call1_v1_apply, val_main_call1_v2_apply, val_main_call1_v0_apply, val_main_v77_apply,
    da_apply x0 x1 x2 x3 x4 x5 h0 h1 h2 h3 h4 h5 i p n hp hn, val_main_v18_1_apply, val_main_call0_v7_apply, val_main_call0_v6_apply,
    sig_apply x0 x1 x2 i p n hp hn, g_apply x0 x1 x2 i p n hp hn, u_apply x0 x1 x2 i p n hp hn]
  refine Eq.trans ?_ (gate_eq (real_da x0 x1 x2 x3 x4 x5 h0 h1 h2 h3 h4 h5 p n) (real_gu x0 x1 x2 h0 h1 h2 p _) (real_gu x0 x1 x2 h0 h1 h2 p _))
  rw [val_main_call0_cst_1_apply]
  show _ + _ * (_ * (Ideal.ofBits .f32 0x3F800000#32 - _)) = _
  rw [Ideal.ofBits_one_f32]
  rfl

end

/-- The gradient of gates and factors. -/
theorem dgu_apply (i : S2048x5632.Idx) : val_main_v79 (F := Ideal) x0 x1 x2 x3 x4 x5 i = DGU x0 x1 x2 x3 x4 x5 i := by
  unfold val_main_v79 DGU
  have hi : (i 1).val < 5632 := (i 1).isLt
  by_cases h : (i 1).val < 2816
  · refine (concatenate_pair_apply_left (s₁ := S2048x2816) (s₂ := S2048x2816) 1 _ _ _ i rfl (ix2 (i 0) (⟨(i 1).val, h⟩ : Fin 2816)) fun b => match b with
      | ⟨0, _⟩ => rfl
      | ⟨1, _⟩ => rfl).trans ?_
    refine (gate_apply x0 x1 x2 x3 x4 x5 h0 h1 h2 h3 h4 h5 _ (i 0) ⟨(i 1).val, h⟩ rfl rfl).trans ?_
    exact (G_gate (DHA x0 x1 x2 x3 x4 x5) (GUA x0 x1 x2) x3 i ⟨(i 1).val, h⟩ rfl).symm
  · refine (concatenate_pair_apply_right (s₁ := S2048x2816) (s₂ := S2048x2816) 1 _ _ _ i rfl rfl (ix2 (i 0) (⟨(i 1).val - 2816, by omega⟩ : Fin 2816)) (fun b => match b with
      | ⟨0, _⟩ => fun _ => rfl
      | ⟨1, _⟩ => fun hb => absurd rfl hb) (by show (i 1).val - 2816 + 2816 = (i 1).val; omega)).trans ?_
    refine (lin_apply x0 x1 x2 x3 x4 x5 h0 h1 h2 h3 h4 h5 _ (i 0) ⟨(i 1).val - 2816, by omega⟩ rfl rfl).trans ?_
    exact (G_lin (DHA x0 x1 x2 x3 x4 x5) (GUA x0 x1 x2) x3 i ⟨(i 1).val - 2816, by omega⟩ (by show (i 1).val = 2816 + ((i 1).val - 2816); omega)).symm

/-- The gradient at the normalised rows. -/
theorem dn_apply (i : S2048x1024.Idx) (p : Fin 2048) (q : Fin 1024) (hp : (i 0).val = p.val) (hq : (i 1).val = q.val) : val_main_v80 (F := Ideal) x0 x1 x2 x3 x4 x5 i = DN x0 x1 x2 x3 x4 x5 p q := by
  rw [val_main_v80_apply]
  unfold DN
  refine Finset.sum_congr rfl fun k _ => ?_
  rw [dgu_apply x0 x1 x2 x3 x4 x5 h0 h1 h2 h3 h4 h5, eq_ix2' (lidx_main_v80 i k) p k hp rfl, eq_ix2' (ridx_main_v80 i k) q k hq rfl]

/-- That gradient times the first gain. -/
theorem dng_apply (i : S2048x1024.Idx) (p : Fin 2048) (q : Fin 1024) (hp : (i 0).val = p.val) (hq : (i 1).val = q.val) : val_main_v85 (F := Ideal) x0 x1 x2 x3 x4 x5 i = DN x0 x1 x2 x3 x4 x5 p q * gain x1 q := by
  rw [val_main_v85_apply, val_main_v84_apply, dn_apply x0 x1 x2 x3 x4 x5 h0 h1 h2 h3 h4 h5 i p q hp hq, eq_ix2' (idx_main_v84 i) (0 : Fin 1) q rfl hq]
  rfl

/-- What reaches a row through the mean of its squares. -/
theorem xthrough_apply (i : S2048x1.Idx) (p : Fin 2048) (hp : (i 0).val = p.val) :
    val_main_v93 (F := Ideal) x0 x1 x2 x3 x4 x5 i = through (row x0 p) (gain x1) (DN x0 x1 x2 x3 x4 x5 p) := by
  rw [val_main_v93_apply, val_main_v92_apply, val_main_cst_23_apply, val_main_v91_apply, xfac_apply x0 i p hp, val_main_v88_apply,
    val_main_v87_apply, val_main_cst_22_apply]
  show Ideal.div ((Ideal.ofBits .f32 0x00000000#32 + _) * _) wid = _
  rw [Ideal.ofBits_zero_f32, zero_add]
  unfold through
  refine congrArg (fun s => Ideal.div (s * _) wid) (Finset.sum_congr rfl fun k _ => ?_)
  have hi1 : (i 1).val < 1 := (i 1).isLt
  have e : ((idx_main_v87 (idx_main_v88 i) k) 0).val = p.val := by
    show (i 0).val * 1 + (i 1).val = p.val
    omega
  rw [val_main_v86_apply, dng_apply x0 x1 x2 x3 x4 x5 h0 h1 h2 h3 h4 h5 _ p k e rfl, eq_ix2' (idx_main_v87 (idx_main_v88 i) k) p k e rfl]
  rfl

/-- The same, spread over the row. -/
theorem xspread_apply (i : S2048x1024.Idx) (p : Fin 2048) (hp : (i 0).val = p.val) :
    val_main_v95 (F := Ideal) x0 x1 x2 x3 x4 x5 i = through (row x0 p) (gain x1) (DN x0 x1 x2 x3 x4 x5 p) := by
  rw [val_main_v95_apply, val_main_v94_apply, val_main_cst_24_apply, Fin.sum_univ_one, xthrough_apply x0 x1 x2 x3 x4 x5 h0 h1 h2 h3 h4 h5 _ p hp]
  exact (congrArg (· + _) Ideal.ofBits_zero_f32).trans (zero_add _)

/-! ## The reference's results are the kernel's functions -/

theorem ref_dx : val_main_v100 (F := Ideal) x0 x1 x2 x3 x4 x5 = DX x0 x1 x2 x3 x4 x5 := by
  funext i
  unfold DX
  rw [val_main_v100_apply, val_main_v99_apply, val_main_v98_apply, val_main_v97_apply, val_main_v96_apply, val_main_v90_apply, val_main_v89_apply,
    xspread_apply x0 x1 x2 x3 x4 x5 h0 h1 h2 h3 h4 h5 i (i 0) rfl, dng_apply x0 x1 x2 x3 x4 x5 h0 h1 h2 h3 h4 h5 i (i 0) (i 1) rfl rfl, xrr_apply x0 _ (i 0) rfl,
    dh_apply x0 x1 x2 x3 x4 x5 h0 h1 h2 h3 h4 h5 i (i 0) (i 1) rfl rfl]
  refine congrArg (DH x0 x1 x2 x3 x4 x5 (i 0) (i 1) + ·) ?_
  refine Eq.trans ?_ (back_eq (fun j => h0 _) (fun j => h1 _) (real_dn x0 x1 x2 x3 x4 x5 h0 h1 h2 h3 h4 h5 (i 0)) (i 1))
  show _ + x0 i * _ + _ * x0 i = _
  rw [ValueIdx.eq_ix2 i]
  rfl

theorem ref_dgu : val_main_v101 (F := Ideal) x0 x1 x2 x3 x4 x5 = DGU x0 x1 x2 x3 x4 x5 := funext fun i =>
  (val_main_v101_apply (F := Ideal) x0 x1 x2 x3 x4 x5 i).trans (dgu_apply x0 x1 x2 x3 x4 x5 h0 h1 h2 h3 h4 h5 i)

theorem ref_dh : val_main_v107 (F := Ideal) x0 x1 x2 x3 x4 x5 = DHA x0 x1 x2 x3 x4 x5 := funext fun i =>
  (val_main_v107_apply (F := Ideal) x0 x1 x2 x3 x4 x5 i).trans (dh_apply x0 x1 x2 x3 x4 x5 h0 h1 h2 h3 h4 h5 i (i 0) (i 1) rfl rfl)

theorem ref_dgain : val_main_v83 (F := Ideal) x0 x1 x2 x3 x4 x5 = DGAIN x0 x1 x2 x3 x4 x5 := by
  funext i
  unfold DGAIN
  rw [val_main_v83_apply, val_main_v82_apply, val_main_cst_21_apply]
  refine (congrArg (· + _) Ideal.ofBits_zero_f32).trans ((zero_add _).trans (Finset.sum_congr rfl fun p _ => ?_))
  have hi : (i 0).val < 1 := (i 0).isLt
  have e : ((idx_main_v82 (idx_main_v83 i) p) 1).val = (i 1).val := by
    show (i 0).val * 1024 + (i 1).val = (i 1).val
    omega
  rw [val_main_v81_apply, xr_apply x0 _ p (i 1) rfl e, dn_apply x0 x1 x2 x3 x4 x5 h0 h1 h2 h3 h4 h5 _ p (i 1) rfl e]
  exact mul_comm _ _

end

theorem ref_n : val_main_v103 (F := Ideal) x0 x1 = GN x0 x1 := funext fun i =>
  (val_main_v103_apply (F := Ideal) x0 x1 i).trans (n_apply x0 x1 i (i 0) (i 1) rfl rfl)

theorem ref_a : val_main_v106 (F := Ideal) x0 x1 x2 = GA x0 x1 x2 := funext fun i => by
  refine (val_main_v106_apply (F := Ideal) x0 x1 x2 i).trans ?_
  show val_main_v105 (F := Ideal) x0 x1 x2 i = _
  rw [val_main_v105_apply, val_main_v104_apply, val_main_cst_25_apply]
  exact act_apply x0 x1 x2 i (i 0) (i 1) rfl rfl

end

/-! ## The precondition -/

/-- An array of which the precondition says that every entry is finite holds real numbers. -/
theorem reals_of_all {s : Shape} {x : FVec Ideal s .f32} {hb : Cert.Pre_finite6.S_.BroadcastsInDim s (![] : Fin 0 → Fin s.rank)}
    {dims : List (Fin s.rank)} {hr : s.ReducesTo dims Cert.Pre_finite6.S_} {h_S_ : 0 < Cert.Pre_finite6.S_.numel} {p : Cert.Pre_finite6.S_.Idx}
    (h : Host.reduce IntOp.andi
      (cmpf .olt (Host.absf x) (broadcastInDim s ![] hb (constant Cert.Pre_finite6.S_ .f32 0x7F800000#32)))
      (constantI Cert.Pre_finite6.S_ 1 1#1) hr h_S_ p = 1#1) (j : s.Idx) : IsReal (x j) :=
  ⟨_, Cert.Proof.Attn.real_of_lt (Host.reduce_andi_all _ _ _ _ _ h j)⟩

/-- Under the precondition the six arguments hold real numbers. -/
theorem reals_of_pre {x0 : FVec Ideal Cert.Pre_finite6.S2048x1024 .f32} {x1 : FVec Ideal Cert.Pre_finite6.S1x1024 .f32}
    {x2 : FVec Ideal Cert.Pre_finite6.S1024x5632 .f32} {x3 : FVec Ideal Cert.Pre_finite6.S2816x1024 .f32}
    {x4 : FVec Ideal Cert.Pre_finite6.S2048x1024 .f32} {x5 : FVec Ideal Cert.Pre_finite6.S1x1024 .f32}
    (h : Cert.Pre_finite6.fn (F := Ideal) x0 x1 x2 x3 x4 x5 = fun _ => 1#1) :
    (∀ j, IsReal (x0 j)) ∧ (∀ j, IsReal (x1 j)) ∧ (∀ j, IsReal (x2 j)) ∧ (∀ j, IsReal (x3 j)) ∧ (∀ j, IsReal (x4 j)) ∧ (∀ j, IsReal (x5 j)) := by
  have e := congrFun h (fun a => a.elim0)
  dsimp only [Cert.Pre_finite6.fn, Cert.Pre_finite6.fn_part1] at e
  obtain ⟨e, e5⟩ := Cert.Proof.Attn.and_one e
  obtain ⟨e, e4⟩ := Cert.Proof.Attn.and_one e
  obtain ⟨e, e3⟩ := Cert.Proof.Attn.and_one e
  obtain ⟨e, e2⟩ := Cert.Proof.Attn.and_one e
  obtain ⟨e0, e1⟩ := Cert.Proof.Attn.and_one e
  exact ⟨reals_of_all e0, reals_of_all e1, reals_of_all e2, reals_of_all e3, reals_of_all e4, reals_of_all e5⟩

/-- The reference ends with its arguments unchanged and every semaphore counter at zero. -/
theorem frame : Cert.quiescent_LastRefIdeal (hLastRefIdeal := Cert.LastRefIdeal.Gen.facts) := fun m ρ _ =>
  (θ_run Cert.LastRefIdeal.defs _ _).mono
    (fun r h => ⟨fun c => (h c).2.2.2.2.2.2.2.2, Idealize.ShloMosaic.sem_eq_zero_of_no_sems (by decide) r.2⟩)
    (Cert.LastRefIdeal.Value.run (F := Ideal) m ρ)

/-- From finite arguments on which the two agree, kernel and reference end with the eight equal results. -/
theorem algebraic : Cert.algebraic_LastIdeal_LastRefIdeal_pre_finite6
    (hLastIdeal := Cert.LastIdeal.Gen.facts) (hLastRefIdeal := Cert.LastRefIdeal.Gen.facts) (hPre_finite6 := Cert.Pre_finite6.Gen.facts) :=
    fun m g m' g' pre agree => by
  refine ⟨_, _, _, _, _, _, _, _, Cert.LastIdeal.Value.run_blocks m g, ?_⟩
  refine (θ_run Cert.LastRefIdeal.defs _ _).mono (fun r h c => ?_) (Cert.LastRefIdeal.Value.run (F := Ideal) m' g')
  obtain ⟨h0, h1, h2, h3, h4, h5, h6, h7, hr⟩ := h c
  obtain ⟨a0, a1, a2, a3, a4, a5⟩ := agree c
  obtain ⟨r0, r1, r2, r3, r4, r5⟩ := reals_of_pre (pre c)
  refine ⟨h0.trans ?_, h1.trans ?_, h2.trans ?_, h3.trans ?_, h4.trans ?_, h5.trans ?_, h6.trans ?_, h7.trans ?_, hr⟩
  · rw [val_main_v100_eq]
    show val_main_v100 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) = _
    rw [a0, a1, a2, a3, a4, a5, ref_dx _ _ _ _ _ _ r0 r1 r2 r3 r4 r5]
    exact (Cert.LastIdeal.Sum.out4_eq m c).symm
  · rw [val_main_v101_eq]
    show val_main_v101 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) = _
    rw [a0, a1, a2, a3, a4, a5, ref_dgu _ _ _ _ _ _ r0 r1 r2 r3 r4 r5]
    exact (Cert.LastIdeal.Sum.out5_eq m c).symm
  · rw [val_main_v83_eq]
    show val_main_v83 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) = _
    rw [a0, a1, a2, a3, a4, a5, ref_dgain _ _ _ _ _ _ r0 r1 r2 r3 r4 r5]
    exact (Cert.LastIdeal.Sum.out6_eq m c).symm
  · rw [val_main_v102_eq]
    show val_main_v102 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) = _
    rw [a0, a1, a2, a3, a4, a5, ref_loss]
    exact (Cert.LastIdeal.Sum.out7_eq m c).symm
  · rw [val_main_v56_eq]
    show val_main_v56 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) = _
    rw [a0, a1, a2, a3, a4, a5, ref_dlast]
    exact (Cert.LastIdeal.Sum.out8_eq m c).symm
  · rw [val_main_v103_eq]
    show val_main_v103 (F := Ideal) (m' ((c.tc : Thread nD τ).loc main_arg0)) (m' ((c.tc : Thread nD τ).loc main_arg1)) = _
    rw [a0, a1, ref_n]
    exact (Cert.LastIdeal.Sum.out9_eq m c).symm
  · rw [val_main_v106_eq]
    show val_main_v106 (F := Ideal) (m' ((c.tc : Thread nD τ).loc main_arg0)) (m' ((c.tc : Thread nD τ).loc main_arg1)) (m' ((c.tc : Thread nD τ).loc main_arg2)) = _
    rw [a0, a1, a2, ref_a]
    exact (Cert.LastIdeal.Sum.out10_eq m c).symm
  · rw [val_main_v107_eq]
    show val_main_v107 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) = _
    rw [a0, a1, a2, a3, a4, a5, ref_dh _ _ _ _ _ _ r0 r1 r2 r3 r4 r5]
    exact (Cert.LastIdeal.Sum.out11_eq m c).symm

end Cert.Proof.Last

end
-- ==== Proof.lean ====
/-
  The five claims about the gradient of the attention: the frames of the kernel, of its idealisation and of the reference, the
  two constants read as what they round, and the equality of the three results over the extended reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.RefFrame
public import proofs.«01_k».proof.Proof.Equation
public import proofs.«01_k».proof.Proof.Ffn2
public import proofs.«01_k».proof.Proof.Up1
public import proofs.«01_k».proof.Proof.Down1
public import proofs.«01_k».proof.Proof.Proj
public import proofs.«01_k».proof.Proof.Branch
public import proofs.«01_k».proof.Proof.Ffn1
public import proofs.«01_k».proof.Proof.Act1
public import proofs.«01_k».proof.Proof.In1
public import proofs.«01_k».proof.Proof.Last
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Ffn2.Gen.facts, Cert.Ffn2Ideal.Gen.facts, Cert.Ffn2RefIdeal.Gen.facts, Cert.Up1.Gen.facts, Cert.Up1Ideal.Gen.facts, Cert.Up1RefIdeal.Gen.facts, Cert.Down1.Gen.facts, Cert.Down1Ideal.Gen.facts, Cert.Down1RefIdeal.Gen.facts, Cert.Proj.Gen.facts, Cert.ProjIdeal.Gen.facts, Cert.ProjRefIdeal.Gen.facts, Cert.Branch.Gen.facts, Cert.BranchIdeal.Gen.facts, Cert.BranchRefIdeal.Gen.facts, Cert.Ffn1.Gen.facts, Cert.Ffn1Ideal.Gen.facts, Cert.Ffn1RefIdeal.Gen.facts, Cert.Act1.Gen.facts, Cert.Act1Ideal.Gen.facts, Cert.Act1RefIdeal.Gen.facts, Cert.In1.Gen.facts, Cert.In1Ideal.Gen.facts, Cert.In1RefIdeal.Gen.facts, Cert.Last.Gen.facts, Cert.LastIdeal.Gen.facts, Cert.LastRefIdeal.Gen.facts, Cert.Pre_finite.Gen.facts, Cert.Pre_finite3.Gen.facts, Cert.Pre_finite5.Gen.facts, Cert.Pre_finite6.Gen.facts,
    fun m ρ _ => Cert.Kernel.Gen.frame m ρ, fun m ρ _ => Cert.KernelIdeal.Gen.frame m ρ,
    fun m ρ _ => Cert.KernelIdeal.Gen.frame m ρ,
    Cert.Proof.RefFrame.frame, fun m ρ _ => Cert.Proof.RefFrame.frame m ρ trivial,
    fun m ρ _ => Cert.Proof.Ffn2Body.frame m ρ, fun m ρ _ => Cert.Proof.Ffn2IdealBody.frame m ρ, Cert.Proof.Ffn2.frame,
    fun m ρ _ => Cert.Up1.Gen.frame m ρ, fun m ρ _ => Cert.Up1Ideal.Gen.frame m ρ, Cert.Proof.Up1.frame,
    fun m ρ _ => Cert.Down1.Gen.frame m ρ, fun m ρ _ => Cert.Down1Ideal.Gen.frame m ρ, Cert.Proof.Down1.frame,
    fun m ρ _ => Cert.Proj.Gen.frame m ρ, fun m ρ _ => Cert.ProjIdeal.Gen.frame m ρ, Cert.Proof.Proj.frame,
    fun m ρ _ => Cert.Branch.Gen.frame m ρ, fun m ρ _ => Cert.BranchIdeal.Gen.frame m ρ, Cert.Proof.Branch.frame,
    fun m ρ _ => Cert.Ffn1.Gen.frame m ρ, fun m ρ _ => Cert.Ffn1Ideal.Gen.frame m ρ, Cert.Proof.Ffn1.frame,
    fun m ρ _ => Cert.Act1.Gen.frame m ρ, fun m ρ _ => Cert.Act1Ideal.Gen.frame m ρ, fun m ρ _ => Cert.Act1Ideal.Gen.frame m ρ, Cert.Proof.Act1.frame, fun m ρ _ => Cert.Proof.Act1.frame m ρ trivial,
    fun m ρ _ => Cert.In1.Gen.frame m ρ, fun m ρ _ => Cert.In1Ideal.Gen.frame m ρ, fun m ρ _ => Cert.In1Ideal.Gen.frame m ρ, Cert.Proof.In1.frame, fun m ρ _ => Cert.Proof.In1.frame m ρ trivial,
    fun m ρ _ => Cert.Last.Gen.frame m ρ, fun m ρ _ => Cert.LastIdeal.Gen.frame m ρ, fun m ρ _ => Cert.LastIdeal.Gen.frame m ρ, Cert.Proof.Last.frame, fun m ρ _ => Cert.Proof.Last.frame m ρ trivial,
    ⟨IdealRules.named_const.statement Cert.KernelIdeal.κ "scale_log2e" .f32 0x3E38AA3B#32 (((1 / 8) * (Real.log 2)⁻¹ : ℝ) : EReal) rfl,
      IdealRules.named_const.statement Cert.KernelIdeal.κ "log2e" .f32 0x3FB8AA3B#32 (((Real.log 2)⁻¹ : ℝ) : EReal) rfl⟩,
    Cert.Proof.Attn.algebraic,
    trivial, Cert.Proof.Ffn2.algebraic,
    trivial, Cert.Proof.Up1.algebraic,
    trivial, Cert.Proof.Down1.algebraic,
    trivial, Cert.Proof.Proj.algebraic,
    trivial, Cert.Proof.Branch.algebraic,
    trivial, Cert.Proof.Ffn1.algebraic,
    trivial, Cert.Proof.Act1.algebraic,
    trivial, Cert.Proof.In1.algebraic,
    trivial, Cert.Proof.Last.algebraic⟩

end Cert.Proof

end
